-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Kernel25Ideal_finite_rows [hPre_finite_rows : Cert.Pre_finite_rows.Facts] (m : (ℓ : Loc Cert.Kernel25Ideal.nD Cert.Kernel25Ideal.τ Cert.Kernel25Ideal.sig) → Buf (Elt Ideal) ℓ) : Prop :=
  ∀ c : Dev Cert.Kernel25Ideal.nD,
    (Cert.Pre_finite_rows.fn (F := Ideal) (m ((c.tc : Thread Cert.Kernel25Ideal.nD Cert.Kernel25Ideal.τ).loc Cert.Kernel25Ideal.main_arg0)) (m ((c.tc : Thread Cert.Kernel25Ideal.nD Cert.Kernel25Ideal.τ).loc Cert.Kernel25Ideal.main_arg1)) (m ((c.tc : Thread Cert.Kernel25Ideal.nD Cert.Kernel25Ideal.τ).loc Cert.Kernel25Ideal.main_arg2)) (m ((c.tc : Thread Cert.Kernel25Ideal.nD Cert.Kernel25Ideal.τ).loc Cert.Kernel25Ideal.main_arg3)) (m ((c.tc : Thread Cert.Kernel25Ideal.nD Cert.Kernel25Ideal.τ).loc Cert.Kernel25Ideal.main_arg4)) (m ((c.tc : Thread Cert.Kernel25Ideal.nD Cert.Kernel25Ideal.τ).loc Cert.Kernel25Ideal.main_arg5)) (m ((c.tc : Thread Cert.Kernel25Ideal.nD Cert.Kernel25Ideal.τ).loc Cert.Kernel25Ideal.main_arg6)) (m ((c.tc : Thread Cert.Kernel25Ideal.nD Cert.Kernel25Ideal.τ).loc Cert.Kernel25Ideal.main_arg7)) (m ((c.tc : Thread Cert.Kernel25Ideal.nD Cert.Kernel25Ideal.τ).loc Cert.Kernel25Ideal.main_arg8))).1 = (fun _ => 1#1)
    ∧ (Cert.Pre_finite_rows.fn (F := Ideal) (m ((c.tc : Thread Cert.Kernel25Ideal.nD Cert.Kernel25Ideal.τ).loc Cert.Kernel25Ideal.main_arg0)) (m ((c.tc : Thread Cert.Kernel25Ideal.nD Cert.Kernel25Ideal.τ).loc Cert.Kernel25Ideal.main_arg1)) (m ((c.tc : Thread Cert.Kernel25Ideal.nD Cert.Kernel25Ideal.τ).loc Cert.Kernel25Ideal.main_arg2)) (m ((c.tc : Thread Cert.Kernel25Ideal.nD Cert.Kernel25Ideal.τ).loc Cert.Kernel25Ideal.main_arg3)) (m ((c.tc : Thread Cert.Kernel25Ideal.nD Cert.Kernel25Ideal.τ).loc Cert.Kernel25Ideal.main_arg4)) (m ((c.tc : Thread Cert.Kernel25Ideal.nD Cert.Kernel25Ideal.τ).loc Cert.Kernel25Ideal.main_arg5)) (m ((c.tc : Thread Cert.Kernel25Ideal.nD Cert.Kernel25Ideal.τ).loc Cert.Kernel25Ideal.main_arg6)) (m ((c.tc : Thread Cert.Kernel25Ideal.nD Cert.Kernel25Ideal.τ).loc Cert.Kernel25Ideal.main_arg7)) (m ((c.tc : Thread Cert.Kernel25Ideal.nD Cert.Kernel25Ideal.τ).loc Cert.Kernel25Ideal.main_arg8))).2.1 = (fun _ => 1#1)
    ∧ (Cert.Pre_finite_rows.fn (F := Ideal) (m ((c.tc : Thread Cert.Kernel25Ideal.nD Cert.Kernel25Ideal.τ).loc Cert.Kernel25Ideal.main_arg0)) (m ((c.tc : Thread Cert.Kernel25Ideal.nD Cert.Kernel25Ideal.τ).loc Cert.Kernel25Ideal.main_arg1)) (m ((c.tc : Thread Cert.Kernel25Ideal.nD Cert.Kernel25Ideal.τ).loc Cert.Kernel25Ideal.main_arg2)) (m ((c.tc : Thread Cert.Kernel25Ideal.nD Cert.Kernel25Ideal.τ).loc Cert.Kernel25Ideal.main_arg3)) (m ((c.tc : Thread Cert.Kernel25Ideal.nD Cert.Kernel25Ideal.τ).loc Cert.Kernel25Ideal.main_arg4)) (m ((c.tc : Thread Cert.Kernel25Ideal.nD Cert.Kernel25Ideal.τ).loc Cert.Kernel25Ideal.main_arg5)) (m ((c.tc : Thread Cert.Kernel25Ideal.nD Cert.Kernel25Ideal.τ).loc Cert.Kernel25Ideal.main_arg6)) (m ((c.tc : Thread Cert.Kernel25Ideal.nD Cert.Kernel25Ideal.τ).loc Cert.Kernel25Ideal.main_arg7)) (m ((c.tc : Thread Cert.Kernel25Ideal.nD Cert.Kernel25Ideal.τ).loc Cert.Kernel25Ideal.main_arg8))).2.2.1 = (fun _ => 1#1)
    ∧ (Cert.Pre_finite_rows.fn (F := Ideal) (m ((c.tc : Thread Cert.Kernel25Ideal.nD Cert.Kernel25Ideal.τ).loc Cert.Kernel25Ideal.main_arg0)) (m ((c.tc : Thread Cert.Kernel25Ideal.nD Cert.Kernel25Ideal.τ).loc Cert.Kernel25Ideal.main_arg1)) (m ((c.tc : Thread Cert.Kernel25Ideal.nD Cert.Kernel25Ideal.τ).loc Cert.Kernel25Ideal.main_arg2)) (m ((c.tc : Thread Cert.Kernel25Ideal.nD Cert.Kernel25Ideal.τ).loc Cert.Kernel25Ideal.main_arg3)) (m ((c.tc : Thread Cert.Kernel25Ideal.nD Cert.Kernel25Ideal.τ).loc Cert.Kernel25Ideal.main_arg4)) (m ((c.tc : Thread Cert.Kernel25Ideal.nD Cert.Kernel25Ideal.τ).loc Cert.Kernel25Ideal.main_arg5)) (m ((c.tc : Thread Cert.Kernel25Ideal.nD Cert.Kernel25Ideal.τ).loc Cert.Kernel25Ideal.main_arg6)) (m ((c.tc : Thread Cert.Kernel25Ideal.nD Cert.Kernel25Ideal.τ).loc Cert.Kernel25Ideal.main_arg7)) (m ((c.tc : Thread Cert.Kernel25Ideal.nD Cert.Kernel25Ideal.τ).loc Cert.Kernel25Ideal.main_arg8))).2.2.2.1 = (fun _ => 1#1)
    ∧ (Cert.Pre_finite_rows.fn (F := Ideal) (m ((c.tc : Thread Cert.Kernel25Ideal.nD Cert.Kernel25Ideal.τ).loc Cert.Kernel25Ideal.main_arg0)) (m ((c.tc : Thread Cert.Kernel25Ideal.nD Cert.Kernel25Ideal.τ).loc Cert.Kernel25Ideal.main_arg1)) (m ((c.tc : Thread Cert.Kernel25Ideal.nD Cert.Kernel25Ideal.τ).loc Cert.Kernel25Ideal.main_arg2)) (m ((c.tc : Thread Cert.Kernel25Ideal.nD Cert.Kernel25Ideal.τ).loc Cert.Kernel25Ideal.main_arg3)) (m ((c.tc : Thread Cert.Kernel25Ideal.nD Cert.Kernel25Ideal.τ).loc Cert.Kernel25Ideal.main_arg4)) (m ((c.tc : Thread Cert.Kernel25Ideal.nD Cert.Kernel25Ideal.τ).loc Cert.Kernel25Ideal.main_arg5)) (m ((c.tc : Thread Cert.Kernel25Ideal.nD Cert.Kernel25Ideal.τ).loc Cert.Kernel25Ideal.main_arg6)) (m ((c.tc : Thread Cert.Kernel25Ideal.nD Cert.Kernel25Ideal.τ).loc Cert.Kernel25Ideal.main_arg7)) (m ((c.tc : Thread Cert.Kernel25Ideal.nD Cert.Kernel25Ideal.τ).loc Cert.Kernel25Ideal.main_arg8))).2.2.2.2 = (fun _ => 1#1)

def Pre_Reference25Ideal (m : (ℓ : Loc Cert.Reference25Ideal.nD Cert.Reference25Ideal.τ Cert.Reference25Ideal.sig) → Buf (Elt Ideal) ℓ) : Prop :=
  True

def Pre_Reference25Ideal_finite_rows [hPre_finite_rows : Cert.Pre_finite_rows.Facts] (m : (ℓ : Loc Cert.Reference25Ideal.nD Cert.Reference25Ideal.τ Cert.Reference25Ideal.sig) → Buf (Elt Ideal) ℓ) : Prop :=
  ∀ c : Dev Cert.Reference25Ideal.nD,
    (Cert.Pre_finite_rows.fn (F := Ideal) (m ((c.tc : Thread Cert.Reference25Ideal.nD Cert.Reference25Ideal.τ).loc Cert.Reference25Ideal.main_arg0)) (m ((c.tc : Thread Cert.Reference25Ideal.nD Cert.Reference25Ideal.τ).loc Cert.Reference25Ideal.main_arg1)) (m ((c.tc : Thread Cert.Reference25Ideal.nD Cert.Reference25Ideal.τ).loc Cert.Reference25Ideal.main_arg2)) (m ((c.tc : Thread Cert.Reference25Ideal.nD Cert.Reference25Ideal.τ).loc Cert.Reference25Ideal.main_arg3)) (m ((c.tc : Thread Cert.Reference25Ideal.nD Cert.Reference25Ideal.τ).loc Cert.Reference25Ideal.main_arg4)) (m ((c.tc : Thread Cert.Reference25Ideal.nD Cert.Reference25Ideal.τ).loc Cert.Reference25Ideal.main_arg5)) (m ((c.tc : Thread Cert.Reference25Ideal.nD Cert.Reference25Ideal.τ).loc Cert.Reference25Ideal.main_arg6)) (m ((c.tc : Thread Cert.Reference25Ideal.nD Cert.Reference25Ideal.τ).loc Cert.Reference25Ideal.main_arg7)) (m ((c.tc : Thread Cert.Reference25Ideal.nD Cert.Reference25Ideal.τ).loc Cert.Reference25Ideal.main_arg8))).1 = (fun _ => 1#1)
    ∧ (Cert.Pre_finite_rows.fn (F := Ideal) (m ((c.tc : Thread Cert.Reference25Ideal.nD Cert.Reference25Ideal.τ).loc Cert.Reference25Ideal.main_arg0)) (m ((c.tc : Thread Cert.Reference25Ideal.nD Cert.Reference25Ideal.τ).loc Cert.Reference25Ideal.main_arg1)) (m ((c.tc : Thread Cert.Reference25Ideal.nD Cert.Reference25Ideal.τ).loc Cert.Reference25Ideal.main_arg2)) (m ((c.tc : Thread Cert.Reference25Ideal.nD Cert.Reference25Ideal.τ).loc Cert.Reference25Ideal.main_arg3)) (m ((c.tc : Thread Cert.Reference25Ideal.nD Cert.Reference25Ideal.τ).loc Cert.Reference25Ideal.main_arg4)) (m ((c.tc : Thread Cert.Reference25Ideal.nD Cert.Reference25Ideal.τ).loc Cert.Reference25Ideal.main_arg5)) (m ((c.tc : Thread Cert.Reference25Ideal.nD Cert.Reference25Ideal.τ).loc Cert.Reference25Ideal.main_arg6)) (m ((c.tc : Thread Cert.Reference25Ideal.nD Cert.Reference25Ideal.τ).loc Cert.Reference25Ideal.main_arg7)) (m ((c.tc : Thread Cert.Reference25Ideal.nD Cert.Reference25Ideal.τ).loc Cert.Reference25Ideal.main_arg8))).2.1 = (fun _ => 1#1)
    ∧ (Cert.Pre_finite_rows.fn (F := Ideal) (m ((c.tc : Thread Cert.Reference25Ideal.nD Cert.Reference25Ideal.τ).loc Cert.Reference25Ideal.main_arg0)) (m ((c.tc : Thread Cert.Reference25Ideal.nD Cert.Reference25Ideal.τ).loc Cert.Reference25Ideal.main_arg1)) (m ((c.tc : Thread Cert.Reference25Ideal.nD Cert.Reference25Ideal.τ).loc Cert.Reference25Ideal.main_arg2)) (m ((c.tc : Thread Cert.Reference25Ideal.nD Cert.Reference25Ideal.τ).loc Cert.Reference25Ideal.main_arg3)) (m ((c.tc : Thread Cert.Reference25Ideal.nD Cert.Reference25Ideal.τ).loc Cert.Reference25Ideal.main_arg4)) (m ((c.tc : Thread Cert.Reference25Ideal.nD Cert.Reference25Ideal.τ).loc Cert.Reference25Ideal.main_arg5)) (m ((c.tc : Thread Cert.Reference25Ideal.nD Cert.Reference25Ideal.τ).loc Cert.Reference25Ideal.main_arg6)) (m ((c.tc : Thread Cert.Reference25Ideal.nD Cert.Reference25Ideal.τ).loc Cert.Reference25Ideal.main_arg7)) (m ((c.tc : Thread Cert.Reference25Ideal.nD Cert.Reference25Ideal.τ).loc Cert.Reference25Ideal.main_arg8))).2.2.1 = (fun _ => 1#1)
    ∧ (Cert.Pre_finite_rows.fn (F := Ideal) (m ((c.tc : Thread Cert.Reference25Ideal.nD Cert.Reference25Ideal.τ).loc Cert.Reference25Ideal.main_arg0)) (m ((c.tc : Thread Cert.Reference25Ideal.nD Cert.Reference25Ideal.τ).loc Cert.Reference25Ideal.main_arg1)) (m ((c.tc : Thread Cert.Reference25Ideal.nD Cert.Reference25Ideal.τ).loc Cert.Reference25Ideal.main_arg2)) (m ((c.tc : Thread Cert.Reference25Ideal.nD Cert.Reference25Ideal.τ).loc Cert.Reference25Ideal.main_arg3)) (m ((c.tc : Thread Cert.Reference25Ideal.nD Cert.Reference25Ideal.τ).loc Cert.Reference25Ideal.main_arg4)) (m ((c.tc : Thread Cert.Reference25Ideal.nD Cert.Reference25Ideal.τ).loc Cert.Reference25Ideal.main_arg5)) (m ((c.tc : Thread Cert.Reference25Ideal.nD Cert.Reference25Ideal.τ).loc Cert.Reference25Ideal.main_arg6)) (m ((c.tc : Thread Cert.Reference25Ideal.nD Cert.Reference25Ideal.τ).loc Cert.Reference25Ideal.main_arg7)) (m ((c.tc : Thread Cert.Reference25Ideal.nD Cert.Reference25Ideal.τ).loc Cert.Reference25Ideal.main_arg8))).2.2.2.1 = (fun _ => 1#1)
    ∧ (Cert.Pre_finite_rows.fn (F := Ideal) (m ((c.tc : Thread Cert.Reference25Ideal.nD Cert.Reference25Ideal.τ).loc Cert.Reference25Ideal.main_arg0)) (m ((c.tc : Thread Cert.Reference25Ideal.nD Cert.Reference25Ideal.τ).loc Cert.Reference25Ideal.main_arg1)) (m ((c.tc : Thread Cert.Reference25Ideal.nD Cert.Reference25Ideal.τ).loc Cert.Reference25Ideal.main_arg2)) (m ((c.tc : Thread Cert.Reference25Ideal.nD Cert.Reference25Ideal.τ).loc Cert.Reference25Ideal.main_arg3)) (m ((c.tc : Thread Cert.Reference25Ideal.nD Cert.Reference25Ideal.τ).loc Cert.Reference25Ideal.main_arg4)) (m ((c.tc : Thread Cert.Reference25Ideal.nD Cert.Reference25Ideal.τ).loc Cert.Reference25Ideal.main_arg5)) (m ((c.tc : Thread Cert.Reference25Ideal.nD Cert.Reference25Ideal.τ).loc Cert.Reference25Ideal.main_arg6)) (m ((c.tc : Thread Cert.Reference25Ideal.nD Cert.Reference25Ideal.τ).loc Cert.Reference25Ideal.main_arg7)) (m ((c.tc : Thread Cert.Reference25Ideal.nD Cert.Reference25Ideal.τ).loc Cert.Reference25Ideal.main_arg8))).2.2.2.2 = (fun _ => 1#1)

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Kernel26Ideal_finite_ends [hPre_finite_ends : Cert.Pre_finite_ends.Facts] (m : (ℓ : Loc Cert.Kernel26Ideal.nD Cert.Kernel26Ideal.τ Cert.Kernel26Ideal.sig) → Buf (Elt Ideal) ℓ) : Prop :=
  ∀ c : Dev Cert.Kernel26Ideal.nD,
    (Cert.Pre_finite_ends.fn (F := Ideal) (m ((c.tc : Thread Cert.Kernel26Ideal.nD Cert.Kernel26Ideal.τ).loc Cert.Kernel26Ideal.main_arg0)) (m ((c.tc : Thread Cert.Kernel26Ideal.nD Cert.Kernel26Ideal.τ).loc Cert.Kernel26Ideal.main_arg1)) (m ((c.tc : Thread Cert.Kernel26Ideal.nD Cert.Kernel26Ideal.τ).loc Cert.Kernel26Ideal.main_arg2)) (m ((c.tc : Thread Cert.Kernel26Ideal.nD Cert.Kernel26Ideal.τ).loc Cert.Kernel26Ideal.main_arg3)) (m ((c.tc : Thread Cert.Kernel26Ideal.nD Cert.Kernel26Ideal.τ).loc Cert.Kernel26Ideal.main_arg4)) (m ((c.tc : Thread Cert.Kernel26Ideal.nD Cert.Kernel26Ideal.τ).loc Cert.Kernel26Ideal.main_arg5))).1 = (fun _ => 1#1)
    ∧ (Cert.Pre_finite_ends.fn (F := Ideal) (m ((c.tc : Thread Cert.Kernel26Ideal.nD Cert.Kernel26Ideal.τ).loc Cert.Kernel26Ideal.main_arg0)) (m ((c.tc : Thread Cert.Kernel26Ideal.nD Cert.Kernel26Ideal.τ).loc Cert.Kernel26Ideal.main_arg1)) (m ((c.tc : Thread Cert.Kernel26Ideal.nD Cert.Kernel26Ideal.τ).loc Cert.Kernel26Ideal.main_arg2)) (m ((c.tc : Thread Cert.Kernel26Ideal.nD Cert.Kernel26Ideal.τ).loc Cert.Kernel26Ideal.main_arg3)) (m ((c.tc : Thread Cert.Kernel26Ideal.nD Cert.Kernel26Ideal.τ).loc Cert.Kernel26Ideal.main_arg4)) (m ((c.tc : Thread Cert.Kernel26Ideal.nD Cert.Kernel26Ideal.τ).loc Cert.Kernel26Ideal.main_arg5))).2.1 = (fun _ => 1#1)
    ∧ (Cert.Pre_finite_ends.fn (F := Ideal) (m ((c.tc : Thread Cert.Kernel26Ideal.nD Cert.Kernel26Ideal.τ).loc Cert.Kernel26Ideal.main_arg0)) (m ((c.tc : Thread Cert.Kernel26Ideal.nD Cert.Kernel26Ideal.τ).loc Cert.Kernel26Ideal.main_arg1)) (m ((c.tc : Thread Cert.Kernel26Ideal.nD Cert.Kernel26Ideal.τ).loc Cert.Kernel26Ideal.main_arg2)) (m ((c.tc : Thread Cert.Kernel26Ideal.nD Cert.Kernel26Ideal.τ).loc Cert.Kernel26Ideal.main_arg3)) (m ((c.tc : Thread Cert.Kernel26Ideal.nD Cert.Kernel26Ideal.τ).loc Cert.Kernel26Ideal.main_arg4)) (m ((c.tc : Thread Cert.Kernel26Ideal.nD Cert.Kernel26Ideal.τ).loc Cert.Kernel26Ideal.main_arg5))).2.2 = (fun _ => 1#1)

def Pre_Reference26Ideal (m : (ℓ : Loc Cert.Reference26Ideal.nD Cert.Reference26Ideal.τ Cert.Reference26Ideal.sig) → Buf (Elt Ideal) ℓ) : Prop :=
  True

def Pre_Reference26Ideal_finite_ends [hPre_finite_ends : Cert.Pre_finite_ends.Facts] (m : (ℓ : Loc Cert.Reference26Ideal.nD Cert.Reference26Ideal.τ Cert.Reference26Ideal.sig) → Buf (Elt Ideal) ℓ) : Prop :=
  ∀ c : Dev Cert.Reference26Ideal.nD,
    (Cert.Pre_finite_ends.fn (F := Ideal) (m ((c.tc : Thread Cert.Reference26Ideal.nD Cert.Reference26Ideal.τ).loc Cert.Reference26Ideal.main_arg0)) (m ((c.tc : Thread Cert.Reference26Ideal.nD Cert.Reference26Ideal.τ).loc Cert.Reference26Ideal.main_arg1)) (m ((c.tc : Thread Cert.Reference26Ideal.nD Cert.Reference26Ideal.τ).loc Cert.Reference26Ideal.main_arg2)) (m ((c.tc : Thread Cert.Reference26Ideal.nD Cert.Reference26Ideal.τ).loc Cert.Reference26Ideal.main_arg3)) (m ((c.tc : Thread Cert.Reference26Ideal.nD Cert.Reference26Ideal.τ).loc Cert.Reference26Ideal.main_arg4)) (m ((c.tc : Thread Cert.Reference26Ideal.nD Cert.Reference26Ideal.τ).loc Cert.Reference26Ideal.main_arg5))).1 = (fun _ => 1#1)
    ∧ (Cert.Pre_finite_ends.fn (F := Ideal) (m ((c.tc : Thread Cert.Reference26Ideal.nD Cert.Reference26Ideal.τ).loc Cert.Reference26Ideal.main_arg0)) (m ((c.tc : Thread Cert.Reference26Ideal.nD Cert.Reference26Ideal.τ).loc Cert.Reference26Ideal.main_arg1)) (m ((c.tc : Thread Cert.Reference26Ideal.nD Cert.Reference26Ideal.τ).loc Cert.Reference26Ideal.main_arg2)) (m ((c.tc : Thread Cert.Reference26Ideal.nD Cert.Reference26Ideal.τ).loc Cert.Reference26Ideal.main_arg3)) (m ((c.tc : Thread Cert.Reference26Ideal.nD Cert.Reference26Ideal.τ).loc Cert.Reference26Ideal.main_arg4)) (m ((c.tc : Thread Cert.Reference26Ideal.nD Cert.Reference26Ideal.τ).loc Cert.Reference26Ideal.main_arg5))).2.1 = (fun _ => 1#1)
    ∧ (Cert.Pre_finite_ends.fn (F := Ideal) (m ((c.tc : Thread Cert.Reference26Ideal.nD Cert.Reference26Ideal.τ).loc Cert.Reference26Ideal.main_arg0)) (m ((c.tc : Thread Cert.Reference26Ideal.nD Cert.Reference26Ideal.τ).loc Cert.Reference26Ideal.main_arg1)) (m ((c.tc : Thread Cert.Reference26Ideal.nD Cert.Reference26Ideal.τ).loc Cert.Reference26Ideal.main_arg2)) (m ((c.tc : Thread Cert.Reference26Ideal.nD Cert.Reference26Ideal.τ).loc Cert.Reference26Ideal.main_arg3)) (m ((c.tc : Thread Cert.Reference26Ideal.nD Cert.Reference26Ideal.τ).loc Cert.Reference26Ideal.main_arg4)) (m ((c.tc : Thread Cert.Reference26Ideal.nD Cert.Reference26Ideal.τ).loc Cert.Reference26Ideal.main_arg5))).2.2 = (fun _ => 1#1)

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3)
      ∧ r.2.mem ((c.tc : Thread Cert.Kernel22.nD Cert.Kernel22.τ).loc Cert.Kernel22.main_arg4) = m ((c.tc : Thread Cert.Kernel22.nD Cert.Kernel22.τ).loc Cert.Kernel22.main_arg4))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
      ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3)
      ∧ r.2.mem ((c.tc : Thread Cert.Reference22Ideal.nD Cert.Reference22Ideal.τ).loc Cert.Reference22Ideal.main_arg4) = m ((c.tc : Thread Cert.Reference22Ideal.nD Cert.Reference22Ideal.τ).loc Cert.Reference22Ideal.main_arg4))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3)
      ∧ r.2.mem ((c.tc : Thread Cert.Kernel25.nD Cert.Kernel25.τ).loc Cert.Kernel25.main_arg4) = m ((c.tc : Thread Cert.Kernel25.nD Cert.Kernel25.τ).loc Cert.Kernel25.main_arg4)
      ∧ r.2.mem ((c.tc : Thread Cert.Kernel25.nD Cert.Kernel25.τ).loc Cert.Kernel25.main_arg5) = m ((c.tc : Thread Cert.Kernel25.nD Cert.Kernel25.τ).loc Cert.Kernel25.main_arg5)
      ∧ r.2.mem ((c.tc : Thread Cert.Kernel25.nD Cert.Kernel25.τ).loc Cert.Kernel25.main_arg6) = m ((c.tc : Thread Cert.Kernel25.nD Cert.Kernel25.τ).loc Cert.Kernel25.main_arg6)
      ∧ r.2.mem ((c.tc : Thread Cert.Kernel25.nD Cert.Kernel25.τ).loc Cert.Kernel25.main_arg7) = m ((c.tc : Thread Cert.Kernel25.nD Cert.Kernel25.τ).loc Cert.Kernel25.main_arg7)
      ∧ r.2.mem ((c.tc : Thread Cert.Kernel25.nD Cert.Kernel25.τ).loc Cert.Kernel25.main_arg8) = m ((c.tc : Thread Cert.Kernel25.nD Cert.Kernel25.τ).loc Cert.Kernel25.main_arg8))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
      ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4)
      ∧ r.2.mem ((c.tc : Thread Cert.Kernel25Ideal.nD Cert.Kernel25Ideal.τ).loc Cert.Kernel25Ideal.main_arg5) = m ((c.tc : Thread Cert.Kernel25Ideal.nD Cert.Kernel25Ideal.τ).loc Cert.Kernel25Ideal.main_arg5)
      ∧ r.2.mem ((c.tc : Thread Cert.Kernel25Ideal.nD Cert.Kernel25Ideal.τ).loc Cert.Kernel25Ideal.main_arg6) = m ((c.tc : Thread Cert.Kernel25Ideal.nD Cert.Kernel25Ideal.τ).loc Cert.Kernel25Ideal.main_arg6)
      ∧ r.2.mem ((c.tc : Thread Cert.Kernel25Ideal.nD Cert.Kernel25Ideal.τ).loc Cert.Kernel25Ideal.main_arg7) = m ((c.tc : Thread Cert.Kernel25Ideal.nD Cert.Kernel25Ideal.τ).loc Cert.Kernel25Ideal.main_arg7)
      ∧ r.2.mem ((c.tc : Thread Cert.Kernel25Ideal.nD Cert.Kernel25Ideal.τ).loc Cert.Kernel25Ideal.main_arg8) = m ((c.tc : Thread Cert.Kernel25Ideal.nD Cert.Kernel25Ideal.τ).loc Cert.Kernel25Ideal.main_arg8))
      ∧ r.2.sem = fun _ => 0)

def quiescent_Kernel25Ideal_pre_finite_rows [hKernel25Ideal : Cert.Kernel25Ideal.Facts] [hPre_finite_rows : Cert.Pre_finite_rows.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal_finite_rows m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
      ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4)
      ∧ r.2.mem ((c.tc : Thread Cert.Kernel25Ideal.nD Cert.Kernel25Ideal.τ).loc Cert.Kernel25Ideal.main_arg5) = m ((c.tc : Thread Cert.Kernel25Ideal.nD Cert.Kernel25Ideal.τ).loc Cert.Kernel25Ideal.main_arg5)
      ∧ r.2.mem ((c.tc : Thread Cert.Kernel25Ideal.nD Cert.Kernel25Ideal.τ).loc Cert.Kernel25Ideal.main_arg6) = m ((c.tc : Thread Cert.Kernel25Ideal.nD Cert.Kernel25Ideal.τ).loc Cert.Kernel25Ideal.main_arg6)
      ∧ r.2.mem ((c.tc : Thread Cert.Kernel25Ideal.nD Cert.Kernel25Ideal.τ).loc Cert.Kernel25Ideal.main_arg7) = m ((c.tc : Thread Cert.Kernel25Ideal.nD Cert.Kernel25Ideal.τ).loc Cert.Kernel25Ideal.main_arg7)
      ∧ r.2.mem ((c.tc : Thread Cert.Kernel25Ideal.nD Cert.Kernel25Ideal.τ).loc Cert.Kernel25Ideal.main_arg8) = m ((c.tc : Thread Cert.Kernel25Ideal.nD Cert.Kernel25Ideal.τ).loc Cert.Kernel25Ideal.main_arg8))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3)
      ∧ r.2.mem ((c.tc : Thread Cert.Reference25Ideal.nD Cert.Reference25Ideal.τ).loc Cert.Reference25Ideal.main_arg4) = m ((c.tc : Thread Cert.Reference25Ideal.nD Cert.Reference25Ideal.τ).loc Cert.Reference25Ideal.main_arg4)
      ∧ r.2.mem ((c.tc : Thread Cert.Reference25Ideal.nD Cert.Reference25Ideal.τ).loc Cert.Reference25Ideal.main_arg5) = m ((c.tc : Thread Cert.Reference25Ideal.nD Cert.Reference25Ideal.τ).loc Cert.Reference25Ideal.main_arg5)
      ∧ r.2.mem ((c.tc : Thread Cert.Reference25Ideal.nD Cert.Reference25Ideal.τ).loc Cert.Reference25Ideal.main_arg6) = m ((c.tc : Thread Cert.Reference25Ideal.nD Cert.Reference25Ideal.τ).loc Cert.Reference25Ideal.main_arg6)
      ∧ r.2.mem ((c.tc : Thread Cert.Reference25Ideal.nD Cert.Reference25Ideal.τ).loc Cert.Reference25Ideal.main_arg7) = m ((c.tc : Thread Cert.Reference25Ideal.nD Cert.Reference25Ideal.τ).loc Cert.Reference25Ideal.main_arg7)
      ∧ r.2.mem ((c.tc : Thread Cert.Reference25Ideal.nD Cert.Reference25Ideal.τ).loc Cert.Reference25Ideal.main_arg8) = m ((c.tc : Thread Cert.Reference25Ideal.nD Cert.Reference25Ideal.τ).loc Cert.Reference25Ideal.main_arg8))
      ∧ r.2.sem = fun _ => 0)

def quiescent_Reference25Ideal_pre_finite_rows [hReference25Ideal : Cert.Reference25Ideal.Facts] [hPre_finite_rows : Cert.Pre_finite_rows.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal_finite_rows m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3)
      ∧ r.2.mem ((c.tc : Thread Cert.Reference25Ideal.nD Cert.Reference25Ideal.τ).loc Cert.Reference25Ideal.main_arg4) = m ((c.tc : Thread Cert.Reference25Ideal.nD Cert.Reference25Ideal.τ).loc Cert.Reference25Ideal.main_arg4)
      ∧ r.2.mem ((c.tc : Thread Cert.Reference25Ideal.nD Cert.Reference25Ideal.τ).loc Cert.Reference25Ideal.main_arg5) = m ((c.tc : Thread Cert.Reference25Ideal.nD Cert.Reference25Ideal.τ).loc Cert.Reference25Ideal.main_arg5)
      ∧ r.2.mem ((c.tc : Thread Cert.Reference25Ideal.nD Cert.Reference25Ideal.τ).loc Cert.Reference25Ideal.main_arg6) = m ((c.tc : Thread Cert.Reference25Ideal.nD Cert.Reference25Ideal.τ).loc Cert.Reference25Ideal.main_arg6)
      ∧ r.2.mem ((c.tc : Thread Cert.Reference25Ideal.nD Cert.Reference25Ideal.τ).loc Cert.Reference25Ideal.main_arg7) = m ((c.tc : Thread Cert.Reference25Ideal.nD Cert.Reference25Ideal.τ).loc Cert.Reference25Ideal.main_arg7)
      ∧ r.2.mem ((c.tc : Thread Cert.Reference25Ideal.nD Cert.Reference25Ideal.τ).loc Cert.Reference25Ideal.main_arg8) = m ((c.tc : Thread Cert.Reference25Ideal.nD Cert.Reference25Ideal.τ).loc Cert.Reference25Ideal.main_arg8))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3)
      ∧ r.2.mem ((c.tc : Thread Cert.Kernel26.nD Cert.Kernel26.τ).loc Cert.Kernel26.main_arg4) = m ((c.tc : Thread Cert.Kernel26.nD Cert.Kernel26.τ).loc Cert.Kernel26.main_arg4)
      ∧ r.2.mem ((c.tc : Thread Cert.Kernel26.nD Cert.Kernel26.τ).loc Cert.Kernel26.main_arg5) = m ((c.tc : Thread Cert.Kernel26.nD Cert.Kernel26.τ).loc Cert.Kernel26.main_arg5))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3)
      ∧ r.2.mem ((c.tc : Thread Cert.Kernel26Ideal.nD Cert.Kernel26Ideal.τ).loc Cert.Kernel26Ideal.main_arg4) = m ((c.tc : Thread Cert.Kernel26Ideal.nD Cert.Kernel26Ideal.τ).loc Cert.Kernel26Ideal.main_arg4)
      ∧ r.2.mem ((c.tc : Thread Cert.Kernel26Ideal.nD Cert.Kernel26Ideal.τ).loc Cert.Kernel26Ideal.main_arg5) = m ((c.tc : Thread Cert.Kernel26Ideal.nD Cert.Kernel26Ideal.τ).loc Cert.Kernel26Ideal.main_arg5))
      ∧ r.2.sem = fun _ => 0)

def quiescent_Kernel26Ideal_pre_finite_ends [hKernel26Ideal : Cert.Kernel26Ideal.Facts] [hPre_finite_ends : Cert.Pre_finite_ends.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal_finite_ends m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3)
      ∧ r.2.mem ((c.tc : Thread Cert.Kernel26Ideal.nD Cert.Kernel26Ideal.τ).loc Cert.Kernel26Ideal.main_arg4) = m ((c.tc : Thread Cert.Kernel26Ideal.nD Cert.Kernel26Ideal.τ).loc Cert.Kernel26Ideal.main_arg4)
      ∧ r.2.mem ((c.tc : Thread Cert.Kernel26Ideal.nD Cert.Kernel26Ideal.τ).loc Cert.Kernel26Ideal.main_arg5) = m ((c.tc : Thread Cert.Kernel26Ideal.nD Cert.Kernel26Ideal.τ).loc Cert.Kernel26Ideal.main_arg5))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3)
      ∧ r.2.mem ((c.tc : Thread Cert.Reference26Ideal.nD Cert.Reference26Ideal.τ).loc Cert.Reference26Ideal.main_arg4) = m ((c.tc : Thread Cert.Reference26Ideal.nD Cert.Reference26Ideal.τ).loc Cert.Reference26Ideal.main_arg4)
      ∧ r.2.mem ((c.tc : Thread Cert.Reference26Ideal.nD Cert.Reference26Ideal.τ).loc Cert.Reference26Ideal.main_arg5) = m ((c.tc : Thread Cert.Reference26Ideal.nD Cert.Reference26Ideal.τ).loc Cert.Reference26Ideal.main_arg5))
      ∧ r.2.sem = fun _ => 0)

def quiescent_Reference26Ideal_pre_finite_ends [hReference26Ideal : Cert.Reference26Ideal.Facts] [hPre_finite_ends : Cert.Pre_finite_ends.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal_finite_ends m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3)
      ∧ r.2.mem ((c.tc : Thread Cert.Reference26Ideal.nD Cert.Reference26Ideal.τ).loc Cert.Reference26Ideal.main_arg4) = m ((c.tc : Thread Cert.Reference26Ideal.nD Cert.Reference26Ideal.τ).loc Cert.Reference26Ideal.main_arg4)
      ∧ r.2.mem ((c.tc : Thread Cert.Reference26Ideal.nD Cert.Reference26Ideal.τ).loc Cert.Reference26Ideal.main_arg5) = m ((c.tc : Thread Cert.Reference26Ideal.nD Cert.Reference26Ideal.τ).loc Cert.Reference26Ideal.main_arg5))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v134_0)) (v1 : (c : Dev Cert.KernelIdeal.nD) → Buf (Elt Ideal) ((c.tc : Thread Cert.KernelIdeal.nD Cert.KernelIdeal.τ).loc Cert.KernelIdeal.main_v134_1)) (v2 : (c : Dev Cert.KernelIdeal.nD) → Buf (Elt Ideal) ((c.tc : Thread Cert.KernelIdeal.nD Cert.KernelIdeal.τ).loc Cert.KernelIdeal.main_v134_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v134_0) = v0 c
          ∧ r.2.mem ((c.tc : Thread Cert.KernelIdeal.nD Cert.KernelIdeal.τ).loc Cert.KernelIdeal.main_v134_1) = v1 c
          ∧ r.2.mem ((c.tc : Thread Cert.KernelIdeal.nD Cert.KernelIdeal.τ).loc Cert.KernelIdeal.main_v134_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v188) = v0 c
          ∧ r.2.mem ((c.tc : Thread Cert.ReferenceIdeal.nD Cert.ReferenceIdeal.τ).loc Cert.ReferenceIdeal.main_v190) = v1 c
          ∧ r.2.mem ((c.tc : Thread Cert.ReferenceIdeal.nD Cert.ReferenceIdeal.τ).loc Cert.ReferenceIdeal.main_v192) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v7) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v8) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v10) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v8) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v10) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v7) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v10) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v7) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v5) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v1) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v2) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v5) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v4) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v10) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v7) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v10) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v7) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v10) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v7) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)
      ∧ m' ((c.tc : Thread Cert.Reference22Ideal.nD Cert.Reference22Ideal.τ).loc Cert.Reference22Ideal.main_arg4) = m ((c.tc : Thread Cert.Kernel22Ideal.nD Cert.Kernel22Ideal.τ).loc Cert.Kernel22Ideal.main_arg4)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
          ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v16) = v0 c
          ∧ r.2.mem ((c.tc : Thread Cert.Reference22Ideal.nD Cert.Reference22Ideal.τ).loc Cert.Reference22Ideal.main_v13) = v1 c
          ∧ r.2.mem ((c.tc : Thread Cert.Reference22Ideal.nD Cert.Reference22Ideal.τ).loc Cert.Reference22Ideal.main_v10) = v2 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3)
          ∧ r.2.mem ((c.tc : Thread Cert.Reference22Ideal.nD Cert.Reference22Ideal.τ).loc Cert.Reference22Ideal.main_arg4) = m' ((c.tc : Thread Cert.Reference22Ideal.nD Cert.Reference22Ideal.τ).loc Cert.Reference22Ideal.main_arg4))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v23) = v0 c
          ∧ r.2.mem ((c.tc : Thread Cert.Reference23Ideal.nD Cert.Reference23Ideal.τ).loc Cert.Reference23Ideal.main_v4) = v1 c
          ∧ r.2.mem ((c.tc : Thread Cert.Reference23Ideal.nD Cert.Reference23Ideal.τ).loc Cert.Reference23Ideal.main_v10) = v2 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v23) = v0 c
          ∧ r.2.mem ((c.tc : Thread Cert.Reference24Ideal.nD Cert.Reference24Ideal.τ).loc Cert.Reference24Ideal.main_v4) = v1 c
          ∧ r.2.mem ((c.tc : Thread Cert.Reference24Ideal.nD Cert.Reference24Ideal.τ).loc Cert.Reference24Ideal.main_v10) = v2 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  True

def algebraic_Kernel25Ideal_Reference25Ideal_pre_finite_rows [hKernel25Ideal : Cert.Kernel25Ideal.Facts] [hReference25Ideal : Cert.Reference25Ideal.Facts] [hPre_finite_rows : Cert.Pre_finite_rows.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal_finite_rows m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)
      ∧ m' ((c.tc : Thread Cert.Reference25Ideal.nD Cert.Reference25Ideal.τ).loc Cert.Reference25Ideal.main_arg4) = m ((c.tc : Thread Cert.Kernel25Ideal.nD Cert.Kernel25Ideal.τ).loc Cert.Kernel25Ideal.main_arg4)
      ∧ m' ((c.tc : Thread Cert.Reference25Ideal.nD Cert.Reference25Ideal.τ).loc Cert.Reference25Ideal.main_arg5) = m ((c.tc : Thread Cert.Kernel25Ideal.nD Cert.Kernel25Ideal.τ).loc Cert.Kernel25Ideal.main_arg5)
      ∧ m' ((c.tc : Thread Cert.Reference25Ideal.nD Cert.Reference25Ideal.τ).loc Cert.Reference25Ideal.main_arg6) = m ((c.tc : Thread Cert.Kernel25Ideal.nD Cert.Kernel25Ideal.τ).loc Cert.Kernel25Ideal.main_arg6)
      ∧ m' ((c.tc : Thread Cert.Reference25Ideal.nD Cert.Reference25Ideal.τ).loc Cert.Reference25Ideal.main_arg7) = m ((c.tc : Thread Cert.Kernel25Ideal.nD Cert.Kernel25Ideal.τ).loc Cert.Kernel25Ideal.main_arg7)
      ∧ m' ((c.tc : Thread Cert.Reference25Ideal.nD Cert.Reference25Ideal.τ).loc Cert.Reference25Ideal.main_arg8) = m ((c.tc : Thread Cert.Kernel25Ideal.nD Cert.Kernel25Ideal.τ).loc Cert.Kernel25Ideal.main_arg8)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)) (v3 : (c : Dev Cert.Kernel25Ideal.nD) → Buf (Elt Ideal) ((c.tc : Thread Cert.Kernel25Ideal.nD Cert.Kernel25Ideal.τ).loc Cert.Kernel25Ideal.main_v0_3)) (v4 : (c : Dev Cert.Kernel25Ideal.nD) → Buf (Elt Ideal) ((c.tc : Thread Cert.Kernel25Ideal.nD Cert.Kernel25Ideal.τ).loc Cert.Kernel25Ideal.main_v0_4)) (v5 : (c : Dev Cert.Kernel25Ideal.nD) → Buf (Elt Ideal) ((c.tc : Thread Cert.Kernel25Ideal.nD Cert.Kernel25Ideal.τ).loc Cert.Kernel25Ideal.main_v0_5)) (v6 : (c : Dev Cert.Kernel25Ideal.nD) → Buf (Elt Ideal) ((c.tc : Thread Cert.Kernel25Ideal.nD Cert.Kernel25Ideal.τ).loc Cert.Kernel25Ideal.main_v0_6)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_v0_3) = v3 c
          ∧ r.2.mem ((c.tc : Thread Cert.Kernel25Ideal.nD Cert.Kernel25Ideal.τ).loc Cert.Kernel25Ideal.main_v0_4) = v4 c
          ∧ r.2.mem ((c.tc : Thread Cert.Kernel25Ideal.nD Cert.Kernel25Ideal.τ).loc Cert.Kernel25Ideal.main_v0_5) = v5 c
          ∧ r.2.mem ((c.tc : Thread Cert.Kernel25Ideal.nD Cert.Kernel25Ideal.τ).loc Cert.Kernel25Ideal.main_v0_6) = v6 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
          ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4)
          ∧ r.2.mem ((c.tc : Thread Cert.Kernel25Ideal.nD Cert.Kernel25Ideal.τ).loc Cert.Kernel25Ideal.main_arg5) = m ((c.tc : Thread Cert.Kernel25Ideal.nD Cert.Kernel25Ideal.τ).loc Cert.Kernel25Ideal.main_arg5)
          ∧ r.2.mem ((c.tc : Thread Cert.Kernel25Ideal.nD Cert.Kernel25Ideal.τ).loc Cert.Kernel25Ideal.main_arg6) = m ((c.tc : Thread Cert.Kernel25Ideal.nD Cert.Kernel25Ideal.τ).loc Cert.Kernel25Ideal.main_arg6)
          ∧ r.2.mem ((c.tc : Thread Cert.Kernel25Ideal.nD Cert.Kernel25Ideal.τ).loc Cert.Kernel25Ideal.main_arg7) = m ((c.tc : Thread Cert.Kernel25Ideal.nD Cert.Kernel25Ideal.τ).loc Cert.Kernel25Ideal.main_arg7)
          ∧ r.2.mem ((c.tc : Thread Cert.Kernel25Ideal.nD Cert.Kernel25Ideal.τ).loc Cert.Kernel25Ideal.main_arg8) = m ((c.tc : Thread Cert.Kernel25Ideal.nD Cert.Kernel25Ideal.τ).loc Cert.Kernel25Ideal.main_arg8))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v83) = v0 c
          ∧ r.2.mem ((c.tc : Thread Cert.Reference25Ideal.nD Cert.Reference25Ideal.τ).loc Cert.Reference25Ideal.main_v84) = v1 c
          ∧ r.2.mem ((c.tc : Thread Cert.Reference25Ideal.nD Cert.Reference25Ideal.τ).loc Cert.Reference25Ideal.main_v54) = v2 c
          ∧ r.2.mem ((c.tc : Thread Cert.Reference25Ideal.nD Cert.Reference25Ideal.τ).loc Cert.Reference25Ideal.main_v51) = v3 c
          ∧ r.2.mem ((c.tc : Thread Cert.Reference25Ideal.nD Cert.Reference25Ideal.τ).loc Cert.Reference25Ideal.main_v81) = v4 c
          ∧ r.2.mem ((c.tc : Thread Cert.Reference25Ideal.nD Cert.Reference25Ideal.τ).loc Cert.Reference25Ideal.main_v12) = v5 c
          ∧ r.2.mem ((c.tc : Thread Cert.Reference25Ideal.nD Cert.Reference25Ideal.τ).loc Cert.Reference25Ideal.main_v9) = v6 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3)
          ∧ r.2.mem ((c.tc : Thread Cert.Reference25Ideal.nD Cert.Reference25Ideal.τ).loc Cert.Reference25Ideal.main_arg4) = m' ((c.tc : Thread Cert.Reference25Ideal.nD Cert.Reference25Ideal.τ).loc Cert.Reference25Ideal.main_arg4)
          ∧ r.2.mem ((c.tc : Thread Cert.Reference25Ideal.nD Cert.Reference25Ideal.τ).loc Cert.Reference25Ideal.main_arg5) = m' ((c.tc : Thread Cert.Reference25Ideal.nD Cert.Reference25Ideal.τ).loc Cert.Reference25Ideal.main_arg5)
          ∧ r.2.mem ((c.tc : Thread Cert.Reference25Ideal.nD Cert.Reference25Ideal.τ).loc Cert.Reference25Ideal.main_arg6) = m' ((c.tc : Thread Cert.Reference25Ideal.nD Cert.Reference25Ideal.τ).loc Cert.Reference25Ideal.main_arg6)
          ∧ r.2.mem ((c.tc : Thread Cert.Reference25Ideal.nD Cert.Reference25Ideal.τ).loc Cert.Reference25Ideal.main_arg7) = m' ((c.tc : Thread Cert.Reference25Ideal.nD Cert.Reference25Ideal.τ).loc Cert.Reference25Ideal.main_arg7)
          ∧ r.2.mem ((c.tc : Thread Cert.Reference25Ideal.nD Cert.Reference25Ideal.τ).loc Cert.Reference25Ideal.main_arg8) = m' ((c.tc : Thread Cert.Reference25Ideal.nD Cert.Reference25Ideal.τ).loc Cert.Reference25Ideal.main_arg8))

def preserves_Kernel26_Kernel26Ideal : Prop :=
  True

def algebraic_Kernel26Ideal_Reference26Ideal_pre_finite_ends [hKernel26Ideal : Cert.Kernel26Ideal.Facts] [hReference26Ideal : Cert.Reference26Ideal.Facts] [hPre_finite_ends : Cert.Pre_finite_ends.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal_finite_ends m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)
      ∧ m' ((c.tc : Thread Cert.Reference26Ideal.nD Cert.Reference26Ideal.τ).loc Cert.Reference26Ideal.main_arg4) = m ((c.tc : Thread Cert.Kernel26Ideal.nD Cert.Kernel26Ideal.τ).loc Cert.Kernel26Ideal.main_arg4)
      ∧ m' ((c.tc : Thread Cert.Reference26Ideal.nD Cert.Reference26Ideal.τ).loc Cert.Reference26Ideal.main_arg5) = m ((c.tc : Thread Cert.Kernel26Ideal.nD Cert.Kernel26Ideal.τ).loc Cert.Kernel26Ideal.main_arg5)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)) (v2 : (c : Dev Cert.Kernel26Ideal.nD) → Buf (Elt Ideal) ((c.tc : Thread Cert.Kernel26Ideal.nD Cert.Kernel26Ideal.τ).loc Cert.Kernel26Ideal.main_v0_2)) (v3 : (c : Dev Cert.Kernel26Ideal.nD) → Buf (Elt Ideal) ((c.tc : Thread Cert.Kernel26Ideal.nD Cert.Kernel26Ideal.τ).loc Cert.Kernel26Ideal.main_v0_3)) (v4 : (c : Dev Cert.Kernel26Ideal.nD) → Buf (Elt Ideal) ((c.tc : Thread Cert.Kernel26Ideal.nD Cert.Kernel26Ideal.τ).loc Cert.Kernel26Ideal.main_v0_4)) (v5 : (c : Dev Cert.Kernel26Ideal.nD) → Buf (Elt Ideal) ((c.tc : Thread Cert.Kernel26Ideal.nD Cert.Kernel26Ideal.τ).loc Cert.Kernel26Ideal.main_v0_5)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_v0_2) = v2 c
          ∧ r.2.mem ((c.tc : Thread Cert.Kernel26Ideal.nD Cert.Kernel26Ideal.τ).loc Cert.Kernel26Ideal.main_v0_3) = v3 c
          ∧ r.2.mem ((c.tc : Thread Cert.Kernel26Ideal.nD Cert.Kernel26Ideal.τ).loc Cert.Kernel26Ideal.main_v0_4) = v4 c
          ∧ r.2.mem ((c.tc : Thread Cert.Kernel26Ideal.nD Cert.Kernel26Ideal.τ).loc Cert.Kernel26Ideal.main_v0_5) = v5 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3)
          ∧ r.2.mem ((c.tc : Thread Cert.Kernel26Ideal.nD Cert.Kernel26Ideal.τ).loc Cert.Kernel26Ideal.main_arg4) = m ((c.tc : Thread Cert.Kernel26Ideal.nD Cert.Kernel26Ideal.τ).loc Cert.Kernel26Ideal.main_arg4)
          ∧ r.2.mem ((c.tc : Thread Cert.Kernel26Ideal.nD Cert.Kernel26Ideal.τ).loc Cert.Kernel26Ideal.main_arg5) = m ((c.tc : Thread Cert.Kernel26Ideal.nD Cert.Kernel26Ideal.τ).loc Cert.Kernel26Ideal.main_arg5))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v82) = v0 c
          ∧ r.2.mem ((c.tc : Thread Cert.Reference26Ideal.nD Cert.Reference26Ideal.τ).loc Cert.Reference26Ideal.main_v83) = v1 c
          ∧ r.2.mem ((c.tc : Thread Cert.Reference26Ideal.nD Cert.Reference26Ideal.τ).loc Cert.Reference26Ideal.main_v53) = v2 c
          ∧ r.2.mem ((c.tc : Thread Cert.Reference26Ideal.nD Cert.Reference26Ideal.τ).loc Cert.Reference26Ideal.main_v50) = v3 c
          ∧ r.2.mem ((c.tc : Thread Cert.Reference26Ideal.nD Cert.Reference26Ideal.τ).loc Cert.Reference26Ideal.main_v80) = v4 c
          ∧ r.2.mem ((c.tc : Thread Cert.Reference26Ideal.nD Cert.Reference26Ideal.τ).loc Cert.Reference26Ideal.main_v42) = v5 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3)
          ∧ r.2.mem ((c.tc : Thread Cert.Reference26Ideal.nD Cert.Reference26Ideal.τ).loc Cert.Reference26Ideal.main_arg4) = m' ((c.tc : Thread Cert.Reference26Ideal.nD Cert.Reference26Ideal.τ).loc Cert.Reference26Ideal.main_arg4)
          ∧ r.2.mem ((c.tc : Thread Cert.Reference26Ideal.nD Cert.Reference26Ideal.τ).loc Cert.Reference26Ideal.main_arg5) = m' ((c.tc : Thread Cert.Reference26Ideal.nD Cert.Reference26Ideal.τ).loc Cert.Reference26Ideal.main_arg5))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)) →
    ∃ (v0 : (c : Dev Cert.Kernel27Ideal.nD) → Buf (Elt Ideal) ((c.tc : Thread Cert.Kernel27Ideal.nD Cert.Kernel27Ideal.τ).loc Cert.Kernel27Ideal.main_v0)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v0) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)) →
    ∃ (v0 : (c : Dev Cert.Kernel28Ideal.nD) → Buf (Elt Ideal) ((c.tc : Thread Cert.Kernel28Ideal.nD Cert.Kernel28Ideal.τ).loc Cert.Kernel28Ideal.main_v0)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v7) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)) →
    ∃ (v0 : (c : Dev Cert.Kernel29Ideal.nD) → Buf (Elt Ideal) ((c.tc : Thread Cert.Kernel29Ideal.nD Cert.Kernel29Ideal.τ).loc Cert.Kernel29Ideal.main_v0)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0) = v0 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v4) = v0 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)) →
    ∃ (v0 : (c : Dev Cert.Kernel30Ideal.nD) → Buf (Elt Ideal) ((c.tc : Thread Cert.Kernel30Ideal.nD Cert.Kernel30Ideal.τ).loc Cert.Kernel30Ideal.main_v0)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0) = v0 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v3) = v0 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hPre_finite : Cert.Pre_finite.Facts) (hPre_finite_rows : Cert.Pre_finite_rows.Facts) (hPre_finite_ends : Cert.Pre_finite_ends.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Kernel25Ideal_pre_finite_rows (hKernel25Ideal := hKernel25Ideal) (hPre_finite_rows := hPre_finite_rows)
    ∧ quiescent_Reference25Ideal (hReference25Ideal := hReference25Ideal)
    ∧ quiescent_Reference25Ideal_pre_finite_rows (hReference25Ideal := hReference25Ideal) (hPre_finite_rows := hPre_finite_rows)
    ∧ quiescent_Kernel26 (hKernel26 := hKernel26)
    ∧ quiescent_Kernel26Ideal (hKernel26Ideal := hKernel26Ideal)
    ∧ quiescent_Kernel26Ideal_pre_finite_ends (hKernel26Ideal := hKernel26Ideal) (hPre_finite_ends := hPre_finite_ends)
    ∧ quiescent_Reference26Ideal (hReference26Ideal := hReference26Ideal)
    ∧ quiescent_Reference26Ideal_pre_finite_ends (hReference26Ideal := hReference26Ideal) (hPre_finite_ends := hPre_finite_ends)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal_pre_finite_rows (hKernel25Ideal := hKernel25Ideal) (hReference25Ideal := hReference25Ideal) (hPre_finite_rows := hPre_finite_rows)
    ∧ preserves_Kernel26_Kernel26Ideal
    ∧ algebraic_Kernel26Ideal_Reference26Ideal_pre_finite_ends (hKernel26Ideal := hKernel26Ideal) (hReference26Ideal := hReference26Ideal) (hPre_finite_ends := hPre_finite_ends)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
-- ==== Pre_finite.lean ====
abbrev S4096x8x128 : Shape := ⟨3, ![4096, 8, 128]⟩
abbrev S4096x8 : Shape := ⟨2, ![4096, 8]⟩
abbrev S_ : Shape := ⟨0, ![]⟩

class Facts : Prop where
  bcast_S_S4096x8x128 : S_.BroadcastsInDim S4096x8x128 (![] : Fin 0 → Fin S4096x8x128.rank)
  bcast_S_S4096x8 : S_.BroadcastsInDim S4096x8 (![] : Fin 0 → Fin S4096x8.rank)

variable [Facts]

def fn {F : FTy → Type} [FloatOps F] (main_arg0 : FVec F S4096x8x128 .f32) (main_arg1 : FVec F S4096x8x128 .f32) (main_arg2 : FVec F S4096x8x128 .f32) (main_arg3 : FVec F S4096x8x128 .f32) (main_arg4 : FVec F S4096x8 .f32) : IVec S4096x8x128 1 × IVec S4096x8x128 1 × IVec S4096x8x128 1 × IVec S4096x8x128 1 × IVec S4096x8 1 :=
  let main_v0 : FVec F S4096x8x128 .f32 := Host.absf main_arg0
  let main_cst : FVec F S_ .f32 := constant S_ .f32 0x7F800000#32
  let main_v1 : FVec F S4096x8x128 .f32 := broadcastInDim S4096x8x128 ![] bcast_S_S4096x8x128 main_cst
  let main_v2 : IVec S4096x8x128 1 := cmpf .olt main_v0 main_v1
  let main_v3 : FVec F S4096x8x128 .f32 := Host.absf main_arg1
  let main_cst_0 : FVec F S_ .f32 := constant S_ .f32 0x7F800000#32
  let main_v4 : FVec F S4096x8x128 .f32 := broadcastInDim S4096x8x128 ![] bcast_S_S4096x8x128 main_cst_0
  let main_v5 : IVec S4096x8x128 1 := cmpf .olt main_v3 main_v4
  let main_v6 : FVec F S4096x8x128 .f32 := Host.absf main_arg2
  let main_cst_1 : FVec F S_ .f32 := constant S_ .f32 0x7F800000#32
  let main_v7 : FVec F S4096x8x128 .f32 := broadcastInDim S4096x8x128 ![] bcast_S_S4096x8x128 main_cst_1
  let main_v8 : IVec S4096x8x128 1 := cmpf .olt main_v6 main_v7
  let main_v9 : FVec F S4096x8x128 .f32 := Host.absf main_arg3
  let main_cst_2 : FVec F S_ .f32 := constant S_ .f32 0x7F800000#32
  let main_v10 : FVec F S4096x8x128 .f32 := broadcastInDim S4096x8x128 ![] bcast_S_S4096x8x128 main_cst_2
  let main_v11 : IVec S4096x8x128 1 := cmpf .olt main_v9 main_v10
  let main_v12 : FVec F S4096x8 .f32 := Host.absf main_arg4
  let main_cst_3 : FVec F S_ .f32 := constant S_ .f32 0x7F800000#32
  let main_v13 : FVec F S4096x8 .f32 := broadcastInDim S4096x8 ![] bcast_S_S4096x8 main_cst_3
  let main_v14 : IVec S4096x8 1 := cmpf .olt main_v12 main_v13
  (main_v2, main_v5, main_v8, main_v11, main_v14)
-- ==== Pre_finite_ends.lean ====
abbrev S4096x2048 : Shape := ⟨2, ![4096, 2048]⟩
abbrev S1x2048 : Shape := ⟨2, ![1, 2048]⟩
abbrev S_ : Shape := ⟨0, ![]⟩

class Facts : Prop where
  bcast_S_S1x2048 : S_.BroadcastsInDim S1x2048 (![] : Fin 0 → Fin S1x2048.rank)
  bcast_S_S4096x2048 : S_.BroadcastsInDim S4096x2048 (![] : Fin 0 → Fin S4096x2048.rank)

variable [Facts]

def fn {F : FTy → Type} [FloatOps F] (main_arg0 : FVec F S4096x2048 .f32) (main_arg1 : FVec F S4096x2048 .f32) (main_arg2 : FVec F S1x2048 .f32) (main_arg3 : FVec F S1x2048 .f32) (main_arg4 : FVec F S1x2048 .f32) (main_arg5 : FVec F S4096x2048 .f32) : IVec S1x2048 1 × IVec S1x2048 1 × IVec S4096x2048 1 :=
  let main_v0 : FVec F S1x2048 .f32 := Host.absf main_arg3
  let main_cst : FVec F S_ .f32 := constant S_ .f32 0x7F800000#32
  let main_v1 : FVec F S1x2048 .f32 := broadcastInDim S1x2048 ![] bcast_S_S1x2048 main_cst
  let main_v2 : IVec S1x2048 1 := cmpf .olt main_v0 main_v1
  let main_v3 : FVec F S1x2048 .f32 := Host.absf main_arg4
  let main_cst_0 : FVec F S_ .f32 := constant S_ .f32 0x7F800000#32
  let main_v4 : FVec F S1x2048 .f32 := broadcastInDim S1x2048 ![] bcast_S_S1x2048 main_cst_0
  let main_v5 : IVec S1x2048 1 := cmpf .olt main_v3 main_v4
  let main_v6 : FVec F S4096x2048 .f32 := Host.absf main_arg5
  let main_cst_1 : FVec F S_ .f32 := constant S_ .f32 0x7F800000#32
  let main_v7 : FVec F S4096x2048 .f32 := broadcastInDim S4096x2048 ![] bcast_S_S4096x2048 main_cst_1
  let main_v8 : IVec S4096x2048 1 := cmpf .olt main_v6 main_v7
  (main_v2, main_v5, main_v8)
-- ==== Pre_finite_rows.lean ====
abbrev S4096x2048 : Shape := ⟨2, ![4096, 2048]⟩
abbrev S1x2048 : Shape := ⟨2, ![1, 2048]⟩
abbrev S_ : Shape := ⟨0, ![]⟩

class Facts : Prop where
  bitsLt_bf16_f32 : FTy.bits .bf16 < FTy.bits .f32
  bcast_S_S4096x2048 : S_.BroadcastsInDim S4096x2048 (![] : Fin 0 → Fin S4096x2048.rank)
  bcast_S_S1x2048 : S_.BroadcastsInDim S1x2048 (![] : Fin 0 → Fin S1x2048.rank)

variable [Facts]

def fn {F : FTy → Type} [FloatOps F] (main_arg0 : FVec F S4096x2048 .f32) (main_arg1 : FVec F S4096x2048 .bf16) (main_arg2 : FVec F S4096x2048 .bf16) (main_arg3 : FVec F S4096x2048 .f32) (main_arg4 : FVec F S1x2048 .f32) (main_arg5 : FVec F S4096x2048 .f32) (main_arg6 : FVec F S4096x2048 .f32) (main_arg7 : FVec F S1x2048 .f32) (main_arg8 : FVec F S1x2048 .f32) : IVec S4096x2048 1 × IVec S4096x2048 1 × IVec S4096x2048 1 × IVec S1x2048 1 × IVec S1x2048 1 :=
  let main_v0 : FVec F S4096x2048 .f32 := (extf .f32 · bitsLt_bf16_f32) main_arg1
  let main_v1 : FVec F S4096x2048 .f32 := (extf .f32 · bitsLt_bf16_f32) main_arg2
  let main_v2 : FVec F S4096x2048 .f32 := Host.absf main_arg0
  let main_cst : FVec F S_ .f32 := constant S_ .f32 0x7F800000#32
  let main_v3 : FVec F S4096x2048 .f32 := broadcastInDim S4096x2048 ![] bcast_S_S4096x2048 main_cst
  let main_v4 : IVec S4096x2048 1 := cmpf .olt main_v2 main_v3
  let main_v5 : FVec F S4096x2048 .f32 := Host.absf main_v0
  let main_cst_0 : FVec F S_ .f32 := constant S_ .f32 0x7F800000#32
  let main_v6 : FVec F S4096x2048 .f32 := broadcastInDim S4096x2048 ![] bcast_S_S4096x2048 main_cst_0
  let main_v7 : IVec S4096x2048 1 := cmpf .olt main_v5 main_v6
  let main_v8 : FVec F S4096x2048 .f32 := Host.absf main_v1
  let main_cst_1 : FVec F S_ .f32 := constant S_ .f32 0x7F800000#32
  let main_v9 : FVec F S4096x2048 .f32 := broadcastInDim S4096x2048 ![] bcast_S_S4096x2048 main_cst_1
  let main_v10 : IVec S4096x2048 1 := cmpf .olt main_v8 main_v9
  let main_v11 : FVec F S1x2048 .f32 := Host.absf main_arg4
  let main_cst_2 : FVec F S_ .f32 := constant S_ .f32 0x7F800000#32
  let main_v12 : FVec F S1x2048 .f32 := broadcastInDim S1x2048 ![] bcast_S_S1x2048 main_cst_2
  let main_v13 : IVec S1x2048 1 := cmpf .olt main_v11 main_v12
  let main_v14 : FVec F S1x2048 .f32 := Host.absf main_arg8
  let main_cst_3 : FVec F S_ .f32 := constant S_ .f32 0x7F800000#32
  let main_v15 : FVec F S1x2048 .f32 := broadcastInDim S1x2048 ![] bcast_S_S1x2048 main_cst_3
  let main_v16 : IVec S1x2048 1 := cmpf .olt main_v14 main_v15
  (main_v4, main_v7, main_v10, main_v13, main_v16)
-- ==== Kernel.lean ====
abbrev S4096x8x128 : Shape := ⟨3, ![4096, 8, 128]⟩
abbrev S4096x8 : Shape := ⟨2, ![4096, 8]⟩
abbrev S1024x4x1024 : Shape := ⟨3, ![1024, 4, 1024]⟩
abbrev S4x1024x1024 : Shape := ⟨3, ![4, 1024, 1024]⟩
abbrev S4x1024x2048 : Shape := ⟨3, ![4, 1024, 2048]⟩
abbrev S8 : Shape := ⟨1, ![8]⟩
abbrev S_ : Shape := ⟨0, ![]⟩
abbrev S1024x4x8x128 : Shape := ⟨4, ![1024, 4, 8, 128]⟩
abbrev S4x1024x8x128 : Shape := ⟨4, ![4, 1024, 8, 128]⟩
abbrev S4x8x128x8x128 : Shape := ⟨5, ![4, 8, 128, 8, 128]⟩
abbrev S4x1x128x8x128 : Shape := ⟨5, ![4, 1, 128, 8, 128]⟩
abbrev S4x7x128x8x128 : Shape := ⟨5, ![4, 7, 128, 8, 128]⟩
abbrev S4x8x256x8x128 : Shape := ⟨5, ![4, 8, 256, 8, 128]⟩
abbrev S4x8x8x128x256 : Shape := ⟨5, ![4, 8, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S8x1x1 : Shape := ⟨3, ![8, 1, 1]⟩
abbrev S1x128x256 : Shape := ⟨3, ![1, 128, 256]⟩
abbrev S1x1x256 : Shape := ⟨3, ![1, 1, 256]⟩
abbrev S8x1x256 : Shape := ⟨3, ![8, 1, 256]⟩
abbrev S8x128x256 : Shape := ⟨3, ![8, 128, 256]⟩
abbrev S1x8x1x128x256 : Shape := ⟨5, ![1, 8, 1, 128, 256]⟩
abbrev S1x1x8x128x256 : Shape := ⟨5, ![1, 1, 8, 128, 256]⟩
abbrev S4x8x8x128 : Shape := ⟨4, ![4, 8, 8, 128]⟩
abbrev S4x8x8x128x1 : Shape := ⟨5, ![4, 8, 8, 128, 1]⟩
abbrev S4x8x8x128x128 : Shape := ⟨5, ![4, 8, 8, 128, 128]⟩
abbrev S4x8x128x8 : Shape := ⟨4, ![4, 8, 128, 8]⟩
abbrev S4x8x128x8x1 : Shape := ⟨5, ![4, 8, 128, 8, 1]⟩
abbrev S4x1024x8 : Shape := ⟨3, ![4, 1024, 8]⟩
abbrev S1024x4x8 : Shape := ⟨3, ![1024, 4, 8]⟩
abbrev S4x1024x128 : Shape := ⟨3, ![4, 1024, 128]⟩
abbrev S1024x4096 : Shape := ⟨2, ![1024, 4096]⟩
abbrev S1x128x1024 : Shape := ⟨3, ![1, 128, 1024]⟩
abbrev S1x128x128 : Shape := ⟨3, ![1, 128, 128]⟩
abbrev S128x1024 : Shape := ⟨2, ![128, 1024]⟩
abbrev S128x128 : Shape := ⟨2, ![128, 128]⟩
abbrev S256x128 : Shape := ⟨2, ![256, 128]⟩
abbrev S1x128x1 : Shape := ⟨3, ![1, 128, 1]⟩
abbrev S256x1 : Shape := ⟨2, ![256, 1]⟩

abbrev nBuf : Space → Nat
  | .hbm => 195
  | .vmem => 27
  | .smem => 0
  | _ => 0

abbrev hbmTy0_0 (i : Nat) : BufTy := match i % 128 with
  | 0 => ⟨S4096x8x128, .f32⟩
  | 1 => ⟨S4096x8x128, .f32⟩
  | 2 => ⟨S4096x8x128, .f32⟩
  | 3 => ⟨S4096x8x128, .f32⟩
  | 4 => ⟨S4096x8, .f32⟩
  | 5 => ⟨S1024x4x1024, .f32⟩
  | 6 => ⟨S4x1024x1024, .f32⟩
  | 7 => ⟨S4x1024x1024, .bf16⟩
  | 8 => ⟨S1024x4x1024, .f32⟩
  | 9 => ⟨S4x1024x1024, .f32⟩
  | 10 => ⟨S1024x4x1024, .f32⟩
  | 11 => ⟨S4x1024x1024, .f32⟩
  | 12 => ⟨S4x1024x2048, .f32⟩
  | 13 => ⟨S4x1024x2048, .bf16⟩
  | 14 => ⟨S1024x4x1024, .f32⟩
  | 15 => ⟨S4x1024x1024, .f32⟩
  | 16 => ⟨S4x1024x1024, .bf16⟩
  | 17 => ⟨S8, .i32⟩
  | 18 => ⟨S_, .f32⟩
  | 19 => ⟨S8, .f32⟩
  | 20 => ⟨S_, .i32⟩
  | 21 => ⟨S8, .i32⟩
  | 22 => ⟨S8, .i1⟩
  | 23 => ⟨S_, .f32⟩
  | 24 => ⟨S_, .f32⟩
  | 25 => ⟨S8, .f32⟩
  | 26 => ⟨S8, .f32⟩
  | 27 => ⟨S_, .i32⟩
  | 28 => ⟨S8, .i32⟩
  | 29 => ⟨S8, .i1⟩
  | 30 => ⟨S_, .f32⟩
  | 31 => ⟨S_, .f32⟩
  | 32 => ⟨S8, .f32⟩
  | 33 => ⟨S8, .f32⟩
  | 34 => ⟨S_, .i32⟩
  | 35 => ⟨S8, .i32⟩
  | 36 => ⟨S8, .i1⟩
  | 37 => ⟨S_, .f32⟩
  | 38 => ⟨S_, .f32⟩
  | 39 => ⟨S8, .f32⟩
  | 40 => ⟨S8, .f32⟩
  | 41 => ⟨S_, .i32⟩
  | 42 => ⟨S8, .i32⟩
  | 43 => ⟨S8, .i1⟩
  | 44 => ⟨S_, .f32⟩
  | 45 => ⟨S_, .f32⟩
  | 46 => ⟨S8, .f32⟩
  | 47 => ⟨S8, .f32⟩
  | 48 => ⟨S_, .i32⟩
  | 49 => ⟨S8, .i32⟩
  | 50 => ⟨S8, .i1⟩
  | 51 => ⟨S_, .f32⟩
  | 52 => ⟨S_, .f32⟩
  | 53 => ⟨S8, .f32⟩
  | 54 => ⟨S8, .f32⟩
  | 55 => ⟨S_, .i32⟩
  | 56 => ⟨S8, .i32⟩
  | 57 => ⟨S8, .i1⟩
  | 58 => ⟨S_, .f32⟩
  | 59 => ⟨S_, .f32⟩
  | 60 => ⟨S8, .f32⟩
  | 61 => ⟨S8, .f32⟩
  | 62 => ⟨S_, .i32⟩
  | 63 => ⟨S8, .i32⟩
  | 64 => ⟨S8, .i1⟩
  | 65 => ⟨S_, .f32⟩
  | 66 => ⟨S_, .f32⟩
  | 67 => ⟨S8, .f32⟩
  | 68 => ⟨S8, .f32⟩
  | 69 => ⟨S_, .i32⟩
  | 70 => ⟨S8, .i32⟩
  | 71 => ⟨S8, .i1⟩
  | 72 => ⟨S_, .f32⟩
  | 73 => ⟨S_, .f32⟩
  | 74 => ⟨S8, .f32⟩
  | 75 => ⟨S8, .f32⟩
  | 76 => ⟨S1024x4x8x128, .f32⟩
  | 77 => ⟨S4x1024x8x128, .f32⟩
  | 78 => ⟨S4x8x128x8x128, .f32⟩
  | 79 => ⟨S1024x4x8x128, .f32⟩
  | 80 => ⟨S4x1024x8x128, .f32⟩
  | 81 => ⟨S4x8x128x8x128, .f32⟩
  | 82 => ⟨S4x1x128x8x128, .f32⟩
  | 83 => ⟨S_, .f32⟩
  | 84 => ⟨S4x1x128x8x128, .f32⟩
  | 85 => ⟨S4x7x128x8x128, .f32⟩
  | 86 => ⟨S4x8x128x8x128, .f32⟩
  | 87 => ⟨S4x8x256x8x128, .f32⟩
  | 88 => ⟨S1024x4x8x128, .f32⟩
  | 89 => ⟨S4x1024x8x128, .f32⟩
  | 90 => ⟨S4x8x128x8x128, .f32⟩
  | 91 => ⟨S4x1x128x8x128, .f32⟩
  | 92 => ⟨S_, .f32⟩
  | 93 => ⟨S4x1x128x8x128, .f32⟩
  | 94 => ⟨S4x7x128x8x128, .f32⟩
  | 95 => ⟨S4x8x128x8x128, .f32⟩
  | 96 => ⟨S4x8x256x8x128, .f32⟩
  | 97 => ⟨S4x8x8x128x256, .f32⟩
  | 98 => ⟨S_, .f32⟩
  | 99 => ⟨S4x8x8x128x256, .f32⟩
  | 100 => ⟨S4x8x8x128x256, .f32⟩
  | 101 => ⟨S128, .i32⟩
  | 102 => ⟨S128x1, .i32⟩
  | 103 => ⟨S256, .i32⟩
  | 104 => ⟨S1x256, .i32⟩
  | 105 => ⟨S_, .i32⟩
  | 106 => ⟨S128x1, .i32⟩
  | 107 => ⟨S128x1, .i32⟩
  | 108 => ⟨S128x256, .i32⟩
  | 109 => ⟨S128x256, .i32⟩
  | 110 => ⟨S128x256, .i32⟩
  | 111 => ⟨S_, .i32⟩
  | 112 => ⟨S128x256, .i32⟩
  | 113 => ⟨S128x256, .i1⟩
  | 114 => ⟨S_, .i32⟩
  | 115 => ⟨S128x256, .i32⟩
  | 116 => ⟨S128x256, .i1⟩
  | 117 => ⟨S128x256, .i1⟩
  | 118 => ⟨S8, .i32⟩
  | 119 => ⟨S_, .i32⟩
  | 120 => ⟨S8, .i32⟩
  | 121 => ⟨S8, .i1⟩
  | 122 => ⟨S8x1x1, .i1⟩
  | 123 => ⟨S1x128x256, .i1⟩
  | 124 => ⟨S_, .i32⟩
  | 125 => ⟨S1x256, .i32⟩
  | 126 => ⟨S1x256, .i1⟩
  | 127 => ⟨S1x1x256, .i1⟩
  | _ => ⟨S4096x8x128, .f32⟩

abbrev hbmTy0_1 (i : Nat) : BufTy := match i % 128 with
  | 0 => ⟨S8x1x256, .i1⟩
  | 1 => ⟨S8x1x256, .i1⟩
  | 2 => ⟨S8x1x256, .i1⟩
  | 3 => ⟨S8x1x256, .i1⟩
  | 4 => ⟨S8x128x256, .i1⟩
  | 5 => ⟨S8x128x256, .i1⟩
  | 6 => ⟨S8x128x256, .i1⟩
  | 7 => ⟨S8x1x1, .f32⟩
  | 8 => ⟨S8x1x1, .f32⟩
  | 9 => ⟨S_, .i32⟩
  | 10 => ⟨S128x256, .i32⟩
  | 11 => ⟨S128x256, .i32⟩
  | 12 => ⟨S128x256, .f32⟩
  | 13 => ⟨S1x128x256, .f32⟩
  | 14 => ⟨S8x128x256, .f32⟩
  | 15 => ⟨S8x128x256, .f32⟩
  | 16 => ⟨S8x128x256, .f32⟩
  | 17 => ⟨S1x8x1x128x256, .i1⟩
  | 18 => ⟨S1x1x8x128x256, .f32⟩
  | 19 => ⟨S4x8x8x128x256, .f32⟩
  | 20 => ⟨S4x8x8x128x256, .f32⟩
  | 21 => ⟨S_, .f32⟩
  | 22 => ⟨S_, .f32⟩
  | 23 => ⟨S4x8x8x128x256, .i1⟩
  | 24 => ⟨S4x8x8x128x256, .f32⟩
  | 25 => ⟨S4x8x8x128x256, .f32⟩
  | 26 => ⟨S_, .f32⟩
  | 27 => ⟨S4x8x8x128, .f32⟩
  | 28 => ⟨S4x8x8x128x1, .f32⟩
  | 29 => ⟨S4x8x8x128x256, .f32⟩
  | 30 => ⟨S4x8x8x128x256, .f32⟩
  | 31 => ⟨S4x8x8x128x256, .f32⟩
  | 32 => ⟨S_, .f32⟩
  | 33 => ⟨S4x8x8x128, .f32⟩
  | 34 => ⟨S4x8x8x128x128, .f32⟩
  | 35 => ⟨S4x8x128x8x128, .f32⟩
  | 36 => ⟨S4x8x128x8, .f32⟩
  | 37 => ⟨S4x8x128x8x1, .f32⟩
  | 38 => ⟨S4x8x128x8x128, .f32⟩
  | 39 => ⟨S4x8x128x8x128, .f32⟩
  | 40 => ⟨S4x8x8x128, .f32⟩
  | 41 => ⟨S4x8x8x128, .f32⟩
  | 42 => ⟨S4x8x8x128, .f32⟩
  | 43 => ⟨S4x8x128x8, .f32⟩
  | 44 => ⟨S4x1024x8x128, .f32⟩
  | 45 => ⟨S1024x4x8x128, .f32⟩
  | 46 => ⟨S4096x8x128, .f32⟩
  | 47 => ⟨S4x1024x8, .f32⟩
  | 48 => ⟨S1024x4x8, .f32⟩
  | 49 => ⟨S4096x8, .f32⟩
  | 50 => ⟨S4096x8x128, .f32⟩
  | 51 => ⟨S_, .f32⟩
  | 52 => ⟨S4096x8, .f32⟩
  | 53 => ⟨S4096x8, .f32⟩
  | 54 => ⟨S1024x4x8, .f32⟩
  | 55 => ⟨S4x1024x8, .f32⟩
  | 56 => ⟨S_, .i32⟩
  | 57 => ⟨S_, .f32⟩
  | 58 => ⟨S4x1024x128, .f32⟩
  | 59 => ⟨S1024x4x8, .f32⟩
  | 60 => ⟨S4x1024x8, .f32⟩
  | 61 => ⟨S_, .i32⟩
  | 62 => ⟨S_, .f32⟩
  | 63 => ⟨S4x1024x128, .f32⟩
  | 64 => ⟨S1024x4096, .bf16⟩
  | 65 => ⟨S1024x4096, .bf16⟩
  | 66 => ⟨S1024x4096, .bf16⟩
  | _ => ⟨S4096x8x128, .f32⟩

abbrev hbmTy (i : Nat) : BufTy := match i / 128 with
  | 0 => hbmTy0_0 i
  | 1 => hbmTy0_1 i
  | _ => ⟨S4096x8x128, .f32⟩

abbrev bufTy : (tb : Table) → Fin (tcTables nBuf tb) → BufTy
  | .hbm, ⟨i, _⟩ => hbmTy i
  | .local _ .vmem, ⟨0, _⟩ => ⟨S1x128x1024, .bf16⟩
  | .local _ .vmem, ⟨1, _⟩ => ⟨S1x128x1024, .bf16⟩
  | .local _ .vmem, ⟨2, _⟩ => ⟨S1x128x1024, .bf16⟩
  | .local _ .vmem, ⟨3, _⟩ => ⟨S1x128x1024, .bf16⟩
  | .local _ .vmem, ⟨4, _⟩ => ⟨S1x128x1024, .bf16⟩
  | .local _ .vmem, ⟨5, _⟩ => ⟨S1x128x1024, .bf16⟩
  | .local _ .vmem, ⟨6, _⟩ => ⟨S1x128x1024, .bf16⟩
  | .local _ .vmem, ⟨7, _⟩ => ⟨S1x128x1024, .bf16⟩
  | .local _ .vmem, ⟨8, _⟩ => ⟨S1x128x1024, .bf16⟩
  | .local _ .vmem, ⟨9, _⟩ => ⟨S1x128x1024, .bf16⟩
  | .local _ .vmem, ⟨10, _⟩ => ⟨S1x128x1024, .bf16⟩
  | .local _ .vmem, ⟨11, _⟩ => ⟨S1x128x1024, .bf16⟩
  | .local _ .vmem, ⟨12, _⟩ => ⟨S1x128x128, .f32⟩
  | .local _ .vmem, ⟨13, _⟩ => ⟨S1x128x128, .f32⟩
  | .local _ .vmem, ⟨14, _⟩ => ⟨S1x128x128, .f32⟩
  | .local _ .vmem, ⟨15, _⟩ => ⟨S1x128x128, .f32⟩
  | .local _ .vmem, ⟨16, _⟩ => ⟨S1x128x128, .f32⟩
  | .local _ .vmem, ⟨17, _⟩ => ⟨S1x128x128, .f32⟩
  | .local _ .vmem, ⟨18, _⟩ => ⟨S1x128x128, .f32⟩
  | .local _ .vmem, ⟨19, _⟩ => ⟨S1x128x128, .f32⟩
  | .local _ .vmem, ⟨20, _⟩ => ⟨S128x1024, .bf16⟩
  | .local _ .vmem, ⟨21, _⟩ => ⟨S128x1024, .bf16⟩
  | .local _ .vmem, ⟨22, _⟩ => ⟨S128x1024, .bf16⟩
  | .local _ .vmem, ⟨23, _⟩ => ⟨S128x1024, .bf16⟩
  | .local _ .vmem, ⟨24, _⟩ => ⟨S128x1024, .bf16⟩
  | .local _ .vmem, ⟨25, _⟩ => ⟨S128x1024, .bf16⟩
  | .local _ .vmem, ⟨26, _⟩ => ⟨S128x1024, .f32⟩
  | _, _ => ⟨S4096x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_c : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_call0_v0 : Ref sig .tc := ⟨.hbm, 24, rfl⟩
abbrev main_call0_v1 : Ref sig .tc := ⟨.hbm, 25, rfl⟩
abbrev main_v16 : Ref sig .tc := ⟨.hbm, 26, rfl⟩
abbrev main_c_1 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_call1_v0 : Ref sig .tc := ⟨.hbm, 31, rfl⟩
abbrev main_call1_v1 : Ref sig .tc := ⟨.hbm, 32, rfl⟩
abbrev main_v19 : Ref sig .tc := ⟨.hbm, 33, rfl⟩
abbrev main_c_3 : Ref sig .tc := ⟨.hbm, 34, rfl⟩
abbrev main_v20 : Ref sig .tc := ⟨.hbm, 35, rfl⟩
abbrev main_v21 : Ref sig .tc := ⟨.hbm, 36, rfl⟩
abbrev main_cst_4 : Ref sig .tc := ⟨.hbm, 37, rfl⟩
abbrev main_call2_v0 : Ref sig .tc := ⟨.hbm, 38, rfl⟩
abbrev main_call2_v1 : Ref sig .tc := ⟨.hbm, 39, rfl⟩
abbrev main_v22 : Ref sig .tc := ⟨.hbm, 40, rfl⟩
abbrev main_c_5 : Ref sig .tc := ⟨.hbm, 41, rfl⟩
abbrev main_v23 : Ref sig .tc := ⟨.hbm, 42, rfl⟩
abbrev main_v24 : Ref sig .tc := ⟨.hbm, 43, rfl⟩
abbrev main_cst_6 : Ref sig .tc := ⟨.hbm, 44, rfl⟩
abbrev main_call3_v0 : Ref sig .tc := ⟨.hbm, 45, rfl⟩
abbrev main_call3_v1 : Ref sig .tc := ⟨.hbm, 46, rfl⟩
abbrev main_v25 : Ref sig .tc := ⟨.hbm, 47, rfl⟩
abbrev main_c_7 : Ref sig .tc := ⟨.hbm, 48, rfl⟩
abbrev main_v26 : Ref sig .tc := ⟨.hbm, 49, rfl⟩
abbrev main_v27 : Ref sig .tc := ⟨.hbm, 50, rfl⟩
abbrev main_cst_8 : Ref sig .tc := ⟨.hbm, 51, rfl⟩
abbrev main_call4_v0 : Ref sig .tc := ⟨.hbm, 52, rfl⟩
abbrev main_call4_v1 : Ref sig .tc := ⟨.hbm, 53, rfl⟩
abbrev main_v28 : Ref sig .tc := ⟨.hbm, 54, rfl⟩
abbrev main_c_9 : Ref sig .tc := ⟨.hbm, 55, rfl⟩
abbrev main_v29 : Ref sig .tc := ⟨.hbm, 56, rfl⟩
abbrev main_v30 : Ref sig .tc := ⟨.hbm, 57, rfl⟩
abbrev main_cst_10 : Ref sig .tc := ⟨.hbm, 58, rfl⟩
abbrev main_call5_v0 : Ref sig .tc := ⟨.hbm, 59, rfl⟩
abbrev main_call5_v1 : Ref sig .tc := ⟨.hbm, 60, rfl⟩
abbrev main_v31 : Ref sig .tc := ⟨.hbm, 61, rfl⟩
abbrev main_c_11 : Ref sig .tc := ⟨.hbm, 62, rfl⟩
abbrev main_v32 : Ref sig .tc := ⟨.hbm, 63, rfl⟩
abbrev main_v33 : Ref sig .tc := ⟨.hbm, 64, rfl⟩
abbrev main_cst_12 : Ref sig .tc := ⟨.hbm, 65, rfl⟩
abbrev main_call6_v0 : Ref sig .tc := ⟨.hbm, 66, rfl⟩
abbrev main_call6_v1 : Ref sig .tc := ⟨.hbm, 67, rfl⟩
abbrev main_v34 : Ref sig .tc := ⟨.hbm, 68, rfl⟩
abbrev main_c_13 : Ref sig .tc := ⟨.hbm, 69, rfl⟩
abbrev main_v35 : Ref sig .tc := ⟨.hbm, 70, rfl⟩
abbrev main_v36 : Ref sig .tc := ⟨.hbm, 71, rfl⟩
abbrev main_cst_14 : Ref sig .tc := ⟨.hbm, 72, rfl⟩
abbrev main_call7_v0 : Ref sig .tc := ⟨.hbm, 73, rfl⟩
abbrev main_call7_v1 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_cst_15 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_cst_16 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_cst_17 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_c_18 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_c_19 : Ref sig .tc := ⟨.hbm, 111, rfl⟩
abbrev main_v69 : Ref sig .tc := ⟨.hbm, 112, rfl⟩
abbrev main_v70 : Ref sig .tc := ⟨.hbm, 113, rfl⟩
abbrev main_c_20 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_c_21 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_c_22 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_c_23 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_cst_24 : Ref sig .tc := ⟨.hbm, 149, rfl⟩
abbrev main_call8_v0 : Ref sig .tc := ⟨.hbm, 150, rfl⟩
abbrev main_call8_v1 : Ref sig .tc := ⟨.hbm, 151, rfl⟩
abbrev main_call8_v2 : Ref sig .tc := ⟨.hbm, 152, rfl⟩
abbrev main_v102 : Ref sig .tc := ⟨.hbm, 153, rfl⟩
abbrev main_cst_25 : Ref sig .tc := ⟨.hbm, 154, rfl⟩
abbrev main_v103 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_cst_26 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩
abbrev main_v125 : Ref sig .tc := ⟨.hbm, 178, rfl⟩
abbrev main_cst_27 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_v129 : Ref sig .tc := ⟨.hbm, 183, rfl⟩
abbrev main_c_28 : Ref sig .tc := ⟨.hbm, 184, rfl⟩
abbrev main_call9_v0 : Ref sig .tc := ⟨.hbm, 185, rfl⟩
abbrev main_v130 : Ref sig .tc := ⟨.hbm, 186, rfl⟩
abbrev main_v131 : Ref sig .tc := ⟨.hbm, 187, rfl⟩
abbrev main_v132 : Ref sig .tc := ⟨.hbm, 188, rfl⟩
abbrev main_c_29 : Ref sig .tc := ⟨.hbm, 189, rfl⟩
abbrev main_call10_v0 : Ref sig .tc := ⟨.hbm, 190, rfl⟩
abbrev main_v133 : Ref sig .tc := ⟨.hbm, 191, rfl⟩
abbrev main_v134_0 : Ref sig .tc := ⟨.hbm, 192, rfl⟩
abbrev main_v134_1 : Ref sig .tc := ⟨.hbm, 193, rfl⟩
abbrev main_v134_2 : Ref sig .tc := ⟨.hbm, 194, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c7_i32 : BitVec 32 := 7#32
  let v1 : BitVec 32 := Scalar.minsi v0 c7_i32
  let c0_i32 : BitVec 32 := 0#32
  let c0_i32_0 : BitVec 32 := 0#32
  ![arg0.toNat, v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c7_i32 : BitVec 32 := 7#32
  let v1 : BitVec 32 := Scalar.minsi v0 c7_i32
  let c0_i32 : BitVec 32 := 0#32
  let c0_i32_0 : BitVec 32 := 0#32
  ![arg0.toNat, v1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c7_i32 : BitVec 32 := 7#32
  let v1 : BitVec 32 := Scalar.minsi v0 c7_i32
  let c0_i32 : BitVec 32 := 0#32
  let c0_i32_0 : BitVec 32 := 0#32
  ![arg0.toNat, v1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c7_i32 : BitVec 32 := 7#32
  let v1 : BitVec 32 := Scalar.minsi v0 c7_i32
  let c0_i32 : BitVec 32 := 0#32
  let c0_i32_0 : BitVec 32 := 0#32
  ![arg0.toNat, v1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S128x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S128x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S128x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== ReferenceIdeal.lean ====
abbrev S4096x8x128 : Shape := ⟨3, ![4096, 8, 128]⟩
abbrev S4096x8 : Shape := ⟨2, ![4096, 8]⟩
abbrev S8 : Shape := ⟨1, ![8]⟩
abbrev S_ : Shape := ⟨0, ![]⟩
abbrev S1024x4x8x128 : Shape := ⟨4, ![1024, 4, 8, 128]⟩
abbrev S4x1024x8x128 : Shape := ⟨4, ![4, 1024, 8, 128]⟩
abbrev S4x8x128x8x128 : Shape := ⟨5, ![4, 8, 128, 8, 128]⟩
abbrev S4x1x128x8x128 : Shape := ⟨5, ![4, 1, 128, 8, 128]⟩
abbrev S4x7x128x8x128 : Shape := ⟨5, ![4, 7, 128, 8, 128]⟩
abbrev S4x8x256x8x128 : Shape := ⟨5, ![4, 8, 256, 8, 128]⟩
abbrev S4x8x8x128x256 : Shape := ⟨5, ![4, 8, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S8x1x1 : Shape := ⟨3, ![8, 1, 1]⟩
abbrev S1x128x256 : Shape := ⟨3, ![1, 128, 256]⟩
abbrev S1x1x256 : Shape := ⟨3, ![1, 1, 256]⟩
abbrev S8x1x256 : Shape := ⟨3, ![8, 1, 256]⟩
abbrev S8x128x256 : Shape := ⟨3, ![8, 128, 256]⟩
abbrev S1x8x1x128x256 : Shape := ⟨5, ![1, 8, 1, 128, 256]⟩
abbrev S1x1x8x128x256 : Shape := ⟨5, ![1, 1, 8, 128, 256]⟩
abbrev S4x8x8x128 : Shape := ⟨4, ![4, 8, 8, 128]⟩
abbrev S4x8x8x128x1 : Shape := ⟨5, ![4, 8, 8, 128, 1]⟩
abbrev S4x8x8x128x128 : Shape := ⟨5, ![4, 8, 8, 128, 128]⟩
abbrev S4x8x128x8 : Shape := ⟨4, ![4, 8, 128, 8]⟩
abbrev S4x8x128x8x1 : Shape := ⟨5, ![4, 8, 128, 8, 1]⟩
abbrev S4x1024x8 : Shape := ⟨3, ![4, 1024, 8]⟩
abbrev S1024x4x8 : Shape := ⟨3, ![1024, 4, 8]⟩
abbrev S4x8x8x256x128 : Shape := ⟨5, ![4, 8, 8, 256, 128]⟩
abbrev S1024x4096 : Shape := ⟨2, ![1024, 4096]⟩

abbrev nBuf : Space → Nat
  | .hbm => 261
  | .vmem => 0
  | .smem => 0
  | _ => 0

abbrev hbmTy0_0 (i : Nat) : BufTy := match i % 128 with
  | 0 => ⟨S4096x8x128, .f32⟩
  | 1 => ⟨S4096x8x128, .f32⟩
  | 2 => ⟨S4096x8x128, .f32⟩
  | 3 => ⟨S4096x8x128, .f32⟩
  | 4 => ⟨S4096x8, .f32⟩
  | 5 => ⟨S8, .i32⟩
  | 6 => ⟨S_, .f32⟩
  | 7 => ⟨S8, .f32⟩
  | 8 => ⟨S_, .i32⟩
  | 9 => ⟨S8, .i32⟩
  | 10 => ⟨S8, .i1⟩
  | 11 => ⟨S_, .f32⟩
  | 12 => ⟨S_, .f32⟩
  | 13 => ⟨S8, .f32⟩
  | 14 => ⟨S8, .f32⟩
  | 15 => ⟨S_, .i32⟩
  | 16 => ⟨S8, .i32⟩
  | 17 => ⟨S8, .i1⟩
  | 18 => ⟨S_, .f32⟩
  | 19 => ⟨S_, .f32⟩
  | 20 => ⟨S8, .f32⟩
  | 21 => ⟨S8, .f32⟩
  | 22 => ⟨S_, .i32⟩
  | 23 => ⟨S8, .i32⟩
  | 24 => ⟨S8, .i1⟩
  | 25 => ⟨S_, .f32⟩
  | 26 => ⟨S_, .f32⟩
  | 27 => ⟨S8, .f32⟩
  | 28 => ⟨S8, .f32⟩
  | 29 => ⟨S_, .i32⟩
  | 30 => ⟨S8, .i32⟩
  | 31 => ⟨S8, .i1⟩
  | 32 => ⟨S_, .f32⟩
  | 33 => ⟨S_, .f32⟩
  | 34 => ⟨S8, .f32⟩
  | 35 => ⟨S8, .f32⟩
  | 36 => ⟨S_, .i32⟩
  | 37 => ⟨S8, .i32⟩
  | 38 => ⟨S8, .i1⟩
  | 39 => ⟨S_, .f32⟩
  | 40 => ⟨S_, .f32⟩
  | 41 => ⟨S8, .f32⟩
  | 42 => ⟨S8, .f32⟩
  | 43 => ⟨S_, .i32⟩
  | 44 => ⟨S8, .i32⟩
  | 45 => ⟨S8, .i1⟩
  | 46 => ⟨S_, .f32⟩
  | 47 => ⟨S_, .f32⟩
  | 48 => ⟨S8, .f32⟩
  | 49 => ⟨S8, .f32⟩
  | 50 => ⟨S_, .i32⟩
  | 51 => ⟨S8, .i32⟩
  | 52 => ⟨S8, .i1⟩
  | 53 => ⟨S_, .f32⟩
  | 54 => ⟨S_, .f32⟩
  | 55 => ⟨S8, .f32⟩
  | 56 => ⟨S8, .f32⟩
  | 57 => ⟨S_, .i32⟩
  | 58 => ⟨S8, .i32⟩
  | 59 => ⟨S8, .i1⟩
  | 60 => ⟨S_, .f32⟩
  | 61 => ⟨S_, .f32⟩
  | 62 => ⟨S8, .f32⟩
  | 63 => ⟨S8, .f32⟩
  | 64 => ⟨S1024x4x8x128, .f32⟩
  | 65 => ⟨S4x1024x8x128, .f32⟩
  | 66 => ⟨S4x8x128x8x128, .f32⟩
  | 67 => ⟨S1024x4x8x128, .f32⟩
  | 68 => ⟨S4x1024x8x128, .f32⟩
  | 69 => ⟨S4x8x128x8x128, .f32⟩
  | 70 => ⟨S4x1x128x8x128, .f32⟩
  | 71 => ⟨S_, .f32⟩
  | 72 => ⟨S4x1x128x8x128, .f32⟩
  | 73 => ⟨S4x7x128x8x128, .f32⟩
  | 74 => ⟨S4x8x128x8x128, .f32⟩
  | 75 => ⟨S_, .f32⟩
  | 76 => ⟨S4x1x128x8x128, .f32⟩
  | 77 => ⟨S4x8x256x8x128, .f32⟩
  | 78 => ⟨S1024x4x8x128, .f32⟩
  | 79 => ⟨S4x1024x8x128, .f32⟩
  | 80 => ⟨S4x8x128x8x128, .f32⟩
  | 81 => ⟨S4x1x128x8x128, .f32⟩
  | 82 => ⟨S_, .f32⟩
  | 83 => ⟨S4x1x128x8x128, .f32⟩
  | 84 => ⟨S4x7x128x8x128, .f32⟩
  | 85 => ⟨S4x8x128x8x128, .f32⟩
  | 86 => ⟨S_, .f32⟩
  | 87 => ⟨S4x1x128x8x128, .f32⟩
  | 88 => ⟨S4x8x256x8x128, .f32⟩
  | 89 => ⟨S4x8x8x128x256, .f32⟩
  | 90 => ⟨S_, .f32⟩
  | 91 => ⟨S4x8x8x128x256, .f32⟩
  | 92 => ⟨S4x8x8x128x256, .f32⟩
  | 93 => ⟨S128, .i32⟩
  | 94 => ⟨S128x1, .i32⟩
  | 95 => ⟨S256, .i32⟩
  | 96 => ⟨S1x256, .i32⟩
  | 97 => ⟨S_, .i32⟩
  | 98 => ⟨S128x1, .i32⟩
  | 99 => ⟨S128x1, .i32⟩
  | 100 => ⟨S128x256, .i32⟩
  | 101 => ⟨S128x256, .i32⟩
  | 102 => ⟨S128x256, .i32⟩
  | 103 => ⟨S_, .i32⟩
  | 104 => ⟨S128x256, .i32⟩
  | 105 => ⟨S128x256, .i1⟩
  | 106 => ⟨S_, .i32⟩
  | 107 => ⟨S128x256, .i32⟩
  | 108 => ⟨S128x256, .i1⟩
  | 109 => ⟨S128x256, .i1⟩
  | 110 => ⟨S8, .i32⟩
  | 111 => ⟨S_, .i32⟩
  | 112 => ⟨S8, .i32⟩
  | 113 => ⟨S8, .i1⟩
  | 114 => ⟨S8x1x1, .i1⟩
  | 115 => ⟨S1x128x256, .i1⟩
  | 116 => ⟨S_, .i32⟩
  | 117 => ⟨S1x256, .i32⟩
  | 118 => ⟨S1x256, .i1⟩
  | 119 => ⟨S1x1x256, .i1⟩
  | 120 => ⟨S8x1x256, .i1⟩
  | 121 => ⟨S8x1x256, .i1⟩
  | 122 => ⟨S8x1x256, .i1⟩
  | 123 => ⟨S8x1x256, .i1⟩
  | 124 => ⟨S8x128x256, .i1⟩
  | 125 => ⟨S8x128x256, .i1⟩
  | 126 => ⟨S8x128x256, .i1⟩
  | 127 => ⟨S8x1x1, .f32⟩
  | _ => ⟨S4096x8x128, .f32⟩

abbrev hbmTy0_1 (i : Nat) : BufTy := match i % 128 with
  | 0 => ⟨S8x1x1, .f32⟩
  | 1 => ⟨S_, .i32⟩
  | 2 => ⟨S128x256, .i32⟩
  | 3 => ⟨S128x256, .i32⟩
  | 4 => ⟨S128x256, .f32⟩
  | 5 => ⟨S1x128x256, .f32⟩
  | 6 => ⟨S8x128x256, .f32⟩
  | 7 => ⟨S8x128x256, .f32⟩
  | 8 => ⟨S8x128x256, .f32⟩
  | 9 => ⟨S1x8x1x128x256, .i1⟩
  | 10 => ⟨S1x1x8x128x256, .f32⟩
  | 11 => ⟨S4x8x8x128x256, .f32⟩
  | 12 => ⟨S4x8x8x128x256, .f32⟩
  | 13 => ⟨S_, .f32⟩
  | 14 => ⟨S_, .f32⟩
  | 15 => ⟨S4x8x8x128x256, .i1⟩
  | 16 => ⟨S4x8x8x128x256, .f32⟩
  | 17 => ⟨S4x8x8x128x256, .f32⟩
  | 18 => ⟨S_, .f32⟩
  | 19 => ⟨S4x8x8x128x256, .f32⟩
  | 20 => ⟨S_, .f32⟩
  | 21 => ⟨S4x8x8x128, .f32⟩
  | 22 => ⟨S4x8x8x128x1, .f32⟩
  | 23 => ⟨S4x8x8x128x256, .f32⟩
  | 24 => ⟨S4x8x8x128x256, .i1⟩
  | 25 => ⟨S4x8x8x128x256, .f32⟩
  | 26 => ⟨S_, .f32⟩
  | 27 => ⟨S4x8x8x128, .f32⟩
  | 28 => ⟨S4x8x8x128x1, .f32⟩
  | 29 => ⟨S4x8x8x128x256, .f32⟩
  | 30 => ⟨S4x8x8x128x256, .f32⟩
  | 31 => ⟨S4x8x8x128x256, .f32⟩
  | 32 => ⟨S_, .f32⟩
  | 33 => ⟨S4x8x8x128, .f32⟩
  | 34 => ⟨S4x8x8x128x128, .f32⟩
  | 35 => ⟨S4x8x128x8x128, .f32⟩
  | 36 => ⟨S4x8x128x8, .f32⟩
  | 37 => ⟨S4x8x128x8x1, .f32⟩
  | 38 => ⟨S4x8x128x8x128, .f32⟩
  | 39 => ⟨S4x8x128x8x128, .f32⟩
  | 40 => ⟨S4x8x128x8x1, .f32⟩
  | 41 => ⟨S_, .f32⟩
  | 42 => ⟨S4x8x128x8x1, .f32⟩
  | 43 => ⟨S4x8x128x8x1, .f32⟩
  | 44 => ⟨S4x8x8x128, .f32⟩
  | 45 => ⟨S4x8x8x128, .f32⟩
  | 46 => ⟨S4x8x8x128, .f32⟩
  | 47 => ⟨S4x8x128x8, .f32⟩
  | 48 => ⟨S4x1024x8x128, .f32⟩
  | 49 => ⟨S1024x4x8x128, .f32⟩
  | 50 => ⟨S4096x8x128, .f32⟩
  | 51 => ⟨S4x1024x8, .f32⟩
  | 52 => ⟨S1024x4x8, .f32⟩
  | 53 => ⟨S4096x8, .f32⟩
  | 54 => ⟨S1024x4x8, .f32⟩
  | 55 => ⟨S4x1024x8, .f32⟩
  | 56 => ⟨S4x8x128x8, .f32⟩
  | 57 => ⟨S1024x4x8x128, .f32⟩
  | 58 => ⟨S4x1024x8x128, .f32⟩
  | 59 => ⟨S4x8x128x8x128, .f32⟩
  | 60 => ⟨S4x8x8x128, .f32⟩
  | 61 => ⟨S4x8x8x128, .f32⟩
  | 62 => ⟨S4x8x8x128x1, .f32⟩
  | 63 => ⟨S4x8x128x8x128, .f32⟩
  | 64 => ⟨S4x8x128x8x128, .f32⟩
  | 65 => ⟨S4x8x128x8x128, .f32⟩
  | 66 => ⟨S_, .f32⟩
  | 67 => ⟨S4x8x128x8, .f32⟩
  | 68 => ⟨S4x8x128x8x1, .f32⟩
  | 69 => ⟨S4x8x128x8x1, .f32⟩
  | 70 => ⟨S4x8x128x8x128, .f32⟩
  | 71 => ⟨S4x8x128x8x128, .f32⟩
  | 72 => ⟨S_, .f32⟩
  | 73 => ⟨S4x8x128x8, .f32⟩
  | 74 => ⟨S4x8x8x128, .f32⟩
  | 75 => ⟨S4x8x8x128, .f32⟩
  | 76 => ⟨S4x8x8x128x128, .f32⟩
  | 77 => ⟨S4x8x8x128x256, .f32⟩
  | 78 => ⟨S4x8x8x128x256, .f32⟩
  | 79 => ⟨S4x8x256x8x128, .f32⟩
  | 80 => ⟨S4x8x8x128x256, .f32⟩
  | 81 => ⟨S4x8x8x128x256, .f32⟩
  | 82 => ⟨S4x8x8x128x256, .f32⟩
  | 83 => ⟨S4x8x8x128x256, .f32⟩
  | 84 => ⟨S_, .f32⟩
  | 85 => ⟨S4x8x8x128, .f32⟩
  | 86 => ⟨S4x8x8x128x1, .f32⟩
  | 87 => ⟨S4x8x8x128x1, .f32⟩
  | 88 => ⟨S_, .f32⟩
  | 89 => ⟨S4x8x8x128, .f32⟩
  | 90 => ⟨S4x8x8x128, .f32⟩
  | 91 => ⟨S4x8x8x128x256, .f32⟩
  | 92 => ⟨S4x8x8x128x256, .f32⟩
  | 93 => ⟨S4x8x8x128x256, .f32⟩
  | 94 => ⟨S_, .f32⟩
  | 95 => ⟨S4x8x8x128x256, .f32⟩
  | 96 => ⟨S4x8x8x128x256, .f32⟩
  | 97 => ⟨S_, .f32⟩
  | 98 => ⟨S4x8x8x128x256, .f32⟩
  | 99 => ⟨S4x8x8x128x256, .f32⟩
  | 100 => ⟨S4x8x8x256x128, .f32⟩
  | 101 => ⟨S4x8x256x8x128, .f32⟩
  | 102 => ⟨S4x8x8x128x128, .f32⟩
  | 103 => ⟨S4x8x128x8x128, .f32⟩
  | 104 => ⟨S4x8x128x8x128, .f32⟩
  | 105 => ⟨S4x8x128x8x128, .f32⟩
  | 106 => ⟨S4x1x128x8x128, .f32⟩
  | 107 => ⟨S4x7x128x8x128, .f32⟩
  | 108 => ⟨S_, .f32⟩
  | 109 => ⟨S4x8x128x8x128, .f32⟩
  | 110 => ⟨S4x8x128x8x128, .f32⟩
  | 111 => ⟨S4x1024x8x128, .f32⟩
  | 112 => ⟨S1024x4x8x128, .f32⟩
  | 113 => ⟨S4096x8x128, .f32⟩
  | 114 => ⟨S4x8x128x8x128, .f32⟩
  | 115 => ⟨S4x8x128x8x128, .f32⟩
  | 116 => ⟨S4x1x128x8x128, .f32⟩
  | 117 => ⟨S4x7x128x8x128, .f32⟩
  | 118 => ⟨S_, .f32⟩
  | 119 => ⟨S4x8x128x8x128, .f32⟩
  | 120 => ⟨S4x8x128x8x128, .f32⟩
  | 121 => ⟨S4x1024x8x128, .f32⟩
  | 122 => ⟨S1024x4x8x128, .f32⟩
  | 123 => ⟨S4096x8x128, .f32⟩
  | 124 => ⟨S4x1024x8x128, .f32⟩
  | 125 => ⟨S1024x4x8x128, .f32⟩
  | 126 => ⟨S4096x8x128, .f32⟩
  | 127 => ⟨S1024x4096, .f32⟩
  | _ => ⟨S4096x8x128, .f32⟩

abbrev hbmTy0_2 (i : Nat) : BufTy := match i % 128 with
  | 0 => ⟨S1024x4096, .bf16⟩
  | 1 => ⟨S1024x4096, .f32⟩
  | 2 => ⟨S1024x4096, .bf16⟩
  | 3 => ⟨S1024x4096, .f32⟩
  | 4 => ⟨S1024x4096, .bf16⟩
  | _ => ⟨S4096x8x128, .f32⟩

abbrev hbmTy (i : Nat) : BufTy := match i / 128 with
  | 0 => hbmTy0_0 i
  | 1 => hbmTy0_1 i
  | 2 => hbmTy0_2 i
  | _ => ⟨S4096x8x128, .f32⟩

abbrev bufTy : (tb : Table) → Fin (tcTables nBuf tb) → BufTy
  | .hbm, ⟨i, _⟩ => hbmTy i
  | _, _ => ⟨S4096x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_call0_v0 : Ref sig .tc := ⟨.hbm, 12, rfl⟩
abbrev main_call0_v1 : Ref sig .tc := ⟨.hbm, 13, rfl⟩
abbrev main_v4 : Ref sig .tc := ⟨.hbm, 14, rfl⟩
abbrev main_c_1 : Ref sig .tc := ⟨.hbm, 15, rfl⟩
abbrev main_v5 : Ref sig .tc := ⟨.hbm, 16, rfl⟩
abbrev main_v6 : Ref sig .tc := ⟨.hbm, 17, rfl⟩
abbrev main_cst_2 : Ref sig .tc := ⟨.hbm, 18, rfl⟩
abbrev main_call1_v0 : Ref sig .tc := ⟨.hbm, 19, rfl⟩
abbrev main_call1_v1 : Ref sig .tc := ⟨.hbm, 20, rfl⟩
abbrev main_v7 : Ref sig .tc := ⟨.hbm, 21, rfl⟩
abbrev main_c_3 : Ref sig .tc := ⟨.hbm, 22, rfl⟩
abbrev main_v8 : Ref sig .tc := ⟨.hbm, 23, rfl⟩
abbrev main_v9 : Ref sig .tc := ⟨.hbm, 24, rfl⟩
abbrev main_cst_4 : Ref sig .tc := ⟨.hbm, 25, rfl⟩
abbrev main_call2_v0 : Ref sig .tc := ⟨.hbm, 26, rfl⟩
abbrev main_call2_v1 : Ref sig .tc := ⟨.hbm, 27, rfl⟩
abbrev main_v10 : Ref sig .tc := ⟨.hbm, 28, rfl⟩
abbrev main_c_5 : Ref sig .tc := ⟨.hbm, 29, rfl⟩
abbrev main_v11 : Ref sig .tc := ⟨.hbm, 30, rfl⟩
abbrev main_v12 : Ref sig .tc := ⟨.hbm, 31, rfl⟩
abbrev main_cst_6 : Ref sig .tc := ⟨.hbm, 32, rfl⟩
abbrev main_call3_v0 : Ref sig .tc := ⟨.hbm, 33, rfl⟩
abbrev main_call3_v1 : Ref sig .tc := ⟨.hbm, 34, rfl⟩
abbrev main_v13 : Ref sig .tc := ⟨.hbm, 35, rfl⟩
abbrev main_c_7 : Ref sig .tc := ⟨.hbm, 36, rfl⟩
abbrev main_v14 : Ref sig .tc := ⟨.hbm, 37, rfl⟩
abbrev main_v15 : Ref sig .tc := ⟨.hbm, 38, rfl⟩
abbrev main_cst_8 : Ref sig .tc := ⟨.hbm, 39, rfl⟩
abbrev main_call4_v0 : Ref sig .tc := ⟨.hbm, 40, rfl⟩
abbrev main_call4_v1 : Ref sig .tc := ⟨.hbm, 41, rfl⟩
abbrev main_v16 : Ref sig .tc := ⟨.hbm, 42, rfl⟩
abbrev main_c_9 : Ref sig .tc := ⟨.hbm, 43, rfl⟩
abbrev main_v17 : Ref sig .tc := ⟨.hbm, 44, rfl⟩
abbrev main_v18 : Ref sig .tc := ⟨.hbm, 45, rfl⟩
abbrev main_cst_10 : Ref sig .tc := ⟨.hbm, 46, rfl⟩
abbrev main_call5_v0 : Ref sig .tc := ⟨.hbm, 47, rfl⟩
abbrev main_call5_v1 : Ref sig .tc := ⟨.hbm, 48, rfl⟩
abbrev main_v19 : Ref sig .tc := ⟨.hbm, 49, rfl⟩
abbrev main_c_11 : Ref sig .tc := ⟨.hbm, 50, rfl⟩
abbrev main_v20 : Ref sig .tc := ⟨.hbm, 51, rfl⟩
abbrev main_v21 : Ref sig .tc := ⟨.hbm, 52, rfl⟩
abbrev main_cst_12 : Ref sig .tc := ⟨.hbm, 53, rfl⟩
abbrev main_call6_v0 : Ref sig .tc := ⟨.hbm, 54, rfl⟩
abbrev main_call6_v1 : Ref sig .tc := ⟨.hbm, 55, rfl⟩
abbrev main_v22 : Ref sig .tc := ⟨.hbm, 56, rfl⟩
abbrev main_c_13 : Ref sig .tc := ⟨.hbm, 57, rfl⟩
abbrev main_v23 : Ref sig .tc := ⟨.hbm, 58, rfl⟩
abbrev main_v24 : Ref sig .tc := ⟨.hbm, 59, rfl⟩
abbrev main_cst_14 : Ref sig .tc := ⟨.hbm, 60, rfl⟩
abbrev main_call7_v0 : Ref sig .tc := ⟨.hbm, 61, rfl⟩
abbrev main_call7_v1 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_cst_15 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_cst_16 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_cst_17 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_cst_18 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_cst_19 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_c_20 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_c_21 : Ref sig .tc := ⟨.hbm, 103, rfl⟩
abbrev main_v59 : Ref sig .tc := ⟨.hbm, 104, rfl⟩
abbrev main_v60 : Ref sig .tc := ⟨.hbm, 105, rfl⟩
abbrev main_c_22 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_c_23 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_c_24 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_c_25 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_cst_26 : Ref sig .tc := ⟨.hbm, 141, rfl⟩
abbrev main_call8_v0 : Ref sig .tc := ⟨.hbm, 142, rfl⟩
abbrev main_v92_1 : Ref sig .tc := ⟨.hbm, 143, rfl⟩
abbrev main_call8_v2 : Ref sig .tc := ⟨.hbm, 144, rfl⟩
abbrev main_v92_0 : Ref sig .tc := ⟨.hbm, 145, rfl⟩
abbrev main_call8_cst : Ref sig .tc := ⟨.hbm, 146, rfl⟩
abbrev main_v92_2 : Ref sig .tc := ⟨.hbm, 147, rfl⟩
abbrev main_cst_27 : Ref sig .tc := ⟨.hbm, 148, rfl⟩
abbrev main_v93 : Ref sig .tc := ⟨.hbm, 149, rfl⟩
abbrev main_v94 : Ref sig .tc := ⟨.hbm, 150, rfl⟩
abbrev main_v95 : Ref sig .tc := ⟨.hbm, 151, rfl⟩
abbrev main_v96 : Ref sig .tc := ⟨.hbm, 152, rfl⟩
abbrev main_v97 : Ref sig .tc := ⟨.hbm, 153, rfl⟩
abbrev main_cst_28 : Ref sig .tc := ⟨.hbm, 154, rfl⟩
abbrev main_v98 : Ref sig .tc := ⟨.hbm, 155, rfl⟩
abbrev main_v99 : Ref sig .tc := ⟨.hbm, 156, rfl⟩
abbrev main_v100 : Ref sig .tc := ⟨.hbm, 157, rfl⟩
abbrev main_v101 : Ref sig .tc := ⟨.hbm, 158, rfl⟩
abbrev main_v102 : Ref sig .tc := ⟨.hbm, 159, rfl⟩
abbrev main_cst_29 : Ref sig .tc := ⟨.hbm, 160, rfl⟩
abbrev main_v103 : Ref sig .tc := ⟨.hbm, 161, rfl⟩
abbrev main_v104 : Ref sig .tc := ⟨.hbm, 162, rfl⟩
abbrev main_v105 : Ref sig .tc := ⟨.hbm, 163, rfl⟩
abbrev main_v106 : Ref sig .tc := ⟨.hbm, 164, rfl⟩
abbrev main_v107 : Ref sig .tc := ⟨.hbm, 165, rfl⟩
abbrev main_v108 : Ref sig .tc := ⟨.hbm, 166, rfl⟩
abbrev main_v109 : Ref sig .tc := ⟨.hbm, 167, rfl⟩
abbrev main_v110 : Ref sig .tc := ⟨.hbm, 168, rfl⟩
abbrev main_cst_30 : Ref sig .tc := ⟨.hbm, 169, rfl⟩
abbrev main_v111 : Ref sig .tc := ⟨.hbm, 170, rfl⟩
abbrev main_v112 : Ref sig .tc := ⟨.hbm, 171, rfl⟩
abbrev main_v113 : Ref sig .tc := ⟨.hbm, 172, rfl⟩
abbrev main_v114 : Ref sig .tc := ⟨.hbm, 173, rfl⟩
abbrev main_v115 : Ref sig .tc := ⟨.hbm, 174, rfl⟩
abbrev main_v116 : Ref sig .tc := ⟨.hbm, 175, rfl⟩
abbrev main_v117 : Ref sig .tc := ⟨.hbm, 176, rfl⟩
abbrev main_v118 : Ref sig .tc := ⟨.hbm, 177, rfl⟩
abbrev main_v119 : Ref sig .tc := ⟨.hbm, 178, rfl⟩
abbrev main_v120 : Ref sig .tc := ⟨.hbm, 179, rfl⟩
abbrev main_v121 : Ref sig .tc := ⟨.hbm, 180, rfl⟩
abbrev main_v122 : Ref sig .tc := ⟨.hbm, 181, rfl⟩
abbrev main_v123 : Ref sig .tc := ⟨.hbm, 182, rfl⟩
abbrev main_v124 : Ref sig .tc := ⟨.hbm, 183, rfl⟩
abbrev main_v125 : Ref sig .tc := ⟨.hbm, 184, rfl⟩
abbrev main_v126 : Ref sig .tc := ⟨.hbm, 185, rfl⟩
abbrev main_v127 : Ref sig .tc := ⟨.hbm, 186, rfl⟩
abbrev main_v128 : Ref sig .tc := ⟨.hbm, 187, rfl⟩
abbrev main_v129 : Ref sig .tc := ⟨.hbm, 188, rfl⟩
abbrev main_v130 : Ref sig .tc := ⟨.hbm, 189, rfl⟩
abbrev main_v131 : Ref sig .tc := ⟨.hbm, 190, rfl⟩
abbrev main_v132 : Ref sig .tc := ⟨.hbm, 191, rfl⟩
abbrev main_v133 : Ref sig .tc := ⟨.hbm, 192, rfl⟩
abbrev main_v134 : Ref sig .tc := ⟨.hbm, 193, rfl⟩
abbrev main_cst_31 : Ref sig .tc := ⟨.hbm, 194, rfl⟩
abbrev main_v135 : Ref sig .tc := ⟨.hbm, 195, rfl⟩
abbrev main_v136 : Ref sig .tc := ⟨.hbm, 196, rfl⟩
abbrev main_v137 : Ref sig .tc := ⟨.hbm, 197, rfl⟩
abbrev main_v138 : Ref sig .tc := ⟨.hbm, 198, rfl⟩
abbrev main_v139 : Ref sig .tc := ⟨.hbm, 199, rfl⟩
abbrev main_cst_32 : Ref sig .tc := ⟨.hbm, 200, rfl⟩
abbrev main_v140 : Ref sig .tc := ⟨.hbm, 201, rfl⟩
abbrev main_v141 : Ref sig .tc := ⟨.hbm, 202, rfl⟩
abbrev main_v142 : Ref sig .tc := ⟨.hbm, 203, rfl⟩
abbrev main_v143 : Ref sig .tc := ⟨.hbm, 204, rfl⟩
abbrev main_v144 : Ref sig .tc := ⟨.hbm, 205, rfl⟩
abbrev main_v145 : Ref sig .tc := ⟨.hbm, 206, rfl⟩
abbrev main_v146 : Ref sig .tc := ⟨.hbm, 207, rfl⟩
abbrev main_v147 : Ref sig .tc := ⟨.hbm, 208, rfl⟩
abbrev main_v148 : Ref sig .tc := ⟨.hbm, 209, rfl⟩
abbrev main_v149 : Ref sig .tc := ⟨.hbm, 210, rfl⟩
abbrev main_v150 : Ref sig .tc := ⟨.hbm, 211, rfl⟩
abbrev main_cst_33 : Ref sig .tc := ⟨.hbm, 212, rfl⟩
abbrev main_v151 : Ref sig .tc := ⟨.hbm, 213, rfl⟩
abbrev main_v152 : Ref sig .tc := ⟨.hbm, 214, rfl⟩
abbrev main_v153 : Ref sig .tc := ⟨.hbm, 215, rfl⟩
abbrev main_cst_34 : Ref sig .tc := ⟨.hbm, 216, rfl⟩
abbrev main_v154 : Ref sig .tc := ⟨.hbm, 217, rfl⟩
abbrev main_v155 : Ref sig .tc := ⟨.hbm, 218, rfl⟩
abbrev main_v156 : Ref sig .tc := ⟨.hbm, 219, rfl⟩
abbrev main_v157 : Ref sig .tc := ⟨.hbm, 220, rfl⟩
abbrev main_v158 : Ref sig .tc := ⟨.hbm, 221, rfl⟩
abbrev main_call9_cst : Ref sig .tc := ⟨.hbm, 222, rfl⟩
abbrev main_call9_v0 : Ref sig .tc := ⟨.hbm, 223, rfl⟩
abbrev main_v159 : Ref sig .tc := ⟨.hbm, 224, rfl⟩
abbrev main_cst_35 : Ref sig .tc := ⟨.hbm, 225, rfl⟩
abbrev main_v160 : Ref sig .tc := ⟨.hbm, 226, rfl⟩
abbrev main_v161 : Ref sig .tc := ⟨.hbm, 227, rfl⟩
abbrev main_v162 : Ref sig .tc := ⟨.hbm, 228, rfl⟩
abbrev main_v163 : Ref sig .tc := ⟨.hbm, 229, rfl⟩
abbrev main_v164 : Ref sig .tc := ⟨.hbm, 230, rfl⟩
abbrev main_v165 : Ref sig .tc := ⟨.hbm, 231, rfl⟩
abbrev main_v166 : Ref sig .tc := ⟨.hbm, 232, rfl⟩
abbrev main_v167 : Ref sig .tc := ⟨.hbm, 233, rfl⟩
abbrev main_v168 : Ref sig .tc := ⟨.hbm, 234, rfl⟩
abbrev main_v169 : Ref sig .tc := ⟨.hbm, 235, rfl⟩
abbrev main_cst_36 : Ref sig .tc := ⟨.hbm, 236, rfl⟩
abbrev main_v170 : Ref sig .tc := ⟨.hbm, 237, rfl⟩
abbrev main_v171 : Ref sig .tc := ⟨.hbm, 238, rfl⟩
abbrev main_v172 : Ref sig .tc := ⟨.hbm, 239, rfl⟩
abbrev main_v173 : Ref sig .tc := ⟨.hbm, 240, rfl⟩
abbrev main_v174 : Ref sig .tc := ⟨.hbm, 241, rfl⟩
abbrev main_v175 : Ref sig .tc := ⟨.hbm, 242, rfl⟩
abbrev main_v176 : Ref sig .tc := ⟨.hbm, 243, rfl⟩
abbrev main_v177 : Ref sig .tc := ⟨.hbm, 244, rfl⟩
abbrev main_v178 : Ref sig .tc := ⟨.hbm, 245, rfl⟩
abbrev main_cst_37 : Ref sig .tc := ⟨.hbm, 246, rfl⟩
abbrev main_v179 : Ref sig .tc := ⟨.hbm, 247, rfl⟩
abbrev main_v180 : Ref sig .tc := ⟨.hbm, 248, rfl⟩
abbrev main_v181 : Ref sig .tc := ⟨.hbm, 249, rfl⟩
abbrev main_v182 : Ref sig .tc := ⟨.hbm, 250, rfl⟩
abbrev main_v183 : Ref sig .tc := ⟨.hbm, 251, rfl⟩
abbrev main_v184 : Ref sig .tc := ⟨.hbm, 252, rfl⟩
abbrev main_v185 : Ref sig .tc := ⟨.hbm, 253, rfl⟩
abbrev main_v186 : Ref sig .tc := ⟨.hbm, 254, rfl⟩
abbrev main_v187 : Ref sig .tc := ⟨.hbm, 255, rfl⟩
abbrev main_v188 : Ref sig .tc := ⟨.hbm, 256, rfl⟩
abbrev main_v189 : Ref sig .tc := ⟨.hbm, 257, rfl⟩
abbrev main_v190 : Ref sig .tc := ⟨.hbm, 258, rfl⟩
abbrev main_v191 : Ref sig .tc := ⟨.hbm, 259, rfl⟩
abbrev main_v192 : Ref sig .tc := ⟨.hbm, 260, rfl⟩

abbrev nD : Nat := 1
abbrev τ : Topo := Topo.v7x

variable {F : FTy → Type} [FloatOps F]
-- ==== Kernel2.lean ====
abbrev S4096x10240 : Shape := ⟨2, ![4096, 10240]⟩
abbrev S10304x2048 : Shape := ⟨2, ![10304, 2048]⟩
abbrev S4096x2048 : Shape := ⟨2, ![4096, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x10240, .bf16⟩
  | .hbm, ⟨1, _⟩ => ⟨S10304x2048, .bf16⟩
  | .hbm, ⟨2, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 5], ![false, false, false]⟩

def k0_cond3 (i : grid0.Coords) : BitVec 1 :=
  let arg2 : BitVec 32 := BitVec.ofNat 32 (i 2).val
  let c4_i32_3 : BitVec 32 := 4#32
  let v8 : BitVec 1 := Scalar.cmpi .eq arg2 c4_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S4096x10240 : Shape := ⟨2, ![4096, 10240]⟩
abbrev S10304x2048 : Shape := ⟨2, ![10304, 2048]⟩
abbrev S_ : Shape := ⟨0, ![]⟩
abbrev S4096x2048 : Shape := ⟨2, ![4096, 2048]⟩
abbrev S10240x2048 : Shape := ⟨2, ![10240, 2048]⟩
abbrev S2048x10240 : Shape := ⟨2, ![2048, 10240]⟩

abbrev nBuf : Space → Nat
  | .hbm => 11
  | .vmem => 0
  | .smem => 0
  | _ => 0

abbrev bufTy : (tb : Table) → Fin (tcTables nBuf tb) → BufTy
  | .hbm, ⟨0, _⟩ => ⟨S4096x10240, .bf16⟩
  | .hbm, ⟨1, _⟩ => ⟨S10304x2048, .bf16⟩
  | .hbm, ⟨2, _⟩ => ⟨S_, .f32⟩
  | .hbm, ⟨3, _⟩ => ⟨S4096x2048, .f32⟩
  | .hbm, ⟨4, _⟩ => ⟨S10240x2048, .bf16⟩
  | .hbm, ⟨5, _⟩ => ⟨S10240x2048, .f32⟩
  | .hbm, ⟨6, _⟩ => ⟨S2048x10240, .f32⟩
  | .hbm, ⟨7, _⟩ => ⟨S4096x10240, .f32⟩
  | .hbm, ⟨8, _⟩ => ⟨S4096x10240, .f32⟩
  | .hbm, ⟨9, _⟩ => ⟨S4096x2048, .f32⟩
  | .hbm, ⟨10, _⟩ => ⟨S4096x2048, .bf16⟩
  | _, _ => ⟨S4096x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel3.lean ====
abbrev S4096x10240 : Shape := ⟨2, ![4096, 10240]⟩
abbrev S4096x2048 : Shape := ⟨2, ![4096, 2048]⟩
abbrev S10240x2048 : Shape := ⟨2, ![10240, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x10240, .bf16⟩
  | .hbm, ⟨1, _⟩ => ⟨S4096x2048, .bf16⟩
  | .hbm, ⟨2, _⟩ => ⟨S10240x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![10, 2, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x10240 : Shape := ⟨2, ![4096, 10240]⟩
abbrev S4096x2048 : Shape := ⟨2, ![4096, 2048]⟩
abbrev S_ : Shape := ⟨0, ![]⟩
abbrev S10240x2048 : Shape := ⟨2, ![10240, 2048]⟩
abbrev S2048x10240 : Shape := ⟨2, ![2048, 10240]⟩

abbrev nBuf : Space → Nat
  | .hbm => 12
  | .vmem => 0
  | .smem => 0
  | _ => 0

abbrev bufTy : (tb : Table) → Fin (tcTables nBuf tb) → BufTy
  | .hbm, ⟨0, _⟩ => ⟨S4096x10240, .bf16⟩
  | .hbm, ⟨1, _⟩ => ⟨S4096x2048, .bf16⟩
  | .hbm, ⟨2, _⟩ => ⟨S_, .f32⟩
  | .hbm, ⟨3, _⟩ => ⟨S10240x2048, .f32⟩
  | .hbm, ⟨4, _⟩ => ⟨S4096x2048, .f32⟩
  | .hbm, ⟨5, _⟩ => ⟨S2048x10240, .f32⟩
  | .hbm, ⟨6, _⟩ => ⟨S4096x10240, .f32⟩
  | .hbm, ⟨7, _⟩ => ⟨S4096x10240, .f32⟩
  | .hbm, ⟨8, _⟩ => ⟨S10240x2048, .f32⟩
  | .hbm, ⟨9, _⟩ => ⟨S2048x10240, .f32⟩
  | .hbm, ⟨10, _⟩ => ⟨S10240x2048, .f32⟩
  | .hbm, ⟨11, _⟩ => ⟨S10240x2048, .bf16⟩
  | _, _ => ⟨S4096x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel4.lean ====
abbrev S4096x6144 : Shape := ⟨2, ![4096, 6144]⟩
abbrev S4x2048x1536 : Shape := ⟨3, ![4, 2048, 1536]⟩
abbrev S4096x2048 : Shape := ⟨2, ![4096, 2048]⟩
abbrev S1024x1536 : Shape := ⟨2, ![1024, 1536]⟩
abbrev S1x1024x1536 : Shape := ⟨3, ![1, 1024, 1536]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x6144, .bf16⟩
  | .hbm, ⟨1, _⟩ => ⟨S4x2048x1536, .bf16⟩
  | .hbm, ⟨2, _⟩ => ⟨S4096x2048, .bf16⟩
  | .local _ .vmem, ⟨0, _⟩ => ⟨S1024x1536, .bf16⟩
  | .local _ .vmem, ⟨1, _⟩ => ⟨S1024x1536, .bf16⟩
  | .local _ .vmem, ⟨2, _⟩ => ⟨S1x1024x1536, .bf16⟩
  | .local _ .vmem, ⟨3, _⟩ => ⟨S1x1024x1536, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x6144 : Shape := ⟨2, ![4096, 6144]⟩
abbrev S4x2048x1536 : Shape := ⟨3, ![4, 2048, 1536]⟩
abbrev S_ : Shape := ⟨0, ![]⟩
abbrev S4096x2048 : Shape := ⟨2, ![4096, 2048]⟩
abbrev S2048x4x1536 : Shape := ⟨3, ![2048, 4, 1536]⟩
abbrev S2048x6144 : Shape := ⟨2, ![2048, 6144]⟩

abbrev nBuf : Space → Nat
  | .hbm => 11
  | .vmem => 0
  | .smem => 0
  | _ => 0

abbrev bufTy : (tb : Table) → Fin (tcTables nBuf tb) → BufTy
  | .hbm, ⟨0, _⟩ => ⟨S4096x6144, .bf16⟩
  | .hbm, ⟨1, _⟩ => ⟨S4x2048x1536, .bf16⟩
  | .hbm, ⟨2, _⟩ => ⟨S_, .f32⟩
  | .hbm, ⟨3, _⟩ => ⟨S4096x2048, .f32⟩
  | .hbm, ⟨4, _⟩ => ⟨S4x2048x1536, .f32⟩
  | .hbm, ⟨5, _⟩ => ⟨S2048x4x1536, .f32⟩
  | .hbm, ⟨6, _⟩ => ⟨S2048x6144, .f32⟩
  | .hbm, ⟨7, _⟩ => ⟨S4096x6144, .f32⟩
  | .hbm, ⟨8, _⟩ => ⟨S4096x6144, .f32⟩
  | .hbm, ⟨9, _⟩ => ⟨S4096x2048, .f32⟩
  | .hbm, ⟨10, _⟩ => ⟨S4096x2048, .bf16⟩
  | _, _ => ⟨S4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel5.lean ====
abbrev S4096x2048 : Shape := ⟨2, ![4096, 2048]⟩
abbrev S4096x6144 : Shape := ⟨2, ![4096, 6144]⟩
abbrev S4x2048x1536 : Shape := ⟨3, ![4, 2048, 1536]⟩
abbrev S2048x1024 : Shape := ⟨2, ![2048, 1024]⟩
abbrev S2048x768 : Shape := ⟨2, ![2048, 768]⟩
abbrev S1x1024x768 : Shape := ⟨3, ![1, 1024, 768]⟩
abbrev S1024x768 : Shape := ⟨2, ![1024, 768]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x6144, .bf16⟩
  | .hbm, ⟨2, _⟩ => ⟨S4x2048x1536, .bf16⟩
  | .local _ .vmem, ⟨0, _⟩ => ⟨S2048x1024, .bf16⟩
  | .local _ .vmem, ⟨1, _⟩ => ⟨S2048x1024, .bf16⟩
  | .local _ .vmem, ⟨2, _⟩ => ⟨S2048x768, .bf16⟩
  | .local _ .vmem, ⟨3, _⟩ => ⟨S2048x768, .bf16⟩
  | .local _ .vmem, ⟨4, _⟩ => ⟨S1x1024x768, .bf16⟩
  | .local _ .vmem, ⟨5, _⟩ => ⟨S1x1024x768, .bf16⟩
  | .local _ .vmem, ⟨6, _⟩ => ⟨S1024x768, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x2048 : Shape := ⟨2, ![4096, 2048]⟩
abbrev S4096x6144 : Shape := ⟨2, ![4096, 6144]⟩
abbrev S_ : Shape := ⟨0, ![]⟩
abbrev S4x2048x1536 : Shape := ⟨3, ![4, 2048, 1536]⟩
abbrev S2048x4x1536 : Shape := ⟨3, ![2048, 4, 1536]⟩
abbrev S2048x6144 : Shape := ⟨2, ![2048, 6144]⟩
abbrev S6144x2048 : Shape := ⟨2, ![6144, 2048]⟩

abbrev nBuf : Space → Nat
  | .hbm => 14
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x6144, .bf16⟩
  | .hbm, ⟨2, _⟩ => ⟨S_, .f32⟩
  | .hbm, ⟨3, _⟩ => ⟨S4x2048x1536, .f32⟩
  | .hbm, ⟨4, _⟩ => ⟨S4096x2048, .f32⟩
  | .hbm, ⟨5, _⟩ => ⟨S2048x4x1536, .f32⟩
  | .hbm, ⟨6, _⟩ => ⟨S2048x6144, .f32⟩
  | .hbm, ⟨7, _⟩ => ⟨S4096x6144, .f32⟩
  | .hbm, ⟨8, _⟩ => ⟨S4096x6144, .f32⟩
  | .hbm, ⟨9, _⟩ => ⟨S6144x2048, .f32⟩
  | .hbm, ⟨10, _⟩ => ⟨S2048x6144, .f32⟩
  | .hbm, ⟨11, _⟩ => ⟨S2048x4x1536, .f32⟩
  | .hbm, ⟨12, _⟩ => ⟨S4x2048x1536, .f32⟩
  | .hbm, ⟨13, _⟩ => ⟨S4x2048x1536, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel6.lean ====
abbrev S4096x4096 : Shape := ⟨2, ![4096, 4096]⟩
abbrev S4096x2048 : Shape := ⟨2, ![4096, 2048]⟩
abbrev S4x1024x2048 : Shape := ⟨3, ![4, 1024, 2048]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S4x1024x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x4096 : Shape := ⟨2, ![4096, 4096]⟩
abbrev S4096x2048 : Shape := ⟨2, ![4096, 2048]⟩
abbrev S_ : Shape := ⟨0, ![]⟩
abbrev S4x1024x2048 : Shape := ⟨3, ![4, 1024, 2048]⟩
abbrev S2048x4096 : Shape := ⟨2, ![2048, 4096]⟩

abbrev nBuf : Space → Nat
  | .hbm => 12
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S_, .f32⟩
  | .hbm, ⟨3, _⟩ => ⟨S4x1024x2048, .f32⟩
  | .hbm, ⟨4, _⟩ => ⟨S4096x4096, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S2048x4096, .f32⟩
  | .hbm, ⟨9, _⟩ => ⟨S4096x2048, .f32⟩
  | .hbm, ⟨10, _⟩ => ⟨S4x1024x2048, .f32⟩
  | .hbm, ⟨11, _⟩ => ⟨S4x1024x2048, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel7.lean ====
abbrev S4096x2048 : Shape := ⟨2, ![4096, 2048]⟩
abbrev S4x1024x2048 : Shape := ⟨3, ![4, 1024, 2048]⟩
abbrev S4096x4096 : Shape := ⟨2, ![4096, 4096]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4x1024x2048, .bf16⟩
  | .hbm, ⟨2, _⟩ => ⟨S4096x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4096x2048 : Shape := ⟨2, ![4096, 2048]⟩
abbrev S4x1024x2048 : Shape := ⟨3, ![4, 1024, 2048]⟩
abbrev S_ : Shape := ⟨0, ![]⟩
abbrev S4096x4096 : Shape := ⟨2, ![4096, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x1024x2048, .bf16⟩
  | .hbm, ⟨2, _⟩ => ⟨S_, .f32⟩
  | .hbm, ⟨3, _⟩ => ⟨S4096x4096, .f32⟩
  | .hbm, ⟨4, _⟩ => ⟨S4x1024x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x4096, .f32⟩
  | .hbm, ⟨9, _⟩ => ⟨S4096x4096, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel8.lean ====
abbrev S4096x2048 : Shape := ⟨2, ![4096, 2048]⟩
abbrev S4096x4096 : Shape := ⟨2, ![4096, 4096]⟩
abbrev S4x2048x1024 : Shape := ⟨3, ![4, 2048, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x4096, .bf16⟩
  | .hbm, ⟨2, _⟩ => ⟨S4x2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x2048 : Shape := ⟨2, ![4096, 2048]⟩
abbrev S4096x4096 : Shape := ⟨2, ![4096, 4096]⟩
abbrev S_ : Shape := ⟨0, ![]⟩
abbrev S4x2048x1024 : Shape := ⟨3, ![4, 2048, 1024]⟩
abbrev S2048x4x1024 : Shape := ⟨3, ![2048, 4, 1024]⟩
abbrev S2048x4096 : Shape := ⟨2, ![2048, 4096]⟩

abbrev nBuf : Space → Nat
  | .hbm => 14
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x4096, .bf16⟩
  | .hbm, ⟨2, _⟩ => ⟨S_, .f32⟩
  | .hbm, ⟨3, _⟩ => ⟨S4x2048x1024, .f32⟩
  | .hbm, ⟨4, _⟩ => ⟨S4096x2048, .f32⟩
  | .hbm, ⟨5, _⟩ => ⟨S2048x4x1024, .f32⟩
  | .hbm, ⟨6, _⟩ => ⟨S2048x4096, .f32⟩
  | .hbm, ⟨7, _⟩ => ⟨S4096x4096, .f32⟩
  | .hbm, ⟨8, _⟩ => ⟨S4096x4096, .f32⟩
  | .hbm, ⟨9, _⟩ => ⟨S4096x2048, .f32⟩
  | .hbm, ⟨10, _⟩ => ⟨S2048x4096, .f32⟩
  | .hbm, ⟨11, _⟩ => ⟨S2048x4x1024, .f32⟩
  | .hbm, ⟨12, _⟩ => ⟨S4x2048x1024, .f32⟩
  | .hbm, ⟨13, _⟩ => ⟨S4x2048x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel9.lean ====
abbrev S4096x4096 : Shape := ⟨2, ![4096, 4096]⟩
abbrev S4x2048x1024 : Shape := ⟨3, ![4, 2048, 1024]⟩
abbrev S4096x2048 : Shape := ⟨2, ![4096, 2048]⟩
abbrev S1024x1024 : Shape := ⟨2, ![1024, 1024]⟩
abbrev S1x1024x1024 : Shape := ⟨3, ![1, 1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4x2048x1024, .bf16⟩
  | .hbm, ⟨2, _⟩ => ⟨S4096x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4096x4096 : Shape := ⟨2, ![4096, 4096]⟩
abbrev S4x2048x1024 : Shape := ⟨3, ![4, 2048, 1024]⟩
abbrev S_ : Shape := ⟨0, ![]⟩
abbrev S4096x2048 : Shape := ⟨2, ![4096, 2048]⟩
abbrev S2048x4x1024 : Shape := ⟨3, ![2048, 4, 1024]⟩
abbrev S2048x4096 : Shape := ⟨2, ![2048, 4096]⟩

abbrev nBuf : Space → Nat
  | .hbm => 11
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4x2048x1024, .bf16⟩
  | .hbm, ⟨2, _⟩ => ⟨S_, .f32⟩
  | .hbm, ⟨3, _⟩ => ⟨S4096x2048, .f32⟩
  | .hbm, ⟨4, _⟩ => ⟨S4x2048x1024, .f32⟩
  | .hbm, ⟨5, _⟩ => ⟨S2048x4x1024, .f32⟩
  | .hbm, ⟨6, _⟩ => ⟨S2048x4096, .f32⟩
  | .hbm, ⟨7, _⟩ => ⟨S4096x4096, .f32⟩
  | .hbm, ⟨8, _⟩ => ⟨S4096x4096, .f32⟩
  | .hbm, ⟨9, _⟩ => ⟨S4096x2048, .f32⟩
  | .hbm, ⟨10, _⟩ => ⟨S4096x2048, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel10.lean ====
abbrev S4096x1024 : Shape := ⟨2, ![4096, 1024]⟩
abbrev S4096x2048 : Shape := ⟨2, ![4096, 2048]⟩
abbrev S4x1024x512 : Shape := ⟨3, ![4, 1024, 512]⟩
abbrev S2048x1024 : Shape := ⟨2, ![2048, 1024]⟩
abbrev S2048x512 : Shape := ⟨2, ![2048, 512]⟩
abbrev S1x1024x512 : Shape := ⟨3, ![1, 1024, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S4x1024x512, .bf16⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4096x1024 : Shape := ⟨2, ![4096, 1024]⟩
abbrev S4096x2048 : Shape := ⟨2, ![4096, 2048]⟩
abbrev S_ : Shape := ⟨0, ![]⟩
abbrev S4x1024x512 : Shape := ⟨3, ![4, 1024, 512]⟩
abbrev S1024x4x512 : Shape := ⟨3, ![1024, 4, 512]⟩
abbrev S1024x2048 : Shape := ⟨2, ![1024, 2048]⟩
abbrev S2048x1024 : Shape := ⟨2, ![2048, 1024]⟩

abbrev nBuf : Space → Nat
  | .hbm => 14
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S_, .f32⟩
  | .hbm, ⟨3, _⟩ => ⟨S4x1024x512, .f32⟩
  | .hbm, ⟨4, _⟩ => ⟨S4096x1024, .f32⟩
  | .hbm, ⟨5, _⟩ => ⟨S1024x4x512, .f32⟩
  | .hbm, ⟨6, _⟩ => ⟨S1024x2048, .f32⟩
  | .hbm, ⟨7, _⟩ => ⟨S4096x2048, .f32⟩
  | .hbm, ⟨8, _⟩ => ⟨S4096x2048, .f32⟩
  | .hbm, ⟨9, _⟩ => ⟨S2048x1024, .f32⟩
  | .hbm, ⟨10, _⟩ => ⟨S1024x2048, .f32⟩
  | .hbm, ⟨11, _⟩ => ⟨S1024x4x512, .f32⟩
  | .hbm, ⟨12, _⟩ => ⟨S4x1024x512, .f32⟩
  | .hbm, ⟨13, _⟩ => ⟨S4x1024x512, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel11.lean ====
abbrev S4096x2048 : Shape := ⟨2, ![4096, 2048]⟩
abbrev S4x1024x512 : Shape := ⟨3, ![4, 1024, 512]⟩
abbrev S4096x1024 : Shape := ⟨2, ![4096, 1024]⟩
abbrev S1024x512 : Shape := ⟨2, ![1024, 512]⟩
abbrev S1x1024x512 : Shape := ⟨3, ![1, 1024, 512]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4x1024x512, .bf16⟩
  | .hbm, ⟨2, _⟩ => ⟨S4096x1024, .bf16⟩
  | .local _ .vmem, ⟨0, _⟩ => ⟨S1024x512, .bf16⟩
  | .local _ .vmem, ⟨1, _⟩ => ⟨S1024x512, .bf16⟩
  | .local _ .vmem, ⟨2, _⟩ => ⟨S1x1024x512, .bf16⟩
  | .local _ .vmem, ⟨3, _⟩ => ⟨S1x1024x512, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4096x2048 : Shape := ⟨2, ![4096, 2048]⟩
abbrev S4x1024x512 : Shape := ⟨3, ![4, 1024, 512]⟩
abbrev S_ : Shape := ⟨0, ![]⟩
abbrev S4096x1024 : Shape := ⟨2, ![4096, 1024]⟩
abbrev S1024x4x512 : Shape := ⟨3, ![1024, 4, 512]⟩
abbrev S1024x2048 : Shape := ⟨2, ![1024, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x1024x512, .bf16⟩
  | .hbm, ⟨2, _⟩ => ⟨S_, .f32⟩
  | .hbm, ⟨3, _⟩ => ⟨S4096x1024, .f32⟩
  | .hbm, ⟨4, _⟩ => ⟨S4x1024x512, .f32⟩
  | .hbm, ⟨5, _⟩ => ⟨S1024x4x512, .f32⟩
  | .hbm, ⟨6, _⟩ => ⟨S1024x2048, .f32⟩
  | .hbm, ⟨7, _⟩ => ⟨S4096x2048, .f32⟩
  | .hbm, ⟨8, _⟩ => ⟨S4096x2048, .f32⟩
  | .hbm, ⟨9, _⟩ => ⟨S4096x1024, .f32⟩
  | .hbm, ⟨10, _⟩ => ⟨S4096x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel12.lean ====
abbrev S4096x2048 : Shape := ⟨2, ![4096, 2048]⟩
abbrev S10304x2048 : Shape := ⟨2, ![10304, 2048]⟩
abbrev S4096x10240 : Shape := ⟨2, ![4096, 10240]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S10304x2048, .bf16⟩
  | .hbm, ⟨2, _⟩ => ⟨S4096x10240, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 10, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S4096x2048 : Shape := ⟨2, ![4096, 2048]⟩
abbrev S10304x2048 : Shape := ⟨2, ![10304, 2048]⟩
abbrev S10240x2048 : Shape := ⟨2, ![10240, 2048]⟩
abbrev S2048x10240 : Shape := ⟨2, ![2048, 10240]⟩
abbrev S4096x10240 : Shape := ⟨2, ![4096, 10240]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S10304x2048, .bf16⟩
  | .hbm, ⟨2, _⟩ => ⟨S4096x2048, .f32⟩
  | .hbm, ⟨3, _⟩ => ⟨S10240x2048, .bf16⟩
  | .hbm, ⟨4, _⟩ => ⟨S10240x2048, .f32⟩
  | .hbm, ⟨5, _⟩ => ⟨S2048x10240, .f32⟩
  | .hbm, ⟨6, _⟩ => ⟨S4096x10240, .f32⟩
  | .hbm, ⟨7, _⟩ => ⟨S4096x10240, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel13.lean ====
abbrev S4096x4096 : Shape := ⟨2, ![4096, 4096]⟩
abbrev S4x1024x2048 : Shape := ⟨3, ![4, 1024, 2048]⟩
abbrev S4096x2048 : Shape := ⟨2, ![4096, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4x1024x2048, .bf16⟩
  | .hbm, ⟨2, _⟩ => ⟨S4096x2048, .bf16⟩
  | .hbm, ⟨3, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S4096x4096 : Shape := ⟨2, ![4096, 4096]⟩
abbrev S4x1024x2048 : Shape := ⟨3, ![4, 1024, 2048]⟩
abbrev S4096x2048 : Shape := ⟨2, ![4096, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4x1024x2048, .bf16⟩
  | .hbm, ⟨2, _⟩ => ⟨S4096x4096, .f32⟩
  | .hbm, ⟨3, _⟩ => ⟨S4x1024x2048, .f32⟩
  | .hbm, ⟨4, _⟩ => ⟨S4096x2048, .f32⟩
  | .hbm, ⟨5, _⟩ => ⟨S4096x2048, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel14.lean ====
abbrev S4096x2048 : Shape := ⟨2, ![4096, 2048]⟩
abbrev S4x2048x1024 : Shape := ⟨3, ![4, 2048, 1024]⟩
abbrev S1x2048x1024 : Shape := ⟨3, ![1, 2048, 1024]⟩
abbrev S2048x1024 : Shape := ⟨2, ![2048, 1024]⟩
abbrev S4096x1024 : Shape := ⟨2, ![4096, 1024]⟩
abbrev S1024x2048 : Shape := ⟨2, ![1024, 2048]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S4x2048x1024, .bf16⟩
  | .hbm, ⟨2, _⟩ => ⟨S1x2048x1024, .bf16⟩
  | .hbm, ⟨3, _⟩ => ⟨S2048x1024, .bf16⟩
  | .hbm, ⟨4, _⟩ => ⟨S4096x1024, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .bf16⟩
  | .local _ .vmem, ⟨4, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S4096x2048 : Shape := ⟨2, ![4096, 2048]⟩
abbrev S4x2048x1024 : Shape := ⟨3, ![4, 2048, 1024]⟩
abbrev S1x2048x1024 : Shape := ⟨3, ![1, 2048, 1024]⟩
abbrev S2048x1024 : Shape := ⟨2, ![2048, 1024]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x2048x1024, .bf16⟩
  | .hbm, ⟨2, _⟩ => ⟨S4096x2048, .f32⟩
  | .hbm, ⟨3, _⟩ => ⟨S1x2048x1024, .bf16⟩
  | .hbm, ⟨4, _⟩ => ⟨S2048x1024, .bf16⟩
  | .hbm, ⟨5, _⟩ => ⟨S2048x1024, .f32⟩
  | .hbm, ⟨6, _⟩ => ⟨S4096x1024, .f32⟩
  | .hbm, ⟨7, _⟩ => ⟨S4096x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel15.lean ====
abbrev S4096x1024 : Shape := ⟨2, ![4096, 1024]⟩
abbrev S4x1024x512 : Shape := ⟨3, ![4, 1024, 512]⟩
abbrev S4096x2048 : Shape := ⟨2, ![4096, 2048]⟩
abbrev S1024x1024 : Shape := ⟨2, ![1024, 1024]⟩
abbrev S1x1024x512 : Shape := ⟨3, ![1, 1024, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4x1024x512, .bf16⟩
  | .hbm, ⟨2, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x512, .bf16⟩
  | .local _ .vmem, ⟨3, _⟩ => ⟨S1x1024x512, .bf16⟩
  | .local _ .vmem, ⟨4, _⟩ => ⟨S1024x512, .f32⟩
  | .local _ .vmem, ⟨5, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S4096x1024 : Shape := ⟨2, ![4096, 1024]⟩
abbrev S4x1024x512 : Shape := ⟨3, ![4, 1024, 512]⟩
abbrev S1024x4x512 : Shape := ⟨3, ![1024, 4, 512]⟩
abbrev S1024x2048 : Shape := ⟨2, ![1024, 2048]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x1024x512, .bf16⟩
  | .hbm, ⟨2, _⟩ => ⟨S4096x1024, .f32⟩
  | .hbm, ⟨3, _⟩ => ⟨S4x1024x512, .f32⟩
  | .hbm, ⟨4, _⟩ => ⟨S1024x4x512, .f32⟩
  | .hbm, ⟨5, _⟩ => ⟨S1024x2048, .f32⟩
  | .hbm, ⟨6, _⟩ => ⟨S4096x2048, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel16.lean ====
abbrev S4096x2048 : Shape := ⟨2, ![4096, 2048]⟩
abbrev S4x2048x1536 : Shape := ⟨3, ![4, 2048, 1536]⟩
abbrev S4 : Shape := ⟨1, ![4]⟩
abbrev S1x4096x2048 : Shape := ⟨3, ![1, 4096, 2048]⟩
abbrev S1024x2048 : Shape := ⟨2, ![1024, 2048]⟩
abbrev S1x2048x512 : Shape := ⟨3, ![1, 2048, 512]⟩
abbrev S1 : Shape := ⟨1, ![1]⟩
abbrev S1x1024x512 : Shape := ⟨3, ![1, 1024, 512]⟩
abbrev S2048x512 : Shape := ⟨2, ![2048, 512]⟩
abbrev S1024x512 : Shape := ⟨2, ![1024, 512]⟩

abbrev nBuf : Space → Nat
  | .hbm => 3
  | .vmem => 6
  | .smem => 1
  | _ => 0

abbrev bufTy : (tb : Table) → Fin (tcTables nBuf tb) → BufTy
  | .hbm, ⟨0, _⟩ => ⟨S4096x2048, .bf16⟩
  | .hbm, ⟨1, _⟩ => ⟨S4x2048x1536, .bf16⟩
  | .hbm, ⟨2, _⟩ => ⟨S1x4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x1024x512, .bf16⟩
  | .local _ .vmem, ⟨5, _⟩ => ⟨S1x1024x512, .bf16⟩
  | .local _ .smem, ⟨0, _⟩ => ⟨S4, .i32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S4.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S4) ![v0.toNat] S1.size (k0_off1_inb i)) numel1_S1
  let c3_i32 : BitVec 32 := 3#32
  let v2 : BitVec 32 := Scalar.divsi v1 c3_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c3_i32 c0_i32_1
  let v9 : BitVec 32 := Scalar.extui v8
  let c0_i32_2 : BitVec 32 := 0#32
  let v10 : BitVec 1 := Scalar.cmpi .slt c3_i32 c0_i32_2
  let v11 : BitVec 32 := Scalar.extui v10
  let v12 : BitVec 32 := Scalar.subi v9 v11
  let v13 : BitVec 1 := Scalar.cmpi .ne v7 v12
  let v14 : BitVec 32 := Scalar.remsi v1 c3_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let v19 : Index := Scalar.indexCast arg1
  let v20 : BitVec 32 := pf.at 0 (Rect.unit (s := S4) ![v19.toNat] S1.size (k0_off1_inb i)) numel1_S1
  let c3_i32_4 : BitVec 32 := 3#32
  let c0_i32_5 : BitVec 32 := 0#32
  let v21 : BitVec 1 := Scalar.cmpi .eq c3_i32_4 c0_i32_5
  let c1_i32_6 : BitVec 32 := 1#32
  let v22 : BitVec 32 := Scalar.select v21 c1_i32_6 c3_i32_4
  let v23 : BitVec 32 := Scalar.remsi v20 v22
  let c0_i32_7 : BitVec 32 := 0#32
  let v24 : BitVec 1 := Scalar.cmpi .ne v23 c0_i32_7
  let c0_i32_8 : BitVec 32 := 0#32
  let v25 : BitVec 1 := Scalar.cmpi .slt v23 c0_i32_8
  let c0_i32_9 : BitVec 32 := 0#32
  let v26 : BitVec 1 := Scalar.cmpi .slt v22 c0_i32_9
  let v27 : BitVec 1 := Scalar.xori v25 v26
  let v28 : BitVec 1 := Scalar.andi v27 v24
  let v29 : BitVec 32 := Scalar.addi v23 v22
  let v30 : BitVec 32 := Scalar.select v28 v29 v23
  let c0_i32_10 : BitVec 32 := 0#32
  let c0_i32_11 : BitVec 32 := 0#32
  ![v18.toNat, c0_i32_10.toNat, v30.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference16Ideal.lean ====
abbrev S4096x2048 : Shape := ⟨2, ![4096, 2048]⟩
abbrev S4x2048x1536 : Shape := ⟨3, ![4, 2048, 1536]⟩
abbrev S2048x4x1536 : Shape := ⟨3, ![2048, 4, 1536]⟩
abbrev S2048x6144 : Shape := ⟨2, ![2048, 6144]⟩
abbrev S4096x6144 : Shape := ⟨2, ![4096, 6144]⟩
abbrev S4096x1024 : Shape := ⟨2, ![4096, 1024]⟩
abbrev S4096x1x2048 : Shape := ⟨3, ![4096, 1, 2048]⟩
abbrev S1x4096x2048 : Shape := ⟨3, ![1, 4096, 2048]⟩

abbrev nBuf : Space → Nat
  | .hbm => 13
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x2048x1536, .bf16⟩
  | .hbm, ⟨2, _⟩ => ⟨S4096x2048, .f32⟩
  | .hbm, ⟨3, _⟩ => ⟨S4x2048x1536, .f32⟩
  | .hbm, ⟨4, _⟩ => ⟨S2048x4x1536, .f32⟩
  | .hbm, ⟨5, _⟩ => ⟨S2048x6144, .f32⟩
  | .hbm, ⟨6, _⟩ => ⟨S4096x6144, .f32⟩
  | .hbm, ⟨7, _⟩ => ⟨S4096x1024, .f32⟩
  | .hbm, ⟨8, _⟩ => ⟨S4096x1024, .f32⟩
  | .hbm, ⟨9, _⟩ => ⟨S4096x2048, .f32⟩
  | .hbm, ⟨10, _⟩ => ⟨S4096x1x2048, .f32⟩
  | .hbm, ⟨11, _⟩ => ⟨S1x4096x2048, .f32⟩
  | .hbm, ⟨12, _⟩ => ⟨S1x4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩

abbrev nD : Nat := 1
abbrev τ : Topo := Topo.v7x

variable {F : FTy → Type} [FloatOps F]
-- ==== Kernel17.lean ====
abbrev S4096x2048 : Shape := ⟨2, ![4096, 2048]⟩
abbrev S4x2048x1024 : Shape := ⟨3, ![4, 2048, 1024]⟩
abbrev S1 : Shape := ⟨1, ![1]⟩
abbrev S1x4096x1024 : Shape := ⟨3, ![1, 4096, 1024]⟩
abbrev S1024x2048 : Shape := ⟨2, ![1024, 2048]⟩
abbrev S1x2048x1024 : Shape := ⟨3, ![1, 2048, 1024]⟩
abbrev S1x1024x1024 : Shape := ⟨3, ![1, 1024, 1024]⟩
abbrev S2048x1024 : Shape := ⟨2, ![2048, 1024]⟩
abbrev S1024x1024 : Shape := ⟨2, ![1024, 1024]⟩

abbrev nBuf : Space → Nat
  | .hbm => 3
  | .vmem => 5
  | .smem => 1
  | _ => 0

abbrev bufTy : (tb : Table) → Fin (tcTables nBuf tb) → BufTy
  | .hbm, ⟨0, _⟩ => ⟨S4096x2048, .bf16⟩
  | .hbm, ⟨1, _⟩ => ⟨S4x2048x1024, .bf16⟩
  | .hbm, ⟨2, _⟩ => ⟨S1x4096x1024, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x1024x1024, .bf16⟩
  | .local _ .vmem, ⟨4, _⟩ => ⟨S1x1024x1024, .bf16⟩
  | .local _ .smem, ⟨0, _⟩ => ⟨S1, .i32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S1) ![v0.toNat] S1.size (k0_off1_inb i)) numel1_S1
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c1_i32 c0_i32_1
  let v9 : BitVec 32 := Scalar.extui v8
  let c0_i32_2 : BitVec 32 := 0#32
  let v10 : BitVec 1 := Scalar.cmpi .slt c1_i32 c0_i32_2
  let v11 : BitVec 32 := Scalar.extui v10
  let v12 : BitVec 32 := Scalar.subi v9 v11
  let v13 : BitVec 1 := Scalar.cmpi .ne v7 v12
  let v14 : BitVec 32 := Scalar.remsi v1 c1_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let v19 : Index := Scalar.indexCast arg1
  let v20 : BitVec 32 := pf.at 0 (Rect.unit (s := S1) ![v19.toNat] S1.size (k0_off1_inb i)) numel1_S1
  let c1_i32_5 : BitVec 32 := 1#32
  let c0_i32_6 : BitVec 32 := 0#32
  let v21 : BitVec 1 := Scalar.cmpi .eq c1_i32_5 c0_i32_6
  let c1_i32_7 : BitVec 32 := 1#32
  let v22 : BitVec 32 := Scalar.select v21 c1_i32_7 c1_i32_5
  let v23 : BitVec 32 := Scalar.remsi v20 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c0_i32_11 : BitVec 32 := 0#32
  let c0_i32_12 : BitVec 32 := 0#32
  ![v18.toNat, c0_i32_11.toNat, v30.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference17Ideal.lean ====
abbrev S4096x2048 : Shape := ⟨2, ![4096, 2048]⟩
abbrev S4x2048x1024 : Shape := ⟨3, ![4, 2048, 1024]⟩
abbrev S1x2048x1024 : Shape := ⟨3, ![1, 2048, 1024]⟩
abbrev S2048x1024 : Shape := ⟨2, ![2048, 1024]⟩
abbrev S4096x1024 : Shape := ⟨2, ![4096, 1024]⟩
abbrev S4096x1x1024 : Shape := ⟨3, ![4096, 1, 1024]⟩
abbrev S1x4096x1024 : Shape := ⟨3, ![1, 4096, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x2048x1024, .bf16⟩
  | .hbm, ⟨2, _⟩ => ⟨S4096x2048, .f32⟩
  | .hbm, ⟨3, _⟩ => ⟨S1x2048x1024, .bf16⟩
  | .hbm, ⟨4, _⟩ => ⟨S2048x1024, .bf16⟩
  | .hbm, ⟨5, _⟩ => ⟨S2048x1024, .f32⟩
  | .hbm, ⟨6, _⟩ => ⟨S4096x1024, .f32⟩
  | .hbm, ⟨7, _⟩ => ⟨S4096x1x1024, .f32⟩
  | .hbm, ⟨8, _⟩ => ⟨S1x4096x1024, .f32⟩
  | .hbm, ⟨9, _⟩ => ⟨S1x4096x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== Kernel18.lean ====
abbrev S4096x2048 : Shape := ⟨2, ![4096, 2048]⟩
abbrev S4x2048x1536 : Shape := ⟨3, ![4, 2048, 1536]⟩
abbrev S4 : Shape := ⟨1, ![4]⟩
abbrev S4x1024x2048 : Shape := ⟨3, ![4, 1024, 2048]⟩
abbrev S1024x2048 : Shape := ⟨2, ![1024, 2048]⟩
abbrev S1x2048x512 : Shape := ⟨3, ![1, 2048, 512]⟩
abbrev S1 : Shape := ⟨1, ![1]⟩
abbrev S4x256x512 : Shape := ⟨3, ![4, 256, 512]⟩
abbrev S4x1024x128 : Shape := ⟨3, ![4, 1024, 128]⟩
abbrev S2048x512 : Shape := ⟨2, ![2048, 512]⟩
abbrev S1024x512 : Shape := ⟨2, ![1024, 512]⟩
abbrev S1024x128 : Shape := ⟨2, ![1024, 128]⟩
abbrev S1x1024x128 : Shape := ⟨3, ![1, 1024, 128]⟩
abbrev S256x128 : Shape := ⟨2, ![256, 128]⟩
abbrev S1x256x128 : Shape := ⟨3, ![1, 256, 128]⟩

abbrev nBuf : Space → Nat
  | .hbm => 3
  | .vmem => 7
  | .smem => 1
  | _ => 0

abbrev bufTy : (tb : Table) → Fin (tcTables nBuf tb) → BufTy
  | .hbm, ⟨0, _⟩ => ⟨S4096x2048, .bf16⟩
  | .hbm, ⟨1, _⟩ => ⟨S4x2048x1536, .bf16⟩
  | .hbm, ⟨2, _⟩ => ⟨S4x1024x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S4x256x512, .bf16⟩
  | .local _ .vmem, ⟨5, _⟩ => ⟨S4x256x512, .bf16⟩
  | .local _ .vmem, ⟨6, _⟩ => ⟨S4x1024x128, .f32⟩
  | .local _ .smem, ⟨0, _⟩ => ⟨S4, .i32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S4.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S4) ![v0.toNat] S1.size (k0_off1_inb i)) numel1_S1
  let c3_i32 : BitVec 32 := 3#32
  let v2 : BitVec 32 := Scalar.divsi v1 c3_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c3_i32 c0_i32_1
  let v9 : BitVec 32 := Scalar.extui v8
  let c0_i32_2 : BitVec 32 := 0#32
  let v10 : BitVec 1 := Scalar.cmpi .slt c3_i32 c0_i32_2
  let v11 : BitVec 32 := Scalar.extui v10
  let v12 : BitVec 32 := Scalar.subi v9 v11
  let v13 : BitVec 1 := Scalar.cmpi .ne v7 v12
  let v14 : BitVec 32 := Scalar.remsi v1 c3_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let v19 : Index := Scalar.indexCast arg1
  let v20 : BitVec 32 := pf.at 0 (Rect.unit (s := S4) ![v19.toNat] S1.size (k0_off1_inb i)) numel1_S1
  let c3_i32_4 : BitVec 32 := 3#32
  let c0_i32_5 : BitVec 32 := 0#32
  let v21 : BitVec 1 := Scalar.cmpi .eq c3_i32_4 c0_i32_5
  let c1_i32_6 : BitVec 32 := 1#32
  let v22 : BitVec 32 := Scalar.select v21 c1_i32_6 c3_i32_4
  let v23 : BitVec 32 := Scalar.remsi v20 v22
  let c0_i32_7 : BitVec 32 := 0#32
  let v24 : BitVec 1 := Scalar.cmpi .ne v23 c0_i32_7
  let c0_i32_8 : BitVec 32 := 0#32
  let v25 : BitVec 1 := Scalar.cmpi .slt v23 c0_i32_8
  let c0_i32_9 : BitVec 32 := 0#32
  let v26 : BitVec 1 := Scalar.cmpi .slt v22 c0_i32_9
  let v27 : BitVec 1 := Scalar.xori v25 v26
  let v28 : BitVec 1 := Scalar.andi v27 v24
  let v29 : BitVec 32 := Scalar.addi v23 v22
  let v30 : BitVec 32 := Scalar.select v28 v29 v23
  let c0_i32_10 : BitVec 32 := 0#32
  let c0_i32_11 : BitVec 32 := 0#32
  ![v18.toNat, c0_i32_10.toNat, v30.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference18Ideal.lean ====
abbrev S4096x2048 : Shape := ⟨2, ![4096, 2048]⟩
abbrev S4x2048x1536 : Shape := ⟨3, ![4, 2048, 1536]⟩
abbrev S2048x4x1536 : Shape := ⟨3, ![2048, 4, 1536]⟩
abbrev S2048x6144 : Shape := ⟨2, ![2048, 6144]⟩
abbrev S4096x6144 : Shape := ⟨2, ![4096, 6144]⟩
abbrev S4096x1024 : Shape := ⟨2, ![4096, 1024]⟩
abbrev S1024x4x2048 : Shape := ⟨3, ![1024, 4, 2048]⟩
abbrev S4x1024x2048 : Shape := ⟨3, ![4, 1024, 2048]⟩

abbrev nBuf : Space → Nat
  | .hbm => 13
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x2048x1536, .bf16⟩
  | .hbm, ⟨2, _⟩ => ⟨S4096x2048, .f32⟩
  | .hbm, ⟨3, _⟩ => ⟨S4x2048x1536, .f32⟩
  | .hbm, ⟨4, _⟩ => ⟨S2048x4x1536, .f32⟩
  | .hbm, ⟨5, _⟩ => ⟨S2048x6144, .f32⟩
  | .hbm, ⟨6, _⟩ => ⟨S4096x6144, .f32⟩
  | .hbm, ⟨7, _⟩ => ⟨S4096x1024, .f32⟩
  | .hbm, ⟨8, _⟩ => ⟨S4096x1024, .f32⟩
  | .hbm, ⟨9, _⟩ => ⟨S4096x2048, .f32⟩
  | .hbm, ⟨10, _⟩ => ⟨S1024x4x2048, .f32⟩
  | .hbm, ⟨11, _⟩ => ⟨S4x1024x2048, .f32⟩
  | .hbm, ⟨12, _⟩ => ⟨S4x1024x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩

abbrev nD : Nat := 1
abbrev τ : Topo := Topo.v7x

variable {F : FTy → Type} [FloatOps F]
-- ==== Kernel19.lean ====
abbrev S4096x2048 : Shape := ⟨2, ![4096, 2048]⟩
abbrev S4x2048x1024 : Shape := ⟨3, ![4, 2048, 1024]⟩
abbrev S1 : Shape := ⟨1, ![1]⟩
abbrev S4x1024x1024 : Shape := ⟨3, ![4, 1024, 1024]⟩
abbrev S1024x2048 : Shape := ⟨2, ![1024, 2048]⟩
abbrev S1x2048x1024 : Shape := ⟨3, ![1, 2048, 1024]⟩
abbrev S4x256x1024 : Shape := ⟨3, ![4, 256, 1024]⟩
abbrev S8x1024x128 : Shape := ⟨3, ![8, 1024, 128]⟩
abbrev S2048x1024 : Shape := ⟨2, ![2048, 1024]⟩
abbrev S1024x1024 : Shape := ⟨2, ![1024, 1024]⟩
abbrev S1024x128 : Shape := ⟨2, ![1024, 128]⟩
abbrev S1x1024x128 : Shape := ⟨3, ![1, 1024, 128]⟩
abbrev S256x128 : Shape := ⟨2, ![256, 128]⟩
abbrev S1x256x128 : Shape := ⟨3, ![1, 256, 128]⟩

abbrev nBuf : Space → Nat
  | .hbm => 3
  | .vmem => 6
  | .smem => 1
  | _ => 0

abbrev bufTy : (tb : Table) → Fin (tcTables nBuf tb) → BufTy
  | .hbm, ⟨0, _⟩ => ⟨S4096x2048, .bf16⟩
  | .hbm, ⟨1, _⟩ => ⟨S4x2048x1024, .bf16⟩
  | .hbm, ⟨2, _⟩ => ⟨S4x1024x1024, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S4x256x1024, .bf16⟩
  | .local _ .vmem, ⟨4, _⟩ => ⟨S4x256x1024, .bf16⟩
  | .local _ .vmem, ⟨5, _⟩ => ⟨S8x1024x128, .f32⟩
  | .local _ .smem, ⟨0, _⟩ => ⟨S1, .i32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S1) ![v0.toNat] S1.size (k0_off1_inb i)) numel1_S1
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c1_i32 c0_i32_1
  let v9 : BitVec 32 := Scalar.extui v8
  let c0_i32_2 : BitVec 32 := 0#32
  let v10 : BitVec 1 := Scalar.cmpi .slt c1_i32 c0_i32_2
  let v11 : BitVec 32 := Scalar.extui v10
  let v12 : BitVec 32 := Scalar.subi v9 v11
  let v13 : BitVec 1 := Scalar.cmpi .ne v7 v12
  let v14 : BitVec 32 := Scalar.remsi v1 c1_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let v19 : Index := Scalar.indexCast arg1
  let v20 : BitVec 32 := pf.at 0 (Rect.unit (s := S1) ![v19.toNat] S1.size (k0_off1_inb i)) numel1_S1
  let c1_i32_5 : BitVec 32 := 1#32
  let c0_i32_6 : BitVec 32 := 0#32
  let v21 : BitVec 1 := Scalar.cmpi .eq c1_i32_5 c0_i32_6
  let c1_i32_7 : BitVec 32 := 1#32
  let v22 : BitVec 32 := Scalar.select v21 c1_i32_7 c1_i32_5
  let v23 : BitVec 32 := Scalar.remsi v20 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c0_i32_11 : BitVec 32 := 0#32
  let c0_i32_12 : BitVec 32 := 0#32
  ![v18.toNat, c0_i32_11.toNat, v30.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S4x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference19Ideal.lean ====
abbrev S4096x2048 : Shape := ⟨2, ![4096, 2048]⟩
abbrev S4x2048x1024 : Shape := ⟨3, ![4, 2048, 1024]⟩
abbrev S1x2048x1024 : Shape := ⟨3, ![1, 2048, 1024]⟩
abbrev S2048x1024 : Shape := ⟨2, ![2048, 1024]⟩
abbrev S4096x1024 : Shape := ⟨2, ![4096, 1024]⟩
abbrev S1024x4x1024 : Shape := ⟨3, ![1024, 4, 1024]⟩
abbrev S4x1024x1024 : Shape := ⟨3, ![4, 1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x2048x1024, .bf16⟩
  | .hbm, ⟨2, _⟩ => ⟨S4096x2048, .f32⟩
  | .hbm, ⟨3, _⟩ => ⟨S1x2048x1024, .bf16⟩
  | .hbm, ⟨4, _⟩ => ⟨S2048x1024, .bf16⟩
  | .hbm, ⟨5, _⟩ => ⟨S2048x1024, .f32⟩
  | .hbm, ⟨6, _⟩ => ⟨S4096x1024, .f32⟩
  | .hbm, ⟨7, _⟩ => ⟨S1024x4x1024, .f32⟩
  | .hbm, ⟨8, _⟩ => ⟨S4x1024x1024, .f32⟩
  | .hbm, ⟨9, _⟩ => ⟨S4x1024x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== Kernel20.lean ====
abbrev S4096x2048 : Shape := ⟨2, ![4096, 2048]⟩
abbrev S4x2048x1536 : Shape := ⟨3, ![4, 2048, 1536]⟩
abbrev S4 : Shape := ⟨1, ![4]⟩
abbrev S16x256x2048 : Shape := ⟨3, ![16, 256, 2048]⟩
abbrev S1024x2048 : Shape := ⟨2, ![1024, 2048]⟩
abbrev S1x2048x512 : Shape := ⟨3, ![1, 2048, 512]⟩
abbrev S1 : Shape := ⟨1, ![1]⟩
abbrev S16x64x512 : Shape := ⟨3, ![16, 64, 512]⟩
abbrev S4x1024x128 : Shape := ⟨3, ![4, 1024, 128]⟩
abbrev S2048x512 : Shape := ⟨2, ![2048, 512]⟩
abbrev S1024x512 : Shape := ⟨2, ![1024, 512]⟩
abbrev S1024x128 : Shape := ⟨2, ![1024, 128]⟩
abbrev S1x1024x128 : Shape := ⟨3, ![1, 1024, 128]⟩
abbrev S64x128 : Shape := ⟨2, ![64, 128]⟩
abbrev S1x64x128 : Shape := ⟨3, ![1, 64, 128]⟩

abbrev nBuf : Space → Nat
  | .hbm => 3
  | .vmem => 7
  | .smem => 1
  | _ => 0

abbrev bufTy : (tb : Table) → Fin (tcTables nBuf tb) → BufTy
  | .hbm, ⟨0, _⟩ => ⟨S4096x2048, .bf16⟩
  | .hbm, ⟨1, _⟩ => ⟨S4x2048x1536, .bf16⟩
  | .hbm, ⟨2, _⟩ => ⟨S16x256x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S16x64x512, .bf16⟩
  | .local _ .vmem, ⟨5, _⟩ => ⟨S16x64x512, .bf16⟩
  | .local _ .vmem, ⟨6, _⟩ => ⟨S4x1024x128, .f32⟩
  | .local _ .smem, ⟨0, _⟩ => ⟨S4, .i32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S4.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S4) ![v0.toNat] S1.size (k0_off1_inb i)) numel1_S1
  let c3_i32 : BitVec 32 := 3#32
  let v2 : BitVec 32 := Scalar.divsi v1 c3_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c3_i32 c0_i32_1
  let v9 : BitVec 32 := Scalar.extui v8
  let c0_i32_2 : BitVec 32 := 0#32
  let v10 : BitVec 1 := Scalar.cmpi .slt c3_i32 c0_i32_2
  let v11 : BitVec 32 := Scalar.extui v10
  let v12 : BitVec 32 := Scalar.subi v9 v11
  let v13 : BitVec 1 := Scalar.cmpi .ne v7 v12
  let v14 : BitVec 32 := Scalar.remsi v1 c3_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let v19 : Index := Scalar.indexCast arg1
  let v20 : BitVec 32 := pf.at 0 (Rect.unit (s := S4) ![v19.toNat] S1.size (k0_off1_inb i)) numel1_S1
  let c3_i32_4 : BitVec 32 := 3#32
  let c0_i32_5 : BitVec 32 := 0#32
  let v21 : BitVec 1 := Scalar.cmpi .eq c3_i32_4 c0_i32_5
  let c1_i32_6 : BitVec 32 := 1#32
  let v22 : BitVec 32 := Scalar.select v21 c1_i32_6 c3_i32_4
  let v23 : BitVec 32 := Scalar.remsi v20 v22
  let c0_i32_7 : BitVec 32 := 0#32
  let v24 : BitVec 1 := Scalar.cmpi .ne v23 c0_i32_7
  let c0_i32_8 : BitVec 32 := 0#32
  let v25 : BitVec 1 := Scalar.cmpi .slt v23 c0_i32_8
  let c0_i32_9 : BitVec 32 := 0#32
  let v26 : BitVec 1 := Scalar.cmpi .slt v22 c0_i32_9
  let v27 : BitVec 1 := Scalar.xori v25 v26
  let v28 : BitVec 1 := Scalar.andi v27 v24
  let v29 : BitVec 32 := Scalar.addi v23 v22
  let v30 : BitVec 32 := Scalar.select v28 v29 v23
  let c0_i32_10 : BitVec 32 := 0#32
  let c0_i32_11 : BitVec 32 := 0#32
  ![v18.toNat, c0_i32_10.toNat, v30.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S16x64x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference20Ideal.lean ====
abbrev S4096x2048 : Shape := ⟨2, ![4096, 2048]⟩
abbrev S4x2048x1536 : Shape := ⟨3, ![4, 2048, 1536]⟩
abbrev S2048x4x1536 : Shape := ⟨3, ![2048, 4, 1536]⟩
abbrev S2048x6144 : Shape := ⟨2, ![2048, 6144]⟩
abbrev S4096x6144 : Shape := ⟨2, ![4096, 6144]⟩
abbrev S4096x1024 : Shape := ⟨2, ![4096, 1024]⟩
abbrev S256x16x2048 : Shape := ⟨3, ![256, 16, 2048]⟩
abbrev S16x256x2048 : Shape := ⟨3, ![16, 256, 2048]⟩

abbrev nBuf : Space → Nat
  | .hbm => 13
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x2048x1536, .bf16⟩
  | .hbm, ⟨2, _⟩ => ⟨S4096x2048, .f32⟩
  | .hbm, ⟨3, _⟩ => ⟨S4x2048x1536, .f32⟩
  | .hbm, ⟨4, _⟩ => ⟨S2048x4x1536, .f32⟩
  | .hbm, ⟨5, _⟩ => ⟨S2048x6144, .f32⟩
  | .hbm, ⟨6, _⟩ => ⟨S4096x6144, .f32⟩
  | .hbm, ⟨7, _⟩ => ⟨S4096x1024, .f32⟩
  | .hbm, ⟨8, _⟩ => ⟨S4096x1024, .f32⟩
  | .hbm, ⟨9, _⟩ => ⟨S4096x2048, .f32⟩
  | .hbm, ⟨10, _⟩ => ⟨S256x16x2048, .f32⟩
  | .hbm, ⟨11, _⟩ => ⟨S16x256x2048, .f32⟩
  | .hbm, ⟨12, _⟩ => ⟨S16x256x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩

abbrev nD : Nat := 1
abbrev τ : Topo := Topo.v7x

variable {F : FTy → Type} [FloatOps F]
-- ==== Kernel21.lean ====
abbrev S4096x2048 : Shape := ⟨2, ![4096, 2048]⟩
abbrev S4x2048x1024 : Shape := ⟨3, ![4, 2048, 1024]⟩
abbrev S1 : Shape := ⟨1, ![1]⟩
abbrev S16x256x1024 : Shape := ⟨3, ![16, 256, 1024]⟩
abbrev S1024x2048 : Shape := ⟨2, ![1024, 2048]⟩
abbrev S1x2048x1024 : Shape := ⟨3, ![1, 2048, 1024]⟩
abbrev S16x64x1024 : Shape := ⟨3, ![16, 64, 1024]⟩
abbrev S8x1024x128 : Shape := ⟨3, ![8, 1024, 128]⟩
abbrev S2048x1024 : Shape := ⟨2, ![2048, 1024]⟩
abbrev S1024x1024 : Shape := ⟨2, ![1024, 1024]⟩
abbrev S1024x128 : Shape := ⟨2, ![1024, 128]⟩
abbrev S1x1024x128 : Shape := ⟨3, ![1, 1024, 128]⟩
abbrev S64x128 : Shape := ⟨2, ![64, 128]⟩
abbrev S1x64x128 : Shape := ⟨3, ![1, 64, 128]⟩

abbrev nBuf : Space → Nat
  | .hbm => 3
  | .vmem => 6
  | .smem => 1
  | _ => 0

abbrev bufTy : (tb : Table) → Fin (tcTables nBuf tb) → BufTy
  | .hbm, ⟨0, _⟩ => ⟨S4096x2048, .bf16⟩
  | .hbm, ⟨1, _⟩ => ⟨S4x2048x1024, .bf16⟩
  | .hbm, ⟨2, _⟩ => ⟨S16x256x1024, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S16x64x1024, .bf16⟩
  | .local _ .vmem, ⟨4, _⟩ => ⟨S16x64x1024, .bf16⟩
  | .local _ .vmem, ⟨5, _⟩ => ⟨S8x1024x128, .f32⟩
  | .local _ .smem, ⟨0, _⟩ => ⟨S1, .i32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S1) ![v0.toNat] S1.size (k0_off1_inb i)) numel1_S1
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c1_i32 c0_i32_1
  let v9 : BitVec 32 := Scalar.extui v8
  let c0_i32_2 : BitVec 32 := 0#32
  let v10 : BitVec 1 := Scalar.cmpi .slt c1_i32 c0_i32_2
  let v11 : BitVec 32 := Scalar.extui v10
  let v12 : BitVec 32 := Scalar.subi v9 v11
  let v13 : BitVec 1 := Scalar.cmpi .ne v7 v12
  let v14 : BitVec 32 := Scalar.remsi v1 c1_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let v19 : Index := Scalar.indexCast arg1
  let v20 : BitVec 32 := pf.at 0 (Rect.unit (s := S1) ![v19.toNat] S1.size (k0_off1_inb i)) numel1_S1
  let c1_i32_5 : BitVec 32 := 1#32
  let c0_i32_6 : BitVec 32 := 0#32
  let v21 : BitVec 1 := Scalar.cmpi .eq c1_i32_5 c0_i32_6
  let c1_i32_7 : BitVec 32 := 1#32
  let v22 : BitVec 32 := Scalar.select v21 c1_i32_7 c1_i32_5
  let v23 : BitVec 32 := Scalar.remsi v20 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c0_i32_11 : BitVec 32 := 0#32
  let c0_i32_12 : BitVec 32 := 0#32
  ![v18.toNat, c0_i32_11.toNat, v30.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S16x64x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference21Ideal.lean ====
abbrev S4096x2048 : Shape := ⟨2, ![4096, 2048]⟩
abbrev S4x2048x1024 : Shape := ⟨3, ![4, 2048, 1024]⟩
abbrev S1x2048x1024 : Shape := ⟨3, ![1, 2048, 1024]⟩
abbrev S2048x1024 : Shape := ⟨2, ![2048, 1024]⟩
abbrev S4096x1024 : Shape := ⟨2, ![4096, 1024]⟩
abbrev S256x16x1024 : Shape := ⟨3, ![256, 16, 1024]⟩
abbrev S16x256x1024 : Shape := ⟨3, ![16, 256, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x2048x1024, .bf16⟩
  | .hbm, ⟨2, _⟩ => ⟨S4096x2048, .f32⟩
  | .hbm, ⟨3, _⟩ => ⟨S1x2048x1024, .bf16⟩
  | .hbm, ⟨4, _⟩ => ⟨S2048x1024, .bf16⟩
  | .hbm, ⟨5, _⟩ => ⟨S2048x1024, .f32⟩
  | .hbm, ⟨6, _⟩ => ⟨S4096x1024, .f32⟩
  | .hbm, ⟨7, _⟩ => ⟨S256x16x1024, .f32⟩
  | .hbm, ⟨8, _⟩ => ⟨S16x256x1024, .f32⟩
  | .hbm, ⟨9, _⟩ => ⟨S16x256x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== Kernel22.lean ====
abbrev S4096x2048 : Shape := ⟨2, ![4096, 2048]⟩
abbrev S1x2048 : Shape := ⟨2, ![1, 2048]⟩
abbrev S256x2048 : Shape := ⟨2, ![256, 2048]⟩
abbrev S2048 : Shape := ⟨1, ![2048]⟩

abbrev nBuf : Space → Nat
  | .hbm => 8
  | .vmem => 13
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | .hbm, ⟨2, _⟩ => ⟨S4096x2048, .f32⟩
  | .hbm, ⟨3, _⟩ => ⟨S4096x2048, .f32⟩
  | .hbm, ⟨4, _⟩ => ⟨S1x2048, .f32⟩
  | .hbm, ⟨5, _⟩ => ⟨S4096x2048, .f32⟩
  | .hbm, ⟨6, _⟩ => ⟨S1x2048, .f32⟩
  | .hbm, ⟨7, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S1x2048, .f32⟩
  | .local _ .vmem, ⟨9, _⟩ => ⟨S256x2048, .f32⟩
  | .local _ .vmem, ⟨10, _⟩ => ⟨S256x2048, .f32⟩
  | .local _ .vmem, ⟨11, _⟩ => ⟨S1x2048, .f32⟩
  | .local _ .vmem, ⟨12, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v16 : BitVec 1 := Scalar.cmpi .eq arg0 c0_i32
  let v17 : BitVec 32 := Scalar.extui v16
  let c0_i32_12 : BitVec 32 := 0#32
  let v18 : BitVec 1 := Scalar.cmpi .ne v17 c0_i32_12
  v18

def k0_cond2 (i : grid0.Coords) : BitVec 1 :=
  let arg0 : BitVec 32 := BitVec.ofNat 32 (i 0).val
  let c0_i32_13 : BitVec 32 := 0#32
  let v19 : BitVec 1 := Scalar.cmpi .sgt arg0 c0_i32_13
  let v20 : BitVec 32 := Scalar.extui v19
  let c0_i32_14 : BitVec 32 := 0#32
  let v21 : BitVec 1 := Scalar.cmpi .ne v20 c0_i32_14
  v21

def k0_cond3 (i : grid0.Coords) : BitVec 1 :=
  let arg0 : BitVec 32 := BitVec.ofNat 32 (i 0).val
  let c0_i32_16 : BitVec 32 := 0#32
  let v24 : BitVec 1 := Scalar.cmpi .eq arg0 c0_i32_16
  let v25 : BitVec 32 := Scalar.extui v24
  let c0_i32_17 : BitVec 32 := 0#32
  let v26 : BitVec 1 := Scalar.cmpi .ne v25 c0_i32_17
  v26

def k0_cond4 (i : grid0.Coords) : BitVec 1 :=
  let arg0 : BitVec 32 := BitVec.ofNat 32 (i 0).val
  let c0_i32_18 : BitVec 32 := 0#32
  let v27 : BitVec 1 := Scalar.cmpi .sgt arg0 c0_i32_18
  let v28 : BitVec 32 := Scalar.extui v27
  let c0_i32_19 : BitVec 32 := 0#32
  let v29 : BitVec 1 := Scalar.cmpi .ne v28 c0_i32_19
  v29

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference22Ideal.lean ====
abbrev S4096x2048 : Shape := ⟨2, ![4096, 2048]⟩
abbrev S1x2048 : Shape := ⟨2, ![1, 2048]⟩
abbrev S_ : Shape := ⟨0, ![]⟩
abbrev S2048 : Shape := ⟨1, ![2048]⟩

abbrev nBuf : Space → Nat
  | .hbm => 26
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | .hbm, ⟨2, _⟩ => ⟨S4096x2048, .f32⟩
  | .hbm, ⟨3, _⟩ => ⟨S4096x2048, .f32⟩
  | .hbm, ⟨4, _⟩ => ⟨S1x2048, .f32⟩
  | .hbm, ⟨5, _⟩ => ⟨S_, .f32⟩
  | .hbm, ⟨6, _⟩ => ⟨S1x2048, .f32⟩
  | .hbm, ⟨7, _⟩ => ⟨S_, .f32⟩
  | .hbm, ⟨8, _⟩ => ⟨S1x2048, .f32⟩
  | .hbm, ⟨9, _⟩ => ⟨S1x2048, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S_, .f32⟩
  | .hbm, ⟨17, _⟩ => ⟨S2048, .f32⟩
  | .hbm, ⟨18, _⟩ => ⟨S1x2048, .f32⟩
  | .hbm, ⟨19, _⟩ => ⟨S4096x2048, .f32⟩
  | .hbm, ⟨20, _⟩ => ⟨S_, .f32⟩
  | .hbm, ⟨21, _⟩ => ⟨S2048, .f32⟩
  | .hbm, ⟨22, _⟩ => ⟨S1x2048, .f32⟩
  | .hbm, ⟨23, _⟩ => ⟨S4096x2048, .f32⟩
  | .hbm, ⟨24, _⟩ => ⟨S4096x2048, .f32⟩
  | .hbm, ⟨25, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]
-- ==== Kernel23.lean ====
abbrev S4096x1536 : Shape := ⟨2, ![4096, 1536]⟩
abbrev S256x1536 : Shape := ⟨2, ![256, 1536]⟩

abbrev nBuf : Space → Nat
  | .hbm => 7
  | .vmem => 14
  | .smem => 0
  | _ => 0

abbrev bufTy : (tb : Table) → Fin (tcTables nBuf tb) → BufTy
  | .hbm, ⟨0, _⟩ => ⟨S4096x1536, .f32⟩
  | .hbm, ⟨1, _⟩ => ⟨S4096x1536, .f32⟩
  | .hbm, ⟨2, _⟩ => ⟨S4096x1536, .f32⟩
  | .hbm, ⟨3, _⟩ => ⟨S4096x1536, .f32⟩
  | .hbm, ⟨4, _⟩ => ⟨S4096x1536, .f32⟩
  | .hbm, ⟨5, _⟩ => ⟨S4096x1536, .f32⟩
  | .hbm, ⟨6, _⟩ => ⟨S4096x1536, .f32⟩
  | .local _ .vmem, ⟨0, _⟩ => ⟨S256x1536, .f32⟩
  | .local _ .vmem, ⟨1, _⟩ => ⟨S256x1536, .f32⟩
  | .local _ .vmem, ⟨2, _⟩ => ⟨S256x1536, .f32⟩
  | .local _ .vmem, ⟨3, _⟩ => ⟨S256x1536, .f32⟩
  | .local _ .vmem, ⟨4, _⟩ => ⟨S256x1536, .f32⟩
  | .local _ .vmem, ⟨5, _⟩ => ⟨S256x1536, .f32⟩
  | .local _ .vmem, ⟨6, _⟩ => ⟨S256x1536, .f32⟩
  | .local _ .vmem, ⟨7, _⟩ => ⟨S256x1536, .f32⟩
  | .local _ .vmem, ⟨8, _⟩ => ⟨S256x1536, .f32⟩
  | .local _ .vmem, ⟨9, _⟩ => ⟨S256x1536, .f32⟩
  | .local _ .vmem, ⟨10, _⟩ => ⟨S256x1536, .f32⟩
  | .local _ .vmem, ⟨11, _⟩ => ⟨S256x1536, .f32⟩
  | .local _ .vmem, ⟨12, _⟩ => ⟨S256x1536, .f32⟩
  | .local _ .vmem, ⟨13, _⟩ => ⟨S256x1536, .f32⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference23Ideal.lean ====
abbrev S4096x1536 : Shape := ⟨2, ![4096, 1536]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x1536, .f32⟩
  | .hbm, ⟨1, _⟩ => ⟨S4096x1536, .f32⟩
  | .hbm, ⟨2, _⟩ => ⟨S4096x1536, .f32⟩
  | .hbm, ⟨3, _⟩ => ⟨S4096x1536, .f32⟩
  | .hbm, ⟨4, _⟩ => ⟨S_, .f32⟩
  | .hbm, ⟨5, _⟩ => ⟨S4096x1536, .f32⟩
  | .hbm, ⟨6, _⟩ => ⟨S4096x1536, .f32⟩
  | .hbm, ⟨7, _⟩ => ⟨S_, .f32⟩
  | .hbm, ⟨8, _⟩ => ⟨S4096x1536, .f32⟩
  | .hbm, ⟨9, _⟩ => ⟨S4096x1536, .f32⟩
  | .hbm, ⟨10, _⟩ => ⟨S4096x1536, .f32⟩
  | .hbm, ⟨11, _⟩ => ⟨S_, .f32⟩
  | .hbm, ⟨12, _⟩ => ⟨S4096x1536, .f32⟩
  | .hbm, ⟨13, _⟩ => ⟨S4096x1536, .f32⟩
  | .hbm, ⟨14, _⟩ => ⟨S4096x1536, .f32⟩
  | .hbm, ⟨15, _⟩ => ⟨S_, .f32⟩
  | .hbm, ⟨16, _⟩ => ⟨S4096x1536, .f32⟩
  | .hbm, ⟨17, _⟩ => ⟨S4096x1536, .f32⟩
  | .hbm, ⟨18, _⟩ => ⟨S4096x1536, .f32⟩
  | .hbm, ⟨19, _⟩ => ⟨S_, .f32⟩
  | .hbm, ⟨20, _⟩ => ⟨S4096x1536, .f32⟩
  | .hbm, ⟨21, _⟩ => ⟨S4096x1536, .f32⟩
  | .hbm, ⟨22, _⟩ => ⟨S_, .f32⟩
  | .hbm, ⟨23, _⟩ => ⟨S4096x1536, .f32⟩
  | .hbm, ⟨24, _⟩ => ⟨S4096x1536, .f32⟩
  | .hbm, ⟨25, _⟩ => ⟨S4096x1536, .f32⟩
  | .hbm, ⟨26, _⟩ => ⟨S_, .f32⟩
  | .hbm, ⟨27, _⟩ => ⟨S4096x1536, .f32⟩
  | .hbm, ⟨28, _⟩ => ⟨S4096x1536, .f32⟩
  | .hbm, ⟨29, _⟩ => ⟨S4096x1536, .f32⟩
  | .hbm, ⟨30, _⟩ => ⟨S_, .f32⟩
  | .hbm, ⟨31, _⟩ => ⟨S4096x1536, .f32⟩
  | .hbm, ⟨32, _⟩ => ⟨S4096x1536, .f32⟩
  | .hbm, ⟨33, _⟩ => ⟨S4096x1536, .f32⟩
  | .hbm, ⟨34, _⟩ => ⟨S_, .f32⟩
  | .hbm, ⟨35, _⟩ => ⟨S4096x1536, .f32⟩
  | .hbm, ⟨36, _⟩ => ⟨S4096x1536, .f32⟩
  | _, _ => ⟨S4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel24.lean ====
abbrev S232x128 : Shape := ⟨2, ![232, 128]⟩

abbrev nBuf : Space → Nat
  | .hbm => 7
  | .vmem => 7
  | .smem => 0
  | _ => 0

abbrev bufTy : (tb : Table) → Fin (tcTables nBuf tb) → BufTy
  | .hbm, ⟨0, _⟩ => ⟨S232x128, .f32⟩
  | .hbm, ⟨1, _⟩ => ⟨S232x128, .f32⟩
  | .hbm, ⟨2, _⟩ => ⟨S232x128, .f32⟩
  | .hbm, ⟨3, _⟩ => ⟨S232x128, .f32⟩
  | .hbm, ⟨4, _⟩ => ⟨S232x128, .f32⟩
  | .hbm, ⟨5, _⟩ => ⟨S232x128, .f32⟩
  | .hbm, ⟨6, _⟩ => ⟨S232x128, .f32⟩
  | .local _ .vmem, ⟨0, _⟩ => ⟨S232x128, .f32⟩
  | .local _ .vmem, ⟨1, _⟩ => ⟨S232x128, .f32⟩
  | .local _ .vmem, ⟨2, _⟩ => ⟨S232x128, .f32⟩
  | .local _ .vmem, ⟨3, _⟩ => ⟨S232x128, .f32⟩
  | .local _ .vmem, ⟨4, _⟩ => ⟨S232x128, .f32⟩
  | .local _ .vmem, ⟨5, _⟩ => ⟨S232x128, .f32⟩
  | .local _ .vmem, ⟨6, _⟩ => ⟨S232x128, .f32⟩
  | _, _ => ⟨S232x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S232x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S232x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S232x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S232x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S232x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S232x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S232x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference24Ideal.lean ====
abbrev S232x128 : Shape := ⟨2, ![232, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S232x128, .f32⟩
  | .hbm, ⟨1, _⟩ => ⟨S232x128, .f32⟩
  | .hbm, ⟨2, _⟩ => ⟨S232x128, .f32⟩
  | .hbm, ⟨3, _⟩ => ⟨S232x128, .f32⟩
  | .hbm, ⟨4, _⟩ => ⟨S_, .f32⟩
  | .hbm, ⟨5, _⟩ => ⟨S232x128, .f32⟩
  | .hbm, ⟨6, _⟩ => ⟨S232x128, .f32⟩
  | .hbm, ⟨7, _⟩ => ⟨S_, .f32⟩
  | .hbm, ⟨8, _⟩ => ⟨S232x128, .f32⟩
  | .hbm, ⟨9, _⟩ => ⟨S232x128, .f32⟩
  | .hbm, ⟨10, _⟩ => ⟨S232x128, .f32⟩
  | .hbm, ⟨11, _⟩ => ⟨S_, .f32⟩
  | .hbm, ⟨12, _⟩ => ⟨S232x128, .f32⟩
  | .hbm, ⟨13, _⟩ => ⟨S232x128, .f32⟩
  | .hbm, ⟨14, _⟩ => ⟨S232x128, .f32⟩
  | .hbm, ⟨15, _⟩ => ⟨S_, .f32⟩
  | .hbm, ⟨16, _⟩ => ⟨S232x128, .f32⟩
  | .hbm, ⟨17, _⟩ => ⟨S232x128, .f32⟩
  | .hbm, ⟨18, _⟩ => ⟨S232x128, .f32⟩
  | .hbm, ⟨19, _⟩ => ⟨S_, .f32⟩
  | .hbm, ⟨20, _⟩ => ⟨S232x128, .f32⟩
  | .hbm, ⟨21, _⟩ => ⟨S232x128, .f32⟩
  | .hbm, ⟨22, _⟩ => ⟨S_, .f32⟩
  | .hbm, ⟨23, _⟩ => ⟨S232x128, .f32⟩
  | .hbm, ⟨24, _⟩ => ⟨S232x128, .f32⟩
  | .hbm, ⟨25, _⟩ => ⟨S232x128, .f32⟩
  | .hbm, ⟨26, _⟩ => ⟨S_, .f32⟩
  | .hbm, ⟨27, _⟩ => ⟨S232x128, .f32⟩
  | .hbm, ⟨28, _⟩ => ⟨S232x128, .f32⟩
  | .hbm, ⟨29, _⟩ => ⟨S232x128, .f32⟩
  | .hbm, ⟨30, _⟩ => ⟨S_, .f32⟩
  | .hbm, ⟨31, _⟩ => ⟨S232x128, .f32⟩
  | .hbm, ⟨32, _⟩ => ⟨S232x128, .f32⟩
  | .hbm, ⟨33, _⟩ => ⟨S232x128, .f32⟩
  | .hbm, ⟨34, _⟩ => ⟨S_, .f32⟩
  | .hbm, ⟨35, _⟩ => ⟨S232x128, .f32⟩
  | .hbm, ⟨36, _⟩ => ⟨S232x128, .f32⟩
  | _, _ => ⟨S232x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel25.lean ====
abbrev S4096x2048 : Shape := ⟨2, ![4096, 2048]⟩
abbrev S1x2048 : Shape := ⟨2, ![1, 2048]⟩
abbrev S256x2048 : Shape := ⟨2, ![256, 2048]⟩
abbrev S2048 : Shape := ⟨1, ![2048]⟩
abbrev S256 : Shape := ⟨1, ![256]⟩
abbrev S256x1 : Shape := ⟨2, ![256, 1]⟩

abbrev nBuf : Space → Nat
  | .hbm => 16
  | .vmem => 24
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | .hbm, ⟨2, _⟩ => ⟨S4096x2048, .bf16⟩
  | .hbm, ⟨3, _⟩ => ⟨S4096x2048, .f32⟩
  | .hbm, ⟨4, _⟩ => ⟨S1x2048, .f32⟩
  | .hbm, ⟨5, _⟩ => ⟨S4096x2048, .f32⟩
  | .hbm, ⟨6, _⟩ => ⟨S4096x2048, .f32⟩
  | .hbm, ⟨7, _⟩ => ⟨S1x2048, .f32⟩
  | .hbm, ⟨8, _⟩ => ⟨S1x2048, .f32⟩
  | .hbm, ⟨9, _⟩ => ⟨S4096x2048, .f32⟩
  | .hbm, ⟨10, _⟩ => ⟨S4096x2048, .bf16⟩
  | .hbm, ⟨11, _⟩ => ⟨S1x2048, .f32⟩
  | .hbm, ⟨12, _⟩ => ⟨S1x2048, .f32⟩
  | .hbm, ⟨13, _⟩ => ⟨S1x2048, .f32⟩
  | .hbm, ⟨14, _⟩ => ⟨S1x2048, .f32⟩
  | .hbm, ⟨15, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .f32⟩
  | .local _ .vmem, ⟨7, _⟩ => ⟨S256x2048, .f32⟩
  | .local _ .vmem, ⟨8, _⟩ => ⟨S1x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S1x2048, .f32⟩
  | .local _ .vmem, ⟨14, _⟩ => ⟨S1x2048, .f32⟩
  | .local _ .vmem, ⟨15, _⟩ => ⟨S256x2048, .f32⟩
  | .local _ .vmem, ⟨16, _⟩ => ⟨S256x2048, .f32⟩
  | .local _ .vmem, ⟨17, _⟩ => ⟨S256x2048, .bf16⟩
  | .local _ .vmem, ⟨18, _⟩ => ⟨S256x2048, .bf16⟩
  | .local _ .vmem, ⟨19, _⟩ => ⟨S1x2048, .f32⟩
  | .local _ .vmem, ⟨20, _⟩ => ⟨S1x2048, .f32⟩
  | .local _ .vmem, ⟨21, _⟩ => ⟨S1x2048, .f32⟩
  | .local _ .vmem, ⟨22, _⟩ => ⟨S1x2048, .f32⟩
  | .local _ .vmem, ⟨23, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev main_v0_5 : Ref sig .tc := ⟨.hbm, 14, rfl⟩
abbrev main_v0_6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23

abbrev nD : Nat := 1
abbrev τ : Topo := Topo.v7x

variable {F : FTy → Type} [FloatOps F]

abbrev grid0 : Pipeline.Grid := ⟨1, ![16], ![false]⟩

def k0_cond5 (i : grid0.Coords) : BitVec 1 :=
  let arg0 : BitVec 32 := BitVec.ofNat 32 (i 0).val
  let c0_i32_46 : BitVec 32 := 0#32
  let v88 : BitVec 1 := Scalar.cmpi .eq arg0 c0_i32_46
  let v89 : BitVec 32 := Scalar.extui v88
  let c0_i32_47 : BitVec 32 := 0#32
  let v90 : BitVec 1 := Scalar.cmpi .ne v89 c0_i32_47
  v90

def k0_cond6 (i : grid0.Coords) : BitVec 1 :=
  let arg0 : BitVec 32 := BitVec.ofNat 32 (i 0).val
  let c0_i32_48 : BitVec 32 := 0#32
  let v91 : BitVec 1 := Scalar.cmpi .sgt arg0 c0_i32_48
  let v92 : BitVec 32 := Scalar.extui v91
  let c0_i32_49 : BitVec 32 := 0#32
  let v93 : BitVec 1 := Scalar.cmpi .ne v92 c0_i32_49
  v93

def k0_cond7 (i : grid0.Coords) : BitVec 1 :=
  let arg0 : BitVec 32 := BitVec.ofNat 32 (i 0).val
  let c0_i32_51 : BitVec 32 := 0#32
  let v96 : BitVec 1 := Scalar.cmpi .eq arg0 c0_i32_51
  let v97 : BitVec 32 := Scalar.extui v96
  let c0_i32_52 : BitVec 32 := 0#32
  let v98 : BitVec 1 := Scalar.cmpi .ne v97 c0_i32_52
  v98

def k0_cond8 (i : grid0.Coords) : BitVec 1 :=
  let arg0 : BitVec 32 := BitVec.ofNat 32 (i 0).val
  let c0_i32_53 : BitVec 32 := 0#32
  let v99 : BitVec 1 := Scalar.cmpi .sgt arg0 c0_i32_53
  let v100 : BitVec 32 := Scalar.extui v99
  let c0_i32_54 : BitVec 32 := 0#32
  let v101 : BitVec 1 := Scalar.cmpi .ne v100 c0_i32_54
  v101

def k0_cond9 (i : grid0.Coords) : BitVec 1 :=
  let arg0 : BitVec 32 := BitVec.ofNat 32 (i 0).val
  let c0_i32_56 : BitVec 32 := 0#32
  let v105 : BitVec 1 := Scalar.cmpi .eq arg0 c0_i32_56
  let v106 : BitVec 32 := Scalar.extui v105
  let c0_i32_57 : BitVec 32 := 0#32
  let v107 : BitVec 1 := Scalar.cmpi .ne v106 c0_i32_57
  v107

def k0_cond10 (i : grid0.Coords) : BitVec 1 :=
  let arg0 : BitVec 32 := BitVec.ofNat 32 (i 0).val
  let c0_i32_58 : BitVec 32 := 0#32
  let v108 : BitVec 1 := Scalar.cmpi .sgt arg0 c0_i32_58
  let v109 : BitVec 32 := Scalar.extui v108
  let c0_i32_59 : BitVec 32 := 0#32
  let v110 : BitVec 1 := Scalar.cmpi .ne v109 c0_i32_59
  v110

def k0_cond1 (i : grid0.Coords) : BitVec 1 :=
  let arg0 : BitVec 32 := BitVec.ofNat 32 (i 0).val
  let c0_i32 : BitVec 32 := 0#32
  let v16 : BitVec 1 := Scalar.cmpi .eq arg0 c0_i32
  let v17 : BitVec 32 := Scalar.extui v16
  let c0_i32_10 : BitVec 32 := 0#32
  let v18 : BitVec 1 := Scalar.cmpi .ne v17 c0_i32_10
  v18

def k0_cond2 (i : grid0.Coords) : BitVec 1 :=
  let arg0 : BitVec 32 := BitVec.ofNat 32 (i 0).val
  let c0_i32_11 : BitVec 32 := 0#32
  let v19 : BitVec 1 := Scalar.cmpi .sgt arg0 c0_i32_11
  let v20 : BitVec 32 := Scalar.extui v19
  let c0_i32_12 : BitVec 32 := 0#32
  let v21 : BitVec 1 := Scalar.cmpi .ne v20 c0_i32_12
  v21

def k0_cond3 (i : grid0.Coords) : BitVec 1 :=
  let arg0 : BitVec 32 := BitVec.ofNat 32 (i 0).val
  let c0_i32_14 : BitVec 32 := 0#32
  let v24 : BitVec 1 := Scalar.cmpi .eq arg0 c0_i32_14
  let v25 : BitVec 32 := Scalar.extui v24
  let c0_i32_15 : BitVec 32 := 0#32
  let v26 : BitVec 1 := Scalar.cmpi .ne v25 c0_i32_15
  v26

def k0_cond4 (i : grid0.Coords) : BitVec 1 :=
  let arg0 : BitVec 32 := BitVec.ofNat 32 (i 0).val
  let c0_i32_16 : BitVec 32 := 0#32
  let v27 : BitVec 1 := Scalar.cmpi .sgt arg0 c0_i32_16
  let v28 : BitVec 32 := Scalar.extui v27
  let c0_i32_17 : BitVec 32 := 0#32
  let v29 : BitVec 1 := Scalar.cmpi .ne v28 c0_i32_17
  v29

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x2048 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== Reference25Ideal.lean ====
abbrev S4096x2048 : Shape := ⟨2, ![4096, 2048]⟩
abbrev S1x2048 : Shape := ⟨2, ![1, 2048]⟩
abbrev S_ : Shape := ⟨0, ![]⟩
abbrev S2048 : Shape := ⟨1, ![2048]⟩
abbrev S4096 : Shape := ⟨1, ![4096]⟩
abbrev S4096x1 : Shape := ⟨2, ![4096, 1]⟩

abbrev nBuf : Space → Nat
  | .hbm => 117
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | .hbm, ⟨2, _⟩ => ⟨S4096x2048, .bf16⟩
  | .hbm, ⟨3, _⟩ => ⟨S4096x2048, .f32⟩
  | .hbm, ⟨4, _⟩ => ⟨S1x2048, .f32⟩
  | .hbm, ⟨5, _⟩ => ⟨S4096x2048, .f32⟩
  | .hbm, ⟨6, _⟩ => ⟨S4096x2048, .f32⟩
  | .hbm, ⟨7, _⟩ => ⟨S1x2048, .f32⟩
  | .hbm, ⟨8, _⟩ => ⟨S1x2048, .f32⟩
  | .hbm, ⟨9, _⟩ => ⟨S_, .f32⟩
  | .hbm, ⟨10, _⟩ => ⟨S1x2048, .f32⟩
  | .hbm, ⟨11, _⟩ => ⟨S_, .f32⟩
  | .hbm, ⟨12, _⟩ => ⟨S1x2048, .f32⟩
  | .hbm, ⟨13, _⟩ => ⟨S1x2048, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S_, .f32⟩
  | .hbm, ⟨20, _⟩ => ⟨S2048, .f32⟩
  | .hbm, ⟨21, _⟩ => ⟨S1x2048, .f32⟩
  | .hbm, ⟨22, _⟩ => ⟨S4096x2048, .f32⟩
  | .hbm, ⟨23, _⟩ => ⟨S_, .f32⟩
  | .hbm, ⟨24, _⟩ => ⟨S2048, .f32⟩
  | .hbm, ⟨25, _⟩ => ⟨S1x2048, .f32⟩
  | .hbm, ⟨26, _⟩ => ⟨S4096x2048, .f32⟩
  | .hbm, ⟨27, _⟩ => ⟨S4096x2048, .f32⟩
  | .hbm, ⟨28, _⟩ => ⟨S_, .f32⟩
  | .hbm, ⟨29, _⟩ => ⟨S4096x2048, .f32⟩
  | .hbm, ⟨30, _⟩ => ⟨S4096x2048, .f32⟩
  | .hbm, ⟨31, _⟩ => ⟨S_, .f32⟩
  | .hbm, ⟨32, _⟩ => ⟨S1x2048, .f32⟩
  | .hbm, ⟨33, _⟩ => ⟨S1x2048, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S_, .f32⟩
  | .hbm, ⟨47, _⟩ => ⟨S4096x2048, .f32⟩
  | .hbm, ⟨48, _⟩ => ⟨S4096x2048, .f32⟩
  | .hbm, ⟨49, _⟩ => ⟨S_, .f32⟩
  | .hbm, ⟨50, _⟩ => ⟨S4096, .f32⟩
  | .hbm, ⟨51, _⟩ => ⟨S4096x1, .f32⟩
  | .hbm, ⟨52, _⟩ => ⟨S_, .f32⟩
  | .hbm, ⟨53, _⟩ => ⟨S4096x1, .f32⟩
  | .hbm, ⟨54, _⟩ => ⟨S4096x1, .f32⟩
  | .hbm, ⟨55, _⟩ => ⟨S_, .f32⟩
  | .hbm, ⟨56, _⟩ => ⟨S4096x1, .f32⟩
  | .hbm, ⟨57, _⟩ => ⟨S4096x1, .f32⟩
  | .hbm, ⟨58, _⟩ => ⟨S4096x1, .f32⟩
  | .hbm, ⟨59, _⟩ => ⟨S4096x1, .f32⟩
  | .hbm, ⟨60, _⟩ => ⟨S_, .f32⟩
  | .hbm, ⟨61, _⟩ => ⟨S4096x1, .f32⟩
  | .hbm, ⟨62, _⟩ => ⟨S4096x1, .f32⟩
  | .hbm, ⟨63, _⟩ => ⟨S4096x2048, .f32⟩
  | .hbm, ⟨64, _⟩ => ⟨S4096x2048, .f32⟩
  | .hbm, ⟨65, _⟩ => ⟨S4096x2048, .f32⟩
  | .hbm, ⟨66, _⟩ => ⟨S4096x2048, .f32⟩
  | .hbm, ⟨67, _⟩ => ⟨S4096x2048, .f32⟩
  | .hbm, ⟨68, _⟩ => ⟨S4096x2048, .f32⟩
  | .hbm, ⟨69, _⟩ => ⟨S4096x2048, .f32⟩
  | .hbm, ⟨70, _⟩ => ⟨S4096x2048, .f32⟩
  | .hbm, ⟨71, _⟩ => ⟨S4096x2048, .f32⟩
  | .hbm, ⟨72, _⟩ => ⟨S_, .f32⟩
  | .hbm, ⟨73, _⟩ => ⟨S2048, .f32⟩
  | .hbm, ⟨74, _⟩ => ⟨S1x2048, .f32⟩
  | .hbm, ⟨75, _⟩ => ⟨S4096x2048, .f32⟩
  | .hbm, ⟨76, _⟩ => ⟨S_, .f32⟩
  | .hbm, ⟨77, _⟩ => ⟨S2048, .f32⟩
  | .hbm, ⟨78, _⟩ => ⟨S1x2048, .f32⟩
  | .hbm, ⟨79, _⟩ => ⟨S4096x2048, .f32⟩
  | .hbm, ⟨80, _⟩ => ⟨S4096x2048, .f32⟩
  | .hbm, ⟨81, _⟩ => ⟨S4096x2048, .f32⟩
  | .hbm, ⟨82, _⟩ => ⟨S_, .f32⟩
  | .hbm, ⟨83, _⟩ => ⟨S4096, .f32⟩
  | .hbm, ⟨84, _⟩ => ⟨S4096x1, .f32⟩
  | .hbm, ⟨85, _⟩ => ⟨S4096x2048, .f32⟩
  | .hbm, ⟨86, _⟩ => ⟨S4096x2048, .f32⟩
  | .hbm, ⟨87, _⟩ => ⟨S4096x1, .f32⟩
  | .hbm, ⟨88, _⟩ => ⟨S_, .f32⟩
  | .hbm, ⟨89, _⟩ => ⟨S4096x1, .f32⟩
  | .hbm, ⟨90, _⟩ => ⟨S4096x1, .f32⟩
  | .hbm, ⟨91, _⟩ => ⟨S_, .f32⟩
  | .hbm, ⟨92, _⟩ => ⟨S4096, .f32⟩
  | .hbm, ⟨93, _⟩ => ⟨S4096x2048, .f32⟩
  | .hbm, ⟨94, _⟩ => ⟨S4096x2048, .f32⟩
  | .hbm, ⟨95, _⟩ => ⟨S4096x2048, .f32⟩
  | .hbm, ⟨96, _⟩ => ⟨S4096x2048, .f32⟩
  | .hbm, ⟨97, _⟩ => ⟨S_, .f32⟩
  | .hbm, ⟨98, _⟩ => ⟨S4096, .f32⟩
  | .hbm, ⟨99, _⟩ => ⟨S4096x1, .f32⟩
  | .hbm, ⟨100, _⟩ => ⟨S_, .f32⟩
  | .hbm, ⟨101, _⟩ => ⟨S4096x1, .f32⟩
  | .hbm, ⟨102, _⟩ => ⟨S4096x1, .f32⟩
  | .hbm, ⟨103, _⟩ => ⟨S_, .f32⟩
  | .hbm, ⟨104, _⟩ => ⟨S4096, .f32⟩
  | .hbm, ⟨105, _⟩ => ⟨S4096x2048, .f32⟩
  | .hbm, ⟨106, _⟩ => ⟨S4096x2048, .f32⟩
  | .hbm, ⟨107, _⟩ => ⟨S4096x2048, .f32⟩
  | .hbm, ⟨108, _⟩ => ⟨S4096x2048, .f32⟩
  | .hbm, ⟨109, _⟩ => ⟨S4096x2048, .f32⟩
  | .hbm, ⟨110, _⟩ => ⟨S_, .f32⟩
  | .hbm, ⟨111, _⟩ => ⟨S2048, .f32⟩
  | .hbm, ⟨112, _⟩ => ⟨S1x2048, .f32⟩
  | .hbm, ⟨113, _⟩ => ⟨S_, .f32⟩
  | .hbm, ⟨114, _⟩ => ⟨S4096x2048, .f32⟩
  | .hbm, ⟨115, _⟩ => ⟨S4096x2048, .f32⟩
  | .hbm, ⟨116, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_3 : Ref sig .tc := ⟨.hbm, 28, rfl⟩
abbrev main_v15 : Ref sig .tc := ⟨.hbm, 29, rfl⟩
abbrev main_v16 : Ref sig .tc := ⟨.hbm, 30, rfl⟩
abbrev main_cst_4 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_5 : Ref sig .tc := ⟨.hbm, 37, rfl⟩
abbrev main_v22 : Ref sig .tc := ⟨.hbm, 38, rfl⟩
abbrev main_v23 : Ref sig .tc := ⟨.hbm, 39, rfl⟩
abbrev main_cst_6 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_7 : Ref sig .tc := ⟨.hbm, 46, rfl⟩
abbrev main_v29 : Ref sig .tc := ⟨.hbm, 47, rfl⟩
abbrev main_v30 : Ref sig .tc := ⟨.hbm, 48, rfl⟩
abbrev main_cst_8 : Ref sig .tc := ⟨.hbm, 49, rfl⟩
abbrev main_v31 : Ref sig .tc := ⟨.hbm, 50, rfl⟩
abbrev main_v32 : Ref sig .tc := ⟨.hbm, 51, rfl⟩
abbrev main_cst_9 : Ref sig .tc := ⟨.hbm, 52, rfl⟩
abbrev main_v33 : Ref sig .tc := ⟨.hbm, 53, rfl⟩
abbrev main_v34 : Ref sig .tc := ⟨.hbm, 54, rfl⟩
abbrev main_cst_10 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_11 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_12 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_13 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_14 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_15 : Ref sig .tc := ⟨.hbm, 88, rfl⟩
abbrev main_v63 : Ref sig .tc := ⟨.hbm, 89, rfl⟩
abbrev main_v64 : Ref sig .tc := ⟨.hbm, 90, rfl⟩
abbrev main_cst_16 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_17 : Ref sig .tc := ⟨.hbm, 97, rfl⟩
abbrev main_v70 : Ref sig .tc := ⟨.hbm, 98, rfl⟩
abbrev main_v71 : Ref sig .tc := ⟨.hbm, 99, rfl⟩
abbrev main_cst_18 : Ref sig .tc := ⟨.hbm, 100, rfl⟩
abbrev main_v72 : Ref sig .tc := ⟨.hbm, 101, rfl⟩
abbrev main_v73 : Ref sig .tc := ⟨.hbm, 102, rfl⟩
abbrev main_cst_19 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_cst_20 : Ref sig .tc := ⟨.hbm, 110, rfl⟩
abbrev main_v80 : Ref sig .tc := ⟨.hbm, 111, rfl⟩
abbrev main_v81 : Ref sig .tc := ⟨.hbm, 112, rfl⟩
abbrev main_cst_21 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩

abbrev nD : Nat := 1
abbrev τ : Topo := Topo.v7x

variable {F : FTy → Type} [FloatOps F]
-- ==== Kernel26.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 12
  | .vmem => 17
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S4096x2048, .f32⟩
  | .hbm, ⟨6, _⟩ => ⟨S4096x2048, .f32⟩
  | .hbm, ⟨7, _⟩ => ⟨S4096x2048, .bf16⟩
  | .hbm, ⟨8, _⟩ => ⟨S1x2048, .f32⟩
  | .hbm, ⟨9, _⟩ => ⟨S1x2048, .f32⟩
  | .hbm, ⟨10, _⟩ => ⟨S1x2048, .f32⟩
  | .hbm, ⟨11, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .bf16⟩
  | .local _ .vmem, ⟨12, _⟩ => ⟨S256x2048, .bf16⟩
  | .local _ .vmem, ⟨13, _⟩ => ⟨S1x2048, .f32⟩
  | .local _ .vmem, ⟨14, _⟩ => ⟨S1x2048, .f32⟩
  | .local _ .vmem, ⟨15, _⟩ => ⟨S1x2048, .f32⟩
  | .local _ .vmem, ⟨16, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15
abbrev cc0_sem11_0 : DmaSem sig := 16

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v68 : BitVec 1 := Scalar.cmpi .eq arg0 c0_i32
  let v69 : BitVec 32 := Scalar.extui v68
  let c0_i32_33 : BitVec 32 := 0#32
  let v70 : BitVec 1 := Scalar.cmpi .ne v69 c0_i32_33
  v70

def k0_cond2 (i : grid0.Coords) : BitVec 1 :=
  let arg0 : BitVec 32 := BitVec.ofNat 32 (i 0).val
  let c0_i32_34 : BitVec 32 := 0#32
  let v71 : BitVec 1 := Scalar.cmpi .sgt arg0 c0_i32_34
  let v72 : BitVec 32 := Scalar.extui v71
  let c0_i32_35 : BitVec 32 := 0#32
  let v73 : BitVec 1 := Scalar.cmpi .ne v72 c0_i32_35
  v73

def k0_cond3 (i : grid0.Coords) : BitVec 1 :=
  let arg0 : BitVec 32 := BitVec.ofNat 32 (i 0).val
  let c0_i32_37 : BitVec 32 := 0#32
  let v76 : BitVec 1 := Scalar.cmpi .eq arg0 c0_i32_37
  let v77 : BitVec 32 := Scalar.extui v76
  let c0_i32_38 : BitVec 32 := 0#32
  let v78 : BitVec 1 := Scalar.cmpi .ne v77 c0_i32_38
  v78

def k0_cond4 (i : grid0.Coords) : BitVec 1 :=
  let arg0 : BitVec 32 := BitVec.ofNat 32 (i 0).val
  let c0_i32_39 : BitVec 32 := 0#32
  let v79 : BitVec 1 := Scalar.cmpi .sgt arg0 c0_i32_39
  let v80 : BitVec 32 := Scalar.extui v79
  let c0_i32_40 : BitVec 32 := 0#32
  let v81 : BitVec 1 := Scalar.cmpi .ne v80 c0_i32_40
  v81

def k0_cond5 (i : grid0.Coords) : BitVec 1 :=
  let arg0 : BitVec 32 := BitVec.ofNat 32 (i 0).val
  let c0_i32_42 : BitVec 32 := 0#32
  let v85 : BitVec 1 := Scalar.cmpi .eq arg0 c0_i32_42
  let v86 : BitVec 32 := Scalar.extui v85
  let c0_i32_43 : BitVec 32 := 0#32
  let v87 : BitVec 1 := Scalar.cmpi .ne v86 c0_i32_43
  v87

def k0_cond6 (i : grid0.Coords) : BitVec 1 :=
  let arg0 : BitVec 32 := BitVec.ofNat 32 (i 0).val
  let c0_i32_44 : BitVec 32 := 0#32
  let v88 : BitVec 1 := Scalar.cmpi .sgt arg0 c0_i32_44
  let v89 : BitVec 32 := Scalar.extui v88
  let c0_i32_45 : BitVec 32 := 0#32
  let v90 : BitVec 1 := Scalar.cmpi .ne v89 c0_i32_45
  v90

def k0_cond7 (i : grid0.Coords) : BitVec 1 :=
  let arg0 : BitVec 32 := BitVec.ofNat 32 (i 0).val
  let c0_i32_47 : BitVec 32 := 0#32
  let v94 : BitVec 1 := Scalar.cmpi .eq arg0 c0_i32_47
  let v95 : BitVec 32 := Scalar.extui v94
  let c0_i32_48 : BitVec 32 := 0#32
  let v96 : BitVec 1 := Scalar.cmpi .ne v95 c0_i32_48
  v96

def k0_cond8 (i : grid0.Coords) : BitVec 1 :=
  let arg0 : BitVec 32 := BitVec.ofNat 32 (i 0).val
  let c0_i32_49 : BitVec 32 := 0#32
  let v97 : BitVec 1 := Scalar.cmpi .sgt arg0 c0_i32_49
  let v98 : BitVec 32 := Scalar.extui v97
  let c0_i32_50 : BitVec 32 := 0#32
  let v99 : BitVec 1 := Scalar.cmpi .ne v98 c0_i32_50
  v99

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference26Ideal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 118
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S4096x2048, .f32⟩
  | .hbm, ⟨6, _⟩ => ⟨S_, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S1x2048, .f32⟩
  | .hbm, ⟨11, _⟩ => ⟨S1x2048, .f32⟩
  | .hbm, ⟨12, _⟩ => ⟨S4096x2048, .f32⟩
  | .hbm, ⟨13, _⟩ => ⟨S4096x2048, .f32⟩
  | .hbm, ⟨14, _⟩ => ⟨S4096x2048, .f32⟩
  | .hbm, ⟨15, _⟩ => ⟨S_, .f32⟩
  | .hbm, ⟨16, _⟩ => ⟨S4096, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S_, .f32⟩
  | .hbm, ⟨25, _⟩ => ⟨S4096x2048, .f32⟩
  | .hbm, ⟨26, _⟩ => ⟨S4096x2048, .f32⟩
  | .hbm, ⟨27, _⟩ => ⟨S_, .f32⟩
  | .hbm, ⟨28, _⟩ => ⟨S4096, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S_, .f32⟩
  | .hbm, ⟨34, _⟩ => ⟨S4096x1, .f32⟩
  | .hbm, ⟨35, _⟩ => ⟨S4096x1, .f32⟩
  | .hbm, ⟨36, _⟩ => ⟨S4096x1, .f32⟩
  | .hbm, ⟨37, _⟩ => ⟨S4096x1, .f32⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S_, .f32⟩
  | .hbm, ⟨50, _⟩ => ⟨S4096x2048, .f32⟩
  | .hbm, ⟨51, _⟩ => ⟨S4096x2048, .f32⟩
  | .hbm, ⟨52, _⟩ => ⟨S_, .f32⟩
  | .hbm, ⟨53, _⟩ => ⟨S4096, .f32⟩
  | .hbm, ⟨54, _⟩ => ⟨S_, .f32⟩
  | .hbm, ⟨55, _⟩ => ⟨S4096, .f32⟩
  | .hbm, ⟨56, _⟩ => ⟨S4096, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S2048, .f32⟩
  | .hbm, ⟨63, _⟩ => ⟨S1x2048, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S4096, .f32⟩
  | .hbm, ⟨68, _⟩ => ⟨S_, .f32⟩
  | .hbm, ⟨69, _⟩ => ⟨S4096, .f32⟩
  | .hbm, ⟨70, _⟩ => ⟨S4096, .f32⟩
  | .hbm, ⟨71, _⟩ => ⟨S4096x2048, .f32⟩
  | .hbm, ⟨72, _⟩ => ⟨S4096x2048, .f32⟩
  | .hbm, ⟨73, _⟩ => ⟨S_, .f32⟩
  | .hbm, ⟨74, _⟩ => ⟨S2048, .f32⟩
  | .hbm, ⟨75, _⟩ => ⟨S1x2048, .f32⟩
  | .hbm, ⟨76, _⟩ => ⟨S4096x2048, .f32⟩
  | .hbm, ⟨77, _⟩ => ⟨S_, .f32⟩
  | .hbm, ⟨78, _⟩ => ⟨S2048, .f32⟩
  | .hbm, ⟨79, _⟩ => ⟨S1x2048, .f32⟩
  | .hbm, ⟨80, _⟩ => ⟨S4096x2048, .f32⟩
  | .hbm, ⟨81, _⟩ => ⟨S4096x2048, .f32⟩
  | .hbm, ⟨82, _⟩ => ⟨S4096x2048, .f32⟩
  | .hbm, ⟨83, _⟩ => ⟨S_, .f32⟩
  | .hbm, ⟨84, _⟩ => ⟨S4096, .f32⟩
  | .hbm, ⟨85, _⟩ => ⟨S4096x1, .f32⟩
  | .hbm, ⟨86, _⟩ => ⟨S4096x2048, .f32⟩
  | .hbm, ⟨87, _⟩ => ⟨S4096x2048, .f32⟩
  | .hbm, ⟨88, _⟩ => ⟨S4096x1, .f32⟩
  | .hbm, ⟨89, _⟩ => ⟨S_, .f32⟩
  | .hbm, ⟨90, _⟩ => ⟨S4096x1, .f32⟩
  | .hbm, ⟨91, _⟩ => ⟨S4096x1, .f32⟩
  | .hbm, ⟨92, _⟩ => ⟨S_, .f32⟩
  | .hbm, ⟨93, _⟩ => ⟨S4096, .f32⟩
  | .hbm, ⟨94, _⟩ => ⟨S4096x2048, .f32⟩
  | .hbm, ⟨95, _⟩ => ⟨S4096x2048, .f32⟩
  | .hbm, ⟨96, _⟩ => ⟨S4096x2048, .f32⟩
  | .hbm, ⟨97, _⟩ => ⟨S4096x2048, .f32⟩
  | .hbm, ⟨98, _⟩ => ⟨S_, .f32⟩
  | .hbm, ⟨99, _⟩ => ⟨S4096, .f32⟩
  | .hbm, ⟨100, _⟩ => ⟨S4096x1, .f32⟩
  | .hbm, ⟨101, _⟩ => ⟨S_, .f32⟩
  | .hbm, ⟨102, _⟩ => ⟨S4096x1, .f32⟩
  | .hbm, ⟨103, _⟩ => ⟨S4096x1, .f32⟩
  | .hbm, ⟨104, _⟩ => ⟨S_, .f32⟩
  | .hbm, ⟨105, _⟩ => ⟨S4096, .f32⟩
  | .hbm, ⟨106, _⟩ => ⟨S4096x2048, .f32⟩
  | .hbm, ⟨107, _⟩ => ⟨S4096x2048, .f32⟩
  | .hbm, ⟨108, _⟩ => ⟨S4096x2048, .f32⟩
  | .hbm, ⟨109, _⟩ => ⟨S4096x2048, .f32⟩
  | .hbm, ⟨110, _⟩ => ⟨S4096x2048, .f32⟩
  | .hbm, ⟨111, _⟩ => ⟨S_, .f32⟩
  | .hbm, ⟨112, _⟩ => ⟨S2048, .f32⟩
  | .hbm, ⟨113, _⟩ => ⟨S1x2048, .f32⟩
  | .hbm, ⟨114, _⟩ => ⟨S_, .f32⟩
  | .hbm, ⟨115, _⟩ => ⟨S4096x2048, .f32⟩
  | .hbm, ⟨116, _⟩ => ⟨S4096x2048, .f32⟩
  | .hbm, ⟨117, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_cst_5 : Ref sig .tc := ⟨.hbm, 30, rfl⟩
abbrev main_v18 : Ref sig .tc := ⟨.hbm, 31, rfl⟩
abbrev main_v19 : Ref sig .tc := ⟨.hbm, 32, rfl⟩
abbrev main_cst_6 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_7 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_8 : Ref sig .tc := ⟨.hbm, 49, rfl⟩
abbrev main_v34 : Ref sig .tc := ⟨.hbm, 50, rfl⟩
abbrev main_v35 : Ref sig .tc := ⟨.hbm, 51, rfl⟩
abbrev main_cst_9 : Ref sig .tc := ⟨.hbm, 52, rfl⟩
abbrev main_v36 : Ref sig .tc := ⟨.hbm, 53, rfl⟩
abbrev main_cst_10 : Ref sig .tc := ⟨.hbm, 54, rfl⟩
abbrev main_v37 : Ref sig .tc := ⟨.hbm, 55, rfl⟩
abbrev main_v38 : Ref sig .tc := ⟨.hbm, 56, rfl⟩
abbrev main_cst_11 : Ref sig .tc := ⟨.hbm, 57, rfl⟩
abbrev main_v39 : Ref sig .tc := ⟨.hbm, 58, rfl⟩
abbrev main_cst_12 : Ref sig .tc := ⟨.hbm, 59, rfl⟩
abbrev main_v40 : Ref sig .tc := ⟨.hbm, 60, rfl⟩
abbrev main_cst_13 : Ref sig .tc := ⟨.hbm, 61, rfl⟩
abbrev main_v41 : Ref sig .tc := ⟨.hbm, 62, rfl⟩
abbrev main_v42 : Ref sig .tc := ⟨.hbm, 63, rfl⟩
abbrev main_cst_14 : Ref sig .tc := ⟨.hbm, 64, rfl⟩
abbrev main_cst_15 : Ref sig .tc := ⟨.hbm, 65, rfl⟩
abbrev main_v43 : Ref sig .tc := ⟨.hbm, 66, rfl⟩
abbrev main_v44 : Ref sig .tc := ⟨.hbm, 67, rfl⟩
abbrev main_cst_16 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_17 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_cst_18 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_19 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_20 : Ref sig .tc := ⟨.hbm, 89, rfl⟩
abbrev main_v62 : Ref sig .tc := ⟨.hbm, 90, rfl⟩
abbrev main_v63 : Ref sig .tc := ⟨.hbm, 91, rfl⟩
abbrev main_cst_21 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_cst_22 : Ref sig .tc := ⟨.hbm, 98, rfl⟩
abbrev main_v69 : Ref sig .tc := ⟨.hbm, 99, rfl⟩
abbrev main_v70 : Ref sig .tc := ⟨.hbm, 100, rfl⟩
abbrev main_cst_23 : Ref sig .tc := ⟨.hbm, 101, rfl⟩
abbrev main_v71 : Ref sig .tc := ⟨.hbm, 102, rfl⟩
abbrev main_v72 : Ref sig .tc := ⟨.hbm, 103, rfl⟩
abbrev main_cst_24 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_cst_25 : Ref sig .tc := ⟨.hbm, 111, rfl⟩
abbrev main_v79 : Ref sig .tc := ⟨.hbm, 112, rfl⟩
abbrev main_v80 : Ref sig .tc := ⟨.hbm, 113, rfl⟩
abbrev main_cst_26 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩

abbrev nD : Nat := 1
abbrev τ : Topo := Topo.v7x

variable {F : FTy → Type} [FloatOps F]
-- ==== Kernel27.lean ====
abbrev S8x440x128 : Shape := ⟨3, ![8, 440, 128]⟩
abbrev S440x128 : Shape := ⟨2, ![440, 128]⟩
abbrev S1x440x128 : Shape := ⟨3, ![1, 440, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x440x128, .f32⟩
  | .hbm, ⟨1, _⟩ => ⟨S440x128, .f32⟩
  | .local _ .vmem, ⟨0, _⟩ => ⟨S8x440x128, .f32⟩
  | .local _ .vmem, ⟨1, _⟩ => ⟨S440x128, .f32⟩
  | _, _ => ⟨S8x440x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x440x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S440x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== Reference27Ideal.lean ====
abbrev S8x440x128 : Shape := ⟨3, ![8, 440, 128]⟩
abbrev S_ : Shape := ⟨0, ![]⟩
abbrev S440x128 : Shape := ⟨2, ![440, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x440x128, .f32⟩
  | .hbm, ⟨1, _⟩ => ⟨S_, .f32⟩
  | .hbm, ⟨2, _⟩ => ⟨S440x128, .f32⟩
  | _, _ => ⟨S8x440x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel28.lean ====
abbrev S2048x8 : Shape := ⟨2, ![2048, 8]⟩
abbrev S2x8x1536 : Shape := ⟨3, ![2, 8, 1536]⟩
abbrev S2x2048x1536 : Shape := ⟨3, ![2, 2048, 1536]⟩
abbrev S512x8 : Shape := ⟨2, ![512, 8]⟩
abbrev S1x8x1536 : Shape := ⟨3, ![1, 8, 1536]⟩
abbrev S1x512x1536 : Shape := ⟨3, ![1, 512, 1536]⟩
abbrev S512x1 : Shape := ⟨2, ![512, 1]⟩
abbrev S1x1x1536 : Shape := ⟨3, ![1, 1, 1536]⟩
abbrev S1x1536 : Shape := ⟨2, ![1, 1536]⟩
abbrev S512x1536 : Shape := ⟨2, ![512, 1536]⟩

abbrev nBuf : Space → Nat
  | .hbm => 3
  | .vmem => 6
  | .smem => 0
  | _ => 0

abbrev bufTy : (tb : Table) → Fin (tcTables nBuf tb) → BufTy
  | .hbm, ⟨0, _⟩ => ⟨S2048x8, .f32⟩
  | .hbm, ⟨1, _⟩ => ⟨S2x8x1536, .f32⟩
  | .hbm, ⟨2, _⟩ => ⟨S2x2048x1536, .f32⟩
  | .local _ .vmem, ⟨0, _⟩ => ⟨S512x8, .f32⟩
  | .local _ .vmem, ⟨1, _⟩ => ⟨S512x8, .f32⟩
  | .local _ .vmem, ⟨2, _⟩ => ⟨S1x8x1536, .f32⟩
  | .local _ .vmem, ⟨3, _⟩ => ⟨S1x8x1536, .f32⟩
  | .local _ .vmem, ⟨4, _⟩ => ⟨S1x512x1536, .f32⟩
  | .local _ .vmem, ⟨5, _⟩ => ⟨S1x512x1536, .f32⟩
  | _, _ => ⟨S2048x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x8x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference28Ideal.lean ====
abbrev S2048x8 : Shape := ⟨2, ![2048, 8]⟩
abbrev S2x8x1536 : Shape := ⟨3, ![2, 8, 1536]⟩
abbrev S8x2048 : Shape := ⟨2, ![8, 2048]⟩
abbrev S_ : Shape := ⟨0, ![]⟩
abbrev S2x2048x1536 : Shape := ⟨3, ![2, 2048, 1536]⟩
abbrev S2x1536x8 : Shape := ⟨3, ![2, 1536, 8]⟩
abbrev S2x1536x2048 : Shape := ⟨3, ![2, 1536, 2048]⟩

abbrev nBuf : Space → Nat
  | .hbm => 19
  | .vmem => 0
  | .smem => 0
  | _ => 0

abbrev bufTy : (tb : Table) → Fin (tcTables nBuf tb) → BufTy
  | .hbm, ⟨0, _⟩ => ⟨S2048x8, .f32⟩
  | .hbm, ⟨1, _⟩ => ⟨S2x8x1536, .f32⟩
  | .hbm, ⟨2, _⟩ => ⟨S8x2048, .f32⟩
  | .hbm, ⟨3, _⟩ => ⟨S_, .f32⟩
  | .hbm, ⟨4, _⟩ => ⟨S2x2048x1536, .f32⟩
  | .hbm, ⟨5, _⟩ => ⟨S8x2048, .f32⟩
  | .hbm, ⟨6, _⟩ => ⟨S8x2048, .f32⟩
  | .hbm, ⟨7, _⟩ => ⟨S_, .f32⟩
  | .hbm, ⟨8, _⟩ => ⟨S8x2048, .f32⟩
  | .hbm, ⟨9, _⟩ => ⟨S8x2048, .f32⟩
  | .hbm, ⟨10, _⟩ => ⟨S_, .f32⟩
  | .hbm, ⟨11, _⟩ => ⟨S8x2048, .f32⟩
  | .hbm, ⟨12, _⟩ => ⟨S8x2048, .f32⟩
  | .hbm, ⟨13, _⟩ => ⟨S8x2048, .f32⟩
  | .hbm, ⟨14, _⟩ => ⟨S2x1536x8, .f32⟩
  | .hbm, ⟨15, _⟩ => ⟨S2x8x1536, .f32⟩
  | .hbm, ⟨16, _⟩ => ⟨S2x1536x8, .f32⟩
  | .hbm, ⟨17, _⟩ => ⟨S2x1536x2048, .f32⟩
  | .hbm, ⟨18, _⟩ => ⟨S2x2048x1536, .f32⟩
  | _, _ => ⟨S2048x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩

abbrev nD : Nat := 1
abbrev τ : Topo := Topo.v7x

variable {F : FTy → Type} [FloatOps F]
-- ==== Kernel29.lean ====
abbrev S4096x128 : Shape := ⟨2, ![4096, 128]⟩
abbrev S128x2048 : Shape := ⟨2, ![128, 2048]⟩
abbrev S4096x2048 : Shape := ⟨2, ![4096, 2048]⟩
abbrev S1024x128 : Shape := ⟨2, ![1024, 128]⟩
abbrev S128x1024 : Shape := ⟨2, ![128, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x128, .f32⟩
  | .hbm, ⟨1, _⟩ => ⟨S128x2048, .bf16⟩
  | .hbm, ⟨2, _⟩ => ⟨S4096x2048, .f32⟩
  | .local _ .vmem, ⟨0, _⟩ => ⟨S1024x128, .f32⟩
  | .local _ .vmem, ⟨1, _⟩ => ⟨S1024x128, .f32⟩
  | .local _ .vmem, ⟨2, _⟩ => ⟨S128x1024, .bf16⟩
  | .local _ .vmem, ⟨3, _⟩ => ⟨S128x1024, .bf16⟩
  | .local _ .vmem, ⟨4, _⟩ => ⟨S1024x1024, .f32⟩
  | .local _ .vmem, ⟨5, _⟩ => ⟨S1024x1024, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference29Ideal.lean ====
abbrev S4096x128 : Shape := ⟨2, ![4096, 128]⟩
abbrev S128x2048 : Shape := ⟨2, ![128, 2048]⟩
abbrev S_ : Shape := ⟨0, ![]⟩
abbrev S4096x2048 : Shape := ⟨2, ![4096, 2048]⟩
abbrev S2048x128 : Shape := ⟨2, ![2048, 128]⟩

abbrev nBuf : Space → Nat
  | .hbm => 8
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S128x2048, .bf16⟩
  | .hbm, ⟨2, _⟩ => ⟨S_, .f32⟩
  | .hbm, ⟨3, _⟩ => ⟨S4096x2048, .f32⟩
  | .hbm, ⟨4, _⟩ => ⟨S128x2048, .f32⟩
  | .hbm, ⟨5, _⟩ => ⟨S2048x128, .f32⟩
  | .hbm, ⟨6, _⟩ => ⟨S4096x128, .f32⟩
  | .hbm, ⟨7, _⟩ => ⟨S4096x2048, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel30.lean ====
abbrev S4096x2048 : Shape := ⟨2, ![4096, 2048]⟩
abbrev S128x2048 : Shape := ⟨2, ![128, 2048]⟩
abbrev S4096x128 : Shape := ⟨2, ![4096, 128]⟩
abbrev S1024x2048 : Shape := ⟨2, ![1024, 2048]⟩
abbrev S1024x128 : Shape := ⟨2, ![1024, 128]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S128x2048, .bf16⟩
  | .hbm, ⟨2, _⟩ => ⟨S4096x128, .f32⟩
  | .local _ .vmem, ⟨0, _⟩ => ⟨S1024x2048, .bf16⟩
  | .local _ .vmem, ⟨1, _⟩ => ⟨S1024x2048, .bf16⟩
  | .local _ .vmem, ⟨2, _⟩ => ⟨S128x2048, .bf16⟩
  | .local _ .vmem, ⟨3, _⟩ => ⟨S1024x128, .f32⟩
  | .local _ .vmem, ⟨4, _⟩ => ⟨S1024x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S128x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference30Ideal.lean ====
abbrev S4096x2048 : Shape := ⟨2, ![4096, 2048]⟩
abbrev S128x2048 : Shape := ⟨2, ![128, 2048]⟩
abbrev S2048x128 : Shape := ⟨2, ![2048, 128]⟩
abbrev S4096x128 : Shape := ⟨2, ![4096, 128]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S128x2048, .bf16⟩
  | .hbm, ⟨2, _⟩ => ⟨S4096x2048, .f32⟩
  | .hbm, ⟨3, _⟩ => ⟨S128x2048, .f32⟩
  | .hbm, ⟨4, _⟩ => ⟨S2048x128, .f32⟩
  | .hbm, ⟨5, _⟩ => ⟨S4096x128, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.Math.lean ====
/-
The gradient of one head's windowed attention over the reals, written twice: as the reference computes it, block of
queries by block of queries against the block's own keys and the keys of the block before; and as the kernel computes
it, block of keys by block of keys against the block's own queries and the queries of the block ahead, from the saved
log-sum-exp.  The two agree.
-/
module

public import Mathlib.Analysis.SpecialFunctions.Log.Basic
public import Mathlib.Tactic.FieldSimp
public import Mathlib.Tactic.Ring
public import Mathlib.Algebra.BigOperators.Fin
public import Mathlib.Algebra.BigOperators.Field

@[expose] public section

noncomputable section

namespace Cert.Attn

open Finset

/-- One head of one residue class: 1024 rows of 128 features, in 8 blocks of 128 rows; `m` is the row's shift. -/
structure Head where
  q : Fin 1024 → Fin 128 → ℝ
  k : Fin 1024 → Fin 128 → ℝ
  v : Fin 1024 → Fin 128 → ℝ
  g : Fin 1024 → Fin 128 → ℝ
  l : Fin 1024 → ℝ
  sl : ℝ
  c : ℝ
  m : Fin 8 → Fin 128 → ℝ

/-- Row `i` of block `n`. -/
def row (n : Fin 8) (i : Fin 128) : Fin 1024 := ⟨n.val * 128 + i.val, by omega⟩

/-- Key `j` of the 256 a block of queries sees: the block before (zero before the first), then the block itself. -/
def back (a : Fin 1024 → Fin 128 → ℝ) (n : Fin 8) (j : Fin 256) (e : Fin 128) : ℝ :=
  if h : n.val * 128 + j.val < 128 then 0 else a ⟨n.val * 128 + j.val - 128, by omega⟩ e

/-- The earlier half of the 256. -/
def lo (j : Fin 128) : Fin 256 := ⟨j.val, by omega⟩
/-- The later half of the 256. -/
def hi (j : Fin 128) : Fin 256 := ⟨128 + j.val, by omega⟩

theorem sum256 {M : Type*} [AddCommMonoid M] (f : Fin 256 → M) : ∑ j, f j = ∑ j, f (lo j) + ∑ j, f (hi j) :=
  Fin.sum_univ_add (a := 128) (b := 128) f

/-- The pair is inside the window and the key exists. -/
def ok (n : Fin 8) (i : Fin 128) (j : Fin 256) : Prop :=
  j.val ≤ i.val + 128 ∧ i.val ≤ j.val ∧ ¬ (n.val = 0 ∧ j.val < 128)

instance (n : Fin 8) (i : Fin 128) (j : Fin 256) : Decidable (ok n i j) := by unfold ok; infer_instance

/-- The row of the 256 a block of keys sees: the block itself, then the block ahead (the last block sees itself). -/
def pos (n : Fin 8) (a : Fin 256) : Fin 1024 :=
  if h : a.val < 128 then ⟨n.val * 128 + a.val, by omega⟩ else ⟨min (n.val + 1) 7 * 128 + (a.val - 128), by omega⟩

/-- How far the query is behind the key, in rows of the residue class. -/
def dist (a : Fin 256) (j : Fin 128) : ℝ :=
  if a.val < 128 then (((a.val : ℤ) - j.val : ℤ) : ℝ) else (((a.val : ℤ) - 128 - j.val : ℤ) : ℝ) + 128

/-- The pair is inside the window and the query exists. -/
def okK (n : Fin 8) (a : Fin 256) (j : Fin 128) : Prop :=
  if a.val < 128 then j.val ≤ a.val else a.val - 128 ≤ j.val ∧ n.val < 7

instance (n : Fin 8) (a : Fin 256) (j : Fin 128) : Decidable (okK n a j) := by unfold okK; infer_instance

def blockOf (r : Fin 1024) : Fin 8 := ⟨r.val / 128, by omega⟩
def within (r : Fin 1024) : Fin 128 := ⟨r.val % 128, by omega⟩

theorem blockOf_row (n : Fin 8) (i : Fin 128) : blockOf (row n i) = n := by
  apply Fin.ext; show (n.val * 128 + i.val) / 128 = n.val; omega

theorem within_row (n : Fin 8) (i : Fin 128) : within (row n i) = i := by
  apply Fin.ext; show (n.val * 128 + i.val) % 128 = i.val; omega

namespace Head

variable (D : Head)

/-! ### As the reference computes it -/

def s (n : Fin 8) (i : Fin 128) (j : Fin 256) : ℝ :=
  (∑ e, D.q (row n i) e * back D.k n j e) * D.c + (-D.sl) * (((((i.val : ℤ) + 128 - j.val) * 4 : ℤ)) : ℝ)

def p (n : Fin 8) (i : Fin 128) (j : Fin 256) : ℝ := if ok n i j then Real.exp (D.s n i j - D.m n i) else 0

def den (n : Fin 8) (i : Fin 128) : ℝ := ∑ j, D.p n i j

def num (n : Fin 8) (i : Fin 128) (e : Fin 128) : ℝ := ∑ j, back D.v n j e * D.p n i j

def o (n : Fin 8) (i : Fin 128) (e : Fin 128) : ℝ := D.num n i e / D.den n i

def lse (n : Fin 8) (i : Fin 128) : ℝ := D.m n i + Real.log (D.den n i)

/-- What the row's normaliser passes back to every score of the row. -/
def dden (n : Fin 8) (i : Fin 128) : ℝ :=
  D.l (row n i) / D.den n i + -(∑ e, D.g (row n i) e * (1 / (D.den n i * D.den n i)) * D.num n i e)

/-- The gradient of the scores. -/
def ds (n : Fin 8) (i : Fin 128) (j : Fin 256) : ℝ :=
  ((∑ e, D.g (row n i) e / D.den n i * back D.v n j e) + D.dden n i) * D.p n i j

/-! ### As the kernel computes it -/

/-- The log-sum-exp of a row. -/
def lseR (r : Fin 1024) : ℝ := D.lse (blockOf r) (within r)

/-- What the softmax subtracts from a row: the output gradient against the output, less the log-sum-exp's gradient. -/
def dprR (r : Fin 1024) : ℝ := (∑ e, D.g r e * D.o (blockOf r) (within r) e) - D.l r

def sK (n : Fin 8) (a : Fin 256) (j : Fin 128) : ℝ :=
  (∑ e, D.q (pos n a) e * D.k (row n j) e) * D.c - D.sl * 4 * dist a j

def w (n : Fin 8) (a : Fin 256) (j : Fin 128) : ℝ :=
  if okK n a j then Real.exp (D.sK n a j - D.lseR (pos n a)) else 0

def dsK (n : Fin 8) (a : Fin 256) (j : Fin 128) : ℝ :=
  D.w n a j * ((∑ e, D.g (pos n a) e * D.v (row n j) e) - D.dprR (pos n a)) * D.c

/-! ### They agree -/

theorem p_nonneg (n : Fin 8) (i : Fin 128) (j : Fin 256) : 0 ≤ D.p n i j := by
  unfold p; split_ifs; exacts [(Real.exp_pos _).le, le_rfl]

theorem ok_diag (n : Fin 8) (i : Fin 128) : ok n i (hi i) := by
  refine ⟨?_, ?_, ?_⟩ <;> simp only [hi] <;> omega

theorem den_pos (n : Fin 8) (i : Fin 128) : 0 < D.den n i := by
  refine Finset.sum_pos' (fun j _ => D.p_nonneg n i j) ⟨hi i, Finset.mem_univ _, ?_⟩
  unfold p; rw [if_pos (ok_diag n i)]; exact Real.exp_pos _

theorem den_ne (n : Fin 8) (i : Fin 128) : D.den n i ≠ 0 := (D.den_pos n i).ne'

/-- The gradients of a row's scores add up to the gradient of its log-sum-exp. -/
theorem sum_ds (n : Fin 8) (i : Fin 128) : ∑ j, D.ds n i j = D.l (row n i) := by
  have hd := D.den_ne n i
  have h1 : ∑ j, (∑ e, D.g (row n i) e / D.den n i * back D.v n j e) * D.p n i j
      = ∑ e, D.g (row n i) e / D.den n i * D.num n i e := by
    simp only [Finset.sum_mul, num, Finset.mul_sum]
    rw [Finset.sum_comm]
    exact Finset.sum_congr rfl fun e _ => Finset.sum_congr rfl fun j _ => by ring
  have h2 : ∑ j, D.dden n i * D.p n i j = D.dden n i * D.den n i := by rw [← Finset.mul_sum, den]
  have h3 : (∑ e, D.g (row n i) e * (1 / (D.den n i * D.den n i)) * D.num n i e) * D.den n i
      = ∑ e, D.g (row n i) e / D.den n i * D.num n i e := by
    rw [Finset.sum_mul]
    exact Finset.sum_congr rfl fun e _ => by field_simp
  unfold ds
  simp only [add_mul]
  rw [Finset.sum_add_distrib, h1, h2, dden, add_mul, neg_mul, h3, div_mul_cancel₀ _ hd]
  ring

theorem exp_lse (n : Fin 8) (i : Fin 128) (x : ℝ) : Real.exp (x - D.lse n i) = Real.exp (x - D.m n i) / D.den n i := by
  unfold lse
  rw [← sub_sub, Real.exp_sub (x - D.m n i), Real.exp_log (D.den_pos n i)]

theorem back_hi (a : Fin 1024 → Fin 128 → ℝ) (n : Fin 8) (j : Fin 128) (e : Fin 128) : back a n (hi j) e = a (row n j) e := by
  unfold back
  rw [dif_neg (by simp only [hi]; omega)]
  congr 1; apply Fin.ext; simp only [hi, row]; omega

theorem back_lo (a : Fin 1024 → Fin 128 → ℝ) (n n' : Fin 8) (h : n'.val = n.val + 1) (j : Fin 128) (e : Fin 128) :
    back a n' (lo j) e = a (row n j) e := by
  unfold back
  rw [dif_neg (by simp only [lo]; omega)]
  congr 1; apply Fin.ext; simp only [lo, row]; omega

theorem pos_lo (n : Fin 8) (i : Fin 128) : pos n (lo i) = row n i := by
  unfold pos; rw [dif_pos (by simp only [lo]; omega)]; rfl

theorem pos_hi (n n' : Fin 8) (h : n'.val = n.val + 1) (i : Fin 128) : pos n (hi i) = row n' i := by
  unfold pos; rw [dif_neg (by simp only [hi]; omega)]; apply Fin.ext; simp only [hi, row]; omega

theorem lseR_row (n : Fin 8) (i : Fin 128) : D.lseR (row n i) = D.lse n i := by
  unfold lseR; rw [blockOf_row, within_row]

/-- The probability the kernel rebuilds, on a row of the block itself. -/
theorem w_lo (n : Fin 8) (i j : Fin 128) : D.w n (lo i) j = D.p n i (hi j) / D.den n i := by
  have hk : okK n (lo i) j ↔ ok n i (hi j) := by
    unfold okK ok; rw [if_pos (by simp only [lo]; omega)]; simp only [lo, hi]; omega
  unfold w p
  by_cases h : ok n i (hi j)
  · rw [if_pos (hk.2 h), if_pos h, pos_lo, lseR_row, exp_lse]
    congr 2
    unfold sK s dist
    rw [if_pos (by simp only [lo]; omega), pos_lo]
    simp only [back_hi]
    simp only [lo, hi]
    push_cast
    ring
  · rw [if_neg (fun h' => h (hk.1 h')), if_neg h, zero_div]

/-- The probability the kernel rebuilds, on a row of the block ahead. -/
theorem w_hi (n n' : Fin 8) (hn : n'.val = n.val + 1) (i j : Fin 128) : D.w n (hi i) j = D.p n' i (lo j) / D.den n' i := by
  have hk : okK n (hi i) j ↔ ok n' i (lo j) := by
    unfold okK ok; rw [if_neg (by simp only [hi]; omega)]; simp only [lo, hi]; omega
  unfold w p
  by_cases h : ok n' i (lo j)
  · rw [if_pos (hk.2 h), if_pos h, pos_hi n n' hn, lseR_row, exp_lse]
    congr 2
    unfold sK s dist
    rw [if_neg (by simp only [hi]; omega), pos_hi n n' hn]
    simp only [back_lo _ n n' hn]
    simp only [lo, hi]
    push_cast
    ring
  · rw [if_neg (fun h' => h (hk.1 h')), if_neg h, zero_div]

/-- The last block has no block ahead. -/
theorem w_last (n : Fin 8) (hn : n.val = 7) (i j : Fin 128) : D.w n (hi i) j = 0 := by
  unfold w
  rw [if_neg]
  unfold okK; rw [if_neg (by simp only [hi]; omega)]; omega

theorem ds_core (n : Fin 8) (i : Fin 128) (j : Fin 256) :
    D.p n i j / D.den n i * ((∑ e, D.g (row n i) e * back D.v n j e) - D.dprR (row n i)) = D.ds n i j := by
  have hd := D.den_ne n i
  have h1 : ∑ e, D.g (row n i) e / D.den n i * back D.v n j e = (∑ e, D.g (row n i) e * back D.v n j e) / D.den n i := by
    rw [Finset.sum_div]; exact Finset.sum_congr rfl fun e _ => by ring
  have h2 : ∑ e, D.g (row n i) e * (1 / (D.den n i * D.den n i)) * D.num n i e
      = (∑ e, D.g (row n i) e * D.o n i e) / D.den n i := by
    rw [Finset.sum_div]; exact Finset.sum_congr rfl fun e _ => by unfold o; field_simp
  unfold ds dden dprR
  rw [blockOf_row, within_row, h1, h2]
  field_simp
  ring

theorem dsK_lo (n : Fin 8) (i j : Fin 128) : D.dsK n (lo i) j = D.ds n i (hi j) * D.c := by
  unfold dsK
  rw [w_lo, pos_lo, ← ds_core]
  simp only [back_hi]

theorem dsK_hi (n n' : Fin 8) (hn : n'.val = n.val + 1) (i j : Fin 128) : D.dsK n (hi i) j = D.ds n' i (lo j) * D.c := by
  unfold dsK
  rw [D.w_hi n n' hn, pos_hi n n' hn, ← ds_core]
  simp only [back_lo _ n n' hn]

theorem dsK_last (n : Fin 8) (hn : n.val = 7) (i j : Fin 128) : D.dsK n (hi i) j = 0 := by
  unfold dsK; rw [D.w_last n hn]; ring

/-! ### The three gradients -/

/-- The block after `n`, when there is one. -/
def next (n : Fin 8) (h : n.val < 7) : Fin 8 := ⟨n.val + 1, by omega⟩
/-- The block before `n`, when there is one. -/
def prev (n : Fin 8) : Fin 8 := ⟨n.val - 1, by omega⟩

/-- The gradient of v, as the reference adds it up. -/
def dv (n : Fin 8) (j e : Fin 128) : ℝ :=
  (∑ i, D.g (row n i) e / D.den n i * D.p n i (hi j)) +
    if h : n.val < 7 then ∑ i, D.g (row (next n h) i) e / D.den (next n h) i * D.p (next n h) i (lo j) else 0

/-- The gradient of k, as the reference adds it up. -/
def dk (n : Fin 8) (j e : Fin 128) : ℝ :=
  (∑ i, D.ds n i (hi j) * D.c * D.q (row n i) e) +
    if h : n.val < 7 then ∑ i, D.ds (next n h) i (lo j) * D.c * D.q (row (next n h) i) e else 0

/-- The gradient of q, as the reference adds it up. -/
def dq (n : Fin 8) (i e : Fin 128) : ℝ := ∑ j, D.ds n i j * D.c * back D.k n j e

theorem dv_kernel (n : Fin 8) (j e : Fin 128) : ∑ a, D.w n a j * D.g (pos n a) e = D.dv n j e := by
  rw [sum256, dv]
  congr 1
  · exact Finset.sum_congr rfl fun i _ => by rw [w_lo, pos_lo]; ring
  · split_ifs with h
    · exact Finset.sum_congr rfl fun i _ => by rw [D.w_hi n (next n h) rfl, pos_hi n (next n h) rfl]; ring
    · exact Finset.sum_eq_zero fun i _ => by rw [D.w_last n (by omega), zero_mul]

theorem dk_kernel (n : Fin 8) (j e : Fin 128) : ∑ a, D.dsK n a j * D.q (pos n a) e = D.dk n j e := by
  rw [sum256, dk]
  congr 1
  · exact Finset.sum_congr rfl fun i _ => by rw [dsK_lo, pos_lo]
  · split_ifs with h
    · exact Finset.sum_congr rfl fun i _ => by rw [D.dsK_hi n (next n h) rfl, pos_hi n (next n h) rfl]
    · exact Finset.sum_eq_zero fun i _ => by rw [D.dsK_last n (by omega), zero_mul]

theorem dq_kernel (n : Fin 8) (i e : Fin 128) :
    (if n.val = 0 then 0 else ∑ j, D.dsK (prev n) (hi i) j * D.k (row (prev n) j) e)
      + ∑ j, D.dsK n (lo i) j * D.k (row n j) e = D.dq n i e := by
  rw [dq, sum256]
  congr 1
  · split_ifs with h
    · refine (Finset.sum_eq_zero fun j _ => ?_).symm
      unfold back; rw [dif_pos (by simp only [lo]; omega), mul_zero]
    · have hn : n.val = (prev n).val + 1 := by simp only [prev]; omega
      exact Finset.sum_congr rfl fun j _ => by rw [D.dsK_hi (prev n) n hn, back_lo _ (prev n) n hn]
  · exact Finset.sum_congr rfl fun j _ => by rw [dsK_lo, back_hi]

end Head

end Cert.Attn

end
-- ==== Proof.Num.lean ====
/-
Arithmetic of the extended reals at finite values: a finite sum, a quotient, a row's maximum; the slopes' and the
scale's words as real numbers.
-/
module

public import Idealize.ShloMosaic.PureOps.Ideal.Laws
public import Mathlib.Tactic.NormNum

@[expose] public section

noncomputable section

namespace Cert.Attn

open Idealize.ShloMosaic

theorem coe_sum {ι : Type*} (s : Finset ι) (f : ι → ℝ) : ((∑ i ∈ s, f i : ℝ) : EReal) = ∑ i ∈ s, (f i : EReal) := by
  classical
  refine Finset.induction_on s rfl fun a t ha ih => ?_
  rw [Finset.sum_insert ha, Finset.sum_insert ha, EReal.coe_add, ih]

theorem div_real {x y : ℝ} (hy : y ≠ 0) : Ideal.div (x : EReal) (y : EReal) = ((x / y : ℝ) : EReal) := by
  rw [Ideal.div_coe hy, ← EReal.coe_mul, mul_one_div]

theorem log_real {x : ℝ} (hx : 0 < x) : Ideal.log (x : EReal) = ((Real.log x : ℝ) : EReal) := by
  rw [Ideal.log_coe, if_neg (not_le.2 hx)]

/-- The maximum of finitely many extended reals, from minus infinity, is minus infinity or one of them. -/
theorem fold_max_mem {ι : Type*} (s : Finset ι) (f : ι → EReal) :
    s.fold max ⊥ f = ⊥ ∨ ∃ j ∈ s, s.fold max ⊥ f = f j := by
  classical
  refine Finset.induction_on s (Or.inl rfl) fun a t ha ih => Or.inr ?_
  rw [Finset.fold_insert ha]
  rcases le_total (t.fold max ⊥ f) (f a) with h | h
  · exact ⟨a, Finset.mem_insert_self _ _, max_eq_left h⟩
  · rcases ih with h0 | ⟨j, hj, hj'⟩
    · exact ⟨a, Finset.mem_insert_self _ _, by rw [h0]; exact max_eq_left bot_le⟩
    · exact ⟨j, Finset.mem_insert_of_mem hj, by rw [max_eq_right h, hj']⟩

/-- Where one of them is a real number and none is plus infinity, the maximum is attained and is a real number. -/
theorem fold_max_real {ι : Type*} [Fintype ι] (f : ι → EReal) (a : ι) (ha : f a ≠ ⊥) (ht : ∀ j, f j ≠ ⊤) :
    (∃ j, Finset.univ.fold max ⊥ f = f j) ∧
      Finset.univ.fold max ⊥ f = (((Finset.univ.fold max ⊥ f).toReal : ℝ) : EReal) := by
  have hle : f a ≤ Finset.univ.fold max ⊥ f := (Finset.le_fold_max (f a)).2 (Or.inr ⟨a, Finset.mem_univ _, le_rfl⟩)
  have hb : Finset.univ.fold max ⊥ f ≠ ⊥ := fun h => ha (le_bot_iff.1 (h ▸ hle))
  obtain ⟨j, _, hj⟩ := (fold_max_mem Finset.univ f).resolve_left hb
  exact ⟨⟨j, hj⟩, (EReal.coe_toReal (by rw [hj]; exact ht j) hb).symm⟩

/-- The scale of the scores, `128 ^ (-1/2)` as its single-precision word reads. -/
def scale : ℝ := 11863283 / 2 ^ 27

theorem scale_word : Ideal.ofBits .f32 0x3DB504F3#32 = ((scale : ℝ) : EReal) := by
  simp [Ideal.ofBits, Ideal.ieee, -EReal.coe_mul, scale]; norm_num

/-- Head `h`'s slope, as its single-precision word reads. -/
def slope : Fin 8 → ℝ :=
  ![1 / 2 ^ 3, 13316085 / 2 ^ 27, 10568984 / 2 ^ 27, 1 / 2 ^ 4, 13316085 / 2 ^ 28, 10568984 / 2 ^ 28, 1 / 2 ^ 5,
    13316085 / 2 ^ 29]

theorem inf_word : Ideal.ofBits .f32 0xFF800000#32 = (⊥ : EReal) := by
  simp [Ideal.ofBits, Ideal.ieee]

/-- The word of plus infinity. -/
theorem top_word : Ideal.ofBits .f32 0x7F800000#32 = (⊤ : EReal) := by
  simp [Ideal.ofBits, Ideal.ieee]

/-- An extended real whose magnitude lies below plus infinity is a real number. -/
theorem real_of_below {x : EReal} (h : Ideal.cmp .olt (max x (-x)) (Ideal.ofBits .f32 0x7F800000#32) = 1#1) :
    ((x.toReal : ℝ) : EReal) = x := by
  rw [top_word] at h
  have hlt : max x (-x) < ⊤ := by
    by_contra hn
    have h' : BitVec.ofBool (decide (max x (-x) < ⊤)) = 1#1 := h
    rw [decide_eq_false hn] at h'
    exact absurd h' (by decide)
  refine EReal.coe_toReal (ne_of_lt (lt_of_le_of_lt (le_max_left _ _) hlt)) ?_
  rintro rfl
  rw [EReal.neg_bot] at hlt
  exact absurd (lt_of_le_of_lt (le_max_right _ _) hlt) (lt_irrefl _)

theorem w128 : Ideal.ofBits .f32 0x43000000#32 = ((128 : ℝ) : EReal) := by
  simp [Ideal.ofBits, Ideal.ieee, -EReal.coe_mul]; norm_num

theorem one_word : Ideal.ofBits .f32 0x3F800000#32 = ((1 : ℝ) : EReal) := by
  simp [Ideal.ofBits, Ideal.ieee, -EReal.coe_mul]; norm_num

theorem ref0 : Ideal.ofBits .f32 0x3E000000#32 = ((slope 0 : ℝ) : EReal) := by
  simp [Ideal.ofBits, Ideal.ieee, -EReal.coe_mul, slope]; norm_num
theorem ref1 : Ideal.ofBits .f32 0x3DCB2FF5#32 = ((slope 1 : ℝ) : EReal) := by
  simp [Ideal.ofBits, Ideal.ieee, -EReal.coe_mul, slope]; norm_num
theorem ref2 : Ideal.ofBits .f32 0x3DA14518#32 = ((slope 2 : ℝ) : EReal) := by
  simp [Ideal.ofBits, Ideal.ieee, -EReal.coe_mul, slope]; norm_num
theorem ref3 : Ideal.ofBits .f32 0x3D800000#32 = ((slope 3 : ℝ) : EReal) := by
  simp [Ideal.ofBits, Ideal.ieee, -EReal.coe_mul, slope]; norm_num
theorem ref4 : Ideal.ofBits .f32 0x3D4B2FF5#32 = ((slope 4 : ℝ) : EReal) := by
  simp [Ideal.ofBits, Ideal.ieee, -EReal.coe_mul, slope]; norm_num
theorem ref5 : Ideal.ofBits .f32 0x3D214518#32 = ((slope 5 : ℝ) : EReal) := by
  simp [Ideal.ofBits, Ideal.ieee, -EReal.coe_mul, slope]; norm_num
theorem ref6 : Ideal.ofBits .f32 0x3D000000#32 = ((slope 6 : ℝ) : EReal) := by
  simp [Ideal.ofBits, Ideal.ieee, -EReal.coe_mul, slope]; norm_num
theorem ref7 : Ideal.ofBits .f32 0x3CCB2FF5#32 = ((slope 7 : ℝ) : EReal) := by
  simp [Ideal.ofBits, Ideal.ieee, -EReal.coe_mul, slope]; norm_num

theorem ker0 : Ideal.ofBits .f32 0x3F000000#32 = ((slope 0 * 4 : ℝ) : EReal) := by
  simp [Ideal.ofBits, Ideal.ieee, -EReal.coe_mul, slope]; norm_num
theorem ker1 : Ideal.ofBits .f32 0x3ECB2FF5#32 = ((slope 1 * 4 : ℝ) : EReal) := by
  simp [Ideal.ofBits, Ideal.ieee, -EReal.coe_mul, slope]; norm_num
theorem ker2 : Ideal.ofBits .f32 0x3EA14518#32 = ((slope 2 * 4 : ℝ) : EReal) := by
  simp [Ideal.ofBits, Ideal.ieee, -EReal.coe_mul, slope]; norm_num
theorem ker3 : Ideal.ofBits .f32 0x3E800000#32 = ((slope 3 * 4 : ℝ) : EReal) := by
  simp [Ideal.ofBits, Ideal.ieee, -EReal.coe_mul, slope]; norm_num
theorem ker4 : Ideal.ofBits .f32 0x3E4B2FF5#32 = ((slope 4 * 4 : ℝ) : EReal) := by
  simp [Ideal.ofBits, Ideal.ieee, -EReal.coe_mul, slope]; norm_num
theorem ker5 : Ideal.ofBits .f32 0x3E214518#32 = ((slope 5 * 4 : ℝ) : EReal) := by
  simp [Ideal.ofBits, Ideal.ieee, -EReal.coe_mul, slope]; norm_num
theorem ker6 : Ideal.ofBits .f32 0x3E000000#32 = ((slope 6 * 4 : ℝ) : EReal) := by
  simp [Ideal.ofBits, Ideal.ieee, -EReal.coe_mul, slope]; norm_num
theorem ker7 : Ideal.ofBits .f32 0x3DCB2FF5#32 = ((slope 7 * 4 : ℝ) : EReal) := by
  simp [Ideal.ofBits, Ideal.ieee, -EReal.coe_mul, slope]; norm_num

theorem toInt_small (n : ℕ) (h : n < 2 ^ 31) : (BitVec.ofNat 32 n).toInt = n := by
  rw [BitVec.toInt_ofNat']; simp only [Int.bmod]; omega

end Cert.Attn

end
-- ==== Proof.Ref.lean ====
/-
The reference's values at finite arguments: every intermediate array of the gradient is, entry by entry, the real
number the head's model names.
-/
module

public import proofs.«01_k».proof.Proof.Gen.ReferenceIdeal.Read
public import proofs.«01_k».proof.Proof.Math
public import proofs.«01_k».proof.Proof.Num

@[expose] public section

set_option maxRecDepth 16384

noncomputable section

namespace Cert.Attn.Ref

open Cert.ReferenceIdeal Cert.ReferenceIdeal.Read Idealize.ShloMosaic Idealize.ShloMosaic.ValueIdx

/-- An array of real numbers among the extended reals. -/
def up {s : Shape} (f : s.Idx → ℝ) : s.Idx → Ideal .f32 := fun i => ((f i : ℝ) : EReal)

/-- Row `a` of residue class `r`, head `h`, of an array of rows by heads by features. -/
def feat (f : S4096x8x128.Idx → ℝ) (r : Fin 4) (h : Fin 8) (a : Fin 1024) (e : Fin 128) : ℝ :=
  f (ix3 ⟨a.val * 4 + r.val, by omega⟩ h e)

/-- Row `a` of residue class `r`, head `h`, of an array of rows by heads. -/
def rowv (f : S4096x8.Idx → ℝ) (r : Fin 4) (h : Fin 8) (a : Fin 1024) : ℝ := f (ix2 ⟨a.val * 4 + r.val, by omega⟩ h)

variable (q k v g : S4096x8x128.Idx → ℝ) (l : S4096x8.Idx → ℝ)

/-- The reference's row maxima. -/
def mx (r : Fin 4) (h : Fin 8) (n : Fin 8) (i : Fin 128) : ℝ :=
  EReal.toReal (val_main_v93 (F := Ideal) (up q) (up k) (ix4 r n h i))

/-- One head of one residue class of the arguments. -/
def head (r : Fin 4) (h : Fin 8) : Head where
  q := feat q r h
  k := feat k r h
  v := feat v r h
  g := feat g r h
  l := rowv l r h
  sl := slope h
  c := scale
  m := mx q k r h

/-! ### Blocks of rows -/

theorem v28 (i : S4x8x128x8x128.Idx) :
    val_main_v28 (F := Ideal) (up q) i = ((feat q (i 0) (i 3) (row (i 1) (i 2)) (i 4) : ℝ) : EReal) := by
  rw [val_main_v28_apply, val_main_v27_apply, val_main_v26_apply]
  have h0 : (i 0).val < 4 := (i 0).isLt
  have h1 : (i 1).val < 8 := (i 1).isLt
  have h2 : (i 2).val < 128 := (i 2).isLt
  have h3 : (i 3).val < 8 := (i 3).isLt
  have h4 : (i 4).val < 128 := (i 4).isLt
  refine congrArg (fun j => ((q j : ℝ) : EReal)) (funext fun a => Fin.ext ?_)
  match a with
  | ⟨0, _⟩ => show (_ : ℕ) = ((i 1).val * 128 + (i 2).val) * 4 + (i 0).val; simp only []; omega
  | ⟨1, _⟩ => show (_ : ℕ) = (i 3).val; simp only []; omega
  | ⟨2, _⟩ => show (_ : ℕ) = (i 4).val; simp only []; omega

theorem v31 (i : S4x8x128x8x128.Idx) :
    val_main_v31 (F := Ideal) (up k) i = ((feat k (i 0) (i 3) (row (i 1) (i 2)) (i 4) : ℝ) : EReal) := by
  rw [val_main_v31_apply, val_main_v30_apply, val_main_v29_apply]
  have h0 : (i 0).val < 4 := (i 0).isLt
  have h1 : (i 1).val < 8 := (i 1).isLt
  have h2 : (i 2).val < 128 := (i 2).isLt
  have h3 : (i 3).val < 8 := (i 3).isLt
  have h4 : (i 4).val < 128 := (i 4).isLt
  refine congrArg (fun j => ((k j : ℝ) : EReal)) (funext fun a => Fin.ext ?_)
  match a with
  | ⟨0, _⟩ => show (_ : ℕ) = ((i 1).val * 128 + (i 2).val) * 4 + (i 0).val; simp only []; omega
  | ⟨1, _⟩ => show (_ : ℕ) = (i 3).val; simp only []; omega
  | ⟨2, _⟩ => show (_ : ℕ) = (i 4).val; simp only []; omega

theorem v40 (i : S4x8x128x8x128.Idx) :
    val_main_v40 (F := Ideal) (up v) i = ((feat v (i 0) (i 3) (row (i 1) (i 2)) (i 4) : ℝ) : EReal) := by
  rw [val_main_v40_apply, val_main_v39_apply, val_main_v38_apply]
  have h0 : (i 0).val < 4 := (i 0).isLt
  have h1 : (i 1).val < 8 := (i 1).isLt
  have h2 : (i 2).val < 128 := (i 2).isLt
  have h3 : (i 3).val < 8 := (i 3).isLt
  have h4 : (i 4).val < 128 := (i 4).isLt
  refine congrArg (fun j => ((v j : ℝ) : EReal)) (funext fun a => Fin.ext ?_)
  match a with
  | ⟨0, _⟩ => show (_ : ℕ) = ((i 1).val * 128 + (i 2).val) * 4 + (i 0).val; simp only []; omega
  | ⟨1, _⟩ => show (_ : ℕ) = (i 3).val; simp only []; omega
  | ⟨2, _⟩ => show (_ : ℕ) = (i 4).val; simp only []; omega

theorem v128 (i : S4x8x128x8x128.Idx) :
    val_main_v128 (F := Ideal) (up g) i = ((feat g (i 0) (i 3) (row (i 1) (i 2)) (i 4) : ℝ) : EReal) := by
  rw [val_main_v128_apply, val_main_v127_apply, val_main_v126_apply]
  have h0 : (i 0).val < 4 := (i 0).isLt
  have h1 : (i 1).val < 8 := (i 1).isLt
  have h2 : (i 2).val < 128 := (i 2).isLt
  have h3 : (i 3).val < 8 := (i 3).isLt
  have h4 : (i 4).val < 128 := (i 4).isLt
  refine congrArg (fun j => ((g j : ℝ) : EReal)) (funext fun a => Fin.ext ?_)
  match a with
  | ⟨0, _⟩ => show (_ : ℕ) = ((i 1).val * 128 + (i 2).val) * 4 + (i 0).val; simp only []; omega
  | ⟨1, _⟩ => show (_ : ℕ) = (i 3).val; simp only []; omega
  | ⟨2, _⟩ => show (_ : ℕ) = (i 4).val; simp only []; omega

theorem v125 (i : S4x8x128x8.Idx) :
    val_main_v125 (F := Ideal) (up l) i = ((rowv l (i 0) (i 3) (row (i 1) (i 2)) : ℝ) : EReal) := by
  rw [val_main_v125_apply, val_main_v124_apply, val_main_v123_apply]
  have h0 : (i 0).val < 4 := (i 0).isLt
  have h1 : (i 1).val < 8 := (i 1).isLt
  have h2 : (i 2).val < 128 := (i 2).isLt
  have h3 : (i 3).val < 8 := (i 3).isLt
  refine congrArg (fun j => ((l j : ℝ) : EReal)) (funext fun a => Fin.ext ?_)
  match a with
  | ⟨0, _⟩ => show (_ : ℕ) = ((i 1).val * 128 + (i 2).val) * 4 + (i 0).val; simp only []; omega
  | ⟨1, _⟩ => show (_ : ℕ) = (i 3).val; simp only []; omega

/-! ### A block and the block before it -/

theorem v35 (i : S4x8x128x8x128.Idx) :
    val_main_v35 (F := Ideal) (up k) i = (((if (i 1).val = 0 then 0
      else feat k (i 0) (i 3) (row (Head.prev (i 1)) (i 2)) (i 4)) : ℝ) : EReal) := by
  have h1 : (i 1).val < 8 := (i 1).isLt
  unfold val_main_v35
  by_cases hn : (i 1).val = 0
  · rw [if_pos hn, concatenate_pair_apply_left (s₁ := S4x1x128x8x128) (s₂ := S4x7x128x8x128) 1 _ _ _ i rfl
      (ix5 (i 0) (⟨0, by omega⟩ : Fin 1) (i 2) (i 3) (i 4) : S4x1x128x8x128.Idx) (fun b => match b with
      | ⟨0, _⟩ => rfl | ⟨1, _⟩ => hn.symm | ⟨2, _⟩ => rfl | ⟨3, _⟩ => rfl | ⟨4, _⟩ => rfl)]
    rw [val_main_v33_apply]
    exact Ideal.ofBits_zero_f32
  · rw [if_neg hn, concatenate_pair_apply_right (s₁ := S4x1x128x8x128) (s₂ := S4x7x128x8x128) 1 _ _ _ i rfl rfl
      (ix5 (i 0) (⟨(i 1).val - 1, by omega⟩ : Fin 7) (i 2) (i 3) (i 4) : S4x7x128x8x128.Idx) (fun b hb => match b, hb with
      | ⟨0, _⟩, _ => rfl | ⟨1, _⟩, hb => absurd rfl hb | ⟨2, _⟩, _ => rfl | ⟨3, _⟩, _ => rfl | ⟨4, _⟩, _ => rfl)
      (show (i 1).val - 1 + 1 = (i 1).val by omega)]
    rw [val_main_v34_apply, v31]
    rfl

theorem v37 (i : S4x8x256x8x128.Idx) :
    val_main_v37 (F := Ideal) (up k) i = ((back (feat k (i 0) (i 3)) (i 1) (i 2) (i 4) : ℝ) : EReal) := by
  have h1 : (i 1).val < 8 := (i 1).isLt
  have h2 : (i 2).val < 256 := (i 2).isLt
  unfold val_main_v37 back
  by_cases hj : (i 2).val < 128
  · rw [concatenate_pair_apply_left (s₁ := S4x8x128x8x128) (s₂ := S4x8x128x8x128) 2 _ _ _ i rfl
      (ix5 (i 0) (i 1) (⟨(i 2).val, hj⟩ : Fin 128) (i 3) (i 4) : S4x8x128x8x128.Idx) (fun b => match b with
      | ⟨0, _⟩ => rfl | ⟨1, _⟩ => rfl | ⟨2, _⟩ => rfl | ⟨3, _⟩ => rfl | ⟨4, _⟩ => rfl), v35]
    by_cases hn : (i 1).val = 0
    · rw [dif_pos (by omega)]
      exact congrArg (fun x : ℝ => (x : EReal)) (if_pos hn)
    · rw [dif_neg (by omega)]
      refine congrArg (fun x : ℝ => (x : EReal)) ((if_neg hn).trans ?_)
      refine congrArg (fun a => feat k (i 0) (i 3) a (i 4)) (Fin.ext ?_)
      show ((i 1).val - 1) * 128 + (i 2).val = (i 1).val * 128 + (i 2).val - 128
      omega
  · rw [concatenate_pair_apply_right (s₁ := S4x8x128x8x128) (s₂ := S4x8x128x8x128) 2 _ _ _ i rfl rfl
      (ix5 (i 0) (i 1) (⟨(i 2).val - 128, by omega⟩ : Fin 128) (i 3) (i 4) : S4x8x128x8x128.Idx) (fun b hb => match b, hb with
      | ⟨0, _⟩, _ => rfl | ⟨1, _⟩, _ => rfl | ⟨2, _⟩, hb => absurd rfl hb | ⟨3, _⟩, _ => rfl | ⟨4, _⟩, _ => rfl)
      (show (i 2).val - 128 + 128 = (i 2).val by omega), v31, dif_neg (by omega)]
    refine congrArg (fun x : ℝ => (x : EReal)) (congrArg (fun a => feat k (i 0) (i 3) a (i 4)) (Fin.ext ?_))
    show (i 1).val * 128 + ((i 2).val - 128) = (i 1).val * 128 + (i 2).val - 128
    omega

theorem v44 (i : S4x8x128x8x128.Idx) :
    val_main_v44 (F := Ideal) (up v) i = (((if (i 1).val = 0 then 0
      else feat v (i 0) (i 3) (row (Head.prev (i 1)) (i 2)) (i 4)) : ℝ) : EReal) := by
  have h1 : (i 1).val < 8 := (i 1).isLt
  unfold val_main_v44
  by_cases hn : (i 1).val = 0
  · rw [if_pos hn, concatenate_pair_apply_left (s₁ := S4x1x128x8x128) (s₂ := S4x7x128x8x128) 1 _ _ _ i rfl
      (ix5 (i 0) (⟨0, by omega⟩ : Fin 1) (i 2) (i 3) (i 4) : S4x1x128x8x128.Idx) (fun b => match b with
      | ⟨0, _⟩ => rfl | ⟨1, _⟩ => hn.symm | ⟨2, _⟩ => rfl | ⟨3, _⟩ => rfl | ⟨4, _⟩ => rfl)]
    rw [val_main_v42_apply]
    exact Ideal.ofBits_zero_f32
  · rw [if_neg hn, concatenate_pair_apply_right (s₁ := S4x1x128x8x128) (s₂ := S4x7x128x8x128) 1 _ _ _ i rfl rfl
      (ix5 (i 0) (⟨(i 1).val - 1, by omega⟩ : Fin 7) (i 2) (i 3) (i 4) : S4x7x128x8x128.Idx) (fun b hb => match b, hb with
      | ⟨0, _⟩, _ => rfl | ⟨1, _⟩, hb => absurd rfl hb | ⟨2, _⟩, _ => rfl | ⟨3, _⟩, _ => rfl | ⟨4, _⟩, _ => rfl)
      (show (i 1).val - 1 + 1 = (i 1).val by omega)]
    rw [val_main_v43_apply, v40]
    rfl

theorem v46 (i : S4x8x256x8x128.Idx) :
    val_main_v46 (F := Ideal) (up v) i = ((back (feat v (i 0) (i 3)) (i 1) (i 2) (i 4) : ℝ) : EReal) := by
  have h1 : (i 1).val < 8 := (i 1).isLt
  have h2 : (i 2).val < 256 := (i 2).isLt
  unfold val_main_v46 back
  by_cases hj : (i 2).val < 128
  · rw [concatenate_pair_apply_left (s₁ := S4x8x128x8x128) (s₂ := S4x8x128x8x128) 2 _ _ _ i rfl
      (ix5 (i 0) (i 1) (⟨(i 2).val, hj⟩ : Fin 128) (i 3) (i 4) : S4x8x128x8x128.Idx) (fun b => match b with
      | ⟨0, _⟩ => rfl | ⟨1, _⟩ => rfl | ⟨2, _⟩ => rfl | ⟨3, _⟩ => rfl | ⟨4, _⟩ => rfl), v44]
    by_cases hn : (i 1).val = 0
    · rw [dif_pos (by omega)]
      exact congrArg (fun x : ℝ => (x : EReal)) (if_pos hn)
    · rw [dif_neg (by omega)]
      refine congrArg (fun x : ℝ => (x : EReal)) ((if_neg hn).trans ?_)
      refine congrArg (fun a => feat v (i 0) (i 3) a (i 4)) (Fin.ext ?_)
      show ((i 1).val - 1) * 128 + (i 2).val = (i 1).val * 128 + (i 2).val - 128
      omega
  · rw [concatenate_pair_apply_right (s₁ := S4x8x128x8x128) (s₂ := S4x8x128x8x128) 2 _ _ _ i rfl rfl
      (ix5 (i 0) (i 1) (⟨(i 2).val - 128, by omega⟩ : Fin 128) (i 3) (i 4) : S4x8x128x8x128.Idx) (fun b hb => match b, hb with
      | ⟨0, _⟩, _ => rfl | ⟨1, _⟩, _ => rfl | ⟨2, _⟩, hb => absurd rfl hb | ⟨3, _⟩, _ => rfl | ⟨4, _⟩, _ => rfl)
      (show (i 2).val - 128 + 128 = (i 2).val by omega), v40, dif_neg (by omega)]
    refine congrArg (fun x : ℝ => (x : EReal)) (congrArg (fun a => feat v (i 0) (i 3) a (i 4)) (Fin.ext ?_))
    show (i 1).val * 128 + ((i 2).val - 128) = (i 1).val * 128 + (i 2).val - 128
    omega

/-! ### The slopes -/

theorem v25 (i : S8.Idx) : val_main_v25 (F := Ideal) i = ((slope (i 0) : ℝ) : EReal) := by
  obtain ⟨h, rfl⟩ : ∃ h : Fin 8, i = ix1 h := ⟨i 0, funext fun a => match a with | ⟨0, _⟩ => rfl⟩
  match h with
  | ⟨0, _⟩ => exact ref0
  | ⟨1, _⟩ => exact ref1
  | ⟨2, _⟩ => exact ref2
  | ⟨3, _⟩ => exact ref3
  | ⟨4, _⟩ => exact ref4
  | ⟨5, _⟩ => exact ref5
  | ⟨6, _⟩ => exact ref6
  | ⟨7, _⟩ => exact ref7

/-! ### Which pairs are in the window -/

theorem delta_toInt (a b : ℕ) (ha : a < 128) (hb : b < 256) :
    (BitVec.ofNat 32 a + 128#32 - BitVec.ofNat 32 b).toInt = (a : ℤ) + 128 - b := by
  rw [BitVec.toInt_sub, BitVec.toInt_add, toInt_small _ (by omega), toInt_small b (by omega), toInt_small 128 (by omega)]
  simp only [Int.bmod]
  omega

theorem v58_toInt (i : S128x256.Idx) :
    (val_main_v58 (F := Ideal) i).toInt = ((i 0).val : ℤ) + 128 - (i 1).val := by
  rw [val_main_v58_apply]
  exact delta_toInt (i 0).val (i 1).val (i 0).isLt (i 1).isLt

theorem v63 (i : S128x256.Idx) :
    val_main_v63 (F := Ideal) i = BitVec.ofBool (decide ((i 1).val ≤ (i 0).val + 128 ∧ (i 0).val ≤ (i 1).val)) := by
  have h := v58_toInt i
  show IntOp.andi (IntOp.cmpi .sge (val_main_v58 (F := Ideal) i) 0#32)
    (IntOp.cmpi .sle (val_main_v58 (F := Ideal) i) 128#32) = _
  show BitVec.ofBool (BitVec.sle 0#32 (val_main_v58 (F := Ideal) i))
    &&& BitVec.ofBool (BitVec.sle (val_main_v58 (F := Ideal) i) 128#32) = _
  unfold BitVec.sle
  rw [h, show (0#32 : BitVec 32).toInt = 0 from rfl, show (128#32 : BitVec 32).toInt = 128 from rfl]
  rw [BitVec.ofBool_and_ofBool, ← Bool.decide_and]
  exact congrArg BitVec.ofBool (decide_eq_decide.2 (by omega))

/-- Whether the pair is inside the window, as a truth value. -/
def okb (n : Fin 8) (i : Fin 128) (j : Fin 256) : Bool := decide (ok n i j)

theorem v78 (i : S8x128x256.Idx) :
    val_main_v78 (F := Ideal) i = BitVec.ofBool (okb (i 0) (i 1) (i 2)) := by
  have h0 : (i 0).val < 8 := (i 0).isLt
  have h2 : (i 2).val < 256 := (i 2).isLt
  have h63 : val_main_v76 (F := Ideal) i = BitVec.ofBool (decide ((i 2).val ≤ (i 1).val + 128 ∧ (i 1).val ≤ (i 2).val)) := by
    rw [val_main_v76_apply, val_main_v68_apply, v63]
  rw [val_main_v78_apply, h63, val_main_v77_apply]
  show _ &&& ~~~(BitVec.ofBool (BitVec.ofNat 32 (i 0).val == 0#32)
    &&& BitVec.ofBool (BitVec.slt (BitVec.ofNat 32 (i 2).val) 128#32)) = _
  unfold BitVec.slt
  rw [toInt_small _ (by omega), show (128#32 : BitVec 32).toInt = 128 from rfl,
    show (BitVec.ofNat 32 (i 0).val == 0#32) = decide ((i 0).val = 0) from by
      rw [Bool.eq_iff_iff]; simp only [beq_iff_eq, decide_eq_true_eq, ← BitVec.toNat_inj, BitVec.toNat_ofNat]; omega]
  rw [BitVec.ofBool_and_ofBool, show ∀ b : Bool, ~~~BitVec.ofBool b = BitVec.ofBool (!b) from fun b => by cases b <;> rfl, BitVec.ofBool_and_ofBool, ← Bool.decide_and, ← decide_not, ← Bool.decide_and]
  refine congrArg BitVec.ofBool (decide_eq_decide.2 ?_)
  show _ ↔ (i 2).val ≤ (i 1).val + 128 ∧ (i 1).val ≤ (i 2).val ∧ ¬ ((i 0).val = 0 ∧ (i 2).val < 128)
  omega

/-! ### The scores -/

theorem v47 (i : S4x8x8x128x256.Idx) : val_main_v47 (F := Ideal) (up q) (up k) i =
    ((∑ e, feat q (i 0) (i 2) (row (i 1) (i 3)) e * back (feat k (i 0) (i 2)) (i 1) (i 4) e : ℝ) : EReal) := by
  rw [val_main_v47_apply, coe_sum]
  refine Finset.sum_congr rfl fun e _ => ?_
  rw [v28, v37, EReal.coe_mul]
  rfl

theorem v90 (i : S4x8x8x128x256.Idx) : val_main_v90 (F := Ideal) i =
    ((-slope (i 2) * ((((i 3).val : ℤ) + 128 - (i 4).val) * 4 : ℤ) : ℝ) : EReal) := by
  have h3 : (i 3).val < 128 := (i 3).isLt
  have h4 : (i 4).val < 256 := (i 4).isLt
  rw [val_main_v90_apply, val_main_v89_apply, val_main_v87_apply, val_main_v85_apply, val_main_v80_apply, val_main_v79_apply,
    v25, val_main_v86_apply, val_main_v84_apply, val_main_v83_apply, val_main_v82_apply, EReal.coe_mul]
  refine congrArg₂ (fun x y : EReal => x * y) rfl ?_
  show ((((_ * 4#32 : BitVec 32).toInt : ℤ) : ℝ) : EReal) = _
  rw [BitVec.toInt_mul, v58_toInt, show (4#32 : BitVec 32).toInt = 4 from rfl]
  refine congrArg (fun z : ℤ => ((z : ℝ) : EReal)) ?_
  show ((((i 3).val : ℤ) + 128 - (i 4).val) * 4).bmod (2 ^ 32) = _
  simp only [Int.bmod]
  omega

theorem v91 (i : S4x8x8x128x256.Idx) : val_main_v91 (F := Ideal) (up q) (up k) i =
    (((head q k v g l (i 0) (i 2)).s (i 1) (i 3) (i 4) : ℝ) : EReal) := by
  rw [val_main_v91_apply, val_main_v49_apply, v47, v90, val_main_v48_apply]
  show _ * Ideal.ofBits .f32 0x3DB504F3#32 + _ = _
  rw [scale_word]
  unfold Head.s
  rw [EReal.coe_add, EReal.coe_mul]
  rfl

theorem v92_1 (i : S4x8x8x128x256.Idx) : val_main_v92_1 (F := Ideal) i = BitVec.ofBool (okb (i 1) (i 3) (i 4)) := by
  rw [val_main_v92_1_apply, val_main_v88_apply, v78]
  rfl

theorem v92 (i : S4x8x8x128x256.Idx) : val_main_v92_0 (F := Ideal) (up q) (up k) i =
    if okb (i 1) (i 3) (i 4) then (((head q k v g l (i 0) (i 2)).s (i 1) (i 3) (i 4) : ℝ) : EReal) else ⊥ := by
  rw [val_main_v92_0_apply, v92_1, v91 q k v g l]
  have hb : val_main_call8_v2 (F := Ideal) i = (⊥ : EReal) := inf_word
  rw [hb]
  cases okb (i 1) (i 3) (i 4) <;> rfl

/-! ### The row maximum -/

theorem okb_self (n : Fin 8) (i : Fin 128) : okb n i (hi i) = true := by
  refine decide_eq_true ?_
  show 128 + i.val ≤ i.val + 128 ∧ i.val ≤ 128 + i.val ∧ ¬ (n.val = 0 ∧ 128 + i.val < 128)
  omega

theorem v93_fold (r : Fin 4) (n h : Fin 8) (i : Fin 128) : val_main_v93 (F := Ideal) (up q) (up k) (ix4 r n h i) =
    Finset.univ.fold max (⊥ : EReal) fun j : Fin 256 => val_main_v92_0 (F := Ideal) (up q) (up k) (ix5 r n h i j) := by
  unfold val_main_v93
  generalize val_main_v92_0 (F := Ideal) (up q) (up k) = y
  refine (Host.reduce_eq_fold_single (FloatOps.maximumf (F := Ideal) (φ := .f32)) y _ _ (by decide) _ _).trans ?_
  have hb : val_main_cst_27 (F := Ideal) (Shape.Idx.first Gen.h_S_) = (⊥ : EReal) := inf_word
  rw [hb]
  refine congrArg (fun f : Fin 256 → EReal => Finset.univ.fold max ⊥ f) (funext fun j => congrArg y (funext fun a => Fin.ext ?_))
  match a with
  | ⟨0, _⟩ => rfl
  | ⟨1, _⟩ => rfl
  | ⟨2, _⟩ => rfl
  | ⟨3, _⟩ => rfl
  | ⟨4, _⟩ => rfl

include v g l in
theorem v93_spec (r : Fin 4) (n h : Fin 8) (i : Fin 128) :
    (∃ j : Fin 256, val_main_v92_0 (F := Ideal) (up q) (up k) (ix5 r n h i j) = ((mx q k r h n i : ℝ) : EReal)) ∧
      val_main_v93 (F := Ideal) (up q) (up k) (ix4 r n h i) = ((mx q k r h n i : ℝ) : EReal) := by
  have hf := v93_fold q k r n h i
  have H := fold_max_real (fun j : Fin 256 => val_main_v92_0 (F := Ideal) (up q) (up k) (ix5 r n h i j)) (hi i)
    (by
      show val_main_v92_0 (F := Ideal) (up q) (up k) (ix5 r n h i (hi i)) ≠ ⊥
      rw [v92 q k v g l, show okb _ _ _ = true from okb_self n i, if_pos rfl]
      exact EReal.coe_ne_bot _)
    (fun j => by
      show val_main_v92_0 (F := Ideal) (up q) (up k) (ix5 r n h i j) ≠ ⊤
      rw [v92 q k v g l]
      split
      · exact EReal.coe_ne_top _
      · exact bot_ne_top)
  rw [← hf] at H
  obtain ⟨⟨j, hj⟩, h2⟩ := H
  exact ⟨⟨j, hj.symm.trans h2⟩, h2⟩

/-! ### The weights and their sum -/

include v g l in
theorem v100 (i : S4x8x8x128x256.Idx) : val_main_v100 (F := Ideal) (up q) (up k) i =
    ((mx q k (i 0) (i 2) (i 1) (i 3) : ℝ) : EReal) := by
  rw [val_main_v100_apply, val_main_v99_apply]
  refine Eq.trans ?_ (v93_spec q k v g l (i 0) (i 1) (i 2) (i 3)).2
  have h0 : (i 0).val < 4 := (i 0).isLt
  have h1 : (i 1).val < 8 := (i 1).isLt
  have h2 : (i 2).val < 8 := (i 2).isLt
  have h3 : (i 3).val < 128 := (i 3).isLt
  refine congrArg (val_main_v93 (F := Ideal) (up q) (up k)) (funext fun a => Fin.ext ?_)
  match a with
  | ⟨0, _⟩ => rfl
  | ⟨1, _⟩ => rfl
  | ⟨2, _⟩ => rfl
  | ⟨3, _⟩ => rfl

theorem head_m (r : Fin 4) (h n : Fin 8) (i : Fin 128) : (head q k v g l r h).m n i = mx q k r h n i := by
  unfold head; dsimp only

theorem p_of (D : Head) (n : Fin 8) (i : Fin 128) (j : Fin 256) :
    Ideal.exp ((if okb n i j then ((D.s n i j : ℝ) : EReal) else ⊥) - ((D.m n i : ℝ) : EReal)) = ((D.p n i j : ℝ) : EReal) := by
  unfold Head.p
  by_cases hok : ok n i j
  · rw [if_pos hok, if_pos (show okb n i j = true from decide_eq_true hok), ← EReal.coe_sub, Ideal.exp_coe]
  · rw [if_neg hok, if_neg (fun h : okb n i j = true => hok (of_decide_eq_true h))]
    rfl

theorem v102 (i : S4x8x8x128x256.Idx) : val_main_v102 (F := Ideal) (up q) (up k) i =
    (((head q k v g l (i 0) (i 2)).p (i 1) (i 3) (i 4) : ℝ) : EReal) := by
  rw [val_main_v102_apply, val_main_v101_apply, v100 q k v g l, v92 q k v g l]
  have hm := head_m q k v g l (i 0) (i 2) (i 1) (i 3)
  rw [← hm]
  generalize head q k v g l (i 0) (i 2) = D
  exact p_of D (i 1) (i 3) (i 4)

theorem v103 (i : S4x8x8x128.Idx) : val_main_v103 (F := Ideal) (up q) (up k) i =
    (((head q k v g l (i 0) (i 2)).den (i 1) (i 3) : ℝ) : EReal) := by
  rw [val_main_v103_apply]
  have hz : val_main_cst_29 (F := Ideal) (Shape.Idx.first Gen.h_S_) = (0 : EReal) := Ideal.ofBits_zero_f32
  rw [hz, zero_add]
  unfold Head.den
  rw [coe_sum]
  exact Finset.sum_congr rfl fun j _ => v102 q k v g l _

end Cert.Attn.Ref

end
-- ==== Proof.RefGrad.lean ====
/-
The reference's gradients at finite arguments, entry by entry: the sums of the head's model.
-/
module

public import proofs.«01_k».proof.Proof.Ref

@[expose] public section

set_option maxRecDepth 16384

noncomputable section

namespace Cert.Attn.Ref

open Cert.ReferenceIdeal Cert.ReferenceIdeal.Read Idealize.ShloMosaic Idealize.ShloMosaic.ValueIdx

variable (q k v g : S4096x8x128.Idx → ℝ) (l : S4096x8.Idx → ℝ)

attribute [local irreducible] mx

/-! ### How many scores reach the maximum -/

/-- One where a score is the row's maximum, zero elsewhere. -/
def top (i : S4x8x8x128x256.Idx) : ℝ :=
  if val_main_v92_0 (F := Ideal) (up q) (up k) i = ((mx q k (i 0) (i 2) (i 1) (i 3) : ℝ) : EReal) then 1 else 0

include v g l in
theorem v95 (i : S4x8x8x128x256.Idx) : val_main_v95 (F := Ideal) (up q) (up k) i =
    ((mx q k (i 0) (i 2) (i 1) (i 3) : ℝ) : EReal) := by
  rw [val_main_v95_apply, val_main_v94_apply]
  refine Eq.trans ?_ (v93_spec q k v g l (i 0) (i 1) (i 2) (i 3)).2
  have h0 : (i 0).val < 4 := (i 0).isLt
  have h1 : (i 1).val < 8 := (i 1).isLt
  have h2 : (i 2).val < 8 := (i 2).isLt
  have h3 : (i 3).val < 128 := (i 3).isLt
  refine congrArg (val_main_v93 (F := Ideal) (up q) (up k)) (funext fun a => Fin.ext ?_)
  match a with
  | ⟨0, _⟩ => show (((((i 0).val * 8 + (i 1).val) * 8 + (i 2).val) * 128 + (i 3).val) * 1 + 0) / 8192 = (i 0).val; omega
  | ⟨1, _⟩ => show (((((i 0).val * 8 + (i 1).val) * 8 + (i 2).val) * 128 + (i 3).val) * 1 + 0) / 1024 % 8 = (i 1).val; omega
  | ⟨2, _⟩ => show (((((i 0).val * 8 + (i 1).val) * 8 + (i 2).val) * 128 + (i 3).val) * 1 + 0) / 128 % 8 = (i 2).val; omega
  | ⟨3, _⟩ => show (((((i 0).val * 8 + (i 1).val) * 8 + (i 2).val) * 128 + (i 3).val) * 1 + 0) % 128 = (i 3).val; omega

include v g l in
theorem v97 (i : S4x8x8x128x256.Idx) : val_main_v97 (F := Ideal) (up q) (up k) i = ((top q k i : ℝ) : EReal) := by
  rw [val_main_v97_apply, val_main_v96_apply, v95 q k v g l]
  unfold top
  generalize val_main_v92_0 (F := Ideal) (up q) (up k) i = x
  generalize ((mx q k (i 0) (i 2) (i 1) (i 3) : ℝ) : EReal) = y
  show (((BitVec.ofBool (decide (x = y))).toNat : ℝ) : EReal) = _
  by_cases h : x = y
  · rw [if_pos h, decide_eq_true h, show (BitVec.ofBool true).toNat = 1 from rfl, Nat.cast_one]
  · rw [if_neg h, decide_eq_false h, show (BitVec.ofBool false).toNat = 0 from rfl, Nat.cast_zero]

include v g l in
theorem v98 (i : S4x8x8x128.Idx) : ∃ c : ℝ, c ≠ 0 ∧ val_main_v98 (F := Ideal) (up q) (up k) i = ((c : ℝ) : EReal) := by
  refine ⟨∑ j : Fin 256, top q k (idx_main_v98 i j), ?_, ?_⟩
  · obtain ⟨j, hj⟩ := (v93_spec q k v g l (i 0) (i 1) (i 2) (i 3)).1
    refine (Finset.sum_pos' (fun j _ => ?_) ⟨j, Finset.mem_univ _, ?_⟩).ne'
    · unfold top; split_ifs <;> norm_num
    · unfold top
      rw [if_pos]
      · norm_num
      · refine Eq.trans (congrArg _ (funext fun a => ?_)) hj
        match a with
        | ⟨0, _⟩ => rfl
        | ⟨1, _⟩ => rfl
        | ⟨2, _⟩ => rfl
        | ⟨3, _⟩ => rfl
        | ⟨4, _⟩ => rfl
  · rw [val_main_v98_apply]
    have hz : val_main_cst_28 (F := Ideal) (Shape.Idx.first Gen.h_S_) = (0 : EReal) := Ideal.ofBits_zero_f32
    rw [hz, zero_add, coe_sum]
    exact Finset.sum_congr rfl fun j _ => v97 q k v g l _

/-! ### The attention's output and its log-sum-exp -/

theorem v105 (i : S4x8x128x8x128.Idx) : val_main_v105 (F := Ideal) (up q) (up k) (up v) i =
    (((head q k v g l (i 0) (i 3)).num (i 1) (i 2) (i 4) : ℝ) : EReal) := by
  rw [val_main_v105_apply, val_main_v104_apply]
  unfold Head.num
  rw [coe_sum]
  refine Finset.sum_congr rfl fun j _ => ?_
  rw [v46, v102 q k v g l, EReal.coe_mul]
  rfl

theorem v107 (i : S4x8x128x8x1.Idx) : val_main_v107 (F := Ideal) (up q) (up k) i =
    (((head q k v g l (i 0) (i 3)).den (i 1) (i 2) : ℝ) : EReal) := by
  rw [val_main_v107_apply, val_main_v106_apply, v103 q k v g l]
  rfl

theorem v109 (i : S4x8x128x8x128.Idx) : val_main_v109 (F := Ideal) (up q) (up k) (up v) i =
    (((head q k v g l (i 0) (i 3)).o (i 1) (i 2) (i 4) : ℝ) : EReal) := by
  rw [val_main_v109_apply, v105 q k v g l, val_main_v108_apply, v107 q k v g l]
  exact div_real (Head.den_ne _ _ _)

theorem v112 (i : S4x8x128x8x1.Idx) : val_main_v112 (F := Ideal) (up q) (up k) i =
    ((1 / ((head q k v g l (i 0) (i 3)).den (i 1) (i 2) * (head q k v g l (i 0) (i 3)).den (i 1) (i 2)) : ℝ) : EReal) := by
  rw [val_main_v112_apply, val_main_v110_apply, v107 q k v g l]
  have h1 : val_main_v111 (F := Ideal) i = ((1 : ℝ) : EReal) := one_word
  rw [h1]
  show Ideal.div _ (_ * _) = _
  rw [← EReal.coe_mul]
  exact div_real (mul_ne_zero (Head.den_ne _ _ _) (Head.den_ne _ _ _))

theorem v115 (i : S4x8x8x128.Idx) : val_main_v115 (F := Ideal) (up q) (up k) i =
    (((head q k v g l (i 0) (i 2)).lse (i 1) (i 3) : ℝ) : EReal) := by
  have hm : val_main_v113 (F := Ideal) (up q) (up k) i = (((head q k v g l (i 0) (i 2)).m (i 1) (i 3) : ℝ) : EReal) := by
    rw [val_main_v113_apply, val_main_v99_apply]
    refine Eq.trans ?_ ((v93_spec q k v g l (i 0) (i 1) (i 2) (i 3)).2.trans
      (congrArg (fun x : ℝ => (x : EReal)) (head_m q k v g l (i 0) (i 2) (i 1) (i 3)).symm))
    have h0 : (i 0).val < 4 := (i 0).isLt
    have h1 : (i 1).val < 8 := (i 1).isLt
    have h2 : (i 2).val < 8 := (i 2).isLt
    have h3 : (i 3).val < 128 := (i 3).isLt
    refine congrArg (val_main_v93 (F := Ideal) (up q) (up k)) (funext fun a => Fin.ext ?_)
    match a with
    | ⟨0, _⟩ => show ((((i 0).val * 8 + (i 1).val) * 8 + (i 2).val) * 128 + (i 3).val) / 8192 = (i 0).val; omega
    | ⟨1, _⟩ => show ((((i 0).val * 8 + (i 1).val) * 8 + (i 2).val) * 128 + (i 3).val) / 1024 % 8 = (i 1).val; omega
    | ⟨2, _⟩ => show ((((i 0).val * 8 + (i 1).val) * 8 + (i 2).val) * 128 + (i 3).val) / 128 % 8 = (i 2).val; omega
    | ⟨3, _⟩ => show ((((i 0).val * 8 + (i 1).val) * 8 + (i 2).val) * 128 + (i 3).val) / 1 % 128 = (i 3).val; omega
  rw [val_main_v115_apply, hm, val_main_v114_apply, v103 q k v g l]
  unfold Head.lse
  rw [EReal.coe_add]
  exact congrArg (fun x : EReal => _ + x) (log_real (Head.den_pos _ _ _))

theorem idx117 (r : Fin 4) (a : Fin 1024) (h : Fin 8) (e : Fin 128) :
    idx_main_v117 (ix4 r a h e) = ix5 r (blockOf a) (within a) h e := by
  refine funext fun b => Fin.ext ?_
  match b with
  | ⟨0, _⟩ => show (((r.val * 1024 + a.val) * 8 + h.val) * 128 + e.val) / 1048576 = r.val; omega
  | ⟨1, _⟩ => show (((r.val * 1024 + a.val) * 8 + h.val) * 128 + e.val) / 131072 % 8 = a.val / 128; omega
  | ⟨2, _⟩ => show (((r.val * 1024 + a.val) * 8 + h.val) * 128 + e.val) / 1024 % 128 = a.val % 128; omega
  | ⟨3, _⟩ => show (((r.val * 1024 + a.val) * 8 + h.val) * 128 + e.val) / 128 % 8 = h.val; omega
  | ⟨4, _⟩ => show (((r.val * 1024 + a.val) * 8 + h.val) * 128 + e.val) % 128 = e.val; omega

theorem idx119 (i : S4096x8x128.Idx) (r : Fin 4) (a : Fin 1024) (h : (i 0).val = a.val * 4 + r.val) :
    idx_main_v119 i = ix4 a r (i 1) (i 2) := by
  have h1 : (i 1).val < 8 := (i 1).isLt
  have h2 : (i 2).val < 128 := (i 2).isLt
  have hr := r.isLt
  refine funext fun b => Fin.ext ?_
  match b with
  | ⟨0, _⟩ => show (((i 0).val * 8 + (i 1).val) * 128 + (i 2).val) / 4096 = a.val; omega
  | ⟨1, _⟩ => show (((i 0).val * 8 + (i 1).val) * 128 + (i 2).val) / 1024 % 4 = r.val; omega
  | ⟨2, _⟩ => show (((i 0).val * 8 + (i 1).val) * 128 + (i 2).val) / 128 % 8 = (i 1).val; omega
  | ⟨3, _⟩ => show (((i 0).val * 8 + (i 1).val) * 128 + (i 2).val) % 128 = (i 2).val; omega

theorem idx118 (r : Fin 4) (a : Fin 1024) (h : Fin 8) (e : Fin 128) : idx_main_v118 (ix4 a r h e) = ix4 r a h e :=
  funext fun b => match b with
  | ⟨0, _⟩ => rfl | ⟨1, _⟩ => rfl | ⟨2, _⟩ => rfl | ⟨3, _⟩ => rfl

/-- The output of row `4 a + r`. -/
theorem v119 (i : S4096x8x128.Idx) (r : Fin 4) (a : Fin 1024) (h : (i 0).val = a.val * 4 + r.val) :
    val_main_v119 (F := Ideal) (up q) (up k) (up v) i =
      (((head q k v g l r (i 1)).o (blockOf a) (within a) (i 2) : ℝ) : EReal) := by
  rw [val_main_v119_apply, val_main_v118_apply, val_main_v117_apply, idx119 i r a h]
  refine Eq.trans (congrArg _ ?_) (v109 q k v g l (ix5 r (blockOf a) (within a) (i 1) (i 2)))
  exact (congrArg idx_main_v117 (idx118 r a (i 1) (i 2))).trans (idx117 r a (i 1) (i 2))

theorem idx120 (r : Fin 4) (a : Fin 1024) (h : Fin 8) :
    idx_main_v120 (ix3 r a h) = ix4 r (blockOf a) (within a) h := by
  refine funext fun b => Fin.ext ?_
  match b with
  | ⟨0, _⟩ => show ((r.val * 1024 + a.val) * 8 + h.val) / 8192 = r.val; omega
  | ⟨1, _⟩ => show ((r.val * 1024 + a.val) * 8 + h.val) / 1024 % 8 = a.val / 128; omega
  | ⟨2, _⟩ => show ((r.val * 1024 + a.val) * 8 + h.val) / 8 % 128 = a.val % 128; omega
  | ⟨3, _⟩ => show ((r.val * 1024 + a.val) * 8 + h.val) % 8 = h.val; omega

theorem idx122 (i : S4096x8.Idx) (r : Fin 4) (a : Fin 1024) (h : (i 0).val = a.val * 4 + r.val) :
    idx_main_v122 i = ix3 a r (i 1) := by
  have h1 : (i 1).val < 8 := (i 1).isLt
  have hr := r.isLt
  refine funext fun b => Fin.ext ?_
  match b with
  | ⟨0, _⟩ => show ((i 0).val * 8 + (i 1).val) / 32 = a.val; omega
  | ⟨1, _⟩ => show ((i 0).val * 8 + (i 1).val) / 8 % 4 = r.val; omega
  | ⟨2, _⟩ => show ((i 0).val * 8 + (i 1).val) % 8 = (i 1).val; omega

theorem idx121 (r : Fin 4) (a : Fin 1024) (h : Fin 8) : idx_main_v121 (ix3 a r h) = ix3 r a h :=
  funext fun b => match b with
  | ⟨0, _⟩ => rfl | ⟨1, _⟩ => rfl | ⟨2, _⟩ => rfl

/-- The log-sum-exp of row `4 a + r`. -/
theorem v122 (i : S4096x8.Idx) (r : Fin 4) (a : Fin 1024) (h : (i 0).val = a.val * 4 + r.val) :
    val_main_v122 (F := Ideal) (up q) (up k) i = (((head q k v g l r (i 1)).lse (blockOf a) (within a) : ℝ) : EReal) := by
  rw [val_main_v122_apply, val_main_v121_apply, val_main_v120_apply, val_main_v116_apply, idx122 i r a h]
  refine Eq.trans (congrArg _ ?_) (v115 q k v g l (ix4 r (blockOf a) (i 1) (within a)))
  refine (congrArg idx_main_v116 ((congrArg idx_main_v120 (idx121 r a (i 1))).trans (idx120 r a (i 1)))).trans ?_
  exact funext fun b => match b with
  | ⟨0, _⟩ => rfl | ⟨1, _⟩ => rfl | ⟨2, _⟩ => rfl | ⟨3, _⟩ => rfl

theorem idx136 (i : S4x8x128x8x1.Idx) : idx_main_v136 i = ix4 (i 0) (i 1) (i 2) (i 3) := by
  have h0 : (i 0).val < 4 := (i 0).isLt
  have h1 : (i 1).val < 8 := (i 1).isLt
  have h2 : (i 2).val < 128 := (i 2).isLt
  have h3 : (i 3).val < 8 := (i 3).isLt
  have h4 : (i 4).val < 1 := (i 4).isLt
  refine funext fun b => Fin.ext ?_
  match b with
  | ⟨0, _⟩ => show (((((i 0).val * 8 + (i 1).val) * 128 + (i 2).val) * 8 + (i 3).val) * 1 + (i 4).val) / 8192 = (i 0).val; omega
  | ⟨1, _⟩ => show (((((i 0).val * 8 + (i 1).val) * 128 + (i 2).val) * 8 + (i 3).val) * 1 + (i 4).val) / 1024 % 8 = (i 1).val; omega
  | ⟨2, _⟩ => show (((((i 0).val * 8 + (i 1).val) * 128 + (i 2).val) * 8 + (i 3).val) * 1 + (i 4).val) / 8 % 128 = (i 2).val; omega
  | ⟨3, _⟩ => show (((((i 0).val * 8 + (i 1).val) * 128 + (i 2).val) * 8 + (i 3).val) * 1 + (i 4).val) % 8 = (i 3).val; omega

/-! ### The gradient of the scores -/

theorem v130 (i : S4x8x8x128.Idx) : val_main_v130 (F := Ideal) (up q) (up k) (up l) i =
    (((head q k v g l (i 0) (i 2)).l (row (i 1) (i 3)) / (head q k v g l (i 0) (i 2)).den (i 1) (i 3) : ℝ) : EReal) := by
  rw [val_main_v130_apply, val_main_v129_apply, v125, v103 q k v g l]
  exact div_real (Head.den_ne _ _ _)

theorem v135 (i : S4x8x128x8.Idx) : val_main_v135 (F := Ideal) (up q) (up k) (up v) (up g) i =
    ((∑ e, (head q k v g l (i 0) (i 3)).g (row (i 1) (i 2)) e *
      (1 / ((head q k v g l (i 0) (i 3)).den (i 1) (i 2) * (head q k v g l (i 0) (i 3)).den (i 1) (i 2))) *
      (head q k v g l (i 0) (i 3)).num (i 1) (i 2) e : ℝ) : EReal) := by
  rw [val_main_v135_apply]
  have hz : val_main_cst_31 (F := Ideal) (Shape.Idx.first Gen.h_S_) = (0 : EReal) := Ideal.ofBits_zero_f32
  rw [hz, zero_add, coe_sum]
  refine Finset.sum_congr rfl fun e _ => ?_
  rw [val_main_v134_apply, val_main_v133_apply, v128, val_main_v132_apply, v112 q k v g l, v105 q k v g l,
    EReal.coe_mul, EReal.coe_mul]
  rfl

theorem v136 (i : S4x8x128x8x1.Idx) : val_main_v136 (F := Ideal) (up q) (up k) (up v) (up g) i =
    ((∑ e, (head q k v g l (i 0) (i 3)).g (row (i 1) (i 2)) e *
      (1 / ((head q k v g l (i 0) (i 3)).den (i 1) (i 2) * (head q k v g l (i 0) (i 3)).den (i 1) (i 2))) *
      (head q k v g l (i 0) (i 3)).num (i 1) (i 2) e : ℝ) : EReal) := by
  rw [val_main_v136_apply]
  exact (congrArg _ (idx136 i)).trans (v135 q k v g l (ix4 (i 0) (i 1) (i 2) (i 3)))

theorem v142 (i : S4x8x8x128.Idx) : val_main_v142 (F := Ideal) (up q) (up k) (up v) (up g) (up l) i =
    (((head q k v g l (i 0) (i 2)).dden (i 1) (i 3) : ℝ) : EReal) := by
  rw [val_main_v142_apply, v130 q k v g l, val_main_v141_apply, val_main_v140_apply]
  have hz : val_main_cst_32 (F := Ideal) (Shape.Idx.first Gen.h_S_) = (0 : EReal) := Ideal.ofBits_zero_f32
  rw [hz, zero_add, Fin.sum_univ_one, val_main_v137_apply, v136 q k v g l]
  unfold Head.dden
  rw [EReal.coe_add, EReal.coe_neg]
  rfl

theorem v143 (i : S4x8x8x128x128.Idx) : val_main_v143 (F := Ideal) (up q) (up k) (up g) i =
    (((head q k v g l (i 0) (i 2)).g (row (i 1) (i 4)) (i 3) / (head q k v g l (i 0) (i 2)).den (i 1) (i 4) : ℝ) : EReal) := by
  rw [val_main_v143_apply, val_main_v139_apply, v128, val_main_v138_apply, v107 q k v g l]
  exact div_real (Head.den_ne _ _ _)

theorem v149 (i : S4x8x8x128x256.Idx) : val_main_v149 (F := Ideal) (up q) (up k) (up v) (up g) (up l) i =
    (((head q k v g l (i 0) (i 2)).ds (i 1) (i 3) (i 4) : ℝ) : EReal) := by
  rw [val_main_v149_apply, val_main_v148_apply, val_main_v144_apply, val_main_v147_apply, v142 q k v g l, v102 q k v g l]
  unfold Head.ds
  rw [EReal.coe_mul, EReal.coe_add, coe_sum]
  refine congrArg₂ (fun x y : EReal => x * y) (congrArg₂ (fun x y : EReal => x + y) (Finset.sum_congr rfl fun e _ => ?_) rfl) rfl
  rw [v143 q k v g l, v46, EReal.coe_mul]
  rfl

theorem v151 (i : S4x8x8x128.Idx) : val_main_v151 (F := Ideal) (up q) (up k) (up v) (up g) (up l) i =
    ((-(head q k v g l (i 0) (i 2)).l (row (i 1) (i 3)) : ℝ) : EReal) := by
  rw [val_main_v151_apply]
  have hz : val_main_cst_33 (F := Ideal) (Shape.Idx.first Gen.h_S_) = (0 : EReal) := Ideal.ofBits_zero_f32
  rw [hz, zero_add]
  refine Eq.trans ?_ (congrArg (fun x : ℝ => ((-x : ℝ) : EReal)) (Head.sum_ds (head q k v g l (i 0) (i 2)) (i 1) (i 3)))
  dsimp only
  rw [← Finset.sum_neg_distrib, coe_sum]
  refine Finset.sum_congr rfl fun j _ => ?_
  rw [val_main_v150_apply, v149 q k v g l, EReal.coe_neg]
  rfl

/-- What the row's maximum would pass back is zero: the gradients of a row's scores add up to the log-sum-exp's. -/
theorem v153 (i : S4x8x8x128x1.Idx) : val_main_v153 (F := Ideal) (up q) (up k) (up v) (up g) (up l) i = (0 : EReal) := by
  have h152 : val_main_v152 (F := Ideal) (up q) (up k) (up v) (up g) (up l) i =
      ((-(head q k v g l (i 0) (i 2)).l (row (i 1) (i 3)) : ℝ) : EReal) := by
    rw [val_main_v152_apply]
    refine Eq.trans (congrArg _ ?_) (v151 q k v g l (ix4 (i 0) (i 1) (i 2) (i 3)))
    have h0 : (i 0).val < 4 := (i 0).isLt
    have h1 : (i 1).val < 8 := (i 1).isLt
    have h2 : (i 2).val < 8 := (i 2).isLt
    have h3 : (i 3).val < 128 := (i 3).isLt
    have h4 : (i 4).val < 1 := (i 4).isLt
    refine funext fun b => Fin.ext ?_
    match b with
    | ⟨0, _⟩ => show (((((i 0).val * 8 + (i 1).val) * 8 + (i 2).val) * 128 + (i 3).val) * 1 + (i 4).val) / 8192 = (i 0).val; omega
    | ⟨1, _⟩ => show (((((i 0).val * 8 + (i 1).val) * 8 + (i 2).val) * 128 + (i 3).val) * 1 + (i 4).val) / 1024 % 8 = (i 1).val; omega
    | ⟨2, _⟩ => show (((((i 0).val * 8 + (i 1).val) * 8 + (i 2).val) * 128 + (i 3).val) * 1 + (i 4).val) / 128 % 8 = (i 2).val; omega
    | ⟨3, _⟩ => show (((((i 0).val * 8 + (i 1).val) * 8 + (i 2).val) * 128 + (i 3).val) * 1 + (i 4).val) % 128 = (i 3).val; omega
  have h131 : val_main_v131 (F := Ideal) (up l) i = (((head q k v g l (i 0) (i 2)).l (row (i 1) (i 3)) : ℝ) : EReal) := by
    rw [val_main_v131_apply, val_main_v129_apply, v125]
    rfl
  rw [val_main_v153_apply, h152, h131]
  show _ + _ = _
  rw [← EReal.coe_add, add_neg_cancel]
  rfl

theorem v155 (i : S4x8x8x128.Idx) : val_main_v155 (F := Ideal) (up q) (up k) (up v) (up g) (up l) i = (0 : EReal) := by
  obtain ⟨c, hc, h98⟩ := v98 q k v g l i
  rw [val_main_v155_apply, h98, val_main_v154_apply]
  have hz : val_main_cst_34 (F := Ideal) (Shape.Idx.first Gen.h_S_) = (0 : EReal) := Ideal.ofBits_zero_f32
  rw [hz, zero_add, Fin.sum_univ_one, v153 q k v g l]
  refine (div_real (x := 0) hc).trans ?_
  rw [zero_div]
  rfl

/-- Outside the window the score's gradient is zero already. -/
theorem ds_of (D : Head) (n : Fin 8) (i : Fin 128) (j : Fin 256) (y : EReal) :
    Scalar.select (BitVec.ofBool (okb n i j)) (((D.ds n i j : ℝ) : EReal) + (0 : EReal) * y) (0 : EReal) = ((D.ds n i j : ℝ) : EReal) := by
  rw [zero_mul, add_zero]
  by_cases h : ok n i j
  · rw [show okb n i j = true from decide_eq_true h]; rfl
  · rw [show okb n i j = false from decide_eq_false h]
    unfold Head.ds Head.p
    rw [if_neg h, mul_zero]
    rfl

theorem v161 (i : S4x8x8x128x256.Idx) : val_main_v161 (F := Ideal) (up q) (up k) (up v) (up g) (up l) i =
    (((head q k v g l (i 0) (i 2)).ds (i 1) (i 3) (i 4) * (head q k v g l (i 0) (i 2)).c : ℝ) : EReal) := by
  have h160 : val_main_v160 (F := Ideal) i = ((scale : ℝ) : EReal) := scale_word
  rw [val_main_v161_apply, val_main_v159_apply, h160, v92_1, val_main_v158_apply, v149 q k v g l, val_main_v157_apply,
    val_main_v156_apply, v155 q k v g l, EReal.coe_mul]
  refine congrArg₂ (fun x y : EReal => x * y) ?_ rfl
  have h9 : val_main_call9_v0 (F := Ideal) i = (0 : EReal) := Ideal.ofBits_zero_f32
  rw [h9]
  exact ds_of (head q k v g l (i 0) (i 2)) (i 1) (i 3) (i 4) _

/-! ### The results -/

theorem v162 (i : S4x8x8x256x128.Idx) : val_main_v162 (F := Ideal) (up q) (up k) (up v) (up g) (up l) i =
    ((∑ a, (head q k v g l (i 0) (i 2)).ds (i 1) a (i 3) * (head q k v g l (i 0) (i 2)).c
      * (head q k v g l (i 0) (i 2)).q (row (i 1) a) (i 4) : ℝ) : EReal) := by
  rw [val_main_v162_apply, coe_sum]
  refine Finset.sum_congr rfl fun a _ => ?_
  rw [v161 q k v g l, v28, EReal.coe_mul]
  rfl

theorem v145 (i : S4x8x8x128x256.Idx) : val_main_v145 (F := Ideal) (up q) (up k) (up g) i =
    ((∑ a, (head q k v g l (i 0) (i 2)).g (row (i 1) a) (i 3) / (head q k v g l (i 0) (i 2)).den (i 1) a
      * (head q k v g l (i 0) (i 2)).p (i 1) a (i 4) : ℝ) : EReal) := by
  rw [val_main_v145_apply, coe_sum]
  refine Finset.sum_congr rfl fun a _ => ?_
  rw [v143 q k v g l, v102 q k v g l, EReal.coe_mul]
  rfl

theorem v165 (i : S4x8x128x8x128.Idx) : val_main_v165 (F := Ideal) (up q) (up k) (up v) (up g) (up l) i =
    (((head q k v g l (i 0) (i 3)).dq (i 1) (i 2) (i 4) : ℝ) : EReal) := by
  rw [val_main_v165_apply, val_main_v164_apply]
  unfold Head.dq
  rw [coe_sum]
  refine Finset.sum_congr rfl fun j _ => ?_
  rw [v161 q k v g l, v37, EReal.coe_mul]
  rfl

/-- Rows of blocks with one block of zeros added after the last. -/
theorem pad_block (y : S4x7x128x8x128.Idx → Ideal .f32) (z : S_.Idx → Ideal .f32) (i : S4x8x128x8x128.Idx) :
    pad S4x8x128x8x128 ![0, 0, 0, 0, 0] ![0, 1, 0, 0, 0] ![0, 0, 0, 0, 0] y z
      Gen.pads_S4x7x128x8x128_S4x8x128x8x128_000_010_000_000_000 Gen.h_S_ i =
      if h : (i 1).val < 7 then y (ix5 (i 0) ⟨(i 1).val, h⟩ (i 2) (i 3) (i 4)) else z (Shape.Idx.first Gen.h_S_) := by
  have h0 : (i 0).val < 4 := (i 0).isLt
  have h2 : (i 2).val < 128 := (i 2).isLt
  have h3 : (i 3).val < 8 := (i 3).isLt
  have h4 : (i 4).val < 128 := (i 4).isLt
  unfold pad
  by_cases h : (i 1).val < 7
  · rw [dif_pos h, dif_pos (fun a => match a with
      | ⟨0, _⟩ => ⟨Nat.zero_le _, Nat.mod_one _, by show ((i 0).val - 0) / 1 < 4; omega⟩
      | ⟨1, _⟩ => ⟨Nat.zero_le _, Nat.mod_one _, by show ((i 1).val - 0) / 1 < 7; omega⟩
      | ⟨2, _⟩ => ⟨Nat.zero_le _, Nat.mod_one _, by show ((i 2).val - 0) / 1 < 128; omega⟩
      | ⟨3, _⟩ => ⟨Nat.zero_le _, Nat.mod_one _, by show ((i 3).val - 0) / 1 < 8; omega⟩
      | ⟨4, _⟩ => ⟨Nat.zero_le _, Nat.mod_one _, by show ((i 4).val - 0) / 1 < 128; omega⟩)]
    refine congrArg y (funext fun a => Fin.ext ?_)
    match a with
    | ⟨0, _⟩ => exact Nat.div_one _
    | ⟨1, _⟩ => exact Nat.div_one _
    | ⟨2, _⟩ => exact Nat.div_one _
    | ⟨3, _⟩ => exact Nat.div_one _
    | ⟨4, _⟩ => exact Nat.div_one _
  · rw [dif_neg h, dif_neg (fun hin => h (by
      have h7 : ((i 1).val - 0) / 1 < 7 := (hin 1).2.2
      omega))]

theorem dv_split (D : Head) (n : Fin 8) (j e : Fin 128) (x : EReal)
    (hx : x = if h : n.val < 7 then ((∑ i, D.g (row (Head.next n h) i) e / D.den (Head.next n h) i
      * D.p (Head.next n h) i (lo j) : ℝ) : EReal) else 0) :
    ((∑ i, D.g (row n i) e / D.den n i * D.p n i (hi j) : ℝ) : EReal) + x = ((D.dv n j e : ℝ) : EReal) := by
  rw [hx]
  unfold Head.dv
  rw [EReal.coe_add]
  split_ifs <;> rfl

theorem dk_split (D : Head) (n : Fin 8) (j e : Fin 128) (x : EReal)
    (hx : x = if h : n.val < 7 then ((∑ i, D.ds (Head.next n h) i (lo j) * D.c * D.q (row (Head.next n h) i) e : ℝ) : EReal) else 0) :
    ((∑ i, D.ds n i (hi j) * D.c * D.q (row n i) e : ℝ) : EReal) + x = ((D.dk n j e : ℝ) : EReal) := by
  rw [hx]
  unfold Head.dk
  rw [EReal.coe_add]
  split_ifs <;> rfl

theorem v171 (i : S4x8x128x8x128.Idx) : val_main_v171 (F := Ideal) (up q) (up k) (up g) i =
    (((head q k v g l (i 0) (i 3)).dv (i 1) (i 2) (i 4) : ℝ) : EReal) := by
  rw [val_main_v171_apply, val_main_v167_apply, val_main_v146_apply, v145 q k v g l]
  refine dv_split (head q k v g l (i 0) (i 3)) (i 1) (i 2) (i 4) _ ?_
  refine (pad_block _ _ i).trans ?_
  by_cases h : (i 1).val < 7
  · rw [dif_pos h]
    refine Eq.trans ?_ (dif_pos h).symm
    rw [val_main_v169_apply, val_main_v166_apply, val_main_v146_apply, v145 q k v g l]
    have hn : (⟨1 + (i 1).val, by omega⟩ : Fin 8) = Head.next (i 1) h := Fin.ext (Nat.add_comm _ _)
    exact congrArg (fun n => ((∑ a, (head q k v g l (i 0) (i 3)).g (row n a) (i 4) / (head q k v g l (i 0) (i 3)).den n a
      * (head q k v g l (i 0) (i 3)).p n a (lo (i 2)) : ℝ) : EReal)) hn
  · rw [dif_neg h]
    refine Eq.trans ?_ (dif_neg h).symm
    exact Ideal.ofBits_zero_f32

theorem v180 (i : S4x8x128x8x128.Idx) : val_main_v180 (F := Ideal) (up q) (up k) (up v) (up g) (up l) i =
    (((head q k v g l (i 0) (i 3)).dk (i 1) (i 2) (i 4) : ℝ) : EReal) := by
  rw [val_main_v180_apply, val_main_v176_apply, val_main_v163_apply, v162 q k v g l]
  refine dk_split (head q k v g l (i 0) (i 3)) (i 1) (i 2) (i 4) _ ?_
  refine (pad_block _ _ i).trans ?_
  by_cases h : (i 1).val < 7
  · rw [dif_pos h]
    refine Eq.trans ?_ (dif_pos h).symm
    rw [val_main_v178_apply, val_main_v175_apply, val_main_v163_apply, v162 q k v g l]
    have hn : (⟨1 + (i 1).val, by omega⟩ : Fin 8) = Head.next (i 1) h := Fin.ext (Nat.add_comm _ _)
    exact congrArg (fun n => ((∑ a, (head q k v g l (i 0) (i 3)).ds n a (lo (i 2)) * (head q k v g l (i 0) (i 3)).c
      * (head q k v g l (i 0) (i 3)).q (row n a) (i 4) : ℝ) : EReal)) hn
  · rw [dif_neg h]
    refine Eq.trans ?_ (dif_neg h).symm
    exact Ideal.ofBits_zero_f32

/-- The residue class of a result's column. -/
def rOf (i : S1024x4096.Idx) : Fin 4 := ⟨(i 1).val / 1024, by have h : (i 1).val < 4096 := (i 1).isLt; omega⟩
/-- The head of a result's column. -/
def hOf (i : S1024x4096.Idx) : Fin 8 := ⟨(i 1).val / 128 % 8, by omega⟩
/-- The feature of a result's column. -/
def eOf (i : S1024x4096.Idx) : Fin 128 := ⟨(i 1).val % 128, by omega⟩

theorem idx_rows (i : S1024x4096.Idx) : idx_main_v117 (idx_main_v118 (idx_main_v119 (idx_main_v187 i))) =
    ix5 (rOf i) (blockOf (i 0)) (within (i 0)) (hOf i) (eOf i) := by
  have h0 : (i 0).val < 1024 := (i 0).isLt
  have h1 : (i 1).val < 4096 := (i 1).isLt
  have hi : idx_main_v187 i = ix3 ⟨(i 0).val * 4 + (i 1).val / 1024, by omega⟩ (hOf i) (eOf i) := by
    refine funext fun b => Fin.ext ?_
    match b with
    | ⟨0, _⟩ => show ((i 0).val * 4096 + (i 1).val) / 1024 = (i 0).val * 4 + (i 1).val / 1024; omega
    | ⟨1, _⟩ => show ((i 0).val * 4096 + (i 1).val) / 128 % 8 = (i 1).val / 128 % 8; omega
    | ⟨2, _⟩ => show ((i 0).val * 4096 + (i 1).val) % 128 = (i 1).val % 128; omega
  rw [hi, idx119 _ (rOf i) (i 0) rfl]
  exact (congrArg idx_main_v117 (idx118 (rOf i) (i 0) (hOf i) (eOf i))).trans (idx117 (rOf i) (i 0) (hOf i) (eOf i))

/-- The gradient of q. -/
theorem v188 (i : S1024x4096.Idx) : val_main_v188 (F := Ideal) (up q) (up k) (up v) (up g) (up l) i =
    (((head q k v g l (rOf i) (hOf i)).dq (blockOf (i 0)) (within (i 0)) (eOf i) : ℝ) : EReal) := by
  rw [val_main_v188_apply, val_main_v187_apply, val_main_v186_apply, val_main_v185_apply, val_main_v184_apply]
  exact (congrArg _ (idx_rows i)).trans (v165 q k v g l (ix5 (rOf i) (blockOf (i 0)) (within (i 0)) (hOf i) (eOf i)))

/-- The gradient of k. -/
theorem v190 (i : S1024x4096.Idx) : val_main_v190 (F := Ideal) (up q) (up k) (up v) (up g) (up l) i =
    (((head q k v g l (rOf i) (hOf i)).dk (blockOf (i 0)) (within (i 0)) (eOf i) : ℝ) : EReal) := by
  rw [val_main_v190_apply, val_main_v189_apply, val_main_v183_apply, val_main_v182_apply, val_main_v181_apply]
  exact (congrArg _ (idx_rows i)).trans (v180 q k v g l (ix5 (rOf i) (blockOf (i 0)) (within (i 0)) (hOf i) (eOf i)))

/-- The gradient of v. -/
theorem v192 (i : S1024x4096.Idx) : val_main_v192 (F := Ideal) (up q) (up k) (up g) i =
    (((head q k v g l (rOf i) (hOf i)).dv (blockOf (i 0)) (within (i 0)) (eOf i) : ℝ) : EReal) := by
  rw [val_main_v192_apply, val_main_v191_apply, val_main_v174_apply, val_main_v173_apply, val_main_v172_apply]
  exact (congrArg _ (idx_rows i)).trans (v171 q k v g l (ix5 (rOf i) (blockOf (i 0)) (within (i 0)) (hOf i) (eOf i)))

end Cert.Attn.Ref

end
-- ==== Proof.Host.lean ====
/-
What the kernel's windows are cut from, as functions of the arguments: the rows of q, k and v, and of the output's
gradient, dealt into residue classes; the log-sum-exp; and the row sums of the output gradient against the output, less
the log-sum-exp's gradient.
-/
module

public import proofs.«01_k».proof.Proof.Gen.KernelIdeal.Frame.Runs
public import proofs.«01_k».proof.Proof.RefGrad
public import Idealize.ShloMosaic.Lib.StableHlo.RunRead

@[expose] public section

set_option maxRecDepth 16384

noncomputable section

namespace Cert.KernelIdeal.Host

open Cert.KernelIdeal Cert.KernelIdeal.Gen Idealize.ShloMosaic Idealize.ShloMosaic.TcCoe Idealize.SL.Sem
  Idealize.ShloMosaic.StableHlo

variable {F : FTy → Type} [FloatOps F]

/-- Rows dealt into residue classes, heads and features flattened. -/
def rows (x : S4096x8x128.Idx → F .f32) : S4x1024x1024.Idx → F .f32 :=
  transpose S4x1024x1024 [1, 0, 2] (shapeCast S1024x4x1024 x shapeCasts_S4096x8x128_S1024x4x1024)
    transposes_S1024x4x1024_S4x1024x1024_1_0_2

/-- Rows dealt into residue classes, one lane a head, padded to 128 lanes. -/
def lanes (x : S4096x8.Idx → F .f32) : S4x1024x128.Idx → F .f32 :=
  pad S4x1024x128 ![0, 0, 0] ![0, 0, 120] ![0, 0, 0]
    (transpose S4x1024x8 [1, 0, 2] (shapeCast S1024x4x8 x shapeCasts_S4096x8_S1024x4x8) transposes_S1024x4x8_S4x1024x8_1_0_2)
    (sitofp .f32 (constantI S_ 32 0#32)) pads_S4x1024x8_S4x1024x128_000_000_01200 h_S_

/-- The row sums of the output gradient against the output, less the log-sum-exp's gradient. -/
def less (g o : S4096x8x128.Idx → F .f32) (l : S4096x8.Idx → F .f32) : S4096x8.Idx → F .f32 :=
  subf (Host.reduceAdd (mulf g o) (constant S_ .f32 0x00000000#32) reducesTo_S4096x8x128_S4096x8_d2 h_S_) l

variable (m : (ℓ : Loc nD τ sig) → Buf (Elt F) ℓ) (c : Dev nD)

/-- The argument q on device `c`. -/
abbrev arg0 : S4096x8x128.Idx → F .f32 := m ((c : Thread nD τ).loc main_arg0)
/-- The argument k on device `c`. -/
abbrev arg1 : S4096x8x128.Idx → F .f32 := m ((c : Thread nD τ).loc main_arg1)
/-- The argument v on device `c`. -/
abbrev arg2 : S4096x8x128.Idx → F .f32 := m ((c : Thread nD τ).loc main_arg2)
/-- The output's gradient on device `c`. -/
abbrev arg3 : S4096x8x128.Idx → F .f32 := m ((c : Thread nD τ).loc main_arg3)
/-- The log-sum-exp's gradient on device `c`. -/
abbrev arg4 : S4096x8.Idx → F .f32 := m ((c : Thread nD τ).loc main_arg4)

set_option maxHeartbeats 4000000 in
theorem V_v2 : V m c main_v2 = truncf .bf16 (rows (arg0 m c)) bitsLt_bf16_f32 := by
  unfold V; after_reads_simp; rfl

set_option maxHeartbeats 4000000 in
theorem V_v8 : V m c main_v8 = truncf .bf16 (concatenate S4x1024x2048 2
    [⟨S4x1024x1024, rows (arg1 m c)⟩, ⟨S4x1024x1024, rows (arg2 m c)⟩]
    concatenates_S4x1024x1024_S4x1024x1024_S4x1024x2048_d2) bitsLt_bf16_f32 := by
  unfold V; after_reads_simp; rfl

set_option maxHeartbeats 4000000 in
theorem V_v11 : V m c main_v11 = truncf .bf16 (rows (arg3 m c)) bitsLt_bf16_f32 := by
  unfold V; after_reads_simp; rfl

set_option maxHeartbeats 8000000 in
theorem V_v130 : V m c main_v130 =
    lanes (Cert.ReferenceIdeal.Read.val_main_v122 (F := F) (arg0 m c) (arg1 m c)) := by
  unfold V; after_reads_simp; rfl

set_option maxHeartbeats 8000000 in
theorem V_v133 : V m c main_v133 =
    lanes (less (arg3 m c) (Cert.ReferenceIdeal.Read.val_main_v119 (F := F) (arg0 m c) (arg1 m c) (arg2 m c)) (arg4 m c)) := by
  unfold V; after_reads_simp; rfl

end Cert.KernelIdeal.Host

end
-- ==== Proof.Body.lean ====
/-
What one grid step of the attention gradient's kernel leaves in its three output blocks and in the carried block,
as functions of the step's input blocks: the same formulas for each of the eight heads, a head reading its own 128
columns (its own lane, for the two per-row arrays).
-/
module

public import proofs.«01_k».proof.Proof.Gen.KernelIdeal.Frame
public import Idealize.ShloMosaic.Lib.Pipeline.Value

@[expose] public section

set_option maxRecDepth 16384

noncomputable section

namespace Cert.KernelIdeal.Body

open Cert.KernelIdeal Cert.KernelIdeal.Gen Idealize.ShloMosaic Idealize.ShloMosaic.TcCoe Idealize.SL.Sem

variable {F : FTy → Type} [FloatOps F]

/-! ## One head's formulas -/

/-- Two 128-row blocks, one above the other. -/
def cat (a b : Vec F S1x128x128 .bf16) : FVec F S256x128 .bf16 :=
  concatenate S256x128 0 [⟨S128x128, shapeCast S128x128 a shapeCasts_S1x128x128_S128x128⟩,
    ⟨S128x128, shapeCast S128x128 b shapeCasts_S1x128x128_S128x128⟩] concatenates_S128x128_S128x128_S256x128_d0

/-- Two columns of 128 rows, one above the other. -/
def catCol (a b : Vec F S1x128x1 .f32) : FVec F S256x1 .f32 :=
  concatenate S256x1 0 [⟨S128x1, shapeCast S128x1 a shapeCasts_S1x128x1_S128x1⟩,
    ⟨S128x1, shapeCast S128x1 b shapeCasts_S1x128x1_S128x1⟩] concatenates_S128x1_S128x1_S256x1_d0

/-- A block without its leading axis of extent one. -/
def flat (a : Vec F S1x128x128 .bf16) : FVec F S128x128 .bf16 := shapeCast S128x128 a shapeCasts_S1x128x128_S128x128

/-- The probabilities of the 256 rows against the block's 128 keys: the exponential of score minus log-sum-exp where
    the pair is inside the window, of minus infinity elsewhere. -/
def probs (w : BitVec 32) (i : grid0.Coords) (k q0 q1 : Vec F S1x128x128 .bf16) (l0 l1 : Vec F S1x128x1 .f32) :
    FVec F S256x128 .f32 :=
  exp (select (k0_pay6 i)
    (subf
      (subf
        (mulf (matmul dot_S256x128_S128x128_S256x128_1_1_0_0_n_n none (cat q0 q1) (flat k)
            (constant S256x128 .f32 0x00000000#32))
          (broadcast S256x128 (Scalar.ofBits .f32 0x3DB504F3#32)))
        (mulf (broadcast S256x128 (Scalar.ofBits .f32 w)) k0_pay5))
      (broadcastTo S256x128 (catCol l0 l1) broadcasts_S256x1_S256x128))
    (broadcast S256x128 (Scalar.ofBits .f32 0xFF800000#32)))

/-- The scaled gradient of the scores: the probability times (output gradient against value, less the row's sum). -/
def dscores (w : BitVec 32) (i : grid0.Coords) (k v q0 q1 g0 g1 : Vec F S1x128x128 .bf16)
    (l0 l1 r0 r1 : Vec F S1x128x1 .f32) : FVec F S256x128 .bf16 :=
  truncf .bf16
    (mulf
      (mulf (probs w i k q0 q1 l0 l1)
        (subf
          (matmul dot_S256x128_S128x128_S256x128_1_1_0_0_n_n none (cat g0 g1) (flat v)
            (constant S256x128 .f32 0x00000000#32))
          (broadcastTo S256x128 (catCol r0 r1) broadcasts_S256x1_S256x128)))
      (broadcast S256x128 (Scalar.ofBits .f32 0x3DB504F3#32)))
    bitsLt_bf16_f32

/-- The block of the gradient of v. -/
def dvHead (w : BitVec 32) (i : grid0.Coords) (k q0 q1 g0 g1 : Vec F S1x128x128 .bf16) (l0 l1 : Vec F S1x128x1 .f32) :
    FVec F S128x128 .bf16 :=
  truncf .bf16
    (matmul dot_S256x128_S256x128_S128x128_0_0_1_1_n_n none (truncf .bf16 (probs w i k q0 q1 l0 l1) bitsLt_bf16_f32)
      (cat g0 g1) (constant S128x128 .f32 0x00000000#32)) bitsLt_bf16_f32

/-- The block of the gradient of k. -/
def dkHead (w : BitVec 32) (i : grid0.Coords) (k v q0 q1 g0 g1 : Vec F S1x128x128 .bf16)
    (l0 l1 r0 r1 : Vec F S1x128x1 .f32) : FVec F S128x128 .bf16 :=
  truncf .bf16
    (matmul dot_S256x128_S256x128_S128x128_0_0_1_1_n_n none (dscores w i k v q0 q1 g0 g1 l0 l1 r0 r1) (cat q0 q1)
      (constant S128x128 .f32 0x00000000#32)) bitsLt_bf16_f32

/-- What the block's keys contribute to the gradient of q on the 256 rows. -/
def dqRows (w : BitVec 32) (i : grid0.Coords) (k v q0 q1 g0 g1 : Vec F S1x128x128 .bf16)
    (l0 l1 r0 r1 : Vec F S1x128x1 .f32) : FVec F S256x128 .f32 :=
  matmul dot_S256x128_S128x128_S256x128_1_0_0_1_n_n none (dscores w i k v q0 q1 g0 g1 l0 l1 r0 r1) (flat k)
    (constant S256x128 .f32 0x00000000#32)

/-- The block of the gradient of q: what the step before carried over, plus this step's contribution to its own rows. -/
def dqHead (acc : FVec F S128x128 .f32) (w : BitVec 32) (i : grid0.Coords) (k v q0 q1 g0 g1 : Vec F S1x128x128 .bf16)
    (l0 l1 r0 r1 : Vec F S1x128x1 .f32) : FVec F S128x128 .bf16 :=
  truncf .bf16
    (addf acc (extractStridedSlice S128x128 ![0, 0] (dqRows w i k v q0 q1 g0 g1 l0 l1 r0 r1)
      slices_S256x128_o0_0_S128x128)) bitsLt_bf16_f32

/-- What this step carries over: its contribution to the rows ahead. -/
def carryHead (w : BitVec 32) (i : grid0.Coords) (k v q0 q1 g0 g1 : Vec F S1x128x128 .bf16)
    (l0 l1 r0 r1 : Vec F S1x128x1 .f32) : FVec F S128x128 .f32 :=
  shapeCast S128x128 (extractStridedSlice S128x128 ![128, 0] (dqRows w i k v q0 q1 g0 g1 l0 l1 r0 r1)
    slices_S256x128_o128_0_S128x128) shapeCasts_S128x128_S128x128

/-- Head `h`'s slope times the dilation, as the word the body holds. -/
def slopeW : Fin 8 → BitVec 32 :=
  ![0x3F000000#32, 0x3ECB2FF5#32, 0x3EA14518#32, 0x3E800000#32, 0x3E4B2FF5#32, 0x3E214518#32, 0x3E000000#32, 0x3DCB2FF5#32]

/-! ## A head's columns -/

theorem inbCol (h : Fin 8) : ∀ a, (![0, 0, h.val * 128] : Fin 3 → ℕ) a + (S1x128x128.size) a ≤ S1x128x1024.size a := by
  intro a; have := h.isLt; fin_cases a <;> simp [Matrix.cons_val_two] <;> omega

theorem inbLane (h : Fin 8) : ∀ a, (![0, 0, h.val] : Fin 3 → ℕ) a + (S1x128x1.size) a ≤ S1x128x128.size a := by
  intro a; have := h.isLt; fin_cases a <;> simp [Matrix.cons_val_two] <;> omega

theorem inbBlk (h : Fin 8) : ∀ a, (![0, h.val * 128] : Fin 2 → ℕ) a + (S128x128.size) a ≤ S128x1024.size a := by
  intro a; have := h.isLt; fin_cases a <;> simp <;> omega

/-- Head `h`'s 128 columns of a block. -/
def col {e : EltTy} (x : Vec F S1x128x1024 e) (h : Fin 8) : Vec F S1x128x128 e :=
  View.ld x (Rect.unit (s := S1x128x1024) ![0, 0, h.val * 128] S1x128x128.size (inbCol h))

/-- Head `h`'s lane of a per-row block. -/
def lane {e : EltTy} (x : Vec F S1x128x128 e) (h : Fin 8) : Vec F S1x128x1 e :=
  View.ld x (Rect.unit (s := S1x128x128) ![0, 0, h.val] S1x128x1.size (inbLane h))

/-- Head `h`'s 128 columns of the carried block. -/
def blk {e : EltTy} (x : Vec F S128x1024 e) (h : Fin 8) : Vec F S128x128 e :=
  View.ld x (Rect.unit (s := S128x1024) ![0, h.val * 128] S128x128.size (inbBlk h))

/-- The index of an entry within its head's columns. -/
def locIdx (y : S128x1024.Idx) : S128x128.Idx := fun a => match a with
  | ⟨0, _⟩ => ⟨(y 0).val, (y 0).isLt⟩
  | ⟨1, _⟩ => ⟨(y 1).val % 128, Nat.mod_lt _ (by decide)⟩

/-- The head an entry belongs to. -/
def headOf (y : S128x1024.Idx) : Fin 8 := ⟨(y 1).val / 128, by have : (y 1).val < 1024 := (y 1).isLt; omega⟩

/-- The eight heads' blocks side by side. -/
def byHead {e : EltTy} (f : Fin 8 → Vec F S128x128 e) : Vec F S128x1024 e := fun y => f (headOf y) (locIdx y)

theorem byHead_emb {e : EltTy} (f : Fin 8 → Vec F S128x128 e) (h : Fin 8) (o : ℕ) (ho : o = h.val * 128)
    (inb : ∀ a, (![0, o] : Fin 2 → ℕ) a + (S128x128.size) a ≤ S128x1024.size a) (x : S128x128.Idx) :
    byHead f ((Rect.unit (s := S128x1024) ![0, o] S128x128.size inb).emb x) = f h x := by
  subst ho
  have h0 : ((Rect.unit (s := S128x1024) ![0, h.val * 128] S128x128.size inb).emb x 0).val = (x 0).val := by
    rw [Rect.emb_apply]; show 0 + 1 * (x 0).val = (x 0).val; omega
  have h1 : ((Rect.unit (s := S128x1024) ![0, h.val * 128] S128x128.size inb).emb x 1).val = h.val * 128 + (x 1).val := by
    rw [Rect.emb_apply]; show h.val * 128 + 1 * (x 1).val = h.val * 128 + (x 1).val; omega
  have hx : (x 1).val < 128 := (x 1).isLt
  have e1 : headOf ((Rect.unit (s := S128x1024) ![0, h.val * 128] S128x128.size inb).emb x) = h := by
    apply Fin.ext; show (_ : ℕ) / 128 = h.val; rw [h1]; omega
  have e2 : locIdx ((Rect.unit (s := S128x1024) ![0, h.val * 128] S128x128.size inb).emb x) = x := by
    funext a
    match a with
    | ⟨0, _⟩ => apply Fin.ext; exact h0
    | ⟨1, _⟩ => apply Fin.ext; show (_ : ℕ) % 128 = (x 1).val; rw [h1]; omega
  unfold byHead
  rw [e1, e2]

theorem blk_byHead {e : EltTy} (f : Fin 8 → Vec F S128x128 e) (h : Fin 8) : blk (byHead f) h = f h :=
  funext fun x => byHead_emb f h _ rfl _ x

/-- A block written piece by piece reads, wherever the last pieces cover, as the function they are pieces of. -/
theorem canon_append {e : EltTy} (G : S128x1024.Idx → Elt F e) (M : List (View.Piece (Elt F) S128x1024 e)) (y : S128x1024.Idx) :
    ∀ (L : List (View.Piece (Elt F) S128x1024 e)) (_ : ∀ p ∈ L, ∀ x : p.1.shape.Idx, p.2 x = G (p.1.emb x))
      (_ : ∃ p ∈ L, y ∈ p.1.set), View.canon (L ++ M) y = G y
  | [], _, hy => by obtain ⟨p, hp, _⟩ := hy; simp at hp
  | p :: L, hL, hy => by
    by_cases hm : y ∈ p.1.set
    · obtain ⟨x, rfl⟩ := p.1.exists_idx_of_mem hm
      obtain ⟨r, w⟩ := p
      rw [List.cons_append]
      exact (View.canon_cons_emb r w (L ++ M) x).trans (hL _ List.mem_cons_self x)
    · rw [List.cons_append, View.canon_cons_of_not_mem _ _ hm]
      refine canon_append G M y L (fun p hp => hL p (List.mem_cons_of_mem _ hp)) ?_
      obtain ⟨q, hq, hyq⟩ := hy
      rcases List.mem_cons.1 hq with rfl | hq'
      · exact absurd hyq hm
      · exact ⟨q, hq', hyq⟩

/-- An entry right of column `o + 128` is outside the block at column `o`. -/
theorem not_mem_blk (o o' : ℕ) (inb : ∀ a, (![0, o] : Fin 2 → ℕ) a + (S128x128.size) a ≤ S128x1024.size a)
    (inb' : ∀ a, (![0, o'] : Fin 2 → ℕ) a + (S128x128.size) a ≤ S128x1024.size a) (h : o + 128 ≤ o') (x : S128x128.Idx) :
    (Rect.unit (s := S128x1024) ![0, o'] S128x128.size inb').toLoadRect.idx x ∉ (Rect.unit (s := S128x1024) ![0, o] S128x128.size inb).set := by
  intro hm
  have := (Rect.mem_set_unit.1 hm 1).2
  have e : ((Rect.unit (s := S128x1024) ![0, o'] S128x128.size inb').toLoadRect.idx x 1).val = o' + 1 * (x 1).val := rfl
  have e' : (![0, o] : Fin 2 → ℕ) 1 + (S128x128.size) 1 = o + 128 := rfl
  omega

/-- So a load there reads what was written before that block. -/
theorem canon_skip {e : EltTy} (o o' : ℕ) (inb : ∀ a, (![0, o] : Fin 2 → ℕ) a + (S128x128.size) a ≤ S128x1024.size a)
    (inb' : ∀ a, (![0, o'] : Fin 2 → ℕ) a + (S128x128.size) a ≤ S128x1024.size a) (h : o + 128 ≤ o')
    (w : Vec F S128x128 e) (L : List (View.Piece (Elt F) S128x1024 e)) (x : S128x128.Idx) :
    View.canon ((⟨Rect.unit (s := S128x1024) ![0, o] S128x128.size inb, w⟩ : View.Piece (Elt F) S128x1024 e) :: L)
        ((Rect.unit (s := S128x1024) ![0, o'] S128x128.size inb').toLoadRect.idx x)
      = View.canon L ((Rect.unit (s := S128x1024) ![0, o'] S128x128.size inb').toLoadRect.idx x) :=
  View.canon_cons_of_not_mem _ _ (not_mem_blk o o' inb inb' h x)

/-- Two shapes of one extent at zero offset: the only piece is the whole block. -/
theorem canon_whole {e : EltTy} (inb : ∀ a, (![0, 0] : Fin 2 → ℕ) a + (S128x1024.size) a ≤ S128x1024.size a)
    (w : Vec F S128x1024 e) (y : S128x1024.Idx) :
    View.canon [(⟨Rect.unit (s := S128x1024) ![0, 0] S128x1024.size inb, w⟩ : View.Piece (Elt F) S128x1024 e)] y = w y := by
  have hy : (Rect.unit (s := S128x1024) ![0, 0] S128x1024.size inb).emb y = y := by
    funext a
    match a with
    | ⟨0, _⟩ => apply Fin.ext; show 0 + 1 * (y 0).val = (y 0).val; omega
    | ⟨1, _⟩ => apply Fin.ext; show 0 + 1 * (y 1).val = (y 1).val; omega
  conv_lhs => rw [← hy]
  exact View.canon_cons_emb _ _ _ _

theorem mem_blk (y : S128x1024.Idx) (o : ℕ) (ho : o = (headOf y).val * 128)
    (inb : ∀ a, (![0, o] : Fin 2 → ℕ) a + (S128x128.size) a ≤ S128x1024.size a) :
    y ∈ (Rect.unit (s := S128x1024) ![0, o] S128x128.size inb).set := by
  refine Rect.mem_set_unit.2 fun a => ?_
  match a with
  | ⟨0, _⟩ => exact ⟨Nat.zero_le _, by have : (y 0).val < 128 := (y 0).isLt; show (y 0).val < 0 + 128; omega⟩
  | ⟨1, _⟩ =>
    have e : (headOf y).val = (y 1).val / 128 := rfl
    exact ⟨by show o ≤ (y 1).val; omega, by show (y 1).val < o + 128; omega⟩

theorem readCol {e : EltTy} {sp : Space} {arg : Memref sig .tc sp S1x128x1024 e} (harg : arg.IsWhole)
    (x : Vec F S1x128x1024 e) (h : Fin 8) :
    col x h = View.readAt (Elt F) arg.view (Rect.unit (s := S1x128x1024) ![0, 0, h.val * 128] S1x128x128.size (inbCol h)).toLoadRect (harg.unread x) := by
  show col x h = View.ld (arg.view.read (Elt F) (harg.unread x)) (Rect.unit (s := S1x128x1024) ![0, 0, h.val * 128] S1x128x128.size (inbCol h))
  rw [harg.read_unread]; rfl

theorem readLane {e : EltTy} {sp : Space} {arg : Memref sig .tc sp S1x128x128 e} (harg : arg.IsWhole)
    (x : Vec F S1x128x128 e) (h : Fin 8) :
    lane x h = View.readAt (Elt F) arg.view (Rect.unit (s := S1x128x128) ![0, 0, h.val] S1x128x1.size (inbLane h)).toLoadRect (harg.unread x) := by
  show lane x h = View.ld (arg.view.read (Elt F) (harg.unread x)) (Rect.unit (s := S1x128x128) ![0, 0, h.val] S1x128x1.size (inbLane h))
  rw [harg.read_unread]; rfl

theorem readBlk {e : EltTy} {sp : Space} {arg : Memref sig .tc sp S128x1024 e} (harg : arg.IsWhole)
    (x : Vec F S128x1024 e) (h : Fin 8) :
    blk x h = View.readAt (Elt F) arg.view (Rect.unit (s := S128x1024) ![0, h.val * 128] S128x128.size (inbBlk h)).toLoadRect (harg.unread x) := by
  show blk x h = View.ld (arg.view.read (Elt F) (harg.unread x)) (Rect.unit (s := S128x1024) ![0, h.val * 128] S128x128.size (inbBlk h))
  rw [harg.read_unread]; rfl

/-- The zero block a row of the grid starts from. -/
def zero128 : FVec F S128x128 .f32 := fun _ => FloatOps.ofBits .f32 0x00000000#32

/-- Head 0's columns of the carried block, read in a step that starts a row of the grid, are zero. -/
theorem carryA_0 (c : Dev nD) (arg15 : Memref sig .tc .vmem S128x1024 .f32) :
    kernelRun0_A.sl.v66 (F := F) c arg15 = zero128 := by
  unfold kernelRun0_A.sl.v66
  rw [View.readCov_eq_canon']
  funext x
  unfold kernelRun0_A.sl.HS0_1
  refine (canon_whole _ _ _).trans ?_
  rfl

/-- Head 1's columns of the carried block, read in a step that starts a row of the grid, are zero. -/
theorem carryA_1 (c : Dev nD) (i : grid0.Coords) (arg2 : Memref sig .tc .vmem S1x128x1024 .bf16) (harg2 : arg2.IsWhole) (arg3 : Memref sig .tc .vmem S1x128x1024 .bf16) (harg3 : arg3.IsWhole) (arg4 : Memref sig .tc .vmem S1x128x1024 .bf16) (harg4 : arg4.IsWhole) (arg5 : Memref sig .tc .vmem S1x128x1024 .bf16) (harg5 : arg5.IsWhole) (arg6 : Memref sig .tc .vmem S1x128x1024 .bf16) (harg6 : arg6.IsWhole) (arg7 : Memref sig .tc .vmem S1x128x1024 .bf16) (harg7 : arg7.IsWhole) (arg8 : Memref sig .tc .vmem S1x128x128 .f32) (harg8 : arg8.IsWhole) (arg9 : Memref sig .tc .vmem S1x128x128 .f32) (harg9 : arg9.IsWhole) (arg10 : Memref sig .tc .vmem S1x128x128 .f32) (harg10 : arg10.IsWhole) (arg11 : Memref sig .tc .vmem S1x128x128 .f32) (harg11 : arg11.IsWhole) (arg15 : Memref sig .tc .vmem S128x1024 .f32)
    (x0 : Vec F S1x128x1024 .bf16) (x1 : Vec F S1x128x1024 .bf16) (x2 : Vec F S1x128x1024 .bf16) (x3 : Vec F S1x128x1024 .bf16) (x4 : Vec F S1x128x1024 .bf16) (x5 : Vec F S1x128x1024 .bf16) (x6 : Vec F S1x128x128 .f32) (x7 : Vec F S1x128x128 .f32) (x8 : Vec F S1x128x128 .f32) (x9 : Vec F S1x128x128 .f32) :
    kernelRun0_A.sl.v125 (F := F) c i arg2 harg2 arg3 harg3 arg4 harg4 arg5 harg5 arg6 harg6 arg7 harg7 arg8 harg8 arg9 harg9 arg10 harg10 arg11 harg11 arg15 x0 x1 x2 x3 x4 x5 x6 x7 x8 x9 = zero128 := by
  unfold kernelRun0_A.sl.v125
  rw [View.readCov_eq_canon']
  funext x
  unfold kernelRun0_A.sl.HS0_2
  refine (canon_skip 0 128 _ _ (by decide) _ _ x).trans ?_
  unfold kernelRun0_A.sl.HS0_1
  refine (canon_whole _ _ _).trans ?_
  rfl

/-- Head 2's columns of the carried block, read in a step that starts a row of the grid, are zero. -/
theorem carryA_2 (c : Dev nD) (i : grid0.Coords) (arg2 : Memref sig .tc .vmem S1x128x1024 .bf16) (harg2 : arg2.IsWhole) (arg3 : Memref sig .tc .vmem S1x128x1024 .bf16) (harg3 : arg3.IsWhole) (arg4 : Memref sig .tc .vmem S1x128x1024 .bf16) (harg4 : arg4.IsWhole) (arg5 : Memref sig .tc .vmem S1x128x1024 .bf16) (harg5 : arg5.IsWhole) (arg6 : Memref sig .tc .vmem S1x128x1024 .bf16) (harg6 : arg6.IsWhole) (arg7 : Memref sig .tc .vmem S1x128x1024 .bf16) (harg7 : arg7.IsWhole) (arg8 : Memref sig .tc .vmem S1x128x128 .f32) (harg8 : arg8.IsWhole) (arg9 : Memref sig .tc .vmem S1x128x128 .f32) (harg9 : arg9.IsWhole) (arg10 : Memref sig .tc .vmem S1x128x128 .f32) (harg10 : arg10.IsWhole) (arg11 : Memref sig .tc .vmem S1x128x128 .f32) (harg11 : arg11.IsWhole) (arg15 : Memref sig .tc .vmem S128x1024 .f32)
    (x0 : Vec F S1x128x1024 .bf16) (x1 : Vec F S1x128x1024 .bf16) (x2 : Vec F S1x128x1024 .bf16) (x3 : Vec F S1x128x1024 .bf16) (x4 : Vec F S1x128x1024 .bf16) (x5 : Vec F S1x128x1024 .bf16) (x6 : Vec F S1x128x128 .f32) (x7 : Vec F S1x128x128 .f32) (x8 : Vec F S1x128x128 .f32) (x9 : Vec F S1x128x128 .f32) :
    kernelRun0_A.sl.v184 (F := F) c i arg2 harg2 arg3 harg3 arg4 harg4 arg5 harg5 arg6 harg6 arg7 harg7 arg8 harg8 arg9 harg9 arg10 harg10 arg11 harg11 arg15 x0 x1 x2 x3 x4 x5 x6 x7 x8 x9 = zero128 := by
  unfold kernelRun0_A.sl.v184
  rw [View.readCov_eq_canon']
  funext x
  unfold kernelRun0_A.sl.HS0_3
  refine (canon_skip 128 256 _ _ (by decide) _ _ x).trans ?_
  unfold kernelRun0_A.sl.HS0_2
  refine (canon_skip 0 256 _ _ (by decide) _ _ x).trans ?_
  unfold kernelRun0_A.sl.HS0_1
  refine (canon_whole _ _ _).trans ?_
  rfl

/-- Head 3's columns of the carried block, read in a step that starts a row of the grid, are zero. -/
theorem carryA_3 (c : Dev nD) (i : grid0.Coords) (arg2 : Memref sig .tc .vmem S1x128x1024 .bf16) (harg2 : arg2.IsWhole) (arg3 : Memref sig .tc .vmem S1x128x1024 .bf16) (harg3 : arg3.IsWhole) (arg4 : Memref sig .tc .vmem S1x128x1024 .bf16) (harg4 : arg4.IsWhole) (arg5 : Memref sig .tc .vmem S1x128x1024 .bf16) (harg5 : arg5.IsWhole) (arg6 : Memref sig .tc .vmem S1x128x1024 .bf16) (harg6 : arg6.IsWhole) (arg7 : Memref sig .tc .vmem S1x128x1024 .bf16) (harg7 : arg7.IsWhole) (arg8 : Memref sig .tc .vmem S1x128x128 .f32) (harg8 : arg8.IsWhole) (arg9 : Memref sig .tc .vmem S1x128x128 .f32) (harg9 : arg9.IsWhole) (arg10 : Memref sig .tc .vmem S1x128x128 .f32) (harg10 : arg10.IsWhole) (arg11 : Memref sig .tc .vmem S1x128x128 .f32) (harg11 : arg11.IsWhole) (arg15 : Memref sig .tc .vmem S128x1024 .f32)
    (x0 : Vec F S1x128x1024 .bf16) (x1 : Vec F S1x128x1024 .bf16) (x2 : Vec F S1x128x1024 .bf16) (x3 : Vec F S1x128x1024 .bf16) (x4 : Vec F S1x128x1024 .bf16) (x5 : Vec F S1x128x1024 .bf16) (x6 : Vec F S1x128x128 .f32) (x7 : Vec F S1x128x128 .f32) (x8 : Vec F S1x128x128 .f32) (x9 : Vec F S1x128x128 .f32) :
    kernelRun0_A.sl.v243 (F := F) c i arg2 harg2 arg3 harg3 arg4 harg4 arg5 harg5 arg6 harg6 arg7 harg7 arg8 harg8 arg9 harg9 arg10 harg10 arg11 harg11 arg15 x0 x1 x2 x3 x4 x5 x6 x7 x8 x9 = zero128 := by
  unfold kernelRun0_A.sl.v243
  rw [View.readCov_eq_canon']
  funext x
  unfold kernelRun0_A.sl.HS0_4
  refine (canon_skip 256 384 _ _ (by decide) _ _ x).trans ?_
  unfold kernelRun0_A.sl.HS0_3
  refine (canon_skip 128 384 _ _ (by decide) _ _ x).trans ?_
  unfold kernelRun0_A.sl.HS0_2
  refine (canon_skip 0 384 _ _ (by decide) _ _ x).trans ?_
  unfold kernelRun0_A.sl.HS0_1
  refine (canon_whole _ _ _).trans ?_
  rfl

/-- Head 4's columns of the carried block, read in a step that starts a row of the grid, are zero. -/
theorem carryA_4 (c : Dev nD) (i : grid0.Coords) (arg2 : Memref sig .tc .vmem S1x128x1024 .bf16) (harg2 : arg2.IsWhole) (arg3 : Memref sig .tc .vmem S1x128x1024 .bf16) (harg3 : arg3.IsWhole) (arg4 : Memref sig .tc .vmem S1x128x1024 .bf16) (harg4 : arg4.IsWhole) (arg5 : Memref sig .tc .vmem S1x128x1024 .bf16) (harg5 : arg5.IsWhole) (arg6 : Memref sig .tc .vmem S1x128x1024 .bf16) (harg6 : arg6.IsWhole) (arg7 : Memref sig .tc .vmem S1x128x1024 .bf16) (harg7 : arg7.IsWhole) (arg8 : Memref sig .tc .vmem S1x128x128 .f32) (harg8 : arg8.IsWhole) (arg9 : Memref sig .tc .vmem S1x128x128 .f32) (harg9 : arg9.IsWhole) (arg10 : Memref sig .tc .vmem S1x128x128 .f32) (harg10 : arg10.IsWhole) (arg11 : Memref sig .tc .vmem S1x128x128 .f32) (harg11 : arg11.IsWhole) (arg15 : Memref sig .tc .vmem S128x1024 .f32)
    (x0 : Vec F S1x128x1024 .bf16) (x1 : Vec F S1x128x1024 .bf16) (x2 : Vec F S1x128x1024 .bf16) (x3 : Vec F S1x128x1024 .bf16) (x4 : Vec F S1x128x1024 .bf16) (x5 : Vec F S1x128x1024 .bf16) (x6 : Vec F S1x128x128 .f32) (x7 : Vec F S1x128x128 .f32) (x8 : Vec F S1x128x128 .f32) (x9 : Vec F S1x128x128 .f32) :
    kernelRun0_A.sl.v302 (F := F) c i arg2 harg2 arg3 harg3 arg4 harg4 arg5 harg5 arg6 harg6 arg7 harg7 arg8 harg8 arg9 harg9 arg10 harg10 arg11 harg11 arg15 x0 x1 x2 x3 x4 x5 x6 x7 x8 x9 = zero128 := by
  unfold kernelRun0_A.sl.v302
  rw [View.readCov_eq_canon']
  funext x
  unfold kernelRun0_A.sl.HS0_5
  refine (canon_skip 384 512 _ _ (by decide) _ _ x).trans ?_
  unfold kernelRun0_A.sl.HS0_4
  refine (canon_skip 256 512 _ _ (by decide) _ _ x).trans ?_
  unfold kernelRun0_A.sl.HS0_3
  refine (canon_skip 128 512 _ _ (by decide) _ _ x).trans ?_
  unfold kernelRun0_A.sl.HS0_2
  refine (canon_skip 0 512 _ _ (by decide) _ _ x).trans ?_
  unfold kernelRun0_A.sl.HS0_1
  refine (canon_whole _ _ _).trans ?_
  rfl

/-- Head 5's columns of the carried block, read in a step that starts a row of the grid, are zero. -/
theorem carryA_5 (c : Dev nD) (i : grid0.Coords) (arg2 : Memref sig .tc .vmem S1x128x1024 .bf16) (harg2 : arg2.IsWhole) (arg3 : Memref sig .tc .vmem S1x128x1024 .bf16) (harg3 : arg3.IsWhole) (arg4 : Memref sig .tc .vmem S1x128x1024 .bf16) (harg4 : arg4.IsWhole) (arg5 : Memref sig .tc .vmem S1x128x1024 .bf16) (harg5 : arg5.IsWhole) (arg6 : Memref sig .tc .vmem S1x128x1024 .bf16) (harg6 : arg6.IsWhole) (arg7 : Memref sig .tc .vmem S1x128x1024 .bf16) (harg7 : arg7.IsWhole) (arg8 : Memref sig .tc .vmem S1x128x128 .f32) (harg8 : arg8.IsWhole) (arg9 : Memref sig .tc .vmem S1x128x128 .f32) (harg9 : arg9.IsWhole) (arg10 : Memref sig .tc .vmem S1x128x128 .f32) (harg10 : arg10.IsWhole) (arg11 : Memref sig .tc .vmem S1x128x128 .f32) (harg11 : arg11.IsWhole) (arg15 : Memref sig .tc .vmem S128x1024 .f32)
    (x0 : Vec F S1x128x1024 .bf16) (x1 : Vec F S1x128x1024 .bf16) (x2 : Vec F S1x128x1024 .bf16) (x3 : Vec F S1x128x1024 .bf16) (x4 : Vec F S1x128x1024 .bf16) (x5 : Vec F S1x128x1024 .bf16) (x6 : Vec F S1x128x128 .f32) (x7 : Vec F S1x128x128 .f32) (x8 : Vec F S1x128x128 .f32) (x9 : Vec F S1x128x128 .f32) :
    kernelRun0_A.sl.v361 (F := F) c i arg2 harg2 arg3 harg3 arg4 harg4 arg5 harg5 arg6 harg6 arg7 harg7 arg8 harg8 arg9 harg9 arg10 harg10 arg11 harg11 arg15 x0 x1 x2 x3 x4 x5 x6 x7 x8 x9 = zero128 := by
  unfold kernelRun0_A.sl.v361
  rw [View.readCov_eq_canon']
  funext x
  unfold kernelRun0_A.sl.HS0_6
  refine (canon_skip 512 640 _ _ (by decide) _ _ x).trans ?_
  unfold kernelRun0_A.sl.HS0_5
  refine (canon_skip 384 640 _ _ (by decide) _ _ x).trans ?_
  unfold kernelRun0_A.sl.HS0_4
  refine (canon_skip 256 640 _ _ (by decide) _ _ x).trans ?_
  unfold kernelRun0_A.sl.HS0_3
  refine (canon_skip 128 640 _ _ (by decide) _ _ x).trans ?_
  unfold kernelRun0_A.sl.HS0_2
  refine (canon_skip 0 640 _ _ (by decide) _ _ x).trans ?_
  unfold kernelRun0_A.sl.HS0_1
  refine (canon_whole _ _ _).trans ?_
  rfl

/-- Head 6's columns of the carried block, read in a step that starts a row of the grid, are zero. -/
theorem carryA_6 (c : Dev nD) (i : grid0.Coords) (arg2 : Memref sig .tc .vmem S1x128x1024 .bf16) (harg2 : arg2.IsWhole) (arg3 : Memref sig .tc .vmem S1x128x1024 .bf16) (harg3 : arg3.IsWhole) (arg4 : Memref sig .tc .vmem S1x128x1024 .bf16) (harg4 : arg4.IsWhole) (arg5 : Memref sig .tc .vmem S1x128x1024 .bf16) (harg5 : arg5.IsWhole) (arg6 : Memref sig .tc .vmem S1x128x1024 .bf16) (harg6 : arg6.IsWhole) (arg7 : Memref sig .tc .vmem S1x128x1024 .bf16) (harg7 : arg7.IsWhole) (arg8 : Memref sig .tc .vmem S1x128x128 .f32) (harg8 : arg8.IsWhole) (arg9 : Memref sig .tc .vmem S1x128x128 .f32) (harg9 : arg9.IsWhole) (arg10 : Memref sig .tc .vmem S1x128x128 .f32) (harg10 : arg10.IsWhole) (arg11 : Memref sig .tc .vmem S1x128x128 .f32) (harg11 : arg11.IsWhole) (arg15 : Memref sig .tc .vmem S128x1024 .f32)
    (x0 : Vec F S1x128x1024 .bf16) (x1 : Vec F S1x128x1024 .bf16) (x2 : Vec F S1x128x1024 .bf16) (x3 : Vec F S1x128x1024 .bf16) (x4 : Vec F S1x128x1024 .bf16) (x5 : Vec F S1x128x1024 .bf16) (x6 : Vec F S1x128x128 .f32) (x7 : Vec F S1x128x128 .f32) (x8 : Vec F S1x128x128 .f32) (x9 : Vec F S1x128x128 .f32) :
    kernelRun0_A.sl.v420 (F := F) c i arg2 harg2 arg3 harg3 arg4 harg4 arg5 harg5 arg6 harg6 arg7 harg7 arg8 harg8 arg9 harg9 arg10 harg10 arg11 harg11 arg15 x0 x1 x2 x3 x4 x5 x6 x7 x8 x9 = zero128 := by
  unfold kernelRun0_A.sl.v420
  rw [View.readCov_eq_canon']
  funext x
  unfold kernelRun0_A.sl.HS0_7
  refine (canon_skip 640 768 _ _ (by decide) _ _ x).trans ?_
  unfold kernelRun0_A.sl.HS0_6
  refine (canon_skip 512 768 _ _ (by decide) _ _ x).trans ?_
  unfold kernelRun0_A.sl.HS0_5
  refine (canon_skip 384 768 _ _ (by decide) _ _ x).trans ?_
  unfold kernelRun0_A.sl.HS0_4
  refine (canon_skip 256 768 _ _ (by decide) _ _ x).trans ?_
  unfold kernelRun0_A.sl.HS0_3
  refine (canon_skip 128 768 _ _ (by decide) _ _ x).trans ?_
  unfold kernelRun0_A.sl.HS0_2
  refine (canon_skip 0 768 _ _ (by decide) _ _ x).trans ?_
  unfold kernelRun0_A.sl.HS0_1
  refine (canon_whole _ _ _).trans ?_
  rfl

/-- Head 7's columns of the carried block, read in a step that starts a row of the grid, are zero. -/
theorem carryA_7 (c : Dev nD) (i : grid0.Coords) (arg2 : Memref sig .tc .vmem S1x128x1024 .bf16) (harg2 : arg2.IsWhole) (arg3 : Memref sig .tc .vmem S1x128x1024 .bf16) (harg3 : arg3.IsWhole) (arg4 : Memref sig .tc .vmem S1x128x1024 .bf16) (harg4 : arg4.IsWhole) (arg5 : Memref sig .tc .vmem S1x128x1024 .bf16) (harg5 : arg5.IsWhole) (arg6 : Memref sig .tc .vmem S1x128x1024 .bf16) (harg6 : arg6.IsWhole) (arg7 : Memref sig .tc .vmem S1x128x1024 .bf16) (harg7 : arg7.IsWhole) (arg8 : Memref sig .tc .vmem S1x128x128 .f32) (harg8 : arg8.IsWhole) (arg9 : Memref sig .tc .vmem S1x128x128 .f32) (harg9 : arg9.IsWhole) (arg10 : Memref sig .tc .vmem S1x128x128 .f32) (harg10 : arg10.IsWhole) (arg11 : Memref sig .tc .vmem S1x128x128 .f32) (harg11 : arg11.IsWhole) (arg15 : Memref sig .tc .vmem S128x1024 .f32)
    (x0 : Vec F S1x128x1024 .bf16) (x1 : Vec F S1x128x1024 .bf16) (x2 : Vec F S1x128x1024 .bf16) (x3 : Vec F S1x128x1024 .bf16) (x4 : Vec F S1x128x1024 .bf16) (x5 : Vec F S1x128x1024 .bf16) (x6 : Vec F S1x128x128 .f32) (x7 : Vec F S1x128x128 .f32) (x8 : Vec F S1x128x128 .f32) (x9 : Vec F S1x128x128 .f32) :
    kernelRun0_A.sl.v479 (F := F) c i arg2 harg2 arg3 harg3 arg4 harg4 arg5 harg5 arg6 harg6 arg7 harg7 arg8 harg8 arg9 harg9 arg10 harg10 arg11 harg11 arg15 x0 x1 x2 x3 x4 x5 x6 x7 x8 x9 = zero128 := by
  unfold kernelRun0_A.sl.v479
  rw [View.readCov_eq_canon']
  funext x
  unfold kernelRun0_A.sl.HS0_8
  refine (canon_skip 768 896 _ _ (by decide) _ _ x).trans ?_
  unfold kernelRun0_A.sl.HS0_7
  refine (canon_skip 640 896 _ _ (by decide) _ _ x).trans ?_
  unfold kernelRun0_A.sl.HS0_6
  refine (canon_skip 512 896 _ _ (by decide) _ _ x).trans ?_
  unfold kernelRun0_A.sl.HS0_5
  refine (canon_skip 384 896 _ _ (by decide) _ _ x).trans ?_
  unfold kernelRun0_A.sl.HS0_4
  refine (canon_skip 256 896 _ _ (by decide) _ _ x).trans ?_
  unfold kernelRun0_A.sl.HS0_3
  refine (canon_skip 128 896 _ _ (by decide) _ _ x).trans ?_
  unfold kernelRun0_A.sl.HS0_2
  refine (canon_skip 0 896 _ _ (by decide) _ _ x).trans ?_
  unfold kernelRun0_A.sl.HS0_1
  refine (canon_whole _ _ _).trans ?_
  rfl

set_option maxHeartbeats 4000000 in
/-- The block of the gradient of v after a step that starts a row of the grid. -/
theorem out0_A_12_eq (c : Dev nD) (i : grid0.Coords) (arg2 : Memref sig .tc .vmem S1x128x1024 .bf16) (harg2 : arg2.IsWhole) (arg3 : Memref sig .tc .vmem S1x128x1024 .bf16) (harg3 : arg3.IsWhole) (arg4 : Memref sig .tc .vmem S1x128x1024 .bf16) (harg4 : arg4.IsWhole) (arg5 : Memref sig .tc .vmem S1x128x1024 .bf16) (harg5 : arg5.IsWhole) (arg6 : Memref sig .tc .vmem S1x128x1024 .bf16) (harg6 : arg6.IsWhole) (arg7 : Memref sig .tc .vmem S1x128x1024 .bf16) (harg7 : arg7.IsWhole) (arg8 : Memref sig .tc .vmem S1x128x128 .f32) (harg8 : arg8.IsWhole) (arg9 : Memref sig .tc .vmem S1x128x128 .f32) (harg9 : arg9.IsWhole) (arg10 : Memref sig .tc .vmem S1x128x128 .f32) (harg10 : arg10.IsWhole) (arg11 : Memref sig .tc .vmem S1x128x128 .f32) (harg11 : arg11.IsWhole) (arg12 : Memref sig .tc .vmem S128x1024 .bf16) (harg12 : arg12.IsWhole) (arg13 : Memref sig .tc .vmem S128x1024 .bf16) (harg13 : arg13.IsWhole) (arg14 : Memref sig .tc .vmem S128x1024 .bf16) (harg14 : arg14.IsWhole) (arg15 : Memref sig .tc .vmem S128x1024 .f32) (harg15 : arg15.IsWhole) (hc0 : cond0_0 i)
    (x0 : Vec F S1x128x1024 .bf16) (x1 : Vec F S1x128x1024 .bf16) (x2 : Vec F S1x128x1024 .bf16) (x3 : Vec F S1x128x1024 .bf16) (x4 : Vec F S1x128x1024 .bf16) (x5 : Vec F S1x128x1024 .bf16) (x6 : Vec F S1x128x128 .f32) (x7 : Vec F S1x128x128 .f32) (x8 : Vec F S1x128x128 .f32) (x9 : Vec F S1x128x128 .f32) :
    out0_A_12 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 = byHead (fun h => dvHead (slopeW h) i (col x2 h) (col x0 h) (col x1 h) (col x4 h) (col x5 h) (lane x6 h) (lane x7 h)) := by
  unfold out0_A_12
  rw [View.read_writes_junk_eq_canon]
  funext y
  refine View.canon_apply_of_pieces _ _ ?_ y (cover0_A_12 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 y)
  unfold kernelRun0_A
  dsimp only
  intro p hp
  simp only [List.mem_cons, List.not_mem_nil, or_false] at hp
  rcases hp with rfl | rfl | rfl | rfl | rfl | rfl | rfl | rfl
  · intro x
    rw [byHead_emb _ 7 896 rfl, readCol harg4 x2 7, readCol harg2 x0 7, readCol harg3 x1 7, readCol harg6 x4 7, readCol harg7 x5 7, readLane harg8 x6 7, readLane harg9 x7 7]
    rfl
  · intro x
    rw [byHead_emb _ 6 768 rfl, readCol harg4 x2 6, readCol harg2 x0 6, readCol harg3 x1 6, readCol harg6 x4 6, readCol harg7 x5 6, readLane harg8 x6 6, readLane harg9 x7 6]
    rfl
  · intro x
    rw [byHead_emb _ 5 640 rfl, readCol harg4 x2 5, readCol harg2 x0 5, readCol harg3 x1 5, readCol harg6 x4 5, readCol harg7 x5 5, readLane harg8 x6 5, readLane harg9 x7 5]
    rfl
  · intro x
    rw [byHead_emb _ 4 512 rfl, readCol harg4 x2 4, readCol harg2 x0 4, readCol harg3 x1 4, readCol harg6 x4 4, readCol harg7 x5 4, readLane harg8 x6 4, readLane harg9 x7 4]
    rfl
  · intro x
    rw [byHead_emb _ 3 384 rfl, readCol harg4 x2 3, readCol harg2 x0 3, readCol harg3 x1 3, readCol harg6 x4 3, readCol harg7 x5 3, readLane harg8 x6 3, readLane harg9 x7 3]
    rfl
  · intro x
    rw [byHead_emb _ 2 256 rfl, readCol harg4 x2 2, readCol harg2 x0 2, readCol harg3 x1 2, readCol harg6 x4 2, readCol harg7 x5 2, readLane harg8 x6 2, readLane harg9 x7 2]
    rfl
  · intro x
    rw [byHead_emb _ 1 128 rfl, readCol harg4 x2 1, readCol harg2 x0 1, readCol harg3 x1 1, readCol harg6 x4 1, readCol harg7 x5 1, readLane harg8 x6 1, readLane harg9 x7 1]
    rfl
  · intro x
    rw [byHead_emb _ 0 0 rfl, readCol harg4 x2 0, readCol harg2 x0 0, readCol harg3 x1 0, readCol harg6 x4 0, readCol harg7 x5 0, readLane harg8 x6 0, readLane harg9 x7 0]
    rfl

set_option maxHeartbeats 4000000 in
/-- The block of the gradient of k after a step that starts a row of the grid. -/
theorem out0_A_11_eq (c : Dev nD) (i : grid0.Coords) (arg2 : Memref sig .tc .vmem S1x128x1024 .bf16) (harg2 : arg2.IsWhole) (arg3 : Memref sig .tc .vmem S1x128x1024 .bf16) (harg3 : arg3.IsWhole) (arg4 : Memref sig .tc .vmem S1x128x1024 .bf16) (harg4 : arg4.IsWhole) (arg5 : Memref sig .tc .vmem S1x128x1024 .bf16) (harg5 : arg5.IsWhole) (arg6 : Memref sig .tc .vmem S1x128x1024 .bf16) (harg6 : arg6.IsWhole) (arg7 : Memref sig .tc .vmem S1x128x1024 .bf16) (harg7 : arg7.IsWhole) (arg8 : Memref sig .tc .vmem S1x128x128 .f32) (harg8 : arg8.IsWhole) (arg9 : Memref sig .tc .vmem S1x128x128 .f32) (harg9 : arg9.IsWhole) (arg10 : Memref sig .tc .vmem S1x128x128 .f32) (harg10 : arg10.IsWhole) (arg11 : Memref sig .tc .vmem S1x128x128 .f32) (harg11 : arg11.IsWhole) (arg12 : Memref sig .tc .vmem S128x1024 .bf16) (harg12 : arg12.IsWhole) (arg13 : Memref sig .tc .vmem S128x1024 .bf16) (harg13 : arg13.IsWhole) (arg14 : Memref sig .tc .vmem S128x1024 .bf16) (harg14 : arg14.IsWhole) (arg15 : Memref sig .tc .vmem S128x1024 .f32) (harg15 : arg15.IsWhole) (hc0 : cond0_0 i)
    (x0 : Vec F S1x128x1024 .bf16) (x1 : Vec F S1x128x1024 .bf16) (x2 : Vec F S1x128x1024 .bf16) (x3 : Vec F S1x128x1024 .bf16) (x4 : Vec F S1x128x1024 .bf16) (x5 : Vec F S1x128x1024 .bf16) (x6 : Vec F S1x128x128 .f32) (x7 : Vec F S1x128x128 .f32) (x8 : Vec F S1x128x128 .f32) (x9 : Vec F S1x128x128 .f32) :
    out0_A_11 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 = byHead (fun h => dkHead (slopeW h) i (col x2 h) (col x3 h) (col x0 h) (col x1 h) (col x4 h) (col x5 h) (lane x6 h) (lane x7 h) (lane x8 h) (lane x9 h)) := by
  unfold out0_A_11
  rw [View.read_writes_junk_eq_canon]
  funext y
  refine View.canon_apply_of_pieces _ _ ?_ y (cover0_A_11 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 y)
  unfold kernelRun0_A
  dsimp only
  intro p hp
  simp only [List.mem_cons, List.not_mem_nil, or_false] at hp
  rcases hp with rfl | rfl | rfl | rfl | rfl | rfl | rfl | rfl
  · intro x
    rw [byHead_emb _ 7 896 rfl, readCol harg4 x2 7, readCol harg5 x3 7, readCol harg2 x0 7, readCol harg3 x1 7, readCol harg6 x4 7, readCol harg7 x5 7, readLane harg8 x6 7, readLane harg9 x7 7, readLane harg10 x8 7, readLane harg11 x9 7]
    rfl
  · intro x
    rw [byHead_emb _ 6 768 rfl, readCol harg4 x2 6, readCol harg5 x3 6, readCol harg2 x0 6, readCol harg3 x1 6, readCol harg6 x4 6, readCol harg7 x5 6, readLane harg8 x6 6, readLane harg9 x7 6, readLane harg10 x8 6, readLane harg11 x9 6]
    rfl
  · intro x
    rw [byHead_emb _ 5 640 rfl, readCol harg4 x2 5, readCol harg5 x3 5, readCol harg2 x0 5, readCol harg3 x1 5, readCol harg6 x4 5, readCol harg7 x5 5, readLane harg8 x6 5, readLane harg9 x7 5, readLane harg10 x8 5, readLane harg11 x9 5]
    rfl
  · intro x
    rw [byHead_emb _ 4 512 rfl, readCol harg4 x2 4, readCol harg5 x3 4, readCol harg2 x0 4, readCol harg3 x1 4, readCol harg6 x4 4, readCol harg7 x5 4, readLane harg8 x6 4, readLane harg9 x7 4, readLane harg10 x8 4, readLane harg11 x9 4]
    rfl
  · intro x
    rw [byHead_emb _ 3 384 rfl, readCol harg4 x2 3, readCol harg5 x3 3, readCol harg2 x0 3, readCol harg3 x1 3, readCol harg6 x4 3, readCol harg7 x5 3, readLane harg8 x6 3, readLane harg9 x7 3, readLane harg10 x8 3, readLane harg11 x9 3]
    rfl
  · intro x
    rw [byHead_emb _ 2 256 rfl, readCol harg4 x2 2, readCol harg5 x3 2, readCol harg2 x0 2, readCol harg3 x1 2, readCol harg6 x4 2, readCol harg7 x5 2, readLane harg8 x6 2, readLane harg9 x7 2, readLane harg10 x8 2, readLane harg11 x9 2]
    rfl
  · intro x
    rw [byHead_emb _ 1 128 rfl, readCol harg4 x2 1, readCol harg5 x3 1, readCol harg2 x0 1, readCol harg3 x1 1, readCol harg6 x4 1, readCol harg7 x5 1, readLane harg8 x6 1, readLane harg9 x7 1, readLane harg10 x8 1, readLane harg11 x9 1]
    rfl
  · intro x
    rw [byHead_emb _ 0 0 rfl, readCol harg4 x2 0, readCol harg5 x3 0, readCol harg2 x0 0, readCol harg3 x1 0, readCol harg6 x4 0, readCol harg7 x5 0, readLane harg8 x6 0, readLane harg9 x7 0, readLane harg10 x8 0, readLane harg11 x9 0]
    rfl

set_option maxHeartbeats 4000000 in
/-- The block of the gradient of q after a step that starts a row of the grid. -/
theorem out0_A_10_eq (c : Dev nD) (i : grid0.Coords) (arg2 : Memref sig .tc .vmem S1x128x1024 .bf16) (harg2 : arg2.IsWhole) (arg3 : Memref sig .tc .vmem S1x128x1024 .bf16) (harg3 : arg3.IsWhole) (arg4 : Memref sig .tc .vmem S1x128x1024 .bf16) (harg4 : arg4.IsWhole) (arg5 : Memref sig .tc .vmem S1x128x1024 .bf16) (harg5 : arg5.IsWhole) (arg6 : Memref sig .tc .vmem S1x128x1024 .bf16) (harg6 : arg6.IsWhole) (arg7 : Memref sig .tc .vmem S1x128x1024 .bf16) (harg7 : arg7.IsWhole) (arg8 : Memref sig .tc .vmem S1x128x128 .f32) (harg8 : arg8.IsWhole) (arg9 : Memref sig .tc .vmem S1x128x128 .f32) (harg9 : arg9.IsWhole) (arg10 : Memref sig .tc .vmem S1x128x128 .f32) (harg10 : arg10.IsWhole) (arg11 : Memref sig .tc .vmem S1x128x128 .f32) (harg11 : arg11.IsWhole) (arg12 : Memref sig .tc .vmem S128x1024 .bf16) (harg12 : arg12.IsWhole) (arg13 : Memref sig .tc .vmem S128x1024 .bf16) (harg13 : arg13.IsWhole) (arg14 : Memref sig .tc .vmem S128x1024 .bf16) (harg14 : arg14.IsWhole) (arg15 : Memref sig .tc .vmem S128x1024 .f32) (harg15 : arg15.IsWhole) (hc0 : cond0_0 i)
    (x0 : Vec F S1x128x1024 .bf16) (x1 : Vec F S1x128x1024 .bf16) (x2 : Vec F S1x128x1024 .bf16) (x3 : Vec F S1x128x1024 .bf16) (x4 : Vec F S1x128x1024 .bf16) (x5 : Vec F S1x128x1024 .bf16) (x6 : Vec F S1x128x128 .f32) (x7 : Vec F S1x128x128 .f32) (x8 : Vec F S1x128x128 .f32) (x9 : Vec F S1x128x128 .f32) :
    out0_A_10 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 = byHead (fun h => dqHead (zero128) (slopeW h) i (col x2 h) (col x3 h) (col x0 h) (col x1 h) (col x4 h) (col x5 h) (lane x6 h) (lane x7 h) (lane x8 h) (lane x9 h)) := by
  unfold out0_A_10
  rw [View.read_writes_junk_eq_canon]
  funext y
  refine View.canon_apply_of_pieces _ _ ?_ y (cover0_A_10 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 y)
  unfold kernelRun0_A
  dsimp only
  intro p hp
  simp only [List.mem_cons, List.not_mem_nil, or_false] at hp
  rcases hp with rfl | rfl | rfl | rfl | rfl | rfl | rfl | rfl
  · intro x
    rw [byHead_emb _ 7 896 rfl, readCol harg4 x2 7, readCol harg5 x3 7, readCol harg2 x0 7, readCol harg3 x1 7, readCol harg6 x4 7, readCol harg7 x5 7, readLane harg8 x6 7, readLane harg9 x7 7, readLane harg10 x8 7, readLane harg11 x9 7, ← carryA_7 c i arg2 harg2 arg3 harg3 arg4 harg4 arg5 harg5 arg6 harg6 arg7 harg7 arg8 harg8 arg9 harg9 arg10 harg10 arg11 harg11 arg15 x0 x1 x2 x3 x4 x5 x6 x7 x8 x9]
    rfl
  · intro x
    rw [byHead_emb _ 6 768 rfl, readCol harg4 x2 6, readCol harg5 x3 6, readCol harg2 x0 6, readCol harg3 x1 6, readCol harg6 x4 6, readCol harg7 x5 6, readLane harg8 x6 6, readLane harg9 x7 6, readLane harg10 x8 6, readLane harg11 x9 6, ← carryA_6 c i arg2 harg2 arg3 harg3 arg4 harg4 arg5 harg5 arg6 harg6 arg7 harg7 arg8 harg8 arg9 harg9 arg10 harg10 arg11 harg11 arg15 x0 x1 x2 x3 x4 x5 x6 x7 x8 x9]
    rfl
  · intro x
    rw [byHead_emb _ 5 640 rfl, readCol harg4 x2 5, readCol harg5 x3 5, readCol harg2 x0 5, readCol harg3 x1 5, readCol harg6 x4 5, readCol harg7 x5 5, readLane harg8 x6 5, readLane harg9 x7 5, readLane harg10 x8 5, readLane harg11 x9 5, ← carryA_5 c i arg2 harg2 arg3 harg3 arg4 harg4 arg5 harg5 arg6 harg6 arg7 harg7 arg8 harg8 arg9 harg9 arg10 harg10 arg11 harg11 arg15 x0 x1 x2 x3 x4 x5 x6 x7 x8 x9]
    rfl
  · intro x
    rw [byHead_emb _ 4 512 rfl, readCol harg4 x2 4, readCol harg5 x3 4, readCol harg2 x0 4, readCol harg3 x1 4, readCol harg6 x4 4, readCol harg7 x5 4, readLane harg8 x6 4, readLane harg9 x7 4, readLane harg10 x8 4, readLane harg11 x9 4, ← carryA_4 c i arg2 harg2 arg3 harg3 arg4 harg4 arg5 harg5 arg6 harg6 arg7 harg7 arg8 harg8 arg9 harg9 arg10 harg10 arg11 harg11 arg15 x0 x1 x2 x3 x4 x5 x6 x7 x8 x9]
    rfl
  · intro x
    rw [byHead_emb _ 3 384 rfl, readCol harg4 x2 3, readCol harg5 x3 3, readCol harg2 x0 3, readCol harg3 x1 3, readCol harg6 x4 3, readCol harg7 x5 3, readLane harg8 x6 3, readLane harg9 x7 3, readLane harg10 x8 3, readLane harg11 x9 3, ← carryA_3 c i arg2 harg2 arg3 harg3 arg4 harg4 arg5 harg5 arg6 harg6 arg7 harg7 arg8 harg8 arg9 harg9 arg10 harg10 arg11 harg11 arg15 x0 x1 x2 x3 x4 x5 x6 x7 x8 x9]
    rfl
  · intro x
    rw [byHead_emb _ 2 256 rfl, readCol harg4 x2 2, readCol harg5 x3 2, readCol harg2 x0 2, readCol harg3 x1 2, readCol harg6 x4 2, readCol harg7 x5 2, readLane harg8 x6 2, readLane harg9 x7 2, readLane harg10 x8 2, readLane harg11 x9 2, ← carryA_2 c i arg2 harg2 arg3 harg3 arg4 harg4 arg5 harg5 arg6 harg6 arg7 harg7 arg8 harg8 arg9 harg9 arg10 harg10 arg11 harg11 arg15 x0 x1 x2 x3 x4 x5 x6 x7 x8 x9]
    rfl
  · intro x
    rw [byHead_emb _ 1 128 rfl, readCol harg4 x2 1, readCol harg5 x3 1, readCol harg2 x0 1, readCol harg3 x1 1, readCol harg6 x4 1, readCol harg7 x5 1, readLane harg8 x6 1, readLane harg9 x7 1, readLane harg10 x8 1, readLane harg11 x9 1, ← carryA_1 c i arg2 harg2 arg3 harg3 arg4 harg4 arg5 harg5 arg6 harg6 arg7 harg7 arg8 harg8 arg9 harg9 arg10 harg10 arg11 harg11 arg15 x0 x1 x2 x3 x4 x5 x6 x7 x8 x9]
    rfl
  · intro x
    rw [byHead_emb _ 0 0 rfl, readCol harg4 x2 0, readCol harg5 x3 0, readCol harg2 x0 0, readCol harg3 x1 0, readCol harg6 x4 0, readCol harg7 x5 0, readLane harg8 x6 0, readLane harg9 x7 0, readLane harg10 x8 0, readLane harg11 x9 0, ← carryA_0 c arg15]
    rfl

set_option maxHeartbeats 4000000 in
/-- The carried block after a step that starts a row of the grid. -/
theorem sout0_A_0_eq (c : Dev nD) (i : grid0.Coords) (arg2 : Memref sig .tc .vmem S1x128x1024 .bf16) (harg2 : arg2.IsWhole) (arg3 : Memref sig .tc .vmem S1x128x1024 .bf16) (harg3 : arg3.IsWhole) (arg4 : Memref sig .tc .vmem S1x128x1024 .bf16) (harg4 : arg4.IsWhole) (arg5 : Memref sig .tc .vmem S1x128x1024 .bf16) (harg5 : arg5.IsWhole) (arg6 : Memref sig .tc .vmem S1x128x1024 .bf16) (harg6 : arg6.IsWhole) (arg7 : Memref sig .tc .vmem S1x128x1024 .bf16) (harg7 : arg7.IsWhole) (arg8 : Memref sig .tc .vmem S1x128x128 .f32) (harg8 : arg8.IsWhole) (arg9 : Memref sig .tc .vmem S1x128x128 .f32) (harg9 : arg9.IsWhole) (arg10 : Memref sig .tc .vmem S1x128x128 .f32) (harg10 : arg10.IsWhole) (arg11 : Memref sig .tc .vmem S1x128x128 .f32) (harg11 : arg11.IsWhole) (arg12 : Memref sig .tc .vmem S128x1024 .bf16) (harg12 : arg12.IsWhole) (arg13 : Memref sig .tc .vmem S128x1024 .bf16) (harg13 : arg13.IsWhole) (arg14 : Memref sig .tc .vmem S128x1024 .bf16) (harg14 : arg14.IsWhole) (arg15 : Memref sig .tc .vmem S128x1024 .f32) (harg15 : arg15.IsWhole) (hc0 : cond0_0 i)
    (x0 : Vec F S1x128x1024 .bf16) (x1 : Vec F S1x128x1024 .bf16) (x2 : Vec F S1x128x1024 .bf16) (x3 : Vec F S1x128x1024 .bf16) (x4 : Vec F S1x128x1024 .bf16) (x5 : Vec F S1x128x1024 .bf16) (x6 : Vec F S1x128x128 .f32) (x7 : Vec F S1x128x128 .f32) (x8 : Vec F S1x128x128 .f32) (x9 : Vec F S1x128x128 .f32) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 = byHead (fun h => carryHead (slopeW h) i (col x2 h) (col x3 h) (col x0 h) (col x1 h) (col x4 h) (col x5 h) (lane x6 h) (lane x7 h) (lane x8 h) (lane x9 h)) := by
  unfold sout0_A_0
  rw [View.read_writes_junk_eq_canon]
  funext y
  rw [← List.take_append_drop 8 (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9).2.2.2.1]
  refine canon_append _ _ y _ ?_ (View.cover_of_tiledL (List.take 8 (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9).2.2.2.1) S128x128.size (by sl_kernel_rfl) y)
  unfold kernelRun0_A
  dsimp only
  intro p hp
  simp only [kernelRun0_A.sl.HS0_1, kernelRun0_A.sl.HS0_2, kernelRun0_A.sl.HS0_3, kernelRun0_A.sl.HS0_4, kernelRun0_A.sl.HS0_5, kernelRun0_A.sl.HS0_6, kernelRun0_A.sl.HS0_7, kernelRun0_A.sl.HS0_8, List.take_succ_cons, List.take_zero] at hp
  simp only [List.mem_cons, List.not_mem_nil, or_false] at hp
  rcases hp with rfl | rfl | rfl | rfl | rfl | rfl | rfl | rfl
  · intro x
    rw [byHead_emb _ 7 896 rfl, readCol harg4 x2 7, readCol harg5 x3 7, readCol harg2 x0 7, readCol harg3 x1 7, readCol harg6 x4 7, readCol harg7 x5 7, readLane harg8 x6 7, readLane harg9 x7 7, readLane harg10 x8 7, readLane harg11 x9 7]
    rfl
  · intro x
    rw [byHead_emb _ 6 768 rfl, readCol harg4 x2 6, readCol harg5 x3 6, readCol harg2 x0 6, readCol harg3 x1 6, readCol harg6 x4 6, readCol harg7 x5 6, readLane harg8 x6 6, readLane harg9 x7 6, readLane harg10 x8 6, readLane harg11 x9 6]
    rfl
  · intro x
    rw [byHead_emb _ 5 640 rfl, readCol harg4 x2 5, readCol harg5 x3 5, readCol harg2 x0 5, readCol harg3 x1 5, readCol harg6 x4 5, readCol harg7 x5 5, readLane harg8 x6 5, readLane harg9 x7 5, readLane harg10 x8 5, readLane harg11 x9 5]
    rfl
  · intro x
    rw [byHead_emb _ 4 512 rfl, readCol harg4 x2 4, readCol harg5 x3 4, readCol harg2 x0 4, readCol harg3 x1 4, readCol harg6 x4 4, readCol harg7 x5 4, readLane harg8 x6 4, readLane harg9 x7 4, readLane harg10 x8 4, readLane harg11 x9 4]
    rfl
  · intro x
    rw [byHead_emb _ 3 384 rfl, readCol harg4 x2 3, readCol harg5 x3 3, readCol harg2 x0 3, readCol harg3 x1 3, readCol harg6 x4 3, readCol harg7 x5 3, readLane harg8 x6 3, readLane harg9 x7 3, readLane harg10 x8 3, readLane harg11 x9 3]
    rfl
  · intro x
    rw [byHead_emb _ 2 256 rfl, readCol harg4 x2 2, readCol harg5 x3 2, readCol harg2 x0 2, readCol harg3 x1 2, readCol harg6 x4 2, readCol harg7 x5 2, readLane harg8 x6 2, readLane harg9 x7 2, readLane harg10 x8 2, readLane harg11 x9 2]
    rfl
  · intro x
    rw [byHead_emb _ 1 128 rfl, readCol harg4 x2 1, readCol harg5 x3 1, readCol harg2 x0 1, readCol harg3 x1 1, readCol harg6 x4 1, readCol harg7 x5 1, readLane harg8 x6 1, readLane harg9 x7 1, readLane harg10 x8 1, readLane harg11 x9 1]
    rfl
  · intro x
    rw [byHead_emb _ 0 0 rfl, readCol harg4 x2 0, readCol harg5 x3 0, readCol harg2 x0 0, readCol harg3 x1 0, readCol harg6 x4 0, readCol harg7 x5 0, readLane harg8 x6 0, readLane harg9 x7 0, readLane harg10 x8 0, readLane harg11 x9 0]
    rfl

set_option maxHeartbeats 4000000 in
/-- The block of the gradient of v after any other step. -/
theorem out0_B_12_eq (c : Dev nD) (i : grid0.Coords) (arg2 : Memref sig .tc .vmem S1x128x1024 .bf16) (harg2 : arg2.IsWhole) (arg3 : Memref sig .tc .vmem S1x128x1024 .bf16) (harg3 : arg3.IsWhole) (arg4 : Memref sig .tc .vmem S1x128x1024 .bf16) (harg4 : arg4.IsWhole) (arg5 : Memref sig .tc .vmem S1x128x1024 .bf16) (harg5 : arg5.IsWhole) (arg6 : Memref sig .tc .vmem S1x128x1024 .bf16) (harg6 : arg6.IsWhole) (arg7 : Memref sig .tc .vmem S1x128x1024 .bf16) (harg7 : arg7.IsWhole) (arg8 : Memref sig .tc .vmem S1x128x128 .f32) (harg8 : arg8.IsWhole) (arg9 : Memref sig .tc .vmem S1x128x128 .f32) (harg9 : arg9.IsWhole) (arg10 : Memref sig .tc .vmem S1x128x128 .f32) (harg10 : arg10.IsWhole) (arg11 : Memref sig .tc .vmem S1x128x128 .f32) (harg11 : arg11.IsWhole) (arg12 : Memref sig .tc .vmem S128x1024 .bf16) (harg12 : arg12.IsWhole) (arg13 : Memref sig .tc .vmem S128x1024 .bf16) (harg13 : arg13.IsWhole) (arg14 : Memref sig .tc .vmem S128x1024 .bf16) (harg14 : arg14.IsWhole) (arg15 : Memref sig .tc .vmem S128x1024 .f32) (harg15 : arg15.IsWhole) (hc0 : ¬cond0_0 i)
    (x0 : Vec F S1x128x1024 .bf16) (x1 : Vec F S1x128x1024 .bf16) (x2 : Vec F S1x128x1024 .bf16) (x3 : Vec F S1x128x1024 .bf16) (x4 : Vec F S1x128x1024 .bf16) (x5 : Vec F S1x128x1024 .bf16) (x6 : Vec F S1x128x128 .f32) (x7 : Vec F S1x128x128 .f32) (x8 : Vec F S1x128x128 .f32) (x9 : Vec F S1x128x128 .f32) (xs0 : Vec F S128x1024 .f32) :
    out0_B_12 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xs0 = byHead (fun h => dvHead (slopeW h) i (col x2 h) (col x0 h) (col x1 h) (col x4 h) (col x5 h) (lane x6 h) (lane x7 h)) := by
  unfold out0_B_12
  rw [View.read_writes_junk_eq_canon]
  funext y
  refine View.canon_apply_of_pieces _ _ ?_ y (cover0_B_12 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xs0 y)
  unfold kernelRun0_B
  dsimp only
  intro p hp
  simp only [List.mem_cons, List.not_mem_nil, or_false] at hp
  rcases hp with rfl | rfl | rfl | rfl | rfl | rfl | rfl | rfl
  · intro x
    rw [byHead_emb _ 7 896 rfl, readCol harg4 x2 7, readCol harg2 x0 7, readCol harg3 x1 7, readCol harg6 x4 7, readCol harg7 x5 7, readLane harg8 x6 7, readLane harg9 x7 7]
    rfl
  · intro x
    rw [byHead_emb _ 6 768 rfl, readCol harg4 x2 6, readCol harg2 x0 6, readCol harg3 x1 6, readCol harg6 x4 6, readCol harg7 x5 6, readLane harg8 x6 6, readLane harg9 x7 6]
    rfl
  · intro x
    rw [byHead_emb _ 5 640 rfl, readCol harg4 x2 5, readCol harg2 x0 5, readCol harg3 x1 5, readCol harg6 x4 5, readCol harg7 x5 5, readLane harg8 x6 5, readLane harg9 x7 5]
    rfl
  · intro x
    rw [byHead_emb _ 4 512 rfl, readCol harg4 x2 4, readCol harg2 x0 4, readCol harg3 x1 4, readCol harg6 x4 4, readCol harg7 x5 4, readLane harg8 x6 4, readLane harg9 x7 4]
    rfl
  · intro x
    rw [byHead_emb _ 3 384 rfl, readCol harg4 x2 3, readCol harg2 x0 3, readCol harg3 x1 3, readCol harg6 x4 3, readCol harg7 x5 3, readLane harg8 x6 3, readLane harg9 x7 3]
    rfl
  · intro x
    rw [byHead_emb _ 2 256 rfl, readCol harg4 x2 2, readCol harg2 x0 2, readCol harg3 x1 2, readCol harg6 x4 2, readCol harg7 x5 2, readLane harg8 x6 2, readLane harg9 x7 2]
    rfl
  · intro x
    rw [byHead_emb _ 1 128 rfl, readCol harg4 x2 1, readCol harg2 x0 1, readCol harg3 x1 1, readCol harg6 x4 1, readCol harg7 x5 1, readLane harg8 x6 1, readLane harg9 x7 1]
    rfl
  · intro x
    rw [byHead_emb _ 0 0 rfl, readCol harg4 x2 0, readCol harg2 x0 0, readCol harg3 x1 0, readCol harg6 x4 0, readCol harg7 x5 0, readLane harg8 x6 0, readLane harg9 x7 0]
    rfl

set_option maxHeartbeats 4000000 in
/-- The block of the gradient of k after any other step. -/
theorem out0_B_11_eq (c : Dev nD) (i : grid0.Coords) (arg2 : Memref sig .tc .vmem S1x128x1024 .bf16) (harg2 : arg2.IsWhole) (arg3 : Memref sig .tc .vmem S1x128x1024 .bf16) (harg3 : arg3.IsWhole) (arg4 : Memref sig .tc .vmem S1x128x1024 .bf16) (harg4 : arg4.IsWhole) (arg5 : Memref sig .tc .vmem S1x128x1024 .bf16) (harg5 : arg5.IsWhole) (arg6 : Memref sig .tc .vmem S1x128x1024 .bf16) (harg6 : arg6.IsWhole) (arg7 : Memref sig .tc .vmem S1x128x1024 .bf16) (harg7 : arg7.IsWhole) (arg8 : Memref sig .tc .vmem S1x128x128 .f32) (harg8 : arg8.IsWhole) (arg9 : Memref sig .tc .vmem S1x128x128 .f32) (harg9 : arg9.IsWhole) (arg10 : Memref sig .tc .vmem S1x128x128 .f32) (harg10 : arg10.IsWhole) (arg11 : Memref sig .tc .vmem S1x128x128 .f32) (harg11 : arg11.IsWhole) (arg12 : Memref sig .tc .vmem S128x1024 .bf16) (harg12 : arg12.IsWhole) (arg13 : Memref sig .tc .vmem S128x1024 .bf16) (harg13 : arg13.IsWhole) (arg14 : Memref sig .tc .vmem S128x1024 .bf16) (harg14 : arg14.IsWhole) (arg15 : Memref sig .tc .vmem S128x1024 .f32) (harg15 : arg15.IsWhole) (hc0 : ¬cond0_0 i)
    (x0 : Vec F S1x128x1024 .bf16) (x1 : Vec F S1x128x1024 .bf16) (x2 : Vec F S1x128x1024 .bf16) (x3 : Vec F S1x128x1024 .bf16) (x4 : Vec F S1x128x1024 .bf16) (x5 : Vec F S1x128x1024 .bf16) (x6 : Vec F S1x128x128 .f32) (x7 : Vec F S1x128x128 .f32) (x8 : Vec F S1x128x128 .f32) (x9 : Vec F S1x128x128 .f32) (xs0 : Vec F S128x1024 .f32) :
    out0_B_11 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xs0 = byHead (fun h => dkHead (slopeW h) i (col x2 h) (col x3 h) (col x0 h) (col x1 h) (col x4 h) (col x5 h) (lane x6 h) (lane x7 h) (lane x8 h) (lane x9 h)) := by
  unfold out0_B_11
  rw [View.read_writes_junk_eq_canon]
  funext y
  refine View.canon_apply_of_pieces _ _ ?_ y (cover0_B_11 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xs0 y)
  unfold kernelRun0_B
  dsimp only
  intro p hp
  simp only [List.mem_cons, List.not_mem_nil, or_false] at hp
  rcases hp with rfl | rfl | rfl | rfl | rfl | rfl | rfl | rfl
  · intro x
    rw [byHead_emb _ 7 896 rfl, readCol harg4 x2 7, readCol harg5 x3 7, readCol harg2 x0 7, readCol harg3 x1 7, readCol harg6 x4 7, readCol harg7 x5 7, readLane harg8 x6 7, readLane harg9 x7 7, readLane harg10 x8 7, readLane harg11 x9 7]
    rfl
  · intro x
    rw [byHead_emb _ 6 768 rfl, readCol harg4 x2 6, readCol harg5 x3 6, readCol harg2 x0 6, readCol harg3 x1 6, readCol harg6 x4 6, readCol harg7 x5 6, readLane harg8 x6 6, readLane harg9 x7 6, readLane harg10 x8 6, readLane harg11 x9 6]
    rfl
  · intro x
    rw [byHead_emb _ 5 640 rfl, readCol harg4 x2 5, readCol harg5 x3 5, readCol harg2 x0 5, readCol harg3 x1 5, readCol harg6 x4 5, readCol harg7 x5 5, readLane harg8 x6 5, readLane harg9 x7 5, readLane harg10 x8 5, readLane harg11 x9 5]
    rfl
  · intro x
    rw [byHead_emb _ 4 512 rfl, readCol harg4 x2 4, readCol harg5 x3 4, readCol harg2 x0 4, readCol harg3 x1 4, readCol harg6 x4 4, readCol harg7 x5 4, readLane harg8 x6 4, readLane harg9 x7 4, readLane harg10 x8 4, readLane harg11 x9 4]
    rfl
  · intro x
    rw [byHead_emb _ 3 384 rfl, readCol harg4 x2 3, readCol harg5 x3 3, readCol harg2 x0 3, readCol harg3 x1 3, readCol harg6 x4 3, readCol harg7 x5 3, readLane harg8 x6 3, readLane harg9 x7 3, readLane harg10 x8 3, readLane harg11 x9 3]
    rfl
  · intro x
    rw [byHead_emb _ 2 256 rfl, readCol harg4 x2 2, readCol harg5 x3 2, readCol harg2 x0 2, readCol harg3 x1 2, readCol harg6 x4 2, readCol harg7 x5 2, readLane harg8 x6 2, readLane harg9 x7 2, readLane harg10 x8 2, readLane harg11 x9 2]
    rfl
  · intro x
    rw [byHead_emb _ 1 128 rfl, readCol harg4 x2 1, readCol harg5 x3 1, readCol harg2 x0 1, readCol harg3 x1 1, readCol harg6 x4 1, readCol harg7 x5 1, readLane harg8 x6 1, readLane harg9 x7 1, readLane harg10 x8 1, readLane harg11 x9 1]
    rfl
  · intro x
    rw [byHead_emb _ 0 0 rfl, readCol harg4 x2 0, readCol harg5 x3 0, readCol harg2 x0 0, readCol harg3 x1 0, readCol harg6 x4 0, readCol harg7 x5 0, readLane harg8 x6 0, readLane harg9 x7 0, readLane harg10 x8 0, readLane harg11 x9 0]
    rfl

set_option maxHeartbeats 4000000 in
/-- The block of the gradient of q after any other step. -/
theorem out0_B_10_eq (c : Dev nD) (i : grid0.Coords) (arg2 : Memref sig .tc .vmem S1x128x1024 .bf16) (harg2 : arg2.IsWhole) (arg3 : Memref sig .tc .vmem S1x128x1024 .bf16) (harg3 : arg3.IsWhole) (arg4 : Memref sig .tc .vmem S1x128x1024 .bf16) (harg4 : arg4.IsWhole) (arg5 : Memref sig .tc .vmem S1x128x1024 .bf16) (harg5 : arg5.IsWhole) (arg6 : Memref sig .tc .vmem S1x128x1024 .bf16) (harg6 : arg6.IsWhole) (arg7 : Memref sig .tc .vmem S1x128x1024 .bf16) (harg7 : arg7.IsWhole) (arg8 : Memref sig .tc .vmem S1x128x128 .f32) (harg8 : arg8.IsWhole) (arg9 : Memref sig .tc .vmem S1x128x128 .f32) (harg9 : arg9.IsWhole) (arg10 : Memref sig .tc .vmem S1x128x128 .f32) (harg10 : arg10.IsWhole) (arg11 : Memref sig .tc .vmem S1x128x128 .f32) (harg11 : arg11.IsWhole) (arg12 : Memref sig .tc .vmem S128x1024 .bf16) (harg12 : arg12.IsWhole) (arg13 : Memref sig .tc .vmem S128x1024 .bf16) (harg13 : arg13.IsWhole) (arg14 : Memref sig .tc .vmem S128x1024 .bf16) (harg14 : arg14.IsWhole) (arg15 : Memref sig .tc .vmem S128x1024 .f32) (harg15 : arg15.IsWhole) (hc0 : ¬cond0_0 i)
    (x0 : Vec F S1x128x1024 .bf16) (x1 : Vec F S1x128x1024 .bf16) (x2 : Vec F S1x128x1024 .bf16) (x3 : Vec F S1x128x1024 .bf16) (x4 : Vec F S1x128x1024 .bf16) (x5 : Vec F S1x128x1024 .bf16) (x6 : Vec F S1x128x128 .f32) (x7 : Vec F S1x128x128 .f32) (x8 : Vec F S1x128x128 .f32) (x9 : Vec F S1x128x128 .f32) (xs0 : Vec F S128x1024 .f32) :
    out0_B_10 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xs0 = byHead (fun h => dqHead (blk xs0 h) (slopeW h) i (col x2 h) (col x3 h) (col x0 h) (col x1 h) (col x4 h) (col x5 h) (lane x6 h) (lane x7 h) (lane x8 h) (lane x9 h)) := by
  unfold out0_B_10
  rw [View.read_writes_junk_eq_canon]
  funext y
  refine View.canon_apply_of_pieces _ _ ?_ y (cover0_B_10 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xs0 y)
  unfold kernelRun0_B
  dsimp only
  intro p hp
  simp only [List.mem_cons, List.not_mem_nil, or_false] at hp
  rcases hp with rfl | rfl | rfl | rfl | rfl | rfl | rfl | rfl
  · intro x
    rw [byHead_emb _ 7 896 rfl, readCol harg4 x2 7, readCol harg5 x3 7, readCol harg2 x0 7, readCol harg3 x1 7, readCol harg6 x4 7, readCol harg7 x5 7, readLane harg8 x6 7, readLane harg9 x7 7, readLane harg10 x8 7, readLane harg11 x9 7, readBlk harg15 xs0 7]
    rfl
  · intro x
    rw [byHead_emb _ 6 768 rfl, readCol harg4 x2 6, readCol harg5 x3 6, readCol harg2 x0 6, readCol harg3 x1 6, readCol harg6 x4 6, readCol harg7 x5 6, readLane harg8 x6 6, readLane harg9 x7 6, readLane harg10 x8 6, readLane harg11 x9 6, readBlk harg15 xs0 6]
    rfl
  · intro x
    rw [byHead_emb _ 5 640 rfl, readCol harg4 x2 5, readCol harg5 x3 5, readCol harg2 x0 5, readCol harg3 x1 5, readCol harg6 x4 5, readCol harg7 x5 5, readLane harg8 x6 5, readLane harg9 x7 5, readLane harg10 x8 5, readLane harg11 x9 5, readBlk harg15 xs0 5]
    rfl
  · intro x
    rw [byHead_emb _ 4 512 rfl, readCol harg4 x2 4, readCol harg5 x3 4, readCol harg2 x0 4, readCol harg3 x1 4, readCol harg6 x4 4, readCol harg7 x5 4, readLane harg8 x6 4, readLane harg9 x7 4, readLane harg10 x8 4, readLane harg11 x9 4, readBlk harg15 xs0 4]
    rfl
  · intro x
    rw [byHead_emb _ 3 384 rfl, readCol harg4 x2 3, readCol harg5 x3 3, readCol harg2 x0 3, readCol harg3 x1 3, readCol harg6 x4 3, readCol harg7 x5 3, readLane harg8 x6 3, readLane harg9 x7 3, readLane harg10 x8 3, readLane harg11 x9 3, readBlk harg15 xs0 3]
    rfl
  · intro x
    rw [byHead_emb _ 2 256 rfl, readCol harg4 x2 2, readCol harg5 x3 2, readCol harg2 x0 2, readCol harg3 x1 2, readCol harg6 x4 2, readCol harg7 x5 2, readLane harg8 x6 2, readLane harg9 x7 2, readLane harg10 x8 2, readLane harg11 x9 2, readBlk harg15 xs0 2]
    rfl
  · intro x
    rw [byHead_emb _ 1 128 rfl, readCol harg4 x2 1, readCol harg5 x3 1, readCol harg2 x0 1, readCol harg3 x1 1, readCol harg6 x4 1, readCol harg7 x5 1, readLane harg8 x6 1, readLane harg9 x7 1, readLane harg10 x8 1, readLane harg11 x9 1, readBlk harg15 xs0 1]
    rfl
  · intro x
    rw [byHead_emb _ 0 0 rfl, readCol harg4 x2 0, readCol harg5 x3 0, readCol harg2 x0 0, readCol harg3 x1 0, readCol harg6 x4 0, readCol harg7 x5 0, readLane harg8 x6 0, readLane harg9 x7 0, readLane harg10 x8 0, readLane harg11 x9 0, readBlk harg15 xs0 0]
    rfl

set_option maxHeartbeats 4000000 in
/-- The carried block after any other step. -/
theorem sout0_B_0_eq (c : Dev nD) (i : grid0.Coords) (arg2 : Memref sig .tc .vmem S1x128x1024 .bf16) (harg2 : arg2.IsWhole) (arg3 : Memref sig .tc .vmem S1x128x1024 .bf16) (harg3 : arg3.IsWhole) (arg4 : Memref sig .tc .vmem S1x128x1024 .bf16) (harg4 : arg4.IsWhole) (arg5 : Memref sig .tc .vmem S1x128x1024 .bf16) (harg5 : arg5.IsWhole) (arg6 : Memref sig .tc .vmem S1x128x1024 .bf16) (harg6 : arg6.IsWhole) (arg7 : Memref sig .tc .vmem S1x128x1024 .bf16) (harg7 : arg7.IsWhole) (arg8 : Memref sig .tc .vmem S1x128x128 .f32) (harg8 : arg8.IsWhole) (arg9 : Memref sig .tc .vmem S1x128x128 .f32) (harg9 : arg9.IsWhole) (arg10 : Memref sig .tc .vmem S1x128x128 .f32) (harg10 : arg10.IsWhole) (arg11 : Memref sig .tc .vmem S1x128x128 .f32) (harg11 : arg11.IsWhole) (arg12 : Memref sig .tc .vmem S128x1024 .bf16) (harg12 : arg12.IsWhole) (arg13 : Memref sig .tc .vmem S128x1024 .bf16) (harg13 : arg13.IsWhole) (arg14 : Memref sig .tc .vmem S128x1024 .bf16) (harg14 : arg14.IsWhole) (arg15 : Memref sig .tc .vmem S128x1024 .f32) (harg15 : arg15.IsWhole) (hc0 : ¬cond0_0 i)
    (x0 : Vec F S1x128x1024 .bf16) (x1 : Vec F S1x128x1024 .bf16) (x2 : Vec F S1x128x1024 .bf16) (x3 : Vec F S1x128x1024 .bf16) (x4 : Vec F S1x128x1024 .bf16) (x5 : Vec F S1x128x1024 .bf16) (x6 : Vec F S1x128x128 .f32) (x7 : Vec F S1x128x128 .f32) (x8 : Vec F S1x128x128 .f32) (x9 : Vec F S1x128x128 .f32) (xs0 : Vec F S128x1024 .f32) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xs0 = byHead (fun h => carryHead (slopeW h) i (col x2 h) (col x3 h) (col x0 h) (col x1 h) (col x4 h) (col x5 h) (lane x6 h) (lane x7 h) (lane x8 h) (lane x9 h)) := by
  unfold sout0_B_0
  rw [View.read_writes_junk_eq_canon]
  funext y
  refine View.canon_apply_of_pieces _ _ ?_ y (scover0_B_0 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xs0 y)
  unfold kernelRun0_B
  dsimp only
  intro p hp
  simp only [List.mem_cons, List.not_mem_nil, or_false] at hp
  rcases hp with rfl | rfl | rfl | rfl | rfl | rfl | rfl | rfl
  · intro x
    rw [byHead_emb _ 7 896 rfl, readCol harg4 x2 7, readCol harg5 x3 7, readCol harg2 x0 7, readCol harg3 x1 7, readCol harg6 x4 7, readCol harg7 x5 7, readLane harg8 x6 7, readLane harg9 x7 7, readLane harg10 x8 7, readLane harg11 x9 7]
    rfl
  · intro x
    rw [byHead_emb _ 6 768 rfl, readCol harg4 x2 6, readCol harg5 x3 6, readCol harg2 x0 6, readCol harg3 x1 6, readCol harg6 x4 6, readCol harg7 x5 6, readLane harg8 x6 6, readLane harg9 x7 6, readLane harg10 x8 6, readLane harg11 x9 6]
    rfl
  · intro x
    rw [byHead_emb _ 5 640 rfl, readCol harg4 x2 5, readCol harg5 x3 5, readCol harg2 x0 5, readCol harg3 x1 5, readCol harg6 x4 5, readCol harg7 x5 5, readLane harg8 x6 5, readLane harg9 x7 5, readLane harg10 x8 5, readLane harg11 x9 5]
    rfl
  · intro x
    rw [byHead_emb _ 4 512 rfl, readCol harg4 x2 4, readCol harg5 x3 4, readCol harg2 x0 4, readCol harg3 x1 4, readCol harg6 x4 4, readCol harg7 x5 4, readLane harg8 x6 4, readLane harg9 x7 4, readLane harg10 x8 4, readLane harg11 x9 4]
    rfl
  · intro x
    rw [byHead_emb _ 3 384 rfl, readCol harg4 x2 3, readCol harg5 x3 3, readCol harg2 x0 3, readCol harg3 x1 3, readCol harg6 x4 3, readCol harg7 x5 3, readLane harg8 x6 3, readLane harg9 x7 3, readLane harg10 x8 3, readLane harg11 x9 3]
    rfl
  · intro x
    rw [byHead_emb _ 2 256 rfl, readCol harg4 x2 2, readCol harg5 x3 2, readCol harg2 x0 2, readCol harg3 x1 2, readCol harg6 x4 2, readCol harg7 x5 2, readLane harg8 x6 2, readLane harg9 x7 2, readLane harg10 x8 2, readLane harg11 x9 2]
    rfl
  · intro x
    rw [byHead_emb _ 1 128 rfl, readCol harg4 x2 1, readCol harg5 x3 1, readCol harg2 x0 1, readCol harg3 x1 1, readCol harg6 x4 1, readCol harg7 x5 1, readLane harg8 x6 1, readLane harg9 x7 1, readLane harg10 x8 1, readLane harg11 x9 1]
    rfl
  · intro x
    rw [byHead_emb _ 0 0 rfl, readCol harg4 x2 0, readCol harg5 x3 0, readCol harg2 x0 0, readCol harg3 x1 0, readCol harg6 x4 0, readCol harg7 x5 0, readLane harg8 x6 0, readLane harg9 x7 0, readLane harg10 x8 0, readLane harg11 x9 0]
    rfl

end Cert.KernelIdeal.Body

end
-- ==== Proof.Step.lean ====
/-
One head in one grid step, at finite inputs: the probabilities, the scores' gradient and the four products are, entry by
entry, the real numbers the head's model names.
-/
module

public import proofs.«01_k».proof.Proof.Body
public import proofs.«01_k».proof.Proof.Math
public import proofs.«01_k».proof.Proof.Num
public import Idealize.ShloMosaic.Lib.Pointwise.Contract

@[expose] public section

set_option maxRecDepth 16384

noncomputable section

namespace Cert.KernelIdeal.Step

open Cert.KernelIdeal Cert.KernelIdeal.Gen Cert.KernelIdeal.Body Cert.Attn Idealize.ShloMosaic

/-! ### The three products -/

theorem mmT (x : S256x128.Idx → Ideal .bf16) (y : S128x128.Idx → Ideal .bf16) (a : Fin 256) (c : Fin 128) :
    matmul (F := Ideal) dot_S256x128_S128x128_S256x128_1_1_0_0_n_n none x y (constant S256x128 .f32 0x00000000#32) (ix2 a c)
      = ∑ e : Fin 128, x (ix2 a e) * y (ix2 c e) :=
  (Ideal.matmul_apply₁_of dot_S256x128_S128x128_S256x128_1_1_0_0_n_n (a := (1 : Fin 2)) rfl (K := 128) rfl x y _ (ix2 a c)
    (fun e => ix2 a e) (fun e => ix2 c e)
    (fun e => funext fun d => match d with | ⟨0, _⟩ => rfl | ⟨1, _⟩ => rfl)
    (fun e => funext fun d => match d with | ⟨0, _⟩ => rfl | ⟨1, _⟩ => rfl)).trans
    ((congrArg (· + _) Ideal.ofBits_zero_f32).trans (zero_add _))

theorem mmK (x y : S256x128.Idx → Ideal .bf16) (b c : Fin 128) :
    matmul (F := Ideal) dot_S256x128_S256x128_S128x128_0_0_1_1_n_n none x y (constant S128x128 .f32 0x00000000#32) (ix2 b c)
      = ∑ a : Fin 256, x (ix2 a b) * y (ix2 a c) :=
  (Ideal.matmul_apply₁_of dot_S256x128_S256x128_S128x128_0_0_1_1_n_n (a := (0 : Fin 2)) rfl (K := 256) rfl x y _ (ix2 b c)
    (fun a => ix2 a b) (fun a => ix2 a c)
    (fun e => funext fun d => match d with | ⟨0, _⟩ => rfl | ⟨1, _⟩ => rfl)
    (fun e => funext fun d => match d with | ⟨0, _⟩ => rfl | ⟨1, _⟩ => rfl)).trans
    ((congrArg (· + _) Ideal.ofBits_zero_f32).trans (zero_add _))

theorem mmQ (x : S256x128.Idx → Ideal .bf16) (y : S128x128.Idx → Ideal .bf16) (a : Fin 256) (c : Fin 128) :
    matmul (F := Ideal) dot_S256x128_S128x128_S256x128_1_0_0_1_n_n none x y (constant S256x128 .f32 0x00000000#32) (ix2 a c)
      = ∑ b : Fin 128, x (ix2 a b) * y (ix2 b c) :=
  (Ideal.matmul_apply₁_of dot_S256x128_S128x128_S256x128_1_0_0_1_n_n (a := (1 : Fin 2)) rfl (K := 128) rfl x y _ (ix2 a c)
    (fun b => ix2 a b) (fun b => ix2 b c)
    (fun e => funext fun d => match d with | ⟨0, _⟩ => rfl | ⟨1, _⟩ => rfl)
    (fun e => funext fun d => match d with | ⟨0, _⟩ => rfl | ⟨1, _⟩ => rfl)).trans
    ((congrArg (· + _) Ideal.ofBits_zero_f32).trans (zero_add _))

/-! ### The blocks -/

/-- A block that holds 128 rows of `f`, the rows `p` lists. -/
def Rows (x : Vec Ideal S1x128x128 .bf16) (p : Fin 128 → Fin 1024) (f : Fin 1024 → Fin 128 → ℝ) : Prop :=
  ∀ (a e : Fin 128), x (ix3 (0 : Fin 1) a e) = ((f (p a) e : ℝ) : EReal)

/-- A block that holds one number for each of 128 rows, the rows `p` lists. -/
def Lane (x : Vec Ideal S1x128x1 .f32) (p : Fin 128 → Fin 1024) (f : Fin 1024 → ℝ) : Prop :=
  ∀ a : Fin 128, x (ix3 (0 : Fin 1) a (0 : Fin 1)) = ((f (p a) : ℝ) : EReal)

theorem flat_apply {x : Vec Ideal S1x128x128 .bf16} {p : Fin 128 → Fin 1024} {f : Fin 1024 → Fin 128 → ℝ}
    (h : Rows x p f) (a e : Fin 128) : flat x (ix2 a e) = ((f (p a) e : ℝ) : EReal) := by
  unfold flat
  refine (shapeCast_apply x _ (ix2 a e) (ix3 (0 : Fin 1) a e) ?_).trans (h a e)
  rw [Shape.rowMajor_val_three, Shape.rowMajor_val_two]
  show (0 * 128 + a.val) * 128 + e.val = a.val * 128 + e.val
  omega

theorem cat_apply {x0 x1 : Vec Ideal S1x128x128 .bf16} {n : Fin 8} {f : Fin 1024 → Fin 128 → ℝ}
    (h0 : Rows x0 (fun a => pos n (lo a)) f) (h1 : Rows x1 (fun a => pos n (hi a)) f) (a : Fin 256) (e : Fin 128) :
    cat x0 x1 (ix2 a e) = ((f (pos n a) e : ℝ) : EReal) := by
  unfold cat
  by_cases hlt : a.val < 128
  · refine (concatenate_pair_apply_left (s₁ := S128x128) (s₂ := S128x128) 0 _ _ _ (ix2 a e) rfl
      (ix2 (⟨a.val, hlt⟩ : Fin 128) e : S128x128.Idx) (fun b => match b with
      | ⟨0, _⟩ => rfl | ⟨1, _⟩ => rfl)).trans ?_
    exact flat_apply h0 _ _
  · refine (concatenate_pair_apply_right (s₁ := S128x128) (s₂ := S128x128) 0 _ _ _ (ix2 a e) rfl rfl
      (ix2 (⟨a.val - 128, by omega⟩ : Fin 128) e : S128x128.Idx) (fun b hb => match b, hb with
      | ⟨0, _⟩, hb => absurd rfl hb | ⟨1, _⟩, _ => rfl)
      (show a.val - 128 + 128 = a.val by omega)).trans ?_
    refine (flat_apply h1 _ _).trans (congrArg (fun a => ((f (pos n a) e : ℝ) : EReal)) (Fin.ext ?_))
    show 128 + (a.val - 128) = a.val
    omega

theorem flatCol_apply {x : Vec Ideal S1x128x1 .f32} {p : Fin 128 → Fin 1024} {f : Fin 1024 → ℝ}
    (h : Lane x p f) (a : Fin 128) :
    shapeCast S128x1 x shapeCasts_S1x128x1_S128x1 (ix2 a (0 : Fin 1)) = ((f (p a) : ℝ) : EReal) := by
  refine (shapeCast_apply x _ (ix2 a (0 : Fin 1)) (ix3 (0 : Fin 1) a (0 : Fin 1)) ?_).trans (h a)
  rw [Shape.rowMajor_val_three, Shape.rowMajor_val_two]
  show (0 * 128 + a.val) * 1 + 0 = a.val * 1 + 0
  omega

theorem catCol_apply {x0 x1 : Vec Ideal S1x128x1 .f32} {n : Fin 8} {f : Fin 1024 → ℝ}
    (h0 : Lane x0 (fun a => pos n (lo a)) f) (h1 : Lane x1 (fun a => pos n (hi a)) f) (a : Fin 256) :
    catCol x0 x1 (ix2 a (0 : Fin 1)) = ((f (pos n a) : ℝ) : EReal) := by
  unfold catCol
  by_cases hlt : a.val < 128
  · refine (concatenate_pair_apply_left (s₁ := S128x1) (s₂ := S128x1) 0 _ _ _ (ix2 a (0 : Fin 1)) rfl
      (ix2 (⟨a.val, hlt⟩ : Fin 128) (0 : Fin 1) : S128x1.Idx) (fun b => match b with
      | ⟨0, _⟩ => rfl | ⟨1, _⟩ => rfl)).trans ?_
    exact flatCol_apply h0 _
  · refine (concatenate_pair_apply_right (s₁ := S128x1) (s₂ := S128x1) 0 _ _ _ (ix2 a (0 : Fin 1)) rfl rfl
      (ix2 (⟨a.val - 128, by omega⟩ : Fin 128) (0 : Fin 1) : S128x1.Idx) (fun b hb => match b, hb with
      | ⟨0, _⟩, hb => absurd rfl hb | ⟨1, _⟩, _ => rfl)
      (show a.val - 128 + 128 = a.val by omega)).trans ?_
    refine (flatCol_apply h1 _).trans (congrArg (fun a => ((f (pos n a) : ℝ) : EReal)) (Fin.ext ?_))
    show 128 + (a.val - 128) = a.val
    omega

theorem spread_apply {x0 x1 : Vec Ideal S1x128x1 .f32} {n : Fin 8} {f : Fin 1024 → ℝ}
    (h0 : Lane x0 (fun a => pos n (lo a)) f) (h1 : Lane x1 (fun a => pos n (hi a)) f) (a : Fin 256) (b : Fin 128) :
    broadcastTo S256x128 (catCol x0 x1) broadcasts_S256x1_S256x128 (ix2 a b) = ((f (pos n a) : ℝ) : EReal) :=
  (broadcastTo_apply (catCol x0 x1) _ (ix2 a b) (ix2 a (0 : Fin 1)) (fun d => match d with
    | ⟨0, _⟩ => rfl | ⟨1, _⟩ => rfl)).trans (catCol_apply h0 h1 _)

/-! ### Distance and mask -/

theorem subi_toInt (a b : ℕ) (ha : a < 128) (hb : b < 128) :
    (BitVec.ofNat 32 a - BitVec.ofNat 32 b).toInt = (a : ℤ) - b := by
  rw [BitVec.toInt_sub, toInt_small _ (by omega), toInt_small _ (by omega)]; simp only [Int.bmod]; omega

theorem dist_apply (a : Fin 256) (b : Fin 128) : k0_pay5 (F := Ideal) (ix2 a b) = ((Attn.dist a b : ℝ) : EReal) := by
  unfold k0_pay5 Attn.dist
  by_cases hlt : a.val < 128
  · refine (concatenate_pair_apply_left (s₁ := S128x128) (s₂ := S128x128) 0 _ _ _ (ix2 a b) rfl
      (ix2 (⟨a.val, hlt⟩ : Fin 128) b : S128x128.Idx) (fun b => match b with
      | ⟨0, _⟩ => rfl | ⟨1, _⟩ => rfl)).trans ?_
    rw [if_pos hlt]
    show (((BitVec.ofNat 32 (0 * 128 + a.val) - BitVec.ofNat 32 (0 * 128 + b.val)).toInt : ℝ) : EReal) = _
    rw [subi_toInt _ _ (by omega) (by omega), Nat.zero_mul, Nat.zero_add, Nat.zero_add]
  · refine (concatenate_pair_apply_right (s₁ := S128x128) (s₂ := S128x128) 0 _ _ _ (ix2 a b) rfl rfl
      (ix2 (⟨a.val - 128, by omega⟩ : Fin 128) b : S128x128.Idx) (fun b hb => match b, hb with
      | ⟨0, _⟩, hb => absurd rfl hb | ⟨1, _⟩, _ => rfl)
      (show a.val - 128 + 128 = a.val by omega)).trans ?_
    rw [if_neg hlt]
    show (((BitVec.ofNat 32 (0 * 128 + (a.val - 128)) - BitVec.ofNat 32 (0 * 128 + b.val)).toInt : ℝ) : EReal)
      + Ideal.ofBits .f32 0x43000000#32 = _
    rw [subi_toInt _ _ (by omega) (by omega), w128, EReal.coe_add,
      show ((0 * 128 + (a.val - 128) : ℕ) : ℤ) - (0 * 128 + b.val : ℕ) = (a.val : ℤ) - 128 - b.val by omega]

/-- The pair is inside the window and the query exists. -/
def okKb (n : Fin 8) (a : Fin 256) (b : Fin 128) : Bool := decide (okK n a b)

theorem mask_apply (i : grid0.Coords) (n : Fin 8) (hn : (i 1).val = n.val) (a : Fin 256) (b : Fin 128) :
    k0_pay6 i (ix2 a b) = BitVec.ofBool (okKb n a b) := by
  have hn8 := n.isLt
  unfold k0_pay6 okKb
  by_cases hlt : a.val < 128
  · refine (concatenate_pair_apply_left (s₁ := S128x128) (s₂ := S128x128) 0 _ _ _ (ix2 a b) rfl
      (ix2 (⟨a.val, hlt⟩ : Fin 128) b : S128x128.Idx) (fun b => match b with
      | ⟨0, _⟩ => rfl | ⟨1, _⟩ => rfl)).trans ?_
    show BitVec.ofBool (BitVec.sle (BitVec.ofNat 32 (0 * 128 + b.val)) (BitVec.ofNat 32 (0 * 128 + a.val))) = _
    unfold BitVec.sle
    rw [toInt_small _ (by omega), toInt_small _ (by omega)]
    refine congrArg BitVec.ofBool (decide_eq_decide.2 ?_)
    unfold okK
    rw [if_pos hlt]
    omega
  · refine (concatenate_pair_apply_right (s₁ := S128x128) (s₂ := S128x128) 0 _ _ _ (ix2 a b) rfl rfl
      (ix2 (⟨a.val - 128, by omega⟩ : Fin 128) b : S128x128.Idx) (fun b hb => match b, hb with
      | ⟨0, _⟩, hb => absurd rfl hb | ⟨1, _⟩, _ => rfl)
      (show a.val - 128 + 128 = a.val by omega)).trans ?_
    show BitVec.ofBool (BitVec.sle (BitVec.ofNat 32 (0 * 128 + (a.val - 128))) (BitVec.ofNat 32 (0 * 128 + b.val)))
      &&& BitVec.ofBool (BitVec.slt (BitVec.ofNat 32 (i 1).val) 7#32) = _
    unfold BitVec.sle BitVec.slt
    rw [toInt_small _ (by omega), toInt_small _ (by omega), toInt_small _ (by omega), show (7#32 : BitVec 32).toInt = 7 from rfl,
      BitVec.ofBool_and_ofBool, ← Bool.decide_and]
    refine congrArg BitVec.ofBool (decide_eq_decide.2 ?_)
    unfold okK
    rw [if_neg hlt]
    omega

/-! ### One head -/

section
variable (D : Head) (n : Fin 8) (w : BitVec 32) (i : grid0.Coords) (k v q0 q1 g0 g1 : Vec Ideal S1x128x128 .bf16)
  (l0 l1 r0 r1 : Vec Ideal S1x128x1 .f32)

/-- The step's input blocks hold the head's rows of block `n` and of the block ahead; the word is its slope. -/
structure Holds : Prop where
  hn : (i 1).val = n.val
  hw : Ideal.ofBits .f32 w = ((D.sl * 4 : ℝ) : EReal)
  hc : D.c = scale
  hk : Rows k (row n) D.k
  hv : Rows v (row n) D.v
  hq0 : Rows q0 (fun a => pos n (lo a)) D.q
  hq1 : Rows q1 (fun a => pos n (hi a)) D.q
  hg0 : Rows g0 (fun a => pos n (lo a)) D.g
  hg1 : Rows g1 (fun a => pos n (hi a)) D.g
  hl0 : Lane l0 (fun a => pos n (lo a)) D.lseR
  hl1 : Lane l1 (fun a => pos n (hi a)) D.lseR
  hr0 : Lane r0 (fun a => pos n (lo a)) D.dprR
  hr1 : Lane r1 (fun a => pos n (hi a)) D.dprR

variable {D n w i k v q0 q1 g0 g1 l0 l1 r0 r1}
variable (H : Holds D n w i k v q0 q1 g0 g1 l0 l1 r0 r1)
include H

theorem probs_apply (a : Fin 256) (b : Fin 128) : probs w i k q0 q1 l0 l1 (ix2 a b) = ((D.w n a b : ℝ) : EReal) := by
  have h1 : matmul (F := Ideal) dot_S256x128_S128x128_S256x128_1_1_0_0_n_n none (cat q0 q1) (flat k)
      (constant S256x128 .f32 0x00000000#32) (ix2 a b) = ((∑ e, D.q (pos n a) e * D.k (row n b) e : ℝ) : EReal) := by
    rw [mmT, coe_sum]
    refine Finset.sum_congr rfl fun e _ => ?_
    rw [cat_apply H.hq0 H.hq1, flat_apply H.hk, EReal.coe_mul]
  show Ideal.exp (Scalar.select (k0_pay6 i (ix2 a b))
    (matmul (F := Ideal) dot_S256x128_S128x128_S256x128_1_1_0_0_n_n none (cat q0 q1) (flat k)
      (constant S256x128 .f32 0x00000000#32) (ix2 a b) * Ideal.ofBits .f32 0x3DB504F3#32
      - Ideal.ofBits .f32 w * k0_pay5 (F := Ideal) (ix2 a b)
      - broadcastTo S256x128 (catCol l0 l1) broadcasts_S256x1_S256x128 (ix2 a b)) (Ideal.ofBits .f32 0xFF800000#32)) = _
  rw [h1, mask_apply i n H.hn, dist_apply, spread_apply H.hl0 H.hl1, inf_word, scale_word, ← H.hc, H.hw]
  unfold Head.w Head.sK
  by_cases hok : okK n a b
  · rw [show okKb n a b = true from decide_eq_true hok, if_pos hok, ← EReal.coe_mul, ← EReal.coe_mul, ← EReal.coe_sub, ← EReal.coe_sub]
    exact Ideal.exp_coe _
  · rw [show okKb n a b = false from decide_eq_false hok, if_neg hok]
    exact Ideal.exp_bot

theorem dscores_apply (a : Fin 256) (b : Fin 128) :
    dscores w i k v q0 q1 g0 g1 l0 l1 r0 r1 (ix2 a b) = ((D.dsK n a b : ℝ) : EReal) := by
  have h1 : matmul (F := Ideal) dot_S256x128_S128x128_S256x128_1_1_0_0_n_n none (cat g0 g1) (flat v)
      (constant S256x128 .f32 0x00000000#32) (ix2 a b) = ((∑ e, D.g (pos n a) e * D.v (row n b) e : ℝ) : EReal) := by
    rw [mmT, coe_sum]
    refine Finset.sum_congr rfl fun e _ => ?_
    rw [cat_apply H.hg0 H.hg1, flat_apply H.hv, EReal.coe_mul]
  show probs w i k q0 q1 l0 l1 (ix2 a b) * (matmul (F := Ideal) dot_S256x128_S128x128_S256x128_1_1_0_0_n_n none (cat g0 g1) (flat v)
      (constant S256x128 .f32 0x00000000#32) (ix2 a b) - broadcastTo S256x128 (catCol r0 r1) broadcasts_S256x1_S256x128 (ix2 a b))
      * Ideal.ofBits .f32 0x3DB504F3#32 = _
  rw [h1, probs_apply H, spread_apply H.hr0 H.hr1, scale_word, ← H.hc, ← EReal.coe_sub, ← EReal.coe_mul, ← EReal.coe_mul]
  rfl

theorem dvHead_apply (a b : Fin 128) :
    dvHead w i k q0 q1 g0 g1 l0 l1 (ix2 a b) = ((D.dv n a b : ℝ) : EReal) := by
  rw [← Head.dv_kernel, coe_sum]
  unfold dvHead
  refine (mmK _ _ a b).trans (Finset.sum_congr rfl fun d _ => ?_)
  rw [EReal.coe_mul]
  exact congrArg₂ (· * ·) (probs_apply H _ _) (cat_apply H.hg0 H.hg1 _ _)

theorem dkHead_apply (a b : Fin 128) :
    dkHead w i k v q0 q1 g0 g1 l0 l1 r0 r1 (ix2 a b) = ((D.dk n a b : ℝ) : EReal) := by
  rw [← Head.dk_kernel, coe_sum]
  unfold dkHead
  refine (mmK _ _ a b).trans (Finset.sum_congr rfl fun d _ => ?_)
  rw [EReal.coe_mul]
  exact congrArg₂ (· * ·) (dscores_apply H _ _) (cat_apply H.hq0 H.hq1 _ _)

theorem dqRows_apply (a : Fin 256) (b : Fin 128) :
    dqRows w i k v q0 q1 g0 g1 l0 l1 r0 r1 (ix2 a b) = ((∑ j, D.dsK n a j * D.k (row n j) b : ℝ) : EReal) := by
  rw [coe_sum]
  unfold dqRows
  refine (mmQ _ _ a b).trans (Finset.sum_congr rfl fun d _ => ?_)
  rw [EReal.coe_mul]
  exact congrArg₂ (· * ·) (dscores_apply H _ _) (flat_apply H.hk _ _)

theorem carryHead_apply (a b : Fin 128) :
    carryHead w i k v q0 q1 g0 g1 l0 l1 r0 r1 (ix2 a b) = ((∑ j, D.dsK n (hi a) j * D.k (row n j) b : ℝ) : EReal) := by
  unfold carryHead
  refine (shapeCast_apply _ _ (ix2 a b) (ix2 a b) rfl).trans ?_
  refine (extractStridedSlice_apply ![128, 0] _ _ (ix2 a b) (ix2 (hi a) b) (fun d => match d with
    | ⟨0, _⟩ => rfl | ⟨1, _⟩ => (Nat.zero_add _).symm)).trans (dqRows_apply H _ _)

theorem dqHead_apply (acc : FVec Ideal S128x128 .f32) (a b : Fin 128)
    (hacc : acc (ix2 a b) = (((if n.val = 0 then 0 else ∑ j, D.dsK (Head.prev n) (hi a) j * D.k (row (Head.prev n) j) b) : ℝ) : EReal)) :
    dqHead acc w i k v q0 q1 g0 g1 l0 l1 r0 r1 (ix2 a b) = ((D.dq n a b : ℝ) : EReal) := by
  rw [← Head.dq_kernel, EReal.coe_add]
  unfold dqHead
  refine congrArg₂ (· + ·) hacc ?_
  refine (extractStridedSlice_apply ![0, 0] _ _ (ix2 a b) (ix2 (lo a) b) (fun d => match d with
    | ⟨0, _⟩ => (Nat.zero_add _).symm | ⟨1, _⟩ => (Nat.zero_add _).symm)).trans (dqRows_apply H _ _)

end

end Cert.KernelIdeal.Step

end
-- ==== Proof.Blocks.lean ====
/-
The blocks each grid step reads, at finite arguments: a head's rows of the step's block, and of the block ahead.
-/
module

public import proofs.«01_k».proof.Proof.Host
public import proofs.«01_k».proof.Proof.Step
public import Idealize.ShloMosaic.Lib.Pointwise.Reduce

@[expose] public section

set_option maxRecDepth 16384

noncomputable section

namespace Cert.KernelIdeal.Blocks

open Cert.KernelIdeal Cert.KernelIdeal.Gen Cert.KernelIdeal.Host Cert.KernelIdeal.Body Cert.KernelIdeal.Step Cert.Attn
  Cert.Attn.Ref Idealize.ShloMosaic Idealize.ShloMosaic.TcCoe Idealize.SL.Sem

/-- Column `e` of head `h`. -/
def colIx (h : Fin 8) (e : Fin 128) : Fin 1024 := ⟨h.val * 128 + e.val, by omega⟩

/-- Head `h`'s lane. -/
def laneIx (h : Fin 8) : Fin 128 := ⟨h.val, by omega⟩

/-- The row of the sequence that is row `a` of residue class `r`. -/
def seqRow (r : Fin 4) (a : Fin 1024) : Fin 4096 := ⟨a.val * 4 + r.val, by omega⟩

/-! ### The arrays -/

theorem rows_apply (x : S4096x8x128.Idx → Ideal .f32) (r : Fin 4) (a : Fin 1024) (h : Fin 8) (e : Fin 128) :
    rows (F := Ideal) x (ix3 r a (colIx h e)) = x (ix3 (seqRow r a) h e) := by
  unfold rows
  refine (transpose_apply [1, 0, 2] _ _ (ix3 r a (colIx h e)) (ix3 a r (colIx h e)) (fun b => match b with
    | ⟨0, _⟩ => rfl | ⟨1, _⟩ => rfl | ⟨2, _⟩ => rfl)).trans ?_
  refine shapeCast_apply x _ (ix3 a r (colIx h e)) (ix3 (seqRow r a) h e) ?_
  rw [Shape.rowMajor_val_three, Shape.rowMajor_val_three]
  show ((a.val * 4 + r.val) * 8 + h.val) * 128 + e.val = (a.val * 4 + r.val) * 1024 + (h.val * 128 + e.val)
  omega

theorem lanes_apply (x : S4096x8.Idx → Ideal .f32) (r : Fin 4) (a : Fin 1024) (h : Fin 8) :
    lanes (F := Ideal) x (ix3 r a (laneIx h)) = x (ix2 (seqRow r a) h) := by
  have e1 : transpose S4x1024x8 [1, 0, 2] (shapeCast S1024x4x8 x shapeCasts_S4096x8_S1024x4x8)
      transposes_S1024x4x8_S4x1024x8_1_0_2 (ix3 r a h) = x (ix2 (seqRow r a) h) := by
    refine (transpose_apply [1, 0, 2] _ _ (ix3 r a h) (ix3 a r h) (fun b => match b with
      | ⟨0, _⟩ => rfl | ⟨1, _⟩ => rfl | ⟨2, _⟩ => rfl)).trans ?_
    refine shapeCast_apply x _ (ix3 a r h) (ix2 (seqRow r a) h) ?_
    rw [Shape.rowMajor_val_three, Shape.rowMajor_val_two]
    show (a.val * 4 + r.val) * 8 + h.val = (a.val * 4 + r.val) * 8 + h.val
    rfl
  refine Eq.trans ?_ e1
  unfold lanes
  generalize transpose S4x1024x8 [1, 0, 2] (shapeCast S1024x4x8 x shapeCasts_S4096x8_S1024x4x8)
      transposes_S1024x4x8_S4x1024x8_1_0_2 = y
  unfold pad
  rw [dif_pos (fun b => match b with
    | ⟨0, _⟩ => ⟨Nat.zero_le _, Nat.mod_one _, by show (r.val - 0) / 1 < 4; omega⟩
    | ⟨1, _⟩ => ⟨Nat.zero_le _, Nat.mod_one _, by show (a.val - 0) / 1 < 1024; omega⟩
    | ⟨2, _⟩ => ⟨Nat.zero_le _, Nat.mod_one _, by show (h.val - 0) / 1 < 8; omega⟩)]
  refine congrArg y (funext fun b => Fin.ext ?_)
  match b with
  | ⟨0, _⟩ => exact Nat.div_one _
  | ⟨1, _⟩ => exact Nat.div_one _
  | ⟨2, _⟩ => exact Nat.div_one _

theorem less_apply (g o : S4096x8x128.Idx → Ideal .f32) (l : S4096x8.Idx → Ideal .f32) (s : Fin 4096) (h : Fin 8) :
    less (F := Ideal) g o l (ix2 s h) = (∑ e : Fin 128, g (ix3 s h e) * o (ix3 s h e)) - l (ix2 s h) := by
  show Ideal.hostReduceAdd reducesTo_S4096x8x128_S4096x8_d2 (fun i => g i * o i) (Ideal.ofBits .f32 0x00000000#32) (ix2 s h)
    - l (ix2 s h) = _
  rw [Ideal.hostReduceAdd_r3_a2, Ideal.ofBits_zero_f32, zero_add]
  rfl

/-! ### The windows' blocks -/

section
variable {F : FTy → Type} [FloatOps F] (m : (ℓ : Loc nD τ sig) → Buf (Elt F) ℓ) (c : Dev nD)

/-- The residue class a grid step works on. -/
def cls (t : Fin cfg0.N) : Fin 4 := ⟨t.val / 8, by have : t.val < 32 := lt_of_lt_of_eq t.isLt N_0; omega⟩

/-- The block of rows a grid step works on. -/
def num (t : Fin cfg0.N) : Fin 8 := ⟨t.val % 8, by omega⟩

theorem coords1 : ∀ t : Fin cfg0.N, (grid0.coords t 1).val = t.val % 8 :=
  (by decide +kernel : ∀ t : Fin grid0.N, _)

theorem pos_lo_val (n : Fin 8) (a : Fin 128) : (pos n (lo a)).val = n.val * 128 + a.val := by
  rw [Head.pos_lo]; rfl

theorem pos_hi_val (n : Fin 8) (a : Fin 128) : (pos n (hi a)).val = min (n.val + 1) 7 * 128 + a.val := by
  unfold pos
  rw [dif_neg (by show ¬ 128 + a.val < 128; omega)]
  show min (n.val + 1) 7 * 128 + (128 + a.val - 128) = _
  omega

theorem index0 : ∀ t : Fin cfg0.N, win0_0.index t (0 : Fin 3) = t.val / 8 ∧ win0_0.index t (1 : Fin 3) = t.val % 8
    ∧ win0_0.index t (2 : Fin 3) = 0 := (by decide +kernel : ∀ t : Fin grid0.N, _)

theorem read0 (t : Fin cfg0.N) (a : Fin 128) (y : Fin 1024) :
    (iblk m c 0 t : Vec F S1x128x1024 .bf16) (ix3 (0 : Fin 1) a y) = V m c main_v2 (ix3 (cls t) (pos (num t) (lo a)) y) := by
  obtain ⟨e0, e1, e2⟩ := index0 t
  refine congrArg (V m c main_v2) (funext fun b => Fin.ext ?_)
  match b with
  | ⟨0, _⟩ => show win0_0.index t (0 : Fin 3) * 1 + 1 * 0 = t.val / 8; omega
  | ⟨1, _⟩ =>
    refine Eq.trans (b := t.val % 8 * 128 + a.val) ?_ ((pos_lo_val (num t) a)).symm
    show win0_0.index t (1 : Fin 3) * 128 + 1 * a.val = t.val % 8 * 128 + a.val; rw [e1]; omega
  | ⟨2, _⟩ => show win0_0.index t (2 : Fin 3) * 1024 + 1 * y.val = y.val; omega

theorem index1 : ∀ t : Fin cfg0.N, win0_1.index t (0 : Fin 3) = t.val / 8 ∧ win0_1.index t (1 : Fin 3) = min (t.val % 8 + 1) 7
    ∧ win0_1.index t (2 : Fin 3) = 0 := (by decide +kernel : ∀ t : Fin grid0.N, _)

theorem read1 (t : Fin cfg0.N) (a : Fin 128) (y : Fin 1024) :
    (iblk m c 1 t : Vec F S1x128x1024 .bf16) (ix3 (0 : Fin 1) a y) = V m c main_v2 (ix3 (cls t) (pos (num t) (hi a)) y) := by
  obtain ⟨e0, e1, e2⟩ := index1 t
  refine congrArg (V m c main_v2) (funext fun b => Fin.ext ?_)
  match b with
  | ⟨0, _⟩ => show win0_1.index t (0 : Fin 3) * 1 + 1 * 0 = t.val / 8; omega
  | ⟨1, _⟩ =>
    refine Eq.trans (b := min (t.val % 8 + 1) 7 * 128 + a.val) ?_ ((pos_hi_val (num t) a)).symm
    show win0_1.index t (1 : Fin 3) * 128 + 1 * a.val = min (t.val % 8 + 1) 7 * 128 + a.val; rw [e1]; omega
  | ⟨2, _⟩ => show win0_1.index t (2 : Fin 3) * 1024 + 1 * y.val = y.val; omega

theorem index2 : ∀ t : Fin cfg0.N, win0_2.index t (0 : Fin 3) = t.val / 8 ∧ win0_2.index t (1 : Fin 3) = t.val % 8
    ∧ win0_2.index t (2 : Fin 3) = 0 := (by decide +kernel : ∀ t : Fin grid0.N, _)

theorem read2 (t : Fin cfg0.N) (a : Fin 128) (y : Fin 1024) :
    (iblk m c 2 t : Vec F S1x128x1024 .bf16) (ix3 (0 : Fin 1) a y) = V m c main_v8 (ix3 (cls t) (row (num t) a) (⟨y.val, by omega⟩ : Fin 2048)) := by
  obtain ⟨e0, e1, e2⟩ := index2 t
  refine congrArg (V m c main_v8) (funext fun b => Fin.ext ?_)
  match b with
  | ⟨0, _⟩ => show win0_2.index t (0 : Fin 3) * 1 + 1 * 0 = t.val / 8; omega
  | ⟨1, _⟩ =>
    refine Eq.trans (b := t.val % 8 * 128 + a.val) ?_ rfl
    show win0_2.index t (1 : Fin 3) * 128 + 1 * a.val = t.val % 8 * 128 + a.val; rw [e1]; omega
  | ⟨2, _⟩ => show win0_2.index t (2 : Fin 3) * 1024 + 1 * y.val = y.val; omega

theorem index3 : ∀ t : Fin cfg0.N, win0_3.index t (0 : Fin 3) = t.val / 8 ∧ win0_3.index t (1 : Fin 3) = t.val % 8
    ∧ win0_3.index t (2 : Fin 3) = 1 := (by decide +kernel : ∀ t : Fin grid0.N, _)

theorem read3 (t : Fin cfg0.N) (a : Fin 128) (y : Fin 1024) :
    (iblk m c 3 t : Vec F S1x128x1024 .bf16) (ix3 (0 : Fin 1) a y) = V m c main_v8 (ix3 (cls t) (row (num t) a) (⟨1024 + y.val, by omega⟩ : Fin 2048)) := by
  obtain ⟨e0, e1, e2⟩ := index3 t
  refine congrArg (V m c main_v8) (funext fun b => Fin.ext ?_)
  match b with
  | ⟨0, _⟩ => show win0_3.index t (0 : Fin 3) * 1 + 1 * 0 = t.val / 8; omega
  | ⟨1, _⟩ =>
    refine Eq.trans (b := t.val % 8 * 128 + a.val) ?_ rfl
    show win0_3.index t (1 : Fin 3) * 128 + 1 * a.val = t.val % 8 * 128 + a.val; rw [e1]; omega
  | ⟨2, _⟩ => show win0_3.index t (2 : Fin 3) * 1024 + 1 * y.val = 1024 + y.val; omega

theorem index4 : ∀ t : Fin cfg0.N, win0_4.index t (0 : Fin 3) = t.val / 8 ∧ win0_4.index t (1 : Fin 3) = t.val % 8
    ∧ win0_4.index t (2 : Fin 3) = 0 := (by decide +kernel : ∀ t : Fin grid0.N, _)

theorem read4 (t : Fin cfg0.N) (a : Fin 128) (y : Fin 1024) :
    (iblk m c 4 t : Vec F S1x128x1024 .bf16) (ix3 (0 : Fin 1) a y) = V m c main_v11 (ix3 (cls t) (pos (num t) (lo a)) y) := by
  obtain ⟨e0, e1, e2⟩ := index4 t
  refine congrArg (V m c main_v11) (funext fun b => Fin.ext ?_)
  match b with
  | ⟨0, _⟩ => show win0_4.index t (0 : Fin 3) * 1 + 1 * 0 = t.val / 8; omega
  | ⟨1, _⟩ =>
    refine Eq.trans (b := t.val % 8 * 128 + a.val) ?_ ((pos_lo_val (num t) a)).symm
    show win0_4.index t (1 : Fin 3) * 128 + 1 * a.val = t.val % 8 * 128 + a.val; rw [e1]; omega
  | ⟨2, _⟩ => show win0_4.index t (2 : Fin 3) * 1024 + 1 * y.val = y.val; omega

theorem index5 : ∀ t : Fin cfg0.N, win0_5.index t (0 : Fin 3) = t.val / 8 ∧ win0_5.index t (1 : Fin 3) = min (t.val % 8 + 1) 7
    ∧ win0_5.index t (2 : Fin 3) = 0 := (by decide +kernel : ∀ t : Fin grid0.N, _)

theorem read5 (t : Fin cfg0.N) (a : Fin 128) (y : Fin 1024) :
    (iblk m c 5 t : Vec F S1x128x1024 .bf16) (ix3 (0 : Fin 1) a y) = V m c main_v11 (ix3 (cls t) (pos (num t) (hi a)) y) := by
  obtain ⟨e0, e1, e2⟩ := index5 t
  refine congrArg (V m c main_v11) (funext fun b => Fin.ext ?_)
  match b with
  | ⟨0, _⟩ => show win0_5.index t (0 : Fin 3) * 1 + 1 * 0 = t.val / 8; omega
  | ⟨1, _⟩ =>
    refine Eq.trans (b := min (t.val % 8 + 1) 7 * 128 + a.val) ?_ ((pos_hi_val (num t) a)).symm
    show win0_5.index t (1 : Fin 3) * 128 + 1 * a.val = min (t.val % 8 + 1) 7 * 128 + a.val; rw [e1]; omega
  | ⟨2, _⟩ => show win0_5.index t (2 : Fin 3) * 1024 + 1 * y.val = y.val; omega

theorem index6 : ∀ t : Fin cfg0.N, win0_6.index t (0 : Fin 3) = t.val / 8 ∧ win0_6.index t (1 : Fin 3) = t.val % 8
    ∧ win0_6.index t (2 : Fin 3) = 0 := (by decide +kernel : ∀ t : Fin grid0.N, _)

theorem read6 (t : Fin cfg0.N) (a : Fin 128) (y : Fin 128) :
    (iblk m c 6 t : Vec F S1x128x128 .f32) (ix3 (0 : Fin 1) a y) = V m c main_v130 (ix3 (cls t) (pos (num t) (lo a)) y) := by
  obtain ⟨e0, e1, e2⟩ := index6 t
  refine congrArg (V m c main_v130) (funext fun b => Fin.ext ?_)
  match b with
  | ⟨0, _⟩ => show win0_6.index t (0 : Fin 3) * 1 + 1 * 0 = t.val / 8; omega
  | ⟨1, _⟩ =>
    refine Eq.trans (b := t.val % 8 * 128 + a.val) ?_ ((pos_lo_val (num t) a)).symm
    show win0_6.index t (1 : Fin 3) * 128 + 1 * a.val = t.val % 8 * 128 + a.val; rw [e1]; omega
  | ⟨2, _⟩ => show win0_6.index t (2 : Fin 3) * 128 + 1 * y.val = y.val; omega

theorem index7 : ∀ t : Fin cfg0.N, win0_7.index t (0 : Fin 3) = t.val / 8 ∧ win0_7.index t (1 : Fin 3) = min (t.val % 8 + 1) 7
    ∧ win0_7.index t (2 : Fin 3) = 0 := (by decide +kernel : ∀ t : Fin grid0.N, _)

theorem read7 (t : Fin cfg0.N) (a : Fin 128) (y : Fin 128) :
    (iblk m c 7 t : Vec F S1x128x128 .f32) (ix3 (0 : Fin 1) a y) = V m c main_v130 (ix3 (cls t) (pos (num t) (hi a)) y) := by
  obtain ⟨e0, e1, e2⟩ := index7 t
  refine congrArg (V m c main_v130) (funext fun b => Fin.ext ?_)
  match b with
  | ⟨0, _⟩ => show win0_7.index t (0 : Fin 3) * 1 + 1 * 0 = t.val / 8; omega
  | ⟨1, _⟩ =>
    refine Eq.trans (b := min (t.val % 8 + 1) 7 * 128 + a.val) ?_ ((pos_hi_val (num t) a)).symm
    show win0_7.index t (1 : Fin 3) * 128 + 1 * a.val = min (t.val % 8 + 1) 7 * 128 + a.val; rw [e1]; omega
  | ⟨2, _⟩ => show win0_7.index t (2 : Fin 3) * 128 + 1 * y.val = y.val; omega

theorem index8 : ∀ t : Fin cfg0.N, win0_8.index t (0 : Fin 3) = t.val / 8 ∧ win0_8.index t (1 : Fin 3) = t.val % 8
    ∧ win0_8.index t (2 : Fin 3) = 0 := (by decide +kernel : ∀ t : Fin grid0.N, _)

theorem read8 (t : Fin cfg0.N) (a : Fin 128) (y : Fin 128) :
    (iblk m c 8 t : Vec F S1x128x128 .f32) (ix3 (0 : Fin 1) a y) = V m c main_v133 (ix3 (cls t) (pos (num t) (lo a)) y) := by
  obtain ⟨e0, e1, e2⟩ := index8 t
  refine congrArg (V m c main_v133) (funext fun b => Fin.ext ?_)
  match b with
  | ⟨0, _⟩ => show win0_8.index t (0 : Fin 3) * 1 + 1 * 0 = t.val / 8; omega
  | ⟨1, _⟩ =>
    refine Eq.trans (b := t.val % 8 * 128 + a.val) ?_ ((pos_lo_val (num t) a)).symm
    show win0_8.index t (1 : Fin 3) * 128 + 1 * a.val = t.val % 8 * 128 + a.val; rw [e1]; omega
  | ⟨2, _⟩ => show win0_8.index t (2 : Fin 3) * 128 + 1 * y.val = y.val; omega

theorem index9 : ∀ t : Fin cfg0.N, win0_9.index t (0 : Fin 3) = t.val / 8 ∧ win0_9.index t (1 : Fin 3) = min (t.val % 8 + 1) 7
    ∧ win0_9.index t (2 : Fin 3) = 0 := (by decide +kernel : ∀ t : Fin grid0.N, _)

theorem read9 (t : Fin cfg0.N) (a : Fin 128) (y : Fin 128) :
    (iblk m c 9 t : Vec F S1x128x128 .f32) (ix3 (0 : Fin 1) a y) = V m c main_v133 (ix3 (cls t) (pos (num t) (hi a)) y) := by
  obtain ⟨e0, e1, e2⟩ := index9 t
  refine congrArg (V m c main_v133) (funext fun b => Fin.ext ?_)
  match b with
  | ⟨0, _⟩ => show win0_9.index t (0 : Fin 3) * 1 + 1 * 0 = t.val / 8; omega
  | ⟨1, _⟩ =>
    refine Eq.trans (b := min (t.val % 8 + 1) 7 * 128 + a.val) ?_ ((pos_hi_val (num t) a)).symm
    show win0_9.index t (1 : Fin 3) * 128 + 1 * a.val = min (t.val % 8 + 1) 7 * 128 + a.val; rw [e1]; omega
  | ⟨2, _⟩ => show win0_9.index t (2 : Fin 3) * 128 + 1 * y.val = y.val; omega

end

theorem col_apply {x : Vec Ideal S1x128x1024 .bf16} (h : Fin 8) (a e : Fin 128) :
    col x h (ix3 (0 : Fin 1) a e) = x (ix3 (0 : Fin 1) a (colIx h e)) := by
  refine congrArg x (funext fun b => Fin.ext ?_)
  match b with
  | ⟨0, _⟩ => show 0 + 1 * 0 = 0; omega
  | ⟨1, _⟩ => show 0 + 1 * a.val = a.val; omega
  | ⟨2, _⟩ => show h.val * 128 + 1 * e.val = h.val * 128 + e.val; omega

theorem lane_apply {x : Vec Ideal S1x128x128 .f32} (h : Fin 8) (a : Fin 128) :
    lane x h (ix3 (0 : Fin 1) a (0 : Fin 1)) = x (ix3 (0 : Fin 1) a (laneIx h)) := by
  refine congrArg x (funext fun b => Fin.ext ?_)
  match b with
  | ⟨0, _⟩ => show 0 + 1 * 0 = 0; omega
  | ⟨1, _⟩ => show 0 + 1 * a.val = a.val; omega
  | ⟨2, _⟩ => show h.val + 1 * 0 = h.val; omega

/-! ### At finite arguments -/

section
variable (m : (ℓ : Loc nD τ sig) → Buf (Elt Ideal) ℓ) (c : Dev nD)
  (q k v g : S4096x8x128.Idx → ℝ) (l : S4096x8.Idx → ℝ)

/-- The arguments on device `c` are the real arrays named. -/
structure Args : Prop where
  q : arg0 m c = up q
  k : arg1 m c = up k
  v : arg2 m c = up v
  g : arg3 m c = up g
  l : arg4 m c = up l

variable {m c q k v g l} (A : Args m c q k v g l)
include A

theorem q_apply (r : Fin 4) (a : Fin 1024) (h : Fin 8) (e : Fin 128) :
    V m c main_v2 (ix3 r a (colIx h e)) = (((head q k v g l r h).q a e : ℝ) : EReal) := by
  rw [V_v2, A.q]
  exact rows_apply (up q) r a h e

theorem g_apply (r : Fin 4) (a : Fin 1024) (h : Fin 8) (e : Fin 128) :
    V m c main_v11 (ix3 r a (colIx h e)) = (((head q k v g l r h).g a e : ℝ) : EReal) := by
  rw [V_v11, A.g]
  exact rows_apply (up g) r a h e

theorem k_apply (r : Fin 4) (a : Fin 1024) (h : Fin 8) (e : Fin 128) :
    V m c main_v8 (ix3 r a (⟨(colIx h e).val, by omega⟩ : Fin 2048)) = (((head q k v g l r h).k a e : ℝ) : EReal) := by
  rw [V_v8, A.k]
  refine (concatenate_pair_apply_left (s₁ := S4x1024x1024) (s₂ := S4x1024x1024) 2 (rows (F := Ideal) (up k)) _
    concatenates_S4x1024x1024_S4x1024x1024_S4x1024x2048_d2
    (ix3 r a (⟨(colIx h e).val, by omega⟩ : Fin 2048)) rfl
    (ix3 r a (colIx h e) : S4x1024x1024.Idx) (fun b => match b with
    | ⟨0, _⟩ => rfl | ⟨1, _⟩ => rfl | ⟨2, _⟩ => rfl)).trans (rows_apply (up k) r a h e)

theorem v_apply (r : Fin 4) (a : Fin 1024) (h : Fin 8) (e : Fin 128) :
    V m c main_v8 (ix3 r a (⟨1024 + (colIx h e).val, by omega⟩ : Fin 2048)) = (((head q k v g l r h).v a e : ℝ) : EReal) := by
  rw [V_v8, A.v]
  refine (concatenate_pair_apply_right (s₁ := S4x1024x1024) (s₂ := S4x1024x1024) 2 _ (rows (F := Ideal) (up v))
    concatenates_S4x1024x1024_S4x1024x1024_S4x1024x2048_d2
    (ix3 r a (⟨1024 + (colIx h e).val, by omega⟩ : Fin 2048)) rfl rfl
    (ix3 r a (colIx h e) : S4x1024x1024.Idx) (fun b hb => match b, hb with
    | ⟨0, _⟩, _ => rfl | ⟨1, _⟩, _ => rfl | ⟨2, _⟩, hb => absurd rfl hb)
    (show (colIx h e).val + 1024 = 1024 + (colIx h e).val by omega)).trans (rows_apply (up v) r a h e)

theorem lse_apply (r : Fin 4) (a : Fin 1024) (h : Fin 8) :
    V m c main_v130 (ix3 r a (laneIx h)) = (((head q k v g l r h).lseR a : ℝ) : EReal) := by
  rw [V_v130, A.q, A.k]
  exact (lanes_apply _ r a h).trans (v122 q k v g l (ix2 (seqRow r a) h) r a rfl)

theorem dpr_apply (r : Fin 4) (a : Fin 1024) (h : Fin 8) :
    V m c main_v133 (ix3 r a (laneIx h)) = (((head q k v g l r h).dprR a : ℝ) : EReal) := by
  rw [V_v133, A.q, A.k, A.v, A.g, A.l]
  refine (lanes_apply _ r a h).trans ((less_apply _ _ _ (seqRow r a) h).trans ?_)
  unfold Head.dprR
  rw [EReal.coe_sub, coe_sum]
  refine congrArg₂ (· - ·) (Finset.sum_congr rfl fun e _ => ?_) rfl
  rw [EReal.coe_mul]
  exact congrArg₂ (· * ·) rfl (v119 q k v g l (ix3 (seqRow r a) h e) r a rfl)

/-- Every grid step's blocks hold its heads' rows. -/
theorem holds (t : Fin cfg0.N) (h : Fin 8) :
    Holds (head q k v g l (cls t) h) (num t) (slopeW h) (grid0.coords t) (col (iblk m c 2 t) h) (col (iblk m c 3 t) h)
      (col (iblk m c 0 t) h) (col (iblk m c 1 t) h) (col (iblk m c 4 t) h) (col (iblk m c 5 t) h)
      (lane (iblk m c 6 t) h) (lane (iblk m c 7 t) h) (lane (iblk m c 8 t) h) (lane (iblk m c 9 t) h) where
  hn := coords1 t
  hw := match h with
    | ⟨0, _⟩ => ker0 | ⟨1, _⟩ => ker1 | ⟨2, _⟩ => ker2 | ⟨3, _⟩ => ker3
    | ⟨4, _⟩ => ker4 | ⟨5, _⟩ => ker5 | ⟨6, _⟩ => ker6 | ⟨7, _⟩ => ker7
  hc := rfl
  hk a e := (col_apply h a e).trans ((read2 m c t a _).trans (k_apply A _ _ h e))
  hv a e := (col_apply h a e).trans ((read3 m c t a _).trans (v_apply A _ _ h e))
  hq0 a e := (col_apply h a e).trans ((read0 m c t a _).trans (q_apply A _ _ h e))
  hq1 a e := (col_apply h a e).trans ((read1 m c t a _).trans (q_apply A _ _ h e))
  hg0 a e := (col_apply h a e).trans ((read4 m c t a _).trans (g_apply A _ _ h e))
  hg1 a e := (col_apply h a e).trans ((read5 m c t a _).trans (g_apply A _ _ h e))
  hl0 a := (lane_apply h a).trans ((read6 m c t a _).trans (lse_apply A _ _ h))
  hl1 a := (lane_apply h a).trans ((read7 m c t a _).trans (lse_apply A _ _ h))
  hr0 a := (lane_apply h a).trans ((read8 m c t a _).trans (dpr_apply A _ _ h))
  hr1 a := (lane_apply h a).trans ((read9 m c t a _).trans (dpr_apply A _ _ h))

end

end Cert.KernelIdeal.Blocks

end
-- ==== Proof.Results.lean ====
/-
The kernel's three results, at finite arguments: every grid step writes its block of the three gradients, and the block
of every entry is the one its row and its residue class name.
-/
module

public import proofs.«01_k».proof.Proof.Blocks
public import proofs.«01_k».proof.Proof.Gen.KernelIdeal.Value

@[expose] public section

set_option maxRecDepth 16384

noncomputable section

namespace Cert.KernelIdeal.Results

open Cert.KernelIdeal Cert.KernelIdeal.Gen Cert.KernelIdeal.Value Cert.KernelIdeal.Host Cert.KernelIdeal.Body
  Cert.KernelIdeal.Step Cert.KernelIdeal.Blocks Cert.Attn Cert.Attn.Ref Idealize.ShloMosaic Idealize.ShloMosaic.TcCoe
  Idealize.SL.Sem

section
variable {F : FTy → Type} [FloatOps F] (m : (ℓ : Loc nD τ sig) → Buf (Elt F) ℓ) (c : Dev nD)

/-- What a grid step computes of dq, over the carry `acc`. -/
def dqB (t : Fin cfg0.N) (acc : Fin 8 → Vec F S128x128 .f32) (h : Fin 8) : Vec F S128x128 .bf16 :=
  dqHead (acc h) (slopeW h) (grid0.coords t) (col (iblk m c 2 t) h) (col (iblk m c 3 t) h)
    (col (iblk m c 0 t) h) (col (iblk m c 1 t) h) (col (iblk m c 4 t) h) (col (iblk m c 5 t) h)
    (lane (iblk m c 6 t) h) (lane (iblk m c 7 t) h) (lane (iblk m c 8 t) h) (lane (iblk m c 9 t) h)

/-- What a grid step computes of dk. -/
def dkB (t : Fin cfg0.N) (h : Fin 8) : Vec F S128x128 .bf16 :=
  dkHead (slopeW h) (grid0.coords t) (col (iblk m c 2 t) h) (col (iblk m c 3 t) h)
    (col (iblk m c 0 t) h) (col (iblk m c 1 t) h) (col (iblk m c 4 t) h) (col (iblk m c 5 t) h)
    (lane (iblk m c 6 t) h) (lane (iblk m c 7 t) h) (lane (iblk m c 8 t) h) (lane (iblk m c 9 t) h)

/-- What a grid step computes of dv. -/
def dvB (t : Fin cfg0.N) (h : Fin 8) : Vec F S128x128 .bf16 :=
  dvHead (slopeW h) (grid0.coords t) (col (iblk m c 2 t) h)
    (col (iblk m c 0 t) h) (col (iblk m c 1 t) h) (col (iblk m c 4 t) h) (col (iblk m c 5 t) h)
    (lane (iblk m c 6 t) h) (lane (iblk m c 7 t) h)

/-- What a grid step carries to the next. -/
def carryB (t : Fin cfg0.N) (h : Fin 8) : Vec F S128x128 .f32 :=
  carryHead (slopeW h) (grid0.coords t) (col (iblk m c 2 t) h) (col (iblk m c 3 t) h)
    (col (iblk m c 0 t) h) (col (iblk m c 1 t) h) (col (iblk m c 4 t) h) (col (iblk m c 5 t) h)
    (lane (iblk m c 6 t) h) (lane (iblk m c 7 t) h) (lane (iblk m c 8 t) h) (lane (iblk m c 9 t) h)

/-- The carry a grid step finds: none at the first step of a residue class, and the step before's otherwise. -/
def accB (t : Fin cfg0.N) (h : Fin 8) : Vec F S128x128 .f32 :=
  if t.val % 8 = 0 then zero128 else carryB m c ⟨t.val - 1, Nat.lt_of_le_of_lt (Nat.sub_le _ _) t.isLt⟩ h

/-- Every step leaves its carry behind. -/
theorem carry_eq (t : Fin cfg0.N) : (outsAt0 m c t.val t.isLt).2.2.2 = byHead (carryB m c t) := by
  by_cases h0 : t.val % 8 = 0
  · rw [outsAt0_A m c t h0]; dsimp only; exact sout0_A_0_eq ..
  · rw [outsAt0_B m c t h0]; dsimp only; exact sout0_B_0_eq ..

/-- Every step's block of dq. -/
theorem dq_eq (t : Fin cfg0.N) : (outsAt0 m c t.val t.isLt).1 = byHead (dqB m c t (accB m c t)) := by
  by_cases h0 : t.val % 8 = 0
  · rw [outsAt0_A m c t h0]; dsimp only; refine (out0_A_10_eq ..).trans (congrArg byHead (funext fun h => ?_))
    unfold dqB accB
    rw [if_pos h0]
  · rw [outsAt0_B m c t h0]; dsimp only; refine (out0_B_10_eq ..).trans (congrArg byHead (funext fun h => ?_))
    unfold dqB accB
    rw [if_neg h0, carry_eq m c ⟨t.val - 1, Nat.lt_of_le_of_lt (Nat.sub_le _ _) t.isLt⟩, blk_byHead]

/-- Every step's block of dk. -/
theorem dk_eq (t : Fin cfg0.N) : (outsAt0 m c t.val t.isLt).2.1 = byHead (dkB m c t) := by
  by_cases h0 : t.val % 8 = 0
  · rw [outsAt0_A m c t h0]; dsimp only; exact out0_A_11_eq ..
  · rw [outsAt0_B m c t h0]; dsimp only; exact out0_B_11_eq ..

/-- Every step's block of dv. -/
theorem dv_eq (t : Fin cfg0.N) : (outsAt0 m c t.val t.isLt).2.2.1 = byHead (dvB m c t) := by
  by_cases h0 : t.val % 8 = 0
  · rw [outsAt0_A m c t h0]; dsimp only; exact out0_A_12_eq ..
  · rw [outsAt0_B m c t h0]; dsimp only; exact out0_B_12_eq ..

/-! ### The step and the place within its block of an entry -/

/-- The grid step that writes an entry. -/
def stepOf (i : S1024x4096.Idx) : Fin cfg0.N :=
  ⟨(i 0).val / 128 + 8 * ((i 1).val / 1024), by
    have h0 : (i 0).val < 1024 := (i 0).isLt
    have h1 : (i 1).val < 4096 := (i 1).isLt
    have e : cfg0.N = 32 := N_0
    omega⟩

theorem num_stepOf (i : S1024x4096.Idx) : num (stepOf i) = blockOf (i 0) := by
  have h0 : (i 0).val < 1024 := (i 0).isLt
  refine Fin.ext ?_
  show ((i 0).val / 128 + 8 * ((i 1).val / 1024)) % 8 = (i 0).val / 128
  omega

theorem cls_stepOf (i : S1024x4096.Idx) : cls (stepOf i) = rOf i := by
  have h0 : (i 0).val < 1024 := (i 0).isLt
  refine Fin.ext ?_
  show ((i 0).val / 128 + 8 * ((i 1).val / 1024)) / 8 = (i 1).val / 1024
  omega

/-- Reading the block a step leaves at an entry's place: the head's block at the entry's row and feature. -/
theorem byHead_at {e : EltTy} (f : Fin 8 → Vec F S128x128 e) (i : S1024x4096.Idx) (y : S128x1024.Idx)
    (h0 : (y 0).val = (i 0).val % 128) (h1 : (y 1).val = (i 1).val % 1024) :
    byHead f y = f (hOf i) (ix2 (within (i 0)) (eOf i)) := by
  have eh : headOf y = hOf i := Fin.ext (by
    show (y 1).val / 128 = (i 1).val / 128 % 8
    rw [h1]; omega)
  have el : locIdx y = ix2 (within (i 0)) (eOf i) := funext fun b => Fin.ext (by
    match b with
    | ⟨0, _⟩ => exact h0
    | ⟨1, _⟩ => show (y 1).val % 128 = (i 1).val % 128; rw [h1]; omega)
  unfold byHead
  rw [eh, el]

theorem G10_apply (i : S1024x4096.Idx) :
    G10 m c i = dqB m c (stepOf i) (accB m c (stepOf i)) (hOf i) (ix2 (within (i 0)) (eOf i)) := by
  have hp : pt10Of i = (stepOf i).val := by
    show 1 * ((i 0).val / 128 - 0) + 8 * ((i 1).val / 1024 - 0) = (i 0).val / 128 + 8 * ((i 1).val / 1024)
    omega
  have hlt : pt10Of i < cfg0.N := hp ▸ (stepOf i).isLt
  have ht : (⟨pt10Of i, hlt⟩ : Fin cfg0.N) = stepOf i := Fin.ext hp
  refine (dif_pos hlt).trans ((congrArg (fun z => z.1 (loc10Of i)) (outsAt0_sweep m c _ hlt).symm).trans
    ((congrArg (fun z => z (loc10Of i)) (dq_eq m c ⟨pt10Of i, hlt⟩)).trans ?_))
  rw [ht]
  exact byHead_at _ i (loc10Of i) rfl rfl

theorem G11_apply (i : S1024x4096.Idx) :
    G11 m c i = dkB m c (stepOf i) (hOf i) (ix2 (within (i 0)) (eOf i)) := by
  have hp : pt11Of i = (stepOf i).val := by
    show 1 * ((i 0).val / 128 - 0) + 8 * ((i 1).val / 1024 - 0) = (i 0).val / 128 + 8 * ((i 1).val / 1024)
    omega
  have hlt : pt11Of i < cfg0.N := hp ▸ (stepOf i).isLt
  have ht : (⟨pt11Of i, hlt⟩ : Fin cfg0.N) = stepOf i := Fin.ext hp
  refine (dif_pos hlt).trans ((congrArg (fun z => z.2.1 (loc11Of i)) (outsAt0_sweep m c _ hlt).symm).trans
    ((congrArg (fun z => z (loc11Of i)) (dk_eq m c ⟨pt11Of i, hlt⟩)).trans ?_))
  rw [ht]
  exact byHead_at _ i (loc11Of i) rfl rfl

theorem G12_apply (i : S1024x4096.Idx) :
    G12 m c i = dvB m c (stepOf i) (hOf i) (ix2 (within (i 0)) (eOf i)) := by
  have hp : pt12Of i = (stepOf i).val := by
    show 1 * ((i 0).val / 128 - 0) + 8 * ((i 1).val / 1024 - 0) = (i 0).val / 128 + 8 * ((i 1).val / 1024)
    omega
  have hlt : pt12Of i < cfg0.N := hp ▸ (stepOf i).isLt
  have ht : (⟨pt12Of i, hlt⟩ : Fin cfg0.N) = stepOf i := Fin.ext hp
  refine (dif_pos hlt).trans ((congrArg (fun z => z.2.2.1 (loc12Of i)) (outsAt0_sweep m c _ hlt).symm).trans
    ((congrArg (fun z => z (loc12Of i)) (dv_eq m c ⟨pt12Of i, hlt⟩)).trans ?_))
  rw [ht]
  exact byHead_at _ i (loc12Of i) rfl rfl

end

section
variable {m : (ℓ : Loc nD τ sig) → Buf (Elt Ideal) ℓ} {c : Dev nD}
  {q k v g : S4096x8x128.Idx → ℝ} {l : S4096x8.Idx → ℝ} (A : Args m c q k v g l)
include A

/-- The carry a step finds holds what the block of keys before contributes to its rows of dq. -/
theorem acc_apply (t : Fin cfg0.N) (h : Fin 8) (a b : Fin 128) : accB m c t h (ix2 a b) =
    ((if (num t).val = 0 then 0 else ∑ j, (head q k v g l (cls t) h).dsK (Head.prev (num t)) (hi a) j *
      (head q k v g l (cls t) h).k (row (Head.prev (num t)) j) b : ℝ) : EReal) := by
  unfold accB
  by_cases h0 : t.val % 8 = 0
  · rw [if_pos h0, if_pos (show (num t).val = 0 from h0)]
    exact Ideal.ofBits_zero_f32
  · have hN : t.val < 32 := lt_of_lt_of_eq t.isLt N_0
    have ec : cls ⟨t.val - 1, Nat.lt_of_le_of_lt (Nat.sub_le _ _) t.isLt⟩ = cls t := Fin.ext (by
      show (t.val - 1) / 8 = t.val / 8; omega)
    have en : num ⟨t.val - 1, Nat.lt_of_le_of_lt (Nat.sub_le _ _) t.isLt⟩ = Head.prev (num t) := Fin.ext (by
      show (t.val - 1) % 8 = t.val % 8 - 1; omega)
    rw [if_neg h0, if_neg (show ¬ (num t).val = 0 from h0), ← ec, ← en]
    exact carryHead_apply (holds A ⟨t.val - 1, Nat.lt_of_le_of_lt (Nat.sub_le _ _) t.isLt⟩ h) a b

/-- The kernel's first result is the gradient of q. -/
theorem G10_eq : G10 m c = Cert.ReferenceIdeal.Read.val_main_v188 (F := Ideal) (arg0 m c) (arg1 m c) (arg2 m c) (arg3 m c) (arg4 m c) := by
  funext i
  rw [A.q, A.k, A.v, A.g, A.l]
  refine ((G10_apply m c i).trans (dqHead_apply (holds A (stepOf i) (hOf i)) _ _ _ (acc_apply A _ _ _ _))).trans ?_
  rw [num_stepOf, cls_stepOf]
  exact (v188 q k v g l i).symm

/-- The kernel's second result is the gradient of k. -/
theorem G11_eq : G11 m c = Cert.ReferenceIdeal.Read.val_main_v190 (F := Ideal) (arg0 m c) (arg1 m c) (arg2 m c) (arg3 m c) (arg4 m c) := by
  funext i
  rw [A.q, A.k, A.v, A.g, A.l]
  refine ((G11_apply m c i).trans (dkHead_apply (holds A (stepOf i) (hOf i)) _ _)).trans ?_
  rw [num_stepOf, cls_stepOf]
  exact (v190 q k v g l i).symm

/-- The kernel's third result is the gradient of v. -/
theorem G12_eq : G12 m c = Cert.ReferenceIdeal.Read.val_main_v192 (F := Ideal) (arg0 m c) (arg1 m c) (arg3 m c) := by
  funext i
  rw [A.q, A.k, A.g]
  refine ((G12_apply m c i).trans (dvHead_apply (holds A (stepOf i) (hOf i)) _ _)).trans ?_
  rw [num_stepOf, cls_stepOf]
  exact (v192 q k v g l i).symm

end

end Cert.KernelIdeal.Results

end
-- ==== Proof.Fold.lean ====
/-
A product accumulated over the blocks of its contraction: the first block's product is kept, each later one is added,
and the last sum is written. Whatever the blocks, that is the sum over the whole contraction.
-/
module

public import Idealize.ShloMosaic.Lib.Pointwise.Contract
public import Idealize.ShloMosaic.Lib.Pipeline.Value

@[expose] public section

noncomputable section

namespace Cert.Fold

open Idealize.ShloMosaic

theorem hz : (![0, 0] : Fin 2 → ℕ) = fun _ => 0 := funext fun a => by fin_cases a <;> rfl

theorem hz3 : (![0, 0, 0] : Fin 3 → ℕ) = fun _ => 0 := funext fun a => by fin_cases a <;> rfl

/-- Steps come in runs of `K`: the first keeps its term, each later one adds its own to what the step before left,
and the last writes the sum: what it writes is the sum of its run's terms. -/
theorem run_sum {M : Type} [AddCommMonoid M] {N K : ℕ} (hK : 1 < K) (sc out T : ∀ n, n < N → M)
    (hA : ∀ n h, n % K = 0 → sc n h = T n h)
    (hB : ∀ n h, n % K ≠ 0 → n % K ≠ K - 1 → sc n h = sc (n - 1) (Nat.lt_of_le_of_lt (Nat.sub_le _ _) h) + T n h)
    (hC : ∀ n h, n % K = K - 1 → out n h = sc (n - 1) (Nat.lt_of_le_of_lt (Nat.sub_le _ _) h) + T n h)
    (r : ℕ) (h : K * r + (K - 1) < N) :
    out (K * r + (K - 1)) h = ∑ j : Fin K, T (K * r + j.val) (by have := j.isLt; omega) := by
  have cg : ∀ (f : ∀ n, n < N → M) (a b : ℕ) (ha : a < N) (hb : b < N), a = b → f a ha = f b hb := by
    intro f a b ha hb e
    subst e
    rfl
  have md : ∀ j, j < K → (K * r + j) % K = j := fun j hj => by rw [Nat.mul_add_mod, Nat.mod_eq_of_lt hj]
  have part : ∀ (j : ℕ) (hj : j < K - 1),
      sc (K * r + j) (by omega) = ∑ q : Fin (j + 1), T (K * r + q.val) (by have := q.isLt; omega) := by
    intro j
    induction j with
    | zero =>
      intro hj
      rw [hA _ _ (md 0 (by omega)), Fin.sum_univ_one]
      rfl
    | succ j ih =>
      intro hj
      rw [hB _ _ (by rw [md _ (by omega)]; omega) (by rw [md _ (by omega)]; omega), Fin.sum_univ_castSucc]
      exact congrArg (· + _) ((cg sc _ _ _ _ (by omega)).trans (ih (by omega)))
  obtain ⟨k, rfl⟩ : ∃ k, K = k + 2 := ⟨K - 2, by omega⟩
  rw [hC _ _ (md _ (by omega)), Fin.sum_univ_castSucc]
  exact congrArg (· + _) ((cg sc _ _ _ _ (by omega)).trans (part k (by omega)))

/-- A sum over blocks is the sum over the whole. -/
theorem sum_blocks {M : Type} [AddCommMonoid M] (K t : ℕ) {n : ℕ} (hn : K * t = n) (f : Fin n → M) :
    ∑ j : Fin K, ∑ k : Fin t, f ⟨j.val * t + k.val, by
      have h1 := j.isLt
      have h2 := k.isLt
      have h3 : (j.val + 1) * t ≤ K * t := Nat.mul_le_mul_right t h1
      rw [Nat.add_mul, Nat.one_mul] at h3
      omega⟩ = ∑ x : Fin n, f x := by
  subst hn
  rw [← Equiv.sum_comp finProdFinEquiv f, Fintype.sum_prod_type]
  refine Finset.sum_congr rfl fun j _ => Finset.sum_congr rfl fun k _ => congrArg f (Fin.ext ?_)
  show j.val * t + k.val = k.val + t * j.val
  rw [Nat.mul_comm, Nat.add_comm]

/-- So what the last step of run `r` writes is the whole sum, each step's term being its block's. -/
theorem blocked {M : Type} [AddCommMonoid M] {N K t n : ℕ} (hK : 1 < K) (hn : K * t = n) (sc out T : ∀ n, n < N → M)
    (hA : ∀ n h, n % K = 0 → sc n h = T n h)
    (hB : ∀ n h, n % K ≠ 0 → n % K ≠ K - 1 → sc n h = sc (n - 1) (Nat.lt_of_le_of_lt (Nat.sub_le _ _) h) + T n h)
    (hC : ∀ n h, n % K = K - 1 → out n h = sc (n - 1) (Nat.lt_of_le_of_lt (Nat.sub_le _ _) h) + T n h)
    (r : ℕ) (h : K * r + (K - 1) < N) (f : Fin n → M)
    (hT : ∀ (j : Fin K) (h' : K * r + j.val < N), T (K * r + j.val) h' = ∑ k : Fin t, f ⟨j.val * t + k.val, by
      have h1 := j.isLt
      have h2 := k.isLt
      have h3 : (j.val + 1) * t ≤ K * t := Nat.mul_le_mul_right t h1
      rw [Nat.add_mul, Nat.one_mul] at h3
      omega⟩) :
    out (K * r + (K - 1)) h = ∑ x : Fin n, f x :=
  ((run_sum hK sc out T hA hB hC r h).trans (Finset.sum_congr rfl fun j _ => hT j _)).trans (sum_blocks K t hn f)

/-- A matrix written as the one layer of a stack, and such a layer read as a matrix. -/
theorem stacked {α : Type} {A B : ℕ} (v : (⟨2, ![A, B]⟩ : Shape).Idx → α) (h) (y : (⟨3, ![1, A, B]⟩ : Shape).Idx) :
    shapeCast ⟨3, ![1, A, B]⟩ v h y = v (ix2 (y 1) (y 2)) := by
  refine shapeCast_apply v _ y (ix2 (y 1) (y 2)) ?_
  rw [Shape.rowMajor_val_three, Shape.rowMajor_val_two]
  have h0 : (y 0).val = 0 := Nat.lt_one_iff.mp (y 0).isLt
  show (y 1).val * B + (y 2).val = ((y 0).val * A + (y 1).val) * B + (y 2).val
  rw [h0, Nat.zero_mul, Nat.zero_add]

theorem unstacked {α : Type} {A B : ℕ} (v : (⟨3, ![1, A, B]⟩ : Shape).Idx → α) (h) (a : Fin A) (b : Fin B) :
    shapeCast ⟨2, ![A, B]⟩ v h (ix2 a b) = v (ix3 (0 : Fin 1) a b) := by
  refine shapeCast_apply v _ (ix2 a b) (ix3 (0 : Fin 1) a b) ?_
  rw [Shape.rowMajor_val_three, Shape.rowMajor_val_two]
  show (0 * A + a.val) * B + b.val = a.val * B + b.val
  rw [Nat.zero_mul, Nat.zero_add]

end Cert.Fold

end
-- ==== Proof.GxInZx.lean ====
/-
The input projection of the scan, for its input: the kernel's product, block by block, and the reference's.
-/
module

public import proofs.«01_k».proof.Defs
public import proofs.«01_k».proof.Proof.Fold
public import proofs.«01_k».proof.Proof.Gen.Kernel2Ideal.Value
public import proofs.«01_k».proof.Proof.Gen.Reference2Ideal.Run
public import proofs.«01_k».proof.Proof.Gen.Reference2Ideal.Read
public import Idealize.ShloMosaic.Lib.Quiescent

@[expose] public section

set_option maxRecDepth 16384

noncomputable section

namespace Cert.Kernel2Ideal.Prod

open Cert.Kernel2Ideal Cert.Kernel2Ideal.Gen Cert.Kernel2Ideal.Value Cert.Fold Idealize.ShloMosaic
  Idealize.ShloMosaic.TcCoe Idealize.SL.Sem Idealize.ShloMosaic.StableHlo

abbrev BX := S1024x2048
abbrev BW := S2048x1024
abbrev BO := S1024x1024

/-- One block's product. -/
def term (x : Vec Ideal BX .bf16) (w : Vec Ideal BW .bf16) (y : BO.Idx) : EReal :=
  ∑ k : Fin 2048, x (ix2 (y 0) k) * w (ix2 k (y 1))

theorem mm (x : BX.Idx → Ideal .bf16) (w : BW.Idx → Ideal .bf16) (y : BO.Idx) :
    matmul (F := Ideal) dot_S1024x2048_S2048x1024_S1024x1024_1_0_0_1_n_n none x w (constant BO .f32 0x00000000#32) y = term x w y :=
  (Ideal.matmul_apply₁_of dot_S1024x2048_S2048x1024_S1024x1024_1_0_0_1_n_n (a := (1 : Fin 2)) rfl (K := 2048) rfl x w _ y
    (fun k => ix2 (y 0) k) (fun k => ix2 k (y 1))
    (fun k => funext fun d => match d with | ⟨0, _⟩ => rfl | ⟨1, _⟩ => rfl)
    (fun k => funext fun d => match d with | ⟨0, _⟩ => rfl | ⟨1, _⟩ => rfl)).trans
    ((congrArg (· + _) Ideal.ofBits_zero_f32).trans (zero_add _))

/-! ### What a step leaves -/

section Steps

variable (c : Dev nD) (i : grid0.Coords) (a3 : Memref sig .tc .vmem BX .bf16) (h3 : a3.IsWhole)
  (a4 : Memref sig .tc .vmem BW .bf16) (h4 : a4.IsWhole) (a5 : Memref sig .tc .vmem BO .bf16) (h5 : a5.IsWhole)
  (a6 : Memref sig .tc .vmem BO .f32) (h6 : a6.IsWhole)

/-- The first step of a run leaves its product. -/
theorem first (hc0 : cond0_0 i) (hc1 : ¬cond0_1 i) (hc2 : ¬cond0_2 i) (x : Vec Ideal BX .bf16) (w : Vec Ideal BW .bf16) (y : BO.Idx) :
    sout0_A_0 c i a3 h3 a4 h4 a5 h5 a6 h6 hc0 hc1 hc2 x w y = term x w y := by
  unfold sout0_A_0
  rw [View.read_writes_eq_canon _ _ _ (scover0_A_0 c i a3 h3 a4 h4 a5 h5 a6 h6 hc0 hc1 hc2 x w)]
  unfold kernelRun0_A
  dsimp only
  rw [View.canon_unit_zero hz]
  unfold k0_pay1
  simp only [View.readAt_eq_ld, h3.read_unread, h4.read_unread, View.ld_unit_zero (S := BX) hz, View.ld_unit_zero (S := BW) hz,
    shapeCast_self]
  exact mm x w y

/-- A step between adds its product. -/
theorem between (hc0 : ¬cond0_0 i) (hc1 : cond0_1 i) (hc2 : ¬cond0_2 i) (x : Vec Ideal BX .bf16) (w : Vec Ideal BW .bf16)
    (s : Vec Ideal BO .f32) (y : BO.Idx) :
    sout0_B_0 c i a3 h3 a4 h4 a5 h5 a6 h6 hc0 hc1 hc2 x w s y = s y + term x w y := by
  unfold sout0_B_0
  rw [View.read_writes_eq_canon _ _ _ (scover0_B_0 c i a3 h3 a4 h4 a5 h5 a6 h6 hc0 hc1 hc2 x w s)]
  unfold kernelRun0_B
  dsimp only
  rw [View.canon_unit_zero hz]
  unfold k0_pay2
  simp only [View.readAt_eq_ld, h3.read_unread, h4.read_unread, h6.read_unread, View.ld_unit_zero (S := BX) hz,
    View.ld_unit_zero (S := BW) hz, View.ld_unit_zero (S := BO) hz, shapeCast_self]
  exact congrArg (s y + ·) (mm x w y)

/-- The last step writes the sum of what it finds and its product. -/
theorem last (hc0 : ¬cond0_0 i) (hc1 : ¬cond0_1 i) (hc2 : cond0_2 i) (x : Vec Ideal BX .bf16) (w : Vec Ideal BW .bf16)
    (s : Vec Ideal BO .f32) (y : BO.Idx) :
    out0_C_2 c i a3 h3 a4 h4 a5 h5 a6 h6 hc0 hc1 hc2 x w s y = s y + term x w y := by
  unfold out0_C_2
  rw [View.read_writes_eq_canon _ _ _ (cover0_C_2 c i a3 h3 a4 h4 a5 h5 a6 h6 hc0 hc1 hc2 x w s)]
  unfold kernelRun0_C
  dsimp only
  rw [View.canon_unit_zero hz]
  unfold k0_pay3
  simp only [View.readAt_eq_ld, h3.read_unread, h4.read_unread, h6.read_unread, View.ld_unit_zero (S := BX) hz,
    View.ld_unit_zero (S := BW) hz, View.ld_unit_zero (S := BO) hz, shapeCast_self]
  exact congrArg (s y + ·) (mm x w y)

end Steps

/-! ### The blocks a step reads -/

theorem idx : ∀ t : Fin cfg0.N, (win0_0.index t (0 : Fin 2) = t.val / 10 ∧ win0_0.index t (1 : Fin 2) = t.val % 5)
    ∧ (win0_1.index t (0 : Fin 2) = t.val % 5 ∧ win0_1.index t (1 : Fin 2) = t.val / 5 % 2) :=
  (by decide +kernel : ∀ t : Fin grid0.N, _)

variable (m : (ℓ : Loc nD τ sig) → Buf (Elt Ideal) ℓ) (c : Dev nD)

/-- The kernel's two arguments. -/
def X : S4096x10240.Idx → EReal := m ((c : Thread nD τ).loc main_arg0)
def W : S10304x2048.Idx → EReal := m ((c : Thread nD τ).loc main_arg1)

theorem readX (t : Fin cfg0.N) (a : Fin 1024) (k : Fin 2048) (I : S4096x10240.Idx)
    (h0 : (I 0).val = t.val / 10 * 1024 + a.val) (h1 : (I 1).val = t.val % 5 * 2048 + k.val) :
    (iblk m c 0 t : Vec Ideal BX .bf16) (ix2 a k) = X m c I := by
  have e := idx t
  refine congrArg (V m c main_arg0) (funext fun b => Fin.ext ?_) |>.trans (congrFun (V_main_arg0 m c) I)
  match b with
  | ⟨0, _⟩ => show win0_0.index t (0 : Fin 2) * 1024 + 1 * a.val = (I 0).val; omega
  | ⟨1, _⟩ => show win0_0.index t (1 : Fin 2) * 2048 + 1 * k.val = (I 1).val; omega

theorem readW (t : Fin cfg0.N) (k : Fin 2048) (a : Fin 1024) (I : S10304x2048.Idx)
    (h0 : (I 0).val = t.val % 5 * 2048 + k.val) (h1 : (I 1).val = t.val / 5 % 2 * 1024 + a.val) :
    (X0_1 m c t : Vec Ideal BW .bf16) (ix2 k a) = W m c I := by
  have e := idx t
  unfold X0_1 Pipeline.Window.fill
  rw [dif_pos (moved0_1 t _)]
  refine congrArg (V m c main_arg1) (funext fun b => Fin.ext ?_) |>.trans (congrFun (V_main_arg1 m c) I)
  match b with
  | ⟨0, _⟩ => show win0_1.index t (0 : Fin 2) * 2048 + 1 * k.val = (I 0).val; omega
  | ⟨1, _⟩ => show win0_1.index t (1 : Fin 2) * 1024 + 1 * a.val = (I 1).val; omega

/-! ### The result -/

theorem G_apply (i : S4096x2048.Idx) :
    G2 m c i = ∑ x : Fin 10240, X m c (ix2 (i 0) x) * W m c (ix2 (⟨x.val, by have := x.isLt; omega⟩ : Fin 10304) (i 1)) := by
  have b0 : (i 0).val < 4096 := (i 0).isLt
  have b1 : (i 1).val < 2048 := (i 1).isLt
  have eN : cfg0.N = 40 := N_0
  have hlt : pt2Of i < cfg0.N := by show 5 * (2 * ((i 0).val / 1024 - 0) + 1 * ((i 1).val / 1024 - 0)) + 4 < _; omega
  refine (dif_pos hlt).trans ((congrArg (fun z => z.1 (loc2Of i)) (outsAt0_sweep m c _ hlt).symm).trans ?_)
  refine blocked (K := 5) (t := 2048) (by decide) (by decide) (fun n h => (outsAt0 m c n h).2 (loc2Of i))
    (fun n h => (outsAt0 m c n h).1 (loc2Of i)) (fun n h => term (iblk m c 0 ⟨n, h⟩) (X0_1 m c ⟨n, h⟩) (loc2Of i))
    (fun n h h0 => ?_) (fun n h h0 h4 => ?_) (fun n h h4 => ?_) (run2Of i) hlt _ (fun j h => ?_)
  · rw [outsAt0_A m c ⟨n, h⟩ h0 (by dsimp only; omega) (by dsimp only; omega)]; dsimp only; exact first ..
  · rw [outsAt0_B m c ⟨n, h⟩ h0 (by dsimp only; omega) (by dsimp only; omega)]; dsimp only; exact between ..
  · rw [outsAt0_C m c ⟨n, h⟩ (by dsimp only; omega) (by dsimp only; omega) h4]; dsimp only; exact last ..
  · refine Finset.sum_congr rfl fun k _ => congrArg₂ (· * ·) (readX m c _ _ k _ ?_ ?_) (readW m c _ k _ _ ?_ ?_)
    all_goals
      have hj := j.isLt
      have hk := k.isLt
    · show (i 0).val = (5 * (2 * ((i 0).val / 1024 - 0) + 1 * ((i 1).val / 1024 - 0)) + j.val) / 10 * 1024 + (i 0).val % 1024
      omega
    · show j.val * 2048 + k.val = (5 * (2 * ((i 0).val / 1024 - 0) + 1 * ((i 1).val / 1024 - 0)) + j.val) % 5 * 2048 + k.val
      omega
    · show j.val * 2048 + k.val = (5 * (2 * ((i 0).val / 1024 - 0) + 1 * ((i 1).val / 1024 - 0)) + j.val) % 5 * 2048 + k.val
      omega
    · show (i 1).val = (5 * (2 * ((i 0).val / 1024 - 0) + 1 * ((i 1).val / 1024 - 0)) + j.val) / 5 % 2 * 1024 + (i 1).val % 1024
      omega

end Cert.Kernel2Ideal.Prod

namespace Cert.Reference2Ideal.Prod

open Cert.Reference2Ideal Idealize.ShloMosaic Idealize.ShloMosaic.TcCoe Idealize.SL.Sem Idealize.ShloMosaic.StableHlo

theorem frame : Cert.quiescent_Reference2Ideal := fun m ρ _ =>
  (θ_run defs _ _).mono (fun r h => ⟨fun c => (h c).2, sem_eq_zero_of_no_sems (by decide) r.2⟩) (Value.run (F := Ideal) m ρ)

theorem apply (x : S4096x10240.Idx → Ideal .bf16) (w : S10304x2048.Idx → Ideal .bf16) (i : S4096x2048.Idx) :
    Read.val_main_v7 (F := Ideal) x w i
      = ∑ k : Fin 10240, x (ix2 (i 0) k) * w (ix2 (⟨k.val, by have := k.isLt; omega⟩ : Fin 10304) (i 1)) := by
  show Read.val_main_v6 (F := Ideal) x w i = _
  refine (Read.val_main_v6_apply x w i).trans ?_
  refine Finset.sum_congr rfl fun k _ => congrArg₂ (· * ·) ?_ ?_
  · exact congrArg x (funext fun d => match d with | ⟨0, _⟩ => rfl | ⟨1, _⟩ => rfl)
  · refine (Read.val_main_v3_apply (F := Ideal) w _).trans ((Read.val_main_v1_apply (F := Ideal) w _).trans ?_)
    exact congrArg w (funext fun d => match d with | ⟨0, _⟩ => rfl | ⟨1, _⟩ => rfl)

theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v7)
        = Read.val_main_v7 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (Read.val_main_v7_eq ..), (h c).2⟩) (Value.run (F := Ideal) m ρ)

/-- The kernel's result is the reference's. -/
theorem algebraic : Cert.algebraic_Kernel2Ideal_Reference2Ideal := by
  intro m ρ m' ρ' _ hag
  refine ⟨fun c => Cert.Kernel2Ideal.Value.G2 m c, Cert.Kernel2Ideal.Value.run m ρ,
    (θ_run defs _ _).mono (fun r h c => ?_) (run m' ρ')⟩
  obtain ⟨e0, e1⟩ := hag c
  obtain ⟨h0, hr⟩ := h c
  rw [e0, e1] at h0
  exact ⟨h0.trans (funext fun i => (apply _ _ i).trans (Cert.Kernel2Ideal.Prod.G_apply m c i).symm), hr⟩

end Cert.Reference2Ideal.Prod

end
-- ==== Proof.GwInZx.lean ====
/-
The input projection of the scan, for its weight: the kernel's product, block by block, and the reference's.
-/
module

public import proofs.«01_k».proof.Defs
public import proofs.«01_k».proof.Proof.Fold
public import proofs.«01_k».proof.Proof.Gen.Kernel3Ideal.Value
public import proofs.«01_k».proof.Proof.Gen.Reference3Ideal.Run
public import proofs.«01_k».proof.Proof.Gen.Reference3Ideal.Read
public import Idealize.ShloMosaic.Lib.Quiescent

@[expose] public section

set_option maxRecDepth 16384

noncomputable section

namespace Cert.Kernel3Ideal.Prod

open Cert.Kernel3Ideal Cert.Kernel3Ideal.Gen Cert.Kernel3Ideal.Value Cert.Fold Idealize.ShloMosaic
  Idealize.ShloMosaic.TcCoe Idealize.SL.Sem Idealize.ShloMosaic.StableHlo

abbrev BX := S2048x1024
abbrev BW := S2048x1024
abbrev BO := S1024x1024

/-- One block's product. -/
def term (x : Vec Ideal BX .bf16) (w : Vec Ideal BW .bf16) (y : BO.Idx) : EReal :=
  ∑ k : Fin 2048, x (ix2 k (y 0)) * w (ix2 k (y 1))

theorem mm (x : BX.Idx → Ideal .bf16) (w : BW.Idx → Ideal .bf16) (y : BO.Idx) :
    matmul (F := Ideal) dot_S2048x1024_S2048x1024_S1024x1024_0_0_1_1_n_n none x w (constant BO .f32 0x00000000#32) y = term x w y :=
  (Ideal.matmul_apply₁_of dot_S2048x1024_S2048x1024_S1024x1024_0_0_1_1_n_n (a := (0 : Fin 2)) rfl (K := 2048) rfl x w _ y
    (fun k => ix2 k (y 0)) (fun k => ix2 k (y 1))
    (fun k => funext fun d => match d with | ⟨0, _⟩ => rfl | ⟨1, _⟩ => rfl)
    (fun k => funext fun d => match d with | ⟨0, _⟩ => rfl | ⟨1, _⟩ => rfl)).trans
    ((congrArg (· + _) Ideal.ofBits_zero_f32).trans (zero_add _))

/-! ### What a step leaves -/

section Steps

variable (c : Dev nD) (i : grid0.Coords) (a3 : Memref sig .tc .vmem BX .bf16) (h3 : a3.IsWhole)
  (a4 : Memref sig .tc .vmem BW .bf16) (h4 : a4.IsWhole) (a5 : Memref sig .tc .vmem BO .bf16) (h5 : a5.IsWhole)
  (a6 : Memref sig .tc .vmem BO .f32) (h6 : a6.IsWhole)

/-- The first step of a run leaves its product. -/
theorem first (hc0 : cond0_0 i) (hc1 : ¬cond0_1 i) (hc2 : ¬cond0_2 i) (x : Vec Ideal BX .bf16) (w : Vec Ideal BW .bf16) (y : BO.Idx) :
    sout0_A_0 c i a3 h3 a4 h4 a5 h5 a6 h6 hc0 hc1 hc2 x w y = term x w y := by
  unfold sout0_A_0
  rw [View.read_writes_eq_canon _ _ _ (scover0_A_0 c i a3 h3 a4 h4 a5 h5 a6 h6 hc0 hc1 hc2 x w)]
  unfold kernelRun0_A
  dsimp only
  rw [View.canon_unit_zero hz]
  unfold k0_pay1
  simp only [View.readAt_eq_ld, h3.read_unread, h4.read_unread, View.ld_unit_zero (S := BX) hz, View.ld_unit_zero (S := BW) hz,
    shapeCast_self]
  exact mm x w y

/-- The last step writes the sum of what it finds and its product. -/
theorem last (hc0 : ¬cond0_0 i) (hc1 : ¬cond0_1 i) (hc2 : cond0_2 i) (x : Vec Ideal BX .bf16) (w : Vec Ideal BW .bf16)
    (s : Vec Ideal BO .f32) (y : BO.Idx) :
    out0_B_2 c i a3 h3 a4 h4 a5 h5 a6 h6 hc0 hc1 hc2 x w s y = s y + term x w y := by
  unfold out0_B_2
  rw [View.read_writes_eq_canon _ _ _ (cover0_B_2 c i a3 h3 a4 h4 a5 h5 a6 h6 hc0 hc1 hc2 x w s)]
  unfold kernelRun0_B
  dsimp only
  rw [View.canon_unit_zero hz]
  unfold k0_pay3
  simp only [View.readAt_eq_ld, h3.read_unread, h4.read_unread, h6.read_unread, View.ld_unit_zero (S := BX) hz,
    View.ld_unit_zero (S := BW) hz, View.ld_unit_zero (S := BO) hz, shapeCast_self]
  exact congrArg (s y + ·) (mm x w y)

end Steps

/-! ### The blocks a step reads -/

theorem idx : ∀ t : Fin cfg0.N, (win0_0.index t (0 : Fin 2) = t.val % 2 ∧ win0_0.index t (1 : Fin 2) = t.val / 4)
    ∧ (win0_1.index t (0 : Fin 2) = t.val % 2 ∧ win0_1.index t (1 : Fin 2) = t.val / 2 % 2) :=
  (by decide +kernel : ∀ t : Fin grid0.N, _)

variable (m : (ℓ : Loc nD τ sig) → Buf (Elt Ideal) ℓ) (c : Dev nD)

/-- The kernel's two arguments. -/
def X : S4096x10240.Idx → EReal := m ((c : Thread nD τ).loc main_arg0)
def W : S4096x2048.Idx → EReal := m ((c : Thread nD τ).loc main_arg1)

theorem readX (t : Fin cfg0.N) (k : Fin 2048) (a : Fin 1024) (I : S4096x10240.Idx)
    (h0 : (I 0).val = t.val % 2 * 2048 + k.val) (h1 : (I 1).val = t.val / 4 * 1024 + a.val) :
    (iblk m c 0 t : Vec Ideal BX .bf16) (ix2 k a) = X m c I := by
  have e := idx t
  refine congrArg (V m c main_arg0) (funext fun b => Fin.ext ?_) |>.trans (congrFun (V_main_arg0 m c) I)
  match b with
  | ⟨0, _⟩ => show win0_0.index t (0 : Fin 2) * 2048 + 1 * k.val = (I 0).val; omega
  | ⟨1, _⟩ => show win0_0.index t (1 : Fin 2) * 1024 + 1 * a.val = (I 1).val; omega

theorem readW (t : Fin cfg0.N) (k : Fin 2048) (a : Fin 1024) (I : S4096x2048.Idx)
    (h0 : (I 0).val = t.val % 2 * 2048 + k.val) (h1 : (I 1).val = t.val / 2 % 2 * 1024 + a.val) :
    (iblk m c 1 t : Vec Ideal BW .bf16) (ix2 k a) = W m c I := by
  have e := idx t
  refine congrArg (V m c main_arg1) (funext fun b => Fin.ext ?_) |>.trans (congrFun (V_main_arg1 m c) I)
  match b with
  | ⟨0, _⟩ => show win0_1.index t (0 : Fin 2) * 2048 + 1 * k.val = (I 0).val; omega
  | ⟨1, _⟩ => show win0_1.index t (1 : Fin 2) * 1024 + 1 * a.val = (I 1).val; omega

/-! ### The result -/

theorem G_apply (i : S10240x2048.Idx) :
    G2 m c i = ∑ x : Fin 4096, X m c (ix2 x (i 0)) * W m c (ix2 x (i 1)) := by
  have b0 : (i 0).val < 10240 := (i 0).isLt
  have b1 : (i 1).val < 2048 := (i 1).isLt
  have eN : cfg0.N = 40 := N_0
  have hlt : pt2Of i < cfg0.N := by show 2 * (2 * ((i 0).val / 1024 - 0) + 1 * ((i 1).val / 1024 - 0)) + 1 < _; omega
  refine (dif_pos hlt).trans ((congrArg (fun z => z.1 (loc2Of i)) (outsAt0_sweep m c _ hlt).symm).trans ?_)
  refine blocked (K := 2) (t := 2048) (by decide) (by decide) (fun n h => (outsAt0 m c n h).2 (loc2Of i))
    (fun n h => (outsAt0 m c n h).1 (loc2Of i)) (fun n h => term (iblk m c 0 ⟨n, h⟩) (iblk m c 1 ⟨n, h⟩) (loc2Of i))
    (fun n h h0 => ?_) (fun n h h0 h4 => absurd h4 (by omega)) (fun n h h4 => ?_) (run2Of i) hlt _ (fun j h => ?_)
  · rw [outsAt0_A m c ⟨n, h⟩ h0 (by dsimp only; omega)]; dsimp only; exact first ..
  · rw [outsAt0_B m c ⟨n, h⟩ (by dsimp only; omega) h4]; dsimp only; exact last ..
  · have hj := j.isLt
    refine Finset.sum_congr rfl fun k _ => ?_
    have hk := k.isLt
    refine congrArg₂ (· * ·) (readX m c _ k _ _ ?_ ?_) (readW m c _ k _ _ ?_ ?_)
    · show j.val * 2048 + k.val = (2 * (2 * ((i 0).val / 1024 - 0) + 1 * ((i 1).val / 1024 - 0)) + j.val) % 2 * 2048 + k.val
      omega
    · show (i 0).val = (2 * (2 * ((i 0).val / 1024 - 0) + 1 * ((i 1).val / 1024 - 0)) + j.val) / 4 * 1024 + (i 0).val % 1024
      omega
    · show j.val * 2048 + k.val = (2 * (2 * ((i 0).val / 1024 - 0) + 1 * ((i 1).val / 1024 - 0)) + j.val) % 2 * 2048 + k.val
      omega
    · show (i 1).val = (2 * (2 * ((i 0).val / 1024 - 0) + 1 * ((i 1).val / 1024 - 0)) + j.val) / 2 % 2 * 1024 + (i 1).val % 1024
      omega

end Cert.Kernel3Ideal.Prod

namespace Cert.Reference3Ideal.Prod

open Cert.Reference3Ideal Idealize.ShloMosaic Idealize.ShloMosaic.TcCoe Idealize.SL.Sem Idealize.ShloMosaic.StableHlo

theorem frame : Cert.quiescent_Reference3Ideal := fun m ρ _ =>
  (θ_run defs _ _).mono (fun r h => ⟨fun c => (h c).2, sem_eq_zero_of_no_sems (by decide) r.2⟩) (Value.run (F := Ideal) m ρ)

theorem apply (x : S4096x10240.Idx → Ideal .bf16) (w : S4096x2048.Idx → Ideal .bf16) (i : S10240x2048.Idx) :
    Read.val_main_v8 (F := Ideal) x w i = ∑ k : Fin 4096, x (ix2 k (i 0)) * w (ix2 k (i 1)) := by
  show Read.val_main_v7 (F := Ideal) x w i = _
  rw [Read.val_main_v7_apply, Read.val_main_v6_apply, Read.val_main_v5_apply]
  refine Finset.sum_congr rfl fun k _ => congrArg₂ (· * ·) ?_ ?_
  · exact congrArg x (funext fun d => match d with | ⟨0, _⟩ => rfl | ⟨1, _⟩ => rfl)
  · exact congrArg w (funext fun d => match d with | ⟨0, _⟩ => rfl | ⟨1, _⟩ => rfl)

theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v8)
        = Read.val_main_v8 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (Read.val_main_v8_eq ..), (h c).2⟩) (Value.run (F := Ideal) m ρ)

/-- The kernel's result is the reference's. -/
theorem algebraic : Cert.algebraic_Kernel3Ideal_Reference3Ideal := by
  intro m ρ m' ρ' _ hag
  refine ⟨fun c => Cert.Kernel3Ideal.Value.G2 m c, Cert.Kernel3Ideal.Value.run m ρ,
    (θ_run defs _ _).mono (fun r h c => ?_) (run m' ρ')⟩
  obtain ⟨e0, e1⟩ := hag c
  obtain ⟨h0, hr⟩ := h c
  rw [e0, e1] at h0
  exact ⟨h0.trans (funext fun i => (apply _ _ i).trans (Cert.Kernel3Ideal.Prod.G_apply m c i).symm), hr⟩

end Cert.Reference3Ideal.Prod

end
-- ==== Proof.GxKv.lean ====
/-
The shared keys and values, for their input: the kernel's product, block by block, and the reference's.
-/
module

public import proofs.«01_k».proof.Defs
public import proofs.«01_k».proof.Proof.Fold
public import proofs.«01_k».proof.Proof.Gen.Kernel4Ideal.Value
public import proofs.«01_k».proof.Proof.Gen.Reference4Ideal.Run
public import proofs.«01_k».proof.Proof.Gen.Reference4Ideal.Read
public import Idealize.ShloMosaic.Lib.Quiescent

@[expose] public section

set_option maxRecDepth 16384

noncomputable section

namespace Cert.Kernel4Ideal.Prod

open Cert.Kernel4Ideal Cert.Kernel4Ideal.Gen Cert.Kernel4Ideal.Value Cert.Fold Idealize.ShloMosaic
  Idealize.ShloMosaic.TcCoe Idealize.SL.Sem Idealize.ShloMosaic.StableHlo

abbrev BX := S1024x1536
abbrev BW := S1x1024x1536
abbrev BO := S1024x1024

/-- One block's product. -/
def term (x : Vec Ideal BX .bf16) (w : Vec Ideal BW .bf16) (y : BO.Idx) : EReal :=
  ∑ k : Fin 1536, x (ix2 (y 0) k) * w (ix3 (0 : Fin 1) (y 1) k)

theorem mm (x : BX.Idx → Ideal .bf16) (w : BW.Idx → Ideal .bf16) (y : BO.Idx) :
    matmul (F := Ideal) dot_S1024x1536_S1024x1536_S1024x1024_1_1_0_0_n_n none x
      (shapeCast S1024x1536 w shapeCasts_S1x1024x1536_S1024x1536) (constant BO .f32 0x00000000#32) y = term x w y := by
  refine (Ideal.matmul_apply₁_of dot_S1024x1536_S1024x1536_S1024x1024_1_1_0_0_n_n (a := (1 : Fin 2)) rfl (K := 1536) rfl x _ _ y
    (fun k => ix2 (y 0) k) (fun k => ix2 (y 1) k)
    (fun k => funext fun d => match d with | ⟨0, _⟩ => rfl | ⟨1, _⟩ => rfl)
    (fun k => funext fun d => match d with | ⟨0, _⟩ => rfl | ⟨1, _⟩ => rfl)).trans
    (((congrArg (· + _) Ideal.ofBits_zero_f32).trans (zero_add _)).trans ?_)
  refine Finset.sum_congr rfl fun k _ => congrArg (x (ix2 (y 0) k) * ·) ?_
  refine shapeCast_apply w _ _ (ix3 (0 : Fin 1) (y 1) k) ?_
  rw [Shape.rowMajor_val_three, Shape.rowMajor_val_two]
  show (0 * 1024 + (y 1).val) * 1536 + k.val = (y 1).val * 1536 + k.val
  omega

/-! ### What a step leaves -/

section Steps

variable (c : Dev nD) (i : grid0.Coords) (a3 : Memref sig .tc .vmem BX .bf16) (h3 : a3.IsWhole)
  (a4 : Memref sig .tc .vmem BW .bf16) (h4 : a4.IsWhole) (a5 : Memref sig .tc .vmem BO .bf16) (h5 : a5.IsWhole)
  (a6 : Memref sig .tc .vmem BO .f32) (h6 : a6.IsWhole)

/-- The first step of a run leaves its product. -/
theorem first (hc0 : cond0_0 i) (hc1 : ¬cond0_1 i) (hc2 : ¬cond0_2 i) (x : Vec Ideal BX .bf16) (w : Vec Ideal BW .bf16) (y : BO.Idx) :
    sout0_A_0 c i a3 h3 a4 h4 a5 h5 a6 h6 hc0 hc1 hc2 x w y = term x w y := by
  unfold sout0_A_0
  rw [View.read_writes_eq_canon _ _ _ (scover0_A_0 c i a3 h3 a4 h4 a5 h5 a6 h6 hc0 hc1 hc2 x w)]
  unfold kernelRun0_A
  dsimp only
  rw [View.canon_unit_zero hz]
  unfold k0_pay1
  simp only [View.readAt_eq_ld, h3.read_unread, h4.read_unread, View.ld_unit_zero (S := BX) hz, View.ld_unit_zero (S := BW) hz3,
    shapeCast_self]
  exact mm x w y

/-- A step between adds its product. -/
theorem between (hc0 : ¬cond0_0 i) (hc1 : cond0_1 i) (hc2 : ¬cond0_2 i) (x : Vec Ideal BX .bf16) (w : Vec Ideal BW .bf16)
    (s : Vec Ideal BO .f32) (y : BO.Idx) :
    sout0_B_0 c i a3 h3 a4 h4 a5 h5 a6 h6 hc0 hc1 hc2 x w s y = s y + term x w y := by
  unfold sout0_B_0
  rw [View.read_writes_eq_canon _ _ _ (scover0_B_0 c i a3 h3 a4 h4 a5 h5 a6 h6 hc0 hc1 hc2 x w s)]
  unfold kernelRun0_B
  dsimp only
  rw [View.canon_unit_zero hz]
  unfold k0_pay2
  simp only [View.readAt_eq_ld, h3.read_unread, h4.read_unread, h6.read_unread, View.ld_unit_zero (S := BX) hz,
    View.ld_unit_zero (S := BW) hz3, View.ld_unit_zero (S := BO) hz, shapeCast_self]
  exact congrArg (s y + ·) (mm x w y)

/-- The last step writes the sum of what it finds and its product. -/
theorem last (hc0 : ¬cond0_0 i) (hc1 : ¬cond0_1 i) (hc2 : cond0_2 i) (x : Vec Ideal BX .bf16) (w : Vec Ideal BW .bf16)
    (s : Vec Ideal BO .f32) (y : BO.Idx) :
    out0_C_2 c i a3 h3 a4 h4 a5 h5 a6 h6 hc0 hc1 hc2 x w s y = s y + term x w y := by
  unfold out0_C_2
  rw [View.read_writes_eq_canon _ _ _ (cover0_C_2 c i a3 h3 a4 h4 a5 h5 a6 h6 hc0 hc1 hc2 x w s)]
  unfold kernelRun0_C
  dsimp only
  rw [View.canon_unit_zero hz]
  unfold k0_pay3
  simp only [View.readAt_eq_ld, h3.read_unread, h4.read_unread, h6.read_unread, View.ld_unit_zero (S := BX) hz,
    View.ld_unit_zero (S := BW) hz3, View.ld_unit_zero (S := BO) hz, shapeCast_self]
  exact congrArg (s y + ·) (mm x w y)

end Steps

/-! ### The blocks a step reads -/

theorem idx : ∀ t : Fin cfg0.N, (win0_0.index t (0 : Fin 2) = t.val / 8 ∧ win0_0.index t (1 : Fin 2) = t.val % 4)
    ∧ (win0_1.index t (0 : Fin 3) = t.val % 4 ∧ win0_1.index t (1 : Fin 3) = t.val / 4 % 2 ∧ win0_1.index t (2 : Fin 3) = 0) :=
  (by decide +kernel : ∀ t : Fin grid0.N, _)

variable (m : (ℓ : Loc nD τ sig) → Buf (Elt Ideal) ℓ) (c : Dev nD)

/-- The kernel's two arguments. -/
def X : S4096x6144.Idx → EReal := m ((c : Thread nD τ).loc main_arg0)
def W : S4x2048x1536.Idx → EReal := m ((c : Thread nD τ).loc main_arg1)

theorem readX (t : Fin cfg0.N) (a : Fin 1024) (k : Fin 1536) (I : S4096x6144.Idx)
    (h0 : (I 0).val = t.val / 8 * 1024 + a.val) (h1 : (I 1).val = t.val % 4 * 1536 + k.val) :
    (iblk m c 0 t : Vec Ideal BX .bf16) (ix2 a k) = X m c I := by
  have e := idx t
  refine congrArg (V m c main_arg0) (funext fun b => Fin.ext ?_) |>.trans (congrFun (V_main_arg0 m c) I)
  match b with
  | ⟨0, _⟩ => show win0_0.index t (0 : Fin 2) * 1024 + 1 * a.val = (I 0).val; omega
  | ⟨1, _⟩ => show win0_0.index t (1 : Fin 2) * 1536 + 1 * k.val = (I 1).val; omega

theorem readW (t : Fin cfg0.N) (a : Fin 1024) (k : Fin 1536) (I : S4x2048x1536.Idx)
    (h0 : (I 0).val = t.val % 4) (h1 : (I 1).val = t.val / 4 % 2 * 1024 + a.val) (h2 : (I 2).val = k.val) :
    (iblk m c 1 t : Vec Ideal BW .bf16) (ix3 (0 : Fin 1) a k) = W m c I := by
  have e := idx t
  refine congrArg (V m c main_arg1) (funext fun b => Fin.ext ?_) |>.trans (congrFun (V_main_arg1 m c) I)
  match b with
  | ⟨0, _⟩ => show win0_1.index t (0 : Fin 3) * 1 + 1 * 0 = (I 0).val; omega
  | ⟨1, _⟩ => show win0_1.index t (1 : Fin 3) * 1024 + 1 * a.val = (I 1).val; omega
  | ⟨2, _⟩ => show win0_1.index t (2 : Fin 3) * 1536 + 1 * k.val = (I 2).val; omega

/-! ### The result -/

/-- Entry (`r`, `n`) of the weight whose columns the stack holds in four parts. -/
def colIx (r : Fin 2048) (n : Fin 6144) : S4x2048x1536.Idx :=
  ix3 (⟨n.val / 1536, by have := n.isLt; omega⟩ : Fin 4) r (⟨n.val % 1536, Nat.mod_lt _ (by decide)⟩ : Fin 1536)

theorem G_apply (i : S4096x2048.Idx) :
    G2 m c i = ∑ x : Fin 6144, X m c (ix2 (i 0) x) * W m c (colIx (i 1) x) := by
  have b0 : (i 0).val < 4096 := (i 0).isLt
  have b1 : (i 1).val < 2048 := (i 1).isLt
  have eN : cfg0.N = 32 := N_0
  have hlt : pt2Of i < cfg0.N := by show 4 * (2 * ((i 0).val / 1024 - 0) + 1 * ((i 1).val / 1024 - 0)) + 3 < _; omega
  refine (dif_pos hlt).trans ((congrArg (fun z => z.1 (loc2Of i)) (outsAt0_sweep m c _ hlt).symm).trans ?_)
  refine blocked (K := 4) (t := 1536) (by decide) (by decide) (fun n h => (outsAt0 m c n h).2 (loc2Of i))
    (fun n h => (outsAt0 m c n h).1 (loc2Of i)) (fun n h => term (iblk m c 0 ⟨n, h⟩) (iblk m c 1 ⟨n, h⟩) (loc2Of i))
    (fun n h h0 => ?_) (fun n h h0 h4 => ?_) (fun n h h4 => ?_) (run2Of i) hlt _ (fun j h => ?_)
  · rw [outsAt0_A m c ⟨n, h⟩ h0 (by dsimp only; omega) (by dsimp only; omega)]; dsimp only; exact first ..
  · rw [outsAt0_B m c ⟨n, h⟩ h0 (by dsimp only; omega) (by dsimp only; omega)]; dsimp only; exact between ..
  · rw [outsAt0_C m c ⟨n, h⟩ (by dsimp only; omega) (by dsimp only; omega) h4]; dsimp only; exact last ..
  · have hj := j.isLt
    refine Finset.sum_congr rfl fun k _ => ?_
    have hk := k.isLt
    refine congrArg₂ (· * ·) (readX m c _ _ k _ ?_ ?_) (readW m c _ _ k _ ?_ ?_ ?_)
    · show (i 0).val = (4 * (2 * ((i 0).val / 1024 - 0) + 1 * ((i 1).val / 1024 - 0)) + j.val) / 8 * 1024 + (i 0).val % 1024
      omega
    · show j.val * 1536 + k.val = (4 * (2 * ((i 0).val / 1024 - 0) + 1 * ((i 1).val / 1024 - 0)) + j.val) % 4 * 1536 + k.val
      omega
    · show (j.val * 1536 + k.val) / 1536 = (4 * (2 * ((i 0).val / 1024 - 0) + 1 * ((i 1).val / 1024 - 0)) + j.val) % 4
      omega
    · show (i 1).val = (4 * (2 * ((i 0).val / 1024 - 0) + 1 * ((i 1).val / 1024 - 0)) + j.val) / 4 % 2 * 1024 + (i 1).val % 1024
      omega
    · show (j.val * 1536 + k.val) % 1536 = k.val
      omega

end Cert.Kernel4Ideal.Prod

namespace Cert.Reference4Ideal.Prod

open Cert.Reference4Ideal Idealize.ShloMosaic Idealize.ShloMosaic.TcCoe Idealize.SL.Sem Idealize.ShloMosaic.StableHlo

theorem frame : Cert.quiescent_Reference4Ideal := fun m ρ _ =>
  (θ_run defs _ _).mono (fun r h => ⟨fun c => (h c).2, sem_eq_zero_of_no_sems (by decide) r.2⟩) (Value.run (F := Ideal) m ρ)

theorem apply (x : S4096x6144.Idx → Ideal .bf16) (w : S4x2048x1536.Idx → Ideal .bf16) (i : S4096x2048.Idx) :
    Read.val_main_v7 (F := Ideal) x w i = ∑ k : Fin 6144, x (ix2 (i 0) k) * w (Cert.Kernel4Ideal.Prod.colIx (i 1) k) := by
  show Read.val_main_v6 (F := Ideal) x w i = _
  rw [Read.val_main_v6_apply]
  refine Finset.sum_congr rfl fun k _ => congrArg₂ (· * ·) ?_ ?_
  · exact congrArg x (funext fun d => match d with | ⟨0, _⟩ => rfl | ⟨1, _⟩ => rfl)
  · rw [Read.val_main_v3_apply, Read.val_main_v2_apply]
    have hk := k.isLt
    refine congrArg w (funext fun d => Fin.ext ?_)
    match d with
    | ⟨0, _⟩ => show ((i 1).val * 6144 + k.val) / 1536 % 4 = k.val / 1536; omega
    | ⟨1, _⟩ => show ((i 1).val * 6144 + k.val) / 6144 = (i 1).val; omega
    | ⟨2, _⟩ => show ((i 1).val * 6144 + k.val) % 1536 = k.val % 1536; omega

theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v7)
        = Read.val_main_v7 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (Read.val_main_v7_eq ..), (h c).2⟩) (Value.run (F := Ideal) m ρ)

/-- The kernel's result is the reference's. -/
theorem algebraic : Cert.algebraic_Kernel4Ideal_Reference4Ideal := by
  intro m ρ m' ρ' _ hag
  refine ⟨fun c => Cert.Kernel4Ideal.Value.G2 m c, Cert.Kernel4Ideal.Value.run m ρ,
    (θ_run defs _ _).mono (fun r h c => ?_) (run m' ρ')⟩
  obtain ⟨e0, e1⟩ := hag c
  obtain ⟨h0, hr⟩ := h c
  rw [e0, e1] at h0
  exact ⟨h0.trans (funext fun i => (apply _ _ i).trans (Cert.Kernel4Ideal.Prod.G_apply m c i).symm), hr⟩

end Cert.Reference4Ideal.Prod

end
-- ==== Proof.GwKv.lean ====
/-
The shared keys and values, for their weight: the kernel's product, block by block, and the reference's.
-/
module

public import proofs.«01_k».proof.Defs
public import proofs.«01_k».proof.Proof.Fold
public import proofs.«01_k».proof.Proof.Gen.Kernel5Ideal.Value
public import proofs.«01_k».proof.Proof.Gen.Reference5Ideal.Run
public import proofs.«01_k».proof.Proof.Gen.Reference5Ideal.Read
public import Idealize.ShloMosaic.Lib.Quiescent

@[expose] public section

set_option maxRecDepth 16384

noncomputable section

namespace Cert.Kernel5Ideal.Prod

open Cert.Kernel5Ideal Cert.Kernel5Ideal.Gen Cert.Kernel5Ideal.Value Cert.Fold Idealize.ShloMosaic
  Idealize.ShloMosaic.TcCoe Idealize.SL.Sem Idealize.ShloMosaic.StableHlo

abbrev BX := S2048x1024
abbrev BW := S2048x768
abbrev BO := S1x1024x768
abbrev BS := S1024x768

/-- One block's product. -/
def term (x : Vec Ideal BX .bf16) (w : Vec Ideal BW .bf16) (y : BS.Idx) : EReal :=
  ∑ k : Fin 2048, x (ix2 k (y 0)) * w (ix2 k (y 1))

theorem mm (x : BX.Idx → Ideal .bf16) (w : BW.Idx → Ideal .bf16) (y : BS.Idx) :
    matmul (F := Ideal) dot_S2048x1024_S2048x768_S1024x768_0_0_1_1_n_n none x w (constant BS .f32 0x00000000#32) y = term x w y :=
  (Ideal.matmul_apply₁_of dot_S2048x1024_S2048x768_S1024x768_0_0_1_1_n_n (a := (0 : Fin 2)) rfl (K := 2048) rfl x w _ y
    (fun k => ix2 k (y 0)) (fun k => ix2 k (y 1))
    (fun k => funext fun d => match d with | ⟨0, _⟩ => rfl | ⟨1, _⟩ => rfl)
    (fun k => funext fun d => match d with | ⟨0, _⟩ => rfl | ⟨1, _⟩ => rfl)).trans
    ((congrArg (· + _) Ideal.ofBits_zero_f32).trans (zero_add _))

/-! ### What a step leaves -/

section Steps

variable (c : Dev nD) (i : grid0.Coords) (a3 : Memref sig .tc .vmem BX .bf16) (h3 : a3.IsWhole)
  (a4 : Memref sig .tc .vmem BW .bf16) (h4 : a4.IsWhole) (a5 : Memref sig .tc .vmem BO .bf16) (h5 : a5.IsWhole)
  (a6 : Memref sig .tc .vmem BS .f32) (h6 : a6.IsWhole)

/-- The first step of a run leaves its product. -/
theorem first (hc0 : cond0_0 i) (hc1 : ¬cond0_1 i) (hc2 : ¬cond0_2 i) (x : Vec Ideal BX .bf16) (w : Vec Ideal BW .bf16) (y : BS.Idx) :
    sout0_A_0 c i a3 h3 a4 h4 a5 h5 a6 h6 hc0 hc1 hc2 x w y = term x w y := by
  unfold sout0_A_0
  rw [View.read_writes_eq_canon _ _ _ (scover0_A_0 c i a3 h3 a4 h4 a5 h5 a6 h6 hc0 hc1 hc2 x w)]
  unfold kernelRun0_A
  dsimp only
  rw [View.canon_unit_zero hz]
  unfold k0_pay1
  simp only [View.readAt_eq_ld, h3.read_unread, h4.read_unread, View.ld_unit_zero (S := BX) hz, View.ld_unit_zero (S := BW) hz,
    shapeCast_self]
  exact mm x w y

/-- The last step writes the sum of what it finds and its product. -/
theorem last (hc0 : ¬cond0_0 i) (hc1 : ¬cond0_1 i) (hc2 : cond0_2 i) (x : Vec Ideal BX .bf16) (w : Vec Ideal BW .bf16)
    (s : Vec Ideal BS .f32) (y : BO.Idx) :
    out0_B_2 c i a3 h3 a4 h4 a5 h5 a6 h6 hc0 hc1 hc2 x w s y = s (ix2 (y 1) (y 2)) + term x w (ix2 (y 1) (y 2)) := by
  unfold out0_B_2
  rw [View.read_writes_eq_canon _ _ _ (cover0_B_2 c i a3 h3 a4 h4 a5 h5 a6 h6 hc0 hc1 hc2 x w s)]
  unfold kernelRun0_B
  dsimp only
  rw [View.canon_unit_zero hz3]
  unfold k0_pay3
  simp only [View.readAt_eq_ld, h3.read_unread, h4.read_unread, h6.read_unread, View.ld_unit_zero (S := BX) hz,
    View.ld_unit_zero (S := BW) hz, View.ld_unit_zero (S := BS) hz]
  refine (shapeCast_apply _ _ y (ix2 (y 1) (y 2)) ?_).trans (congrArg (s (ix2 (y 1) (y 2)) + ·) (mm x w _))
  rw [Shape.rowMajor_val_three, Shape.rowMajor_val_two]
  have h0 : (y 0).val < 1 := (y 0).isLt
  show (y 1).val * 768 + (y 2).val = ((y 0).val * 1024 + (y 1).val) * 768 + (y 2).val
  omega

end Steps

/-! ### The blocks a step reads -/

theorem idx : ∀ t : Fin cfg0.N, (win0_0.index t (0 : Fin 2) = t.val % 2 ∧ win0_0.index t (1 : Fin 2) = t.val / 16)
    ∧ (win0_1.index t (0 : Fin 2) = t.val % 2 ∧ win0_1.index t (1 : Fin 2) = t.val / 2 % 8)
    ∧ (win0_2.index t (0 : Fin 3) = t.val / 2 % 8 / 2 ∧ win0_2.index t (1 : Fin 3) = t.val / 16
      ∧ win0_2.index t (2 : Fin 3) = t.val / 2 % 2) :=
  (by decide +kernel : ∀ t : Fin grid0.N, _)

variable (m : (ℓ : Loc nD τ sig) → Buf (Elt Ideal) ℓ) (c : Dev nD)

/-- The kernel's two arguments. -/
def X : S4096x2048.Idx → EReal := m ((c : Thread nD τ).loc main_arg0)
def W : S4096x6144.Idx → EReal := m ((c : Thread nD τ).loc main_arg1)

theorem readX (t : Fin cfg0.N) (k : Fin 2048) (a : Fin 1024) (I : S4096x2048.Idx)
    (h0 : (I 0).val = t.val % 2 * 2048 + k.val) (h1 : (I 1).val = t.val / 16 * 1024 + a.val) :
    (iblk m c 0 t : Vec Ideal BX .bf16) (ix2 k a) = X m c I := by
  have e := idx t
  refine congrArg (V m c main_arg0) (funext fun b => Fin.ext ?_) |>.trans (congrFun (V_main_arg0 m c) I)
  match b with
  | ⟨0, _⟩ => show win0_0.index t (0 : Fin 2) * 2048 + 1 * k.val = (I 0).val; omega
  | ⟨1, _⟩ => show win0_0.index t (1 : Fin 2) * 1024 + 1 * a.val = (I 1).val; omega

theorem readW (t : Fin cfg0.N) (k : Fin 2048) (a : Fin 768) (I : S4096x6144.Idx)
    (h0 : (I 0).val = t.val % 2 * 2048 + k.val) (h1 : (I 1).val = t.val / 2 % 8 * 768 + a.val) :
    (iblk m c 1 t : Vec Ideal BW .bf16) (ix2 k a) = W m c I := by
  have e := idx t
  refine congrArg (V m c main_arg1) (funext fun b => Fin.ext ?_) |>.trans (congrFun (V_main_arg1 m c) I)
  match b with
  | ⟨0, _⟩ => show win0_1.index t (0 : Fin 2) * 2048 + 1 * k.val = (I 0).val; omega
  | ⟨1, _⟩ => show win0_1.index t (1 : Fin 2) * 768 + 1 * a.val = (I 1).val; omega

/-! ### The result -/

/-- The result: the weight's gradient, its columns in four parts. -/
def G : S4x2048x1536.Idx → EReal := fun i =>
  ∑ x : Fin 4096, X m c (ix2 x (i 1)) * W m c (ix2 x (⟨(i 0).val * 1536 + (i 2).val, by
    have h0 : (i 0).val < 4 := (i 0).isLt
    have h2 : (i 2).val < 1536 := (i 2).isLt
    omega⟩ : Fin 6144))

/-- What the last step of a run writes is its block of the result. -/
theorem block (t : Fin cfg0.N) (ht : t.val % 2 = 1) (y : BO.Idx) (i : S4x2048x1536.Idx) (h0 : (i 0).val = t.val / 2 % 8 / 2)
    (h1 : (i 1).val = t.val / 16 * 1024 + (y 1).val) (h2 : (i 2).val = t.val / 2 % 2 * 768 + (y 2).val) :
    (outsAt0 m c t.val t.isLt).1 y = G m c i := by
  have eN : cfg0.N = 32 := N_0
  obtain ⟨n, hn⟩ := t
  obtain ⟨r, rfl⟩ : ∃ r, n = 2 * r + (2 - 1) := ⟨n / 2, by dsimp only at ht; omega⟩
  dsimp only at h0 h1 h2
  refine blocked (K := 2) (t := 2048) (by decide) (by decide) (fun n h => (outsAt0 m c n h).2 (ix2 (y 1) (y 2)))
    (fun n h => (outsAt0 m c n h).1 y) (fun n h => term (iblk m c 0 ⟨n, h⟩) (iblk m c 1 ⟨n, h⟩) (ix2 (y 1) (y 2)))
    (fun n h h0 => ?_) (fun n h h0 h4 => absurd h4 (by omega)) (fun n h h4 => ?_) r hn _ (fun j h => ?_)
  · rw [outsAt0_A m c ⟨n, h⟩ h0 (by dsimp only; omega)]; dsimp only; exact first ..
  · rw [outsAt0_B m c ⟨n, h⟩ (by dsimp only; omega) h4]; dsimp only; exact last ..
  · have hj := j.isLt
    refine Finset.sum_congr rfl fun k _ => ?_
    have hk := k.isLt
    refine congrArg₂ (· * ·) (readX m c _ k _ _ ?_ ?_) (readW m c _ k _ _ ?_ ?_)
    · show j.val * 2048 + k.val = (2 * r + j.val) % 2 * 2048 + k.val
      omega
    · show (i 1).val = (2 * r + j.val) / 16 * 1024 + (y 1).val
      omega
    · show j.val * 2048 + k.val = (2 * r + j.val) % 2 * 2048 + k.val
      omega
    · show (i 0).val * 1536 + (i 2).val = (2 * r + j.val) / 2 % 8 * 768 + (y 2).val
      omega

theorem mem_blk (t : Fin cfg0.N) (i : S4x2048x1536.Idx) :
    i ∈ ((cfg0.win 2).blk t).view.set ↔ ∀ a : Fin 3, win0_2.index t a * BO.size a ≤ (i a).val
      ∧ (i a).val < win0_2.index t a * BO.size a + BO.size a := by
  show i ∈ ((View.whole main_v0).slice (win0_2.rect t)).set ↔ _
  rw [View.set_slice_whole, Rect.mem_set_unit]
  exact Iff.rfl

/-- The array after the run: the blocks written back tile it. -/
theorem final (c : Dev nD) : (dats m 0 c).arrAt 2 cfg0.N = G m c := by
  refine (dats m 0 c).arrAt_eq_of_cover 2 _ (fun t hf => ?_) (fun i => ?_)
  · have ht : t.val % 2 = 1 := (flush0_2 t).mp hf
    have e := idx t
    rw [flushed2]
    funext y
    refine block m c t ht ((cfg0.win 2).xinj (grid0.coords t) y) _ ?_ ?_ ?_
    · have h0 : (y 0).val < 1 := (y 0).isLt
      show win0_2.index t (0 : Fin 3) * 1 + 1 * (y 0).val = _
      omega
    · show win0_2.index t (1 : Fin 3) * 1024 + 1 * (y 1).val = t.val / 16 * 1024 + (y 1).val
      omega
    · show win0_2.index t (2 : Fin 3) * 768 + 1 * (y 2).val = t.val / 2 % 2 * 768 + (y 2).val
      omega
  · have eN : cfg0.N = 32 := N_0
    have h0 : (i 0).val < 4 := (i 0).isLt
    have h1 : (i 1).val < 2048 := (i 1).isLt
    have h2 : (i 2).val < 1536 := (i 2).isLt
    refine ⟨⟨16 * ((i 1).val / 1024) + 2 * (2 * (i 0).val + (i 2).val / 768) + 1, by omega⟩, (flush0_2 _).mpr (by dsimp only; omega),
      (mem_blk _ i).mpr fun a => ?_⟩
    have e := idx ⟨16 * ((i 1).val / 1024) + 2 * (2 * (i 0).val + (i 2).val / 768) + 1, by omega⟩
    dsimp only at e
    match a with
    | ⟨0, _⟩ => show win0_2.index _ (0 : Fin 3) * 1 ≤ (i 0).val ∧ (i 0).val < win0_2.index _ (0 : Fin 3) * 1 + 1; omega
    | ⟨1, _⟩ => show win0_2.index _ (1 : Fin 3) * 1024 ≤ (i 1).val ∧ (i 1).val < win0_2.index _ (1 : Fin 3) * 1024 + 1024; omega
    | ⟨2, _⟩ => show win0_2.index _ (2 : Fin 3) * 768 ≤ (i 2).val ∧ (i 2).val < win0_2.index _ (2 : Fin 3) * 768 + 768; omega

theorem run (ρ : Dev nD → PrngReg) :
    θ_run (defs (F := Ideal)) (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (run_blocks m ρ)

end Cert.Kernel5Ideal.Prod

namespace Cert.Reference5Ideal.Prod

open Cert.Reference5Ideal Idealize.ShloMosaic Idealize.ShloMosaic.TcCoe Idealize.SL.Sem Idealize.ShloMosaic.StableHlo

theorem frame : Cert.quiescent_Reference5Ideal := fun m ρ _ =>
  (θ_run defs _ _).mono (fun r h => ⟨fun c => (h c).2, sem_eq_zero_of_no_sems (by decide) r.2⟩) (Value.run (F := Ideal) m ρ)

theorem apply (x : S4096x2048.Idx → Ideal .bf16) (w : S4096x6144.Idx → Ideal .bf16) (i : S4x2048x1536.Idx) :
    Read.val_main_v10 (F := Ideal) x w i = ∑ k : Fin 4096, x (ix2 k (i 1)) * w (ix2 k (⟨(i 0).val * 1536 + (i 2).val, by
      have h0 : (i 0).val < 4 := (i 0).isLt
      have h2 : (i 2).val < 1536 := (i 2).isLt
      omega⟩ : Fin 6144)) := by
  show Read.val_main_v9 (F := Ideal) x w i = _
  rw [Read.val_main_v9_apply, Read.val_main_v8_apply, Read.val_main_v7_apply, Read.val_main_v6_apply]
  have h0 : (i 0).val < 4 := (i 0).isLt
  have h1 : (i 1).val < 2048 := (i 1).isLt
  have h2 : (i 2).val < 1536 := (i 2).isLt
  refine Finset.sum_congr rfl fun k _ => (mul_comm _ _).trans (congrArg₂ (· * ·) ?_ ?_)
  · refine congrArg x (funext fun d => Fin.ext ?_)
    match d with
    | ⟨0, _⟩ => rfl
    | ⟨1, _⟩ => show (((i 1).val * 4 + (i 0).val) * 1536 + (i 2).val) / 6144 = (i 1).val; omega
  · refine congrArg w (funext fun d => Fin.ext ?_)
    match d with
    | ⟨0, _⟩ => rfl
    | ⟨1, _⟩ => show (((i 1).val * 4 + (i 0).val) * 1536 + (i 2).val) % 6144 = (i 0).val * 1536 + (i 2).val; omega

theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v10)
        = Read.val_main_v10 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (Read.val_main_v10_eq ..), (h c).2⟩) (Value.run (F := Ideal) m ρ)

/-- The kernel's result is the reference's. -/
theorem algebraic : Cert.algebraic_Kernel5Ideal_Reference5Ideal := by
  intro m ρ m' ρ' _ hag
  refine ⟨fun c => Cert.Kernel5Ideal.Prod.G m c, Cert.Kernel5Ideal.Prod.run m ρ,
    (θ_run defs _ _).mono (fun r h c => ?_) (run m' ρ')⟩
  obtain ⟨e0, e1⟩ := hag c
  obtain ⟨h0, hr⟩ := h c
  rw [e0, e1] at h0
  exact ⟨h0.trans (funext fun i => apply _ _ i), hr⟩

end Cert.Reference5Ideal.Prod

end
-- ==== Proof.GwOutA.lean ====
/-
The output projection of the scan, for its weight: the kernel's product, block by block, and the reference's.
-/
module

public import proofs.«01_k».proof.Defs
public import proofs.«01_k».proof.Proof.Fold
public import proofs.«01_k».proof.Proof.Gen.Kernel6Ideal.Value
public import proofs.«01_k».proof.Proof.Gen.Reference6Ideal.Run
public import proofs.«01_k».proof.Proof.Gen.Reference6Ideal.Read
public import Idealize.ShloMosaic.Lib.Quiescent

@[expose] public section

set_option maxRecDepth 16384

noncomputable section

namespace Cert.Kernel6Ideal.Prod

open Cert.Kernel6Ideal Cert.Kernel6Ideal.Gen Cert.Kernel6Ideal.Value Cert.Fold Idealize.ShloMosaic
  Idealize.ShloMosaic.TcCoe Idealize.SL.Sem Idealize.ShloMosaic.StableHlo

abbrev BX := S2048x1024
abbrev BW := S2048x1024
abbrev BS := S1024x1024
abbrev BO := S1x1024x1024

/-- One block's product. -/
def term (x : Vec Ideal BX .bf16) (w : Vec Ideal BW .bf16) (y : BS.Idx) : EReal :=
  ∑ k : Fin 2048, x (ix2 k (y 0)) * w (ix2 k (y 1))

theorem mm (x : BX.Idx → Ideal .bf16) (w : BW.Idx → Ideal .bf16) (y : BS.Idx) :
    matmul (F := Ideal) dot_S2048x1024_S2048x1024_S1024x1024_0_0_1_1_n_n none x w (constant BS .f32 0x00000000#32) y = term x w y :=
  (Ideal.matmul_apply₁_of dot_S2048x1024_S2048x1024_S1024x1024_0_0_1_1_n_n (a := (0 : Fin 2)) rfl (K := 2048) rfl x w _ y
    (fun k => ix2 k (y 0)) (fun k => ix2 k (y 1))
    (fun k => funext fun d => match d with | ⟨0, _⟩ => rfl | ⟨1, _⟩ => rfl)
    (fun k => funext fun d => match d with | ⟨0, _⟩ => rfl | ⟨1, _⟩ => rfl)).trans
    ((congrArg (· + _) Ideal.ofBits_zero_f32).trans (zero_add _))

/-! ### What a step leaves -/

section Steps

variable (c : Dev nD) (i : grid0.Coords) (a3 : Memref sig .tc .vmem BX .bf16) (h3 : a3.IsWhole)
  (a4 : Memref sig .tc .vmem BW .bf16) (h4 : a4.IsWhole) (a5 : Memref sig .tc .vmem BO .bf16) (h5 : a5.IsWhole)
  (a6 : Memref sig .tc .vmem BS .f32) (h6 : a6.IsWhole)

/-- The first step of a run leaves its product. -/
theorem first (hc0 : cond0_0 i) (hc1 : ¬cond0_1 i) (hc2 : ¬cond0_2 i) (x : Vec Ideal BX .bf16) (w : Vec Ideal BW .bf16) (y : BS.Idx) :
    sout0_A_0 c i a3 h3 a4 h4 a5 h5 a6 h6 hc0 hc1 hc2 x w y = term x w y := by
  unfold sout0_A_0
  rw [View.read_writes_eq_canon _ _ _ (scover0_A_0 c i a3 h3 a4 h4 a5 h5 a6 h6 hc0 hc1 hc2 x w)]
  unfold kernelRun0_A
  dsimp only
  rw [View.canon_unit_zero hz]
  unfold k0_pay1
  simp only [View.readAt_eq_ld, h3.read_unread, h4.read_unread, View.ld_unit_zero (S := BX) hz, View.ld_unit_zero (S := BW) hz,
    shapeCast_self]
  exact mm x w y

/-- The last step writes the sum of what it finds and its product. -/
theorem last (hc0 : ¬cond0_0 i) (hc1 : ¬cond0_1 i) (hc2 : cond0_2 i) (x : Vec Ideal BX .bf16) (w : Vec Ideal BW .bf16)
    (s : Vec Ideal BS .f32) (y : BO.Idx) :
    out0_B_2 c i a3 h3 a4 h4 a5 h5 a6 h6 hc0 hc1 hc2 x w s y = s (ix2 (y 1) (y 2)) + term x w (ix2 (y 1) (y 2)) := by
  unfold out0_B_2
  rw [View.read_writes_eq_canon _ _ _ (cover0_B_2 c i a3 h3 a4 h4 a5 h5 a6 h6 hc0 hc1 hc2 x w s)]
  unfold kernelRun0_B
  dsimp only
  rw [View.canon_unit_zero hz3]
  unfold k0_pay3
  simp only [View.readAt_eq_ld, h3.read_unread, h4.read_unread, h6.read_unread, View.ld_unit_zero (S := BX) hz,
    View.ld_unit_zero (S := BW) hz, View.ld_unit_zero (S := BS) hz, shapeCast_self]
  exact (stacked _ _ y).trans (congrArg (s (ix2 (y 1) (y 2)) + ·) (mm x w _))

end Steps

/-! ### The blocks a step reads -/

theorem idx : ∀ t : Fin cfg0.N, (win0_0.index t (0 : Fin 2) = t.val % 2 ∧ win0_0.index t (1 : Fin 2) = t.val / 4)
    ∧ (win0_1.index t (0 : Fin 2) = t.val % 2 ∧ win0_1.index t (1 : Fin 2) = t.val / 2 % 2) :=
  (by decide +kernel : ∀ t : Fin grid0.N, _)

variable (m : (ℓ : Loc nD τ sig) → Buf (Elt Ideal) ℓ) (c : Dev nD)

/-- The kernel's two arguments. -/
def X : S4096x4096.Idx → EReal := m ((c : Thread nD τ).loc main_arg0)
def W : S4096x2048.Idx → EReal := m ((c : Thread nD τ).loc main_arg1)

theorem readX (t : Fin cfg0.N) (k : Fin 2048) (a : Fin 1024) (I : S4096x4096.Idx)
    (h0 : (I 0).val = t.val % 2 * 2048 + k.val) (h1 : (I 1).val = t.val / 4 * 1024 + a.val) :
    (iblk m c 0 t : Vec Ideal BX .bf16) (ix2 k a) = X m c I := by
  have e := idx t
  refine congrArg (V m c main_arg0) (funext fun b => Fin.ext ?_) |>.trans (congrFun (V_main_arg0 m c) I)
  match b with
  | ⟨0, _⟩ => show win0_0.index t (0 : Fin 2) * 2048 + 1 * k.val = (I 0).val; omega
  | ⟨1, _⟩ => show win0_0.index t (1 : Fin 2) * 1024 + 1 * a.val = (I 1).val; omega

theorem readW (t : Fin cfg0.N) (k : Fin 2048) (a : Fin 1024) (I : S4096x2048.Idx)
    (h0 : (I 0).val = t.val % 2 * 2048 + k.val) (h1 : (I 1).val = t.val / 2 % 2 * 1024 + a.val) :
    (iblk m c 1 t : Vec Ideal BW .bf16) (ix2 k a) = W m c I := by
  have e := idx t
  refine congrArg (V m c main_arg1) (funext fun b => Fin.ext ?_) |>.trans (congrFun (V_main_arg1 m c) I)
  match b with
  | ⟨0, _⟩ => show win0_1.index t (0 : Fin 2) * 2048 + 1 * k.val = (I 0).val; omega
  | ⟨1, _⟩ => show win0_1.index t (1 : Fin 2) * 1024 + 1 * a.val = (I 1).val; omega

/-! ### The result -/

/-- The row of the whole weight an entry of the stack is on. -/
def rowOf (i : S4x1024x2048.Idx) : Fin 4096 :=
  ⟨(i 0).val * 1024 + (i 1).val, by
    have h0 : (i 0).val < 4 := (i 0).isLt
    have h1 : (i 1).val < 1024 := (i 1).isLt
    omega⟩

theorem G_apply (i : S4x1024x2048.Idx) :
    G2 m c i = ∑ x : Fin 4096, X m c (ix2 x (rowOf i)) * W m c (ix2 x (i 2)) := by
  have b0 : (i 0).val < 4 := (i 0).isLt
  have b1 : (i 1).val < 1024 := (i 1).isLt
  have b2 : (i 2).val < 2048 := (i 2).isLt
  have eN : cfg0.N = 16 := N_0
  have er : run2Of i = 2 * ((i 0).val / 1 - 0) + 2 * ((i 1).val / 1024 - 0) + 1 * ((i 2).val / 1024 - 0) := rfl
  have hlt : pt2Of i < cfg0.N := by show 2 * run2Of i + 1 < _; omega
  refine (dif_pos hlt).trans ((congrArg (fun z => z.1 (loc2Of i)) (outsAt0_sweep m c _ hlt).symm).trans ?_)
  refine blocked (K := 2) (t := 2048) (by decide) (by decide) (fun n h => (outsAt0 m c n h).2 (ix2 (loc2Of i 1) (loc2Of i 2)))
    (fun n h => (outsAt0 m c n h).1 (loc2Of i))
    (fun n h => term (iblk m c 0 ⟨n, h⟩) (iblk m c 1 ⟨n, h⟩) (ix2 (loc2Of i 1) (loc2Of i 2)))
    (fun n h h0 => ?_) (fun n h h0 h4 => absurd h4 (by omega)) (fun n h h4 => ?_) (run2Of i) hlt _ (fun j h => ?_)
  · rw [outsAt0_A m c ⟨n, h⟩ h0 (by dsimp only; omega)]; dsimp only; exact first ..
  · rw [outsAt0_B m c ⟨n, h⟩ (by dsimp only; omega) h4]; dsimp only; exact last ..
  · have hj := j.isLt
    generalize run2Of i = r at er h
    refine Finset.sum_congr rfl fun k _ => ?_
    have hk := k.isLt
    refine congrArg₂ (· * ·) (readX m c _ k _ _ ?_ ?_) (readW m c _ k _ _ ?_ ?_)
    · show j.val * 2048 + k.val = (2 * r + j.val) % 2 * 2048 + k.val
      omega
    · show (i 0).val * 1024 + (i 1).val = (2 * r + j.val) / 4 * 1024 + (i 1).val % 1024
      omega
    · show j.val * 2048 + k.val = (2 * r + j.val) % 2 * 2048 + k.val
      omega
    · show (i 2).val = (2 * r + j.val) / 2 % 2 * 1024 + (i 2).val % 1024
      omega

end Cert.Kernel6Ideal.Prod

namespace Cert.Reference6Ideal.Prod

open Cert.Reference6Ideal Idealize.ShloMosaic Idealize.ShloMosaic.TcCoe Idealize.SL.Sem Idealize.ShloMosaic.StableHlo

theorem frame : Cert.quiescent_Reference6Ideal := fun m ρ _ =>
  (θ_run defs _ _).mono (fun r h => ⟨fun c => (h c).2, sem_eq_zero_of_no_sems (by decide) r.2⟩) (Value.run (F := Ideal) m ρ)

open Cert.Kernel6Ideal.Prod in
theorem apply (x : S4096x4096.Idx → Ideal .bf16) (w : S4096x2048.Idx → Ideal .bf16) (i : S4x1024x2048.Idx) :
    Read.val_main_v8 (F := Ideal) x w i = ∑ k : Fin 4096, x (ix2 k (rowOf i)) * w (ix2 k (i 2)) := by
  show Read.val_main_v7 (F := Ideal) x w i = _
  rw [Read.val_main_v7_apply, Read.val_main_v6_apply, Read.val_main_v5_apply]
  have h0 : (i 0).val < 4 := (i 0).isLt
  have h1 : (i 1).val < 1024 := (i 1).isLt
  have h2 : (i 2).val < 2048 := (i 2).isLt
  refine Finset.sum_congr rfl fun k _ => (mul_comm _ _).trans (congrArg₂ (· * ·) ?_ ?_)
  · refine congrArg x (funext fun d => Fin.ext ?_)
    match d with
    | ⟨0, _⟩ => rfl
    | ⟨1, _⟩ => show (((i 0).val * 1024 + (i 1).val) * 2048 + (i 2).val) / 2048 = (i 0).val * 1024 + (i 1).val; omega
  · refine congrArg w (funext fun d => Fin.ext ?_)
    match d with
    | ⟨0, _⟩ => rfl
    | ⟨1, _⟩ => show (((i 0).val * 1024 + (i 1).val) * 2048 + (i 2).val) % 2048 = (i 2).val; omega

/-- The kernel's result is the reference's. -/
theorem algebraic : Cert.algebraic_Kernel6Ideal_Reference6Ideal := by
  intro m ρ m' ρ' _ hag
  refine ⟨fun c => Cert.Kernel6Ideal.Value.G2 m c, Cert.Kernel6Ideal.Value.run m ρ,
    (θ_run defs _ _).mono (fun r h c => ?_) (Value.run (F := Ideal) m' ρ')⟩
  obtain ⟨e0, e1⟩ := hag c
  obtain ⟨h0, hr⟩ := h c
  rw [e0, e1] at h0
  exact ⟨(h0.trans (Read.val_main_v8_eq ..)).trans (funext fun i => (apply _ _ i).trans (Cert.Kernel6Ideal.Prod.G_apply m c i).symm), hr⟩

end Cert.Reference6Ideal.Prod

end
-- ==== Proof.GxOutA.lean ====
/-
The output projection of the scan, for its input: the kernel's product, block by block, and the reference's.
-/
module

public import proofs.«01_k».proof.Defs
public import proofs.«01_k».proof.Proof.Fold
public import proofs.«01_k».proof.Proof.Gen.Kernel7Ideal.Value
public import proofs.«01_k».proof.Proof.Gen.Reference7Ideal.Run
public import proofs.«01_k».proof.Proof.Gen.Reference7Ideal.Read
public import Idealize.ShloMosaic.Lib.Quiescent

@[expose] public section

set_option maxRecDepth 16384

noncomputable section

namespace Cert.Kernel7Ideal.Prod

open Cert.Kernel7Ideal Cert.Kernel7Ideal.Gen Cert.Kernel7Ideal.Value Cert.Fold Idealize.ShloMosaic
  Idealize.ShloMosaic.TcCoe Idealize.SL.Sem Idealize.ShloMosaic.StableHlo

abbrev BX := S1024x2048
abbrev BW := S1x1024x2048
abbrev BO := S1024x1024

/-- One block's product. -/
def term (x : Vec Ideal BX .bf16) (w : Vec Ideal BW .bf16) (y : BO.Idx) : EReal :=
  ∑ k : Fin 2048, x (ix2 (y 0) k) * w (ix3 (0 : Fin 1) (y 1) k)

theorem mm (x : BX.Idx → Ideal .bf16) (w : BW.Idx → Ideal .bf16) (y : BO.Idx) :
    matmul (F := Ideal) dot_S1024x2048_S1024x2048_S1024x1024_1_1_0_0_n_n none x
      (shapeCast S1024x2048 w shapeCasts_S1x1024x2048_S1024x2048) (constant BO .f32 0x00000000#32) y = term x w y := by
  refine (Ideal.matmul_apply₁_of dot_S1024x2048_S1024x2048_S1024x1024_1_1_0_0_n_n (a := (1 : Fin 2)) rfl (K := 2048) rfl x _ _ y
    (fun k => ix2 (y 0) k) (fun k => ix2 (y 1) k)
    (fun k => funext fun d => match d with | ⟨0, _⟩ => rfl | ⟨1, _⟩ => rfl)
    (fun k => funext fun d => match d with | ⟨0, _⟩ => rfl | ⟨1, _⟩ => rfl)).trans
    (((congrArg (· + _) Ideal.ofBits_zero_f32).trans (zero_add _)).trans ?_)
  exact Finset.sum_congr rfl fun k _ => congrArg (x (ix2 (y 0) k) * ·) (unstacked w _ _ _)

/-- A step writes its product. -/
theorem step (x : Vec Ideal BX .bf16) (w : Vec Ideal BW .bf16) (y : BO.Idx) : out0_2 x w y = term x w y := by
  unfold out0_2
  rw [View.canon_unit_zero hz]
  unfold k0_pay1
  simp only [View.ld_unit_zero (S := BX) hz, View.ld_unit_zero (S := BW) hz3]
  exact mm x w y

/-! ### The blocks a step reads and writes -/

theorem idx : ∀ t : Fin cfg0.N, (win0_0.index t (0 : Fin 2) = t.val / 4 ∧ win0_0.index t (1 : Fin 2) = 0)
    ∧ (win0_1.index t (0 : Fin 3) = t.val % 4 ∧ win0_1.index t (1 : Fin 3) = 0 ∧ win0_1.index t (2 : Fin 3) = 0)
    ∧ (win0_2.index t (0 : Fin 2) = t.val / 4 ∧ win0_2.index t (1 : Fin 2) = t.val % 4) :=
  (by decide +kernel : ∀ t : Fin grid0.N, _)

variable (m : (ℓ : Loc nD τ sig) → Buf (Elt Ideal) ℓ) (c : Dev nD)

/-- The kernel's two arguments. -/
def X : S4096x2048.Idx → EReal := m ((c : Thread nD τ).loc main_arg0)
def W : S4x1024x2048.Idx → EReal := m ((c : Thread nD τ).loc main_arg1)

theorem readX (t : Fin cfg0.N) (a : Fin 1024) (k : Fin 2048) (I : S4096x2048.Idx)
    (h0 : (I 0).val = t.val / 4 * 1024 + a.val) (h1 : (I 1).val = k.val) :
    (iblk m c 0 t : Vec Ideal BX .bf16) (ix2 a k) = X m c I := by
  have e := idx t
  refine congrArg (V m c main_arg0) (funext fun b => Fin.ext ?_) |>.trans (congrFun (V_main_arg0 m c) I)
  match b with
  | ⟨0, _⟩ => show win0_0.index t (0 : Fin 2) * 1024 + 1 * a.val = (I 0).val; omega
  | ⟨1, _⟩ => show win0_0.index t (1 : Fin 2) * 2048 + 1 * k.val = (I 1).val; omega

theorem readW (t : Fin cfg0.N) (a : Fin 1024) (k : Fin 2048) (I : S4x1024x2048.Idx)
    (h0 : (I 0).val = t.val % 4) (h1 : (I 1).val = a.val) (h2 : (I 2).val = k.val) :
    (iblk m c 1 t : Vec Ideal BW .bf16) (ix3 (0 : Fin 1) a k) = W m c I := by
  have e := idx t
  refine congrArg (V m c main_arg1) (funext fun b => Fin.ext ?_) |>.trans (congrFun (V_main_arg1 m c) I)
  match b with
  | ⟨0, _⟩ => show win0_1.index t (0 : Fin 3) * 1 + 1 * 0 = (I 0).val; omega
  | ⟨1, _⟩ => show win0_1.index t (1 : Fin 3) * 1024 + 1 * a.val = (I 1).val; omega
  | ⟨2, _⟩ => show win0_1.index t (2 : Fin 3) * 2048 + 1 * k.val = (I 2).val; omega

/-! ### The result -/

/-- Entry (`n`, `k`) of the weight whose rows the stack holds in four parts. -/
def rowIx (n : Fin 4096) (k : Fin 2048) : S4x1024x2048.Idx :=
  ix3 (⟨n.val / 1024, by have := n.isLt; omega⟩ : Fin 4) (⟨n.val % 1024, Nat.mod_lt _ (by decide)⟩ : Fin 1024) k

def G : S4096x4096.Idx → EReal := fun i => ∑ x : Fin 2048, X m c (ix2 (i 0) x) * W m c (rowIx (i 1) x)

theorem mem_blk (t : Fin cfg0.N) (i : S4096x4096.Idx) :
    i ∈ ((cfg0.win 2).blk t).view.set ↔ ∀ a : Fin 2, win0_2.index t a * BO.size a ≤ (i a).val
      ∧ (i a).val < win0_2.index t a * BO.size a + BO.size a := by
  show i ∈ ((View.whole main_v0).slice (win0_2.rect t)).set ↔ _
  rw [View.set_slice_whole, Rect.mem_set_unit]
  exact Iff.rfl

/-- What a step writes is its block of the result. -/
theorem block (t : Fin cfg0.N) (y : BO.Idx) (i : S4096x4096.Idx) (h0 : (i 0).val = t.val / 4 * 1024 + (y 0).val)
    (h1 : (i 1).val = t.val % 4 * 1024 + (y 1).val) : out0_2 (iblk m c 0 t) (iblk m c 1 t) y = G m c i := by
  have hy : (y 1).val < 1024 := (y 1).isLt
  refine (step _ _ y).trans (Finset.sum_congr rfl fun k _ => congrArg₂ (· * ·) (readX m c t _ k _ h0 rfl) (readW m c t _ k _ ?_ ?_ rfl))
  · show (i 1).val / 1024 = t.val % 4
    omega
  · show (i 1).val % 1024 = (y 1).val
    omega

/-- The array after the run: the blocks written back tile it. -/
theorem final (c : Dev nD) : (dats m 0 c).arrAt 2 cfg0.N = G m c := by
  refine (dats m 0 c).arrAt_eq_of_cover 2 _ (fun t hf => ?_) (fun i => ?_)
  · have e := idx t
    rw [flushed2]
    funext y
    refine block m c t ((cfg0.win 2).xinj (grid0.coords t) y) _ ?_ ?_
    · show win0_2.index t (0 : Fin 2) * 1024 + 1 * (y 0).val = t.val / 4 * 1024 + (y 0).val
      omega
    · show win0_2.index t (1 : Fin 2) * 1024 + 1 * (y 1).val = t.val % 4 * 1024 + (y 1).val
      omega
  · have eN : cfg0.N = 16 := N_0
    have h0 : (i 0).val < 4096 := (i 0).isLt
    have h1 : (i 1).val < 4096 := (i 1).isLt
    refine ⟨⟨4 * ((i 0).val / 1024) + (i 1).val / 1024, by omega⟩, flush0_2 _, (mem_blk _ i).mpr fun a => ?_⟩
    have e := idx ⟨4 * ((i 0).val / 1024) + (i 1).val / 1024, by omega⟩
    dsimp only at e
    match a with
    | ⟨0, _⟩ => show win0_2.index _ (0 : Fin 2) * 1024 ≤ (i 0).val ∧ (i 0).val < win0_2.index _ (0 : Fin 2) * 1024 + 1024; omega
    | ⟨1, _⟩ => show win0_2.index _ (1 : Fin 2) * 1024 ≤ (i 1).val ∧ (i 1).val < win0_2.index _ (1 : Fin 2) * 1024 + 1024; omega

end Cert.Kernel7Ideal.Prod

namespace Cert.Reference7Ideal.Prod

open Cert.Reference7Ideal Idealize.ShloMosaic Idealize.ShloMosaic.TcCoe Idealize.SL.Sem Idealize.ShloMosaic.StableHlo

theorem frame : Cert.quiescent_Reference7Ideal := fun m ρ _ =>
  (θ_run defs _ _).mono (fun r h => ⟨fun c => (h c).2, sem_eq_zero_of_no_sems (by decide) r.2⟩) (Value.run (F := Ideal) m ρ)

theorem apply (x : S4096x2048.Idx → Ideal .bf16) (w : S4x1024x2048.Idx → Ideal .bf16) (i : S4096x4096.Idx) :
    Read.val_main_v6 (F := Ideal) x w i = ∑ k : Fin 2048, x (ix2 (i 0) k) * w (Cert.Kernel7Ideal.Prod.rowIx (i 1) k) := by
  show Read.val_main_v5 (F := Ideal) x w i = _
  rw [Read.val_main_v5_apply]
  refine Finset.sum_congr rfl fun k _ => congrArg₂ (· * ·) ?_ ?_
  · exact congrArg x (funext fun d => match d with | ⟨0, _⟩ => rfl | ⟨1, _⟩ => rfl)
  · rw [Read.val_main_v2_apply]
    have hk := k.isLt
    refine congrArg w (funext fun d => Fin.ext ?_)
    have h1 : (i 1).val < 4096 := (i 1).isLt
    match d with
    | ⟨0, _⟩ => show ((i 1).val * 2048 + k.val) / 2097152 = (i 1).val / 1024; omega
    | ⟨1, _⟩ => show ((i 1).val * 2048 + k.val) / 2048 % 1024 = (i 1).val % 1024; omega
    | ⟨2, _⟩ => show ((i 1).val * 2048 + k.val) % 2048 = k.val; omega

/-- The kernel's result is the reference's. -/
theorem algebraic : Cert.algebraic_Kernel7Ideal_Reference7Ideal := by
  intro m ρ m' ρ' _ hag
  refine ⟨fun c => _, Cert.Kernel7Ideal.Value.run_blocks (F := Ideal) m ρ,
    (θ_run defs _ _).mono (fun r h c => ?_) (Value.run (F := Ideal) m' ρ')⟩
  obtain ⟨e0, e1⟩ := hag c
  obtain ⟨h0, hr⟩ := h c
  rw [e0, e1] at h0
  exact ⟨((h0.trans (Read.val_main_v6_eq ..)).trans (funext fun i => apply _ _ i)).trans
    (Cert.Kernel7Ideal.Prod.final m c).symm, hr⟩

end Cert.Reference7Ideal.Prod

end
-- ==== Proof.GwInB.lean ====
/-
The input projection of the attention, for its weight: the kernel's product, block by block, and the reference's.
-/
module

public import proofs.«01_k».proof.Defs
public import proofs.«01_k».proof.Proof.Fold
public import proofs.«01_k».proof.Proof.Gen.Kernel8Ideal.Value
public import proofs.«01_k».proof.Proof.Gen.Reference8Ideal.Run
public import proofs.«01_k».proof.Proof.Gen.Reference8Ideal.Read
public import Idealize.ShloMosaic.Lib.Quiescent

@[expose] public section

set_option maxRecDepth 16384

noncomputable section

namespace Cert.Kernel8Ideal.Prod

open Cert.Kernel8Ideal Cert.Kernel8Ideal.Gen Cert.Kernel8Ideal.Value Cert.Fold Idealize.ShloMosaic
  Idealize.ShloMosaic.TcCoe Idealize.SL.Sem Idealize.ShloMosaic.StableHlo

abbrev BX := S2048x1024
abbrev BW := S2048x1024
abbrev BS := S1024x1024
abbrev BO := S1x1024x1024

/-- One block's product. -/
def term (x : Vec Ideal BX .bf16) (w : Vec Ideal BW .bf16) (y : BS.Idx) : EReal :=
  ∑ k : Fin 2048, x (ix2 k (y 0)) * w (ix2 k (y 1))

theorem mm (x : BX.Idx → Ideal .bf16) (w : BW.Idx → Ideal .bf16) (y : BS.Idx) :
    matmul (F := Ideal) dot_S2048x1024_S2048x1024_S1024x1024_0_0_1_1_n_n none x w (constant BS .f32 0x00000000#32) y = term x w y :=
  (Ideal.matmul_apply₁_of dot_S2048x1024_S2048x1024_S1024x1024_0_0_1_1_n_n (a := (0 : Fin 2)) rfl (K := 2048) rfl x w _ y
    (fun k => ix2 k (y 0)) (fun k => ix2 k (y 1))
    (fun k => funext fun d => match d with | ⟨0, _⟩ => rfl | ⟨1, _⟩ => rfl)
    (fun k => funext fun d => match d with | ⟨0, _⟩ => rfl | ⟨1, _⟩ => rfl)).trans
    ((congrArg (· + _) Ideal.ofBits_zero_f32).trans (zero_add _))

/-! ### What a step leaves -/

section Steps

variable (c : Dev nD) (i : grid0.Coords) (a3 : Memref sig .tc .vmem BX .bf16) (h3 : a3.IsWhole)
  (a4 : Memref sig .tc .vmem BW .bf16) (h4 : a4.IsWhole) (a5 : Memref sig .tc .vmem BO .bf16) (h5 : a5.IsWhole)
  (a6 : Memref sig .tc .vmem BS .f32) (h6 : a6.IsWhole)

/-- The first step of a run leaves its product. -/
theorem first (hc0 : cond0_0 i) (hc1 : ¬cond0_1 i) (hc2 : ¬cond0_2 i) (x : Vec Ideal BX .bf16) (w : Vec Ideal BW .bf16) (y : BS.Idx) :
    sout0_A_0 c i a3 h3 a4 h4 a5 h5 a6 h6 hc0 hc1 hc2 x w y = term x w y := by
  unfold sout0_A_0
  rw [View.read_writes_eq_canon _ _ _ (scover0_A_0 c i a3 h3 a4 h4 a5 h5 a6 h6 hc0 hc1 hc2 x w)]
  unfold kernelRun0_A
  dsimp only
  rw [View.canon_unit_zero hz]
  unfold k0_pay1
  simp only [View.readAt_eq_ld, h3.read_unread, h4.read_unread, View.ld_unit_zero (S := BX) hz, View.ld_unit_zero (S := BW) hz,
    shapeCast_self]
  exact mm x w y

/-- The last step writes the sum of what it finds and its product. -/
theorem last (hc0 : ¬cond0_0 i) (hc1 : ¬cond0_1 i) (hc2 : cond0_2 i) (x : Vec Ideal BX .bf16) (w : Vec Ideal BW .bf16)
    (s : Vec Ideal BS .f32) (y : BO.Idx) :
    out0_B_2 c i a3 h3 a4 h4 a5 h5 a6 h6 hc0 hc1 hc2 x w s y = s (ix2 (y 1) (y 2)) + term x w (ix2 (y 1) (y 2)) := by
  unfold out0_B_2
  rw [View.read_writes_eq_canon _ _ _ (cover0_B_2 c i a3 h3 a4 h4 a5 h5 a6 h6 hc0 hc1 hc2 x w s)]
  unfold kernelRun0_B
  dsimp only
  rw [View.canon_unit_zero hz3]
  unfold k0_pay3
  simp only [View.readAt_eq_ld, h3.read_unread, h4.read_unread, h6.read_unread, View.ld_unit_zero (S := BX) hz,
    View.ld_unit_zero (S := BW) hz, View.ld_unit_zero (S := BS) hz, shapeCast_self]
  exact (stacked _ _ y).trans (congrArg (s (ix2 (y 1) (y 2)) + ·) (mm x w _))

end Steps

/-! ### The blocks a step reads -/

theorem idx : ∀ t : Fin cfg0.N, (win0_0.index t (0 : Fin 2) = t.val % 2 ∧ win0_0.index t (1 : Fin 2) = t.val / 8)
    ∧ (win0_1.index t (0 : Fin 2) = t.val % 2 ∧ win0_1.index t (1 : Fin 2) = t.val / 2 % 4) :=
  (by decide +kernel : ∀ t : Fin grid0.N, _)

variable (m : (ℓ : Loc nD τ sig) → Buf (Elt Ideal) ℓ) (c : Dev nD)

/-- The kernel's two arguments. -/
def X : S4096x2048.Idx → EReal := m ((c : Thread nD τ).loc main_arg0)
def W : S4096x4096.Idx → EReal := m ((c : Thread nD τ).loc main_arg1)

theorem readX (t : Fin cfg0.N) (k : Fin 2048) (a : Fin 1024) (I : S4096x2048.Idx)
    (h0 : (I 0).val = t.val % 2 * 2048 + k.val) (h1 : (I 1).val = t.val / 8 * 1024 + a.val) :
    (iblk m c 0 t : Vec Ideal BX .bf16) (ix2 k a) = X m c I := by
  have e := idx t
  refine congrArg (V m c main_arg0) (funext fun b => Fin.ext ?_) |>.trans (congrFun (V_main_arg0 m c) I)
  match b with
  | ⟨0, _⟩ => show win0_0.index t (0 : Fin 2) * 2048 + 1 * k.val = (I 0).val; omega
  | ⟨1, _⟩ => show win0_0.index t (1 : Fin 2) * 1024 + 1 * a.val = (I 1).val; omega

theorem readW (t : Fin cfg0.N) (k : Fin 2048) (a : Fin 1024) (I : S4096x4096.Idx)
    (h0 : (I 0).val = t.val % 2 * 2048 + k.val) (h1 : (I 1).val = t.val / 2 % 4 * 1024 + a.val) :
    (iblk m c 1 t : Vec Ideal BW .bf16) (ix2 k a) = W m c I := by
  have e := idx t
  refine congrArg (V m c main_arg1) (funext fun b => Fin.ext ?_) |>.trans (congrFun (V_main_arg1 m c) I)
  match b with
  | ⟨0, _⟩ => show win0_1.index t (0 : Fin 2) * 2048 + 1 * k.val = (I 0).val; omega
  | ⟨1, _⟩ => show win0_1.index t (1 : Fin 2) * 1024 + 1 * a.val = (I 1).val; omega

/-! ### The result -/

/-- The column of the whole weight an entry of the stack is on. -/
def colOf (i : S4x2048x1024.Idx) : Fin 4096 :=
  ⟨(i 0).val * 1024 + (i 2).val, by
    have h0 : (i 0).val < 4 := (i 0).isLt
    have h2 : (i 2).val < 1024 := (i 2).isLt
    omega⟩

theorem G_apply (i : S4x2048x1024.Idx) :
    G2 m c i = ∑ x : Fin 4096, X m c (ix2 x (i 1)) * W m c (ix2 x (colOf i)) := by
  have b0 : (i 0).val < 4 := (i 0).isLt
  have b1 : (i 1).val < 2048 := (i 1).isLt
  have b2 : (i 2).val < 1024 := (i 2).isLt
  have eN : cfg0.N = 16 := N_0
  have er : run2Of i = 1 * ((i 0).val / 1 - 0) + 4 * ((i 1).val / 1024 - 0) + 8 * ((i 2).val / 1024 - 0) := rfl
  have hlt : pt2Of i < cfg0.N := by show 2 * run2Of i + 1 < _; omega
  refine (dif_pos hlt).trans ((congrArg (fun z => z.1 (loc2Of i)) (outsAt0_sweep m c _ hlt).symm).trans ?_)
  refine blocked (K := 2) (t := 2048) (by decide) (by decide) (fun n h => (outsAt0 m c n h).2 (ix2 (loc2Of i 1) (loc2Of i 2)))
    (fun n h => (outsAt0 m c n h).1 (loc2Of i))
    (fun n h => term (iblk m c 0 ⟨n, h⟩) (iblk m c 1 ⟨n, h⟩) (ix2 (loc2Of i 1) (loc2Of i 2)))
    (fun n h h0 => ?_) (fun n h h0 h4 => absurd h4 (by omega)) (fun n h h4 => ?_) (run2Of i) hlt _ (fun j h => ?_)
  · rw [outsAt0_A m c ⟨n, h⟩ h0 (by dsimp only; omega)]; dsimp only; exact first ..
  · rw [outsAt0_B m c ⟨n, h⟩ (by dsimp only; omega) h4]; dsimp only; exact last ..
  · have hj := j.isLt
    generalize run2Of i = r at er h
    refine Finset.sum_congr rfl fun k _ => ?_
    have hk := k.isLt
    refine congrArg₂ (· * ·) (readX m c _ k _ _ ?_ ?_) (readW m c _ k _ _ ?_ ?_)
    · show j.val * 2048 + k.val = (2 * r + j.val) % 2 * 2048 + k.val
      omega
    · show (i 1).val = (2 * r + j.val) / 8 * 1024 + (i 1).val % 1024
      omega
    · show j.val * 2048 + k.val = (2 * r + j.val) % 2 * 2048 + k.val
      omega
    · show (i 0).val * 1024 + (i 2).val = (2 * r + j.val) / 2 % 4 * 1024 + (i 2).val % 1024
      omega

end Cert.Kernel8Ideal.Prod

namespace Cert.Reference8Ideal.Prod

open Cert.Reference8Ideal Idealize.ShloMosaic Idealize.ShloMosaic.TcCoe Idealize.SL.Sem Idealize.ShloMosaic.StableHlo

theorem frame : Cert.quiescent_Reference8Ideal := fun m ρ _ =>
  (θ_run defs _ _).mono (fun r h => ⟨fun c => (h c).2, sem_eq_zero_of_no_sems (by decide) r.2⟩) (Value.run (F := Ideal) m ρ)

open Cert.Kernel8Ideal.Prod in
theorem apply (x : S4096x2048.Idx → Ideal .bf16) (w : S4096x4096.Idx → Ideal .bf16) (i : S4x2048x1024.Idx) :
    Read.val_main_v10 (F := Ideal) x w i = ∑ k : Fin 4096, x (ix2 k (i 1)) * w (ix2 k (colOf i)) := by
  show Read.val_main_v9 (F := Ideal) x w i = _
  rw [Read.val_main_v9_apply, Read.val_main_v8_apply, Read.val_main_v7_apply, Read.val_main_v6_apply]
  have h0 : (i 0).val < 4 := (i 0).isLt
  have h1 : (i 1).val < 2048 := (i 1).isLt
  have h2 : (i 2).val < 1024 := (i 2).isLt
  refine Finset.sum_congr rfl fun k _ => (mul_comm _ _).trans (congrArg₂ (· * ·) ?_ ?_)
  · refine congrArg x (funext fun d => Fin.ext ?_)
    match d with
    | ⟨0, _⟩ => rfl
    | ⟨1, _⟩ => show (((i 1).val * 4 + (i 0).val) * 1024 + (i 2).val) / 4096 = (i 1).val; omega
  · refine congrArg w (funext fun d => Fin.ext ?_)
    match d with
    | ⟨0, _⟩ => rfl
    | ⟨1, _⟩ => show (((i 1).val * 4 + (i 0).val) * 1024 + (i 2).val) % 4096 = (i 0).val * 1024 + (i 2).val; omega

/-- The kernel's result is the reference's. -/
theorem algebraic : Cert.algebraic_Kernel8Ideal_Reference8Ideal := by
  intro m ρ m' ρ' _ hag
  refine ⟨fun c => Cert.Kernel8Ideal.Value.G2 m c, Cert.Kernel8Ideal.Value.run m ρ,
    (θ_run defs _ _).mono (fun r h c => ?_) (Value.run (F := Ideal) m' ρ')⟩
  obtain ⟨e0, e1⟩ := hag c
  obtain ⟨h0, hr⟩ := h c
  rw [e0, e1] at h0
  exact ⟨(h0.trans (Read.val_main_v10_eq ..)).trans (funext fun i => (apply _ _ i).trans (Cert.Kernel8Ideal.Prod.G_apply m c i).symm), hr⟩

end Cert.Reference8Ideal.Prod

end
-- ==== Proof.GxInB.lean ====
/-
The input projection of the attention, for their input: the kernel's product, block by block, and the reference's.
-/
module

public import proofs.«01_k».proof.Defs
public import proofs.«01_k».proof.Proof.Fold
public import proofs.«01_k».proof.Proof.Gen.Kernel9Ideal.Value
public import proofs.«01_k».proof.Proof.Gen.Reference9Ideal.Run
public import proofs.«01_k».proof.Proof.Gen.Reference9Ideal.Read
public import Idealize.ShloMosaic.Lib.Quiescent

@[expose] public section

set_option maxRecDepth 16384

noncomputable section

namespace Cert.Kernel9Ideal.Prod

open Cert.Kernel9Ideal Cert.Kernel9Ideal.Gen Cert.Kernel9Ideal.Value Cert.Fold Idealize.ShloMosaic
  Idealize.ShloMosaic.TcCoe Idealize.SL.Sem Idealize.ShloMosaic.StableHlo

abbrev BX := S1024x1024
abbrev BW := S1x1024x1024
abbrev BO := S1024x1024

/-- One block's product. -/
def term (x : Vec Ideal BX .bf16) (w : Vec Ideal BW .bf16) (y : BO.Idx) : EReal :=
  ∑ k : Fin 1024, x (ix2 (y 0) k) * w (ix3 (0 : Fin 1) (y 1) k)

theorem mm (x : BX.Idx → Ideal .bf16) (w : BW.Idx → Ideal .bf16) (y : BO.Idx) :
    matmul (F := Ideal) dot_S1024x1024_S1024x1024_S1024x1024_1_1_0_0_n_n none x
      (shapeCast S1024x1024 w shapeCasts_S1x1024x1024_S1024x1024) (constant BO .f32 0x00000000#32) y = term x w y := by
  refine (Ideal.matmul_apply₁_of dot_S1024x1024_S1024x1024_S1024x1024_1_1_0_0_n_n (a := (1 : Fin 2)) rfl (K := 1024) rfl x _ _ y
    (fun k => ix2 (y 0) k) (fun k => ix2 (y 1) k)
    (fun k => funext fun d => match d with | ⟨0, _⟩ => rfl | ⟨1, _⟩ => rfl)
    (fun k => funext fun d => match d with | ⟨0, _⟩ => rfl | ⟨1, _⟩ => rfl)).trans
    (((congrArg (· + _) Ideal.ofBits_zero_f32).trans (zero_add _)).trans ?_)
  exact Finset.sum_congr rfl fun k _ => congrArg (x (ix2 (y 0) k) * ·) (unstacked w _ _ _)

/-! ### What a step leaves -/

section Steps

variable (c : Dev nD) (i : grid0.Coords) (a3 : Memref sig .tc .vmem BX .bf16) (h3 : a3.IsWhole)
  (a4 : Memref sig .tc .vmem BW .bf16) (h4 : a4.IsWhole) (a5 : Memref sig .tc .vmem BO .bf16) (h5 : a5.IsWhole)
  (a6 : Memref sig .tc .vmem BO .f32) (h6 : a6.IsWhole)

/-- The first step of a run leaves its product. -/
theorem first (hc0 : cond0_0 i) (hc1 : ¬cond0_1 i) (hc2 : ¬cond0_2 i) (x : Vec Ideal BX .bf16) (w : Vec Ideal BW .bf16) (y : BO.Idx) :
    sout0_A_0 c i a3 h3 a4 h4 a5 h5 a6 h6 hc0 hc1 hc2 x w y = term x w y := by
  unfold sout0_A_0
  rw [View.read_writes_eq_canon _ _ _ (scover0_A_0 c i a3 h3 a4 h4 a5 h5 a6 h6 hc0 hc1 hc2 x w)]
  unfold kernelRun0_A
  dsimp only
  rw [View.canon_unit_zero hz]
  unfold k0_pay1
  simp only [View.readAt_eq_ld, h3.read_unread, h4.read_unread, View.ld_unit_zero (S := BX) hz, View.ld_unit_zero (S := BW) hz3,
    shapeCast_self]
  exact mm x w y

/-- A step between adds its product. -/
theorem between (hc0 : ¬cond0_0 i) (hc1 : cond0_1 i) (hc2 : ¬cond0_2 i) (x : Vec Ideal BX .bf16) (w : Vec Ideal BW .bf16)
    (s : Vec Ideal BO .f32) (y : BO.Idx) :
    sout0_B_0 c i a3 h3 a4 h4 a5 h5 a6 h6 hc0 hc1 hc2 x w s y = s y + term x w y := by
  unfold sout0_B_0
  rw [View.read_writes_eq_canon _ _ _ (scover0_B_0 c i a3 h3 a4 h4 a5 h5 a6 h6 hc0 hc1 hc2 x w s)]
  unfold kernelRun0_B
  dsimp only
  rw [View.canon_unit_zero hz]
  unfold k0_pay2
  simp only [View.readAt_eq_ld, h3.read_unread, h4.read_unread, h6.read_unread, View.ld_unit_zero (S := BX) hz,
    View.ld_unit_zero (S := BW) hz3, View.ld_unit_zero (S := BO) hz, shapeCast_self]
  exact congrArg (s y + ·) (mm x w y)

/-- The last step writes the sum of what it finds and its product. -/
theorem last (hc0 : ¬cond0_0 i) (hc1 : ¬cond0_1 i) (hc2 : cond0_2 i) (x : Vec Ideal BX .bf16) (w : Vec Ideal BW .bf16)
    (s : Vec Ideal BO .f32) (y : BO.Idx) :
    out0_C_2 c i a3 h3 a4 h4 a5 h5 a6 h6 hc0 hc1 hc2 x w s y = s y + term x w y := by
  unfold out0_C_2
  rw [View.read_writes_eq_canon _ _ _ (cover0_C_2 c i a3 h3 a4 h4 a5 h5 a6 h6 hc0 hc1 hc2 x w s)]
  unfold kernelRun0_C
  dsimp only
  rw [View.canon_unit_zero hz]
  unfold k0_pay3
  simp only [View.readAt_eq_ld, h3.read_unread, h4.read_unread, h6.read_unread, View.ld_unit_zero (S := BX) hz,
    View.ld_unit_zero (S := BW) hz3, View.ld_unit_zero (S := BO) hz, shapeCast_self]
  exact congrArg (s y + ·) (mm x w y)

end Steps

/-! ### The blocks a step reads -/

theorem idx : ∀ t : Fin cfg0.N, (win0_0.index t (0 : Fin 2) = t.val / 8 ∧ win0_0.index t (1 : Fin 2) = t.val % 4)
    ∧ (win0_1.index t (0 : Fin 3) = t.val % 4 ∧ win0_1.index t (1 : Fin 3) = t.val / 4 % 2 ∧ win0_1.index t (2 : Fin 3) = 0) :=
  (by decide +kernel : ∀ t : Fin grid0.N, _)

variable (m : (ℓ : Loc nD τ sig) → Buf (Elt Ideal) ℓ) (c : Dev nD)

/-- The kernel's two arguments. -/
def X : S4096x4096.Idx → EReal := m ((c : Thread nD τ).loc main_arg0)
def W : S4x2048x1024.Idx → EReal := m ((c : Thread nD τ).loc main_arg1)

theorem readX (t : Fin cfg0.N) (a : Fin 1024) (k : Fin 1024) (I : S4096x4096.Idx)
    (h0 : (I 0).val = t.val / 8 * 1024 + a.val) (h1 : (I 1).val = t.val % 4 * 1024 + k.val) :
    (iblk m c 0 t : Vec Ideal BX .bf16) (ix2 a k) = X m c I := by
  have e := idx t
  refine congrArg (V m c main_arg0) (funext fun b => Fin.ext ?_) |>.trans (congrFun (V_main_arg0 m c) I)
  match b with
  | ⟨0, _⟩ => show win0_0.index t (0 : Fin 2) * 1024 + 1 * a.val = (I 0).val; omega
  | ⟨1, _⟩ => show win0_0.index t (1 : Fin 2) * 1024 + 1 * k.val = (I 1).val; omega

theorem readW (t : Fin cfg0.N) (a : Fin 1024) (k : Fin 1024) (I : S4x2048x1024.Idx)
    (h0 : (I 0).val = t.val % 4) (h1 : (I 1).val = t.val / 4 % 2 * 1024 + a.val) (h2 : (I 2).val = k.val) :
    (iblk m c 1 t : Vec Ideal BW .bf16) (ix3 (0 : Fin 1) a k) = W m c I := by
  have e := idx t
  refine congrArg (V m c main_arg1) (funext fun b => Fin.ext ?_) |>.trans (congrFun (V_main_arg1 m c) I)
  match b with
  | ⟨0, _⟩ => show win0_1.index t (0 : Fin 3) * 1 + 1 * 0 = (I 0).val; omega
  | ⟨1, _⟩ => show win0_1.index t (1 : Fin 3) * 1024 + 1 * a.val = (I 1).val; omega
  | ⟨2, _⟩ => show win0_1.index t (2 : Fin 3) * 1024 + 1 * k.val = (I 2).val; omega

/-! ### The result -/

/-- Entry (`r`, `n`) of the weight whose columns the stack holds in four parts. -/
def colIx (r : Fin 2048) (n : Fin 4096) : S4x2048x1024.Idx :=
  ix3 (⟨n.val / 1024, by have := n.isLt; omega⟩ : Fin 4) r (⟨n.val % 1024, Nat.mod_lt _ (by decide)⟩ : Fin 1024)

theorem G_apply (i : S4096x2048.Idx) :
    G2 m c i = ∑ x : Fin 4096, X m c (ix2 (i 0) x) * W m c (colIx (i 1) x) := by
  have b0 : (i 0).val < 4096 := (i 0).isLt
  have b1 : (i 1).val < 2048 := (i 1).isLt
  have eN : cfg0.N = 32 := N_0
  have hlt : pt2Of i < cfg0.N := by show 4 * (2 * ((i 0).val / 1024 - 0) + 1 * ((i 1).val / 1024 - 0)) + 3 < _; omega
  refine (dif_pos hlt).trans ((congrArg (fun z => z.1 (loc2Of i)) (outsAt0_sweep m c _ hlt).symm).trans ?_)
  refine blocked (K := 4) (t := 1024) (by decide) (by decide) (fun n h => (outsAt0 m c n h).2 (loc2Of i))
    (fun n h => (outsAt0 m c n h).1 (loc2Of i)) (fun n h => term (iblk m c 0 ⟨n, h⟩) (iblk m c 1 ⟨n, h⟩) (loc2Of i))
    (fun n h h0 => ?_) (fun n h h0 h4 => ?_) (fun n h h4 => ?_) (run2Of i) hlt _ (fun j h => ?_)
  · rw [outsAt0_A m c ⟨n, h⟩ h0 (by dsimp only; omega) (by dsimp only; omega)]; dsimp only; exact first ..
  · rw [outsAt0_B m c ⟨n, h⟩ h0 (by dsimp only; omega) (by dsimp only; omega)]; dsimp only; exact between ..
  · rw [outsAt0_C m c ⟨n, h⟩ (by dsimp only; omega) (by dsimp only; omega) h4]; dsimp only; exact last ..
  · have hj := j.isLt
    refine Finset.sum_congr rfl fun k _ => ?_
    have hk := k.isLt
    refine congrArg₂ (· * ·) (readX m c _ _ k _ ?_ ?_) (readW m c _ _ k _ ?_ ?_ ?_)
    · show (i 0).val = (4 * (2 * ((i 0).val / 1024 - 0) + 1 * ((i 1).val / 1024 - 0)) + j.val) / 8 * 1024 + (i 0).val % 1024
      omega
    · show j.val * 1024 + k.val = (4 * (2 * ((i 0).val / 1024 - 0) + 1 * ((i 1).val / 1024 - 0)) + j.val) % 4 * 1024 + k.val
      omega
    · show (j.val * 1024 + k.val) / 1024 = (4 * (2 * ((i 0).val / 1024 - 0) + 1 * ((i 1).val / 1024 - 0)) + j.val) % 4
      omega
    · show (i 1).val = (4 * (2 * ((i 0).val / 1024 - 0) + 1 * ((i 1).val / 1024 - 0)) + j.val) / 4 % 2 * 1024 + (i 1).val % 1024
      omega
    · show (j.val * 1024 + k.val) % 1024 = k.val
      omega

end Cert.Kernel9Ideal.Prod

namespace Cert.Reference9Ideal.Prod

open Cert.Reference9Ideal Idealize.ShloMosaic Idealize.ShloMosaic.TcCoe Idealize.SL.Sem Idealize.ShloMosaic.StableHlo

theorem frame : Cert.quiescent_Reference9Ideal := fun m ρ _ =>
  (θ_run defs _ _).mono (fun r h => ⟨fun c => (h c).2, sem_eq_zero_of_no_sems (by decide) r.2⟩) (Value.run (F := Ideal) m ρ)

theorem apply (x : S4096x4096.Idx → Ideal .bf16) (w : S4x2048x1024.Idx → Ideal .bf16) (i : S4096x2048.Idx) :
    Read.val_main_v7 (F := Ideal) x w i = ∑ k : Fin 4096, x (ix2 (i 0) k) * w (Cert.Kernel9Ideal.Prod.colIx (i 1) k) := by
  show Read.val_main_v6 (F := Ideal) x w i = _
  rw [Read.val_main_v6_apply]
  refine Finset.sum_congr rfl fun k _ => congrArg₂ (· * ·) ?_ ?_
  · exact congrArg x (funext fun d => match d with | ⟨0, _⟩ => rfl | ⟨1, _⟩ => rfl)
  · rw [Read.val_main_v3_apply, Read.val_main_v2_apply]
    have hk := k.isLt
    refine congrArg w (funext fun d => Fin.ext ?_)
    match d with
    | ⟨0, _⟩ => show ((i 1).val * 4096 + k.val) / 1024 % 4 = k.val / 1024; omega
    | ⟨1, _⟩ => show ((i 1).val * 4096 + k.val) / 4096 = (i 1).val; omega
    | ⟨2, _⟩ => show ((i 1).val * 4096 + k.val) % 1024 = k.val % 1024; omega

/-- The kernel's result is the reference's. -/
theorem algebraic : Cert.algebraic_Kernel9Ideal_Reference9Ideal := by
  intro m ρ m' ρ' _ hag
  refine ⟨fun c => Cert.Kernel9Ideal.Value.G2 m c, Cert.Kernel9Ideal.Value.run m ρ,
    (θ_run defs _ _).mono (fun r h c => ?_) (Value.run (F := Ideal) m' ρ')⟩
  obtain ⟨e0, e1⟩ := hag c
  obtain ⟨h0, hr⟩ := h c
  rw [e0, e1] at h0
  exact ⟨(h0.trans (Read.val_main_v7_eq ..)).trans (funext fun i => (apply _ _ i).trans (Cert.Kernel9Ideal.Prod.G_apply m c i).symm), hr⟩

end Cert.Reference9Ideal.Prod

end
-- ==== Proof.GwOutB.lean ====
/-
The output projection of the attention, for its weight: the kernel's product, block by block, and the reference's.
-/
module

public import proofs.«01_k».proof.Defs
public import proofs.«01_k».proof.Proof.Fold
public import proofs.«01_k».proof.Proof.Gen.Kernel10Ideal.Value
public import proofs.«01_k».proof.Proof.Gen.Reference10Ideal.Run
public import proofs.«01_k».proof.Proof.Gen.Reference10Ideal.Read
public import Idealize.ShloMosaic.Lib.Quiescent

@[expose] public section

set_option maxRecDepth 16384

noncomputable section

namespace Cert.Kernel10Ideal.Prod

open Cert.Kernel10Ideal Cert.Kernel10Ideal.Gen Cert.Kernel10Ideal.Value Cert.Fold Idealize.ShloMosaic
  Idealize.ShloMosaic.TcCoe Idealize.SL.Sem Idealize.ShloMosaic.StableHlo

abbrev BX := S2048x1024
abbrev BW := S2048x512
abbrev BS := S1024x512
abbrev BO := S1x1024x512

/-- One block's product. -/
def term (x : Vec Ideal BX .bf16) (w : Vec Ideal BW .bf16) (y : BS.Idx) : EReal :=
  ∑ k : Fin 2048, x (ix2 k (y 0)) * w (ix2 k (y 1))

theorem mm (x : BX.Idx → Ideal .bf16) (w : BW.Idx → Ideal .bf16) (y : BS.Idx) :
    matmul (F := Ideal) dot_S2048x1024_S2048x512_S1024x512_0_0_1_1_n_n none x w (constant BS .f32 0x00000000#32) y = term x w y :=
  (Ideal.matmul_apply₁_of dot_S2048x1024_S2048x512_S1024x512_0_0_1_1_n_n (a := (0 : Fin 2)) rfl (K := 2048) rfl x w _ y
    (fun k => ix2 k (y 0)) (fun k => ix2 k (y 1))
    (fun k => funext fun d => match d with | ⟨0, _⟩ => rfl | ⟨1, _⟩ => rfl)
    (fun k => funext fun d => match d with | ⟨0, _⟩ => rfl | ⟨1, _⟩ => rfl)).trans
    ((congrArg (· + _) Ideal.ofBits_zero_f32).trans (zero_add _))

/-! ### What a step leaves -/

section Steps

variable (c : Dev nD) (i : grid0.Coords) (a3 : Memref sig .tc .vmem BX .bf16) (h3 : a3.IsWhole)
  (a4 : Memref sig .tc .vmem BW .bf16) (h4 : a4.IsWhole) (a5 : Memref sig .tc .vmem BO .bf16) (h5 : a5.IsWhole)
  (a6 : Memref sig .tc .vmem BS .f32) (h6 : a6.IsWhole)

/-- The first step of a run leaves its product. -/
theorem first (hc0 : cond0_0 i) (hc1 : ¬cond0_1 i) (hc2 : ¬cond0_2 i) (x : Vec Ideal BX .bf16) (w : Vec Ideal BW .bf16) (y : BS.Idx) :
    sout0_A_0 c i a3 h3 a4 h4 a5 h5 a6 h6 hc0 hc1 hc2 x w y = term x w y := by
  unfold sout0_A_0
  rw [View.read_writes_eq_canon _ _ _ (scover0_A_0 c i a3 h3 a4 h4 a5 h5 a6 h6 hc0 hc1 hc2 x w)]
  unfold kernelRun0_A
  dsimp only
  rw [View.canon_unit_zero hz]
  unfold k0_pay1
  simp only [View.readAt_eq_ld, h3.read_unread, h4.read_unread, View.ld_unit_zero (S := BX) hz, View.ld_unit_zero (S := BW) hz,
    shapeCast_self]
  exact mm x w y

/-- The last step writes the sum of what it finds and its product. -/
theorem last (hc0 : ¬cond0_0 i) (hc1 : ¬cond0_1 i) (hc2 : cond0_2 i) (x : Vec Ideal BX .bf16) (w : Vec Ideal BW .bf16)
    (s : Vec Ideal BS .f32) (y : BO.Idx) :
    out0_B_2 c i a3 h3 a4 h4 a5 h5 a6 h6 hc0 hc1 hc2 x w s y = s (ix2 (y 1) (y 2)) + term x w (ix2 (y 1) (y 2)) := by
  unfold out0_B_2
  rw [View.read_writes_eq_canon _ _ _ (cover0_B_2 c i a3 h3 a4 h4 a5 h5 a6 h6 hc0 hc1 hc2 x w s)]
  unfold kernelRun0_B
  dsimp only
  rw [View.canon_unit_zero hz3]
  unfold k0_pay3
  simp only [View.readAt_eq_ld, h3.read_unread, h4.read_unread, h6.read_unread, View.ld_unit_zero (S := BX) hz,
    View.ld_unit_zero (S := BW) hz, View.ld_unit_zero (S := BS) hz, shapeCast_self]
  exact (stacked _ _ y).trans (congrArg (s (ix2 (y 1) (y 2)) + ·) (mm x w _))

end Steps

/-! ### The blocks a step reads -/

theorem idx : ∀ t : Fin cfg0.N, (win0_0.index t (0 : Fin 2) = t.val % 2 ∧ win0_0.index t (1 : Fin 2) = t.val / 8)
    ∧ (win0_1.index t (0 : Fin 2) = t.val % 2 ∧ win0_1.index t (1 : Fin 2) = t.val / 2 % 4) :=
  (by decide +kernel : ∀ t : Fin grid0.N, _)

variable (m : (ℓ : Loc nD τ sig) → Buf (Elt Ideal) ℓ) (c : Dev nD)

/-- The kernel's two arguments. -/
def X : S4096x1024.Idx → EReal := m ((c : Thread nD τ).loc main_arg0)
def W : S4096x2048.Idx → EReal := m ((c : Thread nD τ).loc main_arg1)

theorem readX (t : Fin cfg0.N) (k : Fin 2048) (a : Fin 1024) (I : S4096x1024.Idx)
    (h0 : (I 0).val = t.val % 2 * 2048 + k.val) (h1 : (I 1).val = t.val / 8 * 1024 + a.val) :
    (iblk m c 0 t : Vec Ideal BX .bf16) (ix2 k a) = X m c I := by
  have e := idx t
  refine congrArg (V m c main_arg0) (funext fun b => Fin.ext ?_) |>.trans (congrFun (V_main_arg0 m c) I)
  match b with
  | ⟨0, _⟩ => show win0_0.index t (0 : Fin 2) * 2048 + 1 * k.val = (I 0).val; omega
  | ⟨1, _⟩ => show win0_0.index t (1 : Fin 2) * 1024 + 1 * a.val = (I 1).val; omega

theorem readW (t : Fin cfg0.N) (k : Fin 2048) (a : Fin 512) (I : S4096x2048.Idx)
    (h0 : (I 0).val = t.val % 2 * 2048 + k.val) (h1 : (I 1).val = t.val / 2 % 4 * 512 + a.val) :
    (iblk m c 1 t : Vec Ideal BW .bf16) (ix2 k a) = W m c I := by
  have e := idx t
  refine congrArg (V m c main_arg1) (funext fun b => Fin.ext ?_) |>.trans (congrFun (V_main_arg1 m c) I)
  match b with
  | ⟨0, _⟩ => show win0_1.index t (0 : Fin 2) * 2048 + 1 * k.val = (I 0).val; omega
  | ⟨1, _⟩ => show win0_1.index t (1 : Fin 2) * 512 + 1 * a.val = (I 1).val; omega

/-! ### The result -/

/-- The column of the whole weight an entry of the stack is on. -/
def colOf (i : S4x1024x512.Idx) : Fin 2048 :=
  ⟨(i 0).val * 512 + (i 2).val, by
    have h0 : (i 0).val < 4 := (i 0).isLt
    have h2 : (i 2).val < 512 := (i 2).isLt
    omega⟩

theorem G_apply (i : S4x1024x512.Idx) :
    G2 m c i = ∑ x : Fin 4096, X m c (ix2 x (i 1)) * W m c (ix2 x (colOf i)) := by
  have b0 : (i 0).val < 4 := (i 0).isLt
  have b1 : (i 1).val < 1024 := (i 1).isLt
  have b2 : (i 2).val < 512 := (i 2).isLt
  have eN : cfg0.N = 8 := N_0
  have er : run2Of i = 1 * ((i 0).val / 1 - 0) + 1 * ((i 1).val / 1024 - 0) + 1 * ((i 2).val / 512 - 0) := rfl
  have hlt : pt2Of i < cfg0.N := by show 2 * run2Of i + 1 < _; omega
  refine (dif_pos hlt).trans ((congrArg (fun z => z.1 (loc2Of i)) (outsAt0_sweep m c _ hlt).symm).trans ?_)
  refine blocked (K := 2) (t := 2048) (by decide) (by decide) (fun n h => (outsAt0 m c n h).2 (ix2 (loc2Of i 1) (loc2Of i 2)))
    (fun n h => (outsAt0 m c n h).1 (loc2Of i))
    (fun n h => term (iblk m c 0 ⟨n, h⟩) (iblk m c 1 ⟨n, h⟩) (ix2 (loc2Of i 1) (loc2Of i 2)))
    (fun n h h0 => ?_) (fun n h h0 h4 => absurd h4 (by omega)) (fun n h h4 => ?_) (run2Of i) hlt _ (fun j h => ?_)
  · rw [outsAt0_A m c ⟨n, h⟩ h0 (by dsimp only; omega)]; dsimp only; exact first ..
  · rw [outsAt0_B m c ⟨n, h⟩ (by dsimp only; omega) h4]; dsimp only; exact last ..
  · have hj := j.isLt
    generalize run2Of i = r at er h
    refine Finset.sum_congr rfl fun k _ => ?_
    have hk := k.isLt
    refine congrArg₂ (· * ·) (readX m c _ k _ _ ?_ ?_) (readW m c _ k _ _ ?_ ?_)
    · show j.val * 2048 + k.val = (2 * r + j.val) % 2 * 2048 + k.val
      omega
    · show (i 1).val = (2 * r + j.val) / 8 * 1024 + (i 1).val % 1024
      omega
    · show j.val * 2048 + k.val = (2 * r + j.val) % 2 * 2048 + k.val
      omega
    · show (i 0).val * 512 + (i 2).val = (2 * r + j.val) / 2 % 4 * 512 + (i 2).val % 512
      omega

end Cert.Kernel10Ideal.Prod

namespace Cert.Reference10Ideal.Prod

open Cert.Reference10Ideal Idealize.ShloMosaic Idealize.ShloMosaic.TcCoe Idealize.SL.Sem Idealize.ShloMosaic.StableHlo

theorem frame : Cert.quiescent_Reference10Ideal := fun m ρ _ =>
  (θ_run defs _ _).mono (fun r h => ⟨fun c => (h c).2, sem_eq_zero_of_no_sems (by decide) r.2⟩) (Value.run (F := Ideal) m ρ)

open Cert.Kernel10Ideal.Prod in
theorem apply (x : S4096x1024.Idx → Ideal .bf16) (w : S4096x2048.Idx → Ideal .bf16) (i : S4x1024x512.Idx) :
    Read.val_main_v10 (F := Ideal) x w i = ∑ k : Fin 4096, x (ix2 k (i 1)) * w (ix2 k (colOf i)) := by
  show Read.val_main_v9 (F := Ideal) x w i = _
  rw [Read.val_main_v9_apply, Read.val_main_v8_apply, Read.val_main_v7_apply, Read.val_main_v6_apply]
  have h0 : (i 0).val < 4 := (i 0).isLt
  have h1 : (i 1).val < 1024 := (i 1).isLt
  have h2 : (i 2).val < 512 := (i 2).isLt
  refine Finset.sum_congr rfl fun k _ => (mul_comm _ _).trans (congrArg₂ (· * ·) ?_ ?_)
  · refine congrArg x (funext fun d => Fin.ext ?_)
    match d with
    | ⟨0, _⟩ => rfl
    | ⟨1, _⟩ => show (((i 1).val * 4 + (i 0).val) * 512 + (i 2).val) / 2048 = (i 1).val; omega
  · refine congrArg w (funext fun d => Fin.ext ?_)
    match d with
    | ⟨0, _⟩ => rfl
    | ⟨1, _⟩ => show (((i 1).val * 4 + (i 0).val) * 512 + (i 2).val) % 2048 = (i 0).val * 512 + (i 2).val; omega

/-- The kernel's result is the reference's. -/
theorem algebraic : Cert.algebraic_Kernel10Ideal_Reference10Ideal := by
  intro m ρ m' ρ' _ hag
  refine ⟨fun c => Cert.Kernel10Ideal.Value.G2 m c, Cert.Kernel10Ideal.Value.run m ρ,
    (θ_run defs _ _).mono (fun r h c => ?_) (Value.run (F := Ideal) m' ρ')⟩
  obtain ⟨e0, e1⟩ := hag c
  obtain ⟨h0, hr⟩ := h c
  rw [e0, e1] at h0
  exact ⟨(h0.trans (Read.val_main_v10_eq ..)).trans (funext fun i => (apply _ _ i).trans (Cert.Kernel10Ideal.Prod.G_apply m c i).symm), hr⟩

end Cert.Reference10Ideal.Prod

end
-- ==== Proof.GxOutB.lean ====
/-
The output projection of the attention, for their input: the kernel's product, block by block, and the reference's.
-/
module

public import proofs.«01_k».proof.Defs
public import proofs.«01_k».proof.Proof.Fold
public import proofs.«01_k».proof.Proof.Gen.Kernel11Ideal.Value
public import proofs.«01_k».proof.Proof.Gen.Reference11Ideal.Run
public import proofs.«01_k».proof.Proof.Gen.Reference11Ideal.Read
public import Idealize.ShloMosaic.Lib.Quiescent

@[expose] public section

set_option maxRecDepth 16384

noncomputable section

namespace Cert.Kernel11Ideal.Prod

open Cert.Kernel11Ideal Cert.Kernel11Ideal.Gen Cert.Kernel11Ideal.Value Cert.Fold Idealize.ShloMosaic
  Idealize.ShloMosaic.TcCoe Idealize.SL.Sem Idealize.ShloMosaic.StableHlo

abbrev BX := S1024x512
abbrev BW := S1x1024x512
abbrev BO := S1024x1024

/-- One block's product. -/
def term (x : Vec Ideal BX .bf16) (w : Vec Ideal BW .bf16) (y : BO.Idx) : EReal :=
  ∑ k : Fin 512, x (ix2 (y 0) k) * w (ix3 (0 : Fin 1) (y 1) k)

theorem mm (x : BX.Idx → Ideal .bf16) (w : BW.Idx → Ideal .bf16) (y : BO.Idx) :
    matmul (F := Ideal) dot_S1024x512_S1024x512_S1024x1024_1_1_0_0_n_n none x
      (shapeCast S1024x512 w shapeCasts_S1x1024x512_S1024x512) (constant BO .f32 0x00000000#32) y = term x w y := by
  refine (Ideal.matmul_apply₁_of dot_S1024x512_S1024x512_S1024x1024_1_1_0_0_n_n (a := (1 : Fin 2)) rfl (K := 512) rfl x _ _ y
    (fun k => ix2 (y 0) k) (fun k => ix2 (y 1) k)
    (fun k => funext fun d => match d with | ⟨0, _⟩ => rfl | ⟨1, _⟩ => rfl)
    (fun k => funext fun d => match d with | ⟨0, _⟩ => rfl | ⟨1, _⟩ => rfl)).trans
    (((congrArg (· + _) Ideal.ofBits_zero_f32).trans (zero_add _)).trans ?_)
  exact Finset.sum_congr rfl fun k _ => congrArg (x (ix2 (y 0) k) * ·) (unstacked w _ _ _)

/-! ### What a step leaves -/

section Steps

variable (c : Dev nD) (i : grid0.Coords) (a3 : Memref sig .tc .vmem BX .bf16) (h3 : a3.IsWhole)
  (a4 : Memref sig .tc .vmem BW .bf16) (h4 : a4.IsWhole) (a5 : Memref sig .tc .vmem BO .bf16) (h5 : a5.IsWhole)
  (a6 : Memref sig .tc .vmem BO .f32) (h6 : a6.IsWhole)

/-- The first step of a run leaves its product. -/
theorem first (hc0 : cond0_0 i) (hc1 : ¬cond0_1 i) (hc2 : ¬cond0_2 i) (x : Vec Ideal BX .bf16) (w : Vec Ideal BW .bf16) (y : BO.Idx) :
    sout0_A_0 c i a3 h3 a4 h4 a5 h5 a6 h6 hc0 hc1 hc2 x w y = term x w y := by
  unfold sout0_A_0
  rw [View.read_writes_eq_canon _ _ _ (scover0_A_0 c i a3 h3 a4 h4 a5 h5 a6 h6 hc0 hc1 hc2 x w)]
  unfold kernelRun0_A
  dsimp only
  rw [View.canon_unit_zero hz]
  unfold k0_pay1
  simp only [View.readAt_eq_ld, h3.read_unread, h4.read_unread, View.ld_unit_zero (S := BX) hz, View.ld_unit_zero (S := BW) hz3,
    shapeCast_self]
  exact mm x w y

/-- A step between adds its product. -/
theorem between (hc0 : ¬cond0_0 i) (hc1 : cond0_1 i) (hc2 : ¬cond0_2 i) (x : Vec Ideal BX .bf16) (w : Vec Ideal BW .bf16)
    (s : Vec Ideal BO .f32) (y : BO.Idx) :
    sout0_B_0 c i a3 h3 a4 h4 a5 h5 a6 h6 hc0 hc1 hc2 x w s y = s y + term x w y := by
  unfold sout0_B_0
  rw [View.read_writes_eq_canon _ _ _ (scover0_B_0 c i a3 h3 a4 h4 a5 h5 a6 h6 hc0 hc1 hc2 x w s)]
  unfold kernelRun0_B
  dsimp only
  rw [View.canon_unit_zero hz]
  unfold k0_pay2
  simp only [View.readAt_eq_ld, h3.read_unread, h4.read_unread, h6.read_unread, View.ld_unit_zero (S := BX) hz,
    View.ld_unit_zero (S := BW) hz3, View.ld_unit_zero (S := BO) hz, shapeCast_self]
  exact congrArg (s y + ·) (mm x w y)

/-- The last step writes the sum of what it finds and its product. -/
theorem last (hc0 : ¬cond0_0 i) (hc1 : ¬cond0_1 i) (hc2 : cond0_2 i) (x : Vec Ideal BX .bf16) (w : Vec Ideal BW .bf16)
    (s : Vec Ideal BO .f32) (y : BO.Idx) :
    out0_C_2 c i a3 h3 a4 h4 a5 h5 a6 h6 hc0 hc1 hc2 x w s y = s y + term x w y := by
  unfold out0_C_2
  rw [View.read_writes_eq_canon _ _ _ (cover0_C_2 c i a3 h3 a4 h4 a5 h5 a6 h6 hc0 hc1 hc2 x w s)]
  unfold kernelRun0_C
  dsimp only
  rw [View.canon_unit_zero hz]
  unfold k0_pay3
  simp only [View.readAt_eq_ld, h3.read_unread, h4.read_unread, h6.read_unread, View.ld_unit_zero (S := BX) hz,
    View.ld_unit_zero (S := BW) hz3, View.ld_unit_zero (S := BO) hz, shapeCast_self]
  exact congrArg (s y + ·) (mm x w y)

end Steps

/-! ### The blocks a step reads -/

theorem idx : ∀ t : Fin cfg0.N, (win0_0.index t (0 : Fin 2) = t.val / 4 ∧ win0_0.index t (1 : Fin 2) = t.val % 4)
    ∧ (win0_1.index t (0 : Fin 3) = t.val % 4 ∧ win0_1.index t (1 : Fin 3) = 0 ∧ win0_1.index t (2 : Fin 3) = 0) :=
  (by decide +kernel : ∀ t : Fin grid0.N, _)

variable (m : (ℓ : Loc nD τ sig) → Buf (Elt Ideal) ℓ) (c : Dev nD)

/-- The kernel's two arguments. -/
def X : S4096x2048.Idx → EReal := m ((c : Thread nD τ).loc main_arg0)
def W : S4x1024x512.Idx → EReal := m ((c : Thread nD τ).loc main_arg1)

theorem readX (t : Fin cfg0.N) (a : Fin 1024) (k : Fin 512) (I : S4096x2048.Idx)
    (h0 : (I 0).val = t.val / 4 * 1024 + a.val) (h1 : (I 1).val = t.val % 4 * 512 + k.val) :
    (iblk m c 0 t : Vec Ideal BX .bf16) (ix2 a k) = X m c I := by
  have e := idx t
  refine congrArg (V m c main_arg0) (funext fun b => Fin.ext ?_) |>.trans (congrFun (V_main_arg0 m c) I)
  match b with
  | ⟨0, _⟩ => show win0_0.index t (0 : Fin 2) * 1024 + 1 * a.val = (I 0).val; omega
  | ⟨1, _⟩ => show win0_0.index t (1 : Fin 2) * 512 + 1 * k.val = (I 1).val; omega

theorem readW (t : Fin cfg0.N) (a : Fin 1024) (k : Fin 512) (I : S4x1024x512.Idx)
    (h0 : (I 0).val = t.val % 4) (h1 : (I 1).val = 0 * 1024 + a.val) (h2 : (I 2).val = k.val) :
    (iblk m c 1 t : Vec Ideal BW .bf16) (ix3 (0 : Fin 1) a k) = W m c I := by
  have e := idx t
  refine congrArg (V m c main_arg1) (funext fun b => Fin.ext ?_) |>.trans (congrFun (V_main_arg1 m c) I)
  match b with
  | ⟨0, _⟩ => show win0_1.index t (0 : Fin 3) * 1 + 1 * 0 = (I 0).val; omega
  | ⟨1, _⟩ => show win0_1.index t (1 : Fin 3) * 1024 + 1 * a.val = (I 1).val; omega
  | ⟨2, _⟩ => show win0_1.index t (2 : Fin 3) * 512 + 1 * k.val = (I 2).val; omega

/-! ### The result -/

/-- Entry (`r`, `n`) of the weight whose columns the stack holds in four parts. -/
def colIx (r : Fin 1024) (n : Fin 2048) : S4x1024x512.Idx :=
  ix3 (⟨n.val / 512, by have := n.isLt; omega⟩ : Fin 4) r (⟨n.val % 512, Nat.mod_lt _ (by decide)⟩ : Fin 512)

theorem G_apply (i : S4096x1024.Idx) :
    G2 m c i = ∑ x : Fin 2048, X m c (ix2 (i 0) x) * W m c (colIx (i 1) x) := by
  have b0 : (i 0).val < 4096 := (i 0).isLt
  have b1 : (i 1).val < 1024 := (i 1).isLt
  have eN : cfg0.N = 16 := N_0
  have hlt : pt2Of i < cfg0.N := by show 4 * (1 * ((i 0).val / 1024 - 0) + 1 * ((i 1).val / 1024 - 0)) + 3 < _; omega
  refine (dif_pos hlt).trans ((congrArg (fun z => z.1 (loc2Of i)) (outsAt0_sweep m c _ hlt).symm).trans ?_)
  refine blocked (K := 4) (t := 512) (by decide) (by decide) (fun n h => (outsAt0 m c n h).2 (loc2Of i))
    (fun n h => (outsAt0 m c n h).1 (loc2Of i)) (fun n h => term (iblk m c 0 ⟨n, h⟩) (iblk m c 1 ⟨n, h⟩) (loc2Of i))
    (fun n h h0 => ?_) (fun n h h0 h4 => ?_) (fun n h h4 => ?_) (run2Of i) hlt _ (fun j h => ?_)
  · rw [outsAt0_A m c ⟨n, h⟩ h0 (by dsimp only; omega) (by dsimp only; omega)]; dsimp only; exact first ..
  · rw [outsAt0_B m c ⟨n, h⟩ h0 (by dsimp only; omega) (by dsimp only; omega)]; dsimp only; exact between ..
  · rw [outsAt0_C m c ⟨n, h⟩ (by dsimp only; omega) (by dsimp only; omega) h4]; dsimp only; exact last ..
  · have hj := j.isLt
    refine Finset.sum_congr rfl fun k _ => ?_
    have hk := k.isLt
    refine congrArg₂ (· * ·) (readX m c _ _ k _ ?_ ?_) (readW m c _ _ k _ ?_ ?_ ?_)
    · show (i 0).val = (4 * (1 * ((i 0).val / 1024 - 0) + 1 * ((i 1).val / 1024 - 0)) + j.val) / 4 * 1024 + (i 0).val % 1024
      omega
    · show j.val * 512 + k.val = (4 * (1 * ((i 0).val / 1024 - 0) + 1 * ((i 1).val / 1024 - 0)) + j.val) % 4 * 512 + k.val
      omega
    · show (j.val * 512 + k.val) / 512 = (4 * (1 * ((i 0).val / 1024 - 0) + 1 * ((i 1).val / 1024 - 0)) + j.val) % 4
      omega
    · show (i 1).val = (4 * (1 * ((i 0).val / 1024 - 0) + 1 * ((i 1).val / 1024 - 0)) + j.val) * 0 + (i 1).val % 1024
      omega
    · show (j.val * 512 + k.val) % 512 = k.val
      omega

end Cert.Kernel11Ideal.Prod

namespace Cert.Reference11Ideal.Prod

open Cert.Reference11Ideal Idealize.ShloMosaic Idealize.ShloMosaic.TcCoe Idealize.SL.Sem Idealize.ShloMosaic.StableHlo

theorem frame : Cert.quiescent_Reference11Ideal := fun m ρ _ =>
  (θ_run defs _ _).mono (fun r h => ⟨fun c => (h c).2, sem_eq_zero_of_no_sems (by decide) r.2⟩) (Value.run (F := Ideal) m ρ)

theorem apply (x : S4096x2048.Idx → Ideal .bf16) (w : S4x1024x512.Idx → Ideal .bf16) (i : S4096x1024.Idx) :
    Read.val_main_v7 (F := Ideal) x w i = ∑ k : Fin 2048, x (ix2 (i 0) k) * w (Cert.Kernel11Ideal.Prod.colIx (i 1) k) := by
  show Read.val_main_v6 (F := Ideal) x w i = _
  rw [Read.val_main_v6_apply]
  refine Finset.sum_congr rfl fun k _ => congrArg₂ (· * ·) ?_ ?_
  · exact congrArg x (funext fun d => match d with | ⟨0, _⟩ => rfl | ⟨1, _⟩ => rfl)
  · rw [Read.val_main_v3_apply, Read.val_main_v2_apply]
    have hk := k.isLt
    refine congrArg w (funext fun d => Fin.ext ?_)
    match d with
    | ⟨0, _⟩ => show ((i 1).val * 2048 + k.val) / 512 % 4 = k.val / 512; omega
    | ⟨1, _⟩ => show ((i 1).val * 2048 + k.val) / 2048 = (i 1).val; omega
    | ⟨2, _⟩ => show ((i 1).val * 2048 + k.val) % 512 = k.val % 512; omega

/-- The kernel's result is the reference's. -/
theorem algebraic : Cert.algebraic_Kernel11Ideal_Reference11Ideal := by
  intro m ρ m' ρ' _ hag
  refine ⟨fun c => Cert.Kernel11Ideal.Value.G2 m c, Cert.Kernel11Ideal.Value.run m ρ,
    (θ_run defs _ _).mono (fun r h c => ?_) (Value.run (F := Ideal) m' ρ')⟩
  obtain ⟨e0, e1⟩ := hag c
  obtain ⟨h0, hr⟩ := h c
  rw [e0, e1] at h0
  exact ⟨(h0.trans (Read.val_main_v7_eq ..)).trans (funext fun i => (apply _ _ i).trans (Cert.Kernel11Ideal.Prod.G_apply m c i).symm), hr⟩

end Cert.Reference11Ideal.Prod

end
-- ==== Proof.InZx.lean ====
/-
The input projection of the scan: the kernel's product, block by block, and the reference's.
-/
module

public import proofs.«01_k».proof.Defs
public import proofs.«01_k».proof.Proof.Fold
public import proofs.«01_k».proof.Proof.Gen.Kernel12Ideal.Value
public import proofs.«01_k».proof.Proof.Gen.Reference12Ideal.Run
public import proofs.«01_k».proof.Proof.Gen.Reference12Ideal.Read
public import Idealize.ShloMosaic.Lib.Quiescent

@[expose] public section

set_option maxRecDepth 16384

noncomputable section

namespace Cert.Kernel12Ideal.Prod

open Cert.Kernel12Ideal Cert.Kernel12Ideal.Gen Cert.Kernel12Ideal.Value Cert.Fold Idealize.ShloMosaic
  Idealize.ShloMosaic.TcCoe Idealize.SL.Sem Idealize.ShloMosaic.StableHlo

abbrev BX := S1024x2048
abbrev BW := S1024x2048
abbrev BO := S1024x1024

/-- One block's product. -/
def term (x : Vec Ideal BX .bf16) (w : Vec Ideal BW .bf16) (y : BO.Idx) : EReal :=
  ∑ k : Fin 2048, x (ix2 (y 0) k) * w (ix2 (y 1) k)

theorem mm (x : BX.Idx → Ideal .bf16) (w : BW.Idx → Ideal .bf16) (y : BO.Idx) :
    matmul (F := Ideal) dot_S1024x2048_S1024x2048_S1024x1024_1_1_0_0_n_n none x w (constant BO .f32 0x00000000#32) y = term x w y :=
  (Ideal.matmul_apply₁_of dot_S1024x2048_S1024x2048_S1024x1024_1_1_0_0_n_n (a := (1 : Fin 2)) rfl (K := 2048) rfl x _ _ y
    (fun k => ix2 (y 0) k) (fun k => ix2 (y 1) k)
    (fun k => funext fun d => match d with | ⟨0, _⟩ => rfl | ⟨1, _⟩ => rfl)
    (fun k => funext fun d => match d with | ⟨0, _⟩ => rfl | ⟨1, _⟩ => rfl)).trans
    ((congrArg (· + _) Ideal.ofBits_zero_f32).trans (zero_add _))

/-- A step writes its product. -/
theorem step (c : Dev nD) (i : grid0.Coords) (a3 : Memref sig .tc .vmem BX .bf16) (h3 : a3.IsWhole)
    (a4 : Memref sig .tc .vmem BW .bf16) (h4 : a4.IsWhole) (a5 : Memref sig .tc .vmem BO .bf16) (h5 : a5.IsWhole)
    (x : Vec Ideal BX .bf16) (w : Vec Ideal BW .bf16) (y : BO.Idx) :
    out0_A_2 c i a3 h3 a4 h4 a5 h5 x w y = term x w y := by
  unfold out0_A_2
  rw [View.read_writes_eq_canon _ _ _ (cover0_A_2 c i a3 h3 a4 h4 a5 h5 x w)]
  unfold kernelRun0_A
  dsimp only
  rw [View.canon_unit_zero hz]
  unfold k0_pay1
  simp only [View.readAt_eq_ld, h3.read_unread, h4.read_unread, View.ld_unit_zero (S := BX) hz, View.ld_unit_zero (S := BW) hz,
    shapeCast_self]
  exact mm x w y

/-! ### The blocks a step reads and writes -/

theorem idx : ∀ t : Fin cfg0.N, (win0_0.index t (0 : Fin 2) = t.val / 10 ∧ win0_0.index t (1 : Fin 2) = 0)
    ∧ (win0_1.index t (0 : Fin 2) = t.val % 10 ∧ win0_1.index t (1 : Fin 2) = 0)
    ∧ (win0_2.index t (0 : Fin 2) = t.val / 10 ∧ win0_2.index t (1 : Fin 2) = t.val % 10) :=
  (by decide +kernel : ∀ t : Fin grid0.N, _)

variable (m : (ℓ : Loc nD τ sig) → Buf (Elt Ideal) ℓ) (c : Dev nD)

/-- The kernel's two arguments. -/
def X : S4096x2048.Idx → EReal := m ((c : Thread nD τ).loc main_arg0)
def W : S10304x2048.Idx → EReal := m ((c : Thread nD τ).loc main_arg1)

theorem readX (t : Fin cfg0.N) (a : Fin 1024) (k : Fin 2048) (I : S4096x2048.Idx)
    (h0 : (I 0).val = t.val / 10 * 1024 + a.val) (h1 : (I 1).val = k.val) :
    (iblk m c 0 t : Vec Ideal BX .bf16) (ix2 a k) = X m c I := by
  have e := idx t
  refine congrArg (V m c main_arg0) (funext fun b => Fin.ext ?_) |>.trans (congrFun (V_main_arg0 m c) I)
  match b with
  | ⟨0, _⟩ => show win0_0.index t (0 : Fin 2) * 1024 + 1 * a.val = (I 0).val; omega
  | ⟨1, _⟩ => show win0_0.index t (1 : Fin 2) * 2048 + 1 * k.val = (I 1).val; omega

theorem readW (t : Fin cfg0.N) (a : Fin 1024) (k : Fin 2048) (I : S10304x2048.Idx)
    (h0 : (I 0).val = t.val % 10 * 1024 + a.val) (h1 : (I 1).val = k.val) :
    (X0_1 m c t : Vec Ideal BW .bf16) (ix2 a k) = W m c I := by
  have e := idx t
  unfold X0_1 Pipeline.Window.fill
  rw [dif_pos (moved0_1 t _)]
  refine congrArg (V m c main_arg1) (funext fun b => Fin.ext ?_) |>.trans (congrFun (V_main_arg1 m c) I)
  match b with
  | ⟨0, _⟩ => show win0_1.index t (0 : Fin 2) * 1024 + 1 * a.val = (I 0).val; omega
  | ⟨1, _⟩ => show win0_1.index t (1 : Fin 2) * 2048 + 1 * k.val = (I 1).val; omega

/-! ### The result -/

/-- Entry (`n`, `k`) of the weight, of whose rows the product uses the first 10240. -/
def rowIx (n : Fin 10240) (k : Fin 2048) : S10304x2048.Idx := ix2 (⟨n.val, by have := n.isLt; omega⟩ : Fin 10304) k

def G : S4096x10240.Idx → EReal := fun i => ∑ x : Fin 2048, X m c (ix2 (i 0) x) * W m c (rowIx (i 1) x)

theorem mem_blk (t : Fin cfg0.N) (i : S4096x10240.Idx) :
    i ∈ ((cfg0.win 2).blk t).view.set ↔ ∀ a : Fin 2, win0_2.index t a * BO.size a ≤ (i a).val
      ∧ (i a).val < win0_2.index t a * BO.size a + BO.size a := by
  show i ∈ ((View.whole main_v0).slice (win0_2.rect t)).set ↔ _
  rw [View.set_slice_whole, Rect.mem_set_unit]
  exact Iff.rfl

/-- What a step writes is its block of the result. -/
theorem block (t : Fin cfg0.N) (y : BO.Idx) (i : S4096x10240.Idx) (h0 : (i 0).val = t.val / 10 * 1024 + (y 0).val)
    (h1 : (i 1).val = t.val % 10 * 1024 + (y 1).val) :
    out0_A_2 c (grid0.coords t) (ms0_0 t) (hs0_0 t) (ms0_1 t) (hs0_1 t) (ms0_2 t) (hs0_2 t) (iblk m c 0 t) (X0_1 m c t) y
      = G m c i :=
  (step ..).trans (Finset.sum_congr rfl fun k _ => congrArg₂ (· * ·) (readX m c t _ k _ h0 rfl) (readW m c t _ k _ h1 rfl))

/-- The array after the run: the blocks written back tile it. -/
theorem final (c : Dev nD) : (dats m 0 c).arrAt 2 cfg0.N = G m c := by
  refine (dats m 0 c).arrAt_eq_of_cover 2 _ (fun t hf => ?_) (fun i => ?_)
  · have e := idx t
    rw [flushed2_A]
    funext y
    refine block m c t ((cfg0.win 2).xinj (grid0.coords t) y) _ ?_ ?_
    · show win0_2.index t (0 : Fin 2) * 1024 + 1 * (y 0).val = t.val / 10 * 1024 + (y 0).val
      omega
    · show win0_2.index t (1 : Fin 2) * 1024 + 1 * (y 1).val = t.val % 10 * 1024 + (y 1).val
      omega
  · have eN : cfg0.N = 40 := N_0
    have h0 : (i 0).val < 4096 := (i 0).isLt
    have h1 : (i 1).val < 10240 := (i 1).isLt
    refine ⟨⟨10 * ((i 0).val / 1024) + (i 1).val / 1024, by omega⟩, flush0_2 _, (mem_blk _ i).mpr fun a => ?_⟩
    have e := idx ⟨10 * ((i 0).val / 1024) + (i 1).val / 1024, by omega⟩
    dsimp only at e
    match a with
    | ⟨0, _⟩ => show win0_2.index _ (0 : Fin 2) * 1024 ≤ (i 0).val ∧ (i 0).val < win0_2.index _ (0 : Fin 2) * 1024 + 1024; omega
    | ⟨1, _⟩ => show win0_2.index _ (1 : Fin 2) * 1024 ≤ (i 1).val ∧ (i 1).val < win0_2.index _ (1 : Fin 2) * 1024 + 1024; omega

end Cert.Kernel12Ideal.Prod

namespace Cert.Reference12Ideal.Prod

open Cert.Reference12Ideal Idealize.ShloMosaic Idealize.ShloMosaic.TcCoe Idealize.SL.Sem Idealize.ShloMosaic.StableHlo

theorem frame : Cert.quiescent_Reference12Ideal := fun m ρ _ =>
  (θ_run defs _ _).mono (fun r h => ⟨fun c => (h c).2, sem_eq_zero_of_no_sems (by decide) r.2⟩) (Value.run (F := Ideal) m ρ)

theorem apply (x : S4096x2048.Idx → Ideal .bf16) (w : S10304x2048.Idx → Ideal .bf16) (i : S4096x10240.Idx) :
    Read.val_main_v5 (F := Ideal) x w i = ∑ k : Fin 2048, x (ix2 (i 0) k) * w (Cert.Kernel12Ideal.Prod.rowIx (i 1) k) := by
  show Read.val_main_v4 (F := Ideal) x w i = _
  rw [Read.val_main_v4_apply]
  refine Finset.sum_congr rfl fun k _ => congrArg₂ (· * ·) ?_ ?_
  · exact congrArg x (funext fun d => match d with | ⟨0, _⟩ => rfl | ⟨1, _⟩ => rfl)
  · rw [Read.val_main_v3_apply]
    show Read.val_main_v1 (F := Ideal) w _ = _
    rw [Read.val_main_v1_apply]
    refine congrArg w (funext fun d => Fin.ext ?_)
    match d with
    | ⟨0, _⟩ => rfl
    | ⟨1, _⟩ => rfl

/-- The kernel's result is the reference's. -/
theorem algebraic : Cert.algebraic_Kernel12Ideal_Reference12Ideal := by
  intro m ρ m' ρ' _ hag
  refine ⟨fun c => _, Cert.Kernel12Ideal.Value.run_blocks (F := Ideal) m ρ,
    (θ_run defs _ _).mono (fun r h c => ?_) (Value.run (F := Ideal) m' ρ')⟩
  obtain ⟨e0, e1⟩ := hag c
  obtain ⟨h0, hr⟩ := h c
  rw [e0, e1] at h0
  exact ⟨((h0.trans (Read.val_main_v5_eq ..)).trans (funext fun i => apply _ _ i)).trans
    (Cert.Kernel12Ideal.Prod.final m c).symm, hr⟩

end Cert.Reference12Ideal.Prod

end
-- ==== Proof.OutA.lean ====
/-
The output projection of the scan: the kernel's product, block by block, and the reference's.
-/
module

public import proofs.«01_k».proof.Defs
public import proofs.«01_k».proof.Proof.Fold
public import proofs.«01_k».proof.Proof.Gen.Kernel13Ideal.Value
public import proofs.«01_k».proof.Proof.Gen.Reference13Ideal.Run
public import proofs.«01_k».proof.Proof.Gen.Reference13Ideal.Read
public import Idealize.ShloMosaic.Lib.Quiescent
public import Idealize.ShloMosaic.Lib.StableHlo.RunRead

@[expose] public section

set_option maxRecDepth 16384

noncomputable section

namespace Cert.Kernel13Ideal.Prod

open Cert.Kernel13Ideal Cert.Kernel13Ideal.Gen Cert.Kernel13Ideal.Value Cert.Fold Idealize.ShloMosaic
  Idealize.ShloMosaic.TcCoe Idealize.SL.Sem Idealize.ShloMosaic.StableHlo

abbrev BX := S1024x2048
abbrev BW := S2048x1024
abbrev BO := S1024x1024

/-- One block's product. -/
def term (x : Vec Ideal BX .bf16) (w : Vec Ideal BW .bf16) (y : BO.Idx) : EReal :=
  ∑ k : Fin 2048, x (ix2 (y 0) k) * w (ix2 k (y 1))

theorem mm (x : BX.Idx → Ideal .bf16) (w : BW.Idx → Ideal .bf16) (y : BO.Idx) :
    matmul (F := Ideal) dot_S1024x2048_S2048x1024_S1024x1024_1_0_0_1_n_n none x w (constant BO .f32 0x00000000#32) y = term x w y :=
  (Ideal.matmul_apply₁_of dot_S1024x2048_S2048x1024_S1024x1024_1_0_0_1_n_n (a := (1 : Fin 2)) rfl (K := 2048) rfl x w _ y
    (fun k => ix2 (y 0) k) (fun k => ix2 k (y 1))
    (fun k => funext fun d => match d with | ⟨0, _⟩ => rfl | ⟨1, _⟩ => rfl)
    (fun k => funext fun d => match d with | ⟨0, _⟩ => rfl | ⟨1, _⟩ => rfl)).trans
    ((congrArg (· + _) Ideal.ofBits_zero_f32).trans (zero_add _))

/-! ### What a step leaves -/

section Steps

variable (c : Dev nD) (i : grid0.Coords) (a3 : Memref sig .tc .vmem BX .bf16) (h3 : a3.IsWhole)
  (a4 : Memref sig .tc .vmem BW .bf16) (h4 : a4.IsWhole) (a5 : Memref sig .tc .vmem BO .f32) (h5 : a5.IsWhole)
  (a6 : Memref sig .tc .vmem BO .f32) (h6 : a6.IsWhole)

/-- The first step of a run leaves its product. -/
theorem first (hc0 : cond0_0 i) (hc1 : ¬cond0_1 i) (hc2 : ¬cond0_2 i) (x : Vec Ideal BX .bf16) (w : Vec Ideal BW .bf16) (y : BO.Idx) :
    sout0_A_0 c i a3 h3 a4 h4 a5 h5 a6 h6 hc0 hc1 hc2 x w y = term x w y := by
  unfold sout0_A_0
  rw [View.read_writes_eq_canon _ _ _ (scover0_A_0 c i a3 h3 a4 h4 a5 h5 a6 h6 hc0 hc1 hc2 x w)]
  unfold kernelRun0_A
  dsimp only
  rw [View.canon_unit_zero hz]
  unfold k0_pay1
  simp only [View.readAt_eq_ld, h3.read_unread, h4.read_unread, View.ld_unit_zero (S := BX) hz, View.ld_unit_zero (S := BW) hz,
    shapeCast_self]
  exact mm x w y

/-- The last step writes the sum of what it finds and its product. -/
theorem last (hc0 : ¬cond0_0 i) (hc1 : ¬cond0_1 i) (hc2 : cond0_2 i) (x : Vec Ideal BX .bf16) (w : Vec Ideal BW .bf16)
    (s : Vec Ideal BO .f32) (y : BO.Idx) :
    out0_B_2 c i a3 h3 a4 h4 a5 h5 a6 h6 hc0 hc1 hc2 x w s y = s y + term x w y := by
  unfold out0_B_2
  rw [View.read_writes_eq_canon _ _ _ (cover0_B_2 c i a3 h3 a4 h4 a5 h5 a6 h6 hc0 hc1 hc2 x w s)]
  unfold kernelRun0_B
  dsimp only
  rw [View.canon_unit_zero hz]
  unfold k0_pay3
  simp only [View.readAt_eq_ld, h3.read_unread, h4.read_unread, h6.read_unread, View.ld_unit_zero (S := BX) hz,
    View.ld_unit_zero (S := BW) hz, View.ld_unit_zero (S := BO) hz, shapeCast_self]
  exact congrArg (s y + ·) (mm x w y)

end Steps

/-! ### The blocks a step reads -/

theorem idx : ∀ t : Fin cfg0.N, (win0_0.index t (0 : Fin 2) = t.val / 4 ∧ win0_0.index t (1 : Fin 2) = t.val % 2)
    ∧ (win0_1.index t (0 : Fin 2) = t.val % 2 ∧ win0_1.index t (1 : Fin 2) = t.val / 2 % 2) :=
  (by decide +kernel : ∀ t : Fin grid0.N, _)

variable (m : (ℓ : Loc nD τ sig) → Buf (Elt Ideal) ℓ) (c : Dev nD)

/-- The kernel's two arguments. -/
def X : S4096x4096.Idx → EReal := m ((c : Thread nD τ).loc main_arg0)
def W : S4x1024x2048.Idx → EReal := m ((c : Thread nD τ).loc main_arg1)

/-- The stacked weight as one matrix, as the region finds it. -/
theorem whole : V m c main_v0 = shapeCast S4096x2048 (W m c : Vec Ideal S4x1024x2048 .bf16) shapeCasts_S4x1024x2048_S4096x2048 := by
  unfold V; after_reads_simp; rfl

theorem readX (t : Fin cfg0.N) (a : Fin 1024) (k : Fin 2048) (I : S4096x4096.Idx)
    (h0 : (I 0).val = t.val / 4 * 1024 + a.val) (h1 : (I 1).val = t.val % 2 * 2048 + k.val) :
    (iblk m c 0 t : Vec Ideal BX .bf16) (ix2 a k) = X m c I := by
  have e := idx t
  refine congrArg (V m c main_arg0) (funext fun b => Fin.ext ?_) |>.trans (congrFun (V_main_arg0 m c) I)
  match b with
  | ⟨0, _⟩ => show win0_0.index t (0 : Fin 2) * 1024 + 1 * a.val = (I 0).val; omega
  | ⟨1, _⟩ => show win0_0.index t (1 : Fin 2) * 2048 + 1 * k.val = (I 1).val; omega

/-- Entry (`k`, `n`) of the weight whose rows the stack holds in four parts. -/
def rowIx (k : Fin 4096) (n : Fin 2048) : S4x1024x2048.Idx :=
  ix3 (⟨k.val / 1024, by have := k.isLt; omega⟩ : Fin 4) (⟨k.val % 1024, Nat.mod_lt _ (by decide)⟩ : Fin 1024) n

theorem readW (t : Fin cfg0.N) (k : Fin 2048) (a : Fin 1024) (K : Fin 4096) (n : Fin 2048)
    (h0 : K.val = t.val % 2 * 2048 + k.val) (h1 : n.val = t.val / 2 % 2 * 1024 + a.val) :
    (iblk m c 1 t : Vec Ideal BW .bf16) (ix2 k a) = W m c (rowIx K n) := by
  have e := idx t
  refine (congrArg (V m c main_v0) (funext fun b => Fin.ext (?_ : _ = (ix2 K n b).val))).trans
    ((congrFun (whole m c) (ix2 K n)).trans (shapeCast_apply _ _ _ (rowIx K n) ?_))
  · match b with
    | ⟨0, _⟩ => show win0_1.index t (0 : Fin 2) * 2048 + 1 * k.val = K.val; omega
    | ⟨1, _⟩ => show win0_1.index t (1 : Fin 2) * 1024 + 1 * a.val = n.val; omega
  · rw [Shape.rowMajor_val_three, Shape.rowMajor_val_two]
    show (K.val / 1024 * 1024 + K.val % 1024) * 2048 + n.val = K.val * 2048 + n.val
    omega

/-! ### The result -/

theorem G_apply (i : S4096x2048.Idx) :
    G2 m c i = ∑ x : Fin 4096, X m c (ix2 (i 0) x) * W m c (rowIx x (i 1)) := by
  have b0 : (i 0).val < 4096 := (i 0).isLt
  have b1 : (i 1).val < 2048 := (i 1).isLt
  have eN : cfg0.N = 16 := N_0
  have hlt : pt2Of i < cfg0.N := by show 2 * (2 * ((i 0).val / 1024 - 0) + 1 * ((i 1).val / 1024 - 0)) + 1 < _; omega
  refine (dif_pos hlt).trans ((congrArg (fun z => z.1 (loc2Of i)) (outsAt0_sweep m c _ hlt).symm).trans ?_)
  refine blocked (K := 2) (t := 2048) (by decide) (by decide) (fun n h => (outsAt0 m c n h).2 (loc2Of i))
    (fun n h => (outsAt0 m c n h).1 (loc2Of i)) (fun n h => term (iblk m c 0 ⟨n, h⟩) (iblk m c 1 ⟨n, h⟩) (loc2Of i))
    (fun n h h0 => ?_) (fun n h h0 h4 => absurd h4 (by omega)) (fun n h h4 => ?_) (run2Of i) hlt _ (fun j h => ?_)
  · rw [outsAt0_A m c ⟨n, h⟩ h0 (by dsimp only; omega)]; dsimp only; exact first ..
  · rw [outsAt0_B m c ⟨n, h⟩ (by dsimp only; omega) h4]; dsimp only; exact last ..
  · have hj := j.isLt
    refine Finset.sum_congr rfl fun k _ => ?_
    have hk := k.isLt
    refine congrArg₂ (· * ·) (readX m c _ _ k _ ?_ ?_) (readW m c _ k _ _ _ ?_ ?_)
    · show (i 0).val = (2 * (2 * ((i 0).val / 1024 - 0) + 1 * ((i 1).val / 1024 - 0)) + j.val) / 4 * 1024 + (i 0).val % 1024
      omega
    · show j.val * 2048 + k.val = (2 * (2 * ((i 0).val / 1024 - 0) + 1 * ((i 1).val / 1024 - 0)) + j.val) % 2 * 2048 + k.val
      omega
    · show j.val * 2048 + k.val = (2 * (2 * ((i 0).val / 1024 - 0) + 1 * ((i 1).val / 1024 - 0)) + j.val) % 2 * 2048 + k.val
      omega
    · show (i 1).val = (2 * (2 * ((i 0).val / 1024 - 0) + 1 * ((i 1).val / 1024 - 0)) + j.val) / 2 % 2 * 1024 + (i 1).val % 1024
      omega

end Cert.Kernel13Ideal.Prod

namespace Cert.Reference13Ideal.Prod

open Cert.Reference13Ideal Idealize.ShloMosaic Idealize.ShloMosaic.TcCoe Idealize.SL.Sem Idealize.ShloMosaic.StableHlo

theorem frame : Cert.quiescent_Reference13Ideal := fun m ρ _ =>
  (θ_run defs _ _).mono (fun r h => ⟨fun c => (h c).2, sem_eq_zero_of_no_sems (by decide) r.2⟩) (Value.run (F := Ideal) m ρ)

theorem apply (x : S4096x4096.Idx → Ideal .bf16) (w : S4x1024x2048.Idx → Ideal .bf16) (i : S4096x2048.Idx) :
    Read.val_main_v3 (F := Ideal) x w i = ∑ k : Fin 4096, x (ix2 (i 0) k) * w (Cert.Kernel13Ideal.Prod.rowIx k (i 1)) := by
  rw [Read.val_main_v3_apply]
  refine Finset.sum_congr rfl fun k _ => congrArg₂ (· * ·) ?_ ?_
  · exact congrArg x (funext fun d => match d with | ⟨0, _⟩ => rfl | ⟨1, _⟩ => rfl)
  · rw [Read.val_main_v2_apply]
    have hk := k.isLt
    have h1 : (i 1).val < 2048 := (i 1).isLt
    refine congrArg w (funext fun d => Fin.ext ?_)
    match d with
    | ⟨0, _⟩ => show (k.val * 2048 + (i 1).val) / 2097152 = k.val / 1024; omega
    | ⟨1, _⟩ => show (k.val * 2048 + (i 1).val) / 2048 % 1024 = k.val % 1024; omega
    | ⟨2, _⟩ => show (k.val * 2048 + (i 1).val) % 2048 = (i 1).val; omega

/-- The kernel's result is the reference's. -/
theorem algebraic : Cert.algebraic_Kernel13Ideal_Reference13Ideal := by
  intro m ρ m' ρ' _ hag
  refine ⟨fun c => Cert.Kernel13Ideal.Value.G2 m c, Cert.Kernel13Ideal.Value.run m ρ,
    (θ_run defs _ _).mono (fun r h c => ?_) (Value.run (F := Ideal) m' ρ')⟩
  obtain ⟨e0, e1⟩ := hag c
  obtain ⟨h0, hr⟩ := h c
  rw [e0, e1] at h0
  exact ⟨(h0.trans (Read.val_main_v3_eq ..)).trans (funext fun i => (apply _ _ i).trans (Cert.Kernel13Ideal.Prod.G_apply m c i).symm), hr⟩

end Cert.Reference13Ideal.Prod

end
-- ==== Proof.ZB.lean ====
/-
The output gate's input projection in the attention: the kernel's product, block by block, and the reference's.
-/
module

public import proofs.«01_k».proof.Defs
public import proofs.«01_k».proof.Proof.Fold
public import proofs.«01_k».proof.Proof.Gen.Kernel14Ideal.Value
public import proofs.«01_k».proof.Proof.Gen.Reference14Ideal.Run
public import proofs.«01_k».proof.Proof.Gen.Reference14Ideal.Read
public import Idealize.ShloMosaic.Lib.Quiescent
public import Idealize.ShloMosaic.Lib.StableHlo.RunRead

@[expose] public section

set_option maxRecDepth 16384

noncomputable section

namespace Cert.Kernel14Ideal.Prod

open Cert.Kernel14Ideal Cert.Kernel14Ideal.Gen Cert.Kernel14Ideal.Value Cert.Fold Idealize.ShloMosaic
  Idealize.ShloMosaic.TcCoe Idealize.SL.Sem Idealize.ShloMosaic.StableHlo

abbrev BX := S1024x2048
abbrev BW := S2048x1024
abbrev BO := S1024x1024

/-- One block's product. -/
def term (x : Vec Ideal BX .bf16) (w : Vec Ideal BW .bf16) (y : BO.Idx) : EReal :=
  ∑ k : Fin 2048, x (ix2 (y 0) k) * w (ix2 k (y 1))

theorem mm (x : BX.Idx → Ideal .bf16) (w : BW.Idx → Ideal .bf16) (y : BO.Idx) :
    matmul (F := Ideal) dot_S1024x2048_S2048x1024_S1024x1024_1_0_0_1_n_n none x w (constant BO .f32 0x00000000#32) y = term x w y :=
  (Ideal.matmul_apply₁_of dot_S1024x2048_S2048x1024_S1024x1024_1_0_0_1_n_n (a := (1 : Fin 2)) rfl (K := 2048) rfl x _ _ y
    (fun k => ix2 (y 0) k) (fun k => ix2 k (y 1))
    (fun k => funext fun d => match d with | ⟨0, _⟩ => rfl | ⟨1, _⟩ => rfl)
    (fun k => funext fun d => match d with | ⟨0, _⟩ => rfl | ⟨1, _⟩ => rfl)).trans
    ((congrArg (· + _) Ideal.ofBits_zero_f32).trans (zero_add _))

/-- A step writes its product. -/
theorem step (x : Vec Ideal BX .bf16) (w : Vec Ideal BW .bf16) (y : BO.Idx) : out0_2 x w y = term x w y := by
  unfold out0_2
  rw [View.canon_unit_zero hz]
  unfold k0_pay1
  simp only [View.ld_unit_zero (S := BX) hz, View.ld_unit_zero (S := BW) hz, shapeCast_self]
  exact mm x w y

/-! ### The blocks a step reads and writes -/

theorem idx : ∀ t : Fin cfg0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0) :=
  (by decide +kernel : ∀ t : Fin grid0.N, _)

variable (m : (ℓ : Loc nD τ sig) → Buf (Elt Ideal) ℓ) (c : Dev nD)

/-- The kernel's two arguments. -/
def X : S4096x2048.Idx → EReal := m ((c : Thread nD τ).loc main_arg0)
def W : S4x2048x1024.Idx → EReal := m ((c : Thread nD τ).loc main_arg1)

/-- The last slab of the stacked weight, as the region finds it. -/
theorem slab : V m c main_v1 = shapeCast S2048x1024 (extractStridedSlice S1x2048x1024 ![3, 0, 0] (W m c : Vec Ideal S4x2048x1024 .bf16)
    slices_S4x2048x1024_S1x2048x1024_3_0_0) shapeCasts_S1x2048x1024_S2048x1024 := by
  unfold V; after_reads_simp; rfl

theorem readX (t : Fin cfg0.N) (a : Fin 1024) (k : Fin 2048) (I : S4096x2048.Idx)
    (h0 : (I 0).val = t.val * 1024 + a.val) (h1 : (I 1).val = k.val) :
    (iblk m c 0 t : Vec Ideal BX .bf16) (ix2 a k) = X m c I := by
  have e := idx t
  refine congrArg (V m c main_arg0) (funext fun b => Fin.ext ?_) |>.trans (congrFun (V_main_arg0 m c) I)
  match b with
  | ⟨0, _⟩ => show win0_0.index t (0 : Fin 2) * 1024 + 1 * a.val = (I 0).val; omega
  | ⟨1, _⟩ => show win0_0.index t (1 : Fin 2) * 2048 + 1 * k.val = (I 1).val; omega

theorem readW (t : Fin cfg0.N) (k : Fin 2048) (a : Fin 1024) :
    (iblk m c 1 t : Vec Ideal BW .bf16) (ix2 k a) = W m c (ix3 (3 : Fin 4) k a) := by
  have e := idx t
  refine (congrArg (V m c main_v1) (funext fun b => Fin.ext ?_)).trans
    ((congrFun (slab m c) (ix2 k a)).trans ((unstacked _ _ k a).trans (congrArg (W m c) (funext fun b => Fin.ext ?_))))
  · match b with
    | ⟨0, _⟩ => show win0_1.index t (0 : Fin 2) * 2048 + 1 * k.val = k.val; omega
    | ⟨1, _⟩ => show win0_1.index t (1 : Fin 2) * 1024 + 1 * a.val = a.val; omega
  · match b with
    | ⟨0, _⟩ => rfl
    | ⟨1, _⟩ => show 0 + k.val = k.val; omega
    | ⟨2, _⟩ => show 0 + a.val = a.val; omega

/-! ### The result -/

def G : S4096x1024.Idx → EReal := fun i => ∑ x : Fin 2048, X m c (ix2 (i 0) x) * W m c (ix3 (3 : Fin 4) x (i 1))

theorem mem_blk (t : Fin cfg0.N) (i : S4096x1024.Idx) :
    i ∈ ((cfg0.win 2).blk t).view.set ↔ ∀ a : Fin 2, win0_2.index t a * BO.size a ≤ (i a).val
      ∧ (i a).val < win0_2.index t a * BO.size a + BO.size a := by
  show i ∈ ((View.whole main_v2).slice (win0_2.rect t)).set ↔ _
  rw [View.set_slice_whole, Rect.mem_set_unit]
  exact Iff.rfl

/-- What a step writes is its block of the result. -/
theorem block (t : Fin cfg0.N) (y : BO.Idx) (i : S4096x1024.Idx) (h0 : (i 0).val = t.val * 1024 + (y 0).val)
    (h1 : (i 1).val = (y 1).val) : out0_2 (iblk m c 0 t) (iblk m c 1 t) y = G m c i := by
  have e : y 1 = i 1 := Fin.ext h1.symm
  exact (step _ _ y).trans (Finset.sum_congr rfl fun k _ => congrArg₂ (· * ·) (readX m c t _ k _ h0 rfl) ((readW m c t k _).trans (congrArg (fun z => W m c (ix3 (3 : Fin 4) k z)) e)))

/-- The array after the run: the blocks written back tile it. -/
theorem final (c : Dev nD) : (dats m 0 c).arrAt 2 cfg0.N = G m c := by
  refine (dats m 0 c).arrAt_eq_of_cover 2 _ (fun t hf => ?_) (fun i => ?_)
  · have e := idx t
    rw [flushed2]
    funext y
    refine block m c t ((cfg0.win 2).xinj (grid0.coords t) y) _ ?_ ?_
    · show win0_2.index t (0 : Fin 2) * 1024 + 1 * (y 0).val = t.val * 1024 + (y 0).val
      omega
    · show win0_2.index t (1 : Fin 2) * 1024 + 1 * (y 1).val = (y 1).val
      omega
  · have eN : cfg0.N = 4 := N_0
    have h0 : (i 0).val < 4096 := (i 0).isLt
    have h1 : (i 1).val < 1024 := (i 1).isLt
    refine ⟨⟨(i 0).val / 1024, by omega⟩, flush0_2 _, (mem_blk _ i).mpr fun a => ?_⟩
    have e := idx ⟨(i 0).val / 1024, by omega⟩
    dsimp only at e
    match a with
    | ⟨0, _⟩ => show win0_2.index _ (0 : Fin 2) * 1024 ≤ (i 0).val ∧ (i 0).val < win0_2.index _ (0 : Fin 2) * 1024 + 1024; omega
    | ⟨1, _⟩ => show win0_2.index _ (1 : Fin 2) * 1024 ≤ (i 1).val ∧ (i 1).val < win0_2.index _ (1 : Fin 2) * 1024 + 1024; omega

end Cert.Kernel14Ideal.Prod

namespace Cert.Reference14Ideal.Prod

open Cert.Reference14Ideal Idealize.ShloMosaic Idealize.ShloMosaic.TcCoe Idealize.SL.Sem Idealize.ShloMosaic.StableHlo

theorem frame : Cert.quiescent_Reference14Ideal := fun m ρ _ =>
  (θ_run defs _ _).mono (fun r h => ⟨fun c => (h c).2, sem_eq_zero_of_no_sems (by decide) r.2⟩) (Value.run (F := Ideal) m ρ)

theorem apply (x : S4096x2048.Idx → Ideal .bf16) (w : S4x2048x1024.Idx → Ideal .bf16) (i : S4096x1024.Idx) :
    Read.val_main_v5 (F := Ideal) x w i = ∑ k : Fin 2048, x (ix2 (i 0) k) * w (ix3 (3 : Fin 4) k (i 1)) := by
  show Read.val_main_v4 (F := Ideal) x w i = _
  rw [Read.val_main_v4_apply]
  refine Finset.sum_congr rfl fun k _ => congrArg₂ (· * ·) ?_ ?_
  · exact congrArg x (funext fun d => match d with | ⟨0, _⟩ => rfl | ⟨1, _⟩ => rfl)
  · show Read.val_main_v2 (F := Ideal) w _ = _
    rw [Read.val_main_v2_apply, Read.val_main_v1_apply]
    have hk := k.isLt
    have h1 : (i 1).val < 1024 := (i 1).isLt
    refine congrArg w (funext fun d => Fin.ext ?_)
    match d with
    | ⟨0, _⟩ => rfl
    | ⟨1, _⟩ => show (k.val * 1024 + (i 1).val) / 1024 % 2048 = k.val; omega
    | ⟨2, _⟩ => show (k.val * 1024 + (i 1).val) % 1024 = (i 1).val; omega

/-- The kernel's result is the reference's. -/
theorem algebraic : Cert.algebraic_Kernel14Ideal_Reference14Ideal := by
  intro m ρ m' ρ' _ hag
  refine ⟨fun c => _, Cert.Kernel14Ideal.Value.run_blocks (F := Ideal) m ρ,
    (θ_run defs _ _).mono (fun r h c => ?_) (Value.run (F := Ideal) m' ρ')⟩
  obtain ⟨e0, e1⟩ := hag c
  obtain ⟨h0, hr⟩ := h c
  rw [e0, e1] at h0
  exact ⟨((h0.trans (Read.val_main_v5_eq ..)).trans (funext fun i => apply _ _ i)).trans
    (Cert.Kernel14Ideal.Prod.final m c).symm, hr⟩

end Cert.Reference14Ideal.Prod

end
-- ==== Proof.OutB.lean ====
/-
The output projection of the attention: the kernel's product, block by block, and the reference's.
-/
module

public import proofs.«01_k».proof.Defs
public import proofs.«01_k».proof.Proof.Fold
public import proofs.«01_k».proof.Proof.Gen.Kernel15Ideal.Value
public import proofs.«01_k».proof.Proof.Gen.Reference15Ideal.Run
public import proofs.«01_k».proof.Proof.Gen.Reference15Ideal.Read
public import Idealize.ShloMosaic.Lib.Quiescent

@[expose] public section

set_option maxRecDepth 16384

noncomputable section

namespace Cert.Kernel15Ideal.Prod

open Cert.Kernel15Ideal Cert.Kernel15Ideal.Gen Cert.Kernel15Ideal.Value Cert.Fold Idealize.ShloMosaic
  Idealize.ShloMosaic.TcCoe Idealize.SL.Sem Idealize.ShloMosaic.StableHlo

abbrev BX := S1024x1024
abbrev BW := S1x1024x512
abbrev BO := S1024x512

/-- One block's product. -/
def term (x : Vec Ideal BX .bf16) (w : Vec Ideal BW .bf16) (y : BO.Idx) : EReal :=
  ∑ k : Fin 1024, x (ix2 (y 0) k) * w (ix3 (0 : Fin 1) k (y 1))

theorem mm (x : BX.Idx → Ideal .bf16) (w : BW.Idx → Ideal .bf16) (y : BO.Idx) :
    matmul (F := Ideal) dot_S1024x1024_S1024x512_S1024x512_1_0_0_1_n_n none x
      (shapeCast S1024x512 w shapeCasts_S1x1024x512_S1024x512) (constant BO .f32 0x00000000#32) y = term x w y := by
  refine (Ideal.matmul_apply₁_of dot_S1024x1024_S1024x512_S1024x512_1_0_0_1_n_n (a := (1 : Fin 2)) rfl (K := 1024) rfl x _ _ y
    (fun k => ix2 (y 0) k) (fun k => ix2 k (y 1))
    (fun k => funext fun d => match d with | ⟨0, _⟩ => rfl | ⟨1, _⟩ => rfl)
    (fun k => funext fun d => match d with | ⟨0, _⟩ => rfl | ⟨1, _⟩ => rfl)).trans
    (((congrArg (· + _) Ideal.ofBits_zero_f32).trans (zero_add _)).trans ?_)
  exact Finset.sum_congr rfl fun k _ => congrArg (x (ix2 (y 0) k) * ·) (unstacked w _ _ _)

/-- A step writes its product. -/
theorem step (x : Vec Ideal BX .bf16) (w : Vec Ideal BW .bf16) (y : BO.Idx) : out0_2 x w y = term x w y := by
  unfold out0_2
  rw [View.canon_unit_zero hz]
  unfold k0_pay1
  simp only [View.ld_unit_zero (S := BX) hz, View.ld_unit_zero (S := BW) hz3]
  exact mm x w y

/-! ### The blocks a step reads and writes -/

theorem idx : ∀ t : Fin cfg0.N, (win0_0.index t (0 : Fin 2) = t.val / 4 ∧ win0_0.index t (1 : Fin 2) = 0)
    ∧ (win0_1.index t (0 : Fin 3) = t.val % 4 ∧ win0_1.index t (1 : Fin 3) = 0 ∧ win0_1.index t (2 : Fin 3) = 0)
    ∧ (win0_2.index t (0 : Fin 2) = t.val / 4 ∧ win0_2.index t (1 : Fin 2) = t.val % 4) :=
  (by decide +kernel : ∀ t : Fin grid0.N, _)

variable (m : (ℓ : Loc nD τ sig) → Buf (Elt Ideal) ℓ) (c : Dev nD)

/-- The kernel's two arguments. -/
def X : S4096x1024.Idx → EReal := m ((c : Thread nD τ).loc main_arg0)
def W : S4x1024x512.Idx → EReal := m ((c : Thread nD τ).loc main_arg1)

theorem readX (t : Fin cfg0.N) (a : Fin 1024) (k : Fin 1024) (I : S4096x1024.Idx)
    (h0 : (I 0).val = t.val / 4 * 1024 + a.val) (h1 : (I 1).val = k.val) :
    (iblk m c 0 t : Vec Ideal BX .bf16) (ix2 a k) = X m c I := by
  have e := idx t
  refine congrArg (V m c main_arg0) (funext fun b => Fin.ext ?_) |>.trans (congrFun (V_main_arg0 m c) I)
  match b with
  | ⟨0, _⟩ => show win0_0.index t (0 : Fin 2) * 1024 + 1 * a.val = (I 0).val; omega
  | ⟨1, _⟩ => show win0_0.index t (1 : Fin 2) * 1024 + 1 * k.val = (I 1).val; omega

theorem readW (t : Fin cfg0.N) (k : Fin 1024) (a : Fin 512) (I : S4x1024x512.Idx)
    (h0 : (I 0).val = t.val % 4) (h1 : (I 1).val = k.val) (h2 : (I 2).val = a.val) :
    (iblk m c 1 t : Vec Ideal BW .bf16) (ix3 (0 : Fin 1) k a) = W m c I := by
  have e := idx t
  refine congrArg (V m c main_arg1) (funext fun b => Fin.ext ?_) |>.trans (congrFun (V_main_arg1 m c) I)
  match b with
  | ⟨0, _⟩ => show win0_1.index t (0 : Fin 3) * 1 + 1 * 0 = (I 0).val; omega
  | ⟨1, _⟩ => show win0_1.index t (1 : Fin 3) * 1024 + 1 * k.val = (I 1).val; omega
  | ⟨2, _⟩ => show win0_1.index t (2 : Fin 3) * 512 + 1 * a.val = (I 2).val; omega

/-! ### The result -/

/-- Entry (`k`, `n`) of the weight whose columns the stack holds in four parts. -/
def colIx (k : Fin 1024) (n : Fin 2048) : S4x1024x512.Idx :=
  ix3 (⟨n.val / 512, by have := n.isLt; omega⟩ : Fin 4) k (⟨n.val % 512, Nat.mod_lt _ (by decide)⟩ : Fin 512)

def G : S4096x2048.Idx → EReal := fun i => ∑ x : Fin 1024, X m c (ix2 (i 0) x) * W m c (colIx x (i 1))

theorem mem_blk (t : Fin cfg0.N) (i : S4096x2048.Idx) :
    i ∈ ((cfg0.win 2).blk t).view.set ↔ ∀ a : Fin 2, win0_2.index t a * BO.size a ≤ (i a).val
      ∧ (i a).val < win0_2.index t a * BO.size a + BO.size a := by
  show i ∈ ((View.whole main_v0).slice (win0_2.rect t)).set ↔ _
  rw [View.set_slice_whole, Rect.mem_set_unit]
  exact Iff.rfl

/-- What a step writes is its block of the result. -/
theorem block (t : Fin cfg0.N) (y : BO.Idx) (i : S4096x2048.Idx) (h0 : (i 0).val = t.val / 4 * 1024 + (y 0).val)
    (h1 : (i 1).val = t.val % 4 * 512 + (y 1).val) : out0_2 (iblk m c 0 t) (iblk m c 1 t) y = G m c i := by
  have hy : (y 1).val < 512 := (y 1).isLt
  refine (step _ _ y).trans (Finset.sum_congr rfl fun k _ => congrArg₂ (· * ·) (readX m c t _ k _ h0 rfl) (readW m c t k _ _ ?_ rfl ?_))
  · show (i 1).val / 512 = t.val % 4
    omega
  · show (i 1).val % 512 = (y 1).val
    omega

/-- The array after the run: the blocks written back tile it. -/
theorem final (c : Dev nD) : (dats m 0 c).arrAt 2 cfg0.N = G m c := by
  refine (dats m 0 c).arrAt_eq_of_cover 2 _ (fun t hf => ?_) (fun i => ?_)
  · have e := idx t
    rw [flushed2]
    funext y
    refine block m c t ((cfg0.win 2).xinj (grid0.coords t) y) _ ?_ ?_
    · show win0_2.index t (0 : Fin 2) * 1024 + 1 * (y 0).val = t.val / 4 * 1024 + (y 0).val
      omega
    · show win0_2.index t (1 : Fin 2) * 512 + 1 * (y 1).val = t.val % 4 * 512 + (y 1).val
      omega
  · have eN : cfg0.N = 16 := N_0
    have h0 : (i 0).val < 4096 := (i 0).isLt
    have h1 : (i 1).val < 2048 := (i 1).isLt
    refine ⟨⟨4 * ((i 0).val / 1024) + (i 1).val / 512, by omega⟩, flush0_2 _, (mem_blk _ i).mpr fun a => ?_⟩
    have e := idx ⟨4 * ((i 0).val / 1024) + (i 1).val / 512, by omega⟩
    dsimp only at e
    match a with
    | ⟨0, _⟩ => show win0_2.index _ (0 : Fin 2) * 1024 ≤ (i 0).val ∧ (i 0).val < win0_2.index _ (0 : Fin 2) * 1024 + 1024; omega
    | ⟨1, _⟩ => show win0_2.index _ (1 : Fin 2) * 512 ≤ (i 1).val ∧ (i 1).val < win0_2.index _ (1 : Fin 2) * 512 + 512; omega

end Cert.Kernel15Ideal.Prod

namespace Cert.Reference15Ideal.Prod

open Cert.Reference15Ideal Idealize.ShloMosaic Idealize.ShloMosaic.TcCoe Idealize.SL.Sem Idealize.ShloMosaic.StableHlo

theorem frame : Cert.quiescent_Reference15Ideal := fun m ρ _ =>
  (θ_run defs _ _).mono (fun r h => ⟨fun c => (h c).2, sem_eq_zero_of_no_sems (by decide) r.2⟩) (Value.run (F := Ideal) m ρ)

theorem apply (x : S4096x1024.Idx → Ideal .bf16) (w : S4x1024x512.Idx → Ideal .bf16) (i : S4096x2048.Idx) :
    Read.val_main_v4 (F := Ideal) x w i = ∑ k : Fin 1024, x (ix2 (i 0) k) * w (Cert.Kernel15Ideal.Prod.colIx k (i 1)) := by
  rw [Read.val_main_v4_apply]
  refine Finset.sum_congr rfl fun k _ => congrArg₂ (· * ·) ?_ ?_
  · exact congrArg x (funext fun d => match d with | ⟨0, _⟩ => rfl | ⟨1, _⟩ => rfl)
  · rw [Read.val_main_v3_apply, Read.val_main_v2_apply]
    have hk := k.isLt
    have h1 : (i 1).val < 2048 := (i 1).isLt
    refine congrArg w (funext fun d => Fin.ext ?_)
    match d with
    | ⟨0, _⟩ => show (k.val * 2048 + (i 1).val) / 512 % 4 = (i 1).val / 512; omega
    | ⟨1, _⟩ => show (k.val * 2048 + (i 1).val) / 2048 = k.val; omega
    | ⟨2, _⟩ => show (k.val * 2048 + (i 1).val) % 512 = (i 1).val % 512; omega

/-- The kernel's result is the reference's. -/
theorem algebraic : Cert.algebraic_Kernel15Ideal_Reference15Ideal := by
  intro m ρ m' ρ' _ hag
  refine ⟨fun c => _, Cert.Kernel15Ideal.Value.run_blocks (F := Ideal) m ρ,
    (θ_run defs _ _).mono (fun r h c => ?_) (Value.run (F := Ideal) m' ρ')⟩
  obtain ⟨e0, e1⟩ := hag c
  obtain ⟨h0, hr⟩ := h c
  rw [e0, e1] at h0
  exact ⟨((h0.trans (Read.val_main_v4_eq ..)).trans (funext fun i => apply _ _ i)).trans
    (Cert.Kernel15Ideal.Prod.final m c).symm, hr⟩

end Cert.Reference15Ideal.Prod

end
-- ==== Proof.Cols.lean ====
/-
One dilation group's columns of the shared key and value weight: which part and which column of it each is.
-/
module

public import Idealize.ShloMosaic.Lib.Pointwise.Contract
public import Idealize.ShloMosaic.Lib.Pipeline.Value

@[expose] public section

namespace Cert.Cols

open Idealize.ShloMosaic

/-- The entry of the stacked weight at depth `k` in column `j` of group `g`. Among all columns the keys of the three
groups come first, 1024 each, then the values. -/
def ix (g : Fin 3) (k j : Fin 2048) : (⟨3, ![4, 2048, 1536]⟩ : Shape).Idx :=
  ix3 (⟨(g.val * 1024 + j.val + j.val / 1024 * 2048) / 1536, by omega⟩ : Fin 4) k
    (⟨(g.val * 1024 + j.val + j.val / 1024 * 2048) % 1536, by omega⟩ : Fin 1536)

end Cert.Cols
-- ==== Proof.KvA.lean ====
/-
The keys and values of the first dilation group: the kernel's product, block by block, and the reference's.
-/
module

public import proofs.«01_k».proof.Defs
public import proofs.«01_k».proof.Proof.Cols
public import proofs.«01_k».proof.Proof.Fold
public import proofs.«01_k».proof.Proof.Gen.Kernel16.Frame
public import proofs.«01_k».proof.Proof.Gen.Kernel16Ideal.Frame
public import proofs.«01_k».proof.Proof.Gen.Reference16Ideal.Run
public import proofs.«01_k».proof.Proof.Gen.Reference16Ideal.Read
public import Idealize.ShloMosaic.Lib.Quiescent
public import Idealize.ShloMosaic.Lib.StableHlo.RunRead

@[expose] public section

set_option maxRecDepth 16384

noncomputable section

namespace Cert.Kernel16.Prod

open Cert.Kernel16 Cert.Kernel16.Gen Idealize.ShloMosaic Idealize.ShloMosaic.TcCoe Idealize.ShloMosaic.StableHlo

/-- The table of column blocks: two of keys, two of values. -/
def tab : pre0.Contents (Elt Bits) := fun | ⟨0, _⟩ => fun i => lit0 (S4.rowMajor i)

theorem tbl_eq (m : (ℓ : Loc nD τ sig) → Buf (Elt Bits) ℓ) : tbl m = tab := by
  funext j
  match j with
  | ⟨0, _⟩ => show V m 0 main_c = _; unfold V; after_reads_simp; rfl

/-- Every block the table names lies in the weight. -/
theorem ok (m : (ℓ : Loc nD τ sig) → Buf (Elt Bits) ℓ) : Ok m := by
  unfold Ok
  rw [tbl_eq]
  exact (by decide +kernel : ok0 (F := Bits) tab)

end Cert.Kernel16.Prod

namespace Cert.Kernel16Ideal.Prod

open Cert.Kernel16Ideal Cert.Kernel16Ideal.Gen Cert.Fold Idealize.ShloMosaic
  Idealize.ShloMosaic.TcCoe Idealize.SL.Sem Idealize.ShloMosaic.StableHlo

/-- The table of column blocks: two of keys, two of values. -/
def tab : pre0.Contents (Elt Ideal) := fun | ⟨0, _⟩ => fun i => lit0 (S4.rowMajor i)

theorem tbl_eq (m : (ℓ : Loc nD τ sig) → Buf (Elt Ideal) ℓ) : tbl m = tab := by
  funext j
  match j with
  | ⟨0, _⟩ => show V m 0 main_c = _; unfold V; after_reads_simp; rfl

/-- Every block the table names lies in the weight. -/
theorem ok (m : (ℓ : Loc nD τ sig) → Buf (Elt Ideal) ℓ) : Ok m := by
  unfold Ok
  rw [tbl_eq]
  exact (by decide +kernel : ok0 (F := Ideal) tab)

abbrev BX := S1024x2048
abbrev BW := S1x2048x512
abbrev BO := S1x1024x512

/-- One block's product. -/
def term (x : Vec Ideal BX .bf16) (w : Vec Ideal BW .bf16) (y : BO.Idx) : EReal :=
  ∑ k : Fin 2048, x (ix2 (y 1) k) * w (ix3 (0 : Fin 1) k (y 2))

theorem mm (x : BX.Idx → Ideal .bf16) (w : S2048x512.Idx → Ideal .bf16) (y : S1024x512.Idx) :
    matmul (F := Ideal) dot_S1024x2048_S2048x512_S1024x512_1_0_0_1_n_n none x w (constant S1024x512 .f32 0x00000000#32) y
      = ∑ k : Fin 2048, x (ix2 (y 0) k) * w (ix2 k (y 1)) :=
  (Ideal.matmul_apply₁_of dot_S1024x2048_S2048x512_S1024x512_1_0_0_1_n_n (a := (1 : Fin 2)) rfl (K := 2048) rfl x _ _ y
    (fun k => ix2 (y 0) k) (fun k => ix2 k (y 1))
    (fun k => funext fun d => match d with | ⟨0, _⟩ => rfl | ⟨1, _⟩ => rfl)
    (fun k => funext fun d => match d with | ⟨0, _⟩ => rfl | ⟨1, _⟩ => rfl)).trans
    ((congrArg (· + _) Ideal.ofBits_zero_f32).trans (zero_add _))

/-- A step writes its product. -/
theorem step (c : Dev nD) (i : grid0.Coords) (a3 : Memref sig .tc .vmem BX .bf16) (h3 : a3.IsWhole)
    (a4 : Memref sig .tc .vmem BW .bf16) (h4 : a4.IsWhole) (a5 : Memref sig .tc .vmem BO .bf16) (h5 : a5.IsWhole)
    (x : Vec Ideal BX .bf16) (w : Vec Ideal BW .bf16) (xt : TbBuf0 (F := Ideal) c tbM0_0) (y : BO.Idx) :
    out0_A_2 c i a3 h3 a4 h4 a5 h5 x w xt y = term x w y := by
  unfold out0_A_2
  rw [View.read_writes_eq_canon _ _ _ (cover0_A_2 c i a3 h3 a4 h4 a5 h5 x w xt)]
  unfold kernelRun0_A
  dsimp only
  rw [View.canon_unit_zero hz3]
  unfold k0_pay1
  simp only [View.readAt_eq_ld, h3.read_unread, h4.read_unread, View.ld_unit_zero (S := BX) hz, View.ld_unit_zero (S := BW) hz3]
  refine (stacked _ _ y).trans ((mm x _ _).trans (Finset.sum_congr rfl fun k _ => congrArg₂ (· * ·) rfl (unstacked _ _ k _)))

/-! ### The blocks a step reads and writes -/

variable (m : (ℓ : Loc nD τ sig) → Buf (Elt Ideal) ℓ) (c : Dev nD)

theorem idx : ∀ t : Fin grid0.N, (cc0_transform_0 (grid0.coords t) (0 : Fin 2) = t.val / 4 ∧ cc0_transform_0 (grid0.coords t) (1 : Fin 2) = 0)
    ∧ (cc0_transform_1 k0_off1_inb numel1_S1 tab (grid0.coords t) (0 : Fin 3) = (t.val % 4 + t.val % 4 / 2 * 4) / 3
      ∧ cc0_transform_1 k0_off1_inb numel1_S1 tab (grid0.coords t) (1 : Fin 3) = 0
      ∧ cc0_transform_1 k0_off1_inb numel1_S1 tab (grid0.coords t) (2 : Fin 3) = (t.val % 4 + t.val % 4 / 2 * 4) % 3)
    ∧ (cc0_transform_2 (grid0.coords t) (0 : Fin 3) = 0 ∧ cc0_transform_2 (grid0.coords t) (1 : Fin 3) = t.val / 4
      ∧ cc0_transform_2 (grid0.coords t) (2 : Fin 3) = t.val % 4) := by
  decide +kernel

/-- The kernel's two arguments. -/
def X : S4096x2048.Idx → EReal := m ((c : Thread nD τ).loc main_arg0)
def W : S4x2048x1536.Idx → EReal := m ((c : Thread nD τ).loc main_arg1)

theorem readX (t : Fin grid0.N) (a : Fin 1024) (k : Fin 2048) (I : S4096x2048.Idx)
    (h0 : (I 0).val = t.val / 4 * 1024 + a.val) (h1 : (I 1).val = k.val) :
    (iblk m (ok m) c 0 t : Vec Ideal BX .bf16) (ix2 a k) = X m c I := by
  have e := idx t
  refine congrArg (V m c main_arg0) (funext fun b => Fin.ext ?_) |>.trans (congrFun (V_main_arg0 m c) I)
  match b with
  | ⟨0, _⟩ => show cc0_transform_0 (grid0.coords t) (0 : Fin 2) * 1024 + 1 * a.val = (I 0).val; omega
  | ⟨1, _⟩ => show cc0_transform_0 (grid0.coords t) (1 : Fin 2) * 2048 + 1 * k.val = (I 1).val; omega

theorem readW (t : Fin grid0.N) (k : Fin 2048) (a : Fin 512) (j : Fin 2048) (h : j.val = t.val % 4 * 512 + a.val) :
    (iblk m (ok m) c 1 t : Vec Ideal BW .bf16) (ix3 (0 : Fin 1) k a) = W m c (Cols.ix 0 k j) := by
  have e := idx t
  rw [← tbl_eq m] at e
  have ha := a.isLt
  have hj := j.isLt
  refine congrArg (V m c main_arg1) (funext fun b => Fin.ext ?_) |>.trans (congrFun (V_main_arg1 m c) _)
  match b with
  | ⟨0, _⟩ =>
    show cc0_transform_1 k0_off1_inb numel1_S1 (tbl m) (grid0.coords t) (0 : Fin 3) * 1 + 1 * 0
      = (0 * 1024 + j.val + j.val / 1024 * 2048) / 1536
    omega
  | ⟨1, _⟩ => show cc0_transform_1 k0_off1_inb numel1_S1 (tbl m) (grid0.coords t) (1 : Fin 3) * 2048 + 1 * k.val = k.val; omega
  | ⟨2, _⟩ =>
    show cc0_transform_1 k0_off1_inb numel1_S1 (tbl m) (grid0.coords t) (2 : Fin 3) * 512 + 1 * a.val
      = (0 * 1024 + j.val + j.val / 1024 * 2048) % 1536
    omega

/-! ### The result -/

def G : S1x4096x2048.Idx → EReal := fun i => ∑ x : Fin 2048, X m c (ix2 (i 1) x) * W m c (Cols.ix 0 x (i 2))

theorem mem_blk (t : Fin grid0.N) (i : S1x4096x2048.Idx) :
    i ∈ (((cfgM m (ok m)).win 2).blk t).view.set ↔ ∀ a : Fin 3, cc0_transform_2 (grid0.coords t) a * BO.size a ≤ (i a).val
      ∧ (i a).val < cc0_transform_2 (grid0.coords t) a * BO.size a + BO.size a := by
  show i ∈ ((View.whole main_v0).slice (Rect.block (s := S1x4096x2048) BO.size (cc0_transform_2 (grid0.coords t)) (hinb0_2 _))).set ↔ _
  rw [View.set_slice_whole, Rect.mem_set_unit]
  exact Iff.rfl

/-- What a step writes is its block of the result. -/
theorem block (t : Fin grid0.N) (y : BO.Idx) (i : S1x4096x2048.Idx) (h0 : (i 1).val = t.val / 4 * 1024 + (y 1).val)
    (h1 : (i 2).val = t.val % 4 * 512 + (y 2).val) : outsAt0 m (ok m) c t y = G m c i := by
  exact (step ..).trans (Finset.sum_congr rfl fun k _ => congrArg₂ (· * ·) (readX m c t _ k _ h0 rfl) (readW m c t k _ _ h1))

/-- The array after the run: the blocks written back tile it. -/
theorem final (c : Dev nD) : (dats m (ok m) 0 c).arrAt 2 (cfgM m (ok m)).N = G m c := by
  refine (dats m (ok m) 0 c).arrAt_eq_of_cover 2 _ (fun t hf => ?_) (fun (i : S1x4096x2048.Idx) => ?_)
  · have e := idx t
    rw [Pipeline.Dat.flushed, after0_2]
    funext (y : BO.Idx)
    refine block m c t (((cfgM m (ok m)).win 2).xinj (grid0.coords t) y) _ ?_ ?_
    · show cc0_transform_2 (grid0.coords t) (1 : Fin 3) * 1024 + 1 * (y 1).val = t.val / 4 * 1024 + (y 1).val
      omega
    · show cc0_transform_2 (grid0.coords t) (2 : Fin 3) * 512 + 1 * (y 2).val = t.val % 4 * 512 + (y 2).val
      omega
  · have eN : grid0.N = 16 := N_0
    have h0 : (i 1).val < 4096 := (i 1).isLt
    have h1 : (i 2).val < 2048 := (i 2).isLt
    have h2 : (i 0).val < 1 := (i 0).isLt
    refine ⟨⟨(i 1).val / 1024 * 4 + (i 2).val / 512, by show _ < grid0.N; omega⟩, flush0_2 _ _, (mem_blk m _ i).mpr fun a => ?_⟩
    have e := idx ⟨(i 1).val / 1024 * 4 + (i 2).val / 512, by omega⟩
    dsimp only at e
    match a with
    | ⟨0, _⟩ => show cc0_transform_2 _ (0 : Fin 3) * 1 ≤ (i 0).val ∧ (i 0).val < cc0_transform_2 _ (0 : Fin 3) * 1 + 1; omega
    | ⟨1, _⟩ => show cc0_transform_2 _ (1 : Fin 3) * 1024 ≤ (i 1).val ∧ (i 1).val < cc0_transform_2 _ (1 : Fin 3) * 1024 + 1024; omega
    | ⟨2, _⟩ => show cc0_transform_2 _ (2 : Fin 3) * 512 ≤ (i 2).val ∧ (i 2).val < cc0_transform_2 _ (2 : Fin 3) * 512 + 512; omega

theorem run (ρ : Dev nD → PrngReg) :
    θ_run (defs (F := Ideal)) (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).1 2).trans (final m c),
    ((h c).1 0).trans (((dats m (ok m) 0 c).arrAt_in 0 rfl _).trans ((A_eq m (ok m) c 0).trans (V_main_arg0 m c))),
    ((h c).1 1).trans (((dats m (ok m) 0 c).arrAt_in 1 rfl _).trans ((A_eq m (ok m) c 1).trans (V_main_arg1 m c)))⟩) (run_main m ρ (ok m))

end Cert.Kernel16Ideal.Prod

namespace Cert.Reference16Ideal.Prod

open Cert.Reference16Ideal Cert.Reference16Ideal.Gen Idealize.ShloMosaic Idealize.ShloMosaic.TcCoe Idealize.SL.Sem Idealize.ShloMosaic.StableHlo

theorem frame : Cert.quiescent_Reference16Ideal := fun m ρ _ =>
  (θ_run defs _ _).mono (fun r h => ⟨fun c => (h c).2, sem_eq_zero_of_no_sems (by decide) r.2⟩) (Value.run (F := Ideal) m ρ)

/-- A column of all keys and values. -/
theorem col (x : S4096x2048.Idx → Ideal .bf16) (w : S4x2048x1536.Idx → Ideal .bf16) (I : S4096x6144.Idx) (r : Fin 4096) (j : Fin 2048)
    (h0 : (I 0).val = r.val) (h1 : (I 1).val = 0 * 1024 + j.val + j.val / 1024 * 2048) :
    Read.val_main_v4 (F := Ideal) x w I = ∑ k : Fin 2048, x (ix2 r k) * w (Cols.ix 0 k j) := by
  rw [Read.val_main_v4_apply]
  refine Finset.sum_congr rfl fun k _ => congrArg₂ (· * ·) ?_ ?_
  · refine congrArg x (funext fun d => Fin.ext ?_)
    match d with
    | ⟨0, _⟩ => exact h0
    | ⟨1, _⟩ => rfl
  · rw [Read.val_main_v3_apply, Read.val_main_v2_apply]
    have hk := k.isLt
    have hj := j.isLt
    refine congrArg w (funext fun d => Fin.ext ?_)
    match d with
    | ⟨0, _⟩ => show (k.val * 6144 + (I 1).val) / 1536 % 4 = (0 * 1024 + j.val + j.val / 1024 * 2048) / 1536; omega
    | ⟨1, _⟩ => show (k.val * 6144 + (I 1).val) / 6144 = k.val; omega
    | ⟨2, _⟩ => show (k.val * 6144 + (I 1).val) % 1536 = (0 * 1024 + j.val + j.val / 1024 * 2048) % 1536; omega

/-- The group's keys and values, side by side. -/
theorem pair (x : S4096x2048.Idx → Ideal .bf16) (w : S4x2048x1536.Idx → Ideal .bf16) (I : S4096x2048.Idx) (r : Fin 4096) (j : Fin 2048)
    (h0 : (I 0).val = r.val) (h1 : (I 1).val = j.val) :
    Read.val_main_v7 (F := Ideal) x w I = ∑ k : Fin 2048, x (ix2 r k) * w (Cols.ix 0 k j) := by
  have hj := j.isLt
  by_cases h : j.val < 1024
  · refine (concatenate_pair_apply_left (s₁ := S4096x1024) (s₂ := S4096x1024) 1 _ _ concatenates_S4096x1024_S4096x1024_S4096x2048_d1 I
      rfl (ix2 r (⟨j.val, h⟩ : Fin 1024)) (fun b => match b with | ⟨0, _⟩ => h0.symm | ⟨1, _⟩ => h1.symm)).trans ?_
    rw [Read.val_main_v5_apply]
    exact col x w _ r j rfl (by show j.val = _; omega)
  · refine (concatenate_pair_apply_right (s₁ := S4096x1024) (s₂ := S4096x1024) 1 _ _ concatenates_S4096x1024_S4096x1024_S4096x2048_d1 I
      rfl rfl (ix2 r (⟨j.val - 1024, by omega⟩ : Fin 1024))
      (fun b hb => match b with | ⟨0, _⟩ => h0.symm | ⟨1, _⟩ => absurd rfl hb) (by show j.val - 1024 + 1024 = _; omega)).trans ?_
    rw [Read.val_main_v6_apply]
    exact col x w _ r j rfl (by show 3072 + (j.val - 1024) = _; omega)

theorem apply (x : S4096x2048.Idx → Ideal .bf16) (w : S4x2048x1536.Idx → Ideal .bf16) (i : S1x4096x2048.Idx) :
    Read.val_main_v10 (F := Ideal) x w i = ∑ k : Fin 2048, x (ix2 (i 1) k) * w (Cols.ix 0 k (i 2)) := by
  have h0 : (i 0).val < 1 := (i 0).isLt
  have h1 : (i 1).val < 4096 := (i 1).isLt
  have h2 : (i 2).val < 2048 := (i 2).isLt
  show Read.val_main_v9 (F := Ideal) x w i = _
  rw [Read.val_main_v9_apply, Read.val_main_v8_apply]
  refine pair x w _ (i 1) (i 2) ?_ ?_
  · show (((i 1).val * 1 + (i 0).val) * 2048 + (i 2).val) / 2048 = (i 1).val; omega
  · show (((i 1).val * 1 + (i 0).val) * 2048 + (i 2).val) % 2048 = (i 2).val; omega

/-- The kernel's result is the reference's. -/
theorem algebraic : Cert.algebraic_Kernel16Ideal_Reference16Ideal := by
  intro m ρ m' ρ' _ hag
  refine ⟨fun c => Cert.Kernel16Ideal.Prod.G m c, Cert.Kernel16Ideal.Prod.run m ρ,
    (θ_run defs _ _).mono (fun r h c => ?_) (Value.run (F := Ideal) m' ρ')⟩
  obtain ⟨e0, e1⟩ := hag c
  obtain ⟨h0, hr⟩ := h c
  rw [e0, e1] at h0
  exact ⟨(h0.trans (Read.val_main_v10_eq ..)).trans (funext fun i => apply _ _ i), hr⟩

end Cert.Reference16Ideal.Prod

end
-- ==== Proof.QA.lean ====
/-
The queries of the first dilation group: the kernel's product, block by block, and the reference's.
-/
module

public import proofs.«01_k».proof.Defs
public import proofs.«01_k».proof.Proof.Fold
public import proofs.«01_k».proof.Proof.Gen.Kernel17.Frame
public import proofs.«01_k».proof.Proof.Gen.Kernel17Ideal.Frame
public import proofs.«01_k».proof.Proof.Gen.Reference17Ideal.Run
public import proofs.«01_k».proof.Proof.Gen.Reference17Ideal.Read
public import Idealize.ShloMosaic.Lib.Quiescent
public import Idealize.ShloMosaic.Lib.StableHlo.RunRead

@[expose] public section

set_option maxRecDepth 16384

noncomputable section

namespace Cert.Kernel17.Prod

open Cert.Kernel17 Cert.Kernel17.Gen Idealize.ShloMosaic Idealize.ShloMosaic.TcCoe Idealize.ShloMosaic.StableHlo

/-- The table of column blocks: the one block of the group. -/
def tab : pre0.Contents (Elt Bits) := fun | ⟨0, _⟩ => constantI S1 32 0#32

theorem tbl_eq (m : (ℓ : Loc nD τ sig) → Buf (Elt Bits) ℓ) : tbl m = tab := by
  funext j
  match j with
  | ⟨0, _⟩ => show V m 0 main_c = _; unfold V; after_reads_simp; rfl

/-- Every block the table names lies in the weight. -/
theorem ok (m : (ℓ : Loc nD τ sig) → Buf (Elt Bits) ℓ) : Ok m := by
  unfold Ok
  rw [tbl_eq]
  exact (by decide +kernel : ok0 (F := Bits) tab)

end Cert.Kernel17.Prod

namespace Cert.Kernel17Ideal.Prod

open Cert.Kernel17Ideal Cert.Kernel17Ideal.Gen Cert.Fold Idealize.ShloMosaic
  Idealize.ShloMosaic.TcCoe Idealize.SL.Sem Idealize.ShloMosaic.StableHlo

/-- The table of column blocks: the one block of the group. -/
def tab : pre0.Contents (Elt Ideal) := fun | ⟨0, _⟩ => constantI S1 32 0#32

theorem tbl_eq (m : (ℓ : Loc nD τ sig) → Buf (Elt Ideal) ℓ) : tbl m = tab := by
  funext j
  match j with
  | ⟨0, _⟩ => show V m 0 main_c = _; unfold V; after_reads_simp; rfl

/-- Every block the table names lies in the weight. -/
theorem ok (m : (ℓ : Loc nD τ sig) → Buf (Elt Ideal) ℓ) : Ok m := by
  unfold Ok
  rw [tbl_eq]
  exact (by decide +kernel : ok0 (F := Ideal) tab)

abbrev BX := S1024x2048
abbrev BW := S1x2048x1024
abbrev BO := S1x1024x1024

/-- One block's product. -/
def term (x : Vec Ideal BX .bf16) (w : Vec Ideal BW .bf16) (y : BO.Idx) : EReal :=
  ∑ k : Fin 2048, x (ix2 (y 1) k) * w (ix3 (0 : Fin 1) k (y 2))

theorem mm (x : BX.Idx → Ideal .bf16) (w : S2048x1024.Idx → Ideal .bf16) (y : S1024x1024.Idx) :
    matmul (F := Ideal) dot_S1024x2048_S2048x1024_S1024x1024_1_0_0_1_n_n none x w (constant S1024x1024 .f32 0x00000000#32) y
      = ∑ k : Fin 2048, x (ix2 (y 0) k) * w (ix2 k (y 1)) :=
  (Ideal.matmul_apply₁_of dot_S1024x2048_S2048x1024_S1024x1024_1_0_0_1_n_n (a := (1 : Fin 2)) rfl (K := 2048) rfl x _ _ y
    (fun k => ix2 (y 0) k) (fun k => ix2 k (y 1))
    (fun k => funext fun d => match d with | ⟨0, _⟩ => rfl | ⟨1, _⟩ => rfl)
    (fun k => funext fun d => match d with | ⟨0, _⟩ => rfl | ⟨1, _⟩ => rfl)).trans
    ((congrArg (· + _) Ideal.ofBits_zero_f32).trans (zero_add _))

/-- A step writes its product. -/
theorem step (c : Dev nD) (i : grid0.Coords) (a3 : Memref sig .tc .vmem BX .bf16) (h3 : a3.IsWhole)
    (a4 : Memref sig .tc .vmem BW .bf16) (h4 : a4.IsWhole) (a5 : Memref sig .tc .vmem BO .bf16) (h5 : a5.IsWhole)
    (x : Vec Ideal BX .bf16) (w : Vec Ideal BW .bf16) (xt : TbBuf0 (F := Ideal) c tbM0_0) (y : BO.Idx) :
    out0_A_2 c i a3 h3 a4 h4 a5 h5 x w xt y = term x w y := by
  unfold out0_A_2
  rw [View.read_writes_eq_canon _ _ _ (cover0_A_2 c i a3 h3 a4 h4 a5 h5 x w xt)]
  unfold kernelRun0_A
  dsimp only
  rw [View.canon_unit_zero hz3]
  unfold k0_pay1
  simp only [View.readAt_eq_ld, h3.read_unread, h4.read_unread, View.ld_unit_zero (S := BX) hz, View.ld_unit_zero (S := BW) hz3]
  refine (stacked _ _ y).trans ((mm x _ _).trans (Finset.sum_congr rfl fun k _ => congrArg₂ (· * ·) rfl (unstacked _ _ k _)))

/-! ### The blocks a step reads and writes -/

variable (m : (ℓ : Loc nD τ sig) → Buf (Elt Ideal) ℓ) (c : Dev nD)

theorem idx : ∀ t : Fin grid0.N, (cc0_transform_0 (grid0.coords t) (0 : Fin 2) = t.val ∧ cc0_transform_0 (grid0.coords t) (1 : Fin 2) = 0)
    ∧ (cc0_transform_1 k0_off1_inb numel1_S1 tab (grid0.coords t) (0 : Fin 3) = 0
      ∧ cc0_transform_1 k0_off1_inb numel1_S1 tab (grid0.coords t) (1 : Fin 3) = 0
      ∧ cc0_transform_1 k0_off1_inb numel1_S1 tab (grid0.coords t) (2 : Fin 3) = 0)
    ∧ (cc0_transform_2 (grid0.coords t) (0 : Fin 3) = 0 ∧ cc0_transform_2 (grid0.coords t) (1 : Fin 3) = t.val
      ∧ cc0_transform_2 (grid0.coords t) (2 : Fin 3) = 0) := by
  decide +kernel

/-- The kernel's two arguments. -/
def X : S4096x2048.Idx → EReal := m ((c : Thread nD τ).loc main_arg0)
def W : S4x2048x1024.Idx → EReal := m ((c : Thread nD τ).loc main_arg1)

theorem readX (t : Fin grid0.N) (a : Fin 1024) (k : Fin 2048) (I : S4096x2048.Idx)
    (h0 : (I 0).val = t.val * 1024 + a.val) (h1 : (I 1).val = k.val) :
    (iblk m (ok m) c 0 t : Vec Ideal BX .bf16) (ix2 a k) = X m c I := by
  have e := idx t
  refine congrArg (V m c main_arg0) (funext fun b => Fin.ext ?_) |>.trans (congrFun (V_main_arg0 m c) I)
  match b with
  | ⟨0, _⟩ => show cc0_transform_0 (grid0.coords t) (0 : Fin 2) * 1024 + 1 * a.val = (I 0).val; omega
  | ⟨1, _⟩ => show cc0_transform_0 (grid0.coords t) (1 : Fin 2) * 2048 + 1 * k.val = (I 1).val; omega

theorem readW (t : Fin grid0.N) (k : Fin 2048) (a : Fin 1024) :
    (iblk m (ok m) c 1 t : Vec Ideal BW .bf16) (ix3 (0 : Fin 1) k a) = W m c (ix3 (0 : Fin 4) k a) := by
  have e := idx t
  rw [← tbl_eq m] at e
  refine congrArg (V m c main_arg1) (funext fun b => Fin.ext ?_) |>.trans (congrFun (V_main_arg1 m c) _)
  match b with
  | ⟨0, _⟩ => show cc0_transform_1 k0_off1_inb numel1_S1 (tbl m) (grid0.coords t) (0 : Fin 3) * 1 + 1 * 0 = 0; omega
  | ⟨1, _⟩ => show cc0_transform_1 k0_off1_inb numel1_S1 (tbl m) (grid0.coords t) (1 : Fin 3) * 2048 + 1 * k.val = k.val; omega
  | ⟨2, _⟩ => show cc0_transform_1 k0_off1_inb numel1_S1 (tbl m) (grid0.coords t) (2 : Fin 3) * 1024 + 1 * a.val = a.val; omega

/-! ### The result -/

def G : S1x4096x1024.Idx → EReal := fun i => ∑ x : Fin 2048, X m c (ix2 (i 1) x) * W m c (ix3 (0 : Fin 4) x (i 2))

theorem mem_blk (t : Fin grid0.N) (i : S1x4096x1024.Idx) :
    i ∈ (((cfgM m (ok m)).win 2).blk t).view.set ↔ ∀ a : Fin 3, cc0_transform_2 (grid0.coords t) a * BO.size a ≤ (i a).val
      ∧ (i a).val < cc0_transform_2 (grid0.coords t) a * BO.size a + BO.size a := by
  show i ∈ ((View.whole main_v0).slice (Rect.block (s := S1x4096x1024) BO.size (cc0_transform_2 (grid0.coords t)) (hinb0_2 _))).set ↔ _
  rw [View.set_slice_whole, Rect.mem_set_unit]
  exact Iff.rfl

/-- What a step writes is its block of the result. -/
theorem block (t : Fin grid0.N) (y : BO.Idx) (i : S1x4096x1024.Idx) (h0 : (i 1).val = t.val * 1024 + (y 1).val)
    (h1 : (i 2).val = (y 2).val) : outsAt0 m (ok m) c t y = G m c i := by
  have e : y 2 = i 2 := Fin.ext h1.symm
  exact (step ..).trans (Finset.sum_congr rfl fun k _ => congrArg₂ (· * ·) (readX m c t _ k _ h0 rfl)
    ((readW m c t k _).trans (congrArg (fun z => W m c (ix3 (0 : Fin 4) k z)) e)))

/-- The array after the run: the blocks written back tile it. -/
theorem final (c : Dev nD) : (dats m (ok m) 0 c).arrAt 2 (cfgM m (ok m)).N = G m c := by
  refine (dats m (ok m) 0 c).arrAt_eq_of_cover 2 _ (fun t hf => ?_) (fun (i : S1x4096x1024.Idx) => ?_)
  · have e := idx t
    rw [Pipeline.Dat.flushed, after0_2]
    funext (y : BO.Idx)
    refine block m c t (((cfgM m (ok m)).win 2).xinj (grid0.coords t) y) _ ?_ ?_
    · show cc0_transform_2 (grid0.coords t) (1 : Fin 3) * 1024 + 1 * (y 1).val = t.val * 1024 + (y 1).val
      omega
    · show cc0_transform_2 (grid0.coords t) (2 : Fin 3) * 1024 + 1 * (y 2).val = (y 2).val
      omega
  · have eN : grid0.N = 4 := N_0
    have h0 : (i 1).val < 4096 := (i 1).isLt
    have h1 : (i 2).val < 1024 := (i 2).isLt
    have h2 : (i 0).val < 1 := (i 0).isLt
    refine ⟨⟨(i 1).val / 1024, by show _ < grid0.N; omega⟩, flush0_2 _ _, (mem_blk m _ i).mpr fun a => ?_⟩
    have e := idx ⟨(i 1).val / 1024, by omega⟩
    dsimp only at e
    match a with
    | ⟨0, _⟩ => show cc0_transform_2 _ (0 : Fin 3) * 1 ≤ (i 0).val ∧ (i 0).val < cc0_transform_2 _ (0 : Fin 3) * 1 + 1; omega
    | ⟨1, _⟩ => show cc0_transform_2 _ (1 : Fin 3) * 1024 ≤ (i 1).val ∧ (i 1).val < cc0_transform_2 _ (1 : Fin 3) * 1024 + 1024; omega
    | ⟨2, _⟩ => show cc0_transform_2 _ (2 : Fin 3) * 1024 ≤ (i 2).val ∧ (i 2).val < cc0_transform_2 _ (2 : Fin 3) * 1024 + 1024; omega

theorem run (ρ : Dev nD → PrngReg) :
    θ_run (defs (F := Ideal)) (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).1 2).trans (final m c),
    ((h c).1 0).trans (((dats m (ok m) 0 c).arrAt_in 0 rfl _).trans ((A_eq m (ok m) c 0).trans (V_main_arg0 m c))),
    ((h c).1 1).trans (((dats m (ok m) 0 c).arrAt_in 1 rfl _).trans ((A_eq m (ok m) c 1).trans (V_main_arg1 m c)))⟩) (run_main m ρ (ok m))

end Cert.Kernel17Ideal.Prod

namespace Cert.Reference17Ideal.Prod

open Cert.Reference17Ideal Idealize.ShloMosaic Idealize.ShloMosaic.TcCoe Idealize.SL.Sem Idealize.ShloMosaic.StableHlo

theorem frame : Cert.quiescent_Reference17Ideal := fun m ρ _ =>
  (θ_run defs _ _).mono (fun r h => ⟨fun c => (h c).2, sem_eq_zero_of_no_sems (by decide) r.2⟩) (Value.run (F := Ideal) m ρ)

theorem apply (x : S4096x2048.Idx → Ideal .bf16) (w : S4x2048x1024.Idx → Ideal .bf16) (i : S1x4096x1024.Idx) :
    Read.val_main_v7 (F := Ideal) x w i = ∑ k : Fin 2048, x (ix2 (i 1) k) * w (ix3 (0 : Fin 4) k (i 2)) := by
  have h0 : (i 0).val < 1 := (i 0).isLt
  have h1 : (i 1).val < 4096 := (i 1).isLt
  have h2 : (i 2).val < 1024 := (i 2).isLt
  show Read.val_main_v6 (F := Ideal) x w i = _
  rw [Read.val_main_v6_apply, Read.val_main_v5_apply, Read.val_main_v4_apply]
  refine Finset.sum_congr rfl fun k _ => congrArg₂ (· * ·) ?_ ?_
  · refine congrArg x (funext fun d => Fin.ext ?_)
    match d with
    | ⟨0, _⟩ => show (((i 1).val * 1 + (i 0).val) * 1024 + (i 2).val) / 1024 = (i 1).val; omega
    | ⟨1, _⟩ => rfl
  · show Read.val_main_v2 (F := Ideal) w _ = _
    rw [Read.val_main_v2_apply, Read.val_main_v1_apply]
    have hk := k.isLt
    refine congrArg w (funext fun d => Fin.ext ?_)
    match d with
    | ⟨0, _⟩ => rfl
    | ⟨1, _⟩ => show (k.val * 1024 + (((i 1).val * 1 + (i 0).val) * 1024 + (i 2).val) % 1024) / 1024 % 2048 = k.val; omega
    | ⟨2, _⟩ => show (k.val * 1024 + (((i 1).val * 1 + (i 0).val) * 1024 + (i 2).val) % 1024) % 1024 = (i 2).val; omega

/-- The kernel's result is the reference's. -/
theorem algebraic : Cert.algebraic_Kernel17Ideal_Reference17Ideal := by
  intro m ρ m' ρ' _ hag
  refine ⟨fun c => Cert.Kernel17Ideal.Prod.G m c, Cert.Kernel17Ideal.Prod.run m ρ,
    (θ_run defs _ _).mono (fun r h c => ?_) (Value.run (F := Ideal) m' ρ')⟩
  obtain ⟨e0, e1⟩ := hag c
  obtain ⟨h0, hr⟩ := h c
  rw [e0, e1] at h0
  exact ⟨(h0.trans (Read.val_main_v7_eq ..)).trans (funext fun i => apply _ _ i), hr⟩

end Cert.Reference17Ideal.Prod

end
-- ==== Proof.Deal.lean ====
/-
Rows dealt by residue class: a step keeps its product in slabs of 128 columns, then reads every `d`-th row of a slab,
from row `r` on, into class `r` of its result.
-/
module

public import proofs.«01_k».proof.Proof.Fold

@[expose] public section

noncomputable section

namespace Cert.Deal

open Idealize.ShloMosaic Cert.Fold

/-- The row that lies at `b` of class `a`. -/
def row (d R T : ℕ) (h : d * R = T) (a : Fin d) (b : Fin R) : Fin T :=
  ⟨a.val + d * b.val, by
    have h1 : d * (b.val + 1) ≤ d * R := Nat.mul_le_mul_left d b.isLt
    have h2 := a.isLt
    rw [Nat.mul_add] at h1
    omega⟩

/-- The column that lies at `b` of slab `a`. -/
def col (C N : ℕ) (h : 128 * C = N) (a : Fin C) (b : Fin 128) : Fin N := ⟨128 * a.val + b.val, by omega⟩

variable {C T R d N K : ℕ}

/-- The product of a block of rows and a block of columns, slab by slab. -/
def slabs (h : 128 * C = N) (x : (⟨2, ![T, K]⟩ : Shape).Idx → EReal) (w : (⟨3, ![1, K, N]⟩ : Shape).Idx → EReal)
    (y : (⟨3, ![C, T, 128]⟩ : Shape).Idx) : EReal :=
  ∑ k : Fin K, x (ix2 (y 1) k) * w (ix3 (0 : Fin 1) k (col C N h (y 0) (y 2)))

/-- The same product, its rows dealt by residue class. -/
def dealt (h : d * R = T) (x : (⟨2, ![T, K]⟩ : Shape).Idx → EReal) (w : (⟨3, ![1, K, N]⟩ : Shape).Idx → EReal)
    (y : (⟨3, ![d, R, N]⟩ : Shape).Idx) : EReal :=
  ∑ k : Fin K, x (ix2 (row d R T h (y 0) (y 1)) k) * w (ix3 (0 : Fin 1) k (y 2))

/-- A product that is this sum at every entry is, slab by slab, `slabs`. -/
theorem slabs_of (h : 128 * C = N) (x : (⟨2, ![T, K]⟩ : Shape).Idx → EReal) (w : (⟨3, ![1, K, N]⟩ : Shape).Idx → EReal)
    (P : (⟨2, ![T, N]⟩ : Shape).Idx → EReal)
    (hP : ∀ i, P i = ∑ k : Fin K, x (ix2 (n0 := T) (i 0) k) * w (ix3 (n2 := N) (0 : Fin 1) k (i 1)))
    (y : (⟨3, ![C, T, 128]⟩ : Shape).Idx) (i : (⟨2, ![T, N]⟩ : Shape).Idx) (h0 : (i 0).val = (y 1).val)
    (h1 : (i 1).val = 128 * (y 0).val + (y 2).val) : P i = slabs h x w y := by
  have e0 : i 0 = y 1 := Fin.ext h0
  have e1 : i 1 = col C N h (y 0) (y 2) := Fin.ext h1
  refine (hP i).trans (Finset.sum_congr rfl fun k _ => ?_)
  rw [e0, e1]

/-- Entry by entry, the slabs are what is dealt. -/
theorem dealt_of (h : 128 * C = N) (h' : d * R = T) (x : (⟨2, ![T, K]⟩ : Shape).Idx → EReal)
    (w : (⟨3, ![1, K, N]⟩ : Shape).Idx → EReal) (y : (⟨3, ![C, T, 128]⟩ : Shape).Idx) (i : (⟨3, ![d, R, N]⟩ : Shape).Idx)
    (h0 : (y 1).val = (i 0).val + d * (i 1).val) (h1 : 128 * (y 0).val + (y 2).val = (i 2).val) :
    slabs h x w y = dealt h' x w i := by
  have e0 : y 1 = row d R T h' (i 0) (i 1) := Fin.ext h0
  have e1 : col C N h (y 0) (y 2) = i 2 := Fin.ext h1
  unfold slabs dealt
  rw [e0, e1]

/-- What is dealt, by the factors of its sum. -/
theorem dealt_eq (h : d * R = T) (x : (⟨2, ![T, K]⟩ : Shape).Idx → EReal) (w : (⟨3, ![1, K, N]⟩ : Shape).Idx → EReal)
    (y : (⟨3, ![d, R, N]⟩ : Shape).Idx) (f g : Fin K → EReal) (hf : ∀ k, x (ix2 (row d R T h (y 0) (y 1)) k) = f k)
    (hg : ∀ k, w (ix3 (0 : Fin 1) k (y 2)) = g k) : dealt h x w y = ∑ k : Fin K, f k * g k :=
  Finset.sum_congr rfl fun k _ => congrArg₂ (· * ·) (hf k) (hg k)

/-- A slab is the columns of the product from `128 * c` on. -/
theorem slab (P : (⟨2, ![T, N]⟩ : Shape).Idx → Ideal .f32) (S : (⟨3, ![C, T, 128]⟩ : Shape).Idx → Ideal .f32)
    (hS : ∀ (y : (⟨3, ![C, T, 128]⟩ : Shape).Idx) (i : (⟨2, ![T, N]⟩ : Shape).Idx), (i 0).val = (y 1).val →
      (i 1).val = 128 * (y 0).val + (y 2).val → P i = S y)
    {c o : ℕ} {hs hc inb} (ho : o = 128 * c) (x : (⟨3, ![1, T, 128]⟩ : Shape).Idx) :
    shapeCast ⟨3, ![1, T, 128]⟩ (extractStridedSlice ⟨2, ![T, 128]⟩ ![0, o] P hs) hc x
      = S ((Rect.unit (s := ⟨3, ![C, T, 128]⟩) ![c, 0, 0] ![1, T, 128] inb).emb x) := by
  have h0 : (x 0).val = 0 := Nat.lt_one_iff.mp (x 0).isLt
  refine (stacked _ _ x).trans (hS _ _ ?_ ?_)
  · show 0 + (x 1).val = 0 + 1 * (x 1).val
    omega
  · show o + (x 2).val = 128 * (c + 1 * (x 0).val) + (0 + 1 * (x 2).val)
    omega

/-- The slab an index lies in. -/
theorem mem_slab {c : ℕ} {inb} (y : (⟨3, ![C, T, 128]⟩ : Shape).Idx) :
    y ∈ (Rect.unit (s := ⟨3, ![C, T, 128]⟩) ![c, 0, 0] ![1, T, 128] inb).set ↔ (y 0).val = c := by
  have h1 : (y 1).val < T := (y 1).isLt
  have h2 : (y 2).val < 128 := (y 2).isLt
  refine Rect.mem_set_unit.trans ⟨fun h => ?_, fun h a => ?_⟩
  · have e : c ≤ (y 0).val ∧ (y 0).val < c + 1 := h (0 : Fin 3)
    omega
  · match a with
    | ⟨0, _⟩ => show c ≤ (y 0).val ∧ (y 0).val < c + 1; omega
    | ⟨1, _⟩ => show 0 ≤ (y 1).val ∧ (y 1).val < 0 + T; omega
    | ⟨2, _⟩ => show 0 ≤ (y 2).val ∧ (y 2).val < 0 + 128; omega

/-- What is read of a slab and written is its part of the result. -/
theorem piece {sig : RefSig} {κ : Kind} {sp : Space} (v : View sig κ sp ⟨3, ![C, T, 128]⟩ .f32)
    (H : List (View.Piece (Elt Ideal) ⟨3, ![C, T, 128]⟩ .f32)) (S : (⟨3, ![C, T, 128]⟩ : Shape).Idx → Ideal .f32)
    (hS : ∀ y, View.canon H y = S y) (F : (⟨3, ![d, R, N]⟩ : Shape).Idx → Ideal .f32)
    (hF : ∀ (y : (⟨3, ![C, T, 128]⟩ : Shape).Idx) (i : (⟨3, ![d, R, N]⟩ : Shape).Idx),
      (y 1).val = (i 0).val + d * (i 1).val → 128 * (y 0).val + (y 2).val = (i 2).val → S y = F i)
    {c r o : ℕ} {inb0 inb1 h0 hs h1 hR hb hc inb} (ho : o = 128 * c) (x : (⟨3, ![1, R, 128]⟩ : Shape).Idx) :
    shapeCast ⟨3, ![1, R, 128]⟩ (truncf (F := Ideal) (s := ⟨2, ![R, 128]⟩) (φ := .f32) .bf16 (LoadRect.valAlong (lr := LoadRect.mk (s := ⟨2, ![T, 128]⟩) ![r, 0] ![R, 128] ![d, 1] inb1) hR
        (v.readCov H ((Rect.unit (s := ⟨3, ![C, T, 128]⟩) ![c, 0, 0] ![1, T, 128] inb0).withinL
          (LoadRect.consLift (LoadRect.mk (s := ⟨2, ![T, 128]⟩) ![r, 0] ![R, 128] ![d, 1] inb1) ![1, T, 128] h0 hs) h1))) hb) hc x
      = F ((Rect.unit (s := ⟨3, ![d, R, N]⟩) ![r, 0, o] ![1, R, 128] inb).emb x) := by
  have e0 : (x 0).val = 0 := Nat.lt_one_iff.mp (x 0).isLt
  refine (stacked _ _ x).trans ?_
  show v.readCov H _ (Shape.reshapeEquiv hR (ix2 (n0 := R) (n1 := 128) (x 1) (x 2))) = _
  rw [View.readCov_eq_canon']
  have e := Shape.reshapeEquiv_cons_one (d := ![R, 128]) hR (ix2 (n0 := R) (n1 := 128) (x 1) (x 2))
  have z0 : (Shape.reshapeEquiv hR (ix2 (n0 := R) (n1 := 128) (x 1) (x 2)) (0 : Fin 3)).val = 0 :=
    congrArg Fin.val (congrFun e (0 : Fin 3))
  have z1 : (Shape.reshapeEquiv hR (ix2 (n0 := R) (n1 := 128) (x 1) (x 2)) (1 : Fin 3)).val = (x 1).val :=
    congrArg Fin.val (congrFun e (1 : Fin 3))
  have z2 : (Shape.reshapeEquiv hR (ix2 (n0 := R) (n1 := 128) (x 1) (x 2)) (2 : Fin 3)).val = (x 2).val :=
    congrArg Fin.val (congrFun e (2 : Fin 3))
  refine (hS _).trans (hF _ _ ?_ ?_)
  · show 0 + r + d * (Shape.reshapeEquiv hR (ix2 (n0 := R) (n1 := 128) (x 1) (x 2)) (1 : Fin 3)).val
      = r + 1 * (x 0).val + d * (0 + 1 * (x 1).val)
    rw [z1, e0]
    simp only [Nat.one_mul, Nat.zero_add, Nat.add_zero]
  · show 128 * (c + 0 + 1 * (Shape.reshapeEquiv hR (ix2 (n0 := R) (n1 := 128) (x 1) (x 2)) (0 : Fin 3)).val)
        + (0 + 0 + 1 * (Shape.reshapeEquiv hR (ix2 (n0 := R) (n1 := 128) (x 1) (x 2)) (2 : Fin 3)).val)
      = o + 1 * (x 2).val
    rw [z0, z2, ho]
    omega

end Cert.Deal

end
-- ==== Proof.KvB.lean ====
/-
The keys and values of the second dilation group: the kernel's product, block by block, and the reference's.
-/
module

public import proofs.«01_k».proof.Defs
public import proofs.«01_k».proof.Proof.Cols
public import proofs.«01_k».proof.Proof.Deal
public import proofs.«01_k».proof.Proof.Gen.Kernel18.Frame
public import proofs.«01_k».proof.Proof.Gen.Kernel18Ideal.Frame
public import proofs.«01_k».proof.Proof.Gen.Reference18Ideal.Run
public import proofs.«01_k».proof.Proof.Gen.Reference18Ideal.Read
public import Idealize.ShloMosaic.Lib.Quiescent
public import Idealize.ShloMosaic.Lib.StableHlo.RunRead

@[expose] public section

set_option maxRecDepth 16384

noncomputable section

namespace Cert.Kernel18.Prod

open Cert.Kernel18 Cert.Kernel18.Gen Idealize.ShloMosaic Idealize.ShloMosaic.TcCoe Idealize.ShloMosaic.StableHlo

/-- The table of column blocks: two of keys, two of values. -/
def tab : pre0.Contents (Elt Bits) := fun | ⟨0, _⟩ => fun i => lit0 (S4.rowMajor i)

theorem tbl_eq (m : (ℓ : Loc nD τ sig) → Buf (Elt Bits) ℓ) : tbl m = tab := by
  funext j
  match j with
  | ⟨0, _⟩ => show V m 0 main_c = _; unfold V; after_reads_simp; rfl

/-- Every block the table names lies in the weight. -/
theorem ok (m : (ℓ : Loc nD τ sig) → Buf (Elt Bits) ℓ) : Ok m := by
  unfold Ok
  rw [tbl_eq]
  exact (by decide +kernel : ok0 (F := Bits) tab)

end Cert.Kernel18.Prod

namespace Cert.Kernel18Ideal.Prod

open Cert.Kernel18Ideal Cert.Kernel18Ideal.Gen Cert Cert.Fold Idealize.ShloMosaic
  Idealize.ShloMosaic.TcCoe Idealize.SL.Sem Idealize.ShloMosaic.StableHlo

/-- The table of column blocks: two of keys, two of values. -/
def tab : pre0.Contents (Elt Ideal) := fun | ⟨0, _⟩ => fun i => lit0 (S4.rowMajor i)

theorem tbl_eq (m : (ℓ : Loc nD τ sig) → Buf (Elt Ideal) ℓ) : tbl m = tab := by
  funext j
  match j with
  | ⟨0, _⟩ => show V m 0 main_c = _; unfold V; after_reads_simp; rfl

/-- Every block the table names lies in the weight. -/
theorem ok (m : (ℓ : Loc nD τ sig) → Buf (Elt Ideal) ℓ) : Ok m := by
  unfold Ok
  rw [tbl_eq]
  exact (by decide +kernel : ok0 (F := Ideal) tab)

abbrev BX := S1024x2048
abbrev BW := S1x2048x512
abbrev BO := S4x256x512
abbrev BS := S4x1024x128

/-- One block's product, and the same slab by slab. -/
def term (x : Vec Ideal BX .bf16) (w : Vec Ideal BW .bf16) : BO.Idx → Ideal .f32 :=
  Deal.dealt (d := 4) (R := 256) (T := 1024) (N := 512) (K := 2048) (by decide) x w
def slabs (x : Vec Ideal BX .bf16) (w : Vec Ideal BW .bf16) : BS.Idx → Ideal .f32 :=
  Deal.slabs (C := 4) (T := 1024) (N := 512) (K := 2048) (by decide) x w

theorem mm (x : BX.Idx → Ideal .bf16) (w : S2048x512.Idx → Ideal .bf16) (y : S1024x512.Idx) :
    matmul (F := Ideal) dot_S1024x2048_S2048x512_S1024x512_1_0_0_1_n_n none x w (constant S1024x512 .f32 0x00000000#32) y
      = ∑ k : Fin 2048, x (ix2 (y 0) k) * w (ix2 k (y 1)) :=
  (Ideal.matmul_apply₁_of dot_S1024x2048_S2048x512_S1024x512_1_0_0_1_n_n (a := (1 : Fin 2)) rfl (K := 2048) rfl x _ _ y
    (fun k => ix2 (y 0) k) (fun k => ix2 k (y 1))
    (fun k => funext fun d => match d with | ⟨0, _⟩ => rfl | ⟨1, _⟩ => rfl)
    (fun k => funext fun d => match d with | ⟨0, _⟩ => rfl | ⟨1, _⟩ => rfl)).trans
    ((congrArg (· + _) Ideal.ofBits_zero_f32).trans (zero_add _))

theorem pay_eq (x : Vec Ideal BX .bf16) (w : Vec Ideal BW .bf16) (i : S1024x512.Idx) :
    k0_pay1 x w i = ∑ k : Fin 2048, x (ix2 (i 0) k) * w (ix3 (0 : Fin 1) k (i 1)) := by
  unfold k0_pay1
  exact (mm x _ i).trans (Finset.sum_congr rfl fun k _ => congrArg₂ (· * ·) rfl (unstacked _ _ k _))

/-- The scratch holds the slabs. -/
theorem kept (c : Dev nD) (a3 : Memref sig .tc .vmem BX .bf16) (h3 : a3.IsWhole) (a4 : Memref sig .tc .vmem BW .bf16) (h4 : a4.IsWhole)
    (x : Vec Ideal BX .bf16) (w : Vec Ideal BW .bf16) (y : BS.Idx) :
    View.canon (kernelRun0_A.sl.HS0_4 (F := Ideal) c a3 h3 a4 h4 x w) y = slabs x w y := by
  refine View.canon_apply_of_pieces (Val := Elt Ideal) (e := .f32) (slabs x w) _ ?_ y ?_
  · have hP : ∀ (y : BS.Idx) (i : S1024x512.Idx), (i 0).val = (y 1).val → (i 1).val = 128 * (y 0).val + (y 2).val →
        k0_pay1 (View.readAt (Elt Ideal) a3.view (Rect.unit ![0, 0] BX.size inb_S1024x2048_S1024x2048_0_0).toLoadRect (h3.unread x))
          (View.readAt (Elt Ideal) a4.view (Rect.unit ![0, 0, 0] BW.size inb_S1x2048x512_S1x2048x512_0_0_0).toLoadRect (h4.unread w)) i
          = slabs x w y := by
      simp only [View.readAt_eq_ld, h3.read_unread, h4.read_unread, View.ld_unit_zero (S := BX) hz, View.ld_unit_zero (S := BW) hz3]
      exact Deal.slabs_of (by decide) x w _ (pay_eq x w)
    unfold kernelRun0_A.sl.HS0_4
    repeat
      refine List.forall_mem_cons.mpr ⟨fun z => ?_, ?_⟩
      · dsimp only
        refine Deal.slab _ (slabs x w) hP ?_ z
        rfl
    exact List.forall_mem_nil _
  · have h : (y 0).val < 4 := (y 0).isLt
    unfold kernelRun0_A.sl.HS0_4
    simp only [List.exists_mem_cons_iff, Deal.mem_slab]
    omega

/-- A step writes its product. -/
theorem step (c : Dev nD) (i : grid0.Coords) (a3 : Memref sig .tc .vmem BX .bf16) (h3 : a3.IsWhole)
    (a4 : Memref sig .tc .vmem BW .bf16) (h4 : a4.IsWhole) (a5 : Memref sig .tc .vmem BO .bf16) (h5 : a5.IsWhole)
    (a6 : Memref sig .tc .vmem BS .f32) (h6 : a6.IsWhole)
    (x : Vec Ideal BX .bf16) (w : Vec Ideal BW .bf16) (xt : TbBuf0 (F := Ideal) c tbM0_0) (y : BO.Idx) :
    out0_A_2 c i a3 h3 a4 h4 a5 h5 a6 h6 x w xt y = term x w y := by
  unfold out0_A_2
  rw [View.read_writes_eq_canon _ _ _ (cover0_A_2 c i a3 h3 a4 h4 a5 h5 a6 h6 x w xt)]
  refine View.canon_apply_of_pieces (Val := Elt Ideal) (e := .bf16) (term x w) _ ?_ y (cover0_A_2 c i a3 h3 a4 h4 a5 h5 a6 h6 x w xt y)
  unfold kernelRun0_A
  dsimp only
  repeat
    refine List.forall_mem_cons.mpr ⟨fun z => ?_, ?_⟩
    · dsimp only
      refine Deal.piece a6.view _ (slabs x w) (kept c a3 h3 a4 h4 x w) (term x w)
        (Deal.dealt_of (by decide) (by decide) x w) ?_ z
      rfl
  exact List.forall_mem_nil _

/-! ### The blocks a step reads and writes -/

variable (m : (ℓ : Loc nD τ sig) → Buf (Elt Ideal) ℓ) (c : Dev nD)

theorem idx : ∀ t : Fin grid0.N, (cc0_transform_0 (grid0.coords t) (0 : Fin 2) = t.val / 4 ∧ cc0_transform_0 (grid0.coords t) (1 : Fin 2) = 0)
    ∧ (cc0_transform_1 k0_off1_inb numel1_S1 tab (grid0.coords t) (0 : Fin 3) = (2 + t.val % 4 + t.val % 4 / 2 * 4) / 3
      ∧ cc0_transform_1 k0_off1_inb numel1_S1 tab (grid0.coords t) (1 : Fin 3) = 0
      ∧ cc0_transform_1 k0_off1_inb numel1_S1 tab (grid0.coords t) (2 : Fin 3) = (2 + t.val % 4 + t.val % 4 / 2 * 4) % 3)
    ∧ (cc0_transform_2 (grid0.coords t) (0 : Fin 3) = 0 ∧ cc0_transform_2 (grid0.coords t) (1 : Fin 3) = t.val / 4
      ∧ cc0_transform_2 (grid0.coords t) (2 : Fin 3) = t.val % 4) := by
  decide +kernel

/-- The kernel's two arguments. -/
def X : S4096x2048.Idx → EReal := m ((c : Thread nD τ).loc main_arg0)
def W : S4x2048x1536.Idx → EReal := m ((c : Thread nD τ).loc main_arg1)

theorem readX (t : Fin grid0.N) (a : Fin 1024) (k : Fin 2048) (I : S4096x2048.Idx)
    (h0 : (I 0).val = t.val / 4 * 1024 + a.val) (h1 : (I 1).val = k.val) :
    (iblk m (ok m) c 0 t : Vec Ideal BX .bf16) (ix2 a k) = X m c I := by
  have e := idx t
  refine congrArg (V m c main_arg0) (funext fun b => Fin.ext ?_) |>.trans (congrFun (V_main_arg0 m c) I)
  match b with
  | ⟨0, _⟩ => show cc0_transform_0 (grid0.coords t) (0 : Fin 2) * 1024 + 1 * a.val = (I 0).val; omega
  | ⟨1, _⟩ => show cc0_transform_0 (grid0.coords t) (1 : Fin 2) * 2048 + 1 * k.val = (I 1).val; omega

theorem readW (t : Fin grid0.N) (k : Fin 2048) (a : Fin 512) (j : Fin 2048) (h : j.val = t.val % 4 * 512 + a.val) :
    (iblk m (ok m) c 1 t : Vec Ideal BW .bf16) (ix3 (0 : Fin 1) k a) = W m c (Cols.ix 1 k j) := by
  have e := idx t
  rw [← tbl_eq m] at e
  have ha := a.isLt
  have hj := j.isLt
  refine congrArg (V m c main_arg1) (funext fun b => Fin.ext ?_) |>.trans (congrFun (V_main_arg1 m c) _)
  match b with
  | ⟨0, _⟩ =>
    show cc0_transform_1 k0_off1_inb numel1_S1 (tbl m) (grid0.coords t) (0 : Fin 3) * 1 + 1 * 0
      = (1 * 1024 + j.val + j.val / 1024 * 2048) / 1536
    omega
  | ⟨1, _⟩ => show cc0_transform_1 k0_off1_inb numel1_S1 (tbl m) (grid0.coords t) (1 : Fin 3) * 2048 + 1 * k.val = k.val; omega
  | ⟨2, _⟩ =>
    show cc0_transform_1 k0_off1_inb numel1_S1 (tbl m) (grid0.coords t) (2 : Fin 3) * 512 + 1 * a.val
      = (1 * 1024 + j.val + j.val / 1024 * 2048) % 1536
    omega

/-! ### The result -/

def G : S4x1024x2048.Idx → EReal := fun i => ∑ x : Fin 2048, X m c (ix2 (Deal.row 4 1024 4096 (by decide) (i 0) (i 1)) x) * W m c (Cols.ix 1 x (i 2))

theorem mem_blk (t : Fin grid0.N) (i : S4x1024x2048.Idx) :
    i ∈ (((cfgM m (ok m)).win 2).blk t).view.set ↔ ∀ a : Fin 3, cc0_transform_2 (grid0.coords t) a * BO.size a ≤ (i a).val
      ∧ (i a).val < cc0_transform_2 (grid0.coords t) a * BO.size a + BO.size a := by
  show i ∈ ((View.whole main_v0).slice (Rect.block (s := S4x1024x2048) BO.size (cc0_transform_2 (grid0.coords t)) (hinb0_2 _))).set ↔ _
  rw [View.set_slice_whole, Rect.mem_set_unit]
  exact Iff.rfl

/-- What a step writes is its block of the result. -/
theorem block (t : Fin grid0.N) (y : BO.Idx) (i : S4x1024x2048.Idx) (h : (i 0).val = (y 0).val)
    (h0 : (i 1).val = t.val / 4 * 256 + (y 1).val) (h1 : (i 2).val = t.val % 4 * 512 + (y 2).val) : outsAt0 m (ok m) c t y = G m c i := by
  have hr : (i 0).val + 4 * (i 1).val = t.val / 4 * 1024 + ((y 0).val + 4 * (y 1).val) := by omega
  exact (step ..).trans (Deal.dealt_eq _ _ _ _ _ _ (fun k => readX m c t _ k _ hr rfl) fun k => readW m c t k _ _ h1)

/-- The array after the run: the blocks written back tile it. -/
theorem final (c : Dev nD) : (dats m (ok m) 0 c).arrAt 2 (cfgM m (ok m)).N = G m c := by
  refine (dats m (ok m) 0 c).arrAt_eq_of_cover 2 _ (fun t hf => ?_) (fun (i : S4x1024x2048.Idx) => ?_)
  · have e := idx t
    rw [Pipeline.Dat.flushed, after0_2]
    funext (y : BO.Idx)
    refine block m c t (((cfgM m (ok m)).win 2).xinj (grid0.coords t) y) _ ?_ ?_ ?_
    · show cc0_transform_2 (grid0.coords t) (0 : Fin 3) * 4 + 1 * (y 0).val = (y 0).val
      omega
    · show cc0_transform_2 (grid0.coords t) (1 : Fin 3) * 256 + 1 * (y 1).val = t.val / 4 * 256 + (y 1).val
      omega
    · show cc0_transform_2 (grid0.coords t) (2 : Fin 3) * 512 + 1 * (y 2).val = t.val % 4 * 512 + (y 2).val
      omega
  · have eN : grid0.N = 16 := N_0
    have h0 : (i 1).val < 1024 := (i 1).isLt
    have h1 : (i 2).val < 2048 := (i 2).isLt
    have h2 : (i 0).val < 4 := (i 0).isLt
    refine ⟨⟨(i 1).val / 256 * 4 + (i 2).val / 512, by show _ < grid0.N; omega⟩, flush0_2 _ _, (mem_blk m _ i).mpr fun a => ?_⟩
    have e := idx ⟨(i 1).val / 256 * 4 + (i 2).val / 512, by omega⟩
    dsimp only at e
    match a with
    | ⟨0, _⟩ => show cc0_transform_2 _ (0 : Fin 3) * 4 ≤ (i 0).val ∧ (i 0).val < cc0_transform_2 _ (0 : Fin 3) * 4 + 4; omega
    | ⟨1, _⟩ => show cc0_transform_2 _ (1 : Fin 3) * 256 ≤ (i 1).val ∧ (i 1).val < cc0_transform_2 _ (1 : Fin 3) * 256 + 256; omega
    | ⟨2, _⟩ => show cc0_transform_2 _ (2 : Fin 3) * 512 ≤ (i 2).val ∧ (i 2).val < cc0_transform_2 _ (2 : Fin 3) * 512 + 512; omega

theorem run (ρ : Dev nD → PrngReg) :
    θ_run (defs (F := Ideal)) (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).1 2).trans (final m c),
    ((h c).1 0).trans (((dats m (ok m) 0 c).arrAt_in 0 rfl _).trans ((A_eq m (ok m) c 0).trans (V_main_arg0 m c))),
    ((h c).1 1).trans (((dats m (ok m) 0 c).arrAt_in 1 rfl _).trans ((A_eq m (ok m) c 1).trans (V_main_arg1 m c)))⟩) (run_main m ρ (ok m))

end Cert.Kernel18Ideal.Prod

namespace Cert.Reference18Ideal.Prod

open Cert Cert.Reference18Ideal Cert.Reference18Ideal.Gen Idealize.ShloMosaic Idealize.ShloMosaic.TcCoe Idealize.SL.Sem Idealize.ShloMosaic.StableHlo

theorem frame : Cert.quiescent_Reference18Ideal := fun m ρ _ =>
  (θ_run defs _ _).mono (fun r h => ⟨fun c => (h c).2, sem_eq_zero_of_no_sems (by decide) r.2⟩) (Value.run (F := Ideal) m ρ)

/-- A column of all keys and values. -/
theorem col (x : S4096x2048.Idx → Ideal .bf16) (w : S4x2048x1536.Idx → Ideal .bf16) (I : S4096x6144.Idx) (r : Fin 4096) (j : Fin 2048)
    (h0 : (I 0).val = r.val) (h1 : (I 1).val = 1 * 1024 + j.val + j.val / 1024 * 2048) :
    Read.val_main_v4 (F := Ideal) x w I = ∑ k : Fin 2048, x (ix2 r k) * w (Cols.ix 1 k j) := by
  rw [Read.val_main_v4_apply]
  refine Finset.sum_congr rfl fun k _ => congrArg₂ (· * ·) ?_ ?_
  · refine congrArg x (funext fun d => Fin.ext ?_)
    match d with
    | ⟨0, _⟩ => exact h0
    | ⟨1, _⟩ => rfl
  · rw [Read.val_main_v3_apply, Read.val_main_v2_apply]
    have hk := k.isLt
    have hj := j.isLt
    refine congrArg w (funext fun d => Fin.ext ?_)
    match d with
    | ⟨0, _⟩ => show (k.val * 6144 + (I 1).val) / 1536 % 4 = (1 * 1024 + j.val + j.val / 1024 * 2048) / 1536; omega
    | ⟨1, _⟩ => show (k.val * 6144 + (I 1).val) / 6144 = k.val; omega
    | ⟨2, _⟩ => show (k.val * 6144 + (I 1).val) % 1536 = (1 * 1024 + j.val + j.val / 1024 * 2048) % 1536; omega

/-- The group's keys and values, side by side. -/
theorem pair (x : S4096x2048.Idx → Ideal .bf16) (w : S4x2048x1536.Idx → Ideal .bf16) (I : S4096x2048.Idx) (r : Fin 4096) (j : Fin 2048)
    (h0 : (I 0).val = r.val) (h1 : (I 1).val = j.val) :
    Read.val_main_v7 (F := Ideal) x w I = ∑ k : Fin 2048, x (ix2 r k) * w (Cols.ix 1 k j) := by
  have hj := j.isLt
  by_cases h : j.val < 1024
  · refine (concatenate_pair_apply_left (s₁ := S4096x1024) (s₂ := S4096x1024) 1 _ _ concatenates_S4096x1024_S4096x1024_S4096x2048_d1 I
      rfl (ix2 r (⟨j.val, h⟩ : Fin 1024)) (fun b => match b with | ⟨0, _⟩ => h0.symm | ⟨1, _⟩ => h1.symm)).trans ?_
    rw [Read.val_main_v5_apply]
    exact col x w _ r j rfl (by show 1024 + j.val = _; omega)
  · refine (concatenate_pair_apply_right (s₁ := S4096x1024) (s₂ := S4096x1024) 1 _ _ concatenates_S4096x1024_S4096x1024_S4096x2048_d1 I
      rfl rfl (ix2 r (⟨j.val - 1024, by omega⟩ : Fin 1024))
      (fun b hb => match b with | ⟨0, _⟩ => h0.symm | ⟨1, _⟩ => absurd rfl hb) (by show j.val - 1024 + 1024 = _; omega)).trans ?_
    rw [Read.val_main_v6_apply]
    exact col x w _ r j rfl (by show 4096 + (j.val - 1024) = _; omega)

theorem apply (x : S4096x2048.Idx → Ideal .bf16) (w : S4x2048x1536.Idx → Ideal .bf16) (i : S4x1024x2048.Idx) :
    Read.val_main_v10 (F := Ideal) x w i = ∑ k : Fin 2048, x (ix2 (Deal.row 4 1024 4096 (by decide) (i 0) (i 1)) k) * w (Cols.ix 1 k (i 2)) := by
  have h0 : (i 0).val < 4 := (i 0).isLt
  have h1 : (i 1).val < 1024 := (i 1).isLt
  have h2 : (i 2).val < 2048 := (i 2).isLt
  show Read.val_main_v9 (F := Ideal) x w i = _
  rw [Read.val_main_v9_apply, Read.val_main_v8_apply]
  refine pair x w _ (Deal.row 4 1024 4096 (by decide) (i 0) (i 1)) (i 2) ?_ ?_
  · show (((i 1).val * 4 + (i 0).val) * 2048 + (i 2).val) / 2048 = (i 0).val + 4 * (i 1).val; omega
  · show (((i 1).val * 4 + (i 0).val) * 2048 + (i 2).val) % 2048 = (i 2).val; omega

/-- The kernel's result is the reference's. -/
theorem algebraic : Cert.algebraic_Kernel18Ideal_Reference18Ideal := by
  intro m ρ m' ρ' _ hag
  refine ⟨fun c => Cert.Kernel18Ideal.Prod.G m c, Cert.Kernel18Ideal.Prod.run m ρ,
    (θ_run defs _ _).mono (fun r h c => ?_) (Value.run (F := Ideal) m' ρ')⟩
  obtain ⟨e0, e1⟩ := hag c
  obtain ⟨h0, hr⟩ := h c
  rw [e0, e1] at h0
  exact ⟨(h0.trans (Read.val_main_v10_eq ..)).trans (funext fun i => apply _ _ i), hr⟩

end Cert.Reference18Ideal.Prod

end
-- ==== Proof.QB.lean ====
/-
The queries of the second dilation group: the kernel's product, block by block, and the reference's.
-/
module

public import proofs.«01_k».proof.Defs
public import proofs.«01_k».proof.Proof.Deal
public import proofs.«01_k».proof.Proof.Gen.Kernel19.Frame
public import proofs.«01_k».proof.Proof.Gen.Kernel19Ideal.Frame
public import proofs.«01_k».proof.Proof.Gen.Reference19Ideal.Run
public import proofs.«01_k».proof.Proof.Gen.Reference19Ideal.Read
public import Idealize.ShloMosaic.Lib.Quiescent
public import Idealize.ShloMosaic.Lib.StableHlo.RunRead

@[expose] public section

set_option maxRecDepth 16384

noncomputable section

namespace Cert.Kernel19.Prod

open Cert.Kernel19 Cert.Kernel19.Gen Idealize.ShloMosaic Idealize.ShloMosaic.TcCoe Idealize.ShloMosaic.StableHlo

/-- The table of column blocks: the one block of the group. -/
def tab : pre0.Contents (Elt Bits) := fun | ⟨0, _⟩ => constantI S1 32 1#32

theorem tbl_eq (m : (ℓ : Loc nD τ sig) → Buf (Elt Bits) ℓ) : tbl m = tab := by
  funext j
  match j with
  | ⟨0, _⟩ => show V m 0 main_c = _; unfold V; after_reads_simp; rfl

/-- Every block the table names lies in the weight. -/
theorem ok (m : (ℓ : Loc nD τ sig) → Buf (Elt Bits) ℓ) : Ok m := by
  unfold Ok
  rw [tbl_eq]
  exact (by decide +kernel : ok0 (F := Bits) tab)

end Cert.Kernel19.Prod

namespace Cert.Kernel19Ideal.Prod

open Cert.Kernel19Ideal Cert.Kernel19Ideal.Gen Cert Cert.Fold Idealize.ShloMosaic
  Idealize.ShloMosaic.TcCoe Idealize.SL.Sem Idealize.ShloMosaic.StableHlo

/-- The table of column blocks: the one block of the group. -/
def tab : pre0.Contents (Elt Ideal) := fun | ⟨0, _⟩ => constantI S1 32 1#32

theorem tbl_eq (m : (ℓ : Loc nD τ sig) → Buf (Elt Ideal) ℓ) : tbl m = tab := by
  funext j
  match j with
  | ⟨0, _⟩ => show V m 0 main_c = _; unfold V; after_reads_simp; rfl

/-- Every block the table names lies in the weight. -/
theorem ok (m : (ℓ : Loc nD τ sig) → Buf (Elt Ideal) ℓ) : Ok m := by
  unfold Ok
  rw [tbl_eq]
  exact (by decide +kernel : ok0 (F := Ideal) tab)

abbrev BX := S1024x2048
abbrev BW := S1x2048x1024
abbrev BO := S4x256x1024
abbrev BS := S8x1024x128

/-- One block's product, and the same slab by slab. -/
def term (x : Vec Ideal BX .bf16) (w : Vec Ideal BW .bf16) : BO.Idx → Ideal .f32 :=
  Deal.dealt (d := 4) (R := 256) (T := 1024) (N := 1024) (K := 2048) (by decide) x w
def slabs (x : Vec Ideal BX .bf16) (w : Vec Ideal BW .bf16) : BS.Idx → Ideal .f32 :=
  Deal.slabs (C := 8) (T := 1024) (N := 1024) (K := 2048) (by decide) x w

theorem mm (x : BX.Idx → Ideal .bf16) (w : S2048x1024.Idx → Ideal .bf16) (y : S1024x1024.Idx) :
    matmul (F := Ideal) dot_S1024x2048_S2048x1024_S1024x1024_1_0_0_1_n_n none x w (constant S1024x1024 .f32 0x00000000#32) y
      = ∑ k : Fin 2048, x (ix2 (y 0) k) * w (ix2 k (y 1)) :=
  (Ideal.matmul_apply₁_of dot_S1024x2048_S2048x1024_S1024x1024_1_0_0_1_n_n (a := (1 : Fin 2)) rfl (K := 2048) rfl x _ _ y
    (fun k => ix2 (y 0) k) (fun k => ix2 k (y 1))
    (fun k => funext fun d => match d with | ⟨0, _⟩ => rfl | ⟨1, _⟩ => rfl)
    (fun k => funext fun d => match d with | ⟨0, _⟩ => rfl | ⟨1, _⟩ => rfl)).trans
    ((congrArg (· + _) Ideal.ofBits_zero_f32).trans (zero_add _))

theorem pay_eq (x : Vec Ideal BX .bf16) (w : Vec Ideal BW .bf16) (i : S1024x1024.Idx) :
    k0_pay4 x w i = ∑ k : Fin 2048, x (ix2 (i 0) k) * w (ix3 (0 : Fin 1) k (i 1)) := by
  unfold k0_pay4
  exact (mm x _ i).trans (Finset.sum_congr rfl fun k _ => congrArg₂ (· * ·) rfl (unstacked _ _ k _))

/-- The scratch holds the slabs. -/
theorem kept (c : Dev nD) (a3 : Memref sig .tc .vmem BX .bf16) (h3 : a3.IsWhole) (a4 : Memref sig .tc .vmem BW .bf16) (h4 : a4.IsWhole)
    (x : Vec Ideal BX .bf16) (w : Vec Ideal BW .bf16) (y : BS.Idx) :
    View.canon (kernelRun0_A.sl.HS0_8 (F := Ideal) c a3 h3 a4 h4 x w) y = slabs x w y := by
  refine View.canon_apply_of_pieces (Val := Elt Ideal) (e := .f32) (slabs x w) _ ?_ y ?_
  · have hP : ∀ (y : BS.Idx) (i : S1024x1024.Idx), (i 0).val = (y 1).val → (i 1).val = 128 * (y 0).val + (y 2).val →
        kernelRun0_A.sl.r (F := Ideal) c a3 h3 a4 h4 x w i = slabs x w y := by
      unfold kernelRun0_A.sl.r
      simp only [View.readAt_eq_ld, h3.read_unread, h4.read_unread, View.ld_unit_zero (S := BX) hz, View.ld_unit_zero (S := BW) hz3]
      exact Deal.slabs_of (by decide) x w _ (pay_eq x w)
    unfold kernelRun0_A.sl.HS0_8
    repeat
      refine List.forall_mem_cons.mpr ⟨fun z => ?_, ?_⟩
      · dsimp only
        refine Deal.slab _ (slabs x w) hP ?_ z
        rfl
    exact List.forall_mem_nil _
  · have h : (y 0).val < 8 := (y 0).isLt
    unfold kernelRun0_A.sl.HS0_8
    simp only [List.exists_mem_cons_iff, Deal.mem_slab]
    omega

/-- A step writes its product. -/
theorem step (c : Dev nD) (i : grid0.Coords) (a3 : Memref sig .tc .vmem BX .bf16) (h3 : a3.IsWhole)
    (a4 : Memref sig .tc .vmem BW .bf16) (h4 : a4.IsWhole) (a5 : Memref sig .tc .vmem BO .bf16) (h5 : a5.IsWhole)
    (a6 : Memref sig .tc .vmem BS .f32) (h6 : a6.IsWhole)
    (x : Vec Ideal BX .bf16) (w : Vec Ideal BW .bf16) (xt : TbBuf0 (F := Ideal) c tbM0_0) (y : BO.Idx) :
    out0_A_2 c i a3 h3 a4 h4 a5 h5 a6 h6 x w xt y = term x w y := by
  unfold out0_A_2
  rw [View.read_writes_eq_canon _ _ _ (cover0_A_2 c i a3 h3 a4 h4 a5 h5 a6 h6 x w xt)]
  refine View.canon_apply_of_pieces (Val := Elt Ideal) (e := .bf16) (term x w) _ ?_ y (cover0_A_2 c i a3 h3 a4 h4 a5 h5 a6 h6 x w xt y)
  unfold kernelRun0_A
  dsimp only
  repeat
    refine List.forall_mem_cons.mpr ⟨fun z => ?_, ?_⟩
    · dsimp only
      refine Deal.piece a6.view _ (slabs x w) (kept c a3 h3 a4 h4 x w) (term x w)
        (Deal.dealt_of (by decide) (by decide) x w) ?_ z
      rfl
  exact List.forall_mem_nil _

/-! ### The blocks a step reads and writes -/

variable (m : (ℓ : Loc nD τ sig) → Buf (Elt Ideal) ℓ) (c : Dev nD)

theorem idx : ∀ t : Fin grid0.N, (cc0_transform_0 (grid0.coords t) (0 : Fin 2) = t.val ∧ cc0_transform_0 (grid0.coords t) (1 : Fin 2) = 0)
    ∧ (cc0_transform_1 k0_off1_inb numel1_S1 tab (grid0.coords t) (0 : Fin 3) = 1
      ∧ cc0_transform_1 k0_off1_inb numel1_S1 tab (grid0.coords t) (1 : Fin 3) = 0
      ∧ cc0_transform_1 k0_off1_inb numel1_S1 tab (grid0.coords t) (2 : Fin 3) = 0)
    ∧ (cc0_transform_2 (grid0.coords t) (0 : Fin 3) = 0 ∧ cc0_transform_2 (grid0.coords t) (1 : Fin 3) = t.val
      ∧ cc0_transform_2 (grid0.coords t) (2 : Fin 3) = 0) := by
  decide +kernel

/-- The kernel's two arguments. -/
def X : S4096x2048.Idx → EReal := m ((c : Thread nD τ).loc main_arg0)
def W : S4x2048x1024.Idx → EReal := m ((c : Thread nD τ).loc main_arg1)

theorem readX (t : Fin grid0.N) (a : Fin 1024) (k : Fin 2048) (I : S4096x2048.Idx)
    (h0 : (I 0).val = t.val * 1024 + a.val) (h1 : (I 1).val = k.val) :
    (iblk m (ok m) c 0 t : Vec Ideal BX .bf16) (ix2 a k) = X m c I := by
  have e := idx t
  refine congrArg (V m c main_arg0) (funext fun b => Fin.ext ?_) |>.trans (congrFun (V_main_arg0 m c) I)
  match b with
  | ⟨0, _⟩ => show cc0_transform_0 (grid0.coords t) (0 : Fin 2) * 1024 + 1 * a.val = (I 0).val; omega
  | ⟨1, _⟩ => show cc0_transform_0 (grid0.coords t) (1 : Fin 2) * 2048 + 1 * k.val = (I 1).val; omega

theorem readW (t : Fin grid0.N) (k : Fin 2048) (a : Fin 1024) :
    (iblk m (ok m) c 1 t : Vec Ideal BW .bf16) (ix3 (0 : Fin 1) k a) = W m c (ix3 (1 : Fin 4) k a) := by
  have e := idx t
  rw [← tbl_eq m] at e
  refine congrArg (V m c main_arg1) (funext fun b => Fin.ext ?_) |>.trans (congrFun (V_main_arg1 m c) _)
  match b with
  | ⟨0, _⟩ => show cc0_transform_1 k0_off1_inb numel1_S1 (tbl m) (grid0.coords t) (0 : Fin 3) * 1 + 1 * 0 = 1; omega
  | ⟨1, _⟩ => show cc0_transform_1 k0_off1_inb numel1_S1 (tbl m) (grid0.coords t) (1 : Fin 3) * 2048 + 1 * k.val = k.val; omega
  | ⟨2, _⟩ => show cc0_transform_1 k0_off1_inb numel1_S1 (tbl m) (grid0.coords t) (2 : Fin 3) * 1024 + 1 * a.val = a.val; omega

/-! ### The result -/

def G : S4x1024x1024.Idx → EReal := fun i => ∑ x : Fin 2048, X m c (ix2 (Deal.row 4 1024 4096 (by decide) (i 0) (i 1)) x) * W m c (ix3 (1 : Fin 4) x (i 2))

theorem mem_blk (t : Fin grid0.N) (i : S4x1024x1024.Idx) :
    i ∈ (((cfgM m (ok m)).win 2).blk t).view.set ↔ ∀ a : Fin 3, cc0_transform_2 (grid0.coords t) a * BO.size a ≤ (i a).val
      ∧ (i a).val < cc0_transform_2 (grid0.coords t) a * BO.size a + BO.size a := by
  show i ∈ ((View.whole main_v0).slice (Rect.block (s := S4x1024x1024) BO.size (cc0_transform_2 (grid0.coords t)) (hinb0_2 _))).set ↔ _
  rw [View.set_slice_whole, Rect.mem_set_unit]
  exact Iff.rfl

/-- What a step writes is its block of the result. -/
theorem block (t : Fin grid0.N) (y : BO.Idx) (i : S4x1024x1024.Idx) (h : (i 0).val = (y 0).val)
    (h0 : (i 1).val = t.val * 256 + (y 1).val) (h1 : (i 2).val = (y 2).val) : outsAt0 m (ok m) c t y = G m c i := by
  have e : y 2 = i 2 := Fin.ext h1.symm
  have hr : (i 0).val + 4 * (i 1).val = t.val * 1024 + ((y 0).val + 4 * (y 1).val) := by omega
  exact (step ..).trans (Deal.dealt_eq _ _ _ _ _ _ (fun k => readX m c t _ k _ hr rfl)
    fun k => ((readW m c t k _).trans (congrArg (fun z => W m c (ix3 (1 : Fin 4) k z)) e)))

/-- The array after the run: the blocks written back tile it. -/
theorem final (c : Dev nD) : (dats m (ok m) 0 c).arrAt 2 (cfgM m (ok m)).N = G m c := by
  refine (dats m (ok m) 0 c).arrAt_eq_of_cover 2 _ (fun t hf => ?_) (fun (i : S4x1024x1024.Idx) => ?_)
  · have e := idx t
    rw [Pipeline.Dat.flushed, after0_2]
    funext (y : BO.Idx)
    refine block m c t (((cfgM m (ok m)).win 2).xinj (grid0.coords t) y) _ ?_ ?_ ?_
    · show cc0_transform_2 (grid0.coords t) (0 : Fin 3) * 4 + 1 * (y 0).val = (y 0).val
      omega
    · show cc0_transform_2 (grid0.coords t) (1 : Fin 3) * 256 + 1 * (y 1).val = t.val * 256 + (y 1).val
      omega
    · show cc0_transform_2 (grid0.coords t) (2 : Fin 3) * 1024 + 1 * (y 2).val = (y 2).val
      omega
  · have eN : grid0.N = 4 := N_0
    have h0 : (i 1).val < 1024 := (i 1).isLt
    have h1 : (i 2).val < 1024 := (i 2).isLt
    have h2 : (i 0).val < 4 := (i 0).isLt
    refine ⟨⟨(i 1).val / 256, by show _ < grid0.N; omega⟩, flush0_2 _ _, (mem_blk m _ i).mpr fun a => ?_⟩
    have e := idx ⟨(i 1).val / 256, by omega⟩
    dsimp only at e
    match a with
    | ⟨0, _⟩ => show cc0_transform_2 _ (0 : Fin 3) * 4 ≤ (i 0).val ∧ (i 0).val < cc0_transform_2 _ (0 : Fin 3) * 4 + 4; omega
    | ⟨1, _⟩ => show cc0_transform_2 _ (1 : Fin 3) * 256 ≤ (i 1).val ∧ (i 1).val < cc0_transform_2 _ (1 : Fin 3) * 256 + 256; omega
    | ⟨2, _⟩ => show cc0_transform_2 _ (2 : Fin 3) * 1024 ≤ (i 2).val ∧ (i 2).val < cc0_transform_2 _ (2 : Fin 3) * 1024 + 1024; omega

theorem run (ρ : Dev nD → PrngReg) :
    θ_run (defs (F := Ideal)) (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).1 2).trans (final m c),
    ((h c).1 0).trans (((dats m (ok m) 0 c).arrAt_in 0 rfl _).trans ((A_eq m (ok m) c 0).trans (V_main_arg0 m c))),
    ((h c).1 1).trans (((dats m (ok m) 0 c).arrAt_in 1 rfl _).trans ((A_eq m (ok m) c 1).trans (V_main_arg1 m c)))⟩) (run_main m ρ (ok m))

end Cert.Kernel19Ideal.Prod

namespace Cert.Reference19Ideal.Prod

open Cert.Reference19Ideal Cert Idealize.ShloMosaic Idealize.ShloMosaic.TcCoe Idealize.SL.Sem Idealize.ShloMosaic.StableHlo

theorem frame : Cert.quiescent_Reference19Ideal := fun m ρ _ =>
  (θ_run defs _ _).mono (fun r h => ⟨fun c => (h c).2, sem_eq_zero_of_no_sems (by decide) r.2⟩) (Value.run (F := Ideal) m ρ)

theorem apply (x : S4096x2048.Idx → Ideal .bf16) (w : S4x2048x1024.Idx → Ideal .bf16) (i : S4x1024x1024.Idx) :
    Read.val_main_v7 (F := Ideal) x w i = ∑ k : Fin 2048, x (ix2 (Deal.row 4 1024 4096 (by decide) (i 0) (i 1)) k) * w (ix3 (1 : Fin 4) k (i 2)) := by
  have h0 : (i 0).val < 4 := (i 0).isLt
  have h1 : (i 1).val < 1024 := (i 1).isLt
  have h2 : (i 2).val < 1024 := (i 2).isLt
  show Read.val_main_v6 (F := Ideal) x w i = _
  rw [Read.val_main_v6_apply, Read.val_main_v5_apply, Read.val_main_v4_apply]
  refine Finset.sum_congr rfl fun k _ => congrArg₂ (· * ·) ?_ ?_
  · refine congrArg x (funext fun d => Fin.ext ?_)
    match d with
    | ⟨0, _⟩ => show (((i 1).val * 4 + (i 0).val) * 1024 + (i 2).val) / 1024 = (i 0).val + 4 * (i 1).val; omega
    | ⟨1, _⟩ => rfl
  · show Read.val_main_v2 (F := Ideal) w _ = _
    rw [Read.val_main_v2_apply, Read.val_main_v1_apply]
    have hk := k.isLt
    refine congrArg w (funext fun d => Fin.ext ?_)
    match d with
    | ⟨0, _⟩ => rfl
    | ⟨1, _⟩ => show (k.val * 1024 + (((i 1).val * 4 + (i 0).val) * 1024 + (i 2).val) % 1024) / 1024 % 2048 = k.val; omega
    | ⟨2, _⟩ => show (k.val * 1024 + (((i 1).val * 4 + (i 0).val) * 1024 + (i 2).val) % 1024) % 1024 = (i 2).val; omega

/-- The kernel's result is the reference's. -/
theorem algebraic : Cert.algebraic_Kernel19Ideal_Reference19Ideal := by
  intro m ρ m' ρ' _ hag
  refine ⟨fun c => Cert.Kernel19Ideal.Prod.G m c, Cert.Kernel19Ideal.Prod.run m ρ,
    (θ_run defs _ _).mono (fun r h c => ?_) (Value.run (F := Ideal) m' ρ')⟩
  obtain ⟨e0, e1⟩ := hag c
  obtain ⟨h0, hr⟩ := h c
  rw [e0, e1] at h0
  exact ⟨(h0.trans (Read.val_main_v7_eq ..)).trans (funext fun i => apply _ _ i), hr⟩

end Cert.Reference19Ideal.Prod

end
-- ==== Proof.KvC.lean ====
/-
The keys and values of the third dilation group: the kernel's product, block by block, and the reference's.
-/
module

public import proofs.«01_k».proof.Defs
public import proofs.«01_k».proof.Proof.Cols
public import proofs.«01_k».proof.Proof.Deal
public import proofs.«01_k».proof.Proof.Gen.Kernel20.Frame
public import proofs.«01_k».proof.Proof.Gen.Kernel20Ideal.Frame
public import proofs.«01_k».proof.Proof.Gen.Reference20Ideal.Run
public import proofs.«01_k».proof.Proof.Gen.Reference20Ideal.Read
public import Idealize.ShloMosaic.Lib.Quiescent
public import Idealize.ShloMosaic.Lib.StableHlo.RunRead

@[expose] public section

set_option maxRecDepth 16384

noncomputable section

namespace Cert.Kernel20.Prod

open Cert.Kernel20 Cert.Kernel20.Gen Idealize.ShloMosaic Idealize.ShloMosaic.TcCoe Idealize.ShloMosaic.StableHlo

/-- The table of column blocks: two of keys, two of values. -/
def tab : pre0.Contents (Elt Bits) := fun | ⟨0, _⟩ => fun i => lit0 (S4.rowMajor i)

theorem tbl_eq (m : (ℓ : Loc nD τ sig) → Buf (Elt Bits) ℓ) : tbl m = tab := by
  funext j
  match j with
  | ⟨0, _⟩ => show V m 0 main_c = _; unfold V; after_reads_simp; rfl

/-- Every block the table names lies in the weight. -/
theorem ok (m : (ℓ : Loc nD τ sig) → Buf (Elt Bits) ℓ) : Ok m := by
  unfold Ok
  rw [tbl_eq]
  exact (by decide +kernel : ok0 (F := Bits) tab)

end Cert.Kernel20.Prod

namespace Cert.Kernel20Ideal.Prod

open Cert.Kernel20Ideal Cert.Kernel20Ideal.Gen Cert Cert.Fold Idealize.ShloMosaic
  Idealize.ShloMosaic.TcCoe Idealize.SL.Sem Idealize.ShloMosaic.StableHlo

/-- The table of column blocks: two of keys, two of values. -/
def tab : pre0.Contents (Elt Ideal) := fun | ⟨0, _⟩ => fun i => lit0 (S4.rowMajor i)

theorem tbl_eq (m : (ℓ : Loc nD τ sig) → Buf (Elt Ideal) ℓ) : tbl m = tab := by
  funext j
  match j with
  | ⟨0, _⟩ => show V m 0 main_c = _; unfold V; after_reads_simp; rfl

/-- Every block the table names lies in the weight. -/
theorem ok (m : (ℓ : Loc nD τ sig) → Buf (Elt Ideal) ℓ) : Ok m := by
  unfold Ok
  rw [tbl_eq]
  exact (by decide +kernel : ok0 (F := Ideal) tab)

abbrev BX := S1024x2048
abbrev BW := S1x2048x512
abbrev BO := S16x64x512
abbrev BS := S4x1024x128

/-- One block's product, and the same slab by slab. -/
def term (x : Vec Ideal BX .bf16) (w : Vec Ideal BW .bf16) : BO.Idx → Ideal .f32 :=
  Deal.dealt (d := 16) (R := 64) (T := 1024) (N := 512) (K := 2048) (by decide) x w
def slabs (x : Vec Ideal BX .bf16) (w : Vec Ideal BW .bf16) : BS.Idx → Ideal .f32 :=
  Deal.slabs (C := 4) (T := 1024) (N := 512) (K := 2048) (by decide) x w

theorem mm (x : BX.Idx → Ideal .bf16) (w : S2048x512.Idx → Ideal .bf16) (y : S1024x512.Idx) :
    matmul (F := Ideal) dot_S1024x2048_S2048x512_S1024x512_1_0_0_1_n_n none x w (constant S1024x512 .f32 0x00000000#32) y
      = ∑ k : Fin 2048, x (ix2 (y 0) k) * w (ix2 k (y 1)) :=
  (Ideal.matmul_apply₁_of dot_S1024x2048_S2048x512_S1024x512_1_0_0_1_n_n (a := (1 : Fin 2)) rfl (K := 2048) rfl x _ _ y
    (fun k => ix2 (y 0) k) (fun k => ix2 k (y 1))
    (fun k => funext fun d => match d with | ⟨0, _⟩ => rfl | ⟨1, _⟩ => rfl)
    (fun k => funext fun d => match d with | ⟨0, _⟩ => rfl | ⟨1, _⟩ => rfl)).trans
    ((congrArg (· + _) Ideal.ofBits_zero_f32).trans (zero_add _))

theorem pay_eq (x : Vec Ideal BX .bf16) (w : Vec Ideal BW .bf16) (i : S1024x512.Idx) :
    k0_pay2 x w i = ∑ k : Fin 2048, x (ix2 (i 0) k) * w (ix3 (0 : Fin 1) k (i 1)) := by
  unfold k0_pay2
  exact (mm x _ i).trans (Finset.sum_congr rfl fun k _ => congrArg₂ (· * ·) rfl (unstacked _ _ k _))

/-- The scratch holds the slabs. -/
theorem kept (c : Dev nD) (a3 : Memref sig .tc .vmem BX .bf16) (h3 : a3.IsWhole) (a4 : Memref sig .tc .vmem BW .bf16) (h4 : a4.IsWhole)
    (x : Vec Ideal BX .bf16) (w : Vec Ideal BW .bf16) (y : BS.Idx) :
    View.canon (kernelRun0_A.sl.HS0_4 (F := Ideal) c a3 h3 a4 h4 x w) y = slabs x w y := by
  refine View.canon_apply_of_pieces (Val := Elt Ideal) (e := .f32) (slabs x w) _ ?_ y ?_
  · have hP : ∀ (y : BS.Idx) (i : S1024x512.Idx), (i 0).val = (y 1).val → (i 1).val = 128 * (y 0).val + (y 2).val →
        k0_pay2 (View.readAt (Elt Ideal) a3.view (Rect.unit ![0, 0] BX.size inb_S1024x2048_S1024x2048_0_0).toLoadRect (h3.unread x))
          (View.readAt (Elt Ideal) a4.view (Rect.unit ![0, 0, 0] BW.size inb_S1x2048x512_S1x2048x512_0_0_0).toLoadRect (h4.unread w)) i
          = slabs x w y := by
      simp only [View.readAt_eq_ld, h3.read_unread, h4.read_unread, View.ld_unit_zero (S := BX) hz, View.ld_unit_zero (S := BW) hz3]
      exact Deal.slabs_of (by decide) x w _ (pay_eq x w)
    unfold kernelRun0_A.sl.HS0_4
    repeat
      refine List.forall_mem_cons.mpr ⟨fun z => ?_, ?_⟩
      · dsimp only
        refine Deal.slab _ (slabs x w) hP ?_ z
        rfl
    exact List.forall_mem_nil _
  · have h : (y 0).val < 4 := (y 0).isLt
    unfold kernelRun0_A.sl.HS0_4
    simp only [List.exists_mem_cons_iff, Deal.mem_slab]
    omega

/-- A step writes its product. -/
theorem step (c : Dev nD) (i : grid0.Coords) (a3 : Memref sig .tc .vmem BX .bf16) (h3 : a3.IsWhole)
    (a4 : Memref sig .tc .vmem BW .bf16) (h4 : a4.IsWhole) (a5 : Memref sig .tc .vmem BO .bf16) (h5 : a5.IsWhole)
    (a6 : Memref sig .tc .vmem BS .f32) (h6 : a6.IsWhole)
    (x : Vec Ideal BX .bf16) (w : Vec Ideal BW .bf16) (xt : TbBuf0 (F := Ideal) c tbM0_0) (y : BO.Idx) :
    out0_A_2 c i a3 h3 a4 h4 a5 h5 a6 h6 x w xt y = term x w y := by
  unfold out0_A_2
  rw [View.read_writes_eq_canon _ _ _ (cover0_A_2 c i a3 h3 a4 h4 a5 h5 a6 h6 x w xt)]
  refine View.canon_apply_of_pieces (Val := Elt Ideal) (e := .bf16) (term x w) _ ?_ y (cover0_A_2 c i a3 h3 a4 h4 a5 h5 a6 h6 x w xt y)
  unfold kernelRun0_A
  dsimp only
  repeat
    refine List.forall_mem_cons.mpr ⟨fun z => ?_, ?_⟩
    · dsimp only
      refine Deal.piece a6.view _ (slabs x w) (kept c a3 h3 a4 h4 x w) (term x w)
        (Deal.dealt_of (by decide) (by decide) x w) ?_ z
      rfl
  exact List.forall_mem_nil _

/-! ### The blocks a step reads and writes -/

variable (m : (ℓ : Loc nD τ sig) → Buf (Elt Ideal) ℓ) (c : Dev nD)

theorem idx : ∀ t : Fin grid0.N, (cc0_transform_0 (grid0.coords t) (0 : Fin 2) = t.val / 4 ∧ cc0_transform_0 (grid0.coords t) (1 : Fin 2) = 0)
    ∧ (cc0_transform_1 k0_off1_inb numel1_S1 tab (grid0.coords t) (0 : Fin 3) = (4 + t.val % 4 + t.val % 4 / 2 * 4) / 3
      ∧ cc0_transform_1 k0_off1_inb numel1_S1 tab (grid0.coords t) (1 : Fin 3) = 0
      ∧ cc0_transform_1 k0_off1_inb numel1_S1 tab (grid0.coords t) (2 : Fin 3) = (4 + t.val % 4 + t.val % 4 / 2 * 4) % 3)
    ∧ (cc0_transform_2 (grid0.coords t) (0 : Fin 3) = 0 ∧ cc0_transform_2 (grid0.coords t) (1 : Fin 3) = t.val / 4
      ∧ cc0_transform_2 (grid0.coords t) (2 : Fin 3) = t.val % 4) := by
  decide +kernel

/-- The kernel's two arguments. -/
def X : S4096x2048.Idx → EReal := m ((c : Thread nD τ).loc main_arg0)
def W : S4x2048x1536.Idx → EReal := m ((c : Thread nD τ).loc main_arg1)

theorem readX (t : Fin grid0.N) (a : Fin 1024) (k : Fin 2048) (I : S4096x2048.Idx)
    (h0 : (I 0).val = t.val / 4 * 1024 + a.val) (h1 : (I 1).val = k.val) :
    (iblk m (ok m) c 0 t : Vec Ideal BX .bf16) (ix2 a k) = X m c I := by
  have e := idx t
  refine congrArg (V m c main_arg0) (funext fun b => Fin.ext ?_) |>.trans (congrFun (V_main_arg0 m c) I)
  match b with
  | ⟨0, _⟩ => show cc0_transform_0 (grid0.coords t) (0 : Fin 2) * 1024 + 1 * a.val = (I 0).val; omega
  | ⟨1, _⟩ => show cc0_transform_0 (grid0.coords t) (1 : Fin 2) * 2048 + 1 * k.val = (I 1).val; omega

theorem readW (t : Fin grid0.N) (k : Fin 2048) (a : Fin 512) (j : Fin 2048) (h : j.val = t.val % 4 * 512 + a.val) :
    (iblk m (ok m) c 1 t : Vec Ideal BW .bf16) (ix3 (0 : Fin 1) k a) = W m c (Cols.ix 2 k j) := by
  have e := idx t
  rw [← tbl_eq m] at e
  have ha := a.isLt
  have hj := j.isLt
  refine congrArg (V m c main_arg1) (funext fun b => Fin.ext ?_) |>.trans (congrFun (V_main_arg1 m c) _)
  match b with
  | ⟨0, _⟩ =>
    show cc0_transform_1 k0_off1_inb numel1_S1 (tbl m) (grid0.coords t) (0 : Fin 3) * 1 + 1 * 0
      = (2 * 1024 + j.val + j.val / 1024 * 2048) / 1536
    omega
  | ⟨1, _⟩ => show cc0_transform_1 k0_off1_inb numel1_S1 (tbl m) (grid0.coords t) (1 : Fin 3) * 2048 + 1 * k.val = k.val; omega
  | ⟨2, _⟩ =>
    show cc0_transform_1 k0_off1_inb numel1_S1 (tbl m) (grid0.coords t) (2 : Fin 3) * 512 + 1 * a.val
      = (2 * 1024 + j.val + j.val / 1024 * 2048) % 1536
    omega

/-! ### The result -/

def G : S16x256x2048.Idx → EReal := fun i => ∑ x : Fin 2048, X m c (ix2 (Deal.row 16 256 4096 (by decide) (i 0) (i 1)) x) * W m c (Cols.ix 2 x (i 2))

theorem mem_blk (t : Fin grid0.N) (i : S16x256x2048.Idx) :
    i ∈ (((cfgM m (ok m)).win 2).blk t).view.set ↔ ∀ a : Fin 3, cc0_transform_2 (grid0.coords t) a * BO.size a ≤ (i a).val
      ∧ (i a).val < cc0_transform_2 (grid0.coords t) a * BO.size a + BO.size a := by
  show i ∈ ((View.whole main_v0).slice (Rect.block (s := S16x256x2048) BO.size (cc0_transform_2 (grid0.coords t)) (hinb0_2 _))).set ↔ _
  rw [View.set_slice_whole, Rect.mem_set_unit]
  exact Iff.rfl

/-- What a step writes is its block of the result. -/
theorem block (t : Fin grid0.N) (y : BO.Idx) (i : S16x256x2048.Idx) (h : (i 0).val = (y 0).val)
    (h0 : (i 1).val = t.val / 4 * 64 + (y 1).val) (h1 : (i 2).val = t.val % 4 * 512 + (y 2).val) : outsAt0 m (ok m) c t y = G m c i := by
  have hr : (i 0).val + 16 * (i 1).val = t.val / 4 * 1024 + ((y 0).val + 16 * (y 1).val) := by omega
  exact (step ..).trans (Deal.dealt_eq _ _ _ _ _ _ (fun k => readX m c t _ k _ hr rfl) fun k => readW m c t k _ _ h1)

/-- The array after the run: the blocks written back tile it. -/
theorem final (c : Dev nD) : (dats m (ok m) 0 c).arrAt 2 (cfgM m (ok m)).N = G m c := by
  refine (dats m (ok m) 0 c).arrAt_eq_of_cover 2 _ (fun t hf => ?_) (fun (i : S16x256x2048.Idx) => ?_)
  · have e := idx t
    rw [Pipeline.Dat.flushed, after0_2]
    funext (y : BO.Idx)
    refine block m c t (((cfgM m (ok m)).win 2).xinj (grid0.coords t) y) _ ?_ ?_ ?_
    · show cc0_transform_2 (grid0.coords t) (0 : Fin 3) * 16 + 1 * (y 0).val = (y 0).val
      omega
    · show cc0_transform_2 (grid0.coords t) (1 : Fin 3) * 64 + 1 * (y 1).val = t.val / 4 * 64 + (y 1).val
      omega
    · show cc0_transform_2 (grid0.coords t) (2 : Fin 3) * 512 + 1 * (y 2).val = t.val % 4 * 512 + (y 2).val
      omega
  · have eN : grid0.N = 16 := N_0
    have h0 : (i 1).val < 256 := (i 1).isLt
    have h1 : (i 2).val < 2048 := (i 2).isLt
    have h2 : (i 0).val < 16 := (i 0).isLt
    refine ⟨⟨(i 1).val / 64 * 4 + (i 2).val / 512, by show _ < grid0.N; omega⟩, flush0_2 _ _, (mem_blk m _ i).mpr fun a => ?_⟩
    have e := idx ⟨(i 1).val / 64 * 4 + (i 2).val / 512, by omega⟩
    dsimp only at e
    match a with
    | ⟨0, _⟩ => show cc0_transform_2 _ (0 : Fin 3) * 16 ≤ (i 0).val ∧ (i 0).val < cc0_transform_2 _ (0 : Fin 3) * 16 + 16; omega
    | ⟨1, _⟩ => show cc0_transform_2 _ (1 : Fin 3) * 64 ≤ (i 1).val ∧ (i 1).val < cc0_transform_2 _ (1 : Fin 3) * 64 + 64; omega
    | ⟨2, _⟩ => show cc0_transform_2 _ (2 : Fin 3) * 512 ≤ (i 2).val ∧ (i 2).val < cc0_transform_2 _ (2 : Fin 3) * 512 + 512; omega

theorem run (ρ : Dev nD → PrngReg) :
    θ_run (defs (F := Ideal)) (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).1 2).trans (final m c),
    ((h c).1 0).trans (((dats m (ok m) 0 c).arrAt_in 0 rfl _).trans ((A_eq m (ok m) c 0).trans (V_main_arg0 m c))),
    ((h c).1 1).trans (((dats m (ok m) 0 c).arrAt_in 1 rfl _).trans ((A_eq m (ok m) c 1).trans (V_main_arg1 m c)))⟩) (run_main m ρ (ok m))

end Cert.Kernel20Ideal.Prod

namespace Cert.Reference20Ideal.Prod

open Cert Cert.Reference20Ideal Cert.Reference20Ideal.Gen Idealize.ShloMosaic Idealize.ShloMosaic.TcCoe Idealize.SL.Sem Idealize.ShloMosaic.StableHlo

theorem frame : Cert.quiescent_Reference20Ideal := fun m ρ _ =>
  (θ_run defs _ _).mono (fun r h => ⟨fun c => (h c).2, sem_eq_zero_of_no_sems (by decide) r.2⟩) (Value.run (F := Ideal) m ρ)

/-- A column of all keys and values. -/
theorem col (x : S4096x2048.Idx → Ideal .bf16) (w : S4x2048x1536.Idx → Ideal .bf16) (I : S4096x6144.Idx) (r : Fin 4096) (j : Fin 2048)
    (h0 : (I 0).val = r.val) (h1 : (I 1).val = 2 * 1024 + j.val + j.val / 1024 * 2048) :
    Read.val_main_v4 (F := Ideal) x w I = ∑ k : Fin 2048, x (ix2 r k) * w (Cols.ix 2 k j) := by
  rw [Read.val_main_v4_apply]
  refine Finset.sum_congr rfl fun k _ => congrArg₂ (· * ·) ?_ ?_
  · refine congrArg x (funext fun d => Fin.ext ?_)
    match d with
    | ⟨0, _⟩ => exact h0
    | ⟨1, _⟩ => rfl
  · rw [Read.val_main_v3_apply, Read.val_main_v2_apply]
    have hk := k.isLt
    have hj := j.isLt
    refine congrArg w (funext fun d => Fin.ext ?_)
    match d with
    | ⟨0, _⟩ => show (k.val * 6144 + (I 1).val) / 1536 % 4 = (2 * 1024 + j.val + j.val / 1024 * 2048) / 1536; omega
    | ⟨1, _⟩ => show (k.val * 6144 + (I 1).val) / 6144 = k.val; omega
    | ⟨2, _⟩ => show (k.val * 6144 + (I 1).val) % 1536 = (2 * 1024 + j.val + j.val / 1024 * 2048) % 1536; omega

/-- The group's keys and values, side by side. -/
theorem pair (x : S4096x2048.Idx → Ideal .bf16) (w : S4x2048x1536.Idx → Ideal .bf16) (I : S4096x2048.Idx) (r : Fin 4096) (j : Fin 2048)
    (h0 : (I 0).val = r.val) (h1 : (I 1).val = j.val) :
    Read.val_main_v7 (F := Ideal) x w I = ∑ k : Fin 2048, x (ix2 r k) * w (Cols.ix 2 k j) := by
  have hj := j.isLt
  by_cases h : j.val < 1024
  · refine (concatenate_pair_apply_left (s₁ := S4096x1024) (s₂ := S4096x1024) 1 _ _ concatenates_S4096x1024_S4096x1024_S4096x2048_d1 I
      rfl (ix2 r (⟨j.val, h⟩ : Fin 1024)) (fun b => match b with | ⟨0, _⟩ => h0.symm | ⟨1, _⟩ => h1.symm)).trans ?_
    rw [Read.val_main_v5_apply]
    exact col x w _ r j rfl (by show 2048 + j.val = _; omega)
  · refine (concatenate_pair_apply_right (s₁ := S4096x1024) (s₂ := S4096x1024) 1 _ _ concatenates_S4096x1024_S4096x1024_S4096x2048_d1 I
      rfl rfl (ix2 r (⟨j.val - 1024, by omega⟩ : Fin 1024))
      (fun b hb => match b with | ⟨0, _⟩ => h0.symm | ⟨1, _⟩ => absurd rfl hb) (by show j.val - 1024 + 1024 = _; omega)).trans ?_
    rw [Read.val_main_v6_apply]
    exact col x w _ r j rfl (by show 5120 + (j.val - 1024) = _; omega)

theorem apply (x : S4096x2048.Idx → Ideal .bf16) (w : S4x2048x1536.Idx → Ideal .bf16) (i : S16x256x2048.Idx) :
    Read.val_main_v10 (F := Ideal) x w i = ∑ k : Fin 2048, x (ix2 (Deal.row 16 256 4096 (by decide) (i 0) (i 1)) k) * w (Cols.ix 2 k (i 2)) := by
  have h0 : (i 0).val < 16 := (i 0).isLt
  have h1 : (i 1).val < 256 := (i 1).isLt
  have h2 : (i 2).val < 2048 := (i 2).isLt
  show Read.val_main_v9 (F := Ideal) x w i = _
  rw [Read.val_main_v9_apply, Read.val_main_v8_apply]
  refine pair x w _ (Deal.row 16 256 4096 (by decide) (i 0) (i 1)) (i 2) ?_ ?_
  · show (((i 1).val * 16 + (i 0).val) * 2048 + (i 2).val) / 2048 = (i 0).val + 16 * (i 1).val; omega
  · show (((i 1).val * 16 + (i 0).val) * 2048 + (i 2).val) % 2048 = (i 2).val; omega

/-- The kernel's result is the reference's. -/
theorem algebraic : Cert.algebraic_Kernel20Ideal_Reference20Ideal := by
  intro m ρ m' ρ' _ hag
  refine ⟨fun c => Cert.Kernel20Ideal.Prod.G m c, Cert.Kernel20Ideal.Prod.run m ρ,
    (θ_run defs _ _).mono (fun r h c => ?_) (Value.run (F := Ideal) m' ρ')⟩
  obtain ⟨e0, e1⟩ := hag c
  obtain ⟨h0, hr⟩ := h c
  rw [e0, e1] at h0
  exact ⟨(h0.trans (Read.val_main_v10_eq ..)).trans (funext fun i => apply _ _ i), hr⟩

end Cert.Reference20Ideal.Prod

end
-- ==== Proof.QC.lean ====
/-
The queries of the third dilation group: the kernel's product, block by block, and the reference's.
-/
module

public import proofs.«01_k».proof.Defs
public import proofs.«01_k».proof.Proof.Deal
public import proofs.«01_k».proof.Proof.Gen.Kernel21.Frame
public import proofs.«01_k».proof.Proof.Gen.Kernel21Ideal.Frame
public import proofs.«01_k».proof.Proof.Gen.Reference21Ideal.Run
public import proofs.«01_k».proof.Proof.Gen.Reference21Ideal.Read
public import Idealize.ShloMosaic.Lib.Quiescent
public import Idealize.ShloMosaic.Lib.StableHlo.RunRead

@[expose] public section

set_option maxRecDepth 16384

noncomputable section

namespace Cert.Kernel21.Prod

open Cert.Kernel21 Cert.Kernel21.Gen Idealize.ShloMosaic Idealize.ShloMosaic.TcCoe Idealize.ShloMosaic.StableHlo

/-- The table of column blocks: the one block of the group. -/
def tab : pre0.Contents (Elt Bits) := fun | ⟨0, _⟩ => constantI S1 32 2#32

theorem tbl_eq (m : (ℓ : Loc nD τ sig) → Buf (Elt Bits) ℓ) : tbl m = tab := by
  funext j
  match j with
  | ⟨0, _⟩ => show V m 0 main_c = _; unfold V; after_reads_simp; rfl

/-- Every block the table names lies in the weight. -/
theorem ok (m : (ℓ : Loc nD τ sig) → Buf (Elt Bits) ℓ) : Ok m := by
  unfold Ok
  rw [tbl_eq]
  exact (by decide +kernel : ok0 (F := Bits) tab)

end Cert.Kernel21.Prod

namespace Cert.Kernel21Ideal.Prod

open Cert.Kernel21Ideal Cert.Kernel21Ideal.Gen Cert Cert.Fold Idealize.ShloMosaic
  Idealize.ShloMosaic.TcCoe Idealize.SL.Sem Idealize.ShloMosaic.StableHlo

/-- The table of column blocks: the one block of the group. -/
def tab : pre0.Contents (Elt Ideal) := fun | ⟨0, _⟩ => constantI S1 32 2#32

theorem tbl_eq (m : (ℓ : Loc nD τ sig) → Buf (Elt Ideal) ℓ) : tbl m = tab := by
  funext j
  match j with
  | ⟨0, _⟩ => show V m 0 main_c = _; unfold V; after_reads_simp; rfl

/-- Every block the table names lies in the weight. -/
theorem ok (m : (ℓ : Loc nD τ sig) → Buf (Elt Ideal) ℓ) : Ok m := by
  unfold Ok
  rw [tbl_eq]
  exact (by decide +kernel : ok0 (F := Ideal) tab)

abbrev BX := S1024x2048
abbrev BW := S1x2048x1024
abbrev BO := S16x64x1024
abbrev BS := S8x1024x128

/-- One block's product, and the same slab by slab. -/
def term (x : Vec Ideal BX .bf16) (w : Vec Ideal BW .bf16) : BO.Idx → Ideal .f32 :=
  Deal.dealt (d := 16) (R := 64) (T := 1024) (N := 1024) (K := 2048) (by decide) x w
def slabs (x : Vec Ideal BX .bf16) (w : Vec Ideal BW .bf16) : BS.Idx → Ideal .f32 :=
  Deal.slabs (C := 8) (T := 1024) (N := 1024) (K := 2048) (by decide) x w

theorem mm (x : BX.Idx → Ideal .bf16) (w : S2048x1024.Idx → Ideal .bf16) (y : S1024x1024.Idx) :
    matmul (F := Ideal) dot_S1024x2048_S2048x1024_S1024x1024_1_0_0_1_n_n none x w (constant S1024x1024 .f32 0x00000000#32) y
      = ∑ k : Fin 2048, x (ix2 (y 0) k) * w (ix2 k (y 1)) :=
  (Ideal.matmul_apply₁_of dot_S1024x2048_S2048x1024_S1024x1024_1_0_0_1_n_n (a := (1 : Fin 2)) rfl (K := 2048) rfl x _ _ y
    (fun k => ix2 (y 0) k) (fun k => ix2 k (y 1))
    (fun k => funext fun d => match d with | ⟨0, _⟩ => rfl | ⟨1, _⟩ => rfl)
    (fun k => funext fun d => match d with | ⟨0, _⟩ => rfl | ⟨1, _⟩ => rfl)).trans
    ((congrArg (· + _) Ideal.ofBits_zero_f32).trans (zero_add _))

theorem pay_eq (x : Vec Ideal BX .bf16) (w : Vec Ideal BW .bf16) (i : S1024x1024.Idx) :
    k0_pay3 x w i = ∑ k : Fin 2048, x (ix2 (i 0) k) * w (ix3 (0 : Fin 1) k (i 1)) := by
  unfold k0_pay3
  exact (mm x _ i).trans (Finset.sum_congr rfl fun k _ => congrArg₂ (· * ·) rfl (unstacked _ _ k _))

/-- The scratch holds the slabs. -/
theorem kept (c : Dev nD) (a3 : Memref sig .tc .vmem BX .bf16) (h3 : a3.IsWhole) (a4 : Memref sig .tc .vmem BW .bf16) (h4 : a4.IsWhole)
    (x : Vec Ideal BX .bf16) (w : Vec Ideal BW .bf16) (y : BS.Idx) :
    View.canon (kernelRun0_A.sl.HS0_8 (F := Ideal) c a3 h3 a4 h4 x w) y = slabs x w y := by
  refine View.canon_apply_of_pieces (Val := Elt Ideal) (e := .f32) (slabs x w) _ ?_ y ?_
  · have hP : ∀ (y : BS.Idx) (i : S1024x1024.Idx), (i 0).val = (y 1).val → (i 1).val = 128 * (y 0).val + (y 2).val →
        kernelRun0_A.sl.r (F := Ideal) c a3 h3 a4 h4 x w i = slabs x w y := by
      unfold kernelRun0_A.sl.r
      simp only [View.readAt_eq_ld, h3.read_unread, h4.read_unread, View.ld_unit_zero (S := BX) hz, View.ld_unit_zero (S := BW) hz3]
      exact Deal.slabs_of (by decide) x w _ (pay_eq x w)
    unfold kernelRun0_A.sl.HS0_8
    repeat
      refine List.forall_mem_cons.mpr ⟨fun z => ?_, ?_⟩
      · dsimp only
        refine Deal.slab _ (slabs x w) hP ?_ z
        rfl
    exact List.forall_mem_nil _
  · have h : (y 0).val < 8 := (y 0).isLt
    unfold kernelRun0_A.sl.HS0_8
    simp only [List.exists_mem_cons_iff, Deal.mem_slab]
    omega

/-- A step writes its product. -/
theorem step (c : Dev nD) (i : grid0.Coords) (a3 : Memref sig .tc .vmem BX .bf16) (h3 : a3.IsWhole)
    (a4 : Memref sig .tc .vmem BW .bf16) (h4 : a4.IsWhole) (a5 : Memref sig .tc .vmem BO .bf16) (h5 : a5.IsWhole)
    (a6 : Memref sig .tc .vmem BS .f32) (h6 : a6.IsWhole)
    (x : Vec Ideal BX .bf16) (w : Vec Ideal BW .bf16) (xt : TbBuf0 (F := Ideal) c tbM0_0) (y : BO.Idx) :
    out0_A_2 c i a3 h3 a4 h4 a5 h5 a6 h6 x w xt y = term x w y := by
  unfold out0_A_2
  rw [View.read_writes_eq_canon _ _ _ (cover0_A_2 c i a3 h3 a4 h4 a5 h5 a6 h6 x w xt)]
  refine View.canon_apply_of_pieces (Val := Elt Ideal) (e := .bf16) (term x w) _ ?_ y (cover0_A_2 c i a3 h3 a4 h4 a5 h5 a6 h6 x w xt y)
  unfold kernelRun0_A
  dsimp only
  repeat
    refine List.forall_mem_cons.mpr ⟨fun z => ?_, ?_⟩
    · dsimp only
      refine Deal.piece a6.view _ (slabs x w) (kept c a3 h3 a4 h4 x w) (term x w)
        (Deal.dealt_of (by decide) (by decide) x w) ?_ z
      rfl
  exact List.forall_mem_nil _

/-! ### The blocks a step reads and writes -/

variable (m : (ℓ : Loc nD τ sig) → Buf (Elt Ideal) ℓ) (c : Dev nD)

theorem idx : ∀ t : Fin grid0.N, (cc0_transform_0 (grid0.coords t) (0 : Fin 2) = t.val ∧ cc0_transform_0 (grid0.coords t) (1 : Fin 2) = 0)
    ∧ (cc0_transform_1 k0_off1_inb numel1_S1 tab (grid0.coords t) (0 : Fin 3) = 2
      ∧ cc0_transform_1 k0_off1_inb numel1_S1 tab (grid0.coords t) (1 : Fin 3) = 0
      ∧ cc0_transform_1 k0_off1_inb numel1_S1 tab (grid0.coords t) (2 : Fin 3) = 0)
    ∧ (cc0_transform_2 (grid0.coords t) (0 : Fin 3) = 0 ∧ cc0_transform_2 (grid0.coords t) (1 : Fin 3) = t.val
      ∧ cc0_transform_2 (grid0.coords t) (2 : Fin 3) = 0) := by
  decide +kernel

/-- The kernel's two arguments. -/
def X : S4096x2048.Idx → EReal := m ((c : Thread nD τ).loc main_arg0)
def W : S4x2048x1024.Idx → EReal := m ((c : Thread nD τ).loc main_arg1)

theorem readX (t : Fin grid0.N) (a : Fin 1024) (k : Fin 2048) (I : S4096x2048.Idx)
    (h0 : (I 0).val = t.val * 1024 + a.val) (h1 : (I 1).val = k.val) :
    (iblk m (ok m) c 0 t : Vec Ideal BX .bf16) (ix2 a k) = X m c I := by
  have e := idx t
  refine congrArg (V m c main_arg0) (funext fun b => Fin.ext ?_) |>.trans (congrFun (V_main_arg0 m c) I)
  match b with
  | ⟨0, _⟩ => show cc0_transform_0 (grid0.coords t) (0 : Fin 2) * 1024 + 1 * a.val = (I 0).val; omega
  | ⟨1, _⟩ => show cc0_transform_0 (grid0.coords t) (1 : Fin 2) * 2048 + 1 * k.val = (I 1).val; omega

theorem readW (t : Fin grid0.N) (k : Fin 2048) (a : Fin 1024) :
    (iblk m (ok m) c 1 t : Vec Ideal BW .bf16) (ix3 (0 : Fin 1) k a) = W m c (ix3 (2 : Fin 4) k a) := by
  have e := idx t
  rw [← tbl_eq m] at e
  refine congrArg (V m c main_arg1) (funext fun b => Fin.ext ?_) |>.trans (congrFun (V_main_arg1 m c) _)
  match b with
  | ⟨0, _⟩ => show cc0_transform_1 k0_off1_inb numel1_S1 (tbl m) (grid0.coords t) (0 : Fin 3) * 1 + 1 * 0 = 2; omega
  | ⟨1, _⟩ => show cc0_transform_1 k0_off1_inb numel1_S1 (tbl m) (grid0.coords t) (1 : Fin 3) * 2048 + 1 * k.val = k.val; omega
  | ⟨2, _⟩ => show cc0_transform_1 k0_off1_inb numel1_S1 (tbl m) (grid0.coords t) (2 : Fin 3) * 1024 + 1 * a.val = a.val; omega

/-! ### The result -/

def G : S16x256x1024.Idx → EReal := fun i => ∑ x : Fin 2048, X m c (ix2 (Deal.row 16 256 4096 (by decide) (i 0) (i 1)) x) * W m c (ix3 (2 : Fin 4) x (i 2))

theorem mem_blk (t : Fin grid0.N) (i : S16x256x1024.Idx) :
    i ∈ (((cfgM m (ok m)).win 2).blk t).view.set ↔ ∀ a : Fin 3, cc0_transform_2 (grid0.coords t) a * BO.size a ≤ (i a).val
      ∧ (i a).val < cc0_transform_2 (grid0.coords t) a * BO.size a + BO.size a := by
  show i ∈ ((View.whole main_v0).slice (Rect.block (s := S16x256x1024) BO.size (cc0_transform_2 (grid0.coords t)) (hinb0_2 _))).set ↔ _
  rw [View.set_slice_whole, Rect.mem_set_unit]
  exact Iff.rfl

/-- What a step writes is its block of the result. -/
theorem block (t : Fin grid0.N) (y : BO.Idx) (i : S16x256x1024.Idx) (h : (i 0).val = (y 0).val)
    (h0 : (i 1).val = t.val * 64 + (y 1).val) (h1 : (i 2).val = (y 2).val) : outsAt0 m (ok m) c t y = G m c i := by
  have e : y 2 = i 2 := Fin.ext h1.symm
  have hr : (i 0).val + 16 * (i 1).val = t.val * 1024 + ((y 0).val + 16 * (y 1).val) := by omega
  exact (step ..).trans (Deal.dealt_eq _ _ _ _ _ _ (fun k => readX m c t _ k _ hr rfl)
    fun k => ((readW m c t k _).trans (congrArg (fun z => W m c (ix3 (2 : Fin 4) k z)) e)))

/-- The array after the run: the blocks written back tile it. -/
theorem final (c : Dev nD) : (dats m (ok m) 0 c).arrAt 2 (cfgM m (ok m)).N = G m c := by
  refine (dats m (ok m) 0 c).arrAt_eq_of_cover 2 _ (fun t hf => ?_) (fun (i : S16x256x1024.Idx) => ?_)
  · have e := idx t
    rw [Pipeline.Dat.flushed, after0_2]
    funext (y : BO.Idx)
    refine block m c t (((cfgM m (ok m)).win 2).xinj (grid0.coords t) y) _ ?_ ?_ ?_
    · show cc0_transform_2 (grid0.coords t) (0 : Fin 3) * 16 + 1 * (y 0).val = (y 0).val
      omega
    · show cc0_transform_2 (grid0.coords t) (1 : Fin 3) * 64 + 1 * (y 1).val = t.val * 64 + (y 1).val
      omega
    · show cc0_transform_2 (grid0.coords t) (2 : Fin 3) * 1024 + 1 * (y 2).val = (y 2).val
      omega
  · have eN : grid0.N = 4 := N_0
    have h0 : (i 1).val < 256 := (i 1).isLt
    have h1 : (i 2).val < 1024 := (i 2).isLt
    have h2 : (i 0).val < 16 := (i 0).isLt
    refine ⟨⟨(i 1).val / 64, by show _ < grid0.N; omega⟩, flush0_2 _ _, (mem_blk m _ i).mpr fun a => ?_⟩
    have e := idx ⟨(i 1).val / 64, by omega⟩
    dsimp only at e
    match a with
    | ⟨0, _⟩ => show cc0_transform_2 _ (0 : Fin 3) * 16 ≤ (i 0).val ∧ (i 0).val < cc0_transform_2 _ (0 : Fin 3) * 16 + 16; omega
    | ⟨1, _⟩ => show cc0_transform_2 _ (1 : Fin 3) * 64 ≤ (i 1).val ∧ (i 1).val < cc0_transform_2 _ (1 : Fin 3) * 64 + 64; omega
    | ⟨2, _⟩ => show cc0_transform_2 _ (2 : Fin 3) * 1024 ≤ (i 2).val ∧ (i 2).val < cc0_transform_2 _ (2 : Fin 3) * 1024 + 1024; omega

theorem run (ρ : Dev nD → PrngReg) :
    θ_run (defs (F := Ideal)) (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).1 2).trans (final m c),
    ((h c).1 0).trans (((dats m (ok m) 0 c).arrAt_in 0 rfl _).trans ((A_eq m (ok m) c 0).trans (V_main_arg0 m c))),
    ((h c).1 1).trans (((dats m (ok m) 0 c).arrAt_in 1 rfl _).trans ((A_eq m (ok m) c 1).trans (V_main_arg1 m c)))⟩) (run_main m ρ (ok m))

end Cert.Kernel21Ideal.Prod

namespace Cert.Reference21Ideal.Prod

open Cert.Reference21Ideal Cert Idealize.ShloMosaic Idealize.ShloMosaic.TcCoe Idealize.SL.Sem Idealize.ShloMosaic.StableHlo

theorem frame : Cert.quiescent_Reference21Ideal := fun m ρ _ =>
  (θ_run defs _ _).mono (fun r h => ⟨fun c => (h c).2, sem_eq_zero_of_no_sems (by decide) r.2⟩) (Value.run (F := Ideal) m ρ)

theorem apply (x : S4096x2048.Idx → Ideal .bf16) (w : S4x2048x1024.Idx → Ideal .bf16) (i : S16x256x1024.Idx) :
    Read.val_main_v7 (F := Ideal) x w i = ∑ k : Fin 2048, x (ix2 (Deal.row 16 256 4096 (by decide) (i 0) (i 1)) k) * w (ix3 (2 : Fin 4) k (i 2)) := by
  have h0 : (i 0).val < 16 := (i 0).isLt
  have h1 : (i 1).val < 256 := (i 1).isLt
  have h2 : (i 2).val < 1024 := (i 2).isLt
  show Read.val_main_v6 (F := Ideal) x w i = _
  rw [Read.val_main_v6_apply, Read.val_main_v5_apply, Read.val_main_v4_apply]
  refine Finset.sum_congr rfl fun k _ => congrArg₂ (· * ·) ?_ ?_
  · refine congrArg x (funext fun d => Fin.ext ?_)
    match d with
    | ⟨0, _⟩ => show (((i 1).val * 16 + (i 0).val) * 1024 + (i 2).val) / 1024 = (i 0).val + 16 * (i 1).val; omega
    | ⟨1, _⟩ => rfl
  · show Read.val_main_v2 (F := Ideal) w _ = _
    rw [Read.val_main_v2_apply, Read.val_main_v1_apply]
    have hk := k.isLt
    refine congrArg w (funext fun d => Fin.ext ?_)
    match d with
    | ⟨0, _⟩ => rfl
    | ⟨1, _⟩ => show (k.val * 1024 + (((i 1).val * 16 + (i 0).val) * 1024 + (i 2).val) % 1024) / 1024 % 2048 = k.val; omega
    | ⟨2, _⟩ => show (k.val * 1024 + (((i 1).val * 16 + (i 0).val) * 1024 + (i 2).val) % 1024) % 1024 = (i 2).val; omega

/-- The kernel's result is the reference's. -/
theorem algebraic : Cert.algebraic_Kernel21Ideal_Reference21Ideal := by
  intro m ρ m' ρ' _ hag
  refine ⟨fun c => Cert.Kernel21Ideal.Prod.G m c, Cert.Kernel21Ideal.Prod.run m ρ,
    (θ_run defs _ _).mono (fun r h c => ?_) (Value.run (F := Ideal) m' ρ')⟩
  obtain ⟨e0, e1⟩ := hag c
  obtain ⟨h0, hr⟩ := h c
  rw [e0, e1] at h0
  exact ⟨(h0.trans (Read.val_main_v7_eq ..)).trans (funext fun i => apply _ _ i), hr⟩

end Cert.Reference21Ideal.Prod

end
-- ==== Proof.Rows.lean ====
/-
Blocks of rows: a vector spread over the rows, a column over a row's elements, and the sums down the rows and along them.
-/
module

public import proofs.«01_k».proof.Proof.Fold
public import Idealize.ShloMosaic.PureOps.Ideal.Laws

@[expose] public section

noncomputable section

namespace Cert.Rows

open Idealize.ShloMosaic Cert.Fold

variable {A B : ℕ}

/-- A vector spread over the rows. -/
theorem spread {α : Type} (hB : B ≠ 1) (v : (⟨2, ![1, B]⟩ : Shape).Idx → α) (h) (y : (⟨2, ![A, B]⟩ : Shape).Idx) :
    broadcastTo ⟨2, ![A, B]⟩ v h y = v (ix2 (0 : Fin 1) (y 1)) := by
  refine congrArg v (funext fun d => Fin.ext ?_)
  match d with
  | ⟨0, _⟩ => rfl
  | ⟨1, _⟩ => exact congrArg Fin.val (dif_neg hB)

/-- A column spread along the rows. -/
theorem along {α : Type} (hA : A ≠ 1) (v : (⟨2, ![A, 1]⟩ : Shape).Idx → α) (h) (y : (⟨2, ![A, B]⟩ : Shape).Idx) :
    broadcastTo ⟨2, ![A, B]⟩ v h y = v (ix2 (y 0) (0 : Fin 1)) := by
  refine congrArg v (funext fun d => Fin.ext ?_)
  match d with
  | ⟨0, _⟩ => exact congrArg Fin.val (dif_neg hA)
  | ⟨1, _⟩ => rfl

/-- The sum down the rows, as a row. -/
theorem down (v : FVec Ideal ⟨2, ![A, B]⟩ .f32) (h) (h' h'' h3) (y : (⟨2, ![1, B]⟩ : Shape).Idx) :
    shapeCast ⟨2, ![1, B]⟩ (multiReduction (F := Ideal) (φ := .f32) .add [(0 : Fin 2)] ⟨1, ![B]⟩ v 0x00000000#32 h h' h'') h3 y
      = ∑ k : Fin A, v (ix2 k (y 1)) := by
  refine (shapeCast_apply _ h3 y (fun d => match d with | ⟨0, _⟩ => y 1) ?_).trans
    ((Ideal.multiReduction_add_single v _ h h' h'' _).trans (Finset.sum_congr rfl fun k _ => congrArg v (funext fun d => ?_)))
  · rw [Shape.rowMajor_val_one, Shape.rowMajor_val_two]
    have h0 : (y 0).val = 0 := Nat.lt_one_iff.mp (y 0).isLt
    show (y 1).val = (y 0).val * B + (y 1).val
    rw [h0, Nat.zero_mul, Nat.zero_add]
  · match d with
    | ⟨0, _⟩ => rfl
    | ⟨1, _⟩ => rfl

/-- The sum along each row, as a column. -/
theorem across (v : FVec Ideal ⟨2, ![A, B]⟩ .f32) (h) (h' h'' h3) (y : (⟨2, ![A, 1]⟩ : Shape).Idx) :
    shapeCast ⟨2, ![A, 1]⟩ (multiReduction (F := Ideal) (φ := .f32) .add [(1 : Fin 2)] ⟨1, ![A]⟩ v 0x00000000#32 h h' h'') h3 y
      = ∑ k : Fin B, v (ix2 (y 0) k) := by
  refine (shapeCast_apply _ h3 y (fun d => match d with | ⟨0, _⟩ => y 0) ?_).trans
    ((Ideal.multiReduction_add_single v _ h h' h'' _).trans (Finset.sum_congr rfl fun k _ => congrArg v (funext fun d => ?_)))
  · rw [Shape.rowMajor_val_one, Shape.rowMajor_val_two]
    have h0 : (y 1).val = 0 := Nat.lt_one_iff.mp (y 1).isLt
    show (y 0).val = (y 0).val * 1 + (y 1).val
    rw [h0, Nat.mul_one, Nat.add_zero]
  · match d with
    | ⟨0, _⟩ => rfl
    | ⟨1, _⟩ => rfl

/-- A row sum that the first step writes and each later step adds its own block to: after the last step, the sum over all
the rows. -/
theorem swept {M : Type} [AddCommMonoid M] {N K t n : ℕ} (hK : 1 < K) (hn : K * t = n) (hN : N = K) (out T : ∀ n, n < N → M)
    (hA : ∀ n h, n = 0 → out n h = T n h)
    (hB : ∀ n h, n ≠ 0 → out n h = out (n - 1) (Nat.lt_of_le_of_lt (Nat.sub_le _ _) h) + T n h)
    (f : Fin n → M)
    (hT : ∀ (j : Fin K) (h' : j.val < N), T j.val h' = ∑ k : Fin t, f ⟨j.val * t + k.val, by
      have h1 := j.isLt
      have h2 := k.isLt
      have h3 : (j.val + 1) * t ≤ K * t := Nat.mul_le_mul_right t h1
      rw [Nat.add_mul, Nat.one_mul] at h3
      omega⟩) (h : K - 1 < N) :
    out (K - 1) h = ∑ x : Fin n, f x := by
  have key := blocked hK hn out out T (fun n h e => hA n h (by rw [Nat.mod_eq_of_lt (hN ▸ h)] at e; exact e))
    (fun n h e _ => hB n h (fun z => e (by rw [z, Nat.zero_mod])))
    (fun n h e => hB n h (fun z => by rw [z, Nat.zero_mod] at e; omega)) 0 (by omega) f
    (fun j h' => by
      have e : K * 0 + j.val = j.val := by omega
      exact (by simp only [e] : T (K * 0 + j.val) h' = T j.val (by omega)).trans (hT j _))
  have e : K * 0 + (K - 1) = K - 1 := by omega
  simpa only [e] using key

end Cert.Rows

end
-- ==== Proof.ModBack.lean ====
/-
The gradient of the first modulation, for the step's input, the scale and the shift: the kernel's blocks of rows and its sums
down the rows, and the reference's.
-/
module

public import proofs.«01_k».proof.Defs
public import proofs.«01_k».proof.Proof.Rows
public import proofs.«01_k».proof.Proof.Gen.Kernel22Ideal.Value
public import proofs.«01_k».proof.Proof.Gen.Reference22Ideal.Run
public import proofs.«01_k».proof.Proof.Gen.Reference22Ideal.Read
public import Idealize.ShloMosaic.Lib.Quiescent
public import Idealize.ShloMosaic.Lib.StableHlo.RunRead

@[expose] public section

set_option maxRecDepth 16384

noncomputable section

namespace Cert.Kernel22Ideal.Prod

open Cert.Kernel22Ideal Cert.Kernel22Ideal.Gen Cert.Kernel22Ideal.Value Cert.Fold Cert.Rows Idealize.ShloMosaic
  Idealize.ShloMosaic.TcCoe Idealize.SL.Sem Idealize.ShloMosaic.StableHlo

abbrev BR := S256x2048
abbrev BV := S1x2048

/-- A block of the modulated rows' gradient, the sum of the two products' parts. -/
def both (p : Vec Ideal BR .bf16) (q : Vec Ideal BR .f32) (y : BR.Idx) : EReal := p y + q y

/-- The unit the scale is added to. -/
def one : EReal := Ideal.ofBits .f32 0x3F800000#32

/-! ### What a step leaves -/

section Payloads

variable (r : Vec Ideal BR .f32) (p : Vec Ideal BR .bf16) (q x : Vec Ideal BR .f32) (s t : Vec Ideal BV .f32)

theorem rows (y : BR.Idx) : k0_pay2 (F := Ideal) p q r s y = r y + both p q y * (one + s (ix2 (0 : Fin 1) (y 1))) :=
  congrArg (fun z => r y + both p q y * z) (spread (by decide) _ _ y)

theorem scales (y : BV.Idx) : k0_pay3 (F := Ideal) p q x y = ∑ k : Fin 256, both p q (ix2 k (y 1)) * x (ix2 k (y 1)) :=
  down _ _ _ _ _ y

theorem shifts (y : BV.Idx) : k0_pay5 (F := Ideal) p q y = ∑ k : Fin 256, both p q (ix2 k (y 1)) :=
  down _ _ _ _ _ y

theorem scales_add (y : BV.Idx) : k0_pay4 (F := Ideal) p q x t y = t y + k0_pay3 (F := Ideal) p q x y := by
  unfold k0_pay4; rw [shapeCast_self]; rfl

theorem shifts_add (y : BV.Idx) : k0_pay6 (F := Ideal) p q t y = t y + k0_pay5 (F := Ideal) p q y := by
  unfold k0_pay6; rw [shapeCast_self]; rfl

end Payloads

section Steps

variable (c : Dev nD) (i : grid0.Coords) (a1 : Memref sig .tc .vmem BR .f32) (h1 : a1.IsWhole)
  (a2 : Memref sig .tc .vmem BR .bf16) (h2 : a2.IsWhole) (a3 : Memref sig .tc .vmem BR .f32) (h3 : a3.IsWhole)
  (a4 : Memref sig .tc .vmem BR .f32) (h4 : a4.IsWhole) (a5 : Memref sig .tc .vmem BV .f32) (h5 : a5.IsWhole)
  (a6 : Memref sig .tc .vmem BR .f32) (h6 : a6.IsWhole) (a7 : Memref sig .tc .vmem BV .f32) (h7 : a7.IsWhole)
  (a8 : Memref sig .tc .vmem BV .f32) (h8 : a8.IsWhole)
  (r : Vec Ideal BR .f32) (p : Vec Ideal BR .bf16) (q x : Vec Ideal BR .f32) (s t u : Vec Ideal BV .f32)

/-- The first step writes its block of rows and starts the two sums. -/
theorem first (hc0 : cond0_0 i) (hc1 : ¬cond0_1 i) (hc2 : cond0_2 i) (hc3 : ¬cond0_3 i) :
    out0_A_5 c i a1 h1 a2 h2 a3 h3 a4 h4 a5 h5 a6 h6 a7 h7 a8 h8 hc0 hc1 hc2 hc3 r p q x s = k0_pay2 (F := Ideal) p q r s
    ∧ out0_A_6 c i a1 h1 a2 h2 a3 h3 a4 h4 a5 h5 a6 h6 a7 h7 a8 h8 hc0 hc1 hc2 hc3 r p q x s = k0_pay3 (F := Ideal) p q x
    ∧ out0_A_7 c i a1 h1 a2 h2 a3 h3 a4 h4 a5 h5 a6 h6 a7 h7 a8 h8 hc0 hc1 hc2 hc3 r p q x s = k0_pay5 (F := Ideal) p q := by
  unfold out0_A_5 out0_A_6 out0_A_7
  rw [View.read_writes_eq_canon _ _ _ (cover0_A_5 c i a1 h1 a2 h2 a3 h3 a4 h4 a5 h5 a6 h6 a7 h7 a8 h8 hc0 hc1 hc2 hc3 r p q x s),
    View.read_writes_eq_canon _ _ _ (cover0_A_6 c i a1 h1 a2 h2 a3 h3 a4 h4 a5 h5 a6 h6 a7 h7 a8 h8 hc0 hc1 hc2 hc3 r p q x s),
    View.read_writes_eq_canon _ _ _ (cover0_A_7 c i a1 h1 a2 h2 a3 h3 a4 h4 a5 h5 a6 h6 a7 h7 a8 h8 hc0 hc1 hc2 hc3 r p q x s)]
  unfold kernelRun0_A
  dsimp only
  simp only [View.readAt_eq_ld, h1.read_unread, h2.read_unread, h3.read_unread, h4.read_unread,
    h5.read_unread, View.ld_unit_zero (S := BR) hz, View.ld_unit_zero (S := BV) hz]
  exact ⟨View.canon_unit_zero hz .., View.canon_unit_zero hz .., View.canon_unit_zero hz ..⟩

/-- A later step writes its block of rows and adds to the two sums. -/
theorem later (hc0 : ¬cond0_0 i) (hc1 : cond0_1 i) (hc2 : ¬cond0_2 i) (hc3 : cond0_3 i) :
    out0_B_5 c i a1 h1 a2 h2 a3 h3 a4 h4 a5 h5 a6 h6 a7 h7 a8 h8 hc0 hc1 hc2 hc3 r p q x s t u = k0_pay2 (F := Ideal) p q r s
    ∧ out0_B_6 c i a1 h1 a2 h2 a3 h3 a4 h4 a5 h5 a6 h6 a7 h7 a8 h8 hc0 hc1 hc2 hc3 r p q x s t u = k0_pay4 (F := Ideal) p q x t
    ∧ out0_B_7 c i a1 h1 a2 h2 a3 h3 a4 h4 a5 h5 a6 h6 a7 h7 a8 h8 hc0 hc1 hc2 hc3 r p q x s t u = k0_pay6 (F := Ideal) p q u := by
  unfold out0_B_5 out0_B_6 out0_B_7
  rw [View.read_writes_eq_canon _ _ _ (cover0_B_5 c i a1 h1 a2 h2 a3 h3 a4 h4 a5 h5 a6 h6 a7 h7 a8 h8 hc0 hc1 hc2 hc3 r p q x s t u),
    View.read_writes_eq_canon _ _ _ (cover0_B_6 c i a1 h1 a2 h2 a3 h3 a4 h4 a5 h5 a6 h6 a7 h7 a8 h8 hc0 hc1 hc2 hc3 r p q x s t u),
    View.read_writes_eq_canon _ _ _ (cover0_B_7 c i a1 h1 a2 h2 a3 h3 a4 h4 a5 h5 a6 h6 a7 h7 a8 h8 hc0 hc1 hc2 hc3 r p q x s t u)]
  unfold kernelRun0_B
  dsimp only
  simp only [View.readAt_eq_ld, h1.read_unread, h2.read_unread, h3.read_unread, h4.read_unread,
    h5.read_unread, h7.read_unread, h8.read_unread, View.ld_unit_zero (S := BR) hz, View.ld_unit_zero (S := BV) hz]
  exact ⟨View.canon_unit_zero hz .., View.canon_unit_zero hz .., View.canon_unit_zero hz ..⟩

end Steps

/-! ### The blocks a step reads -/

theorem idx : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = 0 ∧ win0_4.index t (1 : Fin 2) = 0)
    ∧ (win0_5.index t (0 : Fin 2) = t.val ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0) :=
  (by decide +kernel : ∀ t : Fin grid0.N, _)

variable (m : (ℓ : Loc nD τ sig) → Buf (Elt Ideal) ℓ) (c : Dev nD)

/-- The kernel's five arguments. -/
def R : S4096x2048.Idx → EReal := m ((c : Thread nD τ).loc main_arg0)
def P : S4096x2048.Idx → EReal := m ((c : Thread nD τ).loc main_arg1)
def Q : S4096x2048.Idx → EReal := m ((c : Thread nD τ).loc main_arg2)
def X : S4096x2048.Idx → EReal := m ((c : Thread nD τ).loc main_arg3)
def S : S1x2048.Idx → EReal := m ((c : Thread nD τ).loc main_arg4)

/-- Row `k` of step `t`'s block, in the array. -/
def at_ (t : Fin cfg0.N) (y : BR.Idx) : S4096x2048.Idx :=
  ix2 (⟨t.val * 256 + (y 0).val, by have h := t.isLt; have e : cfg0.N = 16 := N_0; have h' : (y 0).val < 256 := (y 0).isLt; omega⟩ : Fin 4096) (y 1)

theorem reads (t : Fin cfg0.N) (y : BR.Idx) : (iblk m c 0 t : Vec Ideal BR .f32) y = R m c (at_ t y)
    ∧ (iblk m c 1 t : Vec Ideal BR .bf16) y = P m c (at_ t y) ∧ (iblk m c 2 t : Vec Ideal BR .f32) y = Q m c (at_ t y)
    ∧ (iblk m c 3 t : Vec Ideal BR .f32) y = X m c (at_ t y) := by
  have e := idx t
  refine ⟨congrArg (V m c main_arg0) (funext fun b => Fin.ext ?_) |>.trans (congrFun (V_main_arg0 m c) (at_ t y)),
    congrArg (V m c main_arg1) (funext fun b => Fin.ext ?_) |>.trans (congrFun (V_main_arg1 m c) (at_ t y)),
    congrArg (V m c main_arg2) (funext fun b => Fin.ext ?_) |>.trans (congrFun (V_main_arg2 m c) (at_ t y)),
    congrArg (V m c main_arg3) (funext fun b => Fin.ext ?_) |>.trans (congrFun (V_main_arg3 m c) (at_ t y))⟩
  all_goals
    match b with
    | ⟨0, _⟩ => first
      | (show win0_0.index t (0 : Fin 2) * 256 + 1 * (y 0).val = t.val * 256 + (y 0).val; omega)
      | (show win0_1.index t (0 : Fin 2) * 256 + 1 * (y 0).val = t.val * 256 + (y 0).val; omega)
      | (show win0_2.index t (0 : Fin 2) * 256 + 1 * (y 0).val = t.val * 256 + (y 0).val; omega)
      | (show win0_3.index t (0 : Fin 2) * 256 + 1 * (y 0).val = t.val * 256 + (y 0).val; omega)
    | ⟨1, _⟩ => first
      | (show win0_0.index t (1 : Fin 2) * 2048 + 1 * (y 1).val = (y 1).val; omega)
      | (show win0_1.index t (1 : Fin 2) * 2048 + 1 * (y 1).val = (y 1).val; omega)
      | (show win0_2.index t (1 : Fin 2) * 2048 + 1 * (y 1).val = (y 1).val; omega)
      | (show win0_3.index t (1 : Fin 2) * 2048 + 1 * (y 1).val = (y 1).val; omega)

theorem readS (t : Fin cfg0.N) (y : BV.Idx) : (iblk m c 4 t : Vec Ideal BV .f32) y = S m c y := by
  have e := idx t
  refine congrArg (V m c main_arg4) (funext fun b => Fin.ext ?_) |>.trans (congrFun (V_main_arg4 m c) y)
  match b with
  | ⟨0, _⟩ => show win0_4.index t (0 : Fin 2) * 1 + 1 * (y 0).val = (y 0).val; omega
  | ⟨1, _⟩ => show win0_4.index t (1 : Fin 2) * 2048 + 1 * (y 1).val = (y 1).val; omega

/-! ### What every step leaves -/

theorem left (t : Fin cfg0.N) :
    (outsAt0 m c t.val t.isLt).1 = k0_pay2 (F := Ideal) (iblk m c 1 t) (iblk m c 2 t) (iblk m c 0 t) (iblk m c 4 t)
    ∧ (t.val = 0 → (outsAt0 m c t.val t.isLt).2.1 = k0_pay3 (F := Ideal) (iblk m c 1 t) (iblk m c 2 t) (iblk m c 3 t)
      ∧ (outsAt0 m c t.val t.isLt).2.2 = k0_pay5 (F := Ideal) (iblk m c 1 t) (iblk m c 2 t))
    ∧ (t.val ≠ 0 → (outsAt0 m c t.val t.isLt).2.1 = k0_pay4 (F := Ideal) (iblk m c 1 t) (iblk m c 2 t) (iblk m c 3 t)
        (outsAt0 m c (t.val - 1) (Nat.lt_of_le_of_lt (Nat.sub_le _ _) t.isLt)).2.1
      ∧ (outsAt0 m c t.val t.isLt).2.2 = k0_pay6 (F := Ideal) (iblk m c 1 t) (iblk m c 2 t)
        (outsAt0 m c (t.val - 1) (Nat.lt_of_le_of_lt (Nat.sub_le _ _) t.isLt)).2.2) := by
  have ht : t.val < 16 := lt_of_lt_of_eq t.isLt N_0
  by_cases h : t.val = 0
  · rw [outsAt0_A m c t (by omega) (by omega) (by omega) (by omega)]
    dsimp only
    have f := first c (grid0.coords t) (ms0_0 t) (hs0_0 t) (ms0_1 t) (hs0_1 t) (ms0_2 t) (hs0_2 t) (ms0_3 t) (hs0_3 t) (ms0_4 t)
      (hs0_4 t) (ms0_5 t) (hs0_5 t) (ms0_6 t) (hs0_6 t) (ms0_7 t) (hs0_7 t) (iblk m c 0 t) (iblk m c 1 t) (iblk m c 2 t)
      (iblk m c 3 t) (iblk m c 4 t) ((hcond0_0 t).mpr (by omega)) (fun z => absurd ((hcond0_1 t).mp z) (by omega))
      ((hcond0_2 t).mpr (by omega)) (fun z => absurd ((hcond0_3 t).mp z) (by omega))
    exact ⟨f.1, fun _ => f.2, fun z => absurd h z⟩
  · rw [outsAt0_B m c t (by omega) (by omega) (by omega) (by omega)]
    dsimp only
    have f := later c (grid0.coords t) (ms0_0 t) (hs0_0 t) (ms0_1 t) (hs0_1 t) (ms0_2 t) (hs0_2 t) (ms0_3 t) (hs0_3 t) (ms0_4 t)
      (hs0_4 t) (ms0_5 t) (hs0_5 t) (ms0_6 t) (hs0_6 t) (ms0_7 t) (hs0_7 t) (iblk m c 0 t) (iblk m c 1 t) (iblk m c 2 t)
      (iblk m c 3 t) (iblk m c 4 t) (outsAt0 m c (t.val - 1) (Nat.lt_of_le_of_lt (Nat.sub_le _ _) t.isLt)).2.1
      (outsAt0 m c (t.val - 1) (Nat.lt_of_le_of_lt (Nat.sub_le _ _) t.isLt)).2.2
      (fun z => absurd ((hcond0_0 t).mp z) (by omega)) ((hcond0_1 t).mpr (by omega))
      (fun z => absurd ((hcond0_2 t).mp z) (by omega)) ((hcond0_3 t).mpr (by omega))
    exact ⟨f.1, fun z => absurd z h, fun _ => f.2⟩

/-! ### The results -/

def H (i : S4096x2048.Idx) : EReal := P m c i + Q m c i

def G5 (i : S4096x2048.Idx) : EReal := R m c i + H m c i * (one + S m c (ix2 (0 : Fin 1) (i 1)))
def G6 (i : S1x2048.Idx) : EReal := ∑ k : Fin 4096, H m c (ix2 k (i 1)) * X m c (ix2 k (i 1))
def G7 (i : S1x2048.Idx) : EReal := ∑ k : Fin 4096, H m c (ix2 k (i 1))

theorem both_eq (t : Fin cfg0.N) (y : BR.Idx) : both (iblk m c 1 t) (iblk m c 2 t) y = H m c (at_ t y) :=
  congrArg₂ (· + ·) (reads m c t y).2.1 (reads m c t y).2.2.1

theorem eq5 (t : Fin cfg0.N) (y : BR.Idx) : (outsAt0 m c t.val t.isLt).1 y = G5 m c (at_ t y) := by
  rw [(left m c t).1, rows, both_eq, (reads m c t y).1, readS]; rfl

theorem eq6 (y : BV.Idx) (h : 15 < cfg0.N) : (outsAt0 m c 15 h).2.1 y = G6 m c y := by
  refine swept (K := 16) (t := 256) (by decide) (by decide) N_0 (fun n h => (outsAt0 m c n h).2.1 y)
    (fun n h => k0_pay3 (F := Ideal) (iblk m c 1 ⟨n, h⟩) (iblk m c 2 ⟨n, h⟩) (iblk m c 3 ⟨n, h⟩) y)
    (fun n h e => congrFun ((left m c ⟨n, h⟩).2.1 e).1 y)
    (fun n h e => (congrFun ((left m c ⟨n, h⟩).2.2 e).1 y).trans (scales_add ..)) _ (fun j h' => ?_) h
  refine (scales ..).trans (Finset.sum_congr rfl fun k _ => ?_)
  exact congrArg₂ (· * ·) (both_eq m c _ _) (reads m c _ _).2.2.2

theorem eq7 (y : BV.Idx) (h : 15 < cfg0.N) : (outsAt0 m c 15 h).2.2 y = G7 m c y := by
  refine swept (K := 16) (t := 256) (by decide) (by decide) N_0 (fun n h => (outsAt0 m c n h).2.2 y)
    (fun n h => k0_pay5 (F := Ideal) (iblk m c 1 ⟨n, h⟩) (iblk m c 2 ⟨n, h⟩) y)
    (fun n h e => congrFun ((left m c ⟨n, h⟩).2.1 e).2 y)
    (fun n h e => (congrFun ((left m c ⟨n, h⟩).2.2 e).2 y).trans (shifts_add ..)) _ (fun j h' => ?_) h
  exact (shifts ..).trans (Finset.sum_congr rfl fun k _ => both_eq m c _ _)

theorem mem5 (t : Fin cfg0.N) (i : S4096x2048.Idx) : i ∈ ((cfg0.win 5).blk t).view.set ↔
    ∀ a : Fin 2, win0_5.index t a * BR.size a ≤ (i a).val ∧ (i a).val < win0_5.index t a * BR.size a + BR.size a := by
  show i ∈ ((View.whole main_v0_0).slice (win0_5.rect t)).set ↔ _
  rw [View.set_slice_whole, Rect.mem_set_unit]
  exact Iff.rfl

theorem final5 : (dats m 0 c).arrAt 5 cfg0.N = G5 m c := by
  refine (dats m 0 c).arrAt_eq_of_cover 5 _ (fun t hf => ?_) (fun i => ?_)
  · have e := idx t
    rw [flushed5]
    funext y
    refine (eq5 m c t ((cfg0.win 5).xinj (grid0.coords t) y)).trans (congrArg (G5 m c) (funext fun a => Fin.ext ?_))
    match a with
    | ⟨0, _⟩ => show t.val * 256 + (y 0).val = win0_5.index t (0 : Fin 2) * 256 + 1 * (y 0).val; omega
    | ⟨1, _⟩ => show (y 1).val = win0_5.index t (1 : Fin 2) * 2048 + 1 * (y 1).val; omega
  · have eN : cfg0.N = 16 := N_0
    have h0 : (i 0).val < 4096 := (i 0).isLt
    have h1 : (i 1).val < 2048 := (i 1).isLt
    refine ⟨⟨(i 0).val / 256, by omega⟩, flush0_5 _, ?_⟩
    have e := idx ⟨(i 0).val / 256, by omega⟩
    dsimp only at e
    refine (mem5 _ i).mpr fun a => ?_
    match a with
    | ⟨0, _⟩ => show win0_5.index _ (0 : Fin 2) * 256 ≤ (i 0).val ∧ (i 0).val < win0_5.index _ (0 : Fin 2) * 256 + 256; omega
    | ⟨1, _⟩ => show win0_5.index _ (1 : Fin 2) * 2048 ≤ (i 1).val ∧ (i 1).val < win0_5.index _ (1 : Fin 2) * 2048 + 2048; omega

theorem mem6 (t : Fin cfg0.N) (i : S1x2048.Idx) : i ∈ ((cfg0.win 6).blk t).view.set ↔
    ∀ a : Fin 2, win0_6.index t a * BV.size a ≤ (i a).val ∧ (i a).val < win0_6.index t a * BV.size a + BV.size a := by
  show i ∈ ((View.whole main_v0_1).slice (win0_6.rect t)).set ↔ _
  rw [View.set_slice_whole, Rect.mem_set_unit]
  exact Iff.rfl

theorem final6 : (dats m 0 c).arrAt 6 cfg0.N = G6 m c := by
  have eN : cfg0.N = 16 := N_0
  refine (dats m 0 c).arrAt_eq_of_cover 6 _ (fun t hf => ?_) (fun i => ?_)
  · have e := idx t
    have ht : t.val = 15 := by have := (flush0_6 t).mp hf; have := lt_of_lt_of_eq t.isLt eN; omega
    obtain rfl : t = ⟨15, lt_of_lt_of_eq (by decide : 15 < 16) eN.symm⟩ := Fin.ext ht
    rw [flushed6]
    funext y
    refine (eq6 m c ((cfg0.win 6).xinj (grid0.coords _) y) _).trans (congrArg (G6 m c) (funext fun a => Fin.ext ?_))
    match a with
    | ⟨0, _⟩ => show (y 0).val = win0_6.index _ (0 : Fin 2) * 1 + 1 * (y 0).val; omega
    | ⟨1, _⟩ => show (y 1).val = win0_6.index _ (1 : Fin 2) * 2048 + 1 * (y 1).val; omega
  · have h0 : (i 0).val < 1 := (i 0).isLt
    have h1 : (i 1).val < 2048 := (i 1).isLt
    refine ⟨⟨15, by omega⟩, (flush0_6 _).mpr rfl, ?_⟩
    have e := idx ⟨15, by omega⟩
    refine (mem6 _ i).mpr fun a => ?_
    match a with
    | ⟨0, _⟩ => show win0_6.index _ (0 : Fin 2) * 1 ≤ (i 0).val ∧ (i 0).val < win0_6.index _ (0 : Fin 2) * 1 + 1; omega
    | ⟨1, _⟩ => show win0_6.index _ (1 : Fin 2) * 2048 ≤ (i 1).val ∧ (i 1).val < win0_6.index _ (1 : Fin 2) * 2048 + 2048; omega

theorem mem7 (t : Fin cfg0.N) (i : S1x2048.Idx) : i ∈ ((cfg0.win 7).blk t).view.set ↔
    ∀ a : Fin 2, win0_7.index t a * BV.size a ≤ (i a).val ∧ (i a).val < win0_7.index t a * BV.size a + BV.size a := by
  show i ∈ ((View.whole main_v0_2).slice (win0_7.rect t)).set ↔ _
  rw [View.set_slice_whole, Rect.mem_set_unit]
  exact Iff.rfl

theorem final7 : (dats m 0 c).arrAt 7 cfg0.N = G7 m c := by
  have eN : cfg0.N = 16 := N_0
  refine (dats m 0 c).arrAt_eq_of_cover 7 _ (fun t hf => ?_) (fun i => ?_)
  · have e := idx t
    have ht : t.val = 15 := by have := (flush0_7 t).mp hf; have := lt_of_lt_of_eq t.isLt eN; omega
    obtain rfl : t = ⟨15, lt_of_lt_of_eq (by decide : 15 < 16) eN.symm⟩ := Fin.ext ht
    rw [flushed7]
    funext y
    refine (eq7 m c ((cfg0.win 7).xinj (grid0.coords _) y) _).trans (congrArg (G7 m c) (funext fun a => Fin.ext ?_))
    match a with
    | ⟨0, _⟩ => show (y 0).val = win0_7.index _ (0 : Fin 2) * 1 + 1 * (y 0).val; omega
    | ⟨1, _⟩ => show (y 1).val = win0_7.index _ (1 : Fin 2) * 2048 + 1 * (y 1).val; omega
  · have h0 : (i 0).val < 1 := (i 0).isLt
    have h1 : (i 1).val < 2048 := (i 1).isLt
    refine ⟨⟨15, by omega⟩, (flush0_7 _).mpr rfl, ?_⟩
    have e := idx ⟨15, by omega⟩
    refine (mem7 _ i).mpr fun a => ?_
    match a with
    | ⟨0, _⟩ => show win0_7.index _ (0 : Fin 2) * 1 ≤ (i 0).val ∧ (i 0).val < win0_7.index _ (0 : Fin 2) * 1 + 1; omega
    | ⟨1, _⟩ => show win0_7.index _ (1 : Fin 2) * 2048 ≤ (i 1).val ∧ (i 1).val < win0_7.index _ (1 : Fin 2) * 2048 + 2048; omega

theorem run (ρ : Dev nD → PrngReg) :
    θ_run (defs (F := Ideal)) (onTc (τ := τ) (main (F := Ideal))) ⟨m, fun _ => 0, ρ⟩ fun r => ∀ c : Dev nD,
      r.2.mem ((c : Thread nD τ).loc main_v0_0) = G5 m c
      ∧ r.2.mem ((c : Thread nD τ).loc main_v0_1) = G6 m c
      ∧ r.2.mem ((c : Thread nD τ).loc main_v0_2) = G7 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final5 m c), (h c).2.1.trans (final6 m c), (h c).2.2.1.trans (final7 m c),
    (h c).2.2.2⟩) (run_blocks m ρ)

end Cert.Kernel22Ideal.Prod

namespace Cert.Reference22Ideal.Prod

open Cert.Reference22Ideal Idealize.ShloMosaic Idealize.ShloMosaic.TcCoe Idealize.SL.Sem Idealize.ShloMosaic.StableHlo

theorem frame : Cert.quiescent_Reference22Ideal := fun m ρ _ =>
  (θ_run defs _ _).mono (fun r h => ⟨fun c => (h c).2.2.2, sem_eq_zero_of_no_sems (by decide) r.2⟩) (Value.run (F := Ideal) m ρ)

section Values

variable (r q x : S4096x2048.Idx → Ideal .f32) (p : S4096x2048.Idx → Ideal .bf16) (s : S1x2048.Idx → Ideal .f32)

/-- The rows' gradient: the residual's part and the modulated rows' through the scale. -/
theorem rows (i : S4096x2048.Idx) : Read.val_main_v16 (F := Ideal) r p q s i
    = r i + (p i + q i) * (Ideal.ofBits .f32 0x3F800000#32 + s (ix2 (0 : Fin 1) (i 1))) := by
  rw [Read.val_main_v16_apply, Read.val_main_v15_apply, Read.val_main_v14_apply]
  refine congrArg (fun z => r i + (p i + q i) * (Ideal.ofBits .f32 0x3F800000#32 + s z)) (funext fun d => ?_)
  match d with
  | ⟨0, _⟩ => rfl
  | ⟨1, _⟩ => rfl

/-- The scale's gradient: the sum down the rows of the products with the rows. -/
theorem scales (i : S1x2048.Idx) : Read.val_main_v13 (F := Ideal) p q x i
    = ∑ k : Fin 4096, (p (ix2 k (i 1)) + q (ix2 k (i 1))) * x (ix2 k (i 1)) := by
  rw [Read.val_main_v13_apply, Read.val_main_v12_apply]
  refine (congrArg (· + _) Ideal.ofBits_zero_f32).trans ((zero_add _).trans (Finset.sum_congr rfl fun k _ => ?_))
  have e : Read.idx_main_v12 (Read.idx_main_v13 i) k = ix2 k (i 1) := funext fun d => Fin.ext (match d with
    | ⟨0, _⟩ => rfl
    | ⟨1, _⟩ => by show (i 0).val * 2048 + (i 1).val = (i 1).val; have h : (i 0).val < 1 := (i 0).isLt; omega)
  rw [e]
  exact mul_comm _ _

/-- The shift's gradient: the sum down the rows. -/
theorem shifts (i : S1x2048.Idx) : Read.val_main_v10 (F := Ideal) p q i
    = ∑ k : Fin 4096, (p (ix2 k (i 1)) + q (ix2 k (i 1))) := by
  rw [Read.val_main_v10_apply, Read.val_main_v9_apply]
  refine (congrArg (· + _) Ideal.ofBits_zero_f32).trans ((zero_add _).trans (Finset.sum_congr rfl fun k _ => ?_))
  have e : Read.idx_main_v9 (Read.idx_main_v10 i) k = ix2 k (i 1) := funext fun d => Fin.ext (match d with
    | ⟨0, _⟩ => rfl
    | ⟨1, _⟩ => by show (i 0).val * 2048 + (i 1).val = (i 1).val; have h : (i 0).val < 1 := (i 0).isLt; omega)
  rw [e]
  rfl

end Values

/-- The kernel's three arrays are the reference's. -/
theorem algebraic : Cert.algebraic_Kernel22Ideal_Reference22Ideal := by
  intro m ρ m' ρ' _ hag
  refine ⟨fun c => Cert.Kernel22Ideal.Prod.G5 m c, fun c => Cert.Kernel22Ideal.Prod.G6 m c, fun c => Cert.Kernel22Ideal.Prod.G7 m c,
    Cert.Kernel22Ideal.Prod.run m ρ, (θ_run defs _ _).mono (fun r h c => ?_) (Value.run (F := Ideal) m' ρ')⟩
  obtain ⟨e0, e1, e2, e3, e4⟩ := hag c
  obtain ⟨h0, h1, h2, hr⟩ := h c
  rw [e0, e1, e2, e4] at h0
  rw [e1, e2, e3] at h1
  rw [e1, e2] at h2
  exact ⟨(h0.trans (Read.val_main_v16_eq ..)).trans (funext fun i => rows ..),
    (h1.trans (Read.val_main_v13_eq ..)).trans (funext fun i => scales ..),
    (h2.trans (Read.val_main_v10_eq ..)).trans (funext fun i => shifts ..), hr⟩

end Cert.Reference22Ideal.Prod

end
-- ==== Proof.AdamA.lean ====
/-
The optimiser's step of the modulation's weight: the kernel's three arrays, block by block, and the reference's.
-/
module

public import proofs.«01_k».proof.Defs
public import proofs.«01_k».proof.Proof.Gen.Kernel23Ideal.Value
public import proofs.«01_k».proof.Proof.Gen.Reference23Ideal.Run
public import proofs.«01_k».proof.Proof.Gen.Reference23Ideal.Read
public import Idealize.ShloMosaic.Lib.Quiescent
public import Idealize.ShloMosaic.Lib.StableHlo.RunRead

@[expose] public section

set_option maxRecDepth 16384

noncomputable section

namespace Cert.Reference23Ideal.Prod

open Cert.Reference23Ideal Idealize.ShloMosaic Idealize.ShloMosaic.TcCoe Idealize.SL.Sem Idealize.ShloMosaic.StableHlo

theorem frame : Cert.quiescent_Reference23Ideal := fun m ρ _ =>
  (θ_run defs _ _).mono (fun r h => ⟨fun c => (h c).2.2.2, sem_eq_zero_of_no_sems (by decide) r.2⟩) (Value.run (F := Ideal) m ρ)

abbrev A := S4096x1536.Idx → EReal

/-- The first moment, an element at a time. -/
theorem first (g p : A) : Read.val_main_v4 (F := Ideal) g p = Cert.Kernel23Ideal.Value.G5 (F := Ideal) g p := rfl

/-- The second moment, an element at a time. -/
theorem second (g q : A) : Read.val_main_v10 (F := Ideal) g q = Cert.Kernel23Ideal.Value.G6 (F := Ideal) g q := rfl

/-- The weight's change: the corrected first moment over the root of the corrected second, and the decay. -/
theorem change (w g p q : A) : Read.val_main_v23 (F := Ideal) w g p q = Cert.Kernel23Ideal.Value.G4 (F := Ideal) g p q w := rfl

/-- The kernel's three arrays are the reference's. -/
theorem algebraic : Cert.algebraic_Kernel23Ideal_Reference23Ideal := by
  intro m ρ m' ρ' _ hag
  refine ⟨fun c => _, fun c => _, fun c => _, Cert.Kernel23Ideal.Value.run (F := Ideal) m ρ,
    (θ_run defs _ _).mono (fun r h c => ?_) (Value.run (F := Ideal) m' ρ')⟩
  obtain ⟨e0, e1, e2, e3⟩ := hag c
  obtain ⟨h0, h1, h2, hr⟩ := h c
  rw [e0, e1, e2, e3] at h0
  rw [e1, e2] at h1
  rw [e1, e3] at h2
  exact ⟨(h0.trans (Read.val_main_v23_eq ..)).trans (change ..), (h1.trans (Read.val_main_v4_eq ..)).trans (first ..),
    (h2.trans (Read.val_main_v10_eq ..)).trans (second ..), hr⟩

end Cert.Reference23Ideal.Prod

end
-- ==== Proof.AdamB.lean ====
/-
The optimiser's step of the small weights, packed into one array: the kernel's three arrays, block by block, and the reference's.
-/
module

public import proofs.«01_k».proof.Defs
public import proofs.«01_k».proof.Proof.Gen.Kernel24Ideal.Value
public import proofs.«01_k».proof.Proof.Gen.Reference24Ideal.Run
public import proofs.«01_k».proof.Proof.Gen.Reference24Ideal.Read
public import Idealize.ShloMosaic.Lib.Quiescent
public import Idealize.ShloMosaic.Lib.StableHlo.RunRead

@[expose] public section

set_option maxRecDepth 16384

noncomputable section

namespace Cert.Reference24Ideal.Prod

open Cert.Reference24Ideal Idealize.ShloMosaic Idealize.ShloMosaic.TcCoe Idealize.SL.Sem Idealize.ShloMosaic.StableHlo

theorem frame : Cert.quiescent_Reference24Ideal := fun m ρ _ =>
  (θ_run defs _ _).mono (fun r h => ⟨fun c => (h c).2.2.2, sem_eq_zero_of_no_sems (by decide) r.2⟩) (Value.run (F := Ideal) m ρ)

abbrev A := S232x128.Idx → EReal

/-- The first moment, an element at a time. -/
theorem first (g p : A) : Read.val_main_v4 (F := Ideal) g p = Cert.Kernel24Ideal.Value.G5 (F := Ideal) g p := rfl

/-- The second moment, an element at a time. -/
theorem second (g q : A) : Read.val_main_v10 (F := Ideal) g q = Cert.Kernel24Ideal.Value.G6 (F := Ideal) g q := rfl

/-- The weight's change: the corrected first moment over the root of the corrected second, and the decay. -/
theorem change (w g p q : A) : Read.val_main_v23 (F := Ideal) w g p q = Cert.Kernel24Ideal.Value.G4 (F := Ideal) g p q w := rfl

/-- The kernel's three arrays are the reference's. -/
theorem algebraic : Cert.algebraic_Kernel24Ideal_Reference24Ideal := by
  intro m ρ m' ρ' _ hag
  refine ⟨fun c => _, fun c => _, fun c => _, Cert.Kernel24Ideal.Value.run (F := Ideal) m ρ,
    (θ_run defs _ _).mono (fun r h c => ?_) (Value.run (F := Ideal) m' ρ')⟩
  obtain ⟨e0, e1, e2, e3⟩ := hag c
  obtain ⟨h0, h1, h2, hr⟩ := h c
  rw [e0, e1, e2, e3] at h0
  rw [e1, e2] at h1
  rw [e1, e3] at h2
  exact ⟨(h0.trans (Read.val_main_v23_eq ..)).trans (change ..), (h1.trans (Read.val_main_v4_eq ..)).trans (first ..),
    (h2.trans (Read.val_main_v10_eq ..)).trans (second ..), hr⟩

end Cert.Reference24Ideal.Prod

end
-- ==== Proof.Norm.lean ====
/-
The layer norm's gradient along one row: the form that projects out the mean and the normalised row, and the form that the
derivative gives, through the variance and the mean. For a real gradient the two are the same: on a row of real numbers by the
identity of the reals, and on a row with an infinite entry because both are nought.
-/
module

public import proofs.«01_k».proof.Proof.Num
public import Idealize.ShloMosaic.PureOps.Ideal.Laws

@[expose] public section

noncomputable section

namespace Cert.Norm

open Idealize.ShloMosaic Cert.Attn

abbrev Row := Fin 2048 → EReal

/-- The length of a row, the small addend to the variance, minus one half, and two, as the programs' words. -/
def len : EReal := Ideal.ofBits .f32 0x45000000#32
def eps : EReal := Ideal.ofBits .f32 0x3727C5AC#32
def negHalf : EReal := Ideal.ofBits .f32 0xBF000000#32
def two : EReal := Ideal.ofBits .f32 0x40000000#32

def mean (f : Row) : EReal := Ideal.div (∑ k, f k) len
def dev (u : Row) (j : Fin 2048) : EReal := u j - mean u
def spreadOf (u : Row) : EReal := mean (fun j => dev u j * dev u j) + eps
def inv (u : Row) : EReal := Ideal.rsqrt (spreadOf u)
def hat (u : Row) (j : Fin 2048) : EReal := dev u j * inv u

/-- The row's gradient with the mean and the normalised row projected out. -/
def proj (u a : Row) (j : Fin 2048) : EReal := inv u * ((a j - mean a) - hat u j * mean (fun k => a k * hat u k))

/-- The gradient of the centred row: through the product, and through the variance. -/
def inner (u a : Row) (j : Fin 2048) : EReal :=
  a j * inv u + Ideal.div ((∑ k, dev u k * a k) * (negHalf * Ideal.div (inv u) (spreadOf u))) len * (two * dev u j)

/-- The row's gradient as the derivative gives it: the centred row's, and its mean's. -/
def deriv (u a : Row) (j : Fin 2048) : EReal := inner u a j + Ideal.div (∑ k, -inner u a k) len

theorem len_eq : len = ((2048 : ℝ) : EReal) := by
  simp [len, Ideal.ofBits, Ideal.ieee, -EReal.coe_mul]; norm_num

theorem two_eq : two = ((2 : ℝ) : EReal) := by
  simp [two, Ideal.ofBits, Ideal.ieee, -EReal.coe_mul]; norm_num

theorem negHalf_eq : negHalf = ((-(1 / 2) : ℝ) : EReal) := by
  simp [negHalf, Ideal.ofBits, Ideal.ieee, -EReal.coe_mul]; norm_num

theorem eps_pos : ∃ e : ℝ, 0 < e ∧ eps = (e : EReal) :=
  ⟨10995116 / 2 ^ 40, by norm_num, by simp [eps, Ideal.ofBits, Ideal.ieee, -EReal.coe_mul]; norm_num⟩

/-- The real mean. -/
def avg (f : Fin 2048 → ℝ) : ℝ := (∑ k, f k) / 2048

theorem mean_real (f : Fin 2048 → ℝ) : mean (fun j => (f j : EReal)) = ((avg f : ℝ) : EReal) := by
  unfold mean avg
  rw [len_eq, ← coe_sum, div_real (by norm_num)]

/-- The deviations from the mean add up to nothing. -/
theorem dev_sum (f : Fin 2048 → ℝ) : ∑ k, (f k - avg f) = 0 := by
  rw [Finset.sum_sub_distrib, Finset.sum_const, Finset.card_univ, Fintype.card_fin, avg]
  simp only [nsmul_eq_mul]
  push_cast
  ring

/-- The identity over the reals: `d` adds up to nothing, `r` squared is one over `v`. -/
theorem real_eq (d a : Fin 2048 → ℝ) (r v : ℝ) (hd : ∑ k, d k = 0) (hv : r * r * v = 1) (hv0 : v ≠ 0) (j : Fin 2048) :
    r * ((a j - avg a) - d j * r * avg fun k => a k * (d k * r))
      = (a j * r + (∑ k, d k * a k) * (-(1 / 2) * (r / v)) / 2048 * (2 * d j))
        + (∑ k, -(a k * r + (∑ k, d k * a k) * (-(1 / 2) * (r / v)) / 2048 * (2 * d k))) / 2048 := by
  have e1 : (∑ k, a k * (d k * r)) = (∑ k, d k * a k) * r := by
    rw [Finset.sum_mul]; exact Finset.sum_congr rfl fun k _ => by ring
  have e2 : ∀ c : ℝ, (∑ k, -(a k * r + c * (2 * d k))) = -((∑ k, a k) * r) := by
    intro c
    rw [Finset.sum_neg_distrib, Finset.sum_add_distrib, ← Finset.mul_sum, ← Finset.mul_sum, hd, ← Finset.sum_mul]
    ring
  have e3 : r / v = r * r * r := by
    rw [div_eq_iff hv0]
    calc r = r * (r * r * v) := by rw [hv, mul_one]
      _ = r * r * r * v := by ring
  rw [e2, e3]
  unfold avg
  rw [e1]
  ring

/-- Along a row of real numbers: real deviations, which add up to nothing, a positive variance, and its inverse root. -/
theorem row_real (f : Fin 2048 → ℝ) : ∃ (d : Fin 2048 → ℝ) (r v : ℝ), ∑ k, d k = 0 ∧ r * r * v = 1 ∧ v ≠ 0
    ∧ (∀ j, dev (fun j => (f j : EReal)) j = (d j : EReal)) ∧ spreadOf (fun j => (f j : EReal)) = (v : EReal)
    ∧ inv (fun j => (f j : EReal)) = (r : EReal) := by
  obtain ⟨e, he, hee⟩ := eps_pos
  have hdev : ∀ j, dev (fun j => (f j : EReal)) j = ((f j - avg f : ℝ) : EReal) := fun j => by
    unfold dev; rw [mean_real, ← EReal.coe_sub]
  obtain ⟨d, hd⟩ : ∃ d : Fin 2048 → ℝ, d = fun j => f j - avg f := ⟨_, rfl⟩
  have hdev' : ∀ j, dev (fun j => (f j : EReal)) j = (d j : EReal) := fun j => by rw [hdev, hd]
  have hsp : spreadOf (fun j => (f j : EReal)) = ((avg (fun j => d j * d j) + e : ℝ) : EReal) := by
    unfold spreadOf
    rw [hee, EReal.coe_add, ← mean_real]
    refine congrArg (fun z => mean z + (e : EReal)) (funext fun j => ?_)
    rw [hdev', ← EReal.coe_mul]
  have hv : 0 < avg (fun j => d j * d j) + e :=
    add_pos_of_nonneg_of_pos (div_nonneg (Finset.sum_nonneg fun k _ => mul_self_nonneg _) (by norm_num)) he
  refine ⟨d, (Real.sqrt (avg (fun j => d j * d j) + e))⁻¹, _, ?_, ?_, hv.ne', hdev', hsp, ?_⟩
  · rw [hd]; exact dev_sum f
  · rw [← mul_inv, Real.mul_self_sqrt hv.le, inv_mul_cancel₀ hv.ne']
  · unfold inv; rw [hsp, Ideal.rsqrt_coe, if_neg (not_lt.2 hv.le), if_neg hv.ne']

/-- On rows of real numbers the two forms of the gradient agree. -/
theorem proj_eq_deriv {u a : Row} (hu : ∀ j, u j = ((u j).toReal : EReal)) (ha : ∀ j, a j = ((a j).toReal : EReal)) :
    proj u a = deriv u a := by
  obtain ⟨f, rfl⟩ : ∃ f : Fin 2048 → ℝ, u = fun j => (f j : EReal) := ⟨fun j => (u j).toReal, funext hu⟩
  obtain ⟨b, rfl⟩ : ∃ b : Fin 2048 → ℝ, a = fun j => (b j : EReal) := ⟨fun j => (a j).toReal, funext ha⟩
  clear hu ha
  obtain ⟨d, r, v, hsum, hrr, hv, hdev', hsp, hinv⟩ := row_real f
  have hhat : ∀ j, hat (fun j => (f j : EReal)) j = ((d j * r : ℝ) : EReal) := fun j => by
    unfold hat; rw [hdev', hinv, ← EReal.coe_mul]
  have hin : ∀ j, inner (fun j => (f j : EReal)) (fun j => (b j : EReal)) j
      = ((b j * r + (∑ k, d k * b k) * (-(1 / 2) * (r / v)) / 2048 * (2 * d j) : ℝ) : EReal) := fun j => by
    have hs : (∑ k, dev (fun j => (f j : EReal)) k * (b k : EReal)) = ((∑ k, d k * b k : ℝ) : EReal) := by
      rw [coe_sum]; exact Finset.sum_congr rfl fun k _ => by rw [hdev', ← EReal.coe_mul]
    unfold inner
    rw [hs, hdev', hinv, hsp, div_real hv, negHalf_eq, two_eq, len_eq, ← EReal.coe_mul, ← EReal.coe_mul,
      ← EReal.coe_mul, div_real (by norm_num), ← EReal.coe_mul, ← EReal.coe_mul, ← EReal.coe_add]
  funext j
  have h1 : proj (fun j => (f j : EReal)) (fun j => (b j : EReal)) j
      = ((r * ((b j - avg b) - d j * r * avg fun k => b k * (d k * r)) : ℝ) : EReal) := by
    have hm : mean (fun k => (b k : EReal) * hat (fun j => (f j : EReal)) k)
        = ((avg fun k => b k * (d k * r) : ℝ) : EReal) := by
      rw [← mean_real]
      exact congrArg mean (funext fun k => by rw [hhat, ← EReal.coe_mul])
    unfold proj
    rw [hm, hinv, hhat, mean_real, ← EReal.coe_sub, ← EReal.coe_mul, ← EReal.coe_sub, ← EReal.coe_mul]
  have h2 : deriv (fun j => (f j : EReal)) (fun j => (b j : EReal)) j
      = (((b j * r + (∑ k, d k * b k) * (-(1 / 2) * (r / v)) / 2048 * (2 * d j))
        + (∑ k, -(b k * r + (∑ k, d k * b k) * (-(1 / 2) * (r / v)) / 2048 * (2 * d k))) / 2048 : ℝ) : EReal) := by
    have hs : (∑ k, -inner (fun j => (f j : EReal)) (fun j => (b j : EReal)) k)
        = ((∑ k, -(b k * r + (∑ k, d k * b k) * (-(1 / 2) * (r / v)) / 2048 * (2 * d k)) : ℝ) : EReal) := by
      rw [coe_sum]; exact Finset.sum_congr rfl fun k _ => by rw [hin, ← EReal.coe_neg]
    unfold deriv
    rw [hs, hin, len_eq, div_real (by norm_num), ← EReal.coe_add]
  rw [h1, h2, real_eq d b r v hsum hrr hv j]

/-- Nought over anything else is nought. -/
theorem zero_over {z : EReal} (h : z ≠ 0) : Ideal.div 0 z = 0 := by
  rw [Ideal.div, if_neg h, zero_mul]

theorem len_ne : len ≠ 0 := by
  rw [len_eq]; exact_mod_cast (by norm_num : (2048 : ℝ) ≠ 0)

/-- A row with an infinite entry has an infinite deviation. -/
theorem dev_inf {u : Row} {j : Fin 2048} (h : u j = ⊥ ∨ u j = ⊤) : dev u j = ⊥ ∨ dev u j = ⊤ := by
  unfold dev
  rcases h with h | h
  · exact Or.inl (by rw [h, EReal.bot_sub])
  · rw [h]
    induction mean u with
    | bot => exact Or.inr rfl
    | top => exact Or.inl rfl
    | coe r => exact Or.inr (EReal.top_sub_coe r)

theorem sq_nonneg (z : EReal) : 0 ≤ z * z := by
  induction z with
  | bot => rw [EReal.bot_mul_bot]; exact le_top
  | top => rw [EReal.top_mul_top]; exact le_top
  | coe r => rw [← EReal.coe_mul]; exact EReal.coe_nonneg.2 (mul_self_nonneg r)

/-- So its variance is infinite, -/
theorem spread_inf {u : Row} {j : Fin 2048} (h : u j = ⊥ ∨ u j = ⊤) : spreadOf u = ⊤ := by
  have h1 : dev u j * dev u j = ⊤ := by
    rcases dev_inf h with h | h <;> rw [h]
    · exact EReal.bot_mul_bot
    · exact EReal.top_mul_top
  have h2 : ∑ k, dev u k * dev u k = ⊤ :=
    top_le_iff.1 (h1 ▸ Finset.single_le_sum (f := fun k => dev u k * dev u k) (fun k _ => sq_nonneg _) (Finset.mem_univ j))
  obtain ⟨e, _, he⟩ := eps_pos
  unfold spreadOf mean
  rw [h2, len_eq, he, Ideal.div_coe (by norm_num), EReal.top_mul_coe_of_pos (by norm_num)]
  exact EReal.top_add_coe e

/-- and both forms of the gradient are nought. -/
theorem proj_eq_deriv_inf {u : Row} (a : Row) {j : Fin 2048} (h : u j = ⊥ ∨ u j = ⊤) : proj u a = deriv u a := by
  have hs := spread_inf h
  have hi : inv u = 0 := by unfold inv; rw [hs]; exact Ideal.rsqrt_top
  have hn : ∀ k, inner u a k = 0 := fun k => by
    unfold inner; rw [hi, hs, zero_over EReal.top_ne_zero, mul_zero, mul_zero, mul_zero, zero_over len_ne, zero_mul, add_zero]
  funext k
  unfold proj deriv
  rw [hi, zero_mul, hn, zero_add]
  refine ((congrArg (fun z => Ideal.div z len) (Finset.sum_eq_zero fun k _ => ?_)).trans (zero_over len_ne)).symm
  rw [hn, neg_zero]

/-- For a real gradient the two forms agree, whatever the row. -/
theorem proj_eq_deriv_all (u : Row) {a : Row} (ha : ∀ j, a j = ((a j).toReal : EReal)) : proj u a = deriv u a := by
  by_cases h : ∃ j, u j = ⊥ ∨ u j = ⊤
  · obtain ⟨j, h⟩ := h
    exact proj_eq_deriv_inf a h
  · refine proj_eq_deriv (fun j => (EReal.coe_toReal (fun e => h ⟨j, Or.inr e⟩) (fun e => h ⟨j, Or.inl e⟩)).symm) ha

/-- The normalised row is real, whatever the row: by an infinite variance it is nought. -/
theorem hat_real (u : Row) (j : Fin 2048) : hat u j = ((hat u j).toReal : EReal) := by
  by_cases h : ∃ j, u j = ⊥ ∨ u j = ⊤
  · obtain ⟨k, h⟩ := h
    have hi : inv u = 0 := by unfold inv; rw [spread_inf h]; exact Ideal.rsqrt_top
    unfold hat
    rw [hi, mul_zero, EReal.toReal_zero, EReal.coe_zero]
  · obtain ⟨f, rfl⟩ : ∃ f : Fin 2048 → ℝ, u = fun j => (f j : EReal) :=
      ⟨fun j => (u j).toReal, funext fun j => (EReal.coe_toReal (fun e => h ⟨j, Or.inr e⟩) (fun e => h ⟨j, Or.inl e⟩)).symm⟩
    obtain ⟨d, r, v, -, -, -, hd, -, hi⟩ := row_real f
    unfold hat
    rw [hd, hi, ← EReal.coe_mul, EReal.toReal_coe]

end Cert.Norm

end
-- ==== Proof.NormRows.lean ====
/-
The layer norm over an array of rows, and its gradient: what is normalised, and the rows' gradient, as functions of whole arrays
or of blocks of rows; and a block's mean, deviation, inverse deviation and normalised rows.
-/
module

public import proofs.«01_k».proof.Proof.Rows
public import proofs.«01_k».proof.Proof.Norm

@[expose] public section

noncomputable section

namespace Cert.Norm

open Idealize.ShloMosaic Cert.Fold Cert.Rows

variable {A : ℕ}

/-- Rows of 2048, a column with one entry for each of them, and one row. -/
abbrev Rws (A : ℕ) : Shape := ⟨2, ![A, 2048]⟩
abbrev Col (A : ℕ) : Shape := ⟨2, ![A, 1]⟩
abbrev Vc : Shape := ⟨2, ![1, 2048]⟩

/-- An index is the pair of its coordinates. -/
theorem pair {A B : ℕ} (y : (⟨2, ![A, B]⟩ : Shape).Idx) (a : Fin A) (b : Fin B) (h0 : y 0 = a) (h1 : y 1 = b) : y = ix2 a b :=
  funext fun d => match d with
    | ⟨0, _⟩ => h0
    | ⟨1, _⟩ => h1

/-- Row `a`. -/
def line (f : (Rws A).Idx → EReal) (a : Fin A) : Row := fun k => f (ix2 a k)

/-- The unit, and the residual's factor. -/
def one : EReal := Ideal.ofBits .f32 0x3F800000#32
def alpha : EReal := Ideal.ofBits .f32 0x3FB504F3#32

/-- What is normalised: the residual and the gated mixer. -/
def mix (x y : (Rws A).Idx → EReal) (t : Vc.Idx → EReal) (i : (Rws A).Idx) : EReal :=
  alpha * x i + (one + t (ix2 (0 : Fin 1) (i 1))) * y i

/-- The rows' gradient, scaled. -/
def scaled (d : (Rws A).Idx → EReal) (g : Vc.Idx → EReal) (i : (Rws A).Idx) : EReal := d i * g (ix2 (0 : Fin 1) (i 1))

/-- The normalised rows. -/
def hats (u : (Rws A).Idx → EReal) (i : (Rws A).Idx) : EReal := hat (line u (i 0)) (i 1)

/-- The gradient of what is normalised, by projection and by derivation. -/
def projs (u e : (Rws A).Idx → EReal) (i : (Rws A).Idx) : EReal := proj (line u (i 0)) (line e (i 0)) (i 1)
def derivs (u e : (Rws A).Idx → EReal) (i : (Rws A).Idx) : EReal := deriv (line u (i 0)) (line e (i 0)) (i 1)

theorem projs_eq (u : (Rws A).Idx → EReal) {e : (Rws A).Idx → EReal} (he : ∀ i, e i = ((e i).toReal : EReal)) :
    projs u e = derivs u e :=
  funext fun i => congrFun (proj_eq_deriv_all _ (fun _ => he _)) (i 1)

/-- An extended real that is a real number. -/
def Rl (x : EReal) : Prop := x = ((x.toReal : ℝ) : EReal)

theorem Rl.add {x y : EReal} (hx : Rl x) (hy : Rl y) : Rl (x + y) := by
  unfold Rl
  rw [hx, hy, ← EReal.coe_add, EReal.toReal_coe]

theorem Rl.mul {x y : EReal} (hx : Rl x) (hy : Rl y) : Rl (x * y) := by
  unfold Rl
  rw [hx, hy, ← EReal.coe_mul, EReal.toReal_coe]

theorem Rl.sub {x y : EReal} (hx : Rl x) (hy : Rl y) : Rl (x - y) := by
  unfold Rl
  rw [hx, hy, ← EReal.coe_sub, EReal.toReal_coe]

theorem hats_real (u : (Rws A).Idx → EReal) (i : (Rws A).Idx) : Rl (hats u i) := hat_real _ _

theorem one_real : Rl one := by
  unfold Rl one
  rw [Cert.Attn.one_word, EReal.toReal_coe]

/-! ### Blocks of 256 rows -/

section Blocks

variable (v w : FVec Ideal (Rws A) .f32) (a : Fin A) (b : Fin 2048)

/-- The column of the rows' means. -/
theorem means (h) (h' h'' h3) (z : (Col A).Idx) :
    divf (shapeCast (Col A) (multiReduction (F := Ideal) (φ := .f32) .add [(1 : Fin 2)] ⟨1, ![A]⟩ v 0x00000000#32 h h' h'') h3)
      (broadcast (Col A) (Scalar.ofBits (F := Ideal) .f32 0x45000000#32)) z = mean (line v (z 0)) :=
  congrArg (fun q => Ideal.div q len) (across v h h' h'' h3 z)

/-- The rows' deviations from their means. -/
theorem devs (hA : A ≠ 1) (h) (h' h'' h3 h4) :
    subf v (broadcastTo (Rws A)
      (divf (shapeCast (Col A) (multiReduction (F := Ideal) (φ := .f32) .add [(1 : Fin 2)] ⟨1, ![A]⟩ v 0x00000000#32 h h' h'') h3)
        (broadcast (Col A) (Scalar.ofBits (F := Ideal) .f32 0x45000000#32))) h4) (ix2 a b) = dev (line v a) b :=
  congrArg (fun q => v (ix2 a b) - q) ((along hA _ h4 (ix2 a b)).trans (means v h h' h'' h3 _))

end Blocks

end Cert.Norm

end
-- ==== Proof.ModLnBack.lean ====
/-
The gradient of the norm between the two mixers and of its modulation: the kernel's blocks of rows and its five sums down the
rows, and the reference's.
-/
module

public import proofs.«01_k».proof.Defs
public import proofs.«01_k».proof.Proof.NormRows
public import proofs.«01_k».proof.Proof.Gen.Kernel25Ideal.Value
public import proofs.«01_k».proof.Proof.Gen.Reference25Ideal.Run
public import proofs.«01_k».proof.Proof.Gen.Reference25Ideal.Read
public import Idealize.ShloMosaic.Lib.Quiescent
public import Idealize.ShloMosaic.Lib.StableHlo.RunRead

@[expose] public section

set_option maxRecDepth 16384

noncomputable section

namespace Cert.Kernel25Ideal.Prod

open Cert.Kernel25Ideal Cert.Kernel25Ideal.Gen Cert.Kernel25Ideal.Value Cert.Fold Cert.Rows Cert.Norm Idealize.ShloMosaic
  Idealize.ShloMosaic.TcCoe Idealize.SL.Sem Idealize.ShloMosaic.StableHlo

abbrev BR := S256x2048
abbrev BV := S1x2048

/-- The gradient that reaches the norm: the residual's, the skip's, and the modulated rows' through the scale. -/
def reach {A : ℕ} (r p q : (Rws A).Idx → EReal) (s : Vc.Idx → EReal) (i : (Rws A).Idx) : EReal :=
  (r i + q i) + p i * (one + s (ix2 (0 : Fin 1) (i 1)))

/-! ### What a step computes from its blocks -/

section Payloads

variable (r : Vec Ideal BR .f32) (p q : Vec Ideal BR .bf16) (w : Vec Ideal BR .f32) (s : Vec Ideal BV .f32)
  (x y : Vec Ideal BR .f32) (t g z : Vec Ideal BV .f32) (d u e : FVec Ideal BR .f32) (a : Fin 256) (b : Fin 2048) (k : BV.Idx)

theorem reach_eq : k0_pay3 (F := Ideal) p r q s = reach r p q s :=
  funext fun i => congrArg (fun z => (r i + q i) + p i * z) (spread (by decide) _ _ i)

theorem mixed : addf (mulf (broadcast BR (Scalar.ofBits (F := Ideal) .f32 0x3FB504F3#32)) x)
      (mulf (broadcastTo BR (addf (broadcast BV (Scalar.ofBits (F := Ideal) .f32 0x3F800000#32)) t) broadcasts_S1x2048_S256x2048) y)
    = mix x y t :=
  funext fun i => congrArg (fun z => alpha * x i + z * y i) (spread (by decide) _ _ i)

theorem dev_eq : k0_pay8 (F := Ideal) y x t (ix2 a b) = dev (line (mix x y t) a) b :=
  (devs _ a b (by decide) _ _ _ _ _).trans (congrArg (fun v => dev (line v a) b) (mixed x y t))

theorem inv_eq (c : (Col 256).Idx) : k0_pay9 (F := Ideal) y x t c = inv (line (mix x y t) (c 0)) := by
  refine congrArg (fun v => Ideal.rsqrt (v + eps)) ((means _ _ _ _ _ c).trans (congrArg mean (funext fun j => ?_)))
  exact congrArg₂ (· * ·) (dev_eq x y t (c 0) j) (dev_eq x y t (c 0) j)

theorem hat_eq : k0_pay10 (F := Ideal) y x t = hats (mix x y t) := funext fun i => by
  obtain ⟨j, l, rfl⟩ : ∃ j l, i = ix2 j l := ⟨i 0, i 1, pair i _ _ rfl rfl⟩
  exact congrArg₂ (· * ·) (dev_eq x y t j l) ((along (by decide) _ _ _).trans (inv_eq x y t _))

theorem scaled_eq : mulf d (broadcastTo BR g broadcasts_S1x2048_S256x2048) = scaled d g :=
  funext fun i => congrArg (fun z => d i * z) (spread (by decide) _ _ i)

theorem du_eq : k0_pay11 (F := Ideal) d y x t g = projs (mix x y t) (scaled d g) := funext fun i => by
  obtain ⟨j, l, rfl⟩ : ∃ j l, i = ix2 j l := ⟨i 0, i 1, pair i _ _ rfl rfl⟩
  have hs := scaled_eq g d
  have e1 := (along (by decide) _ broadcasts_S256x1_S256x2048 (ix2 j l)).trans (inv_eq x y t (ix2 j (0 : Fin 1)))
  unfold k0_pay11
  dsimp only
  rw [hs, hat_eq]
  refine congrArg₂ (· * ·) e1 (congrArg₂ (· - ·) (congrArg₂ (· - ·) rfl ((along (by decide) _ _ _).trans (means _ _ _ _ _ _)))
    (congrArg₂ (· * ·) rfl ((along (by decide) _ _ _).trans (means _ _ _ _ _ _))))

theorem gated : k0_pay13 (F := Ideal) u t = fun i => (one + t (ix2 (0 : Fin 1) (i 1))) * u i :=
  funext fun i => congrArg (· * u i) (spread (by decide) _ _ i)

theorem sums : k0_pay14 (F := Ideal) d u k = (∑ l : Fin 256, d (ix2 l (k 1)) * u (ix2 l (k 1)))
    ∧ k0_pay16 (F := Ideal) d k = (∑ l : Fin 256, d (ix2 l (k 1)))
    ∧ k0_pay18 (F := Ideal) y u k = (∑ l : Fin 256, u (ix2 l (k 1)) * y (ix2 l (k 1)))
    ∧ k0_pay4 (F := Ideal) p w k = (∑ l : Fin 256, p (ix2 l (k 1)) * w (ix2 l (k 1)))
    ∧ k0_pay6 (F := Ideal) p k = ∑ l : Fin 256, p (ix2 l (k 1)) :=
  ⟨down _ _ _ _ _ k, down _ _ _ _ _ k, down _ _ _ _ _ k, down _ _ _ _ _ k, down _ _ _ _ _ k⟩

theorem added : k0_pay15 (F := Ideal) d u z k = z k + k0_pay14 (F := Ideal) d u k
    ∧ k0_pay17 (F := Ideal) d z k = z k + k0_pay16 (F := Ideal) d k
    ∧ k0_pay1 (F := Ideal) t z k = z k + t k
    ∧ k0_pay5 (F := Ideal) p w z k = z k + k0_pay4 (F := Ideal) p w k
    ∧ k0_pay7 (F := Ideal) p z k = z k + k0_pay6 (F := Ideal) p k := by
  unfold k0_pay15 k0_pay17 k0_pay1 k0_pay5 k0_pay7
  simp only [shapeCast_self]
  exact ⟨rfl, rfl, rfl, rfl, rfl⟩

end Payloads

/-! ### The blocks a step reads -/

theorem idx : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = 0 ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = t.val ∧ win0_9.index t (1 : Fin 2) = 0)
    ∧ (win0_10.index t (0 : Fin 2) = t.val ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0)
    ∧ (win0_13.index t (0 : Fin 2) = 0 ∧ win0_13.index t (1 : Fin 2) = 0)
    ∧ (win0_14.index t (0 : Fin 2) = 0 ∧ win0_14.index t (1 : Fin 2) = 0)
    ∧ (win0_15.index t (0 : Fin 2) = 0 ∧ win0_15.index t (1 : Fin 2) = 0) :=
  (by decide +kernel : ∀ t : Fin grid0.N, _)

variable (m : (ℓ : Loc nD τ sig) → Buf (Elt Ideal) ℓ) (c : Dev nD)

/-- The kernel's nine arguments. -/
def R : S4096x2048.Idx → EReal := m ((c : Thread nD τ).loc main_arg0)
def P : S4096x2048.Idx → EReal := m ((c : Thread nD τ).loc main_arg1)
def Q : S4096x2048.Idx → EReal := m ((c : Thread nD τ).loc main_arg2)
def M : S4096x2048.Idx → EReal := m ((c : Thread nD τ).loc main_arg3)
def S : S1x2048.Idx → EReal := m ((c : Thread nD τ).loc main_arg4)
def X : S4096x2048.Idx → EReal := m ((c : Thread nD τ).loc main_arg5)
def Y : S4096x2048.Idx → EReal := m ((c : Thread nD τ).loc main_arg6)
def T : S1x2048.Idx → EReal := m ((c : Thread nD τ).loc main_arg7)
def G : S1x2048.Idx → EReal := m ((c : Thread nD τ).loc main_arg8)

/-- Row `a` of step `t`'s block, in the array. -/
def at_ (t : Fin cfg0.N) (a : Fin 256) : Fin 4096 :=
  ⟨t.val * 256 + a.val, by have h := t.isLt; have e : cfg0.N = 16 := N_0; omega⟩

/-- A block of rows is the array's rows. -/
theorem reads (t : Fin cfg0.N) (a : Fin 256) (b : Fin 2048) :
    (iblk m c 0 t : Vec Ideal BR .f32) (ix2 a b) = R m c (ix2 (at_ t a) b)
    ∧ (iblk m c 1 t : Vec Ideal BR .bf16) (ix2 a b) = P m c (ix2 (at_ t a) b)
    ∧ (iblk m c 2 t : Vec Ideal BR .bf16) (ix2 a b) = Q m c (ix2 (at_ t a) b)
    ∧ (iblk m c 3 t : Vec Ideal BR .f32) (ix2 a b) = M m c (ix2 (at_ t a) b)
    ∧ (iblk m c 5 t : Vec Ideal BR .f32) (ix2 a b) = X m c (ix2 (at_ t a) b)
    ∧ (iblk m c 6 t : Vec Ideal BR .f32) (ix2 a b) = Y m c (ix2 (at_ t a) b) := by
  have e := idx t
  refine ⟨congrArg (V m c main_arg0) (pair _ _ _ (Fin.ext ?_) (Fin.ext ?_)) |>.trans (congrFun (V_main_arg0 m c) (ix2 (at_ t a) b)),
    congrArg (V m c main_arg1) (pair _ _ _ (Fin.ext ?_) (Fin.ext ?_)) |>.trans (congrFun (V_main_arg1 m c) (ix2 (at_ t a) b)),
    congrArg (V m c main_arg2) (pair _ _ _ (Fin.ext ?_) (Fin.ext ?_)) |>.trans (congrFun (V_main_arg2 m c) (ix2 (at_ t a) b)),
    congrArg (V m c main_arg3) (pair _ _ _ (Fin.ext ?_) (Fin.ext ?_)) |>.trans (congrFun (V_main_arg3 m c) (ix2 (at_ t a) b)),
    congrArg (V m c main_arg5) (pair _ _ _ (Fin.ext ?_) (Fin.ext ?_)) |>.trans (congrFun (V_main_arg5 m c) (ix2 (at_ t a) b)),
    congrArg (V m c main_arg6) (pair _ _ _ (Fin.ext ?_) (Fin.ext ?_)) |>.trans (congrFun (V_main_arg6 m c) (ix2 (at_ t a) b))⟩
  · show win0_0.index t (0 : Fin 2) * 256 + 1 * a.val = t.val * 256 + a.val; omega
  · show win0_0.index t (1 : Fin 2) * 2048 + 1 * b.val = b.val; omega
  · show win0_1.index t (0 : Fin 2) * 256 + 1 * a.val = t.val * 256 + a.val; omega
  · show win0_1.index t (1 : Fin 2) * 2048 + 1 * b.val = b.val; omega
  · show win0_2.index t (0 : Fin 2) * 256 + 1 * a.val = t.val * 256 + a.val; omega
  · show win0_2.index t (1 : Fin 2) * 2048 + 1 * b.val = b.val; omega
  · show win0_3.index t (0 : Fin 2) * 256 + 1 * a.val = t.val * 256 + a.val; omega
  · show win0_3.index t (1 : Fin 2) * 2048 + 1 * b.val = b.val; omega
  · show win0_5.index t (0 : Fin 2) * 256 + 1 * a.val = t.val * 256 + a.val; omega
  · show win0_5.index t (1 : Fin 2) * 2048 + 1 * b.val = b.val; omega
  · show win0_6.index t (0 : Fin 2) * 256 + 1 * a.val = t.val * 256 + a.val; omega
  · show win0_6.index t (1 : Fin 2) * 2048 + 1 * b.val = b.val; omega

theorem readsV (t : Fin cfg0.N) : (iblk m c 4 t : Vec Ideal BV .f32) = S m c
    ∧ (iblk m c 7 t : Vec Ideal BV .f32) = T m c
    ∧ (iblk m c 8 t : Vec Ideal BV .f32) = G m c := by
  have e := idx t
  refine ⟨funext fun y => ?_, funext fun y => ?_, funext fun y => ?_⟩
  · refine congrArg (V m c main_arg4) (funext fun d => Fin.ext ?_) |>.trans (congrFun (V_main_arg4 m c) y)
    match d with
    | ⟨0, _⟩ => show win0_4.index t (0 : Fin 2) * 1 + 1 * (y 0).val = (y 0).val; omega
    | ⟨1, _⟩ => show win0_4.index t (1 : Fin 2) * 2048 + 1 * (y 1).val = (y 1).val; omega
  · refine congrArg (V m c main_arg7) (funext fun d => Fin.ext ?_) |>.trans (congrFun (V_main_arg7 m c) y)
    match d with
    | ⟨0, _⟩ => show win0_7.index t (0 : Fin 2) * 1 + 1 * (y 0).val = (y 0).val; omega
    | ⟨1, _⟩ => show win0_7.index t (1 : Fin 2) * 2048 + 1 * (y 1).val = (y 1).val; omega
  · refine congrArg (V m c main_arg8) (funext fun d => Fin.ext ?_) |>.trans (congrFun (V_main_arg8 m c) y)
    match d with
    | ⟨0, _⟩ => show win0_8.index t (0 : Fin 2) * 1 + 1 * (y 0).val = (y 0).val; omega
    | ⟨1, _⟩ => show win0_8.index t (1 : Fin 2) * 2048 + 1 * (y 1).val = (y 1).val; omega

/-- The gradient that reaches the norm, what is normalised, and its gradient, over the whole arrays. -/
def D : S4096x2048.Idx → EReal := reach (R m c) (P m c) (Q m c) (S m c)
def U : S4096x2048.Idx → EReal := mix (X m c) (Y m c) (T m c)
def DU : S4096x2048.Idx → EReal := projs (U m c) (scaled (D m c) (G m c))

/-- The same of a step's block. -/
def bD (t : Fin cfg0.N) : FVec Ideal BR .f32 := k0_pay3 (F := Ideal) (iblk m c 1 t) (iblk m c 0 t) (iblk m c 2 t) (iblk m c 4 t)
def bH (t : Fin cfg0.N) : FVec Ideal BR .f32 := k0_pay10 (F := Ideal) (iblk m c 6 t) (iblk m c 5 t) (iblk m c 7 t)
def bU (t : Fin cfg0.N) : FVec Ideal BR .f32 :=
  k0_pay11 (F := Ideal) (bD m c t) (iblk m c 6 t) (iblk m c 5 t) (iblk m c 7 t) (iblk m c 8 t)

theorem bD_eq (t : Fin cfg0.N) (a : Fin 256) (b : Fin 2048) : bD m c t (ix2 a b) = D m c (ix2 (at_ t a) b) := by
  obtain ⟨h0, h1, h2, -⟩ := reads m c t a b
  unfold bD
  rw [reach_eq]
  unfold reach D reach
  rw [h0, h1, h2, (readsV m c t).1]
  rfl

theorem mix_line (t : Fin cfg0.N) (a : Fin 256) :
    line (mix (iblk m c 5 t : Vec Ideal BR .f32) (iblk m c 6 t : Vec Ideal BR .f32) (iblk m c 7 t : Vec Ideal BV .f32)) a
      = line (U m c) (at_ t a) := funext fun b => by
  obtain ⟨-, -, -, -, h5, h6⟩ := reads m c t a b
  unfold line U mix
  rw [h5, h6, (readsV m c t).2.1]
  rfl

theorem bH_eq (t : Fin cfg0.N) (a : Fin 256) (b : Fin 2048) : bH m c t (ix2 a b) = hats (U m c) (ix2 (at_ t a) b) := by
  unfold bH
  rw [hat_eq]
  exact congrArg (fun l => hat l b) (mix_line m c t a)

theorem bU_eq (t : Fin cfg0.N) (a : Fin 256) (b : Fin 2048) : bU m c t (ix2 a b) = DU m c (ix2 (at_ t a) b) := by
  unfold bU
  rw [du_eq, (readsV m c t).2.2]
  exact congrArg₂ (fun l l' => proj l l' b) (mix_line m c t a)
    (funext fun k => congrArg (· * G m c (ix2 (0 : Fin 1) k)) (bD_eq m c t a k))

/-! ### What every step leaves -/

section Steps

variable (i : grid0.Coords)
  (a1 : Memref sig .tc .vmem BR .f32) (h1 : a1.IsWhole) (a2 : Memref sig .tc .vmem BR .bf16) (h2 : a2.IsWhole)
  (a3 : Memref sig .tc .vmem BR .bf16) (h3 : a3.IsWhole) (a4 : Memref sig .tc .vmem BR .f32) (h4 : a4.IsWhole)
  (a5 : Memref sig .tc .vmem BV .f32) (h5 : a5.IsWhole) (a6 : Memref sig .tc .vmem BR .f32) (h6 : a6.IsWhole)
  (a7 : Memref sig .tc .vmem BR .f32) (h7 : a7.IsWhole) (a8 : Memref sig .tc .vmem BV .f32) (h8 : a8.IsWhole)
  (a9 : Memref sig .tc .vmem BV .f32) (h9 : a9.IsWhole) (a10 : Memref sig .tc .vmem BR .f32) (h10 : a10.IsWhole)
  (a11 : Memref sig .tc .vmem BR .bf16) (h11 : a11.IsWhole) (a12 : Memref sig .tc .vmem BV .f32) (h12 : a12.IsWhole)
  (a13 : Memref sig .tc .vmem BV .f32) (h13 : a13.IsWhole) (a14 : Memref sig .tc .vmem BV .f32) (h14 : a14.IsWhole)
  (a15 : Memref sig .tc .vmem BV .f32) (h15 : a15.IsWhole) (a16 : Memref sig .tc .vmem BV .f32) (h16 : a16.IsWhole)
  (x0 : Vec Ideal BR .f32) (x1 : Vec Ideal BR .bf16) (x2 : Vec Ideal BR .bf16) (x3 : Vec Ideal BR .f32) (x4 : Vec Ideal BV .f32) (x5 : Vec Ideal BR .f32) (x6 : Vec Ideal BR .f32) (x7 : Vec Ideal BV .f32) (x8 : Vec Ideal BV .f32)
  (z11 : Vec Ideal BV .f32) (z12 : Vec Ideal BV .f32) (z13 : Vec Ideal BV .f32) (z14 : Vec Ideal BV .f32) (z15 : Vec Ideal BV .f32)

/-- The first step writes its rows and starts the five sums. -/
theorem start (hc0 : cond0_0 i) (hc1 : ¬cond0_1 i) (hc2 : cond0_2 i) (hc3 : ¬cond0_3 i) (hc4 : cond0_4 i) (hc5 : ¬cond0_5 i) (hc6 : cond0_6 i) (hc7 : ¬cond0_7 i) (hc8 : cond0_8 i) (hc9 : ¬cond0_9 i) :
    (out0_A_9 c i a1 h1 a2 h2 a3 h3 a4 h4 a5 h5 a6 h6 a7 h7 a8 h8 a9 h9 a10 h10 a11 h11 a12 h12 a13 h13 a14 h14 a15 h15 a16 h16
      hc0 hc1 hc2 hc3 hc4 hc5 hc6 hc7 hc8 hc9 x0 x1 x2 x3 x4 x5 x6 x7 x8, out0_A_10 c i a1 h1 a2 h2 a3 h3 a4 h4 a5 h5 a6 h6 a7 h7 a8 h8 a9 h9 a10 h10 a11 h11 a12 h12 a13 h13 a14 h14 a15 h15 a16 h16
      hc0 hc1 hc2 hc3 hc4 hc5 hc6 hc7 hc8 hc9 x0 x1 x2 x3 x4 x5 x6 x7 x8, out0_A_11 c i a1 h1 a2 h2 a3 h3 a4 h4 a5 h5 a6 h6 a7 h7 a8 h8 a9 h9 a10 h10 a11 h11 a12 h12 a13 h13 a14 h14 a15 h15 a16 h16
      hc0 hc1 hc2 hc3 hc4 hc5 hc6 hc7 hc8 hc9 x0 x1 x2 x3 x4 x5 x6 x7 x8, out0_A_12 c i a1 h1 a2 h2 a3 h3 a4 h4 a5 h5 a6 h6 a7 h7 a8 h8 a9 h9 a10 h10 a11 h11 a12 h12 a13 h13 a14 h14 a15 h15 a16 h16
      hc0 hc1 hc2 hc3 hc4 hc5 hc6 hc7 hc8 hc9 x0 x1 x2 x3 x4 x5 x6 x7 x8, out0_A_13 c i a1 h1 a2 h2 a3 h3 a4 h4 a5 h5 a6 h6 a7 h7 a8 h8 a9 h9 a10 h10 a11 h11 a12 h12 a13 h13 a14 h14 a15 h15 a16 h16
      hc0 hc1 hc2 hc3 hc4 hc5 hc6 hc7 hc8 hc9 x0 x1 x2 x3 x4 x5 x6 x7 x8, out0_A_14 c i a1 h1 a2 h2 a3 h3 a4 h4 a5 h5 a6 h6 a7 h7 a8 h8 a9 h9 a10 h10 a11 h11 a12 h12 a13 h13 a14 h14 a15 h15 a16 h16
      hc0 hc1 hc2 hc3 hc4 hc5 hc6 hc7 hc8 hc9 x0 x1 x2 x3 x4 x5 x6 x7 x8, out0_A_15 c i a1 h1 a2 h2 a3 h3 a4 h4 a5 h5 a6 h6 a7 h7 a8 h8 a9 h9 a10 h10 a11 h11 a12 h12 a13 h13 a14 h14 a15 h15 a16 h16
      hc0 hc1 hc2 hc3 hc4 hc5 hc6 hc7 hc8 hc9 x0 x1 x2 x3 x4 x5 x6 x7 x8) =
    (k0_pay12 (F := Ideal) (k0_pay11 (F := Ideal) (k0_pay3 (F := Ideal) x1 x0 x2 x4) x6 x5 x7 x8),
      k0_pay13 (F := Ideal) (k0_pay11 (F := Ideal) (k0_pay3 (F := Ideal) x1 x0 x2 x4) x6 x5 x7 x8) x7,
      k0_pay14 (F := Ideal) (k0_pay3 (F := Ideal) x1 x0 x2 x4) (k0_pay10 (F := Ideal) x6 x5 x7),
      k0_pay16 (F := Ideal) (k0_pay3 (F := Ideal) x1 x0 x2 x4),
      k0_pay18 (F := Ideal) x6 (k0_pay11 (F := Ideal) (k0_pay3 (F := Ideal) x1 x0 x2 x4) x6 x5 x7 x8),
      k0_pay4 (F := Ideal) x1 x3,
      k0_pay6 (F := Ideal) x1) := by
  unfold out0_A_9 out0_A_10 out0_A_11 out0_A_12 out0_A_13 out0_A_14 out0_A_15
  refine congrArg₂ Prod.mk (Eq.trans (View.read_writes_eq_canon _ _ _ (cover0_A_9 c i a1 h1 a2 h2 a3 h3 a4 h4 a5 h5 a6 h6 a7 h7 a8 h8 a9 h9 a10 h10 a11 h11 a12 h12 a13 h13 a14 h14 a15 h15 a16 h16
      hc0 hc1 hc2 hc3 hc4 hc5 hc6 hc7 hc8 hc9 x0 x1 x2 x3 x4 x5 x6 x7 x8)) ?_) (
    congrArg₂ Prod.mk (Eq.trans (View.read_writes_eq_canon _ _ _ (cover0_A_10 c i a1 h1 a2 h2 a3 h3 a4 h4 a5 h5 a6 h6 a7 h7 a8 h8 a9 h9 a10 h10 a11 h11 a12 h12 a13 h13 a14 h14 a15 h15 a16 h16
      hc0 hc1 hc2 hc3 hc4 hc5 hc6 hc7 hc8 hc9 x0 x1 x2 x3 x4 x5 x6 x7 x8)) ?_) (
    congrArg₂ Prod.mk (Eq.trans (View.read_writes_eq_canon _ _ _ (cover0_A_11 c i a1 h1 a2 h2 a3 h3 a4 h4 a5 h5 a6 h6 a7 h7 a8 h8 a9 h9 a10 h10 a11 h11 a12 h12 a13 h13 a14 h14 a15 h15 a16 h16
      hc0 hc1 hc2 hc3 hc4 hc5 hc6 hc7 hc8 hc9 x0 x1 x2 x3 x4 x5 x6 x7 x8)) ?_) (
    congrArg₂ Prod.mk (Eq.trans (View.read_writes_eq_canon _ _ _ (cover0_A_12 c i a1 h1 a2 h2 a3 h3 a4 h4 a5 h5 a6 h6 a7 h7 a8 h8 a9 h9 a10 h10 a11 h11 a12 h12 a13 h13 a14 h14 a15 h15 a16 h16
      hc0 hc1 hc2 hc3 hc4 hc5 hc6 hc7 hc8 hc9 x0 x1 x2 x3 x4 x5 x6 x7 x8)) ?_) (
    congrArg₂ Prod.mk (Eq.trans (View.read_writes_eq_canon _ _ _ (cover0_A_13 c i a1 h1 a2 h2 a3 h3 a4 h4 a5 h5 a6 h6 a7 h7 a8 h8 a9 h9 a10 h10 a11 h11 a12 h12 a13 h13 a14 h14 a15 h15 a16 h16
      hc0 hc1 hc2 hc3 hc4 hc5 hc6 hc7 hc8 hc9 x0 x1 x2 x3 x4 x5 x6 x7 x8)) ?_) (
    congrArg₂ Prod.mk (Eq.trans (View.read_writes_eq_canon _ _ _ (cover0_A_14 c i a1 h1 a2 h2 a3 h3 a4 h4 a5 h5 a6 h6 a7 h7 a8 h8 a9 h9 a10 h10 a11 h11 a12 h12 a13 h13 a14 h14 a15 h15 a16 h16
      hc0 hc1 hc2 hc3 hc4 hc5 hc6 hc7 hc8 hc9 x0 x1 x2 x3 x4 x5 x6 x7 x8)) ?_) (
    Eq.trans (View.read_writes_eq_canon _ _ _ (cover0_A_15 c i a1 h1 a2 h2 a3 h3 a4 h4 a5 h5 a6 h6 a7 h7 a8 h8 a9 h9 a10 h10 a11 h11 a12 h12 a13 h13 a14 h14 a15 h15 a16 h16
      hc0 hc1 hc2 hc3 hc4 hc5 hc6 hc7 hc8 hc9 x0 x1 x2 x3 x4 x5 x6 x7 x8)) ?_))))))
  all_goals
    unfold kernelRun0_A
    dsimp only
    simp only [kernelRun0_A.sl.r, kernelRun0_A.sl.r_1, kernelRun0_A.sl.r_2, kernelRun0_A.sl.r_3, kernelRun0_A.sl.r_4,
      View.readAt_eq_ld, h1.read_unread, h2.read_unread, h3.read_unread, h4.read_unread, h5.read_unread, h6.read_unread, h7.read_unread, h8.read_unread, h9.read_unread,
      View.ld_unit_zero (S := BR) hz, View.ld_unit_zero (S := BV) hz]
    exact View.canon_unit_zero hz ..

/-- A later step writes its rows and adds to the five sums. -/
theorem more (hc0 : ¬cond0_0 i) (hc1 : cond0_1 i) (hc2 : ¬cond0_2 i) (hc3 : cond0_3 i) (hc4 : ¬cond0_4 i) (hc5 : cond0_5 i) (hc6 : ¬cond0_6 i) (hc7 : cond0_7 i) (hc8 : ¬cond0_8 i) (hc9 : cond0_9 i) :
    (out0_B_9 c i a1 h1 a2 h2 a3 h3 a4 h4 a5 h5 a6 h6 a7 h7 a8 h8 a9 h9 a10 h10 a11 h11 a12 h12 a13 h13 a14 h14 a15 h15 a16 h16
      hc0 hc1 hc2 hc3 hc4 hc5 hc6 hc7 hc8 hc9 x0 x1 x2 x3 x4 x5 x6 x7 x8 z11 z12 z13 z14 z15, out0_B_10 c i a1 h1 a2 h2 a3 h3 a4 h4 a5 h5 a6 h6 a7 h7 a8 h8 a9 h9 a10 h10 a11 h11 a12 h12 a13 h13 a14 h14 a15 h15 a16 h16
      hc0 hc1 hc2 hc3 hc4 hc5 hc6 hc7 hc8 hc9 x0 x1 x2 x3 x4 x5 x6 x7 x8 z11 z12 z13 z14 z15, out0_B_11 c i a1 h1 a2 h2 a3 h3 a4 h4 a5 h5 a6 h6 a7 h7 a8 h8 a9 h9 a10 h10 a11 h11 a12 h12 a13 h13 a14 h14 a15 h15 a16 h16
      hc0 hc1 hc2 hc3 hc4 hc5 hc6 hc7 hc8 hc9 x0 x1 x2 x3 x4 x5 x6 x7 x8 z11 z12 z13 z14 z15, out0_B_12 c i a1 h1 a2 h2 a3 h3 a4 h4 a5 h5 a6 h6 a7 h7 a8 h8 a9 h9 a10 h10 a11 h11 a12 h12 a13 h13 a14 h14 a15 h15 a16 h16
      hc0 hc1 hc2 hc3 hc4 hc5 hc6 hc7 hc8 hc9 x0 x1 x2 x3 x4 x5 x6 x7 x8 z11 z12 z13 z14 z15, out0_B_13 c i a1 h1 a2 h2 a3 h3 a4 h4 a5 h5 a6 h6 a7 h7 a8 h8 a9 h9 a10 h10 a11 h11 a12 h12 a13 h13 a14 h14 a15 h15 a16 h16
      hc0 hc1 hc2 hc3 hc4 hc5 hc6 hc7 hc8 hc9 x0 x1 x2 x3 x4 x5 x6 x7 x8 z11 z12 z13 z14 z15, out0_B_14 c i a1 h1 a2 h2 a3 h3 a4 h4 a5 h5 a6 h6 a7 h7 a8 h8 a9 h9 a10 h10 a11 h11 a12 h12 a13 h13 a14 h14 a15 h15 a16 h16
      hc0 hc1 hc2 hc3 hc4 hc5 hc6 hc7 hc8 hc9 x0 x1 x2 x3 x4 x5 x6 x7 x8 z11 z12 z13 z14 z15, out0_B_15 c i a1 h1 a2 h2 a3 h3 a4 h4 a5 h5 a6 h6 a7 h7 a8 h8 a9 h9 a10 h10 a11 h11 a12 h12 a13 h13 a14 h14 a15 h15 a16 h16
      hc0 hc1 hc2 hc3 hc4 hc5 hc6 hc7 hc8 hc9 x0 x1 x2 x3 x4 x5 x6 x7 x8 z11 z12 z13 z14 z15) =
    (k0_pay12 (F := Ideal) (k0_pay11 (F := Ideal) (k0_pay3 (F := Ideal) x1 x0 x2 x4) x6 x5 x7 x8),
      k0_pay13 (F := Ideal) (k0_pay11 (F := Ideal) (k0_pay3 (F := Ideal) x1 x0 x2 x4) x6 x5 x7 x8) x7,
      k0_pay15 (F := Ideal) (k0_pay3 (F := Ideal) x1 x0 x2 x4) (k0_pay10 (F := Ideal) x6 x5 x7) z11,
      k0_pay17 (F := Ideal) (k0_pay3 (F := Ideal) x1 x0 x2 x4) z12,
      k0_pay1 (F := Ideal) (k0_pay18 (F := Ideal) x6 (k0_pay11 (F := Ideal) (k0_pay3 (F := Ideal) x1 x0 x2 x4) x6 x5 x7 x8)) z13,
      k0_pay5 (F := Ideal) x1 x3 z14,
      k0_pay7 (F := Ideal) x1 z15) := by
  unfold out0_B_9 out0_B_10 out0_B_11 out0_B_12 out0_B_13 out0_B_14 out0_B_15
  refine congrArg₂ Prod.mk (Eq.trans (View.read_writes_eq_canon _ _ _ (cover0_B_9 c i a1 h1 a2 h2 a3 h3 a4 h4 a5 h5 a6 h6 a7 h7 a8 h8 a9 h9 a10 h10 a11 h11 a12 h12 a13 h13 a14 h14 a15 h15 a16 h16
      hc0 hc1 hc2 hc3 hc4 hc5 hc6 hc7 hc8 hc9 x0 x1 x2 x3 x4 x5 x6 x7 x8 z11 z12 z13 z14 z15)) ?_) (
    congrArg₂ Prod.mk (Eq.trans (View.read_writes_eq_canon _ _ _ (cover0_B_10 c i a1 h1 a2 h2 a3 h3 a4 h4 a5 h5 a6 h6 a7 h7 a8 h8 a9 h9 a10 h10 a11 h11 a12 h12 a13 h13 a14 h14 a15 h15 a16 h16
      hc0 hc1 hc2 hc3 hc4 hc5 hc6 hc7 hc8 hc9 x0 x1 x2 x3 x4 x5 x6 x7 x8 z11 z12 z13 z14 z15)) ?_) (
    congrArg₂ Prod.mk (Eq.trans (View.read_writes_eq_canon _ _ _ (cover0_B_11 c i a1 h1 a2 h2 a3 h3 a4 h4 a5 h5 a6 h6 a7 h7 a8 h8 a9 h9 a10 h10 a11 h11 a12 h12 a13 h13 a14 h14 a15 h15 a16 h16
      hc0 hc1 hc2 hc3 hc4 hc5 hc6 hc7 hc8 hc9 x0 x1 x2 x3 x4 x5 x6 x7 x8 z11 z12 z13 z14 z15)) ?_) (
    congrArg₂ Prod.mk (Eq.trans (View.read_writes_eq_canon _ _ _ (cover0_B_12 c i a1 h1 a2 h2 a3 h3 a4 h4 a5 h5 a6 h6 a7 h7 a8 h8 a9 h9 a10 h10 a11 h11 a12 h12 a13 h13 a14 h14 a15 h15 a16 h16
      hc0 hc1 hc2 hc3 hc4 hc5 hc6 hc7 hc8 hc9 x0 x1 x2 x3 x4 x5 x6 x7 x8 z11 z12 z13 z14 z15)) ?_) (
    congrArg₂ Prod.mk (Eq.trans (View.read_writes_eq_canon _ _ _ (cover0_B_13 c i a1 h1 a2 h2 a3 h3 a4 h4 a5 h5 a6 h6 a7 h7 a8 h8 a9 h9 a10 h10 a11 h11 a12 h12 a13 h13 a14 h14 a15 h15 a16 h16
      hc0 hc1 hc2 hc3 hc4 hc5 hc6 hc7 hc8 hc9 x0 x1 x2 x3 x4 x5 x6 x7 x8 z11 z12 z13 z14 z15)) ?_) (
    congrArg₂ Prod.mk (Eq.trans (View.read_writes_eq_canon _ _ _ (cover0_B_14 c i a1 h1 a2 h2 a3 h3 a4 h4 a5 h5 a6 h6 a7 h7 a8 h8 a9 h9 a10 h10 a11 h11 a12 h12 a13 h13 a14 h14 a15 h15 a16 h16
      hc0 hc1 hc2 hc3 hc4 hc5 hc6 hc7 hc8 hc9 x0 x1 x2 x3 x4 x5 x6 x7 x8 z11 z12 z13 z14 z15)) ?_) (
    Eq.trans (View.read_writes_eq_canon _ _ _ (cover0_B_15 c i a1 h1 a2 h2 a3 h3 a4 h4 a5 h5 a6 h6 a7 h7 a8 h8 a9 h9 a10 h10 a11 h11 a12 h12 a13 h13 a14 h14 a15 h15 a16 h16
      hc0 hc1 hc2 hc3 hc4 hc5 hc6 hc7 hc8 hc9 x0 x1 x2 x3 x4 x5 x6 x7 x8 z11 z12 z13 z14 z15)) ?_))))))
  all_goals
    unfold kernelRun0_B
    dsimp only
    simp only [kernelRun0_B.sl.r, kernelRun0_B.sl.r_1, kernelRun0_B.sl.r_2, kernelRun0_B.sl.r_3, kernelRun0_B.sl.r_4,
      View.readAt_eq_ld, h1.read_unread, h2.read_unread, h3.read_unread, h4.read_unread, h5.read_unread, h6.read_unread, h7.read_unread, h8.read_unread, h9.read_unread, h12.read_unread, h13.read_unread, h14.read_unread, h15.read_unread, h16.read_unread,
      View.ld_unit_zero (S := BR) hz, View.ld_unit_zero (S := BV) hz]
    exact View.canon_unit_zero hz ..

end Steps

theorem first (t : Fin cfg0.N) (h : t.val = 0) : outsAt0 m c t.val t.isLt =
    (k0_pay12 (F := Ideal) (bU m c t),
      k0_pay13 (F := Ideal) (bU m c t) (iblk m c 7 t),
      k0_pay14 (F := Ideal) (bD m c t) (bH m c t),
      k0_pay16 (F := Ideal) (bD m c t),
      k0_pay18 (F := Ideal) (iblk m c 6 t) (bU m c t),
      k0_pay4 (F := Ideal) (iblk m c 1 t) (iblk m c 3 t),
      k0_pay6 (F := Ideal) (iblk m c 1 t)) := by
  have ht : t.val < 16 := lt_of_lt_of_eq t.isLt N_0
  exact (outsAt0_A m c t (by omega) (by omega) (by omega) (by omega) (by omega) (by omega) (by omega) (by omega) (by omega) (by omega)).trans (start ..)

theorem later (t : Fin cfg0.N) (h : t.val ≠ 0) : outsAt0 m c t.val t.isLt =
    (k0_pay12 (F := Ideal) (bU m c t),
      k0_pay13 (F := Ideal) (bU m c t) (iblk m c 7 t),
      k0_pay15 (F := Ideal) (bD m c t) (bH m c t) (outsAt0 m c (t.val - 1) (Nat.lt_of_le_of_lt (Nat.sub_le _ _) t.isLt)).2.2.1,
      k0_pay17 (F := Ideal) (bD m c t) (outsAt0 m c (t.val - 1) (Nat.lt_of_le_of_lt (Nat.sub_le _ _) t.isLt)).2.2.2.1,
      k0_pay1 (F := Ideal) (k0_pay18 (F := Ideal) (iblk m c 6 t) (bU m c t)) (outsAt0 m c (t.val - 1) (Nat.lt_of_le_of_lt (Nat.sub_le _ _) t.isLt)).2.2.2.2.1,
      k0_pay5 (F := Ideal) (iblk m c 1 t) (iblk m c 3 t) (outsAt0 m c (t.val - 1) (Nat.lt_of_le_of_lt (Nat.sub_le _ _) t.isLt)).2.2.2.2.2.1,
      k0_pay7 (F := Ideal) (iblk m c 1 t) (outsAt0 m c (t.val - 1) (Nat.lt_of_le_of_lt (Nat.sub_le _ _) t.isLt)).2.2.2.2.2.2) := by
  have ht : t.val < 16 := lt_of_lt_of_eq t.isLt N_0
  exact (outsAt0_B m c t (by omega) (by omega) (by omega) (by omega) (by omega) (by omega) (by omega) (by omega) (by omega) (by omega)).trans (more ..)

/-! ### The results -/

def G9 (i : S4096x2048.Idx) : EReal := alpha * DU m c i
def G10 (i : S4096x2048.Idx) : EReal := (one + T m c (ix2 (0 : Fin 1) (i 1))) * DU m c i
def G11 (i : S1x2048.Idx) : EReal := ∑ k : Fin 4096, D m c (ix2 k (i 1)) * hats (U m c) (ix2 k (i 1))
def G12 (i : S1x2048.Idx) : EReal := ∑ k : Fin 4096, D m c (ix2 k (i 1))
def G13 (i : S1x2048.Idx) : EReal := ∑ k : Fin 4096, DU m c (ix2 k (i 1)) * Y m c (ix2 k (i 1))
def G14 (i : S1x2048.Idx) : EReal := ∑ k : Fin 4096, P m c (ix2 k (i 1)) * M m c (ix2 k (i 1))
def G15 (i : S1x2048.Idx) : EReal := ∑ k : Fin 4096, P m c (ix2 k (i 1))

theorem rows (t : Fin cfg0.N) : (outsAt0 m c t.val t.isLt).1 = k0_pay12 (F := Ideal) (bU m c t)
    ∧ (outsAt0 m c t.val t.isLt).2.1 = k0_pay13 (F := Ideal) (bU m c t) (iblk m c 7 t) := by
  by_cases h : t.val = 0
  · rw [first m c t h]; exact ⟨rfl, rfl⟩
  · rw [later m c t h]; exact ⟨rfl, rfl⟩

theorem eq9 (t : Fin cfg0.N) (a : Fin 256) (b : Fin 2048) :
    (outsAt0 m c t.val t.isLt).1 (ix2 a b) = G9 m c (ix2 (at_ t a) b) :=
  (congrFun (rows m c t).1 _).trans (congrArg (alpha * ·) (bU_eq m c t a b))

theorem eq10 (t : Fin cfg0.N) (a : Fin 256) (b : Fin 2048) :
    (outsAt0 m c t.val t.isLt).2.1 (ix2 a b) = G10 m c (ix2 (at_ t a) b) := by
  rw [(rows m c t).2, gated, (readsV m c t).2.1]
  exact congrArg ((one + T m c (ix2 (0 : Fin 1) b)) * ·) (bU_eq m c t a b)

theorem eq11 (y : BV.Idx) (h : 15 < cfg0.N) : (outsAt0 m c 15 h).2.2.1 y = G11 m c y := by
  refine swept (K := 16) (t := 256) (by decide) (by decide) N_0 (fun n h => (outsAt0 m c n h).2.2.1 y)
    (fun n h => k0_pay14 (F := Ideal) (bD m c ⟨n, h⟩) (bH m c ⟨n, h⟩) y)
    (fun n h e => congrArg (fun z => z.2.2.1 y) (first m c ⟨n, h⟩ e))
    (fun n h e => (congrArg (fun z => z.2.2.1 y) (later m c ⟨n, h⟩ e)).trans (added (iblk m c 1 ⟨n, h⟩) (iblk m c 3 ⟨n, h⟩) (iblk m c 4 ⟨n, h⟩) _ (bD m c ⟨n, h⟩) (bH m c ⟨n, h⟩) y).1) _
    (fun j h' => ?_) h
  exact (sums (iblk m c 1 ⟨j.val, h'⟩) (iblk m c 3 ⟨j.val, h'⟩) (iblk m c 6 ⟨j.val, h'⟩) (bD m c ⟨j.val, h'⟩) (bH m c ⟨j.val, h'⟩) y).1.trans (Finset.sum_congr rfl fun k _ => congrArg₂ (· * ·) (bD_eq m c _ _ _) (bH_eq m c _ _ _))

theorem eq12 (y : BV.Idx) (h : 15 < cfg0.N) : (outsAt0 m c 15 h).2.2.2.1 y = G12 m c y := by
  refine swept (K := 16) (t := 256) (by decide) (by decide) N_0 (fun n h => (outsAt0 m c n h).2.2.2.1 y)
    (fun n h => k0_pay16 (F := Ideal) (bD m c ⟨n, h⟩) y)
    (fun n h e => congrArg (fun z => z.2.2.2.1 y) (first m c ⟨n, h⟩ e))
    (fun n h e => (congrArg (fun z => z.2.2.2.1 y) (later m c ⟨n, h⟩ e)).trans (added (iblk m c 1 ⟨n, h⟩) (iblk m c 3 ⟨n, h⟩) (iblk m c 4 ⟨n, h⟩) _ (bD m c ⟨n, h⟩) (bH m c ⟨n, h⟩) y).2.1) _
    (fun j h' => ?_) h
  exact (sums (iblk m c 1 ⟨j.val, h'⟩) (iblk m c 3 ⟨j.val, h'⟩) (iblk m c 6 ⟨j.val, h'⟩) (bD m c ⟨j.val, h'⟩) (bH m c ⟨j.val, h'⟩) y).2.1.trans (Finset.sum_congr rfl fun k _ => bD_eq m c _ _ _)

theorem eq13 (y : BV.Idx) (h : 15 < cfg0.N) : (outsAt0 m c 15 h).2.2.2.2.1 y = G13 m c y := by
  refine swept (K := 16) (t := 256) (by decide) (by decide) N_0 (fun n h => (outsAt0 m c n h).2.2.2.2.1 y)
    (fun n h => k0_pay18 (F := Ideal) (iblk m c 6 ⟨n, h⟩) (bU m c ⟨n, h⟩) y)
    (fun n h e => congrArg (fun z => z.2.2.2.2.1 y) (first m c ⟨n, h⟩ e))
    (fun n h e => (congrArg (fun z => z.2.2.2.2.1 y) (later m c ⟨n, h⟩ e)).trans (added (iblk m c 1 ⟨n, h⟩) (iblk m c 3 ⟨n, h⟩) (k0_pay18 (F := Ideal) (iblk m c 6 ⟨n, h⟩) (bU m c ⟨n, h⟩)) _ (bD m c ⟨n, h⟩) (bH m c ⟨n, h⟩) y).2.2.1) _
    (fun j h' => ?_) h
  exact (sums (iblk m c 1 ⟨j.val, h'⟩) (iblk m c 3 ⟨j.val, h'⟩) (iblk m c 6 ⟨j.val, h'⟩) (bD m c ⟨j.val, h'⟩) (bU m c ⟨j.val, h'⟩) y).2.2.1.trans (Finset.sum_congr rfl fun k _ => congrArg₂ (· * ·) (bU_eq m c _ _ _) (reads m c _ _ _).2.2.2.2.2)

theorem eq14 (y : BV.Idx) (h : 15 < cfg0.N) : (outsAt0 m c 15 h).2.2.2.2.2.1 y = G14 m c y := by
  refine swept (K := 16) (t := 256) (by decide) (by decide) N_0 (fun n h => (outsAt0 m c n h).2.2.2.2.2.1 y)
    (fun n h => k0_pay4 (F := Ideal) (iblk m c 1 ⟨n, h⟩) (iblk m c 3 ⟨n, h⟩) y)
    (fun n h e => congrArg (fun z => z.2.2.2.2.2.1 y) (first m c ⟨n, h⟩ e))
    (fun n h e => (congrArg (fun z => z.2.2.2.2.2.1 y) (later m c ⟨n, h⟩ e)).trans (added (iblk m c 1 ⟨n, h⟩) (iblk m c 3 ⟨n, h⟩) (iblk m c 4 ⟨n, h⟩) _ (bD m c ⟨n, h⟩) (bH m c ⟨n, h⟩) y).2.2.2.1) _
    (fun j h' => ?_) h
  exact (sums (iblk m c 1 ⟨j.val, h'⟩) (iblk m c 3 ⟨j.val, h'⟩) (iblk m c 6 ⟨j.val, h'⟩) (bD m c ⟨j.val, h'⟩) (bH m c ⟨j.val, h'⟩) y).2.2.2.1.trans (Finset.sum_congr rfl fun k _ => congrArg₂ (· * ·) (reads m c _ _ _).2.1 (reads m c _ _ _).2.2.2.1)

theorem eq15 (y : BV.Idx) (h : 15 < cfg0.N) : (outsAt0 m c 15 h).2.2.2.2.2.2 y = G15 m c y := by
  refine swept (K := 16) (t := 256) (by decide) (by decide) N_0 (fun n h => (outsAt0 m c n h).2.2.2.2.2.2 y)
    (fun n h => k0_pay6 (F := Ideal) (iblk m c 1 ⟨n, h⟩) y)
    (fun n h e => congrArg (fun z => z.2.2.2.2.2.2 y) (first m c ⟨n, h⟩ e))
    (fun n h e => (congrArg (fun z => z.2.2.2.2.2.2 y) (later m c ⟨n, h⟩ e)).trans (added (iblk m c 1 ⟨n, h⟩) (iblk m c 3 ⟨n, h⟩) (iblk m c 4 ⟨n, h⟩) _ (bD m c ⟨n, h⟩) (bH m c ⟨n, h⟩) y).2.2.2.2) _
    (fun j h' => ?_) h
  exact (sums (iblk m c 1 ⟨j.val, h'⟩) (iblk m c 3 ⟨j.val, h'⟩) (iblk m c 6 ⟨j.val, h'⟩) (bD m c ⟨j.val, h'⟩) (bH m c ⟨j.val, h'⟩) y).2.2.2.2.trans (Finset.sum_congr rfl fun k _ => (reads m c _ _ _).2.1)

theorem mem9 (t : Fin cfg0.N) (i : S4096x2048.Idx) : i ∈ ((cfg0.win 9).blk t).view.set ↔
    ∀ a : Fin 2, win0_9.index t a * BR.size a ≤ (i a).val ∧ (i a).val < win0_9.index t a * BR.size a + BR.size a := by
  show i ∈ ((View.whole main_v0_0).slice (win0_9.rect t)).set ↔ _
  rw [View.set_slice_whole, Rect.mem_set_unit]
  exact Iff.rfl

theorem final9 : (dats m 0 c).arrAt 9 cfg0.N = G9 m c := by
  refine (dats m 0 c).arrAt_eq_of_cover 9 _ (fun t hf => ?_) (fun (i : S4096x2048.Idx) => ?_)
  · have e := idx t
    rw [flushed9]
    funext y
    refine (congrArg _ (pair _ (y 0) (y 1) rfl rfl)).trans ((eq9 m c t (y 0) (y 1)).trans (congrArg (G9 m c) (pair _ _ _ (Fin.ext ?_) (Fin.ext ?_)).symm))
    · show win0_9.index t (0 : Fin 2) * 256 + 1 * (y 0).val = t.val * 256 + (y 0).val; omega
    · show win0_9.index t (1 : Fin 2) * 2048 + 1 * (y 1).val = (y 1).val; omega
  · have eN : cfg0.N = 16 := N_0
    have h0 : (i 0).val < 4096 := (i 0).isLt
    have h1 : (i 1).val < 2048 := (i 1).isLt
    refine ⟨⟨(i 0).val / 256, by omega⟩, flush0_9 _, ?_⟩
    have e := idx ⟨(i 0).val / 256, by omega⟩
    dsimp only at e
    refine (mem9 _ i).mpr fun a => ?_
    match a with
    | ⟨0, _⟩ => show win0_9.index _ (0 : Fin 2) * 256 ≤ (i 0).val ∧ (i 0).val < win0_9.index _ (0 : Fin 2) * 256 + 256; omega
    | ⟨1, _⟩ => show win0_9.index _ (1 : Fin 2) * 2048 ≤ (i 1).val ∧ (i 1).val < win0_9.index _ (1 : Fin 2) * 2048 + 2048; omega

theorem mem10 (t : Fin cfg0.N) (i : S4096x2048.Idx) : i ∈ ((cfg0.win 10).blk t).view.set ↔
    ∀ a : Fin 2, win0_10.index t a * BR.size a ≤ (i a).val ∧ (i a).val < win0_10.index t a * BR.size a + BR.size a := by
  show i ∈ ((View.whole main_v0_1).slice (win0_10.rect t)).set ↔ _
  rw [View.set_slice_whole, Rect.mem_set_unit]
  exact Iff.rfl

theorem final10 : (dats m 0 c).arrAt 10 cfg0.N = G10 m c := by
  refine (dats m 0 c).arrAt_eq_of_cover 10 _ (fun t hf => ?_) (fun (i : S4096x2048.Idx) => ?_)
  · have e := idx t
    rw [flushed10]
    funext y
    refine (congrArg _ (pair _ (y 0) (y 1) rfl rfl)).trans ((eq10 m c t (y 0) (y 1)).trans (congrArg (G10 m c) (pair _ _ _ (Fin.ext ?_) (Fin.ext ?_)).symm))
    · show win0_10.index t (0 : Fin 2) * 256 + 1 * (y 0).val = t.val * 256 + (y 0).val; omega
    · show win0_10.index t (1 : Fin 2) * 2048 + 1 * (y 1).val = (y 1).val; omega
  · have eN : cfg0.N = 16 := N_0
    have h0 : (i 0).val < 4096 := (i 0).isLt
    have h1 : (i 1).val < 2048 := (i 1).isLt
    refine ⟨⟨(i 0).val / 256, by omega⟩, flush0_10 _, ?_⟩
    have e := idx ⟨(i 0).val / 256, by omega⟩
    dsimp only at e
    refine (mem10 _ i).mpr fun a => ?_
    match a with
    | ⟨0, _⟩ => show win0_10.index _ (0 : Fin 2) * 256 ≤ (i 0).val ∧ (i 0).val < win0_10.index _ (0 : Fin 2) * 256 + 256; omega
    | ⟨1, _⟩ => show win0_10.index _ (1 : Fin 2) * 2048 ≤ (i 1).val ∧ (i 1).val < win0_10.index _ (1 : Fin 2) * 2048 + 2048; omega

theorem mem11 (t : Fin cfg0.N) (i : S1x2048.Idx) : i ∈ ((cfg0.win 11).blk t).view.set ↔
    ∀ a : Fin 2, win0_11.index t a * BV.size a ≤ (i a).val ∧ (i a).val < win0_11.index t a * BV.size a + BV.size a := by
  show i ∈ ((View.whole main_v0_2).slice (win0_11.rect t)).set ↔ _
  rw [View.set_slice_whole, Rect.mem_set_unit]
  exact Iff.rfl

theorem final11 : (dats m 0 c).arrAt 11 cfg0.N = G11 m c := by
  have eN : cfg0.N = 16 := N_0
  refine (dats m 0 c).arrAt_eq_of_cover 11 _ (fun t hf => ?_) (fun (i : S1x2048.Idx) => ?_)
  · have e := idx t
    have ht : t.val = 15 := by have := (flush0_11 t).mp hf; have := lt_of_lt_of_eq t.isLt eN; omega
    obtain rfl : t = ⟨15, lt_of_lt_of_eq (by decide : 15 < 16) eN.symm⟩ := Fin.ext ht
    rw [flushed11]
    funext y
    refine (eq11 m c ((cfg0.win 11).xinj (grid0.coords _) y) _).trans (congrArg (G11 m c) (funext fun a => Fin.ext ?_))
    match a with
    | ⟨0, _⟩ => show (y 0).val = win0_11.index _ (0 : Fin 2) * 1 + 1 * (y 0).val; omega
    | ⟨1, _⟩ => show (y 1).val = win0_11.index _ (1 : Fin 2) * 2048 + 1 * (y 1).val; omega
  · have h0 : (i 0).val < 1 := (i 0).isLt
    have h1 : (i 1).val < 2048 := (i 1).isLt
    refine ⟨⟨15, by omega⟩, (flush0_11 _).mpr rfl, ?_⟩
    have e := idx ⟨15, by omega⟩
    refine (mem11 _ i).mpr fun a => ?_
    match a with
    | ⟨0, _⟩ => show win0_11.index _ (0 : Fin 2) * 1 ≤ (i 0).val ∧ (i 0).val < win0_11.index _ (0 : Fin 2) * 1 + 1; omega
    | ⟨1, _⟩ => show win0_11.index _ (1 : Fin 2) * 2048 ≤ (i 1).val ∧ (i 1).val < win0_11.index _ (1 : Fin 2) * 2048 + 2048; omega

theorem mem12 (t : Fin cfg0.N) (i : S1x2048.Idx) : i ∈ ((cfg0.win 12).blk t).view.set ↔
    ∀ a : Fin 2, win0_12.index t a * BV.size a ≤ (i a).val ∧ (i a).val < win0_12.index t a * BV.size a + BV.size a := by
  show i ∈ ((View.whole main_v0_3).slice (win0_12.rect t)).set ↔ _
  rw [View.set_slice_whole, Rect.mem_set_unit]
  exact Iff.rfl

theorem final12 : (dats m 0 c).arrAt 12 cfg0.N = G12 m c := by
  have eN : cfg0.N = 16 := N_0
  refine (dats m 0 c).arrAt_eq_of_cover 12 _ (fun t hf => ?_) (fun (i : S1x2048.Idx) => ?_)
  · have e := idx t
    have ht : t.val = 15 := by have := (flush0_12 t).mp hf; have := lt_of_lt_of_eq t.isLt eN; omega
    obtain rfl : t = ⟨15, lt_of_lt_of_eq (by decide : 15 < 16) eN.symm⟩ := Fin.ext ht
    rw [flushed12]
    funext y
    refine (eq12 m c ((cfg0.win 12).xinj (grid0.coords _) y) _).trans (congrArg (G12 m c) (funext fun a => Fin.ext ?_))
    match a with
    | ⟨0, _⟩ => show (y 0).val = win0_12.index _ (0 : Fin 2) * 1 + 1 * (y 0).val; omega
    | ⟨1, _⟩ => show (y 1).val = win0_12.index _ (1 : Fin 2) * 2048 + 1 * (y 1).val; omega
  · have h0 : (i 0).val < 1 := (i 0).isLt
    have h1 : (i 1).val < 2048 := (i 1).isLt
    refine ⟨⟨15, by omega⟩, (flush0_12 _).mpr rfl, ?_⟩
    have e := idx ⟨15, by omega⟩
    refine (mem12 _ i).mpr fun a => ?_
    match a with
    | ⟨0, _⟩ => show win0_12.index _ (0 : Fin 2) * 1 ≤ (i 0).val ∧ (i 0).val < win0_12.index _ (0 : Fin 2) * 1 + 1; omega
    | ⟨1, _⟩ => show win0_12.index _ (1 : Fin 2) * 2048 ≤ (i 1).val ∧ (i 1).val < win0_12.index _ (1 : Fin 2) * 2048 + 2048; omega

theorem mem13 (t : Fin cfg0.N) (i : S1x2048.Idx) : i ∈ ((cfg0.win 13).blk t).view.set ↔
    ∀ a : Fin 2, win0_13.index t a * BV.size a ≤ (i a).val ∧ (i a).val < win0_13.index t a * BV.size a + BV.size a := by
  show i ∈ ((View.whole main_v0_4).slice (win0_13.rect t)).set ↔ _
  rw [View.set_slice_whole, Rect.mem_set_unit]
  exact Iff.rfl

theorem final13 : (dats m 0 c).arrAt 13 cfg0.N = G13 m c := by
  have eN : cfg0.N = 16 := N_0
  refine (dats m 0 c).arrAt_eq_of_cover 13 _ (fun t hf => ?_) (fun (i : S1x2048.Idx) => ?_)
  · have e := idx t
    have ht : t.val = 15 := by have := (flush0_13 t).mp hf; have := lt_of_lt_of_eq t.isLt eN; omega
    obtain rfl : t = ⟨15, lt_of_lt_of_eq (by decide : 15 < 16) eN.symm⟩ := Fin.ext ht
    rw [flushed13]
    funext y
    refine (eq13 m c ((cfg0.win 13).xinj (grid0.coords _) y) _).trans (congrArg (G13 m c) (funext fun a => Fin.ext ?_))
    match a with
    | ⟨0, _⟩ => show (y 0).val = win0_13.index _ (0 : Fin 2) * 1 + 1 * (y 0).val; omega
    | ⟨1, _⟩ => show (y 1).val = win0_13.index _ (1 : Fin 2) * 2048 + 1 * (y 1).val; omega
  · have h0 : (i 0).val < 1 := (i 0).isLt
    have h1 : (i 1).val < 2048 := (i 1).isLt
    refine ⟨⟨15, by omega⟩, (flush0_13 _).mpr rfl, ?_⟩
    have e := idx ⟨15, by omega⟩
    refine (mem13 _ i).mpr fun a => ?_
    match a with
    | ⟨0, _⟩ => show win0_13.index _ (0 : Fin 2) * 1 ≤ (i 0).val ∧ (i 0).val < win0_13.index _ (0 : Fin 2) * 1 + 1; omega
    | ⟨1, _⟩ => show win0_13.index _ (1 : Fin 2) * 2048 ≤ (i 1).val ∧ (i 1).val < win0_13.index _ (1 : Fin 2) * 2048 + 2048; omega

theorem mem14 (t : Fin cfg0.N) (i : S1x2048.Idx) : i ∈ ((cfg0.win 14).blk t).view.set ↔
    ∀ a : Fin 2, win0_14.index t a * BV.size a ≤ (i a).val ∧ (i a).val < win0_14.index t a * BV.size a + BV.size a := by
  show i ∈ ((View.whole main_v0_5).slice (win0_14.rect t)).set ↔ _
  rw [View.set_slice_whole, Rect.mem_set_unit]
  exact Iff.rfl

theorem final14 : (dats m 0 c).arrAt 14 cfg0.N = G14 m c := by
  have eN : cfg0.N = 16 := N_0
  refine (dats m 0 c).arrAt_eq_of_cover 14 _ (fun t hf => ?_) (fun (i : S1x2048.Idx) => ?_)
  · have e := idx t
    have ht : t.val = 15 := by have := (flush0_14 t).mp hf; have := lt_of_lt_of_eq t.isLt eN; omega
    obtain rfl : t = ⟨15, lt_of_lt_of_eq (by decide : 15 < 16) eN.symm⟩ := Fin.ext ht
    rw [flushed14]
    funext y
    refine (eq14 m c ((cfg0.win 14).xinj (grid0.coords _) y) _).trans (congrArg (G14 m c) (funext fun a => Fin.ext ?_))
    match a with
    | ⟨0, _⟩ => show (y 0).val = win0_14.index _ (0 : Fin 2) * 1 + 1 * (y 0).val; omega
    | ⟨1, _⟩ => show (y 1).val = win0_14.index _ (1 : Fin 2) * 2048 + 1 * (y 1).val; omega
  · have h0 : (i 0).val < 1 := (i 0).isLt
    have h1 : (i 1).val < 2048 := (i 1).isLt
    refine ⟨⟨15, by omega⟩, (flush0_14 _).mpr rfl, ?_⟩
    have e := idx ⟨15, by omega⟩
    refine (mem14 _ i).mpr fun a => ?_
    match a with
    | ⟨0, _⟩ => show win0_14.index _ (0 : Fin 2) * 1 ≤ (i 0).val ∧ (i 0).val < win0_14.index _ (0 : Fin 2) * 1 + 1; omega
    | ⟨1, _⟩ => show win0_14.index _ (1 : Fin 2) * 2048 ≤ (i 1).val ∧ (i 1).val < win0_14.index _ (1 : Fin 2) * 2048 + 2048; omega

theorem mem15 (t : Fin cfg0.N) (i : S1x2048.Idx) : i ∈ ((cfg0.win 15).blk t).view.set ↔
    ∀ a : Fin 2, win0_15.index t a * BV.size a ≤ (i a).val ∧ (i a).val < win0_15.index t a * BV.size a + BV.size a := by
  show i ∈ ((View.whole main_v0_6).slice (win0_15.rect t)).set ↔ _
  rw [View.set_slice_whole, Rect.mem_set_unit]
  exact Iff.rfl

theorem final15 : (dats m 0 c).arrAt 15 cfg0.N = G15 m c := by
  have eN : cfg0.N = 16 := N_0
  refine (dats m 0 c).arrAt_eq_of_cover 15 _ (fun t hf => ?_) (fun (i : S1x2048.Idx) => ?_)
  · have e := idx t
    have ht : t.val = 15 := by have := (flush0_15 t).mp hf; have := lt_of_lt_of_eq t.isLt eN; omega
    obtain rfl : t = ⟨15, lt_of_lt_of_eq (by decide : 15 < 16) eN.symm⟩ := Fin.ext ht
    rw [flushed15]
    funext y
    refine (eq15 m c ((cfg0.win 15).xinj (grid0.coords _) y) _).trans (congrArg (G15 m c) (funext fun a => Fin.ext ?_))
    match a with
    | ⟨0, _⟩ => show (y 0).val = win0_15.index _ (0 : Fin 2) * 1 + 1 * (y 0).val; omega
    | ⟨1, _⟩ => show (y 1).val = win0_15.index _ (1 : Fin 2) * 2048 + 1 * (y 1).val; omega
  · have h0 : (i 0).val < 1 := (i 0).isLt
    have h1 : (i 1).val < 2048 := (i 1).isLt
    refine ⟨⟨15, by omega⟩, (flush0_15 _).mpr rfl, ?_⟩
    have e := idx ⟨15, by omega⟩
    refine (mem15 _ i).mpr fun a => ?_
    match a with
    | ⟨0, _⟩ => show win0_15.index _ (0 : Fin 2) * 1 ≤ (i 0).val ∧ (i 0).val < win0_15.index _ (0 : Fin 2) * 1 + 1; omega
    | ⟨1, _⟩ => show win0_15.index _ (1 : Fin 2) * 2048 ≤ (i 1).val ∧ (i 1).val < win0_15.index _ (1 : Fin 2) * 2048 + 2048; omega

theorem run (ρ : Dev nD → PrngReg) :
    θ_run (defs (F := Ideal)) (onTc (τ := τ) (main (F := Ideal))) ⟨m, fun _ => 0, ρ⟩ fun r => ∀ c : Dev nD,
      r.2.mem ((c : Thread nD τ).loc main_v0_0) = G9 m c
      ∧ r.2.mem ((c : Thread nD τ).loc main_v0_1) = G10 m c
      ∧ r.2.mem ((c : Thread nD τ).loc main_v0_2) = G11 m c
      ∧ r.2.mem ((c : Thread nD τ).loc main_v0_3) = G12 m c
      ∧ r.2.mem ((c : Thread nD τ).loc main_v0_4) = G13 m c
      ∧ r.2.mem ((c : Thread nD τ).loc main_v0_5) = G14 m c
      ∧ r.2.mem ((c : Thread nD τ).loc main_v0_6) = G15 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun _ h c => ⟨(h c).1.trans (final9 m c), (h c).2.1.trans (final10 m c), (h c).2.2.1.trans (final11 m c), (h c).2.2.2.1.trans (final12 m c), (h c).2.2.2.2.1.trans (final13 m c), (h c).2.2.2.2.2.1.trans (final14 m c), (h c).2.2.2.2.2.2.1.trans (final15 m c),
    (h c).2.2.2.2.2.2.2⟩) (run_blocks m ρ)

end Cert.Kernel25Ideal.Prod

end
-- ==== Proof.ModLnRef.lean ====
/-
The reference of the gradient of the norm between the two mixers: its stages as the norm's row functions, and the claim that the
kernel computes the same seven arrays where the gradient it is given, the scale and the gain are real.
-/
module

public import proofs.«01_k».proof.Defs
public import proofs.«01_k».proof.Proof.ModLnBack

@[expose] public section

noncomputable section

namespace Cert.Reference25Ideal.Prod

open Cert.Reference25Ideal Cert.Norm Cert.Rows Cert.Fold Idealize.ShloMosaic Idealize.ShloMosaic.TcCoe Idealize.SL.Sem Idealize.ShloMosaic.StableHlo
open Cert.Kernel25Ideal.Prod (reach)

theorem frame : Cert.quiescent_Reference25Ideal := fun m ρ _ =>
  (θ_run defs _ _).mono (fun r h => ⟨fun c => (h c).2.2.2.2.2.2.2, sem_eq_zero_of_no_sems (by decide) r.2⟩) (Value.run (F := Ideal) m ρ)

/-- A sum that starts from nought. -/
theorem from_zero {n : ℕ} {f g : Fin n → EReal} (h : ∀ k, f k = g k) :
    Ideal.ofBits .f32 0x00000000#32 + ∑ k, f k = ∑ k, g k :=
  (congrArg (· + _) Ideal.ofBits_zero_f32).trans ((zero_add _).trans (Finset.sum_congr rfl fun k _ => h k))

/-- A column's number, read off the one row's index. -/
theorem low (i : S1x2048.Idx) (h : (i 0).val * 2048 + (i 1).val < 2048) :
    (⟨(i 0).val * 2048 + (i 1).val, h⟩ : Fin 2048) = i 1 :=
  Fin.ext (by show (i 0).val * 2048 + (i 1).val = (i 1).val; have e : (i 0).val < 1 := (i 0).isLt; omega)

/-- A row's number, read off a column's index. -/
theorem side (z : S4096x1.Idx) (h : (z 0).val * 1 + (z 1).val < 4096) :
    (⟨(z 0).val * 1 + (z 1).val, h⟩ : Fin 4096) = z 0 :=
  Fin.ext (by show (z 0).val * 1 + (z 1).val = (z 0).val; have e : (z 1).val < 1 := (z 1).isLt; omega)

section Values

variable (x0 x3 x5 x6 : S4096x2048.Idx → Ideal .f32) (x1 x2 : S4096x2048.Idx → Ideal .bf16) (x4 x7 x8 : S1x2048.Idx → Ideal .f32)

theorem mixed : Read.val_main_v21 (F := Ideal) x5 x6 x7 = mix x5 x6 x7 := funext fun i => by
  rw [Read.val_main_v21_apply, Read.val_main_v16_apply, Read.val_main_v20_apply, Read.val_main_v19_apply]
  exact congrArg (fun z => alpha * x5 i + (one + x7 z) * x6 i) (pair _ _ _ rfl rfl)

theorem mean_eq (z : S4096x1.Idx) : Read.val_main_v25 (F := Ideal) x5 x6 x7 z = mean (line (mix x5 x6 x7) (z 0)) := by
  rw [Read.val_main_v25_apply, Read.val_main_v23_apply, Read.val_main_v22_apply, mixed]
  exact congrArg (fun s => Ideal.div s len) (from_zero fun k => congrArg (mix x5 x6 x7) (pair _ _ _ rfl rfl))

theorem dev_eq (i : S4096x2048.Idx) :
    Read.val_main_v27 (F := Ideal) x5 x6 x7 i = dev (line (mix x5 x6 x7) (i 0)) (i 1) := by
  rw [Read.val_main_v27_apply, Read.val_main_v26_apply, mean_eq, mixed]
  exact congrArg (fun s => mix x5 x6 x7 s - mean (line (mix x5 x6 x7) (i 0))) (pair i _ _ rfl rfl)

theorem spread_eq (z : S4096x1.Idx) : Read.val_main_v36 (F := Ideal) x5 x6 x7 z = spreadOf (line (mix x5 x6 x7) (z 0)) := by
  rw [Read.val_main_v36_apply, Read.val_main_v34_apply, Read.val_main_v32_apply, Read.val_main_v31_apply]
  refine congrArg (fun s => Ideal.div s len + eps) (from_zero fun k => ?_)
  rw [Read.val_main_v28_apply, dev_eq]
  rfl

theorem inv_eq (z : S4096x1.Idx) : Read.val_main_v37 (F := Ideal) x5 x6 x7 z = inv (line (mix x5 x6 x7) (z 0)) := by
  rw [Read.val_main_v37_apply, spread_eq]
  rfl

theorem slope_eq (z : S4096x1.Idx) : Read.val_main_v40 (F := Ideal) x5 x6 x7 z
    = negHalf * Ideal.div (inv (line (mix x5 x6 x7) (z 0))) (spreadOf (line (mix x5 x6 x7) (z 0))) := by
  rw [Read.val_main_v40_apply, Read.val_main_v38_apply, inv_eq, spread_eq]
  rfl

theorem hat_eq (i : S4096x2048.Idx) : Read.val_main_v42 (F := Ideal) x5 x6 x7 i = hats (mix x5 x6 x7) i := by
  rw [Read.val_main_v42_apply, Read.val_main_v41_apply, dev_eq, inv_eq]
  rfl

theorem reach_eq : Read.val_main_v49 (F := Ideal) x0 x1 x2 x4 = reach x0 x1 x2 x4 := funext fun i => by
  rw [Read.val_main_v49_apply, Read.val_main_v48_apply, Read.val_main_v14_apply, Read.val_main_v13_apply]
  exact congrArg (fun z => (x0 i + x2 i) + x1 i * (one + x4 z)) (pair _ _ _ rfl rfl)

theorem scaled_eq : Read.val_main_v56 (F := Ideal) x0 x1 x2 x4 x8 = scaled (reach x0 x1 x2 x4) x8 := funext fun i => by
  rw [Read.val_main_v56_apply, Read.val_main_v55_apply, reach_eq]
  exact congrArg (fun z => reach x0 x1 x2 x4 i * x8 z) (pair _ _ _ rfl rfl)

/-- What the variance passes on to its row. -/
theorem part_eq (z : S4096x1.Idx) : Read.val_main_v64 (F := Ideal) x0 x1 x2 x4 x5 x6 x7 x8 z
    = Ideal.div ((∑ k, dev (line (mix x5 x6 x7) (z 0)) k * line (scaled (reach x0 x1 x2 x4) x8) (z 0) k)
      * (negHalf * Ideal.div (inv (line (mix x5 x6 x7) (z 0))) (spreadOf (line (mix x5 x6 x7) (z 0))))) len := by
  rw [Read.val_main_v64_apply, Read.val_main_v62_apply, Read.val_main_v59_apply, Read.val_main_v58_apply, slope_eq]
  refine congrArg (fun s => Ideal.div (s * (negHalf * Ideal.div (inv (line (mix x5 x6 x7) (z 0))) (spreadOf (line (mix x5 x6 x7) (z 0))))) len)
    (from_zero fun k => ?_)
  rw [Read.val_main_v57_apply, dev_eq, scaled_eq]
  exact congrArg (fun s : S4096x2048.Idx => dev (line (mix x5 x6 x7) (s 0)) (s 1) * scaled (reach x0 x1 x2 x4) x8 s)
    (pair (Read.idx_main_v58 (Read.idx_main_v59 z) k) (z 0) k (side z _) rfl)

theorem inner_eq (i : S4096x2048.Idx) : Read.val_main_v68 (F := Ideal) x0 x1 x2 x4 x5 x6 x7 x8 i
    = inner (line (mix x5 x6 x7) (i 0)) (line (scaled (reach x0 x1 x2 x4) x8) (i 0)) (i 1) := by
  obtain ⟨a, b, rfl⟩ : ∃ a b, i = ix2 a b := ⟨i 0, i 1, pair i _ _ rfl rfl⟩
  rw [Read.val_main_v68_apply, Read.val_main_v61_apply, Read.val_main_v60_apply, Read.val_main_v67_apply, Read.val_main_v30_apply,
    Read.val_main_v66_apply, Read.val_main_v65_apply, dev_eq, inv_eq, scaled_eq]
  exact congrArg (fun s => scaled (reach x0 x1 x2 x4) x8 (ix2 a b) * inv (line (mix x5 x6 x7) a) + s * (two * dev (line (mix x5 x6 x7) a) b))
    ((from_zero fun k => part_eq ..).trans (Fin.sum_univ_one _))

theorem back_eq (z : S4096x1.Idx) : Read.val_main_v73 (F := Ideal) x0 x1 x2 x4 x5 x6 x7 x8 z
    = Ideal.div (∑ k, -inner (line (mix x5 x6 x7) (z 0)) (line (scaled (reach x0 x1 x2 x4) x8) (z 0)) k) len := by
  rw [Read.val_main_v73_apply, Read.val_main_v71_apply, Read.val_main_v70_apply]
  refine congrArg (fun s => Ideal.div s len) (from_zero fun k => ?_)
  rw [Read.val_main_v69_apply, inner_eq, Ideal.hostNegf_def]
  have e : (Read.idx_main_v70 (Read.idx_main_v71 z) k) 0 = z 0 := side z _
  rw [e]
  rfl

/-- The gradient of what is normalised. -/
theorem deriv_eq : Read.val_main_v76 (F := Ideal) x0 x1 x2 x4 x5 x6 x7 x8
    = derivs (mix x5 x6 x7) (scaled (reach x0 x1 x2 x4) x8) := funext fun i => by
  obtain ⟨a, b, rfl⟩ : ∃ a b, i = ix2 a b := ⟨i 0, i 1, pair i _ _ rfl rfl⟩
  rw [Read.val_main_v76_apply, Read.val_main_v75_apply, Read.val_main_v74_apply, inner_eq]
  exact congrArg (fun s => inner (line (mix x5 x6 x7) a) (line (scaled (reach x0 x1 x2 x4) x8) a) b + s)
    ((from_zero fun k => back_eq ..).trans (Fin.sum_univ_one _))

/-! ### The seven arrays -/

theorem rows (i : S4096x2048.Idx) : Read.val_main_v83 (F := Ideal) x0 x1 x2 x4 x5 x6 x7 x8 i
    = alpha * derivs (mix x5 x6 x7) (scaled (reach x0 x1 x2 x4) x8) i := by
  rw [Read.val_main_v83_apply, deriv_eq]
  rfl

theorem gated (i : S4096x2048.Idx) : Read.val_main_v84 (F := Ideal) x0 x1 x2 x4 x5 x6 x7 x8 i
    = (one + x7 (ix2 (0 : Fin 1) (i 1))) * derivs (mix x5 x6 x7) (scaled (reach x0 x1 x2 x4) x8) i := by
  rw [Read.val_main_v84_apply, Read.val_main_v78_apply, Read.val_main_v77_apply, deriv_eq]
  exact congrArg (fun z => (one + x7 z) * derivs (mix x5 x6 x7) (scaled (reach x0 x1 x2 x4) x8) i) (pair _ _ _ rfl rfl)

theorem gains (i : S1x2048.Idx) : Read.val_main_v54 (F := Ideal) x0 x1 x2 x4 x5 x6 x7 i
    = ∑ k : Fin 4096, reach x0 x1 x2 x4 (ix2 k (i 1)) * hats (mix x5 x6 x7) (ix2 k (i 1)) := by
  rw [Read.val_main_v54_apply, Read.val_main_v53_apply]
  refine from_zero fun k => ?_
  rw [Read.val_main_v52_apply, hat_eq, reach_eq]
  exact (mul_comm _ _).trans (congrArg (fun s => reach x0 x1 x2 x4 s * hats (mix x5 x6 x7) s) (pair _ _ _ rfl (low i _)))

theorem biases (i : S1x2048.Idx) : Read.val_main_v51 (F := Ideal) x0 x1 x2 x4 i
    = ∑ k : Fin 4096, reach x0 x1 x2 x4 (ix2 k (i 1)) := by
  rw [Read.val_main_v51_apply, Read.val_main_v50_apply, reach_eq]
  exact from_zero fun k => congrArg _ (pair _ _ _ rfl (low i _))

theorem gates (i : S1x2048.Idx) : Read.val_main_v81 (F := Ideal) x0 x1 x2 x4 x5 x6 x7 x8 i
    = ∑ k : Fin 4096, derivs (mix x5 x6 x7) (scaled (reach x0 x1 x2 x4) x8) (ix2 k (i 1)) * x6 (ix2 k (i 1)) := by
  rw [Read.val_main_v81_apply, Read.val_main_v80_apply]
  refine from_zero fun k => ?_
  rw [Read.val_main_v79_apply, deriv_eq]
  exact congrArg (fun s => derivs (mix x5 x6 x7) (scaled (reach x0 x1 x2 x4) x8) s * x6 s) (pair _ _ _ rfl (low i _))

theorem scales (i : S1x2048.Idx) : Read.val_main_v12 (F := Ideal) x1 x3 i
    = ∑ k : Fin 4096, x1 (ix2 k (i 1)) * x3 (ix2 k (i 1)) := by
  rw [Read.val_main_v12_apply, Read.val_main_v11_apply]
  refine from_zero fun k => ?_
  rw [Read.val_main_v10_apply, Read.val_main_v7_apply]
  exact (mul_comm _ _).trans (congrArg (fun s => x1 s * x3 s) (pair _ _ _ rfl (low i _)))

theorem shifts (i : S1x2048.Idx) : Read.val_main_v9 (F := Ideal) x1 i = ∑ k : Fin 4096, x1 (ix2 k (i 1)) := by
  rw [Read.val_main_v9_apply, Read.val_main_v8_apply]
  exact from_zero fun k => congrArg x1 (pair _ _ _ rfl (low i _))

end Values

/-- From a real gradient the kernel's rows' gradient, by projection, is the derivative. -/
theorem grad [Cert.Pre_finite_rows.Facts] {m : (ℓ : Loc Cert.Kernel25Ideal.nD Cert.Kernel25Ideal.τ Cert.Kernel25Ideal.sig) → Buf (Elt Ideal) ℓ}
    (h : Cert.Pre_Kernel25Ideal_finite_rows m) (c : Dev Cert.Kernel25Ideal.nD) :
    Cert.Kernel25Ideal.Prod.DU m c
      = derivs (Cert.Kernel25Ideal.Prod.U m c) (scaled (Cert.Kernel25Ideal.Prod.D m c) (Cert.Kernel25Ideal.Prod.G m c)) := by
  obtain ⟨f0, f1, f2, f4, f8⟩ := h c
  have h0 : ∀ i, Rl (Cert.Kernel25Ideal.Prod.R m c i) := fun i => (Cert.Attn.real_of_below (congrFun f0 i)).symm
  have h1 : ∀ i, Rl (Cert.Kernel25Ideal.Prod.P m c i) := fun i => (Cert.Attn.real_of_below (congrFun f1 i)).symm
  have h2 : ∀ i, Rl (Cert.Kernel25Ideal.Prod.Q m c i) := fun i => (Cert.Attn.real_of_below (congrFun f2 i)).symm
  have h4 : ∀ i, Rl (Cert.Kernel25Ideal.Prod.S m c i) := fun i => (Cert.Attn.real_of_below (congrFun f4 i)).symm
  have h8 : ∀ i, Rl (Cert.Kernel25Ideal.Prod.G m c i) := fun i => (Cert.Attn.real_of_below (congrFun f8 i)).symm
  exact projs_eq _ (fun i => (((h0 i).add (h2 i)).add ((h1 i).mul (one_real.add (h4 _)))).mul (h8 _))

/-- The kernel's seven arrays are the reference's. -/
theorem algebraic [Cert.Pre_finite_rows.Facts] : Cert.algebraic_Kernel25Ideal_Reference25Ideal_pre_finite_rows := by
  intro m ρ m' ρ' hp hag
  refine ⟨fun c => Cert.Kernel25Ideal.Prod.G9 m c, fun c => Cert.Kernel25Ideal.Prod.G10 m c, fun c => Cert.Kernel25Ideal.Prod.G11 m c, fun c => Cert.Kernel25Ideal.Prod.G12 m c, fun c => Cert.Kernel25Ideal.Prod.G13 m c, fun c => Cert.Kernel25Ideal.Prod.G14 m c, fun c => Cert.Kernel25Ideal.Prod.G15 m c,
    Cert.Kernel25Ideal.Prod.run m ρ, (θ_run defs _ _).mono (fun r h c => ?_) (Value.run (F := Ideal) m' ρ')⟩
  obtain ⟨e0, e1, e2, e3, e4, e5, e6, e7, e8⟩ := hag c
  obtain ⟨h0, h1, h2, h3, h4, h5, h6, hr⟩ := h c
  have hD := grad hp c
  rw [Read.val_main_v83_eq, e0, e1, e2, e4, e5, e6, e7, e8] at h0
  rw [Read.val_main_v84_eq, e0, e1, e2, e4, e5, e6, e7, e8] at h1
  rw [Read.val_main_v54_eq, e0, e1, e2, e4, e5, e6, e7] at h2
  rw [e0, e1, e2, e4] at h3
  rw [Read.val_main_v81_eq, e0, e1, e2, e4, e5, e6, e7, e8] at h4
  rw [e1, e3] at h5
  rw [e1] at h6
  exact ⟨h0.trans (funext fun i => (rows ..).trans (congrArg (alpha * ·) (congrFun hD i).symm)),
    h1.trans (funext fun i => (gated ..).trans (congrArg (_ * ·) (congrFun hD i).symm)),
    h2.trans (funext fun i => gains ..),
    (h3.trans (Read.val_main_v51_eq ..)).trans (funext fun i => biases ..),
    h4.trans (funext fun i => (gates ..).trans (Finset.sum_congr rfl fun k _ => congrArg (· * _) (congrFun hD _).symm)),
    (h5.trans (Read.val_main_v12_eq ..)).trans (funext fun i => scales ..),
    (h6.trans (Read.val_main_v9_eq ..)).trans (funext fun i => shifts ..), hr⟩

end Cert.Reference25Ideal.Prod

end
-- ==== Proof.NormEnd.lean ====
/-
The last norm, the squared errors of its rows, and the loss's gradient through it: the kernel's blocks of rows and its four sums
down the rows.
-/
module

public import proofs.«01_k».proof.Defs
public import proofs.«01_k».proof.Proof.ModLnBack
public import proofs.«01_k».proof.Proof.Gen.Kernel26Ideal.Value
public import proofs.«01_k».proof.Proof.Gen.Reference26Ideal.Run
public import proofs.«01_k».proof.Proof.Gen.Reference26Ideal.Read
public import Idealize.ShloMosaic.Lib.Quiescent
public import Idealize.ShloMosaic.Lib.StableHlo.RunRead

@[expose] public section

set_option maxRecDepth 16384

noncomputable section

namespace Cert.Kernel26Ideal.Prod

open Cert.Kernel26Ideal Cert.Kernel26Ideal.Gen Cert.Kernel26Ideal.Value Cert.Fold Cert.Rows Cert.Norm Idealize.ShloMosaic
  Idealize.ShloMosaic.TcCoe Idealize.SL.Sem Idealize.ShloMosaic.StableHlo

abbrev BR := S256x2048
abbrev BV := S1x2048

/-- What the rows miss the target by, after gain and bias. -/
def errs {A : ℕ} (u z : (Rws A).Idx → EReal) (g b : Vc.Idx → EReal) (i : (Rws A).Idx) : EReal :=
  (hats u i * g (ix2 (0 : Fin 1) (i 1)) + b (ix2 (0 : Fin 1) (i 1))) - z i

/-- One over the length of a row, as the program's word. -/
def share : EReal := Ideal.ofBits .f32 0x3A000000#32

/-- The loss's gradient for the rows. -/
def reach {A : ℕ} (u z : (Rws A).Idx → EReal) (g b : Vc.Idx → EReal) (i : (Rws A).Idx) : EReal := errs u z g b i * share

/-! ### What a step computes from its blocks

Most of it is what the norm between the mixers computes, too. -/

section Payloads

variable (x y z : Vec Ideal BR .f32) (t g b s : Vec Ideal BV .f32) (d u : FVec Ideal BR .f32) (k : BV.Idx)

theorem hat_eq : k0_pay9 (F := Ideal) y x t = hats (mix x y t) :=
  Cert.Kernel25Ideal.Prod.hat_eq x y t

theorem errs_eq : k0_pay10 (F := Ideal) y x t g b z = errs (mix x y t) z g b := funext fun i => by
  unfold k0_pay10
  rw [hat_eq]
  exact congrArg₂ (fun p q => (hats (mix x y t) i * p + q) - z i) (spread (by decide) _ _ i) (spread (by decide) _ _ i)

theorem reach_eq : k0_pay11 (F := Ideal) y x t g b z = reach (mix x y t) z g b := funext fun i =>
  congrArg (· * share) (congrFun (errs_eq x y z t g b) i)

theorem du_eq : k0_pay12 (F := Ideal) (k0_pay8 (F := Ideal) y x t) (k0_pay9 (F := Ideal) y x t) d g = projs (mix x y t) (scaled d g) :=
  Cert.Kernel25Ideal.Prod.du_eq x y t g d

theorem sums : k0_pay15 (F := Ideal) u d k = (∑ l : Fin 256, d (ix2 l (k 1)) * u (ix2 l (k 1)))
    ∧ k0_pay1 (F := Ideal) (k0_pay17 (F := Ideal) d) k = (∑ l : Fin 256, d (ix2 l (k 1)))
    ∧ k0_pay3 (F := Ideal) y u k = (∑ l : Fin 256, u (ix2 l (k 1)) * y (ix2 l (k 1)))
    ∧ k0_pay5 (F := Ideal) d k = ∑ l : Fin 256, d (ix2 l (k 1)) * d (ix2 l (k 1)) :=
  ⟨down _ _ _ _ _ k, down d _ (.inl rfl) rfl _ k, down _ _ _ _ _ k, down _ _ _ _ _ k⟩

theorem added : k0_pay16 (F := Ideal) u d s k = s k + k0_pay15 (F := Ideal) u d k
    ∧ k0_pay2 (F := Ideal) (k0_pay17 (F := Ideal) d) s k = s k + k0_pay1 (F := Ideal) (k0_pay17 (F := Ideal) d) k
    ∧ k0_pay4 (F := Ideal) y u s k = s k + k0_pay3 (F := Ideal) y u k
    ∧ k0_pay6 (F := Ideal) d s k = s k + k0_pay5 (F := Ideal) d k := by
  unfold k0_pay16 k0_pay2 k0_pay4 k0_pay6
  simp only [shapeCast_self]
  exact ⟨rfl, rfl, rfl, rfl⟩

end Payloads

/-! ### The blocks a step reads -/

theorem idx : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0) :=
  (by decide +kernel : ∀ t : Fin grid0.N, _)

variable (m : (ℓ : Loc nD τ sig) → Buf (Elt Ideal) ℓ) (c : Dev nD)

/-- The kernel's six arguments. -/
def X : S4096x2048.Idx → EReal := m ((c : Thread nD τ).loc main_arg0)
def Y : S4096x2048.Idx → EReal := m ((c : Thread nD τ).loc main_arg1)
def T : S1x2048.Idx → EReal := m ((c : Thread nD τ).loc main_arg2)
def G : S1x2048.Idx → EReal := m ((c : Thread nD τ).loc main_arg3)
def B : S1x2048.Idx → EReal := m ((c : Thread nD τ).loc main_arg4)
def Z : S4096x2048.Idx → EReal := m ((c : Thread nD τ).loc main_arg5)

/-- Row `a` of step `t`'s block, in the array. -/
def at_ (t : Fin cfg0.N) (a : Fin 256) : Fin 4096 :=
  ⟨t.val * 256 + a.val, by have h := t.isLt; have e : cfg0.N = 16 := N_0; omega⟩

/-- A block of rows is the array's rows. -/
theorem reads (t : Fin cfg0.N) (a : Fin 256) (b : Fin 2048) :
    (iblk m c 0 t : Vec Ideal BR .f32) (ix2 a b) = X m c (ix2 (at_ t a) b)
    ∧ (iblk m c 1 t : Vec Ideal BR .f32) (ix2 a b) = Y m c (ix2 (at_ t a) b)
    ∧ (iblk m c 5 t : Vec Ideal BR .f32) (ix2 a b) = Z m c (ix2 (at_ t a) b) := by
  have e := idx t
  refine ⟨congrArg (V m c main_arg0) (pair _ _ _ (Fin.ext ?_) (Fin.ext ?_)) |>.trans (congrFun (V_main_arg0 m c) (ix2 (at_ t a) b)),
    congrArg (V m c main_arg1) (pair _ _ _ (Fin.ext ?_) (Fin.ext ?_)) |>.trans (congrFun (V_main_arg1 m c) (ix2 (at_ t a) b)),
    congrArg (V m c main_arg5) (pair _ _ _ (Fin.ext ?_) (Fin.ext ?_)) |>.trans (congrFun (V_main_arg5 m c) (ix2 (at_ t a) b))⟩
  · show win0_0.index t (0 : Fin 2) * 256 + 1 * a.val = t.val * 256 + a.val; omega
  · show win0_0.index t (1 : Fin 2) * 2048 + 1 * b.val = b.val; omega
  · show win0_1.index t (0 : Fin 2) * 256 + 1 * a.val = t.val * 256 + a.val; omega
  · show win0_1.index t (1 : Fin 2) * 2048 + 1 * b.val = b.val; omega
  · show win0_5.index t (0 : Fin 2) * 256 + 1 * a.val = t.val * 256 + a.val; omega
  · show win0_5.index t (1 : Fin 2) * 2048 + 1 * b.val = b.val; omega

theorem readsV (t : Fin cfg0.N) : (iblk m c 2 t : Vec Ideal BV .f32) = T m c
    ∧ (iblk m c 3 t : Vec Ideal BV .f32) = G m c
    ∧ (iblk m c 4 t : Vec Ideal BV .f32) = B m c := by
  have e := idx t
  refine ⟨funext fun y => ?_, funext fun y => ?_, funext fun y => ?_⟩
  · refine congrArg (V m c main_arg2) (funext fun d => Fin.ext ?_) |>.trans (congrFun (V_main_arg2 m c) y)
    match d with
    | ⟨0, _⟩ => show win0_2.index t (0 : Fin 2) * 1 + 1 * (y 0).val = (y 0).val; omega
    | ⟨1, _⟩ => show win0_2.index t (1 : Fin 2) * 2048 + 1 * (y 1).val = (y 1).val; omega
  · refine congrArg (V m c main_arg3) (funext fun d => Fin.ext ?_) |>.trans (congrFun (V_main_arg3 m c) y)
    match d with
    | ⟨0, _⟩ => show win0_3.index t (0 : Fin 2) * 1 + 1 * (y 0).val = (y 0).val; omega
    | ⟨1, _⟩ => show win0_3.index t (1 : Fin 2) * 2048 + 1 * (y 1).val = (y 1).val; omega
  · refine congrArg (V m c main_arg4) (funext fun d => Fin.ext ?_) |>.trans (congrFun (V_main_arg4 m c) y)
    match d with
    | ⟨0, _⟩ => show win0_4.index t (0 : Fin 2) * 1 + 1 * (y 0).val = (y 0).val; omega
    | ⟨1, _⟩ => show win0_4.index t (1 : Fin 2) * 2048 + 1 * (y 1).val = (y 1).val; omega

/-- What is normalised, the errors, the gradient that reaches the norm, and the norm's, over the whole arrays. -/
def U : S4096x2048.Idx → EReal := mix (X m c) (Y m c) (T m c)
def E : S4096x2048.Idx → EReal := errs (U m c) (Z m c) (G m c) (B m c)
def D : S4096x2048.Idx → EReal := reach (U m c) (Z m c) (G m c) (B m c)
def DU : S4096x2048.Idx → EReal := projs (U m c) (scaled (D m c) (G m c))

/-- The same of a step's block. -/
def bV (t : Fin cfg0.N) : FVec Ideal (Col 256) .f32 := k0_pay8 (F := Ideal) (iblk m c 1 t) (iblk m c 0 t) (iblk m c 2 t)
def bH (t : Fin cfg0.N) : FVec Ideal BR .f32 := k0_pay9 (F := Ideal) (iblk m c 1 t) (iblk m c 0 t) (iblk m c 2 t)
def bE (t : Fin cfg0.N) : FVec Ideal BR .f32 :=
  k0_pay10 (F := Ideal) (iblk m c 1 t) (iblk m c 0 t) (iblk m c 2 t) (iblk m c 3 t) (iblk m c 4 t) (iblk m c 5 t)
def bD (t : Fin cfg0.N) : FVec Ideal BR .f32 :=
  k0_pay11 (F := Ideal) (iblk m c 1 t) (iblk m c 0 t) (iblk m c 2 t) (iblk m c 3 t) (iblk m c 4 t) (iblk m c 5 t)
def bU (t : Fin cfg0.N) : FVec Ideal BR .f32 := k0_pay12 (F := Ideal) (bV m c t) (bH m c t) (bD m c t) (iblk m c 3 t)

theorem mix_line (t : Fin cfg0.N) (a : Fin 256) :
    line (mix (iblk m c 0 t : Vec Ideal BR .f32) (iblk m c 1 t : Vec Ideal BR .f32) (iblk m c 2 t : Vec Ideal BV .f32)) a
      = line (U m c) (at_ t a) := funext fun b => by
  obtain ⟨h0, h1, -⟩ := reads m c t a b
  unfold line U mix
  rw [h0, h1, (readsV m c t).1]
  rfl

theorem bH_eq (t : Fin cfg0.N) (a : Fin 256) (b : Fin 2048) : bH m c t (ix2 a b) = hats (U m c) (ix2 (at_ t a) b) := by
  unfold bH
  rw [hat_eq]
  exact congrArg (fun l => hat l b) (mix_line m c t a)

theorem bE_eq (t : Fin cfg0.N) (a : Fin 256) (b : Fin 2048) : bE m c t (ix2 a b) = E m c (ix2 (at_ t a) b) := by
  unfold bE
  rw [errs_eq, (readsV m c t).2.1, (readsV m c t).2.2]
  exact congrArg₂ (fun l z => (hat l b * G m c (ix2 (0 : Fin 1) b) + B m c (ix2 (0 : Fin 1) b)) - z) (mix_line m c t a)
    (reads m c t a b).2.2

theorem bD_eq (t : Fin cfg0.N) (a : Fin 256) (b : Fin 2048) : bD m c t (ix2 a b) = D m c (ix2 (at_ t a) b) :=
  congrArg (· * share) (bE_eq m c t a b)

theorem bU_eq (t : Fin cfg0.N) (a : Fin 256) (b : Fin 2048) : bU m c t (ix2 a b) = DU m c (ix2 (at_ t a) b) := by
  unfold bU bV bH
  rw [du_eq, (readsV m c t).2.1]
  exact congrArg₂ (fun l l' => proj l l' b) (mix_line m c t a)
    (funext fun k => congrArg (· * G m c (ix2 (0 : Fin 1) k)) (bD_eq m c t a k))

/-! ### What every step leaves -/

section Steps

variable (i : grid0.Coords)
  (a1 : Memref sig .tc .vmem BR .f32) (h1 : a1.IsWhole) (a2 : Memref sig .tc .vmem BR .f32) (h2 : a2.IsWhole)
  (a3 : Memref sig .tc .vmem BV .f32) (h3 : a3.IsWhole) (a4 : Memref sig .tc .vmem BV .f32) (h4 : a4.IsWhole)
  (a5 : Memref sig .tc .vmem BV .f32) (h5 : a5.IsWhole) (a6 : Memref sig .tc .vmem BR .f32) (h6 : a6.IsWhole)
  (a7 : Memref sig .tc .vmem BR .f32) (h7 : a7.IsWhole) (a8 : Memref sig .tc .vmem BR .bf16) (h8 : a8.IsWhole)
  (a9 : Memref sig .tc .vmem BV .f32) (h9 : a9.IsWhole) (a10 : Memref sig .tc .vmem BV .f32) (h10 : a10.IsWhole)
  (a11 : Memref sig .tc .vmem BV .f32) (h11 : a11.IsWhole) (a12 : Memref sig .tc .vmem BV .f32) (h12 : a12.IsWhole)
  (x0 : Vec Ideal BR .f32) (x1 : Vec Ideal BR .f32) (x2 : Vec Ideal BV .f32) (x3 : Vec Ideal BV .f32) (x4 : Vec Ideal BV .f32) (x5 : Vec Ideal BR .f32)
  (z8 : Vec Ideal BV .f32) (z9 : Vec Ideal BV .f32) (z10 : Vec Ideal BV .f32) (z11 : Vec Ideal BV .f32)

/-- The first step writes its rows and starts the four sums. -/
theorem start (hc0 : cond0_0 i) (hc1 : ¬cond0_1 i) (hc2 : cond0_2 i) (hc3 : ¬cond0_3 i) (hc4 : cond0_4 i) (hc5 : ¬cond0_5 i) (hc6 : cond0_6 i) (hc7 : ¬cond0_7 i) :
    (out0_A_6 c i a1 h1 a2 h2 a3 h3 a4 h4 a5 h5 a6 h6 a7 h7 a8 h8 a9 h9 a10 h10 a11 h11 a12 h12
      hc0 hc1 hc2 hc3 hc4 hc5 hc6 hc7 x0 x1 x2 x3 x4 x5, out0_A_7 c i a1 h1 a2 h2 a3 h3 a4 h4 a5 h5 a6 h6 a7 h7 a8 h8 a9 h9 a10 h10 a11 h11 a12 h12
      hc0 hc1 hc2 hc3 hc4 hc5 hc6 hc7 x0 x1 x2 x3 x4 x5, out0_A_8 c i a1 h1 a2 h2 a3 h3 a4 h4 a5 h5 a6 h6 a7 h7 a8 h8 a9 h9 a10 h10 a11 h11 a12 h12
      hc0 hc1 hc2 hc3 hc4 hc5 hc6 hc7 x0 x1 x2 x3 x4 x5, out0_A_9 c i a1 h1 a2 h2 a3 h3 a4 h4 a5 h5 a6 h6 a7 h7 a8 h8 a9 h9 a10 h10 a11 h11 a12 h12
      hc0 hc1 hc2 hc3 hc4 hc5 hc6 hc7 x0 x1 x2 x3 x4 x5, out0_A_10 c i a1 h1 a2 h2 a3 h3 a4 h4 a5 h5 a6 h6 a7 h7 a8 h8 a9 h9 a10 h10 a11 h11 a12 h12
      hc0 hc1 hc2 hc3 hc4 hc5 hc6 hc7 x0 x1 x2 x3 x4 x5, out0_A_11 c i a1 h1 a2 h2 a3 h3 a4 h4 a5 h5 a6 h6 a7 h7 a8 h8 a9 h9 a10 h10 a11 h11 a12 h12
      hc0 hc1 hc2 hc3 hc4 hc5 hc6 hc7 x0 x1 x2 x3 x4 x5) =
    (k0_pay13 (F := Ideal) (k0_pay8 (F := Ideal) x1 x0 x2) (k0_pay9 (F := Ideal) x1 x0 x2) (k0_pay11 (F := Ideal) x1 x0 x2 x3 x4 x5) x3,
      k0_pay14 (F := Ideal) (k0_pay8 (F := Ideal) x1 x0 x2) (k0_pay9 (F := Ideal) x1 x0 x2) (k0_pay11 (F := Ideal) x1 x0 x2 x3 x4 x5) x3 x2,
      k0_pay15 (F := Ideal) (k0_pay9 (F := Ideal) x1 x0 x2) (k0_pay11 (F := Ideal) x1 x0 x2 x3 x4 x5),
      k0_pay1 (F := Ideal) (k0_pay17 (F := Ideal) (k0_pay11 (F := Ideal) x1 x0 x2 x3 x4 x5)),
      k0_pay3 (F := Ideal) x1 (k0_pay12 (F := Ideal) (k0_pay8 (F := Ideal) x1 x0 x2) (k0_pay9 (F := Ideal) x1 x0 x2) (k0_pay11 (F := Ideal) x1 x0 x2 x3 x4 x5) x3),
      k0_pay5 (F := Ideal) (k0_pay10 (F := Ideal) x1 x0 x2 x3 x4 x5)) := by
  unfold out0_A_6 out0_A_7 out0_A_8 out0_A_9 out0_A_10 out0_A_11
  refine congrArg₂ Prod.mk (Eq.trans (View.read_writes_eq_canon _ _ _ (cover0_A_6 c i a1 h1 a2 h2 a3 h3 a4 h4 a5 h5 a6 h6 a7 h7 a8 h8 a9 h9 a10 h10 a11 h11 a12 h12
      hc0 hc1 hc2 hc3 hc4 hc5 hc6 hc7 x0 x1 x2 x3 x4 x5)) ?_) (
    congrArg₂ Prod.mk (Eq.trans (View.read_writes_eq_canon _ _ _ (cover0_A_7 c i a1 h1 a2 h2 a3 h3 a4 h4 a5 h5 a6 h6 a7 h7 a8 h8 a9 h9 a10 h10 a11 h11 a12 h12
      hc0 hc1 hc2 hc3 hc4 hc5 hc6 hc7 x0 x1 x2 x3 x4 x5)) ?_) (
    congrArg₂ Prod.mk (Eq.trans (View.read_writes_eq_canon _ _ _ (cover0_A_8 c i a1 h1 a2 h2 a3 h3 a4 h4 a5 h5 a6 h6 a7 h7 a8 h8 a9 h9 a10 h10 a11 h11 a12 h12
      hc0 hc1 hc2 hc3 hc4 hc5 hc6 hc7 x0 x1 x2 x3 x4 x5)) ?_) (
    congrArg₂ Prod.mk (Eq.trans (View.read_writes_eq_canon _ _ _ (cover0_A_9 c i a1 h1 a2 h2 a3 h3 a4 h4 a5 h5 a6 h6 a7 h7 a8 h8 a9 h9 a10 h10 a11 h11 a12 h12
      hc0 hc1 hc2 hc3 hc4 hc5 hc6 hc7 x0 x1 x2 x3 x4 x5)) ?_) (
    congrArg₂ Prod.mk (Eq.trans (View.read_writes_eq_canon _ _ _ (cover0_A_10 c i a1 h1 a2 h2 a3 h3 a4 h4 a5 h5 a6 h6 a7 h7 a8 h8 a9 h9 a10 h10 a11 h11 a12 h12
      hc0 hc1 hc2 hc3 hc4 hc5 hc6 hc7 x0 x1 x2 x3 x4 x5)) ?_) (
    Eq.trans (View.read_writes_eq_canon _ _ _ (cover0_A_11 c i a1 h1 a2 h2 a3 h3 a4 h4 a5 h5 a6 h6 a7 h7 a8 h8 a9 h9 a10 h10 a11 h11 a12 h12
      hc0 hc1 hc2 hc3 hc4 hc5 hc6 hc7 x0 x1 x2 x3 x4 x5)) ?_)))))
  all_goals
    unfold kernelRun0_A
    dsimp only
    simp only [kernelRun0_A.sl.r, kernelRun0_A.sl.r_1, kernelRun0_A.sl.r_2, kernelRun0_A.sl.r_3, kernelRun0_A.sl.r_4,
      kernelRun0_A.sl.r_5, kernelRun0_A.sl.r_6, kernelRun0_A.sl.r_7,
      View.readAt_eq_ld, h1.read_unread, h2.read_unread, h3.read_unread, h4.read_unread, h5.read_unread, h6.read_unread,
      View.ld_unit_zero (S := BR) hz, View.ld_unit_zero (S := BV) hz]
    exact View.canon_unit_zero hz ..

/-- A later step writes its rows and adds to the four sums. -/
theorem more (hc0 : ¬cond0_0 i) (hc1 : cond0_1 i) (hc2 : ¬cond0_2 i) (hc3 : cond0_3 i) (hc4 : ¬cond0_4 i) (hc5 : cond0_5 i) (hc6 : ¬cond0_6 i) (hc7 : cond0_7 i) :
    (out0_B_6 c i a1 h1 a2 h2 a3 h3 a4 h4 a5 h5 a6 h6 a7 h7 a8 h8 a9 h9 a10 h10 a11 h11 a12 h12
      hc0 hc1 hc2 hc3 hc4 hc5 hc6 hc7 x0 x1 x2 x3 x4 x5 z8 z9 z10 z11, out0_B_7 c i a1 h1 a2 h2 a3 h3 a4 h4 a5 h5 a6 h6 a7 h7 a8 h8 a9 h9 a10 h10 a11 h11 a12 h12
      hc0 hc1 hc2 hc3 hc4 hc5 hc6 hc7 x0 x1 x2 x3 x4 x5 z8 z9 z10 z11, out0_B_8 c i a1 h1 a2 h2 a3 h3 a4 h4 a5 h5 a6 h6 a7 h7 a8 h8 a9 h9 a10 h10 a11 h11 a12 h12
      hc0 hc1 hc2 hc3 hc4 hc5 hc6 hc7 x0 x1 x2 x3 x4 x5 z8 z9 z10 z11, out0_B_9 c i a1 h1 a2 h2 a3 h3 a4 h4 a5 h5 a6 h6 a7 h7 a8 h8 a9 h9 a10 h10 a11 h11 a12 h12
      hc0 hc1 hc2 hc3 hc4 hc5 hc6 hc7 x0 x1 x2 x3 x4 x5 z8 z9 z10 z11, out0_B_10 c i a1 h1 a2 h2 a3 h3 a4 h4 a5 h5 a6 h6 a7 h7 a8 h8 a9 h9 a10 h10 a11 h11 a12 h12
      hc0 hc1 hc2 hc3 hc4 hc5 hc6 hc7 x0 x1 x2 x3 x4 x5 z8 z9 z10 z11, out0_B_11 c i a1 h1 a2 h2 a3 h3 a4 h4 a5 h5 a6 h6 a7 h7 a8 h8 a9 h9 a10 h10 a11 h11 a12 h12
      hc0 hc1 hc2 hc3 hc4 hc5 hc6 hc7 x0 x1 x2 x3 x4 x5 z8 z9 z10 z11) =
    (k0_pay13 (F := Ideal) (k0_pay8 (F := Ideal) x1 x0 x2) (k0_pay9 (F := Ideal) x1 x0 x2) (k0_pay11 (F := Ideal) x1 x0 x2 x3 x4 x5) x3,
      k0_pay14 (F := Ideal) (k0_pay8 (F := Ideal) x1 x0 x2) (k0_pay9 (F := Ideal) x1 x0 x2) (k0_pay11 (F := Ideal) x1 x0 x2 x3 x4 x5) x3 x2,
      k0_pay16 (F := Ideal) (k0_pay9 (F := Ideal) x1 x0 x2) (k0_pay11 (F := Ideal) x1 x0 x2 x3 x4 x5) z8,
      k0_pay2 (F := Ideal) (k0_pay17 (F := Ideal) (k0_pay11 (F := Ideal) x1 x0 x2 x3 x4 x5)) z9,
      k0_pay4 (F := Ideal) x1 (k0_pay12 (F := Ideal) (k0_pay8 (F := Ideal) x1 x0 x2) (k0_pay9 (F := Ideal) x1 x0 x2) (k0_pay11 (F := Ideal) x1 x0 x2 x3 x4 x5) x3) z10,
      k0_pay6 (F := Ideal) (k0_pay10 (F := Ideal) x1 x0 x2 x3 x4 x5) z11) := by
  unfold out0_B_6 out0_B_7 out0_B_8 out0_B_9 out0_B_10 out0_B_11
  refine congrArg₂ Prod.mk (Eq.trans (View.read_writes_eq_canon _ _ _ (cover0_B_6 c i a1 h1 a2 h2 a3 h3 a4 h4 a5 h5 a6 h6 a7 h7 a8 h8 a9 h9 a10 h10 a11 h11 a12 h12
      hc0 hc1 hc2 hc3 hc4 hc5 hc6 hc7 x0 x1 x2 x3 x4 x5 z8 z9 z10 z11)) ?_) (
    congrArg₂ Prod.mk (Eq.trans (View.read_writes_eq_canon _ _ _ (cover0_B_7 c i a1 h1 a2 h2 a3 h3 a4 h4 a5 h5 a6 h6 a7 h7 a8 h8 a9 h9 a10 h10 a11 h11 a12 h12
      hc0 hc1 hc2 hc3 hc4 hc5 hc6 hc7 x0 x1 x2 x3 x4 x5 z8 z9 z10 z11)) ?_) (
    congrArg₂ Prod.mk (Eq.trans (View.read_writes_eq_canon _ _ _ (cover0_B_8 c i a1 h1 a2 h2 a3 h3 a4 h4 a5 h5 a6 h6 a7 h7 a8 h8 a9 h9 a10 h10 a11 h11 a12 h12
      hc0 hc1 hc2 hc3 hc4 hc5 hc6 hc7 x0 x1 x2 x3 x4 x5 z8 z9 z10 z11)) ?_) (
    congrArg₂ Prod.mk (Eq.trans (View.read_writes_eq_canon _ _ _ (cover0_B_9 c i a1 h1 a2 h2 a3 h3 a4 h4 a5 h5 a6 h6 a7 h7 a8 h8 a9 h9 a10 h10 a11 h11 a12 h12
      hc0 hc1 hc2 hc3 hc4 hc5 hc6 hc7 x0 x1 x2 x3 x4 x5 z8 z9 z10 z11)) ?_) (
    congrArg₂ Prod.mk (Eq.trans (View.read_writes_eq_canon _ _ _ (cover0_B_10 c i a1 h1 a2 h2 a3 h3 a4 h4 a5 h5 a6 h6 a7 h7 a8 h8 a9 h9 a10 h10 a11 h11 a12 h12
      hc0 hc1 hc2 hc3 hc4 hc5 hc6 hc7 x0 x1 x2 x3 x4 x5 z8 z9 z10 z11)) ?_) (
    Eq.trans (View.read_writes_eq_canon _ _ _ (cover0_B_11 c i a1 h1 a2 h2 a3 h3 a4 h4 a5 h5 a6 h6 a7 h7 a8 h8 a9 h9 a10 h10 a11 h11 a12 h12
      hc0 hc1 hc2 hc3 hc4 hc5 hc6 hc7 x0 x1 x2 x3 x4 x5 z8 z9 z10 z11)) ?_)))))
  all_goals
    unfold kernelRun0_B
    dsimp only
    simp only [kernelRun0_B.sl.r, kernelRun0_B.sl.r_1, kernelRun0_B.sl.r_2, kernelRun0_B.sl.r_3, kernelRun0_B.sl.r_4,
      kernelRun0_B.sl.r_5, kernelRun0_B.sl.r_6, kernelRun0_B.sl.r_7,
      View.readAt_eq_ld, h1.read_unread, h2.read_unread, h3.read_unread, h4.read_unread, h5.read_unread, h6.read_unread, h9.read_unread, h10.read_unread, h11.read_unread, h12.read_unread,
      View.ld_unit_zero (S := BR) hz, View.ld_unit_zero (S := BV) hz]
    exact View.canon_unit_zero hz ..

end Steps

theorem first (t : Fin cfg0.N) (h : t.val = 0) : outsAt0 m c t.val t.isLt =
    (k0_pay13 (F := Ideal) (bV m c t) (bH m c t) (bD m c t) (iblk m c 3 t),
      k0_pay14 (F := Ideal) (bV m c t) (bH m c t) (bD m c t) (iblk m c 3 t) (iblk m c 2 t),
      k0_pay15 (F := Ideal) (bH m c t) (bD m c t),
      k0_pay1 (F := Ideal) (k0_pay17 (F := Ideal) (bD m c t)),
      k0_pay3 (F := Ideal) (iblk m c 1 t) (bU m c t),
      k0_pay5 (F := Ideal) (bE m c t)) := by
  have ht : t.val < 16 := lt_of_lt_of_eq t.isLt N_0
  exact (outsAt0_A m c t (by omega) (by omega) (by omega) (by omega) (by omega) (by omega) (by omega) (by omega)).trans (start ..)

theorem later (t : Fin cfg0.N) (h : t.val ≠ 0) : outsAt0 m c t.val t.isLt =
    (k0_pay13 (F := Ideal) (bV m c t) (bH m c t) (bD m c t) (iblk m c 3 t),
      k0_pay14 (F := Ideal) (bV m c t) (bH m c t) (bD m c t) (iblk m c 3 t) (iblk m c 2 t),
      k0_pay16 (F := Ideal) (bH m c t) (bD m c t) (outsAt0 m c (t.val - 1) (Nat.lt_of_le_of_lt (Nat.sub_le _ _) t.isLt)).2.2.1,
      k0_pay2 (F := Ideal) (k0_pay17 (F := Ideal) (bD m c t)) (outsAt0 m c (t.val - 1) (Nat.lt_of_le_of_lt (Nat.sub_le _ _) t.isLt)).2.2.2.1,
      k0_pay4 (F := Ideal) (iblk m c 1 t) (bU m c t) (outsAt0 m c (t.val - 1) (Nat.lt_of_le_of_lt (Nat.sub_le _ _) t.isLt)).2.2.2.2.1,
      k0_pay6 (F := Ideal) (bE m c t) (outsAt0 m c (t.val - 1) (Nat.lt_of_le_of_lt (Nat.sub_le _ _) t.isLt)).2.2.2.2.2) := by
  have ht : t.val < 16 := lt_of_lt_of_eq t.isLt N_0
  exact (outsAt0_B m c t (by omega) (by omega) (by omega) (by omega) (by omega) (by omega) (by omega) (by omega)).trans (more ..)

/-! ### The results -/

def G6 (i : S4096x2048.Idx) : EReal := alpha * DU m c i
def G7 (i : S4096x2048.Idx) : EReal := (one + T m c (ix2 (0 : Fin 1) (i 1))) * DU m c i
def G8 (i : S1x2048.Idx) : EReal := ∑ k : Fin 4096, D m c (ix2 k (i 1)) * hats (U m c) (ix2 k (i 1))
def G9 (i : S1x2048.Idx) : EReal := ∑ k : Fin 4096, D m c (ix2 k (i 1))
def G10 (i : S1x2048.Idx) : EReal := ∑ k : Fin 4096, DU m c (ix2 k (i 1)) * Y m c (ix2 k (i 1))
def G11 (i : S1x2048.Idx) : EReal := ∑ k : Fin 4096, E m c (ix2 k (i 1)) * E m c (ix2 k (i 1))

theorem rows (t : Fin cfg0.N) :
    (outsAt0 m c t.val t.isLt).1 = k0_pay13 (F := Ideal) (bV m c t) (bH m c t) (bD m c t) (iblk m c 3 t)
    ∧ (outsAt0 m c t.val t.isLt).2.1 = k0_pay14 (F := Ideal) (bV m c t) (bH m c t) (bD m c t) (iblk m c 3 t) (iblk m c 2 t) := by
  by_cases h : t.val = 0
  · rw [first m c t h]; exact ⟨rfl, rfl⟩
  · rw [later m c t h]; exact ⟨rfl, rfl⟩

theorem eq6 (t : Fin cfg0.N) (a : Fin 256) (b : Fin 2048) :
    (outsAt0 m c t.val t.isLt).1 (ix2 a b) = G6 m c (ix2 (at_ t a) b) :=
  (congrFun (rows m c t).1 _).trans (congrArg (alpha * ·) (bU_eq m c t a b))

theorem eq7 (t : Fin cfg0.N) (a : Fin 256) (b : Fin 2048) :
    (outsAt0 m c t.val t.isLt).2.1 (ix2 a b) = G7 m c (ix2 (at_ t a) b) := by
  rw [(rows m c t).2, (readsV m c t).1]
  exact (congrFun (Cert.Kernel25Ideal.Prod.gated (T m c) (bU m c t)) (ix2 a b)).trans
    (congrArg ((one + T m c (ix2 (0 : Fin 1) b)) * ·) (bU_eq m c t a b))

theorem eq8 (y : BV.Idx) (h : 15 < cfg0.N) : (outsAt0 m c 15 h).2.2.1 y = G8 m c y := by
  refine swept (K := 16) (t := 256) (by decide) (by decide) N_0 (fun n h => (outsAt0 m c n h).2.2.1 y)
    (fun n h => k0_pay15 (F := Ideal) (bH m c ⟨n, h⟩) (bD m c ⟨n, h⟩) y)
    (fun n h e => congrArg (fun z => z.2.2.1 y) (first m c ⟨n, h⟩ e))
    (fun n h e => (congrArg (fun z => z.2.2.1 y) (later m c ⟨n, h⟩ e)).trans (added (iblk m c 1 ⟨n, h⟩) _ (bD m c ⟨n, h⟩) (bH m c ⟨n, h⟩) y).1) _
    (fun j h' => ?_) h
  exact (sums (iblk m c 1 ⟨j.val, h'⟩) (bD m c ⟨j.val, h'⟩) (bH m c ⟨j.val, h'⟩) y).1.trans (Finset.sum_congr rfl fun k _ => congrArg₂ (· * ·) (bD_eq m c _ _ _) (bH_eq m c _ _ _))

theorem eq9 (y : BV.Idx) (h : 15 < cfg0.N) : (outsAt0 m c 15 h).2.2.2.1 y = G9 m c y := by
  refine swept (K := 16) (t := 256) (by decide) (by decide) N_0 (fun n h => (outsAt0 m c n h).2.2.2.1 y)
    (fun n h => k0_pay1 (F := Ideal) (k0_pay17 (F := Ideal) (bD m c ⟨n, h⟩)) y)
    (fun n h e => congrArg (fun z => z.2.2.2.1 y) (first m c ⟨n, h⟩ e))
    (fun n h e => (congrArg (fun z => z.2.2.2.1 y) (later m c ⟨n, h⟩ e)).trans (added (iblk m c 1 ⟨n, h⟩) _ (bD m c ⟨n, h⟩) (bH m c ⟨n, h⟩) y).2.1) _
    (fun j h' => ?_) h
  exact (sums (iblk m c 1 ⟨j.val, h'⟩) (bD m c ⟨j.val, h'⟩) (bH m c ⟨j.val, h'⟩) y).2.1.trans (Finset.sum_congr rfl fun k _ => bD_eq m c _ _ _)

theorem eq10 (y : BV.Idx) (h : 15 < cfg0.N) : (outsAt0 m c 15 h).2.2.2.2.1 y = G10 m c y := by
  refine swept (K := 16) (t := 256) (by decide) (by decide) N_0 (fun n h => (outsAt0 m c n h).2.2.2.2.1 y)
    (fun n h => k0_pay3 (F := Ideal) (iblk m c 1 ⟨n, h⟩) (bU m c ⟨n, h⟩) y)
    (fun n h e => congrArg (fun z => z.2.2.2.2.1 y) (first m c ⟨n, h⟩ e))
    (fun n h e => (congrArg (fun z => z.2.2.2.2.1 y) (later m c ⟨n, h⟩ e)).trans (added (iblk m c 1 ⟨n, h⟩) _ (bD m c ⟨n, h⟩) (bU m c ⟨n, h⟩) y).2.2.1) _
    (fun j h' => ?_) h
  exact (sums (iblk m c 1 ⟨j.val, h'⟩) (bD m c ⟨j.val, h'⟩) (bU m c ⟨j.val, h'⟩) y).2.2.1.trans (Finset.sum_congr rfl fun k _ => congrArg₂ (· * ·) (bU_eq m c _ _ _) (reads m c _ _ _).2.1)

theorem eq11 (y : BV.Idx) (h : 15 < cfg0.N) : (outsAt0 m c 15 h).2.2.2.2.2 y = G11 m c y := by
  refine swept (K := 16) (t := 256) (by decide) (by decide) N_0 (fun n h => (outsAt0 m c n h).2.2.2.2.2 y)
    (fun n h => k0_pay5 (F := Ideal) (bE m c ⟨n, h⟩) y)
    (fun n h e => congrArg (fun z => z.2.2.2.2.2 y) (first m c ⟨n, h⟩ e))
    (fun n h e => (congrArg (fun z => z.2.2.2.2.2 y) (later m c ⟨n, h⟩ e)).trans (added (iblk m c 1 ⟨n, h⟩) _ (bE m c ⟨n, h⟩) (bU m c ⟨n, h⟩) y).2.2.2) _
    (fun j h' => ?_) h
  exact (sums (iblk m c 1 ⟨j.val, h'⟩) (bE m c ⟨j.val, h'⟩) (bU m c ⟨j.val, h'⟩) y).2.2.2.trans (Finset.sum_congr rfl fun k _ => congrArg₂ (· * ·) (bE_eq m c _ _ _) (bE_eq m c _ _ _))

theorem mem6 (t : Fin cfg0.N) (i : S4096x2048.Idx) : i ∈ ((cfg0.win 6).blk t).view.set ↔
    ∀ a : Fin 2, win0_6.index t a * BR.size a ≤ (i a).val ∧ (i a).val < win0_6.index t a * BR.size a + BR.size a := by
  show i ∈ ((View.whole main_v0_0).slice (win0_6.rect t)).set ↔ _
  rw [View.set_slice_whole, Rect.mem_set_unit]
  exact Iff.rfl

theorem final6 : (dats m 0 c).arrAt 6 cfg0.N = G6 m c := by
  refine (dats m 0 c).arrAt_eq_of_cover 6 _ (fun t hf => ?_) (fun (i : S4096x2048.Idx) => ?_)
  · have e := idx t
    rw [flushed6]
    funext y
    refine (congrArg _ (pair _ (y 0) (y 1) rfl rfl)).trans ((eq6 m c t (y 0) (y 1)).trans (congrArg (G6 m c) (pair _ _ _ (Fin.ext ?_) (Fin.ext ?_)).symm))
    · show win0_6.index t (0 : Fin 2) * 256 + 1 * (y 0).val = t.val * 256 + (y 0).val; omega
    · show win0_6.index t (1 : Fin 2) * 2048 + 1 * (y 1).val = (y 1).val; omega
  · have eN : cfg0.N = 16 := N_0
    have h0 : (i 0).val < 4096 := (i 0).isLt
    have h1 : (i 1).val < 2048 := (i 1).isLt
    refine ⟨⟨(i 0).val / 256, by omega⟩, flush0_6 _, ?_⟩
    have e := idx ⟨(i 0).val / 256, by omega⟩
    dsimp only at e
    refine (mem6 _ i).mpr fun a => ?_
    match a with
    | ⟨0, _⟩ => show win0_6.index _ (0 : Fin 2) * 256 ≤ (i 0).val ∧ (i 0).val < win0_6.index _ (0 : Fin 2) * 256 + 256; omega
    | ⟨1, _⟩ => show win0_6.index _ (1 : Fin 2) * 2048 ≤ (i 1).val ∧ (i 1).val < win0_6.index _ (1 : Fin 2) * 2048 + 2048; omega

theorem mem7 (t : Fin cfg0.N) (i : S4096x2048.Idx) : i ∈ ((cfg0.win 7).blk t).view.set ↔
    ∀ a : Fin 2, win0_7.index t a * BR.size a ≤ (i a).val ∧ (i a).val < win0_7.index t a * BR.size a + BR.size a := by
  show i ∈ ((View.whole main_v0_1).slice (win0_7.rect t)).set ↔ _
  rw [View.set_slice_whole, Rect.mem_set_unit]
  exact Iff.rfl

theorem final7 : (dats m 0 c).arrAt 7 cfg0.N = G7 m c := by
  refine (dats m 0 c).arrAt_eq_of_cover 7 _ (fun t hf => ?_) (fun (i : S4096x2048.Idx) => ?_)
  · have e := idx t
    rw [flushed7]
    funext y
    refine (congrArg _ (pair _ (y 0) (y 1) rfl rfl)).trans ((eq7 m c t (y 0) (y 1)).trans (congrArg (G7 m c) (pair _ _ _ (Fin.ext ?_) (Fin.ext ?_)).symm))
    · show win0_7.index t (0 : Fin 2) * 256 + 1 * (y 0).val = t.val * 256 + (y 0).val; omega
    · show win0_7.index t (1 : Fin 2) * 2048 + 1 * (y 1).val = (y 1).val; omega
  · have eN : cfg0.N = 16 := N_0
    have h0 : (i 0).val < 4096 := (i 0).isLt
    have h1 : (i 1).val < 2048 := (i 1).isLt
    refine ⟨⟨(i 0).val / 256, by omega⟩, flush0_7 _, ?_⟩
    have e := idx ⟨(i 0).val / 256, by omega⟩
    dsimp only at e
    refine (mem7 _ i).mpr fun a => ?_
    match a with
    | ⟨0, _⟩ => show win0_7.index _ (0 : Fin 2) * 256 ≤ (i 0).val ∧ (i 0).val < win0_7.index _ (0 : Fin 2) * 256 + 256; omega
    | ⟨1, _⟩ => show win0_7.index _ (1 : Fin 2) * 2048 ≤ (i 1).val ∧ (i 1).val < win0_7.index _ (1 : Fin 2) * 2048 + 2048; omega

theorem mem8 (t : Fin cfg0.N) (i : S1x2048.Idx) : i ∈ ((cfg0.win 8).blk t).view.set ↔
    ∀ a : Fin 2, win0_8.index t a * BV.size a ≤ (i a).val ∧ (i a).val < win0_8.index t a * BV.size a + BV.size a := by
  show i ∈ ((View.whole main_v0_2).slice (win0_8.rect t)).set ↔ _
  rw [View.set_slice_whole, Rect.mem_set_unit]
  exact Iff.rfl

theorem final8 : (dats m 0 c).arrAt 8 cfg0.N = G8 m c := by
  have eN : cfg0.N = 16 := N_0
  refine (dats m 0 c).arrAt_eq_of_cover 8 _ (fun t hf => ?_) (fun (i : S1x2048.Idx) => ?_)
  · have e := idx t
    have ht : t.val = 15 := by have := (flush0_8 t).mp hf; have := lt_of_lt_of_eq t.isLt eN; omega
    obtain rfl : t = ⟨15, lt_of_lt_of_eq (by decide : 15 < 16) eN.symm⟩ := Fin.ext ht
    rw [flushed8]
    funext y
    refine (eq8 m c ((cfg0.win 8).xinj (grid0.coords _) y) _).trans (congrArg (G8 m c) (funext fun a => Fin.ext ?_))
    match a with
    | ⟨0, _⟩ => show (y 0).val = win0_8.index _ (0 : Fin 2) * 1 + 1 * (y 0).val; omega
    | ⟨1, _⟩ => show (y 1).val = win0_8.index _ (1 : Fin 2) * 2048 + 1 * (y 1).val; omega
  · have h0 : (i 0).val < 1 := (i 0).isLt
    have h1 : (i 1).val < 2048 := (i 1).isLt
    refine ⟨⟨15, by omega⟩, (flush0_8 _).mpr rfl, ?_⟩
    have e := idx ⟨15, by omega⟩
    refine (mem8 _ i).mpr fun a => ?_
    match a with
    | ⟨0, _⟩ => show win0_8.index _ (0 : Fin 2) * 1 ≤ (i 0).val ∧ (i 0).val < win0_8.index _ (0 : Fin 2) * 1 + 1; omega
    | ⟨1, _⟩ => show win0_8.index _ (1 : Fin 2) * 2048 ≤ (i 1).val ∧ (i 1).val < win0_8.index _ (1 : Fin 2) * 2048 + 2048; omega

theorem mem9 (t : Fin cfg0.N) (i : S1x2048.Idx) : i ∈ ((cfg0.win 9).blk t).view.set ↔
    ∀ a : Fin 2, win0_9.index t a * BV.size a ≤ (i a).val ∧ (i a).val < win0_9.index t a * BV.size a + BV.size a := by
  show i ∈ ((View.whole main_v0_3).slice (win0_9.rect t)).set ↔ _
  rw [View.set_slice_whole, Rect.mem_set_unit]
  exact Iff.rfl

theorem final9 : (dats m 0 c).arrAt 9 cfg0.N = G9 m c := by
  have eN : cfg0.N = 16 := N_0
  refine (dats m 0 c).arrAt_eq_of_cover 9 _ (fun t hf => ?_) (fun (i : S1x2048.Idx) => ?_)
  · have e := idx t
    have ht : t.val = 15 := by have := (flush0_9 t).mp hf; have := lt_of_lt_of_eq t.isLt eN; omega
    obtain rfl : t = ⟨15, lt_of_lt_of_eq (by decide : 15 < 16) eN.symm⟩ := Fin.ext ht
    rw [flushed9]
    funext y
    refine (eq9 m c ((cfg0.win 9).xinj (grid0.coords _) y) _).trans (congrArg (G9 m c) (funext fun a => Fin.ext ?_))
    match a with
    | ⟨0, _⟩ => show (y 0).val = win0_9.index _ (0 : Fin 2) * 1 + 1 * (y 0).val; omega
    | ⟨1, _⟩ => show (y 1).val = win0_9.index _ (1 : Fin 2) * 2048 + 1 * (y 1).val; omega
  · have h0 : (i 0).val < 1 := (i 0).isLt
    have h1 : (i 1).val < 2048 := (i 1).isLt
    refine ⟨⟨15, by omega⟩, (flush0_9 _).mpr rfl, ?_⟩
    have e := idx ⟨15, by omega⟩
    refine (mem9 _ i).mpr fun a => ?_
    match a with
    | ⟨0, _⟩ => show win0_9.index _ (0 : Fin 2) * 1 ≤ (i 0).val ∧ (i 0).val < win0_9.index _ (0 : Fin 2) * 1 + 1; omega
    | ⟨1, _⟩ => show win0_9.index _ (1 : Fin 2) * 2048 ≤ (i 1).val ∧ (i 1).val < win0_9.index _ (1 : Fin 2) * 2048 + 2048; omega

theorem mem10 (t : Fin cfg0.N) (i : S1x2048.Idx) : i ∈ ((cfg0.win 10).blk t).view.set ↔
    ∀ a : Fin 2, win0_10.index t a * BV.size a ≤ (i a).val ∧ (i a).val < win0_10.index t a * BV.size a + BV.size a := by
  show i ∈ ((View.whole main_v0_4).slice (win0_10.rect t)).set ↔ _
  rw [View.set_slice_whole, Rect.mem_set_unit]
  exact Iff.rfl

theorem final10 : (dats m 0 c).arrAt 10 cfg0.N = G10 m c := by
  have eN : cfg0.N = 16 := N_0
  refine (dats m 0 c).arrAt_eq_of_cover 10 _ (fun t hf => ?_) (fun (i : S1x2048.Idx) => ?_)
  · have e := idx t
    have ht : t.val = 15 := by have := (flush0_10 t).mp hf; have := lt_of_lt_of_eq t.isLt eN; omega
    obtain rfl : t = ⟨15, lt_of_lt_of_eq (by decide : 15 < 16) eN.symm⟩ := Fin.ext ht
    rw [flushed10]
    funext y
    refine (eq10 m c ((cfg0.win 10).xinj (grid0.coords _) y) _).trans (congrArg (G10 m c) (funext fun a => Fin.ext ?_))
    match a with
    | ⟨0, _⟩ => show (y 0).val = win0_10.index _ (0 : Fin 2) * 1 + 1 * (y 0).val; omega
    | ⟨1, _⟩ => show (y 1).val = win0_10.index _ (1 : Fin 2) * 2048 + 1 * (y 1).val; omega
  · have h0 : (i 0).val < 1 := (i 0).isLt
    have h1 : (i 1).val < 2048 := (i 1).isLt
    refine ⟨⟨15, by omega⟩, (flush0_10 _).mpr rfl, ?_⟩
    have e := idx ⟨15, by omega⟩
    refine (mem10 _ i).mpr fun a => ?_
    match a with
    | ⟨0, _⟩ => show win0_10.index _ (0 : Fin 2) * 1 ≤ (i 0).val ∧ (i 0).val < win0_10.index _ (0 : Fin 2) * 1 + 1; omega
    | ⟨1, _⟩ => show win0_10.index _ (1 : Fin 2) * 2048 ≤ (i 1).val ∧ (i 1).val < win0_10.index _ (1 : Fin 2) * 2048 + 2048; omega

theorem mem11 (t : Fin cfg0.N) (i : S1x2048.Idx) : i ∈ ((cfg0.win 11).blk t).view.set ↔
    ∀ a : Fin 2, win0_11.index t a * BV.size a ≤ (i a).val ∧ (i a).val < win0_11.index t a * BV.size a + BV.size a := by
  show i ∈ ((View.whole main_v0_5).slice (win0_11.rect t)).set ↔ _
  rw [View.set_slice_whole, Rect.mem_set_unit]
  exact Iff.rfl

theorem final11 : (dats m 0 c).arrAt 11 cfg0.N = G11 m c := by
  have eN : cfg0.N = 16 := N_0
  refine (dats m 0 c).arrAt_eq_of_cover 11 _ (fun t hf => ?_) (fun (i : S1x2048.Idx) => ?_)
  · have e := idx t
    have ht : t.val = 15 := by have := (flush0_11 t).mp hf; have := lt_of_lt_of_eq t.isLt eN; omega
    obtain rfl : t = ⟨15, lt_of_lt_of_eq (by decide : 15 < 16) eN.symm⟩ := Fin.ext ht
    rw [flushed11]
    funext y
    refine (eq11 m c ((cfg0.win 11).xinj (grid0.coords _) y) _).trans (congrArg (G11 m c) (funext fun a => Fin.ext ?_))
    match a with
    | ⟨0, _⟩ => show (y 0).val = win0_11.index _ (0 : Fin 2) * 1 + 1 * (y 0).val; omega
    | ⟨1, _⟩ => show (y 1).val = win0_11.index _ (1 : Fin 2) * 2048 + 1 * (y 1).val; omega
  · have h0 : (i 0).val < 1 := (i 0).isLt
    have h1 : (i 1).val < 2048 := (i 1).isLt
    refine ⟨⟨15, by omega⟩, (flush0_11 _).mpr rfl, ?_⟩
    have e := idx ⟨15, by omega⟩
    refine (mem11 _ i).mpr fun a => ?_
    match a with
    | ⟨0, _⟩ => show win0_11.index _ (0 : Fin 2) * 1 ≤ (i 0).val ∧ (i 0).val < win0_11.index _ (0 : Fin 2) * 1 + 1; omega
    | ⟨1, _⟩ => show win0_11.index _ (1 : Fin 2) * 2048 ≤ (i 1).val ∧ (i 1).val < win0_11.index _ (1 : Fin 2) * 2048 + 2048; omega

theorem run (ρ : Dev nD → PrngReg) :
    θ_run (defs (F := Ideal)) (onTc (τ := τ) (main (F := Ideal))) ⟨m, fun _ => 0, ρ⟩ fun r => ∀ c : Dev nD,
      r.2.mem ((c : Thread nD τ).loc main_v0_0) = G6 m c
      ∧ r.2.mem ((c : Thread nD τ).loc main_v0_1) = G7 m c
      ∧ r.2.mem ((c : Thread nD τ).loc main_v0_2) = G8 m c
      ∧ r.2.mem ((c : Thread nD τ).loc main_v0_3) = G9 m c
      ∧ r.2.mem ((c : Thread nD τ).loc main_v0_4) = G10 m c
      ∧ r.2.mem ((c : Thread nD τ).loc main_v0_5) = G11 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (final6 m c), (h c).2.1.trans (final7 m c), (h c).2.2.1.trans (final8 m c), (h c).2.2.2.1.trans (final9 m c), (h c).2.2.2.2.1.trans (final10 m c), (h c).2.2.2.2.2.1.trans (final11 m c),
    (h c).2.2.2.2.2.2⟩) (run_blocks m ρ)

end Cert.Kernel26Ideal.Prod

end
-- ==== Proof.NormEndRef.lean ====
/-
The reference of the last norm and the loss's gradient through it: its stages as the norm's row functions, and the claim that the
kernel computes the same six arrays where the gain, the bias and the target are real.
-/
module

public import proofs.«01_k».proof.Defs
public import proofs.«01_k».proof.Proof.NormEnd
public import proofs.«01_k».proof.Proof.ModLnRef

@[expose] public section

noncomputable section

namespace Cert.Reference26Ideal.Prod

open Cert.Reference26Ideal Cert.Norm Cert.Rows Cert.Fold Idealize.ShloMosaic Idealize.ShloMosaic.TcCoe Idealize.SL.Sem Idealize.ShloMosaic.StableHlo
open Cert.Kernel26Ideal.Prod (errs reach share)
open Cert.Reference25Ideal.Prod (from_zero low side)

theorem frame : Cert.quiescent_Reference26Ideal := fun m ρ _ =>
  (θ_run defs _ _).mono (fun r h => ⟨fun c => (h c).2.2.2.2.2.2, sem_eq_zero_of_no_sems (by decide) r.2⟩) (Value.run (F := Ideal) m ρ)

/-- One half, as the program's word. -/
def half : EReal := Ideal.ofBits .f32 0x3F000000#32

theorem half_eq : half = ((1 / 2 : ℝ) : EReal) := by
  simp [half, Ideal.ofBits, Ideal.ieee, -EReal.coe_mul]; norm_num

theorem share_eq : share = ((1 / 2048 : ℝ) : EReal) := by
  simp [share, Ideal.ofBits, Ideal.ieee, -EReal.coe_mul]; norm_num

/-- Half of a mean of squares has the error's share as its slope. -/
theorem slope (e : EReal) : Ideal.div (half * one) len * (two * e) = e * share := by
  rw [← mul_assoc, mul_comm e]
  refine congrArg (· * e) ?_
  unfold one
  rw [half_eq, Cert.Attn.one_word, len_eq, two_eq, share_eq, ← EReal.coe_mul, Cert.Attn.div_real (by norm_num), ← EReal.coe_mul]
  norm_num

section Values

variable (x0 x1 x5 : S4096x2048.Idx → Ideal .f32) (x2 x3 x4 : S1x2048.Idx → Ideal .f32)

theorem mixed : Read.val_main_v6 (F := Ideal) x0 x1 x2 = mix x0 x1 x2 := funext fun i => by
  rw [Read.val_main_v6_apply, Read.val_main_v1_apply, Read.val_main_v5_apply, Read.val_main_v4_apply]
  exact congrArg (fun z => alpha * x0 i + (one + x2 z) * x1 i) (pair _ _ _ rfl rfl)

theorem mean_eq (z : S4096x1.Idx) : Read.val_main_v10 (F := Ideal) x0 x1 x2 z = mean (line (mix x0 x1 x2) (z 0)) := by
  rw [Read.val_main_v10_apply, Read.val_main_v8_apply, Read.val_main_v7_apply, mixed]
  exact congrArg (fun s => Ideal.div s len) (from_zero fun k => congrArg (mix x0 x1 x2) (pair _ _ _ rfl rfl))

theorem dev_eq (i : S4096x2048.Idx) :
    Read.val_main_v12 (F := Ideal) x0 x1 x2 i = dev (line (mix x0 x1 x2) (i 0)) (i 1) := by
  rw [Read.val_main_v12_apply, Read.val_main_v11_apply, mean_eq, mixed]
  exact congrArg (fun s => mix x0 x1 x2 s - mean (line (mix x0 x1 x2) (i 0))) (pair i _ _ rfl rfl)

theorem spread_eq (z : S4096x1.Idx) : Read.val_main_v21 (F := Ideal) x0 x1 x2 z = spreadOf (line (mix x0 x1 x2) (z 0)) := by
  rw [Read.val_main_v21_apply, Read.val_main_v19_apply, Read.val_main_v17_apply, Read.val_main_v16_apply]
  refine congrArg (fun s => Ideal.div s len + eps) (from_zero fun k => ?_)
  rw [Read.val_main_v13_apply, dev_eq]
  rfl

theorem inv_eq (z : S4096x1.Idx) : Read.val_main_v22 (F := Ideal) x0 x1 x2 z = inv (line (mix x0 x1 x2) (z 0)) := by
  rw [Read.val_main_v22_apply, spread_eq]
  rfl

theorem slope_eq (z : S4096x1.Idx) : Read.val_main_v25 (F := Ideal) x0 x1 x2 z
    = negHalf * Ideal.div (inv (line (mix x0 x1 x2) (z 0))) (spreadOf (line (mix x0 x1 x2) (z 0))) := by
  rw [Read.val_main_v25_apply, Read.val_main_v23_apply, inv_eq, spread_eq]
  rfl

theorem hat_eq (i : S4096x2048.Idx) : Read.val_main_v27 (F := Ideal) x0 x1 x2 i = hats (mix x0 x1 x2) i := by
  rw [Read.val_main_v27_apply, Read.val_main_v26_apply, dev_eq, inv_eq]
  rfl

theorem errs_eq : Read.val_main_v32 (F := Ideal) x0 x1 x2 x3 x4 x5 = errs (mix x0 x1 x2) x5 x3 x4 := funext fun i => by
  rw [Read.val_main_v32_apply, Read.val_main_v31_apply, Read.val_main_v29_apply, Read.val_main_v28_apply, Read.val_main_v30_apply, hat_eq]
  exact congrArg₂ (fun p q => (hats (mix x0 x1 x2) i * x3 p + x4 q) - x5 i) (pair _ _ _ rfl rfl) (pair _ _ _ rfl rfl)

theorem reach_eq : Read.val_main_v48 (F := Ideal) x0 x1 x2 x3 x4 x5 = reach (mix x0 x1 x2) x5 x3 x4 := funext fun i => by
  rw [Read.val_main_v48_apply, Read.val_main_v47_apply, Read.val_main_v46_apply, Read.val_main_v44_apply, Read.val_main_v43_apply,
    Read.val_main_v35_apply, errs_eq]
  exact slope (errs (mix x0 x1 x2) x5 x3 x4 i)

theorem scaled_eq : Read.val_main_v55 (F := Ideal) x0 x1 x2 x3 x4 x5 = scaled (reach (mix x0 x1 x2) x5 x3 x4) x3 := funext fun i => by
  rw [Read.val_main_v55_apply, Read.val_main_v54_apply, reach_eq]
  exact congrArg (fun z => reach (mix x0 x1 x2) x5 x3 x4 i * x3 z) (pair _ _ _ rfl rfl)

/-- What the variance passes on to its row. -/
theorem part_eq (z : S4096x1.Idx) : Read.val_main_v63 (F := Ideal) x0 x1 x2 x3 x4 x5 z
    = Ideal.div ((∑ k, dev (line (mix x0 x1 x2) (z 0)) k * line (scaled (reach (mix x0 x1 x2) x5 x3 x4) x3) (z 0) k)
      * (negHalf * Ideal.div (inv (line (mix x0 x1 x2) (z 0))) (spreadOf (line (mix x0 x1 x2) (z 0))))) len := by
  rw [Read.val_main_v63_apply, Read.val_main_v61_apply, Read.val_main_v58_apply, Read.val_main_v57_apply, slope_eq]
  refine congrArg (fun s => Ideal.div (s * (negHalf * Ideal.div (inv (line (mix x0 x1 x2) (z 0))) (spreadOf (line (mix x0 x1 x2) (z 0))))) len)
    (from_zero fun k => ?_)
  rw [Read.val_main_v56_apply, dev_eq, scaled_eq]
  exact congrArg (fun s : S4096x2048.Idx => dev (line (mix x0 x1 x2) (s 0)) (s 1) * scaled (reach (mix x0 x1 x2) x5 x3 x4) x3 s)
    (pair (Read.idx_main_v57 (Read.idx_main_v58 z) k) (z 0) k (side z _) rfl)

theorem inner_eq (i : S4096x2048.Idx) : Read.val_main_v67 (F := Ideal) x0 x1 x2 x3 x4 x5 i
    = inner (line (mix x0 x1 x2) (i 0)) (line (scaled (reach (mix x0 x1 x2) x5 x3 x4) x3) (i 0)) (i 1) := by
  obtain ⟨a, b, rfl⟩ : ∃ a b, i = ix2 a b := ⟨i 0, i 1, pair i _ _ rfl rfl⟩
  rw [Read.val_main_v67_apply, Read.val_main_v60_apply, Read.val_main_v59_apply, Read.val_main_v66_apply, Read.val_main_v15_apply,
    Read.val_main_v65_apply, Read.val_main_v64_apply, dev_eq, inv_eq, scaled_eq]
  exact congrArg (fun s => scaled (reach (mix x0 x1 x2) x5 x3 x4) x3 (ix2 a b) * inv (line (mix x0 x1 x2) a) + s * (two * dev (line (mix x0 x1 x2) a) b))
    ((from_zero fun k => part_eq ..).trans (Fin.sum_univ_one _))

theorem back_eq (z : S4096x1.Idx) : Read.val_main_v72 (F := Ideal) x0 x1 x2 x3 x4 x5 z
    = Ideal.div (∑ k, -inner (line (mix x0 x1 x2) (z 0)) (line (scaled (reach (mix x0 x1 x2) x5 x3 x4) x3) (z 0)) k) len := by
  rw [Read.val_main_v72_apply, Read.val_main_v70_apply, Read.val_main_v69_apply]
  refine congrArg (fun s => Ideal.div s len) (from_zero fun k => ?_)
  rw [Read.val_main_v68_apply, inner_eq, Ideal.hostNegf_def]
  have e : (Read.idx_main_v69 (Read.idx_main_v70 z) k) 0 = z 0 := side z _
  rw [e]
  rfl

/-- The gradient of what is normalised. -/
theorem deriv_eq : Read.val_main_v75 (F := Ideal) x0 x1 x2 x3 x4 x5
    = derivs (mix x0 x1 x2) (scaled (reach (mix x0 x1 x2) x5 x3 x4) x3) := funext fun i => by
  obtain ⟨a, b, rfl⟩ : ∃ a b, i = ix2 a b := ⟨i 0, i 1, pair i _ _ rfl rfl⟩
  rw [Read.val_main_v75_apply, Read.val_main_v74_apply, Read.val_main_v73_apply, inner_eq]
  exact congrArg (fun s => inner (line (mix x0 x1 x2) a) (line (scaled (reach (mix x0 x1 x2) x5 x3 x4) x3) a) b + s)
    ((from_zero fun k => back_eq ..).trans (Fin.sum_univ_one _))

/-! ### The six arrays -/

theorem rows (i : S4096x2048.Idx) : Read.val_main_v82 (F := Ideal) x0 x1 x2 x3 x4 x5 i
    = alpha * derivs (mix x0 x1 x2) (scaled (reach (mix x0 x1 x2) x5 x3 x4) x3) i := by
  rw [Read.val_main_v82_apply, deriv_eq]
  rfl

theorem gated (i : S4096x2048.Idx) : Read.val_main_v83 (F := Ideal) x0 x1 x2 x3 x4 x5 i
    = (one + x2 (ix2 (0 : Fin 1) (i 1))) * derivs (mix x0 x1 x2) (scaled (reach (mix x0 x1 x2) x5 x3 x4) x3) i := by
  rw [Read.val_main_v83_apply, Read.val_main_v77_apply, Read.val_main_v76_apply, deriv_eq]
  exact congrArg (fun z => (one + x2 z) * derivs (mix x0 x1 x2) (scaled (reach (mix x0 x1 x2) x5 x3 x4) x3) i) (pair _ _ _ rfl rfl)

theorem gains (i : S1x2048.Idx) : Read.val_main_v53 (F := Ideal) x0 x1 x2 x3 x4 x5 i
    = ∑ k : Fin 4096, reach (mix x0 x1 x2) x5 x3 x4 (ix2 k (i 1)) * hats (mix x0 x1 x2) (ix2 k (i 1)) := by
  rw [Read.val_main_v53_apply, Read.val_main_v52_apply]
  refine from_zero fun k => ?_
  rw [Read.val_main_v51_apply, hat_eq, reach_eq]
  exact (mul_comm _ _).trans (congrArg (fun s => reach (mix x0 x1 x2) x5 x3 x4 s * hats (mix x0 x1 x2) s) (pair _ _ _ rfl (low i _)))

theorem biases (i : S1x2048.Idx) : Read.val_main_v50 (F := Ideal) x0 x1 x2 x3 x4 x5 i
    = ∑ k : Fin 4096, reach (mix x0 x1 x2) x5 x3 x4 (ix2 k (i 1)) := by
  rw [Read.val_main_v50_apply, Read.val_main_v49_apply, reach_eq]
  exact from_zero fun k => congrArg _ (pair _ _ _ rfl (low i _))

theorem gates (i : S1x2048.Idx) : Read.val_main_v80 (F := Ideal) x0 x1 x2 x3 x4 x5 i
    = ∑ k : Fin 4096, derivs (mix x0 x1 x2) (scaled (reach (mix x0 x1 x2) x5 x3 x4) x3) (ix2 k (i 1)) * x1 (ix2 k (i 1)) := by
  rw [Read.val_main_v80_apply, Read.val_main_v79_apply]
  refine from_zero fun k => ?_
  rw [Read.val_main_v78_apply, deriv_eq]
  exact congrArg (fun s => derivs (mix x0 x1 x2) (scaled (reach (mix x0 x1 x2) x5 x3 x4) x3) s * x1 s) (pair _ _ _ rfl (low i _))

theorem squares (i : S1x2048.Idx) : Read.val_main_v42 (F := Ideal) x0 x1 x2 x3 x4 x5 i
    = ∑ k : Fin 4096, errs (mix x0 x1 x2) x5 x3 x4 (ix2 k (i 1)) * errs (mix x0 x1 x2) x5 x3 x4 (ix2 k (i 1)) := by
  rw [Read.val_main_v42_apply, Read.val_main_v41_apply]
  refine from_zero fun k => ?_
  rw [Read.val_main_v33_apply, errs_eq]
  exact congrArg (fun s => errs (mix x0 x1 x2) x5 x3 x4 s * errs (mix x0 x1 x2) x5 x3 x4 s) (pair _ _ _ rfl rfl)

end Values

/-- By a real gain, bias and target the kernel's rows' gradient, by projection, is the derivative. -/
theorem grad [Cert.Pre_finite_ends.Facts] {m : (ℓ : Loc Cert.Kernel26Ideal.nD Cert.Kernel26Ideal.τ Cert.Kernel26Ideal.sig) → Buf (Elt Ideal) ℓ}
    (h : Cert.Pre_Kernel26Ideal_finite_ends m) (c : Dev Cert.Kernel26Ideal.nD) :
    Cert.Kernel26Ideal.Prod.DU m c
      = derivs (Cert.Kernel26Ideal.Prod.U m c) (scaled (Cert.Kernel26Ideal.Prod.D m c) (Cert.Kernel26Ideal.Prod.G m c)) := by
  obtain ⟨f3, f4, f5⟩ := h c
  have h3 : ∀ i, Rl (Cert.Kernel26Ideal.Prod.G m c i) := fun i => (Cert.Attn.real_of_below (congrFun f3 i)).symm
  have h4 : ∀ i, Rl (Cert.Kernel26Ideal.Prod.B m c i) := fun i => (Cert.Attn.real_of_below (congrFun f4 i)).symm
  have h5 : ∀ i, Rl (Cert.Kernel26Ideal.Prod.Z m c i) := fun i => (Cert.Attn.real_of_below (congrFun f5 i)).symm
  have hs : Rl share := by unfold Rl; rw [share_eq, EReal.toReal_coe]
  exact projs_eq _ fun i => (((((hats_real _ i).mul (h3 _)).add (h4 _)).sub (h5 i)).mul hs).mul (h3 _)

/-- The kernel's six arrays are the reference's. -/
theorem algebraic [Cert.Pre_finite_ends.Facts] : Cert.algebraic_Kernel26Ideal_Reference26Ideal_pre_finite_ends := by
  intro m ρ m' ρ' hp hag
  refine ⟨fun c => Cert.Kernel26Ideal.Prod.G6 m c, fun c => Cert.Kernel26Ideal.Prod.G7 m c, fun c => Cert.Kernel26Ideal.Prod.G8 m c,
    fun c => Cert.Kernel26Ideal.Prod.G9 m c, fun c => Cert.Kernel26Ideal.Prod.G10 m c, fun c => Cert.Kernel26Ideal.Prod.G11 m c,
    Cert.Kernel26Ideal.Prod.run m ρ, (θ_run defs _ _).mono (fun r h c => ?_) (Value.run (F := Ideal) m' ρ')⟩
  obtain ⟨e0, e1, e2, e3, e4, e5⟩ := hag c
  obtain ⟨h0, h1, h2, h3, h4, h5, hr⟩ := h c
  have hD := grad hp c
  rw [Read.val_main_v82_eq, e0, e1, e2, e3, e4, e5] at h0
  rw [Read.val_main_v83_eq, e0, e1, e2, e3, e4, e5] at h1
  rw [Read.val_main_v53_eq, e0, e1, e2, e3, e4, e5] at h2
  rw [Read.val_main_v50_eq, e0, e1, e2, e3, e4, e5] at h3
  rw [Read.val_main_v80_eq, e0, e1, e2, e3, e4, e5] at h4
  rw [Read.val_main_v42_eq, e0, e1, e2, e3, e4, e5] at h5
  exact ⟨h0.trans (funext fun i => (rows ..).trans (congrArg (alpha * ·) (congrFun hD i).symm)),
    h1.trans (funext fun i => (gated ..).trans (congrArg (_ * ·) (congrFun hD i).symm)),
    h2.trans (funext fun i => gains ..), h3.trans (funext fun i => biases ..),
    h4.trans (funext fun i => (gates ..).trans (Finset.sum_congr rfl fun k _ => congrArg (· * _) (congrFun hD _).symm)),
    h5.trans (funext fun i => squares ..), hr⟩

end Cert.Reference26Ideal.Prod

end
-- ==== Proof.SumSmall.lean ====
/-
The small gradients and the losses of the eight devices, packed, added up: the kernel's sums and the reference's.
-/
module

public import proofs.«01_k».proof.Defs
public import proofs.«01_k».proof.Proof.Gen.Kernel27Ideal.Value
public import proofs.«01_k».proof.Proof.Gen.Reference27Ideal.Run
public import proofs.«01_k».proof.Proof.Gen.Reference27Ideal.Read
public import Idealize.ShloMosaic.Lib.Quiescent
public import Idealize.ShloMosaic.Lib.StableHlo.RunRead

@[expose] public section

set_option maxRecDepth 16384

noncomputable section

namespace Cert.Reference27Ideal.Prod

open Cert.Reference27Ideal Idealize.ShloMosaic Idealize.ShloMosaic.TcCoe Idealize.SL.Sem Idealize.ShloMosaic.StableHlo

theorem frame : Cert.quiescent_Reference27Ideal := fun m ρ _ =>
  (θ_run defs _ _).mono (fun r h => ⟨fun c => (h c).2, sem_eq_zero_of_no_sems (by decide) r.2⟩) (Value.run (F := Ideal) m ρ)

/-- Entry `i` of device `k`'s array. -/
def at_ (i : S440x128.Idx) (k : Fin 8) : S8x440x128.Idx := Read.idx_main_v0 i k

/-- The call's entry is the sum over the devices, one after the other. -/
theorem call (a : S8x440x128.Idx → Ideal .f32) (i : S440x128.Idx) :
    Cert.Kernel27Ideal.Value.G1 (F := Ideal) a i = ∑ k : Fin 8, (a (at_ i k) : EReal) := by
  rw [Fin.sum_univ_eight]
  refine (congrFun (View.canon_unit_zero Cert.Kernel27Ideal.Value.hz1 ..) i).symm.trans
    ((Cert.Kernel27Ideal.Value.canon1_eq ..).trans ?_)
  refine congrArg₂ (· + ·) (congrArg₂ (· + ·) (congrArg₂ (· + ·) (congrArg₂ (· + ·) (congrArg₂ (· + ·) (congrArg₂ (· + ·)
    (congrArg₂ (· + ·) ?_ ?_) ?_) ?_) ?_) ?_) ?_) ?_
  all_goals
    exact congrArg a (funext fun d => Fin.ext (match d with
      | ⟨0, _⟩ => rfl
      | ⟨1, _⟩ => (Nat.zero_add _).trans (Nat.one_mul _)
      | ⟨2, _⟩ => (Nat.zero_add _).trans (Nat.one_mul _)))

/-- So is the reference's. -/
theorem sum (a : S8x440x128.Idx → Ideal .f32) : Read.val_main_v0 (F := Ideal) a = Cert.Kernel27Ideal.Value.G1 (F := Ideal) a :=
  funext fun i => by
    rw [Read.val_main_v0_apply, call]
    exact (congrArg (· + _) Ideal.ofBits_zero_f32).trans (zero_add _)

/-- The kernel's sums are the reference's. -/
theorem algebraic : Cert.algebraic_Kernel27Ideal_Reference27Ideal := by
  intro m ρ m' ρ' _ hag
  refine ⟨fun c => _, Cert.Kernel27Ideal.Value.run (F := Ideal) m ρ,
    (θ_run defs _ _).mono (fun r h c => ?_) (Value.run (F := Ideal) m' ρ')⟩
  obtain ⟨h0, hr⟩ := h c
  rw [hag c] at h0
  exact ⟨(h0.trans (Read.val_main_v0_eq ..)).trans (sum ..), hr⟩

end Cert.Reference27Ideal.Prod

end
-- ==== Proof.AdaGrad.lean ====
/-
The gradient of adaLN's weight: the activated vectors of the eight devices times their modulations' gradients, added up; the
kernel's blocks, and the reference's product.
-/
module

public import proofs.«01_k».proof.Defs
public import proofs.«01_k».proof.Proof.Gen.Kernel28Ideal.Value
public import proofs.«01_k».proof.Proof.Gen.Reference28Ideal.Run
public import proofs.«01_k».proof.Proof.Gen.Reference28Ideal.Read
public import Idealize.ShloMosaic.Lib.Quiescent
public import Idealize.ShloMosaic.Lib.StableHlo.RunRead

@[expose] public section

set_option maxRecDepth 16384

noncomputable section

namespace Cert.Kernel28Ideal.Prod

open Cert.Kernel28Ideal Cert.Kernel28Ideal.Gen Cert.Kernel28Ideal.Value Idealize.ShloMosaic
  Idealize.ShloMosaic.TcCoe Idealize.SL.Sem Idealize.ShloMosaic.StableHlo

/-- The activation `x / (1 + exp (-x))`, as a product. -/
def act (x : EReal) : EReal :=
  x * Ideal.div (Ideal.ofBits .f32 0x3F800000#32) (Ideal.ofBits .f32 0x3F800000#32 + Ideal.exp (-x))

/-- The same with the negation written as a difference. -/
theorem act_sub (x : EReal) : x * Ideal.div (Ideal.ofBits .f32 0x3F800000#32)
    (Ideal.ofBits .f32 0x3F800000#32 + Ideal.exp (Ideal.ofBits .f32 0x00000000#32 - x)) = act x := by
  rw [show Ideal.ofBits .f32 0x00000000#32 - x = -x from (congrArg (· - x) Ideal.ofBits_zero_f32).trans (zero_sub x)]
  rfl

/-- Entries of the two arguments. -/
def at0 (i : S2x2048x1536.Idx) (e : Fin 8) : S2048x8.Idx := fun d => match d with
  | ⟨0, _⟩ => i 1
  | ⟨1, _⟩ => e

def at1 (i : S2x2048x1536.Idx) (e : Fin 8) : S2x8x1536.Idx := fun d => match d with
  | ⟨0, _⟩ => i 0
  | ⟨1, _⟩ => e
  | ⟨2, _⟩ => i 2

/-- Entries of their blocks. -/
def in0 (y : S1x512x1536.Idx) (e : Fin 8) : S512x8.Idx := fun d => match d with
  | ⟨0, _⟩ => y 1
  | ⟨1, _⟩ => e

def in1 (y : S1x512x1536.Idx) (e : Fin 8) : S1x8x1536.Idx := fun d => match d with
  | ⟨0, _⟩ => (0 : Fin 1)
  | ⟨1, _⟩ => e
  | ⟨2, _⟩ => y 2

/-- A step's block: the sum over the devices, one after the other. -/
theorem step (a : Vec Ideal S512x8 .f32) (b : Vec Ideal S1x8x1536 .f32) (y : S1x512x1536.Idx) :
    out0_2 (F := Ideal) a b y = ∑ e : Fin 8, act (a (in0 y e)) * (b (in1 y e) : EReal) := by
  rw [Fin.sum_univ_eight]
  refine (canon2_eq ..).trans ?_
  refine congrArg₂ (· + ·) (congrArg₂ (· + ·) (congrArg₂ (· + ·) (congrArg₂ (· + ·) (congrArg₂ (· + ·) (congrArg₂ (· + ·)
    (congrArg₂ (· + ·) ?_ ?_) ?_) ?_) ?_) ?_) ?_) ?_
  all_goals
    refine congrArg₂ (· * ·) ((act_sub _).trans (congrArg (fun i => act (a i)) (funext fun d => Fin.ext (match d with
      | ⟨0, _⟩ => (Nat.zero_add _).trans (Nat.one_mul _)
      | ⟨1, _⟩ => (Nat.zero_add _).trans (Nat.one_mul _)))))
      (congrArg b (funext fun d => Fin.ext (match d with
      | ⟨0, _⟩ => rfl
      | ⟨1, _⟩ => rfl
      | ⟨2, _⟩ => (Nat.zero_add _).trans (Nat.one_mul _))))

/-! ### The blocks -/

theorem idx : ∀ t : Fin cfg0.N, (win0_0.index t (0 : Fin 2) = t.val % 4 ∧ win0_0.index t (1 : Fin 2) = 0)
    ∧ (win0_1.index t (0 : Fin 3) = t.val / 4 ∧ win0_1.index t (1 : Fin 3) = 0 ∧ win0_1.index t (2 : Fin 3) = 0)
    ∧ (win0_2.index t (0 : Fin 3) = t.val / 4 ∧ win0_2.index t (1 : Fin 3) = t.val % 4 ∧ win0_2.index t (2 : Fin 3) = 0) :=
  (by decide +kernel : ∀ t : Fin grid0.N, _)

variable (m : (ℓ : Loc nD τ sig) → Buf (Elt Ideal) ℓ) (c : Dev nD)

/-- The kernel's two arguments, and the result. -/
def C : S2048x8.Idx → EReal := m ((c : Thread nD τ).loc main_arg0)
def D : S2x8x1536.Idx → EReal := m ((c : Thread nD τ).loc main_arg1)

def G (i : S2x2048x1536.Idx) : EReal := ∑ e : Fin 8, act (C m c (at0 i e)) * D m c (at1 i e)

/-- Entry `y` of step `t`'s block, in the result. -/
def at_ (t : Fin cfg0.N) (y : S1x512x1536.Idx) : S2x2048x1536.Idx := fun d => match d with
  | ⟨0, _⟩ => (⟨t.val / 4, by have h := t.isLt; have e : cfg0.N = 8 := N_0; omega⟩ : Fin 2)
  | ⟨1, _⟩ => (⟨t.val % 4 * 512 + (y 1).val, by have h : (y 1).val < 512 := (y 1).isLt; omega⟩ : Fin 2048)
  | ⟨2, _⟩ => y 2

theorem read0 (t : Fin cfg0.N) (y : S1x512x1536.Idx) (e : Fin 8) :
    (iblk m c 0 t : Vec Ideal S512x8 .f32) (in0 y e) = C m c (at0 (at_ t y) e) := by
  have h := idx t
  refine congrArg (V m c main_arg0) (funext fun b => Fin.ext ?_) |>.trans (congrFun (V_main_arg0 m c) (at0 (at_ t y) e))
  match b with
  | ⟨0, _⟩ => show win0_0.index t (0 : Fin 2) * 512 + 1 * (y 1).val = t.val % 4 * 512 + (y 1).val; omega
  | ⟨1, _⟩ => show win0_0.index t (1 : Fin 2) * 8 + 1 * e.val = e.val; omega

theorem read1 (t : Fin cfg0.N) (y : S1x512x1536.Idx) (e : Fin 8) :
    (iblk m c 1 t : Vec Ideal S1x8x1536 .f32) (in1 y e) = D m c (at1 (at_ t y) e) := by
  have h := idx t
  refine congrArg (V m c main_arg1) (funext fun b => Fin.ext ?_) |>.trans (congrFun (V_main_arg1 m c) (at1 (at_ t y) e))
  match b with
  | ⟨0, _⟩ => show win0_1.index t (0 : Fin 3) * 1 + 1 * 0 = t.val / 4; omega
  | ⟨1, _⟩ => show win0_1.index t (1 : Fin 3) * 8 + 1 * e.val = e.val; omega
  | ⟨2, _⟩ => show win0_1.index t (2 : Fin 3) * 1536 + 1 * (y 2).val = (y 2).val; omega

theorem eq (t : Fin cfg0.N) (y : S1x512x1536.Idx) :
    out0_2 (F := Ideal) (iblk m c 0 t) (iblk m c 1 t) y = G m c (at_ t y) :=
  (step _ _ y).trans (Finset.sum_congr rfl fun e _ => congrArg₂ (fun p q => act p * q) (read0 m c t y e) (read1 m c t y e))

theorem mem (t : Fin cfg0.N) (i : S2x2048x1536.Idx) : i ∈ ((cfg0.win 2).blk t).view.set ↔
    ∀ a : Fin 3, win0_2.index t a * S1x512x1536.size a ≤ (i a).val
      ∧ (i a).val < win0_2.index t a * S1x512x1536.size a + S1x512x1536.size a := by
  show i ∈ ((View.whole main_v0).slice (win0_2.rect t)).set ↔ _
  rw [View.set_slice_whole, Rect.mem_set_unit]
  exact Iff.rfl

theorem final : (dats m 0 c).arrAt 2 cfg0.N = G m c := by
  refine (dats m 0 c).arrAt_eq_of_cover 2 _ (fun t hf => ?_) (fun i => ?_)
  · have e := idx t
    rw [flushed2]
    funext y
    have h0 : (y 0).val < 1 := (y 0).isLt
    refine (eq m c t ((cfg0.win 2).xinj (grid0.coords t) y)).trans (congrArg (G m c) (funext fun a => Fin.ext ?_))
    match a with
    | ⟨0, _⟩ => show t.val / 4 = win0_2.index t (0 : Fin 3) * 1 + 1 * (y 0).val; omega
    | ⟨1, _⟩ => show t.val % 4 * 512 + (y 1).val = win0_2.index t (1 : Fin 3) * 512 + 1 * (y 1).val; omega
    | ⟨2, _⟩ => show (y 2).val = win0_2.index t (2 : Fin 3) * 1536 + 1 * (y 2).val; omega
  · have eN : cfg0.N = 8 := N_0
    have h0 : (i 0).val < 2 := (i 0).isLt
    have h1 : (i 1).val < 2048 := (i 1).isLt
    have h2 : (i 2).val < 1536 := (i 2).isLt
    refine ⟨⟨(i 0).val * 4 + (i 1).val / 512, by omega⟩, flush0_2 _, ?_⟩
    have e := idx ⟨(i 0).val * 4 + (i 1).val / 512, by omega⟩
    dsimp only at e
    refine (mem _ i).mpr fun a => ?_
    match a with
    | ⟨0, _⟩ => show win0_2.index _ (0 : Fin 3) * 1 ≤ (i 0).val ∧ (i 0).val < win0_2.index _ (0 : Fin 3) * 1 + 1; omega
    | ⟨1, _⟩ => show win0_2.index _ (1 : Fin 3) * 512 ≤ (i 1).val ∧ (i 1).val < win0_2.index _ (1 : Fin 3) * 512 + 512; omega
    | ⟨2, _⟩ => show win0_2.index _ (2 : Fin 3) * 1536 ≤ (i 2).val ∧ (i 2).val < win0_2.index _ (2 : Fin 3) * 1536 + 1536; omega

end Cert.Kernel28Ideal.Prod

namespace Cert.Reference28Ideal.Prod

open Cert.Reference28Ideal Cert.Kernel28Ideal.Prod Idealize.ShloMosaic Idealize.ShloMosaic.TcCoe Idealize.SL.Sem
  Idealize.ShloMosaic.StableHlo

theorem frame : Cert.quiescent_Reference28Ideal := fun m ρ _ =>
  (θ_run defs _ _).mono (fun r h => ⟨fun c => (h c).2, sem_eq_zero_of_no_sems (by decide) r.2⟩) (Value.run (F := Ideal) m ρ)

/-- The activated vectors, entry by entry. -/
theorem active (a : S2048x8.Idx → Ideal .f32) (i : S8x2048.Idx) :
    Read.val_main_v2 (F := Ideal) a i = act (a (Read.idx_main_v0 i)) := by
  rw [Read.val_main_v2_apply, Read.val_main_call0_v5_apply, Read.val_main_call0_v4_apply, Read.val_main_call0_cst_0_apply,
    Read.val_main_call0_v3_apply, Read.val_main_call0_v2_apply, Read.val_main_call0_cst_apply, Read.val_main_call0_v1_apply,
    Read.val_main_call0_v0_apply, Read.val_main_v0_apply]
  rfl

/-- The reference's product is the same sum. -/
theorem product (a : S2048x8.Idx → Ideal .f32) (b : S2x8x1536.Idx → Ideal .f32) (i : S2x2048x1536.Idx) :
    Read.val_main_v7 (F := Ideal) a b i = ∑ e : Fin 8, act (a (at0 i e)) * (b (at1 i e) : EReal) := by
  rw [Read.val_main_v7_apply, Read.val_main_v6_apply]
  refine Finset.sum_congr rfl fun e _ => ?_
  rw [Read.val_main_v5_apply, active, mul_comm]
  refine congrArg₂ (fun p q => act (a p) * b q) (funext fun d => ?_) (funext fun d => ?_)
  · match d with
    | ⟨0, _⟩ => rfl
    | ⟨1, _⟩ => rfl
  · match d with
    | ⟨0, _⟩ => rfl
    | ⟨1, _⟩ => rfl
    | ⟨2, _⟩ => rfl

/-- The kernel's gradient is the reference's. -/
theorem algebraic : Cert.algebraic_Kernel28Ideal_Reference28Ideal := by
  intro m ρ m' ρ' _ hag
  refine ⟨fun c => _, Cert.Kernel28Ideal.Value.run_blocks (F := Ideal) m ρ,
    (θ_run defs _ _).mono (fun r h c => ?_) (Value.run (F := Ideal) m' ρ')⟩
  obtain ⟨h0, hr⟩ := h c
  rw [(hag c).1, (hag c).2] at h0
  exact ⟨((h0.trans (Read.val_main_v7_eq ..)).trans (funext fun i => product _ _ i)).trans
    (Cert.Kernel28Ideal.Prod.final m c).symm, hr⟩

end Cert.Reference28Ideal.Prod

end
-- ==== Proof.GxInDt.lean ====
/-
The step sizes' product in the scan mixer, for its input: the kernel's product, block by block, and the reference's.
-/
module

public import proofs.«01_k».proof.Defs
public import proofs.«01_k».proof.Proof.Fold
public import proofs.«01_k».proof.Proof.Gen.Kernel29Ideal.Value
public import proofs.«01_k».proof.Proof.Gen.Reference29Ideal.Run
public import proofs.«01_k».proof.Proof.Gen.Reference29Ideal.Read
public import Idealize.ShloMosaic.Lib.Quiescent
public import Idealize.ShloMosaic.Lib.StableHlo.RunRead

@[expose] public section

set_option maxRecDepth 16384

noncomputable section

namespace Cert.Kernel29Ideal.Prod

open Cert.Kernel29Ideal Cert.Kernel29Ideal.Gen Cert.Kernel29Ideal.Value Cert.Fold Idealize.ShloMosaic
  Idealize.ShloMosaic.TcCoe Idealize.SL.Sem Idealize.ShloMosaic.StableHlo

/-- A step writes its block's product; the whole depth of 128 is in one block. -/
theorem step (x : Vec Ideal S1024x128 .f32) (w : Vec Ideal S128x1024 .bf16) (y : S1024x1024.Idx) :
    out0_2 (F := Ideal) x w y = ∑ k : Fin 128, (x (ix2 (y 0) k) : EReal) * w (ix2 k (y 1)) := by
  unfold out0_2
  rw [View.canon_unit_zero hz]
  simp only [View.ld_unit_zero (S := S1024x128) hz, View.ld_unit_zero (S := S128x1024) hz]
  exact (Ideal.matmul_apply₁_of dot_S1024x128_S128x1024_S1024x1024_1_0_0_1_n_n (a := (1 : Fin 2)) rfl (K := 128) rfl x _ _ y
    (fun k => ix2 (y 0) k) (fun k => ix2 k (y 1))
    (fun k => funext fun d => match d with | ⟨0, _⟩ => rfl | ⟨1, _⟩ => rfl)
    (fun k => funext fun d => match d with | ⟨0, _⟩ => rfl | ⟨1, _⟩ => rfl)).trans
    ((congrArg (· + _) Ideal.ofBits_zero_f32).trans (zero_add _))

theorem idx : ∀ t : Fin cfg0.N, (win0_0.index t (0 : Fin 2) = t.val / 2 ∧ win0_0.index t (1 : Fin 2) = 0)
    ∧ (win0_1.index t (0 : Fin 2) = 0 ∧ win0_1.index t (1 : Fin 2) = t.val % 2)
    ∧ (win0_2.index t (0 : Fin 2) = t.val / 2 ∧ win0_2.index t (1 : Fin 2) = t.val % 2) :=
  (by decide +kernel : ∀ t : Fin grid0.N, _)

variable (m : (ℓ : Loc nD τ sig) → Buf (Elt Ideal) ℓ) (c : Dev nD)

/-- The kernel's two arguments, and the result. -/
def X : S4096x128.Idx → EReal := m ((c : Thread nD τ).loc main_arg0)
def W : S128x2048.Idx → EReal := m ((c : Thread nD τ).loc main_arg1)

def G (i : S4096x2048.Idx) : EReal := ∑ k : Fin 128, X m c (ix2 (i 0) k) * W m c (ix2 k (i 1))

/-- What a step writes is its block of the result. -/
theorem block (t : Fin cfg0.N) (y : S1024x1024.Idx) (i : S4096x2048.Idx) (h0 : (i 0).val = t.val / 2 * 1024 + (y 0).val)
    (h1 : (i 1).val = t.val % 2 * 1024 + (y 1).val) : out0_2 (F := Ideal) (iblk m c 0 t) (iblk m c 1 t) y = G m c i := by
  have e := idx t
  refine (step _ _ y).trans (Finset.sum_congr rfl fun k _ => congrArg₂ (· * ·)
    ((congrArg (V m c main_arg0) (funext fun b => Fin.ext ?_)).trans (congrFun (V_main_arg0 m c) (ix2 (i 0) k)))
    ((congrArg (V m c main_arg1) (funext fun b => Fin.ext ?_)).trans (congrFun (V_main_arg1 m c) (ix2 k (i 1)))))
  · match b with
    | ⟨0, _⟩ => show win0_0.index t (0 : Fin 2) * 1024 + 1 * (y 0).val = (i 0).val; omega
    | ⟨1, _⟩ => show win0_0.index t (1 : Fin 2) * 128 + 1 * k.val = k.val; omega
  · match b with
    | ⟨0, _⟩ => show win0_1.index t (0 : Fin 2) * 128 + 1 * k.val = k.val; omega
    | ⟨1, _⟩ => show win0_1.index t (1 : Fin 2) * 1024 + 1 * (y 1).val = (i 1).val; omega

theorem mem (t : Fin cfg0.N) (i : S4096x2048.Idx) : i ∈ ((cfg0.win 2).blk t).view.set ↔
    ∀ a : Fin 2, win0_2.index t a * S1024x1024.size a ≤ (i a).val
      ∧ (i a).val < win0_2.index t a * S1024x1024.size a + S1024x1024.size a := by
  show i ∈ ((View.whole main_v0).slice (win0_2.rect t)).set ↔ _
  rw [View.set_slice_whole, Rect.mem_set_unit]
  exact Iff.rfl

/-- The blocks tile the result. -/
theorem final : (dats m 0 c).arrAt 2 cfg0.N = G m c := by
  refine (dats m 0 c).arrAt_eq_of_cover 2 _ (fun t hf => ?_) (fun i => ?_)
  · have e := idx t
    rw [flushed2]
    funext y
    refine block m c t ((cfg0.win 2).xinj (grid0.coords t) y) _ ?_ ?_
    · show win0_2.index t (0 : Fin 2) * 1024 + 1 * (y 0).val = t.val / 2 * 1024 + (y 0).val; omega
    · show win0_2.index t (1 : Fin 2) * 1024 + 1 * (y 1).val = t.val % 2 * 1024 + (y 1).val; omega
  · have eN : cfg0.N = 8 := N_0
    have h0 : (i 0).val < 4096 := (i 0).isLt
    have h1 : (i 1).val < 2048 := (i 1).isLt
    refine ⟨⟨(i 0).val / 1024 * 2 + (i 1).val / 1024, by omega⟩, flush0_2 _, (mem _ i).mpr fun a => ?_⟩
    have e := idx ⟨(i 0).val / 1024 * 2 + (i 1).val / 1024, by omega⟩
    dsimp only at e
    match a with
    | ⟨0, _⟩ => show win0_2.index _ (0 : Fin 2) * 1024 ≤ (i 0).val ∧ (i 0).val < win0_2.index _ (0 : Fin 2) * 1024 + 1024; omega
    | ⟨1, _⟩ => show win0_2.index _ (1 : Fin 2) * 1024 ≤ (i 1).val ∧ (i 1).val < win0_2.index _ (1 : Fin 2) * 1024 + 1024; omega

end Cert.Kernel29Ideal.Prod

namespace Cert.Reference29Ideal.Prod

open Cert.Reference29Ideal Cert.Fold Idealize.ShloMosaic Idealize.ShloMosaic.TcCoe Idealize.SL.Sem Idealize.ShloMosaic.StableHlo

theorem frame : Cert.quiescent_Reference29Ideal := fun m ρ _ =>
  (θ_run defs _ _).mono (fun r h => ⟨fun c => (h c).2, sem_eq_zero_of_no_sems (by decide) r.2⟩) (Value.run (F := Ideal) m ρ)

theorem apply (x : S4096x128.Idx → Ideal .f32) (w : S128x2048.Idx → Ideal .bf16) (i : S4096x2048.Idx) :
    Read.val_main_v4 (F := Ideal) x w i = ∑ k : Fin 128, (x (ix2 (i 0) k) : EReal) * w (ix2 k (i 1)) := by
  rw [Read.val_main_v4_apply]
  refine Finset.sum_congr rfl fun k _ => ?_
  rw [Read.val_main_v2_apply]
  exact congrArg₂ (fun p q => (x p : EReal) * w q) (funext fun d => match d with | ⟨0, _⟩ => rfl | ⟨1, _⟩ => rfl)
    (funext fun d => match d with | ⟨0, _⟩ => rfl | ⟨1, _⟩ => rfl)

/-- The kernel's gradient is the reference's. -/
theorem algebraic : Cert.algebraic_Kernel29Ideal_Reference29Ideal := by
  intro m ρ m' ρ' _ hag
  refine ⟨fun c => _, Cert.Kernel29Ideal.Value.run_blocks (F := Ideal) m ρ,
    (θ_run defs _ _).mono (fun r h c => ?_) (Value.run (F := Ideal) m' ρ')⟩
  obtain ⟨h0, hr⟩ := h c
  rw [(hag c).1, (hag c).2] at h0
  exact ⟨((h0.trans (Read.val_main_v4_eq ..)).trans (funext fun i => apply _ _ i)).trans
    (Cert.Kernel29Ideal.Prod.final m c).symm, hr⟩

end Cert.Reference29Ideal.Prod

end
-- ==== Proof.InDt.lean ====
/-
The step sizes' product in the scan mixer, forward: the kernel's product, block by block, and the reference's.
-/
module

public import proofs.«01_k».proof.Defs
public import proofs.«01_k».proof.Proof.Fold
public import proofs.«01_k».proof.Proof.Gen.Kernel30Ideal.Value
public import proofs.«01_k».proof.Proof.Gen.Reference30Ideal.Run
public import proofs.«01_k».proof.Proof.Gen.Reference30Ideal.Read
public import Idealize.ShloMosaic.Lib.Quiescent
public import Idealize.ShloMosaic.Lib.StableHlo.RunRead

@[expose] public section

set_option maxRecDepth 16384

noncomputable section

namespace Cert.Kernel30Ideal.Prod

open Cert.Kernel30Ideal Cert.Kernel30Ideal.Gen Cert.Kernel30Ideal.Value Cert.Fold Idealize.ShloMosaic
  Idealize.ShloMosaic.TcCoe Idealize.SL.Sem Idealize.ShloMosaic.StableHlo

/-- A step writes its block's product; the whole depth of 2048 is in one block. -/
theorem step (x : Vec Ideal S1024x2048 .bf16) (w : Vec Ideal S128x2048 .bf16) (y : S1024x128.Idx) :
    out0_2 (F := Ideal) x w y = ∑ k : Fin 2048, (x (ix2 (y 0) k) : EReal) * w (ix2 (y 1) k) := by
  unfold out0_2
  rw [View.canon_unit_zero hz]
  simp only [View.ld_unit_zero (S := S1024x2048) hz, View.ld_unit_zero (S := S128x2048) hz]
  exact (Ideal.matmul_apply₁_of dot_S1024x2048_S128x2048_S1024x128_1_1_0_0_n_n (a := (1 : Fin 2)) rfl (K := 2048) rfl x _ _ y
    (fun k => ix2 (y 0) k) (fun k => ix2 (y 1) k)
    (fun k => funext fun d => match d with | ⟨0, _⟩ => rfl | ⟨1, _⟩ => rfl)
    (fun k => funext fun d => match d with | ⟨0, _⟩ => rfl | ⟨1, _⟩ => rfl)).trans
    ((congrArg (· + _) Ideal.ofBits_zero_f32).trans (zero_add _))

theorem idx : ∀ t : Fin cfg0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0) :=
  (by decide +kernel : ∀ t : Fin grid0.N, _)

variable (m : (ℓ : Loc nD τ sig) → Buf (Elt Ideal) ℓ) (c : Dev nD)

/-- The kernel's two arguments, and the result. -/
def X : S4096x2048.Idx → EReal := m ((c : Thread nD τ).loc main_arg0)
def W : S128x2048.Idx → EReal := m ((c : Thread nD τ).loc main_arg1)

def G (i : S4096x128.Idx) : EReal := ∑ k : Fin 2048, X m c (ix2 (i 0) k) * W m c (ix2 (i 1) k)

/-- What a step writes is its block of the result. -/
theorem block (t : Fin cfg0.N) (y : S1024x128.Idx) (i : S4096x128.Idx) (h0 : (i 0).val = t.val * 1024 + (y 0).val)
    (h1 : (i 1).val = (y 1).val) : out0_2 (F := Ideal) (iblk m c 0 t) (iblk m c 1 t) y = G m c i := by
  have e := idx t
  refine (step _ _ y).trans (Finset.sum_congr rfl fun k _ => congrArg₂ (· * ·)
    ((congrArg (V m c main_arg0) (funext fun b => Fin.ext ?_)).trans (congrFun (V_main_arg0 m c) (ix2 (i 0) k)))
    ((congrArg (V m c main_arg1) (funext fun b => Fin.ext ?_)).trans (congrFun (V_main_arg1 m c) (ix2 (i 1) k))))
  · match b with
    | ⟨0, _⟩ => show win0_0.index t (0 : Fin 2) * 1024 + 1 * (y 0).val = (i 0).val; omega
    | ⟨1, _⟩ => show win0_0.index t (1 : Fin 2) * 2048 + 1 * k.val = k.val; omega
  · match b with
    | ⟨0, _⟩ => show win0_1.index t (0 : Fin 2) * 128 + 1 * (y 1).val = (i 1).val; omega
    | ⟨1, _⟩ => show win0_1.index t (1 : Fin 2) * 2048 + 1 * k.val = k.val; omega

theorem mem (t : Fin cfg0.N) (i : S4096x128.Idx) : i ∈ ((cfg0.win 2).blk t).view.set ↔
    ∀ a : Fin 2, win0_2.index t a * S1024x128.size a ≤ (i a).val
      ∧ (i a).val < win0_2.index t a * S1024x128.size a + S1024x128.size a := by
  show i ∈ ((View.whole main_v0).slice (win0_2.rect t)).set ↔ _
  rw [View.set_slice_whole, Rect.mem_set_unit]
  exact Iff.rfl

/-- The blocks tile the result. -/
theorem final : (dats m 0 c).arrAt 2 cfg0.N = G m c := by
  refine (dats m 0 c).arrAt_eq_of_cover 2 _ (fun t hf => ?_) (fun i => ?_)
  · have e := idx t
    rw [flushed2]
    funext y
    refine block m c t ((cfg0.win 2).xinj (grid0.coords t) y) _ ?_ ?_
    · show win0_2.index t (0 : Fin 2) * 1024 + 1 * (y 0).val = t.val * 1024 + (y 0).val; omega
    · show win0_2.index t (1 : Fin 2) * 128 + 1 * (y 1).val = (y 1).val; omega
  · have eN : cfg0.N = 4 := N_0
    have h0 : (i 0).val < 4096 := (i 0).isLt
    have h1 : (i 1).val < 128 := (i 1).isLt
    refine ⟨⟨(i 0).val / 1024, by omega⟩, flush0_2 _, (mem _ i).mpr fun a => ?_⟩
    have e := idx ⟨(i 0).val / 1024, by omega⟩
    dsimp only at e
    match a with
    | ⟨0, _⟩ => show win0_2.index _ (0 : Fin 2) * 1024 ≤ (i 0).val ∧ (i 0).val < win0_2.index _ (0 : Fin 2) * 1024 + 1024; omega
    | ⟨1, _⟩ => show win0_2.index _ (1 : Fin 2) * 128 ≤ (i 1).val ∧ (i 1).val < win0_2.index _ (1 : Fin 2) * 128 + 128; omega

end Cert.Kernel30Ideal.Prod

namespace Cert.Reference30Ideal.Prod

open Cert.Reference30Ideal Cert.Fold Idealize.ShloMosaic Idealize.ShloMosaic.TcCoe Idealize.SL.Sem Idealize.ShloMosaic.StableHlo

theorem frame : Cert.quiescent_Reference30Ideal := fun m ρ _ =>
  (θ_run defs _ _).mono (fun r h => ⟨fun c => (h c).2, sem_eq_zero_of_no_sems (by decide) r.2⟩) (Value.run (F := Ideal) m ρ)

theorem apply (x : S4096x2048.Idx → Ideal .bf16) (w : S128x2048.Idx → Ideal .bf16) (i : S4096x128.Idx) :
    Read.val_main_v3 (F := Ideal) x w i = ∑ k : Fin 2048, (x (ix2 (i 0) k) : EReal) * w (ix2 (i 1) k) := by
  rw [Read.val_main_v3_apply]
  refine Finset.sum_congr rfl fun k _ => ?_
  rw [Read.val_main_v2_apply]
  exact congrArg₂ (fun p q => (x p : EReal) * w q) (funext fun d => match d with | ⟨0, _⟩ => rfl | ⟨1, _⟩ => rfl)
    (funext fun d => match d with | ⟨0, _⟩ => rfl | ⟨1, _⟩ => rfl)

/-- The kernel's product is the reference's. -/
theorem algebraic : Cert.algebraic_Kernel30Ideal_Reference30Ideal := by
  intro m ρ m' ρ' _ hag
  refine ⟨fun c => _, Cert.Kernel30Ideal.Value.run_blocks (F := Ideal) m ρ,
    (θ_run defs _ _).mono (fun r h c => ?_) (Value.run (F := Ideal) m' ρ')⟩
  obtain ⟨h0, hr⟩ := h c
  rw [(hag c).1, (hag c).2] at h0
  exact ⟨((h0.trans (Read.val_main_v3_eq ..)).trans (funext fun i => apply _ _ i)).trans
    (Cert.Kernel30Ideal.Prod.final m c).symm, hr⟩

end Cert.Reference30Ideal.Prod

end
-- ==== Proof.lean ====
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Results
public import proofs.«01_k».proof.Proof.Gen.Kernel2.Frame
public import proofs.«01_k».proof.Proof.Gen.Kernel3.Frame
public import proofs.«01_k».proof.Proof.Gen.Kernel4.Frame
public import proofs.«01_k».proof.Proof.Gen.Kernel5.Frame
public import proofs.«01_k».proof.Proof.Gen.Kernel6.Frame
public import proofs.«01_k».proof.Proof.Gen.Kernel7.Frame
public import proofs.«01_k».proof.Proof.Gen.Kernel8.Frame
public import proofs.«01_k».proof.Proof.Gen.Kernel9.Frame
public import proofs.«01_k».proof.Proof.Gen.Kernel10.Frame
public import proofs.«01_k».proof.Proof.Gen.Kernel11.Frame
public import proofs.«01_k».proof.Proof.Gen.Kernel12.Frame
public import proofs.«01_k».proof.Proof.Gen.Kernel13.Frame
public import proofs.«01_k».proof.Proof.Gen.Kernel14.Frame
public import proofs.«01_k».proof.Proof.Gen.Kernel15.Frame
public import proofs.«01_k».proof.Proof.Gen.Kernel16.Frame
public import proofs.«01_k».proof.Proof.Gen.Kernel17.Frame
public import proofs.«01_k».proof.Proof.Gen.Kernel18.Frame
public import proofs.«01_k».proof.Proof.Gen.Kernel19.Frame
public import proofs.«01_k».proof.Proof.Gen.Kernel20.Frame
public import proofs.«01_k».proof.Proof.Gen.Kernel21.Frame
public import proofs.«01_k».proof.Proof.Gen.Kernel22.Frame
public import proofs.«01_k».proof.Proof.Gen.Kernel23.Frame
public import proofs.«01_k».proof.Proof.Gen.Kernel24.Frame
public import proofs.«01_k».proof.Proof.GxInZx
public import proofs.«01_k».proof.Proof.GwInZx
public import proofs.«01_k».proof.Proof.GxKv
public import proofs.«01_k».proof.Proof.GwKv
public import proofs.«01_k».proof.Proof.GwOutA
public import proofs.«01_k».proof.Proof.GxOutA
public import proofs.«01_k».proof.Proof.GwInB
public import proofs.«01_k».proof.Proof.GxInB
public import proofs.«01_k».proof.Proof.GwOutB
public import proofs.«01_k».proof.Proof.GxOutB
public import proofs.«01_k».proof.Proof.InZx
public import proofs.«01_k».proof.Proof.OutA
public import proofs.«01_k».proof.Proof.ZB
public import proofs.«01_k».proof.Proof.OutB
public import proofs.«01_k».proof.Proof.KvA
public import proofs.«01_k».proof.Proof.QA
public import proofs.«01_k».proof.Proof.KvB
public import proofs.«01_k».proof.Proof.QB
public import proofs.«01_k».proof.Proof.KvC
public import proofs.«01_k».proof.Proof.QC
public import proofs.«01_k».proof.Proof.ModBack
public import proofs.«01_k».proof.Proof.AdamA
public import proofs.«01_k».proof.Proof.AdamB
public import proofs.«01_k».proof.Proof.Gen.Kernel25.Frame
public import proofs.«01_k».proof.Proof.ModLnRef
public import proofs.«01_k».proof.Proof.NormEndRef
public import proofs.«01_k».proof.Proof.SumSmall
public import proofs.«01_k».proof.Proof.Gen.Kernel27.Frame
public import proofs.«01_k».proof.Proof.AdaGrad
public import proofs.«01_k».proof.Proof.Gen.Kernel28.Frame
public import proofs.«01_k».proof.Proof.GxInDt
public import proofs.«01_k».proof.Proof.Gen.Kernel29.Frame
public import proofs.«01_k».proof.Proof.InDt
public import proofs.«01_k».proof.Proof.Gen.Kernel30.Frame
public import proofs.«01_k».proof.Proof.Gen.Kernel26.Frame
public import proofs.«01_k».proof.Proof.Gen.Pre_finite
public import proofs.«01_k».proof.Proof.Gen.Pre_finite_rows
public import proofs.«01_k».proof.Proof.Gen.Pre_finite_ends
public import Idealize.ShloMosaic.Lib.Quiescent

@[expose] public section

noncomputable section

namespace Cert.Proof

open Idealize.ShloMosaic Idealize.ShloMosaic.StableHlo Idealize.SL.Sem

/-- The reference runs, leaves its arguments as they were and, having no semaphores, ends with none raised. -/
theorem frame_reference : Cert.quiescent_ReferenceIdeal := fun m ρ _ =>
  (θ_run Cert.ReferenceIdeal.defs _ _).mono
    (fun r h => ⟨fun c => (h c).2.2.2, sem_eq_zero_of_no_sems (by decide) r.2⟩)
    (Cert.ReferenceIdeal.Value.run (F := Ideal) m ρ)

open Cert.KernelIdeal.Host in
/-- Under the precondition every argument is an array of real numbers. -/
theorem args_real (m : (ℓ : Loc Cert.KernelIdeal.nD Cert.KernelIdeal.τ Cert.KernelIdeal.sig) → Buf (Elt Ideal) ℓ)
    (h : Cert.Pre_KernelIdeal_finite m) (c : Dev Cert.KernelIdeal.nD) :
    Cert.KernelIdeal.Blocks.Args m c (fun i => (arg0 m c i).toReal) (fun i => (arg1 m c i).toReal)
      (fun i => (arg2 m c i).toReal) (fun i => (arg3 m c i).toReal) (fun i => (arg4 m c i).toReal) where
  q := funext fun i => (Cert.Attn.real_of_below (congrFun (h c).1 i)).symm
  k := funext fun i => (Cert.Attn.real_of_below (congrFun (h c).2.1 i)).symm
  v := funext fun i => (Cert.Attn.real_of_below (congrFun (h c).2.2.1 i)).symm
  g := funext fun i => (Cert.Attn.real_of_below (congrFun (h c).2.2.2.1 i)).symm
  l := funext fun i => (Cert.Attn.real_of_below (congrFun (h c).2.2.2.2 i)).symm

section
open Cert.ReferenceIdeal

/-- The reference's run, its three results named as the stages of its arguments. -/
theorem run_reference (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v188) = Read.val_main_v188 (F := Ideal) (m ((c.tc : Thread nD τ).loc main_arg0))
        (m ((c.tc : Thread nD τ).loc main_arg1)) (m ((c.tc : Thread nD τ).loc main_arg2))
        (m ((c.tc : Thread nD τ).loc main_arg3)) (m ((c.tc : Thread nD τ).loc main_arg4))
      ∧ r.2.mem ((c.tc : Thread nD τ).loc main_v190) = Read.val_main_v190 (F := Ideal) (m ((c.tc : Thread nD τ).loc main_arg0))
        (m ((c.tc : Thread nD τ).loc main_arg1)) (m ((c.tc : Thread nD τ).loc main_arg2))
        (m ((c.tc : Thread nD τ).loc main_arg3)) (m ((c.tc : Thread nD τ).loc main_arg4))
      ∧ r.2.mem ((c.tc : Thread nD τ).loc main_v192) = Read.val_main_v192 (F := Ideal) (m ((c.tc : Thread nD τ).loc main_arg0))
        (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono
    (fun _ h c => ⟨(h c).1.trans (Read.val_main_v188_eq (launchContents m c)),
      (h c).2.1.trans (Read.val_main_v190_eq (launchContents m c)),
      (h c).2.2.1.trans (Read.val_main_v192_eq (launchContents m c)), (h c).2.2.2⟩)
    (Value.run (F := Ideal) m ρ)

end

/-- On finite arguments the kernel's three results are the reference's three gradients. -/
theorem algebraic : Cert.algebraic_KernelIdeal_ReferenceIdeal_pre_finite := by
  intro m ρ m' ρ' hpre hag
  refine ⟨fun c => Cert.KernelIdeal.Value.G10 m c, fun c => Cert.KernelIdeal.Value.G11 m c,
    fun c => Cert.KernelIdeal.Value.G12 m c, Cert.KernelIdeal.Value.run m ρ,
    (θ_run Cert.ReferenceIdeal.defs _ _).mono (fun r h c => ?_) (run_reference m' ρ')⟩
  obtain ⟨e0, e1, e2, e3, e4⟩ := hag c
  obtain ⟨h0, h1, h2, hr⟩ := h c
  have A := args_real m hpre c
  rw [e0, e1, e2, e3, e4] at h0 h1
  rw [e0, e1, e3] at h2
  exact ⟨h0.trans (Cert.KernelIdeal.Results.G10_eq A).symm, h1.trans (Cert.KernelIdeal.Results.G11_eq A).symm,
    h2.trans (Cert.KernelIdeal.Results.G12_eq A).symm, hr⟩

/-- Every claim of the certificate, under the side conditions the programs state. -/
theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts,
    Cert.Reference4Ideal.Gen.facts, Cert.Kernel5.Gen.facts, Cert.Kernel5Ideal.Gen.facts,
    Cert.Reference5Ideal.Gen.facts, Cert.Kernel6.Gen.facts, Cert.Kernel6Ideal.Gen.facts,
    Cert.Reference6Ideal.Gen.facts, Cert.Kernel7.Gen.facts, Cert.Kernel7Ideal.Gen.facts,
    Cert.Reference7Ideal.Gen.facts, Cert.Kernel8.Gen.facts, Cert.Kernel8Ideal.Gen.facts,
    Cert.Reference8Ideal.Gen.facts, Cert.Kernel9.Gen.facts, Cert.Kernel9Ideal.Gen.facts,
    Cert.Reference9Ideal.Gen.facts, Cert.Kernel10.Gen.facts, Cert.Kernel10Ideal.Gen.facts,
    Cert.Reference10Ideal.Gen.facts, Cert.Kernel11.Gen.facts, Cert.Kernel11Ideal.Gen.facts,
    Cert.Reference11Ideal.Gen.facts, Cert.Kernel12.Gen.facts, Cert.Kernel12Ideal.Gen.facts,
    Cert.Reference12Ideal.Gen.facts, Cert.Kernel13.Gen.facts, Cert.Kernel13Ideal.Gen.facts,
    Cert.Reference13Ideal.Gen.facts, Cert.Kernel14.Gen.facts, Cert.Kernel14Ideal.Gen.facts,
    Cert.Reference14Ideal.Gen.facts, Cert.Kernel15.Gen.facts, Cert.Kernel15Ideal.Gen.facts,
    Cert.Reference15Ideal.Gen.facts, Cert.Kernel16.Gen.facts, Cert.Kernel16Ideal.Gen.facts,
    Cert.Reference16Ideal.Gen.facts, Cert.Kernel17.Gen.facts, Cert.Kernel17Ideal.Gen.facts,
    Cert.Reference17Ideal.Gen.facts, Cert.Kernel18.Gen.facts, Cert.Kernel18Ideal.Gen.facts,
    Cert.Reference18Ideal.Gen.facts, Cert.Kernel19.Gen.facts, Cert.Kernel19Ideal.Gen.facts,
    Cert.Reference19Ideal.Gen.facts, Cert.Kernel20.Gen.facts, Cert.Kernel20Ideal.Gen.facts,
    Cert.Reference20Ideal.Gen.facts, Cert.Kernel21.Gen.facts, Cert.Kernel21Ideal.Gen.facts,
    Cert.Reference21Ideal.Gen.facts, Cert.Kernel22.Gen.facts, Cert.Kernel22Ideal.Gen.facts,
    Cert.Reference22Ideal.Gen.facts, Cert.Kernel23.Gen.facts, Cert.Kernel23Ideal.Gen.facts,
    Cert.Reference23Ideal.Gen.facts, Cert.Kernel24.Gen.facts, Cert.Kernel24Ideal.Gen.facts,
    Cert.Reference24Ideal.Gen.facts, Cert.Kernel25.Gen.facts, Cert.Kernel25Ideal.Gen.facts,
    Cert.Reference25Ideal.Gen.facts, Cert.Kernel26.Gen.facts, Cert.Kernel26Ideal.Gen.facts,
    Cert.Reference26Ideal.Gen.facts, Cert.Kernel27.Gen.facts, Cert.Kernel27Ideal.Gen.facts,
    Cert.Reference27Ideal.Gen.facts, Cert.Kernel28.Gen.facts, Cert.Kernel28Ideal.Gen.facts,
    Cert.Reference28Ideal.Gen.facts, Cert.Kernel29.Gen.facts, Cert.Kernel29Ideal.Gen.facts,
    Cert.Reference29Ideal.Gen.facts, Cert.Kernel30.Gen.facts, Cert.Kernel30Ideal.Gen.facts,
    Cert.Reference30Ideal.Gen.facts, Cert.Pre_finite.Gen.facts, Cert.Pre_finite_rows.Gen.facts, Cert.Pre_finite_ends.Gen.facts,
    fun m ρ _ => Cert.Kernel.Gen.frame m ρ,
    fun m ρ _ => Cert.KernelIdeal.Gen.frame m ρ,
    fun m ρ _ => Cert.KernelIdeal.Gen.frame m ρ,
    frame_reference, fun m ρ _ => frame_reference m ρ trivial,
    fun m ρ _ => Cert.Kernel2.Gen.frame m ρ, fun m ρ _ => Cert.Kernel2Ideal.Gen.frame m ρ, Cert.Reference2Ideal.Prod.frame,
    fun m ρ _ => Cert.Kernel3.Gen.frame m ρ, fun m ρ _ => Cert.Kernel3Ideal.Gen.frame m ρ, Cert.Reference3Ideal.Prod.frame,
    fun m ρ _ => Cert.Kernel4.Gen.frame m ρ, fun m ρ _ => Cert.Kernel4Ideal.Gen.frame m ρ, Cert.Reference4Ideal.Prod.frame,
    fun m ρ _ => Cert.Kernel5.Gen.frame m ρ, fun m ρ _ => Cert.Kernel5Ideal.Gen.frame m ρ, Cert.Reference5Ideal.Prod.frame,
    fun m ρ _ => Cert.Kernel6.Gen.frame m ρ, fun m ρ _ => Cert.Kernel6Ideal.Gen.frame m ρ, Cert.Reference6Ideal.Prod.frame,
    fun m ρ _ => Cert.Kernel7.Gen.frame m ρ, fun m ρ _ => Cert.Kernel7Ideal.Gen.frame m ρ, Cert.Reference7Ideal.Prod.frame,
    fun m ρ _ => Cert.Kernel8.Gen.frame m ρ, fun m ρ _ => Cert.Kernel8Ideal.Gen.frame m ρ, Cert.Reference8Ideal.Prod.frame,
    fun m ρ _ => Cert.Kernel9.Gen.frame m ρ, fun m ρ _ => Cert.Kernel9Ideal.Gen.frame m ρ, Cert.Reference9Ideal.Prod.frame,
    fun m ρ _ => Cert.Kernel10.Gen.frame m ρ, fun m ρ _ => Cert.Kernel10Ideal.Gen.frame m ρ, Cert.Reference10Ideal.Prod.frame,
    fun m ρ _ => Cert.Kernel11.Gen.frame m ρ, fun m ρ _ => Cert.Kernel11Ideal.Gen.frame m ρ, Cert.Reference11Ideal.Prod.frame,
    fun m ρ _ => Cert.Kernel12.Gen.frame m ρ, fun m ρ _ => Cert.Kernel12Ideal.Gen.frame m ρ, Cert.Reference12Ideal.Prod.frame,
    fun m ρ _ => Cert.Kernel13.Gen.frame m ρ, fun m ρ _ => Cert.Kernel13Ideal.Gen.frame m ρ, Cert.Reference13Ideal.Prod.frame,
    fun m ρ _ => Cert.Kernel14.Gen.frame m ρ, fun m ρ _ => Cert.Kernel14Ideal.Gen.frame m ρ, Cert.Reference14Ideal.Prod.frame,
    fun m ρ _ => Cert.Kernel15.Gen.frame m ρ, fun m ρ _ => Cert.Kernel15Ideal.Gen.frame m ρ, Cert.Reference15Ideal.Prod.frame,
    fun m ρ _ => Cert.Kernel16.Gen.frame m ρ (Cert.Kernel16.Prod.ok m), fun m ρ _ => Cert.Kernel16Ideal.Gen.frame m ρ (Cert.Kernel16Ideal.Prod.ok m), Cert.Reference16Ideal.Prod.frame,
    fun m ρ _ => Cert.Kernel17.Gen.frame m ρ (Cert.Kernel17.Prod.ok m), fun m ρ _ => Cert.Kernel17Ideal.Gen.frame m ρ (Cert.Kernel17Ideal.Prod.ok m), Cert.Reference17Ideal.Prod.frame,
    fun m ρ _ => Cert.Kernel18.Gen.frame m ρ (Cert.Kernel18.Prod.ok m), fun m ρ _ => Cert.Kernel18Ideal.Gen.frame m ρ (Cert.Kernel18Ideal.Prod.ok m), Cert.Reference18Ideal.Prod.frame,
    fun m ρ _ => Cert.Kernel19.Gen.frame m ρ (Cert.Kernel19.Prod.ok m), fun m ρ _ => Cert.Kernel19Ideal.Gen.frame m ρ (Cert.Kernel19Ideal.Prod.ok m), Cert.Reference19Ideal.Prod.frame,
    fun m ρ _ => Cert.Kernel20.Gen.frame m ρ (Cert.Kernel20.Prod.ok m), fun m ρ _ => Cert.Kernel20Ideal.Gen.frame m ρ (Cert.Kernel20Ideal.Prod.ok m), Cert.Reference20Ideal.Prod.frame,
    fun m ρ _ => Cert.Kernel21.Gen.frame m ρ (Cert.Kernel21.Prod.ok m), fun m ρ _ => Cert.Kernel21Ideal.Gen.frame m ρ (Cert.Kernel21Ideal.Prod.ok m), Cert.Reference21Ideal.Prod.frame,
    fun m ρ _ => Cert.Kernel22.Gen.frame m ρ, fun m ρ _ => Cert.Kernel22Ideal.Gen.frame m ρ, Cert.Reference22Ideal.Prod.frame,
    fun m ρ _ => Cert.Kernel23.Gen.frame m ρ, fun m ρ _ => Cert.Kernel23Ideal.Gen.frame m ρ, Cert.Reference23Ideal.Prod.frame,
    fun m ρ _ => Cert.Kernel24.Gen.frame m ρ, fun m ρ _ => Cert.Kernel24Ideal.Gen.frame m ρ, Cert.Reference24Ideal.Prod.frame,
    fun m ρ _ => Cert.Kernel25.Gen.frame m ρ, fun m ρ _ => Cert.Kernel25Ideal.Gen.frame m ρ,
    fun m ρ _ => Cert.Kernel25Ideal.Gen.frame m ρ,
    Cert.Reference25Ideal.Prod.frame, fun m ρ _ => Cert.Reference25Ideal.Prod.frame m ρ trivial,
    fun m ρ _ => Cert.Kernel26.Gen.frame m ρ, fun m ρ _ => Cert.Kernel26Ideal.Gen.frame m ρ,
    fun m ρ _ => Cert.Kernel26Ideal.Gen.frame m ρ,
    Cert.Reference26Ideal.Prod.frame, fun m ρ _ => Cert.Reference26Ideal.Prod.frame m ρ trivial,
    fun m ρ _ => Cert.Kernel27.Gen.frame m ρ, fun m ρ _ => Cert.Kernel27Ideal.Gen.frame m ρ, Cert.Reference27Ideal.Prod.frame,
    fun m ρ _ => Cert.Kernel28.Gen.frame m ρ, fun m ρ _ => Cert.Kernel28Ideal.Gen.frame m ρ, Cert.Reference28Ideal.Prod.frame,
    fun m ρ _ => Cert.Kernel29.Gen.frame m ρ, fun m ρ _ => Cert.Kernel29Ideal.Gen.frame m ρ, Cert.Reference29Ideal.Prod.frame,
    fun m ρ _ => Cert.Kernel30.Gen.frame m ρ, fun m ρ _ => Cert.Kernel30Ideal.Gen.frame m ρ, Cert.Reference30Ideal.Prod.frame,
    trivial, algebraic,
    trivial, Cert.Reference2Ideal.Prod.algebraic,
    trivial, Cert.Reference3Ideal.Prod.algebraic,
    trivial, Cert.Reference4Ideal.Prod.algebraic,
    trivial, Cert.Reference5Ideal.Prod.algebraic,
    trivial, Cert.Reference6Ideal.Prod.algebraic,
    trivial, Cert.Reference7Ideal.Prod.algebraic,
    trivial, Cert.Reference8Ideal.Prod.algebraic,
    trivial, Cert.Reference9Ideal.Prod.algebraic,
    trivial, Cert.Reference10Ideal.Prod.algebraic,
    trivial, Cert.Reference11Ideal.Prod.algebraic,
    trivial, Cert.Reference12Ideal.Prod.algebraic,
    trivial, Cert.Reference13Ideal.Prod.algebraic,
    trivial, Cert.Reference14Ideal.Prod.algebraic,
    trivial, Cert.Reference15Ideal.Prod.algebraic,
    trivial, Cert.Reference16Ideal.Prod.algebraic,
    trivial, Cert.Reference17Ideal.Prod.algebraic,
    trivial, Cert.Reference18Ideal.Prod.algebraic,
    trivial, Cert.Reference19Ideal.Prod.algebraic,
    trivial, Cert.Reference20Ideal.Prod.algebraic,
    trivial, Cert.Reference21Ideal.Prod.algebraic,
    trivial, Cert.Reference22Ideal.Prod.algebraic,
    trivial, Cert.Reference23Ideal.Prod.algebraic,
    trivial, Cert.Reference24Ideal.Prod.algebraic,
    trivial, Cert.Reference25Ideal.Prod.algebraic,
    trivial, Cert.Reference26Ideal.Prod.algebraic,
    trivial, Cert.Reference27Ideal.Prod.algebraic,
    trivial, Cert.Reference28Ideal.Prod.algebraic,
    trivial, Cert.Reference29Ideal.Prod.algebraic,
    trivial, Cert.Reference30Ideal.Prod.algebraic⟩

end Cert.Proof

end
